-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_GradWin (m : (ℓ : Loc Cert.GradWin.nD Cert.GradWin.τ Cert.GradWin.sig) → Buf (Elt Bits) ℓ) : Prop :=
  True

def Pre_GradWinIdeal (m : (ℓ : Loc Cert.GradWinIdeal.nD Cert.GradWinIdeal.τ Cert.GradWinIdeal.sig) → Buf (Elt Ideal) ℓ) : Prop :=
  True

def Pre_GradWinRefIdeal (m : (ℓ : Loc Cert.GradWinRefIdeal.nD Cert.GradWinRefIdeal.τ Cert.GradWinRefIdeal.sig) → Buf (Elt Ideal) ℓ) : Prop :=
  True

def Pre_GradWout (m : (ℓ : Loc Cert.GradWout.nD Cert.GradWout.τ Cert.GradWout.sig) → Buf (Elt Bits) ℓ) : Prop :=
  True

def Pre_GradWoutIdeal (m : (ℓ : Loc Cert.GradWoutIdeal.nD Cert.GradWoutIdeal.τ Cert.GradWoutIdeal.sig) → Buf (Elt Ideal) ℓ) : Prop :=
  True

def Pre_GradWoutRefIdeal (m : (ℓ : Loc Cert.GradWoutRefIdeal.nD Cert.GradWoutRefIdeal.τ Cert.GradWoutRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_UpIn [hPre_on_mesh_in : Cert.Pre_on_mesh_in.Facts] (m : (ℓ : Loc Cert.UpIn.nD Cert.UpIn.τ Cert.UpIn.sig) → Buf (Elt Bits) ℓ) : Prop :=
  ∀ c : Dev Cert.UpIn.nD,
    (Cert.Pre_on_mesh_in.fn (F := Bits) (m ((c.tc : Thread Cert.UpIn.nD Cert.UpIn.τ).loc Cert.UpIn.main_arg0)) (m ((c.tc : Thread Cert.UpIn.nD Cert.UpIn.τ).loc Cert.UpIn.main_arg1)) (m ((c.tc : Thread Cert.UpIn.nD Cert.UpIn.τ).loc Cert.UpIn.main_arg2)) (m ((c.tc : Thread Cert.UpIn.nD Cert.UpIn.τ).loc Cert.UpIn.main_arg3)) (m ((c.tc : Thread Cert.UpIn.nD Cert.UpIn.τ).loc Cert.UpIn.main_arg4)) (m ((c.tc : Thread Cert.UpIn.nD Cert.UpIn.τ).loc Cert.UpIn.main_arg5)) (m ((c.tc : Thread Cert.UpIn.nD Cert.UpIn.τ).loc Cert.UpIn.main_arg6)) (m ((c.tc : Thread Cert.UpIn.nD Cert.UpIn.τ).loc Cert.UpIn.main_arg7))) = (fun _ => 1#1)

def Pre_UpInIdeal [hPre_on_mesh_in : Cert.Pre_on_mesh_in.Facts] (m : (ℓ : Loc Cert.UpInIdeal.nD Cert.UpInIdeal.τ Cert.UpInIdeal.sig) → Buf (Elt Ideal) ℓ) : Prop :=
  ∀ c : Dev Cert.UpInIdeal.nD,
    (Cert.Pre_on_mesh_in.fn (F := Ideal) (m ((c.tc : Thread Cert.UpInIdeal.nD Cert.UpInIdeal.τ).loc Cert.UpInIdeal.main_arg0)) (m ((c.tc : Thread Cert.UpInIdeal.nD Cert.UpInIdeal.τ).loc Cert.UpInIdeal.main_arg1)) (m ((c.tc : Thread Cert.UpInIdeal.nD Cert.UpInIdeal.τ).loc Cert.UpInIdeal.main_arg2)) (m ((c.tc : Thread Cert.UpInIdeal.nD Cert.UpInIdeal.τ).loc Cert.UpInIdeal.main_arg3)) (m ((c.tc : Thread Cert.UpInIdeal.nD Cert.UpInIdeal.τ).loc Cert.UpInIdeal.main_arg4)) (m ((c.tc : Thread Cert.UpInIdeal.nD Cert.UpInIdeal.τ).loc Cert.UpInIdeal.main_arg5)) (m ((c.tc : Thread Cert.UpInIdeal.nD Cert.UpInIdeal.τ).loc Cert.UpInIdeal.main_arg6)) (m ((c.tc : Thread Cert.UpInIdeal.nD Cert.UpInIdeal.τ).loc Cert.UpInIdeal.main_arg7))) = (fun _ => 1#1)

def Pre_UpInRefIdeal (m : (ℓ : Loc Cert.UpInRefIdeal.nD Cert.UpInRefIdeal.τ Cert.UpInRefIdeal.sig) → Buf (Elt Ideal) ℓ) : Prop :=
  True

def Pre_UpInRefIdeal_on_mesh_in [hPre_on_mesh_in : Cert.Pre_on_mesh_in.Facts] (m : (ℓ : Loc Cert.UpInRefIdeal.nD Cert.UpInRefIdeal.τ Cert.UpInRefIdeal.sig) → Buf (Elt Ideal) ℓ) : Prop :=
  ∀ c : Dev Cert.UpInRefIdeal.nD,
    (Cert.Pre_on_mesh_in.fn (F := Ideal) (m ((c.tc : Thread Cert.UpInRefIdeal.nD Cert.UpInRefIdeal.τ).loc Cert.UpInRefIdeal.main_arg0)) (m ((c.tc : Thread Cert.UpInRefIdeal.nD Cert.UpInRefIdeal.τ).loc Cert.UpInRefIdeal.main_arg1)) (m ((c.tc : Thread Cert.UpInRefIdeal.nD Cert.UpInRefIdeal.τ).loc Cert.UpInRefIdeal.main_arg2)) (m ((c.tc : Thread Cert.UpInRefIdeal.nD Cert.UpInRefIdeal.τ).loc Cert.UpInRefIdeal.main_arg3)) (m ((c.tc : Thread Cert.UpInRefIdeal.nD Cert.UpInRefIdeal.τ).loc Cert.UpInRefIdeal.main_arg4)) (m ((c.tc : Thread Cert.UpInRefIdeal.nD Cert.UpInRefIdeal.τ).loc Cert.UpInRefIdeal.main_arg5)) (m ((c.tc : Thread Cert.UpInRefIdeal.nD Cert.UpInRefIdeal.τ).loc Cert.UpInRefIdeal.main_arg6)) (m ((c.tc : Thread Cert.UpInRefIdeal.nD Cert.UpInRefIdeal.τ).loc Cert.UpInRefIdeal.main_arg7))) = (fun _ => 1#1)

def Pre_UpOut [hPre_on_mesh_out : Cert.Pre_on_mesh_out.Facts] (m : (ℓ : Loc Cert.UpOut.nD Cert.UpOut.τ Cert.UpOut.sig) → Buf (Elt Bits) ℓ) : Prop :=
  ∀ c : Dev Cert.UpOut.nD,
    (Cert.Pre_on_mesh_out.fn (F := Bits) (m ((c.tc : Thread Cert.UpOut.nD Cert.UpOut.τ).loc Cert.UpOut.main_arg0)) (m ((c.tc : Thread Cert.UpOut.nD Cert.UpOut.τ).loc Cert.UpOut.main_arg1)) (m ((c.tc : Thread Cert.UpOut.nD Cert.UpOut.τ).loc Cert.UpOut.main_arg2)) (m ((c.tc : Thread Cert.UpOut.nD Cert.UpOut.τ).loc Cert.UpOut.main_arg3)) (m ((c.tc : Thread Cert.UpOut.nD Cert.UpOut.τ).loc Cert.UpOut.main_arg4)) (m ((c.tc : Thread Cert.UpOut.nD Cert.UpOut.τ).loc Cert.UpOut.main_arg5)) (m ((c.tc : Thread Cert.UpOut.nD Cert.UpOut.τ).loc Cert.UpOut.main_arg6)) (m ((c.tc : Thread Cert.UpOut.nD Cert.UpOut.τ).loc Cert.UpOut.main_arg7))) = (fun _ => 1#1)

def Pre_UpOutIdeal [hPre_on_mesh_out : Cert.Pre_on_mesh_out.Facts] (m : (ℓ : Loc Cert.UpOutIdeal.nD Cert.UpOutIdeal.τ Cert.UpOutIdeal.sig) → Buf (Elt Ideal) ℓ) : Prop :=
  ∀ c : Dev Cert.UpOutIdeal.nD,
    (Cert.Pre_on_mesh_out.fn (F := Ideal) (m ((c.tc : Thread Cert.UpOutIdeal.nD Cert.UpOutIdeal.τ).loc Cert.UpOutIdeal.main_arg0)) (m ((c.tc : Thread Cert.UpOutIdeal.nD Cert.UpOutIdeal.τ).loc Cert.UpOutIdeal.main_arg1)) (m ((c.tc : Thread Cert.UpOutIdeal.nD Cert.UpOutIdeal.τ).loc Cert.UpOutIdeal.main_arg2)) (m ((c.tc : Thread Cert.UpOutIdeal.nD Cert.UpOutIdeal.τ).loc Cert.UpOutIdeal.main_arg3)) (m ((c.tc : Thread Cert.UpOutIdeal.nD Cert.UpOutIdeal.τ).loc Cert.UpOutIdeal.main_arg4)) (m ((c.tc : Thread Cert.UpOutIdeal.nD Cert.UpOutIdeal.τ).loc Cert.UpOutIdeal.main_arg5)) (m ((c.tc : Thread Cert.UpOutIdeal.nD Cert.UpOutIdeal.τ).loc Cert.UpOutIdeal.main_arg6)) (m ((c.tc : Thread Cert.UpOutIdeal.nD Cert.UpOutIdeal.τ).loc Cert.UpOutIdeal.main_arg7))) = (fun _ => 1#1)

def Pre_UpOutRefIdeal (m : (ℓ : Loc Cert.UpOutRefIdeal.nD Cert.UpOutRefIdeal.τ Cert.UpOutRefIdeal.sig) → Buf (Elt Ideal) ℓ) : Prop :=
  True

def Pre_UpOutRefIdeal_on_mesh_out [hPre_on_mesh_out : Cert.Pre_on_mesh_out.Facts] (m : (ℓ : Loc Cert.UpOutRefIdeal.nD Cert.UpOutRefIdeal.τ Cert.UpOutRefIdeal.sig) → Buf (Elt Ideal) ℓ) : Prop :=
  ∀ c : Dev Cert.UpOutRefIdeal.nD,
    (Cert.Pre_on_mesh_out.fn (F := Ideal) (m ((c.tc : Thread Cert.UpOutRefIdeal.nD Cert.UpOutRefIdeal.τ).loc Cert.UpOutRefIdeal.main_arg0)) (m ((c.tc : Thread Cert.UpOutRefIdeal.nD Cert.UpOutRefIdeal.τ).loc Cert.UpOutRefIdeal.main_arg1)) (m ((c.tc : Thread Cert.UpOutRefIdeal.nD Cert.UpOutRefIdeal.τ).loc Cert.UpOutRefIdeal.main_arg2)) (m ((c.tc : Thread Cert.UpOutRefIdeal.nD Cert.UpOutRefIdeal.τ).loc Cert.UpOutRefIdeal.main_arg3)) (m ((c.tc : Thread Cert.UpOutRefIdeal.nD Cert.UpOutRefIdeal.τ).loc Cert.UpOutRefIdeal.main_arg4)) (m ((c.tc : Thread Cert.UpOutRefIdeal.nD Cert.UpOutRefIdeal.τ).loc Cert.UpOutRefIdeal.main_arg5)) (m ((c.tc : Thread Cert.UpOutRefIdeal.nD Cert.UpOutRefIdeal.τ).loc Cert.UpOutRefIdeal.main_arg6)) (m ((c.tc : Thread Cert.UpOutRefIdeal.nD Cert.UpOutRefIdeal.τ).loc Cert.UpOutRefIdeal.main_arg7))) = (fun _ => 1#1)

def Pre_UpSquare [hPre_on_mesh_square : Cert.Pre_on_mesh_square.Facts] (m : (ℓ : Loc Cert.UpSquare.nD Cert.UpSquare.τ Cert.UpSquare.sig) → Buf (Elt Bits) ℓ) : Prop :=
  ∀ c : Dev Cert.UpSquare.nD,
    (Cert.Pre_on_mesh_square.fn (F := Bits) (m ((c.tc : Thread Cert.UpSquare.nD Cert.UpSquare.τ).loc Cert.UpSquare.main_arg0)) (m ((c.tc : Thread Cert.UpSquare.nD Cert.UpSquare.τ).loc Cert.UpSquare.main_arg1)) (m ((c.tc : Thread Cert.UpSquare.nD Cert.UpSquare.τ).loc Cert.UpSquare.main_arg2)) (m ((c.tc : Thread Cert.UpSquare.nD Cert.UpSquare.τ).loc Cert.UpSquare.main_arg3)) (m ((c.tc : Thread Cert.UpSquare.nD Cert.UpSquare.τ).loc Cert.UpSquare.main_arg4)) (m ((c.tc : Thread Cert.UpSquare.nD Cert.UpSquare.τ).loc Cert.UpSquare.main_arg5)) (m ((c.tc : Thread Cert.UpSquare.nD Cert.UpSquare.τ).loc Cert.UpSquare.main_arg6)) (m ((c.tc : Thread Cert.UpSquare.nD Cert.UpSquare.τ).loc Cert.UpSquare.main_arg7))) = (fun _ => 1#1)

def Pre_UpSquareIdeal [hPre_on_mesh_square : Cert.Pre_on_mesh_square.Facts] (m : (ℓ : Loc Cert.UpSquareIdeal.nD Cert.UpSquareIdeal.τ Cert.UpSquareIdeal.sig) → Buf (Elt Ideal) ℓ) : Prop :=
  ∀ c : Dev Cert.UpSquareIdeal.nD,
    (Cert.Pre_on_mesh_square.fn (F := Ideal) (m ((c.tc : Thread Cert.UpSquareIdeal.nD Cert.UpSquareIdeal.τ).loc Cert.UpSquareIdeal.main_arg0)) (m ((c.tc : Thread Cert.UpSquareIdeal.nD Cert.UpSquareIdeal.τ).loc Cert.UpSquareIdeal.main_arg1)) (m ((c.tc : Thread Cert.UpSquareIdeal.nD Cert.UpSquareIdeal.τ).loc Cert.UpSquareIdeal.main_arg2)) (m ((c.tc : Thread Cert.UpSquareIdeal.nD Cert.UpSquareIdeal.τ).loc Cert.UpSquareIdeal.main_arg3)) (m ((c.tc : Thread Cert.UpSquareIdeal.nD Cert.UpSquareIdeal.τ).loc Cert.UpSquareIdeal.main_arg4)) (m ((c.tc : Thread Cert.UpSquareIdeal.nD Cert.UpSquareIdeal.τ).loc Cert.UpSquareIdeal.main_arg5)) (m ((c.tc : Thread Cert.UpSquareIdeal.nD Cert.UpSquareIdeal.τ).loc Cert.UpSquareIdeal.main_arg6)) (m ((c.tc : Thread Cert.UpSquareIdeal.nD Cert.UpSquareIdeal.τ).loc Cert.UpSquareIdeal.main_arg7))) = (fun _ => 1#1)

def Pre_UpSquareRefIdeal (m : (ℓ : Loc Cert.UpSquareRefIdeal.nD Cert.UpSquareRefIdeal.τ Cert.UpSquareRefIdeal.sig) → Buf (Elt Ideal) ℓ) : Prop :=
  True

def Pre_UpSquareRefIdeal_on_mesh_square [hPre_on_mesh_square : Cert.Pre_on_mesh_square.Facts] (m : (ℓ : Loc Cert.UpSquareRefIdeal.nD Cert.UpSquareRefIdeal.τ Cert.UpSquareRefIdeal.sig) → Buf (Elt Ideal) ℓ) : Prop :=
  ∀ c : Dev Cert.UpSquareRefIdeal.nD,
    (Cert.Pre_on_mesh_square.fn (F := Ideal) (m ((c.tc : Thread Cert.UpSquareRefIdeal.nD Cert.UpSquareRefIdeal.τ).loc Cert.UpSquareRefIdeal.main_arg0)) (m ((c.tc : Thread Cert.UpSquareRefIdeal.nD Cert.UpSquareRefIdeal.τ).loc Cert.UpSquareRefIdeal.main_arg1)) (m ((c.tc : Thread Cert.UpSquareRefIdeal.nD Cert.UpSquareRefIdeal.τ).loc Cert.UpSquareRefIdeal.main_arg2)) (m ((c.tc : Thread Cert.UpSquareRefIdeal.nD Cert.UpSquareRefIdeal.τ).loc Cert.UpSquareRefIdeal.main_arg3)) (m ((c.tc : Thread Cert.UpSquareRefIdeal.nD Cert.UpSquareRefIdeal.τ).loc Cert.UpSquareRefIdeal.main_arg4)) (m ((c.tc : Thread Cert.UpSquareRefIdeal.nD Cert.UpSquareRefIdeal.τ).loc Cert.UpSquareRefIdeal.main_arg5)) (m ((c.tc : Thread Cert.UpSquareRefIdeal.nD Cert.UpSquareRefIdeal.τ).loc Cert.UpSquareRefIdeal.main_arg6)) (m ((c.tc : Thread Cert.UpSquareRefIdeal.nD Cert.UpSquareRefIdeal.τ).loc Cert.UpSquareRefIdeal.main_arg7))) = (fun _ => 1#1)

def Pre_UpCol [hPre_on_mesh_col : Cert.Pre_on_mesh_col.Facts] (m : (ℓ : Loc Cert.UpCol.nD Cert.UpCol.τ Cert.UpCol.sig) → Buf (Elt Bits) ℓ) : Prop :=
  ∀ c : Dev Cert.UpCol.nD,
    (Cert.Pre_on_mesh_col.fn (F := Bits) (m ((c.tc : Thread Cert.UpCol.nD Cert.UpCol.τ).loc Cert.UpCol.main_arg0)) (m ((c.tc : Thread Cert.UpCol.nD Cert.UpCol.τ).loc Cert.UpCol.main_arg1)) (m ((c.tc : Thread Cert.UpCol.nD Cert.UpCol.τ).loc Cert.UpCol.main_arg2)) (m ((c.tc : Thread Cert.UpCol.nD Cert.UpCol.τ).loc Cert.UpCol.main_arg3)) (m ((c.tc : Thread Cert.UpCol.nD Cert.UpCol.τ).loc Cert.UpCol.main_arg4)) (m ((c.tc : Thread Cert.UpCol.nD Cert.UpCol.τ).loc Cert.UpCol.main_arg5)) (m ((c.tc : Thread Cert.UpCol.nD Cert.UpCol.τ).loc Cert.UpCol.main_arg6)) (m ((c.tc : Thread Cert.UpCol.nD Cert.UpCol.τ).loc Cert.UpCol.main_arg7))) = (fun _ => 1#1)

def Pre_UpColIdeal [hPre_on_mesh_col : Cert.Pre_on_mesh_col.Facts] (m : (ℓ : Loc Cert.UpColIdeal.nD Cert.UpColIdeal.τ Cert.UpColIdeal.sig) → Buf (Elt Ideal) ℓ) : Prop :=
  ∀ c : Dev Cert.UpColIdeal.nD,
    (Cert.Pre_on_mesh_col.fn (F := Ideal) (m ((c.tc : Thread Cert.UpColIdeal.nD Cert.UpColIdeal.τ).loc Cert.UpColIdeal.main_arg0)) (m ((c.tc : Thread Cert.UpColIdeal.nD Cert.UpColIdeal.τ).loc Cert.UpColIdeal.main_arg1)) (m ((c.tc : Thread Cert.UpColIdeal.nD Cert.UpColIdeal.τ).loc Cert.UpColIdeal.main_arg2)) (m ((c.tc : Thread Cert.UpColIdeal.nD Cert.UpColIdeal.τ).loc Cert.UpColIdeal.main_arg3)) (m ((c.tc : Thread Cert.UpColIdeal.nD Cert.UpColIdeal.τ).loc Cert.UpColIdeal.main_arg4)) (m ((c.tc : Thread Cert.UpColIdeal.nD Cert.UpColIdeal.τ).loc Cert.UpColIdeal.main_arg5)) (m ((c.tc : Thread Cert.UpColIdeal.nD Cert.UpColIdeal.τ).loc Cert.UpColIdeal.main_arg6)) (m ((c.tc : Thread Cert.UpColIdeal.nD Cert.UpColIdeal.τ).loc Cert.UpColIdeal.main_arg7))) = (fun _ => 1#1)

def Pre_UpColRefIdeal (m : (ℓ : Loc Cert.UpColRefIdeal.nD Cert.UpColRefIdeal.τ Cert.UpColRefIdeal.sig) → Buf (Elt Ideal) ℓ) : Prop :=
  True

def Pre_UpColRefIdeal_on_mesh_col [hPre_on_mesh_col : Cert.Pre_on_mesh_col.Facts] (m : (ℓ : Loc Cert.UpColRefIdeal.nD Cert.UpColRefIdeal.τ Cert.UpColRefIdeal.sig) → Buf (Elt Ideal) ℓ) : Prop :=
  ∀ c : Dev Cert.UpColRefIdeal.nD,
    (Cert.Pre_on_mesh_col.fn (F := Ideal) (m ((c.tc : Thread Cert.UpColRefIdeal.nD Cert.UpColRefIdeal.τ).loc Cert.UpColRefIdeal.main_arg0)) (m ((c.tc : Thread Cert.UpColRefIdeal.nD Cert.UpColRefIdeal.τ).loc Cert.UpColRefIdeal.main_arg1)) (m ((c.tc : Thread Cert.UpColRefIdeal.nD Cert.UpColRefIdeal.τ).loc Cert.UpColRefIdeal.main_arg2)) (m ((c.tc : Thread Cert.UpColRefIdeal.nD Cert.UpColRefIdeal.τ).loc Cert.UpColRefIdeal.main_arg3)) (m ((c.tc : Thread Cert.UpColRefIdeal.nD Cert.UpColRefIdeal.τ).loc Cert.UpColRefIdeal.main_arg4)) (m ((c.tc : Thread Cert.UpColRefIdeal.nD Cert.UpColRefIdeal.τ).loc Cert.UpColRefIdeal.main_arg5)) (m ((c.tc : Thread Cert.UpColRefIdeal.nD Cert.UpColRefIdeal.τ).loc Cert.UpColRefIdeal.main_arg6)) (m ((c.tc : Thread Cert.UpColRefIdeal.nD Cert.UpColRefIdeal.τ).loc Cert.UpColRefIdeal.main_arg7))) = (fun _ => 1#1)

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_AdamwLastIdeal (m : (ℓ : Loc Cert.AdamwLastIdeal.nD Cert.AdamwLastIdeal.τ Cert.AdamwLastIdeal.sig) → Buf (Elt Ideal) ℓ) : Prop :=
  True

def Pre_AdamwLastRefIdeal (m : (ℓ : Loc Cert.AdamwLastRefIdeal.nD Cert.AdamwLastRefIdeal.τ Cert.AdamwLastRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_GradWin [hGradWin : Cert.GradWin.Facts] : Prop :=
  ∀ (m : (ℓ : Loc Cert.GradWin.nD Cert.GradWin.τ Cert.GradWin.sig) → Buf (Elt Bits) ℓ) (g : Dev Cert.GradWin.nD → PrngReg), Pre_GradWin m →
    θ_run (Cert.GradWin.defs (F := Bits)) (onTc (τ := Cert.GradWin.τ) (Cert.GradWin.main (F := Bits))) ⟨m, fun _ => 0, g⟩ (fun r => (∀ c : Dev Cert.GradWin.nD,
      r.2.mem ((c.tc : Thread Cert.GradWin.nD Cert.GradWin.τ).loc Cert.GradWin.main_arg0) = m ((c.tc : Thread Cert.GradWin.nD Cert.GradWin.τ).loc Cert.GradWin.main_arg0)
      ∧ r.2.mem ((c.tc : Thread Cert.GradWin.nD Cert.GradWin.τ).loc Cert.GradWin.main_arg1) = m ((c.tc : Thread Cert.GradWin.nD Cert.GradWin.τ).loc Cert.GradWin.main_arg1))
      ∧ r.2.sem = fun _ => 0)

def quiescent_GradWinIdeal [hGradWinIdeal : Cert.GradWinIdeal.Facts] : Prop :=
  ∀ (m : (ℓ : Loc Cert.GradWinIdeal.nD Cert.GradWinIdeal.τ Cert.GradWinIdeal.sig) → Buf (Elt Ideal) ℓ) (g : Dev Cert.GradWinIdeal.nD → PrngReg), Pre_GradWinIdeal m →
    θ_run (Cert.GradWinIdeal.defs (F := Ideal)) (onTc (τ := Cert.GradWinIdeal.τ) (Cert.GradWinIdeal.main (F := Ideal))) ⟨m, fun _ => 0, g⟩ (fun r => (∀ c : Dev Cert.GradWinIdeal.nD,
      r.2.mem ((c.tc : Thread Cert.GradWinIdeal.nD Cert.GradWinIdeal.τ).loc Cert.GradWinIdeal.main_arg0) = m ((c.tc : Thread Cert.GradWinIdeal.nD Cert.GradWinIdeal.τ).loc Cert.GradWinIdeal.main_arg0)
      ∧ r.2.mem ((c.tc : Thread Cert.GradWinIdeal.nD Cert.GradWinIdeal.τ).loc Cert.GradWinIdeal.main_arg1) = m ((c.tc : Thread Cert.GradWinIdeal.nD Cert.GradWinIdeal.τ).loc Cert.GradWinIdeal.main_arg1))
      ∧ r.2.sem = fun _ => 0)

def quiescent_GradWinRefIdeal [hGradWinRefIdeal : Cert.GradWinRefIdeal.Facts] : Prop :=
  ∀ (m : (ℓ : Loc Cert.GradWinRefIdeal.nD Cert.GradWinRefIdeal.τ Cert.GradWinRefIdeal.sig) → Buf (Elt Ideal) ℓ) (g : Dev Cert.GradWinRefIdeal.nD → PrngReg), Pre_GradWinRefIdeal m →
    θ_run (Cert.GradWinRefIdeal.defs (F := Ideal)) (onTc (τ := Cert.GradWinRefIdeal.τ) (Cert.GradWinRefIdeal.main (F := Ideal))) ⟨m, fun _ => 0, g⟩ (fun r => (∀ c : Dev Cert.GradWinRefIdeal.nD,
      r.2.mem ((c.tc : Thread Cert.GradWinRefIdeal.nD Cert.GradWinRefIdeal.τ).loc Cert.GradWinRefIdeal.main_arg0) = m ((c.tc : Thread Cert.GradWinRefIdeal.nD Cert.GradWinRefIdeal.τ).loc Cert.GradWinRefIdeal.main_arg0)
      ∧ r.2.mem ((c.tc : Thread Cert.GradWinRefIdeal.nD Cert.GradWinRefIdeal.τ).loc Cert.GradWinRefIdeal.main_arg1) = m ((c.tc : Thread Cert.GradWinRefIdeal.nD Cert.GradWinRefIdeal.τ).loc Cert.GradWinRefIdeal.main_arg1))
      ∧ r.2.sem = fun _ => 0)

def quiescent_GradWout [hGradWout : Cert.GradWout.Facts] : Prop :=
  ∀ (m : (ℓ : Loc Cert.GradWout.nD Cert.GradWout.τ Cert.GradWout.sig) → Buf (Elt Bits) ℓ) (g : Dev Cert.GradWout.nD → PrngReg), Pre_GradWout m →
    θ_run (Cert.GradWout.defs (F := Bits)) (onTc (τ := Cert.GradWout.τ) (Cert.GradWout.main (F := Bits))) ⟨m, fun _ => 0, g⟩ (fun r => (∀ c : Dev Cert.GradWout.nD,
      r.2.mem ((c.tc : Thread Cert.GradWout.nD Cert.GradWout.τ).loc Cert.GradWout.main_arg0) = m ((c.tc : Thread Cert.GradWout.nD Cert.GradWout.τ).loc Cert.GradWout.main_arg0)
      ∧ r.2.mem ((c.tc : Thread Cert.GradWout.nD Cert.GradWout.τ).loc Cert.GradWout.main_arg1) = m ((c.tc : Thread Cert.GradWout.nD Cert.GradWout.τ).loc Cert.GradWout.main_arg1))
      ∧ r.2.sem = fun _ => 0)

def quiescent_GradWoutIdeal [hGradWoutIdeal : Cert.GradWoutIdeal.Facts] : Prop :=
  ∀ (m : (ℓ : Loc Cert.GradWoutIdeal.nD Cert.GradWoutIdeal.τ Cert.GradWoutIdeal.sig) → Buf (Elt Ideal) ℓ) (g : Dev Cert.GradWoutIdeal.nD → PrngReg), Pre_GradWoutIdeal m →
    θ_run (Cert.GradWoutIdeal.defs (F := Ideal)) (onTc (τ := Cert.GradWoutIdeal.τ) (Cert.GradWoutIdeal.main (F := Ideal))) ⟨m, fun _ => 0, g⟩ (fun r => (∀ c : Dev Cert.GradWoutIdeal.nD,
      r.2.mem ((c.tc : Thread Cert.GradWoutIdeal.nD Cert.GradWoutIdeal.τ).loc Cert.GradWoutIdeal.main_arg0) = m ((c.tc : Thread Cert.GradWoutIdeal.nD Cert.GradWoutIdeal.τ).loc Cert.GradWoutIdeal.main_arg0)
      ∧ r.2.mem ((c.tc : Thread Cert.GradWoutIdeal.nD Cert.GradWoutIdeal.τ).loc Cert.GradWoutIdeal.main_arg1) = m ((c.tc : Thread Cert.GradWoutIdeal.nD Cert.GradWoutIdeal.τ).loc Cert.GradWoutIdeal.main_arg1))
      ∧ r.2.sem = fun _ => 0)

def quiescent_GradWoutRefIdeal [hGradWoutRefIdeal : Cert.GradWoutRefIdeal.Facts] : Prop :=
  ∀ (m : (ℓ : Loc Cert.GradWoutRefIdeal.nD Cert.GradWoutRefIdeal.τ Cert.GradWoutRefIdeal.sig) → Buf (Elt Ideal) ℓ) (g : Dev Cert.GradWoutRefIdeal.nD → PrngReg), Pre_GradWoutRefIdeal m →
    θ_run (Cert.GradWoutRefIdeal.defs (F := Ideal)) (onTc (τ := Cert.GradWoutRefIdeal.τ) (Cert.GradWoutRefIdeal.main (F := Ideal))) ⟨m, fun _ => 0, g⟩ (fun r => (∀ c : Dev Cert.GradWoutRefIdeal.nD,
      r.2.mem ((c.tc : Thread Cert.GradWoutRefIdeal.nD Cert.GradWoutRefIdeal.τ).loc Cert.GradWoutRefIdeal.main_arg0) = m ((c.tc : Thread Cert.GradWoutRefIdeal.nD Cert.GradWoutRefIdeal.τ).loc Cert.GradWoutRefIdeal.main_arg0)
      ∧ r.2.mem ((c.tc : Thread Cert.GradWoutRefIdeal.nD Cert.GradWoutRefIdeal.τ).loc Cert.GradWoutRefIdeal.main_arg1) = m ((c.tc : Thread Cert.GradWoutRefIdeal.nD Cert.GradWoutRefIdeal.τ).loc Cert.GradWoutRefIdeal.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_UpIn [hUpIn : Cert.UpIn.Facts] [hPre_on_mesh_in : Cert.Pre_on_mesh_in.Facts] : Prop :=
  ∀ (m : (ℓ : Loc Cert.UpIn.nD Cert.UpIn.τ Cert.UpIn.sig) → Buf (Elt Bits) ℓ) (g : Dev Cert.UpIn.nD → PrngReg), Pre_UpIn m →
    θ_run (Cert.UpIn.defs (F := Bits)) (onTc (τ := Cert.UpIn.τ) (Cert.UpIn.main (F := Bits))) ⟨m, fun _ => 0, g⟩ (fun r => (∀ c : Dev Cert.UpIn.nD,
      r.2.mem ((c.tc : Thread Cert.UpIn.nD Cert.UpIn.τ).loc Cert.UpIn.main_arg0) = m ((c.tc : Thread Cert.UpIn.nD Cert.UpIn.τ).loc Cert.UpIn.main_arg0)
      ∧ r.2.mem ((c.tc : Thread Cert.UpIn.nD Cert.UpIn.τ).loc Cert.UpIn.main_arg1) = m ((c.tc : Thread Cert.UpIn.nD Cert.UpIn.τ).loc Cert.UpIn.main_arg1)
      ∧ r.2.mem ((c.tc : Thread Cert.UpIn.nD Cert.UpIn.τ).loc Cert.UpIn.main_arg2) = m ((c.tc : Thread Cert.UpIn.nD Cert.UpIn.τ).loc Cert.UpIn.main_arg2)
      ∧ r.2.mem ((c.tc : Thread Cert.UpIn.nD Cert.UpIn.τ).loc Cert.UpIn.main_arg3) = m ((c.tc : Thread Cert.UpIn.nD Cert.UpIn.τ).loc Cert.UpIn.main_arg3)
      ∧ r.2.mem ((c.tc : Thread Cert.UpIn.nD Cert.UpIn.τ).loc Cert.UpIn.main_arg4) = m ((c.tc : Thread Cert.UpIn.nD Cert.UpIn.τ).loc Cert.UpIn.main_arg4)
      ∧ r.2.mem ((c.tc : Thread Cert.UpIn.nD Cert.UpIn.τ).loc Cert.UpIn.main_arg5) = m ((c.tc : Thread Cert.UpIn.nD Cert.UpIn.τ).loc Cert.UpIn.main_arg5)
      ∧ r.2.mem ((c.tc : Thread Cert.UpIn.nD Cert.UpIn.τ).loc Cert.UpIn.main_arg6) = m ((c.tc : Thread Cert.UpIn.nD Cert.UpIn.τ).loc Cert.UpIn.main_arg6)
      ∧ r.2.mem ((c.tc : Thread Cert.UpIn.nD Cert.UpIn.τ).loc Cert.UpIn.main_arg7) = m ((c.tc : Thread Cert.UpIn.nD Cert.UpIn.τ).loc Cert.UpIn.main_arg7))
      ∧ r.2.sem = fun _ => 0)

def quiescent_UpInIdeal [hUpInIdeal : Cert.UpInIdeal.Facts] [hPre_on_mesh_in : Cert.Pre_on_mesh_in.Facts] : Prop :=
  ∀ (m : (ℓ : Loc Cert.UpInIdeal.nD Cert.UpInIdeal.τ Cert.UpInIdeal.sig) → Buf (Elt Ideal) ℓ) (g : Dev Cert.UpInIdeal.nD → PrngReg), Pre_UpInIdeal m →
    θ_run (Cert.UpInIdeal.defs (F := Ideal)) (onTc (τ := Cert.UpInIdeal.τ) (Cert.UpInIdeal.main (F := Ideal))) ⟨m, fun _ => 0, g⟩ (fun r => (∀ c : Dev Cert.UpInIdeal.nD,
      r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
      ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
      ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
      ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3)
      ∧ r.2.mem ((c.tc : Thread Cert.UpInIdeal.nD Cert.UpInIdeal.τ).loc Cert.UpInIdeal.main_arg4) = m ((c.tc : Thread Cert.UpInIdeal.nD Cert.UpInIdeal.τ).loc Cert.UpInIdeal.main_arg4)
      ∧ r.2.mem ((c.tc : Thread Cert.UpInIdeal.nD Cert.UpInIdeal.τ).loc Cert.UpInIdeal.main_arg5) = m ((c.tc : Thread Cert.UpInIdeal.nD Cert.UpInIdeal.τ).loc Cert.UpInIdeal.main_arg5)
      ∧ r.2.mem ((c.tc : Thread Cert.UpInIdeal.nD Cert.UpInIdeal.τ).loc Cert.UpInIdeal.main_arg6) = m ((c.tc : Thread Cert.UpInIdeal.nD Cert.UpInIdeal.τ).loc Cert.UpInIdeal.main_arg6)
      ∧ r.2.mem ((c.tc : Thread Cert.UpInIdeal.nD Cert.UpInIdeal.τ).loc Cert.UpInIdeal.main_arg7) = m ((c.tc : Thread Cert.UpInIdeal.nD Cert.UpInIdeal.τ).loc Cert.UpInIdeal.main_arg7))
      ∧ r.2.sem = fun _ => 0)

def quiescent_UpInRefIdeal [hUpInRefIdeal : Cert.UpInRefIdeal.Facts] : Prop :=
  ∀ (m : (ℓ : Loc Cert.UpInRefIdeal.nD Cert.UpInRefIdeal.τ Cert.UpInRefIdeal.sig) → Buf (Elt Ideal) ℓ) (g : Dev Cert.UpInRefIdeal.nD → PrngReg), Pre_UpInRefIdeal m →
    θ_run (Cert.UpInRefIdeal.defs (F := Ideal)) (onTc (τ := Cert.UpInRefIdeal.τ) (Cert.UpInRefIdeal.main (F := Ideal))) ⟨m, fun _ => 0, g⟩ (fun r => (∀ c : Dev Cert.UpInRefIdeal.nD,
      r.2.mem ((c.tc : Thread Cert.UpInRefIdeal.nD Cert.UpInRefIdeal.τ).loc Cert.UpInRefIdeal.main_arg0) = m ((c.tc : Thread Cert.UpInRefIdeal.nD Cert.UpInRefIdeal.τ).loc Cert.UpInRefIdeal.main_arg0)
      ∧ r.2.mem ((c.tc : Thread Cert.UpInRefIdeal.nD Cert.UpInRefIdeal.τ).loc Cert.UpInRefIdeal.main_arg1) = m ((c.tc : Thread Cert.UpInRefIdeal.nD Cert.UpInRefIdeal.τ).loc Cert.UpInRefIdeal.main_arg1)
      ∧ r.2.mem ((c.tc : Thread Cert.UpInRefIdeal.nD Cert.UpInRefIdeal.τ).loc Cert.UpInRefIdeal.main_arg2) = m ((c.tc : Thread Cert.UpInRefIdeal.nD Cert.UpInRefIdeal.τ).loc Cert.UpInRefIdeal.main_arg2)
      ∧ r.2.mem ((c.tc : Thread Cert.UpInRefIdeal.nD Cert.UpInRefIdeal.τ).loc Cert.UpInRefIdeal.main_arg3) = m ((c.tc : Thread Cert.UpInRefIdeal.nD Cert.UpInRefIdeal.τ).loc Cert.UpInRefIdeal.main_arg3)
      ∧ r.2.mem ((c.tc : Thread Cert.UpInRefIdeal.nD Cert.UpInRefIdeal.τ).loc Cert.UpInRefIdeal.main_arg4) = m ((c.tc : Thread Cert.UpInRefIdeal.nD Cert.UpInRefIdeal.τ).loc Cert.UpInRefIdeal.main_arg4)
      ∧ r.2.mem ((c.tc : Thread Cert.UpInRefIdeal.nD Cert.UpInRefIdeal.τ).loc Cert.UpInRefIdeal.main_arg5) = m ((c.tc : Thread Cert.UpInRefIdeal.nD Cert.UpInRefIdeal.τ).loc Cert.UpInRefIdeal.main_arg5)
      ∧ r.2.mem ((c.tc : Thread Cert.UpInRefIdeal.nD Cert.UpInRefIdeal.τ).loc Cert.UpInRefIdeal.main_arg6) = m ((c.tc : Thread Cert.UpInRefIdeal.nD Cert.UpInRefIdeal.τ).loc Cert.UpInRefIdeal.main_arg6)
      ∧ r.2.mem ((c.tc : Thread Cert.UpInRefIdeal.nD Cert.UpInRefIdeal.τ).loc Cert.UpInRefIdeal.main_arg7) = m ((c.tc : Thread Cert.UpInRefIdeal.nD Cert.UpInRefIdeal.τ).loc Cert.UpInRefIdeal.main_arg7))
      ∧ r.2.sem = fun _ => 0)

def quiescent_UpInRefIdeal_pre_on_mesh_in [hUpInRefIdeal : Cert.UpInRefIdeal.Facts] [hPre_on_mesh_in : Cert.Pre_on_mesh_in.Facts] : Prop :=
  ∀ (m : (ℓ : Loc Cert.UpInRefIdeal.nD Cert.UpInRefIdeal.τ Cert.UpInRefIdeal.sig) → Buf (Elt Ideal) ℓ) (g : Dev Cert.UpInRefIdeal.nD → PrngReg), Pre_UpInRefIdeal_on_mesh_in m →
    θ_run (Cert.UpInRefIdeal.defs (F := Ideal)) (onTc (τ := Cert.UpInRefIdeal.τ) (Cert.UpInRefIdeal.main (F := Ideal))) ⟨m, fun _ => 0, g⟩ (fun r => (∀ c : Dev Cert.UpInRefIdeal.nD,
      r.2.mem ((c.tc : Thread Cert.UpInRefIdeal.nD Cert.UpInRefIdeal.τ).loc Cert.UpInRefIdeal.main_arg0) = m ((c.tc : Thread Cert.UpInRefIdeal.nD Cert.UpInRefIdeal.τ).loc Cert.UpInRefIdeal.main_arg0)
      ∧ r.2.mem ((c.tc : Thread Cert.UpInRefIdeal.nD Cert.UpInRefIdeal.τ).loc Cert.UpInRefIdeal.main_arg1) = m ((c.tc : Thread Cert.UpInRefIdeal.nD Cert.UpInRefIdeal.τ).loc Cert.UpInRefIdeal.main_arg1)
      ∧ r.2.mem ((c.tc : Thread Cert.UpInRefIdeal.nD Cert.UpInRefIdeal.τ).loc Cert.UpInRefIdeal.main_arg2) = m ((c.tc : Thread Cert.UpInRefIdeal.nD Cert.UpInRefIdeal.τ).loc Cert.UpInRefIdeal.main_arg2)
      ∧ r.2.mem ((c.tc : Thread Cert.UpInRefIdeal.nD Cert.UpInRefIdeal.τ).loc Cert.UpInRefIdeal.main_arg3) = m ((c.tc : Thread Cert.UpInRefIdeal.nD Cert.UpInRefIdeal.τ).loc Cert.UpInRefIdeal.main_arg3)
      ∧ r.2.mem ((c.tc : Thread Cert.UpInRefIdeal.nD Cert.UpInRefIdeal.τ).loc Cert.UpInRefIdeal.main_arg4) = m ((c.tc : Thread Cert.UpInRefIdeal.nD Cert.UpInRefIdeal.τ).loc Cert.UpInRefIdeal.main_arg4)
      ∧ r.2.mem ((c.tc : Thread Cert.UpInRefIdeal.nD Cert.UpInRefIdeal.τ).loc Cert.UpInRefIdeal.main_arg5) = m ((c.tc : Thread Cert.UpInRefIdeal.nD Cert.UpInRefIdeal.τ).loc Cert.UpInRefIdeal.main_arg5)
      ∧ r.2.mem ((c.tc : Thread Cert.UpInRefIdeal.nD Cert.UpInRefIdeal.τ).loc Cert.UpInRefIdeal.main_arg6) = m ((c.tc : Thread Cert.UpInRefIdeal.nD Cert.UpInRefIdeal.τ).loc Cert.UpInRefIdeal.main_arg6)
      ∧ r.2.mem ((c.tc : Thread Cert.UpInRefIdeal.nD Cert.UpInRefIdeal.τ).loc Cert.UpInRefIdeal.main_arg7) = m ((c.tc : Thread Cert.UpInRefIdeal.nD Cert.UpInRefIdeal.τ).loc Cert.UpInRefIdeal.main_arg7))
      ∧ r.2.sem = fun _ => 0)

def quiescent_UpOut [hUpOut : Cert.UpOut.Facts] [hPre_on_mesh_out : Cert.Pre_on_mesh_out.Facts] : Prop :=
  ∀ (m : (ℓ : Loc Cert.UpOut.nD Cert.UpOut.τ Cert.UpOut.sig) → Buf (Elt Bits) ℓ) (g : Dev Cert.UpOut.nD → PrngReg), Pre_UpOut m →
    θ_run (Cert.UpOut.defs (F := Bits)) (onTc (τ := Cert.UpOut.τ) (Cert.UpOut.main (F := Bits))) ⟨m, fun _ => 0, g⟩ (fun r => (∀ c : Dev Cert.UpOut.nD,
      r.2.mem ((c.tc : Thread Cert.UpOut.nD Cert.UpOut.τ).loc Cert.UpOut.main_arg0) = m ((c.tc : Thread Cert.UpOut.nD Cert.UpOut.τ).loc Cert.UpOut.main_arg0)
      ∧ r.2.mem ((c.tc : Thread Cert.UpOut.nD Cert.UpOut.τ).loc Cert.UpOut.main_arg1) = m ((c.tc : Thread Cert.UpOut.nD Cert.UpOut.τ).loc Cert.UpOut.main_arg1)
      ∧ r.2.mem ((c.tc : Thread Cert.UpOut.nD Cert.UpOut.τ).loc Cert.UpOut.main_arg2) = m ((c.tc : Thread Cert.UpOut.nD Cert.UpOut.τ).loc Cert.UpOut.main_arg2)
      ∧ r.2.mem ((c.tc : Thread Cert.UpOut.nD Cert.UpOut.τ).loc Cert.UpOut.main_arg3) = m ((c.tc : Thread Cert.UpOut.nD Cert.UpOut.τ).loc Cert.UpOut.main_arg3)
      ∧ r.2.mem ((c.tc : Thread Cert.UpOut.nD Cert.UpOut.τ).loc Cert.UpOut.main_arg4) = m ((c.tc : Thread Cert.UpOut.nD Cert.UpOut.τ).loc Cert.UpOut.main_arg4)
      ∧ r.2.mem ((c.tc : Thread Cert.UpOut.nD Cert.UpOut.τ).loc Cert.UpOut.main_arg5) = m ((c.tc : Thread Cert.UpOut.nD Cert.UpOut.τ).loc Cert.UpOut.main_arg5)
      ∧ r.2.mem ((c.tc : Thread Cert.UpOut.nD Cert.UpOut.τ).loc Cert.UpOut.main_arg6) = m ((c.tc : Thread Cert.UpOut.nD Cert.UpOut.τ).loc Cert.UpOut.main_arg6)
      ∧ r.2.mem ((c.tc : Thread Cert.UpOut.nD Cert.UpOut.τ).loc Cert.UpOut.main_arg7) = m ((c.tc : Thread Cert.UpOut.nD Cert.UpOut.τ).loc Cert.UpOut.main_arg7))
      ∧ r.2.sem = fun _ => 0)

def quiescent_UpOutIdeal [hUpOutIdeal : Cert.UpOutIdeal.Facts] [hPre_on_mesh_out : Cert.Pre_on_mesh_out.Facts] : Prop :=
  ∀ (m : (ℓ : Loc Cert.UpOutIdeal.nD Cert.UpOutIdeal.τ Cert.UpOutIdeal.sig) → Buf (Elt Ideal) ℓ) (g : Dev Cert.UpOutIdeal.nD → PrngReg), Pre_UpOutIdeal m →
    θ_run (Cert.UpOutIdeal.defs (F := Ideal)) (onTc (τ := Cert.UpOutIdeal.τ) (Cert.UpOutIdeal.main (F := Ideal))) ⟨m, fun _ => 0, g⟩ (fun r => (∀ c : Dev Cert.UpOutIdeal.nD,
      r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
      ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
      ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
      ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3)
      ∧ r.2.mem ((c.tc : Thread Cert.UpOutIdeal.nD Cert.UpOutIdeal.τ).loc Cert.UpOutIdeal.main_arg4) = m ((c.tc : Thread Cert.UpOutIdeal.nD Cert.UpOutIdeal.τ).loc Cert.UpOutIdeal.main_arg4)
      ∧ r.2.mem ((c.tc : Thread Cert.UpOutIdeal.nD Cert.UpOutIdeal.τ).loc Cert.UpOutIdeal.main_arg5) = m ((c.tc : Thread Cert.UpOutIdeal.nD Cert.UpOutIdeal.τ).loc Cert.UpOutIdeal.main_arg5)
      ∧ r.2.mem ((c.tc : Thread Cert.UpOutIdeal.nD Cert.UpOutIdeal.τ).loc Cert.UpOutIdeal.main_arg6) = m ((c.tc : Thread Cert.UpOutIdeal.nD Cert.UpOutIdeal.τ).loc Cert.UpOutIdeal.main_arg6)
      ∧ r.2.mem ((c.tc : Thread Cert.UpOutIdeal.nD Cert.UpOutIdeal.τ).loc Cert.UpOutIdeal.main_arg7) = m ((c.tc : Thread Cert.UpOutIdeal.nD Cert.UpOutIdeal.τ).loc Cert.UpOutIdeal.main_arg7))
      ∧ r.2.sem = fun _ => 0)

def quiescent_UpOutRefIdeal [hUpOutRefIdeal : Cert.UpOutRefIdeal.Facts] : Prop :=
  ∀ (m : (ℓ : Loc Cert.UpOutRefIdeal.nD Cert.UpOutRefIdeal.τ Cert.UpOutRefIdeal.sig) → Buf (Elt Ideal) ℓ) (g : Dev Cert.UpOutRefIdeal.nD → PrngReg), Pre_UpOutRefIdeal m →
    θ_run (Cert.UpOutRefIdeal.defs (F := Ideal)) (onTc (τ := Cert.UpOutRefIdeal.τ) (Cert.UpOutRefIdeal.main (F := Ideal))) ⟨m, fun _ => 0, g⟩ (fun r => (∀ c : Dev Cert.UpOutRefIdeal.nD,
      r.2.mem ((c.tc : Thread Cert.UpOutRefIdeal.nD Cert.UpOutRefIdeal.τ).loc Cert.UpOutRefIdeal.main_arg0) = m ((c.tc : Thread Cert.UpOutRefIdeal.nD Cert.UpOutRefIdeal.τ).loc Cert.UpOutRefIdeal.main_arg0)
      ∧ r.2.mem ((c.tc : Thread Cert.UpOutRefIdeal.nD Cert.UpOutRefIdeal.τ).loc Cert.UpOutRefIdeal.main_arg1) = m ((c.tc : Thread Cert.UpOutRefIdeal.nD Cert.UpOutRefIdeal.τ).loc Cert.UpOutRefIdeal.main_arg1)
      ∧ r.2.mem ((c.tc : Thread Cert.UpOutRefIdeal.nD Cert.UpOutRefIdeal.τ).loc Cert.UpOutRefIdeal.main_arg2) = m ((c.tc : Thread Cert.UpOutRefIdeal.nD Cert.UpOutRefIdeal.τ).loc Cert.UpOutRefIdeal.main_arg2)
      ∧ r.2.mem ((c.tc : Thread Cert.UpOutRefIdeal.nD Cert.UpOutRefIdeal.τ).loc Cert.UpOutRefIdeal.main_arg3) = m ((c.tc : Thread Cert.UpOutRefIdeal.nD Cert.UpOutRefIdeal.τ).loc Cert.UpOutRefIdeal.main_arg3)
      ∧ r.2.mem ((c.tc : Thread Cert.UpOutRefIdeal.nD Cert.UpOutRefIdeal.τ).loc Cert.UpOutRefIdeal.main_arg4) = m ((c.tc : Thread Cert.UpOutRefIdeal.nD Cert.UpOutRefIdeal.τ).loc Cert.UpOutRefIdeal.main_arg4)
      ∧ r.2.mem ((c.tc : Thread Cert.UpOutRefIdeal.nD Cert.UpOutRefIdeal.τ).loc Cert.UpOutRefIdeal.main_arg5) = m ((c.tc : Thread Cert.UpOutRefIdeal.nD Cert.UpOutRefIdeal.τ).loc Cert.UpOutRefIdeal.main_arg5)
      ∧ r.2.mem ((c.tc : Thread Cert.UpOutRefIdeal.nD Cert.UpOutRefIdeal.τ).loc Cert.UpOutRefIdeal.main_arg6) = m ((c.tc : Thread Cert.UpOutRefIdeal.nD Cert.UpOutRefIdeal.τ).loc Cert.UpOutRefIdeal.main_arg6)
      ∧ r.2.mem ((c.tc : Thread Cert.UpOutRefIdeal.nD Cert.UpOutRefIdeal.τ).loc Cert.UpOutRefIdeal.main_arg7) = m ((c.tc : Thread Cert.UpOutRefIdeal.nD Cert.UpOutRefIdeal.τ).loc Cert.UpOutRefIdeal.main_arg7))
      ∧ r.2.sem = fun _ => 0)

def quiescent_UpOutRefIdeal_pre_on_mesh_out [hUpOutRefIdeal : Cert.UpOutRefIdeal.Facts] [hPre_on_mesh_out : Cert.Pre_on_mesh_out.Facts] : Prop :=
  ∀ (m : (ℓ : Loc Cert.UpOutRefIdeal.nD Cert.UpOutRefIdeal.τ Cert.UpOutRefIdeal.sig) → Buf (Elt Ideal) ℓ) (g : Dev Cert.UpOutRefIdeal.nD → PrngReg), Pre_UpOutRefIdeal_on_mesh_out m →
    θ_run (Cert.UpOutRefIdeal.defs (F := Ideal)) (onTc (τ := Cert.UpOutRefIdeal.τ) (Cert.UpOutRefIdeal.main (F := Ideal))) ⟨m, fun _ => 0, g⟩ (fun r => (∀ c : Dev Cert.UpOutRefIdeal.nD,
      r.2.mem ((c.tc : Thread Cert.UpOutRefIdeal.nD Cert.UpOutRefIdeal.τ).loc Cert.UpOutRefIdeal.main_arg0) = m ((c.tc : Thread Cert.UpOutRefIdeal.nD Cert.UpOutRefIdeal.τ).loc Cert.UpOutRefIdeal.main_arg0)
      ∧ r.2.mem ((c.tc : Thread Cert.UpOutRefIdeal.nD Cert.UpOutRefIdeal.τ).loc Cert.UpOutRefIdeal.main_arg1) = m ((c.tc : Thread Cert.UpOutRefIdeal.nD Cert.UpOutRefIdeal.τ).loc Cert.UpOutRefIdeal.main_arg1)
      ∧ r.2.mem ((c.tc : Thread Cert.UpOutRefIdeal.nD Cert.UpOutRefIdeal.τ).loc Cert.UpOutRefIdeal.main_arg2) = m ((c.tc : Thread Cert.UpOutRefIdeal.nD Cert.UpOutRefIdeal.τ).loc Cert.UpOutRefIdeal.main_arg2)
      ∧ r.2.mem ((c.tc : Thread Cert.UpOutRefIdeal.nD Cert.UpOutRefIdeal.τ).loc Cert.UpOutRefIdeal.main_arg3) = m ((c.tc : Thread Cert.UpOutRefIdeal.nD Cert.UpOutRefIdeal.τ).loc Cert.UpOutRefIdeal.main_arg3)
      ∧ r.2.mem ((c.tc : Thread Cert.UpOutRefIdeal.nD Cert.UpOutRefIdeal.τ).loc Cert.UpOutRefIdeal.main_arg4) = m ((c.tc : Thread Cert.UpOutRefIdeal.nD Cert.UpOutRefIdeal.τ).loc Cert.UpOutRefIdeal.main_arg4)
      ∧ r.2.mem ((c.tc : Thread Cert.UpOutRefIdeal.nD Cert.UpOutRefIdeal.τ).loc Cert.UpOutRefIdeal.main_arg5) = m ((c.tc : Thread Cert.UpOutRefIdeal.nD Cert.UpOutRefIdeal.τ).loc Cert.UpOutRefIdeal.main_arg5)
      ∧ r.2.mem ((c.tc : Thread Cert.UpOutRefIdeal.nD Cert.UpOutRefIdeal.τ).loc Cert.UpOutRefIdeal.main_arg6) = m ((c.tc : Thread Cert.UpOutRefIdeal.nD Cert.UpOutRefIdeal.τ).loc Cert.UpOutRefIdeal.main_arg6)
      ∧ r.2.mem ((c.tc : Thread Cert.UpOutRefIdeal.nD Cert.UpOutRefIdeal.τ).loc Cert.UpOutRefIdeal.main_arg7) = m ((c.tc : Thread Cert.UpOutRefIdeal.nD Cert.UpOutRefIdeal.τ).loc Cert.UpOutRefIdeal.main_arg7))
      ∧ r.2.sem = fun _ => 0)

def quiescent_UpSquare [hUpSquare : Cert.UpSquare.Facts] [hPre_on_mesh_square : Cert.Pre_on_mesh_square.Facts] : Prop :=
  ∀ (m : (ℓ : Loc Cert.UpSquare.nD Cert.UpSquare.τ Cert.UpSquare.sig) → Buf (Elt Bits) ℓ) (g : Dev Cert.UpSquare.nD → PrngReg), Pre_UpSquare m →
    θ_run (Cert.UpSquare.defs (F := Bits)) (onTc (τ := Cert.UpSquare.τ) (Cert.UpSquare.main (F := Bits))) ⟨m, fun _ => 0, g⟩ (fun r => (∀ c : Dev Cert.UpSquare.nD,
      r.2.mem ((c.tc : Thread Cert.UpSquare.nD Cert.UpSquare.τ).loc Cert.UpSquare.main_arg0) = m ((c.tc : Thread Cert.UpSquare.nD Cert.UpSquare.τ).loc Cert.UpSquare.main_arg0)
      ∧ r.2.mem ((c.tc : Thread Cert.UpSquare.nD Cert.UpSquare.τ).loc Cert.UpSquare.main_arg1) = m ((c.tc : Thread Cert.UpSquare.nD Cert.UpSquare.τ).loc Cert.UpSquare.main_arg1)
      ∧ r.2.mem ((c.tc : Thread Cert.UpSquare.nD Cert.UpSquare.τ).loc Cert.UpSquare.main_arg2) = m ((c.tc : Thread Cert.UpSquare.nD Cert.UpSquare.τ).loc Cert.UpSquare.main_arg2)
      ∧ r.2.mem ((c.tc : Thread Cert.UpSquare.nD Cert.UpSquare.τ).loc Cert.UpSquare.main_arg3) = m ((c.tc : Thread Cert.UpSquare.nD Cert.UpSquare.τ).loc Cert.UpSquare.main_arg3)
      ∧ r.2.mem ((c.tc : Thread Cert.UpSquare.nD Cert.UpSquare.τ).loc Cert.UpSquare.main_arg4) = m ((c.tc : Thread Cert.UpSquare.nD Cert.UpSquare.τ).loc Cert.UpSquare.main_arg4)
      ∧ r.2.mem ((c.tc : Thread Cert.UpSquare.nD Cert.UpSquare.τ).loc Cert.UpSquare.main_arg5) = m ((c.tc : Thread Cert.UpSquare.nD Cert.UpSquare.τ).loc Cert.UpSquare.main_arg5)
      ∧ r.2.mem ((c.tc : Thread Cert.UpSquare.nD Cert.UpSquare.τ).loc Cert.UpSquare.main_arg6) = m ((c.tc : Thread Cert.UpSquare.nD Cert.UpSquare.τ).loc Cert.UpSquare.main_arg6)
      ∧ r.2.mem ((c.tc : Thread Cert.UpSquare.nD Cert.UpSquare.τ).loc Cert.UpSquare.main_arg7) = m ((c.tc : Thread Cert.UpSquare.nD Cert.UpSquare.τ).loc Cert.UpSquare.main_arg7))
      ∧ r.2.sem = fun _ => 0)

def quiescent_UpSquareIdeal [hUpSquareIdeal : Cert.UpSquareIdeal.Facts] [hPre_on_mesh_square : Cert.Pre_on_mesh_square.Facts] : Prop :=
  ∀ (m : (ℓ : Loc Cert.UpSquareIdeal.nD Cert.UpSquareIdeal.τ Cert.UpSquareIdeal.sig) → Buf (Elt Ideal) ℓ) (g : Dev Cert.UpSquareIdeal.nD → PrngReg), Pre_UpSquareIdeal m →
    θ_run (Cert.UpSquareIdeal.defs (F := Ideal)) (onTc (τ := Cert.UpSquareIdeal.τ) (Cert.UpSquareIdeal.main (F := Ideal))) ⟨m, fun _ => 0, g⟩ (fun r => (∀ c : Dev Cert.UpSquareIdeal.nD,
      r.2.mem ((c.tc : Thread Cert.UpSquareIdeal.nD Cert.UpSquareIdeal.τ).loc Cert.UpSquareIdeal.main_arg0) = m ((c.tc : Thread Cert.UpSquareIdeal.nD Cert.UpSquareIdeal.τ).loc Cert.UpSquareIdeal.main_arg0)
      ∧ r.2.mem ((c.tc : Thread Cert.UpSquareIdeal.nD Cert.UpSquareIdeal.τ).loc Cert.UpSquareIdeal.main_arg1) = m ((c.tc : Thread Cert.UpSquareIdeal.nD Cert.UpSquareIdeal.τ).loc Cert.UpSquareIdeal.main_arg1)
      ∧ r.2.mem ((c.tc : Thread Cert.UpSquareIdeal.nD Cert.UpSquareIdeal.τ).loc Cert.UpSquareIdeal.main_arg2) = m ((c.tc : Thread Cert.UpSquareIdeal.nD Cert.UpSquareIdeal.τ).loc Cert.UpSquareIdeal.main_arg2)
      ∧ r.2.mem ((c.tc : Thread Cert.UpSquareIdeal.nD Cert.UpSquareIdeal.τ).loc Cert.UpSquareIdeal.main_arg3) = m ((c.tc : Thread Cert.UpSquareIdeal.nD Cert.UpSquareIdeal.τ).loc Cert.UpSquareIdeal.main_arg3)
      ∧ r.2.mem ((c.tc : Thread Cert.UpSquareIdeal.nD Cert.UpSquareIdeal.τ).loc Cert.UpSquareIdeal.main_arg4) = m ((c.tc : Thread Cert.UpSquareIdeal.nD Cert.UpSquareIdeal.τ).loc Cert.UpSquareIdeal.main_arg4)
      ∧ r.2.mem ((c.tc : Thread Cert.UpSquareIdeal.nD Cert.UpSquareIdeal.τ).loc Cert.UpSquareIdeal.main_arg5) = m ((c.tc : Thread Cert.UpSquareIdeal.nD Cert.UpSquareIdeal.τ).loc Cert.UpSquareIdeal.main_arg5)
      ∧ r.2.mem ((c.tc : Thread Cert.UpSquareIdeal.nD Cert.UpSquareIdeal.τ).loc Cert.UpSquareIdeal.main_arg6) = m ((c.tc : Thread Cert.UpSquareIdeal.nD Cert.UpSquareIdeal.τ).loc Cert.UpSquareIdeal.main_arg6)
      ∧ r.2.mem ((c.tc : Thread Cert.UpSquareIdeal.nD Cert.UpSquareIdeal.τ).loc Cert.UpSquareIdeal.main_arg7) = m ((c.tc : Thread Cert.UpSquareIdeal.nD Cert.UpSquareIdeal.τ).loc Cert.UpSquareIdeal.main_arg7))
      ∧ r.2.sem = fun _ => 0)

def quiescent_UpSquareRefIdeal [hUpSquareRefIdeal : Cert.UpSquareRefIdeal.Facts] : Prop :=
  ∀ (m : (ℓ : Loc Cert.UpSquareRefIdeal.nD Cert.UpSquareRefIdeal.τ Cert.UpSquareRefIdeal.sig) → Buf (Elt Ideal) ℓ) (g : Dev Cert.UpSquareRefIdeal.nD → PrngReg), Pre_UpSquareRefIdeal m →
    θ_run (Cert.UpSquareRefIdeal.defs (F := Ideal)) (onTc (τ := Cert.UpSquareRefIdeal.τ) (Cert.UpSquareRefIdeal.main (F := Ideal))) ⟨m, fun _ => 0, g⟩ (fun r => (∀ c : Dev Cert.UpSquareRefIdeal.nD,
      r.2.mem ((c.tc : Thread Cert.UpSquareRefIdeal.nD Cert.UpSquareRefIdeal.τ).loc Cert.UpSquareRefIdeal.main_arg0) = m ((c.tc : Thread Cert.UpSquareRefIdeal.nD Cert.UpSquareRefIdeal.τ).loc Cert.UpSquareRefIdeal.main_arg0)
      ∧ r.2.mem ((c.tc : Thread Cert.UpSquareRefIdeal.nD Cert.UpSquareRefIdeal.τ).loc Cert.UpSquareRefIdeal.main_arg1) = m ((c.tc : Thread Cert.UpSquareRefIdeal.nD Cert.UpSquareRefIdeal.τ).loc Cert.UpSquareRefIdeal.main_arg1)
      ∧ r.2.mem ((c.tc : Thread Cert.UpSquareRefIdeal.nD Cert.UpSquareRefIdeal.τ).loc Cert.UpSquareRefIdeal.main_arg2) = m ((c.tc : Thread Cert.UpSquareRefIdeal.nD Cert.UpSquareRefIdeal.τ).loc Cert.UpSquareRefIdeal.main_arg2)
      ∧ r.2.mem ((c.tc : Thread Cert.UpSquareRefIdeal.nD Cert.UpSquareRefIdeal.τ).loc Cert.UpSquareRefIdeal.main_arg3) = m ((c.tc : Thread Cert.UpSquareRefIdeal.nD Cert.UpSquareRefIdeal.τ).loc Cert.UpSquareRefIdeal.main_arg3)
      ∧ r.2.mem ((c.tc : Thread Cert.UpSquareRefIdeal.nD Cert.UpSquareRefIdeal.τ).loc Cert.UpSquareRefIdeal.main_arg4) = m ((c.tc : Thread Cert.UpSquareRefIdeal.nD Cert.UpSquareRefIdeal.τ).loc Cert.UpSquareRefIdeal.main_arg4)
      ∧ r.2.mem ((c.tc : Thread Cert.UpSquareRefIdeal.nD Cert.UpSquareRefIdeal.τ).loc Cert.UpSquareRefIdeal.main_arg5) = m ((c.tc : Thread Cert.UpSquareRefIdeal.nD Cert.UpSquareRefIdeal.τ).loc Cert.UpSquareRefIdeal.main_arg5)
      ∧ r.2.mem ((c.tc : Thread Cert.UpSquareRefIdeal.nD Cert.UpSquareRefIdeal.τ).loc Cert.UpSquareRefIdeal.main_arg6) = m ((c.tc : Thread Cert.UpSquareRefIdeal.nD Cert.UpSquareRefIdeal.τ).loc Cert.UpSquareRefIdeal.main_arg6)
      ∧ r.2.mem ((c.tc : Thread Cert.UpSquareRefIdeal.nD Cert.UpSquareRefIdeal.τ).loc Cert.UpSquareRefIdeal.main_arg7) = m ((c.tc : Thread Cert.UpSquareRefIdeal.nD Cert.UpSquareRefIdeal.τ).loc Cert.UpSquareRefIdeal.main_arg7))
      ∧ r.2.sem = fun _ => 0)

def quiescent_UpSquareRefIdeal_pre_on_mesh_square [hUpSquareRefIdeal : Cert.UpSquareRefIdeal.Facts] [hPre_on_mesh_square : Cert.Pre_on_mesh_square.Facts] : Prop :=
  ∀ (m : (ℓ : Loc Cert.UpSquareRefIdeal.nD Cert.UpSquareRefIdeal.τ Cert.UpSquareRefIdeal.sig) → Buf (Elt Ideal) ℓ) (g : Dev Cert.UpSquareRefIdeal.nD → PrngReg), Pre_UpSquareRefIdeal_on_mesh_square m →
    θ_run (Cert.UpSquareRefIdeal.defs (F := Ideal)) (onTc (τ := Cert.UpSquareRefIdeal.τ) (Cert.UpSquareRefIdeal.main (F := Ideal))) ⟨m, fun _ => 0, g⟩ (fun r => (∀ c : Dev Cert.UpSquareRefIdeal.nD,
      r.2.mem ((c.tc : Thread Cert.UpSquareRefIdeal.nD Cert.UpSquareRefIdeal.τ).loc Cert.UpSquareRefIdeal.main_arg0) = m ((c.tc : Thread Cert.UpSquareRefIdeal.nD Cert.UpSquareRefIdeal.τ).loc Cert.UpSquareRefIdeal.main_arg0)
      ∧ r.2.mem ((c.tc : Thread Cert.UpSquareRefIdeal.nD Cert.UpSquareRefIdeal.τ).loc Cert.UpSquareRefIdeal.main_arg1) = m ((c.tc : Thread Cert.UpSquareRefIdeal.nD Cert.UpSquareRefIdeal.τ).loc Cert.UpSquareRefIdeal.main_arg1)
      ∧ r.2.mem ((c.tc : Thread Cert.UpSquareRefIdeal.nD Cert.UpSquareRefIdeal.τ).loc Cert.UpSquareRefIdeal.main_arg2) = m ((c.tc : Thread Cert.UpSquareRefIdeal.nD Cert.UpSquareRefIdeal.τ).loc Cert.UpSquareRefIdeal.main_arg2)
      ∧ r.2.mem ((c.tc : Thread Cert.UpSquareRefIdeal.nD Cert.UpSquareRefIdeal.τ).loc Cert.UpSquareRefIdeal.main_arg3) = m ((c.tc : Thread Cert.UpSquareRefIdeal.nD Cert.UpSquareRefIdeal.τ).loc Cert.UpSquareRefIdeal.main_arg3)
      ∧ r.2.mem ((c.tc : Thread Cert.UpSquareRefIdeal.nD Cert.UpSquareRefIdeal.τ).loc Cert.UpSquareRefIdeal.main_arg4) = m ((c.tc : Thread Cert.UpSquareRefIdeal.nD Cert.UpSquareRefIdeal.τ).loc Cert.UpSquareRefIdeal.main_arg4)
      ∧ r.2.mem ((c.tc : Thread Cert.UpSquareRefIdeal.nD Cert.UpSquareRefIdeal.τ).loc Cert.UpSquareRefIdeal.main_arg5) = m ((c.tc : Thread Cert.UpSquareRefIdeal.nD Cert.UpSquareRefIdeal.τ).loc Cert.UpSquareRefIdeal.main_arg5)
      ∧ r.2.mem ((c.tc : Thread Cert.UpSquareRefIdeal.nD Cert.UpSquareRefIdeal.τ).loc Cert.UpSquareRefIdeal.main_arg6) = m ((c.tc : Thread Cert.UpSquareRefIdeal.nD Cert.UpSquareRefIdeal.τ).loc Cert.UpSquareRefIdeal.main_arg6)
      ∧ r.2.mem ((c.tc : Thread Cert.UpSquareRefIdeal.nD Cert.UpSquareRefIdeal.τ).loc Cert.UpSquareRefIdeal.main_arg7) = m ((c.tc : Thread Cert.UpSquareRefIdeal.nD Cert.UpSquareRefIdeal.τ).loc Cert.UpSquareRefIdeal.main_arg7))
      ∧ r.2.sem = fun _ => 0)

def quiescent_UpCol [hUpCol : Cert.UpCol.Facts] [hPre_on_mesh_col : Cert.Pre_on_mesh_col.Facts] : Prop :=
  ∀ (m : (ℓ : Loc Cert.UpCol.nD Cert.UpCol.τ Cert.UpCol.sig) → Buf (Elt Bits) ℓ) (g : Dev Cert.UpCol.nD → PrngReg), Pre_UpCol m →
    θ_run (Cert.UpCol.defs (F := Bits)) (onTc (τ := Cert.UpCol.τ) (Cert.UpCol.main (F := Bits))) ⟨m, fun _ => 0, g⟩ (fun r => (∀ c : Dev Cert.UpCol.nD,
      r.2.mem ((c.tc : Thread Cert.UpCol.nD Cert.UpCol.τ).loc Cert.UpCol.main_arg0) = m ((c.tc : Thread Cert.UpCol.nD Cert.UpCol.τ).loc Cert.UpCol.main_arg0)
      ∧ r.2.mem ((c.tc : Thread Cert.UpCol.nD Cert.UpCol.τ).loc Cert.UpCol.main_arg1) = m ((c.tc : Thread Cert.UpCol.nD Cert.UpCol.τ).loc Cert.UpCol.main_arg1)
      ∧ r.2.mem ((c.tc : Thread Cert.UpCol.nD Cert.UpCol.τ).loc Cert.UpCol.main_arg2) = m ((c.tc : Thread Cert.UpCol.nD Cert.UpCol.τ).loc Cert.UpCol.main_arg2)
      ∧ r.2.mem ((c.tc : Thread Cert.UpCol.nD Cert.UpCol.τ).loc Cert.UpCol.main_arg3) = m ((c.tc : Thread Cert.UpCol.nD Cert.UpCol.τ).loc Cert.UpCol.main_arg3)
      ∧ r.2.mem ((c.tc : Thread Cert.UpCol.nD Cert.UpCol.τ).loc Cert.UpCol.main_arg4) = m ((c.tc : Thread Cert.UpCol.nD Cert.UpCol.τ).loc Cert.UpCol.main_arg4)
      ∧ r.2.mem ((c.tc : Thread Cert.UpCol.nD Cert.UpCol.τ).loc Cert.UpCol.main_arg5) = m ((c.tc : Thread Cert.UpCol.nD Cert.UpCol.τ).loc Cert.UpCol.main_arg5)
      ∧ r.2.mem ((c.tc : Thread Cert.UpCol.nD Cert.UpCol.τ).loc Cert.UpCol.main_arg6) = m ((c.tc : Thread Cert.UpCol.nD Cert.UpCol.τ).loc Cert.UpCol.main_arg6)
      ∧ r.2.mem ((c.tc : Thread Cert.UpCol.nD Cert.UpCol.τ).loc Cert.UpCol.main_arg7) = m ((c.tc : Thread Cert.UpCol.nD Cert.UpCol.τ).loc Cert.UpCol.main_arg7))
      ∧ r.2.sem = fun _ => 0)

def quiescent_UpColIdeal [hUpColIdeal : Cert.UpColIdeal.Facts] [hPre_on_mesh_col : Cert.Pre_on_mesh_col.Facts] : Prop :=
  ∀ (m : (ℓ : Loc Cert.UpColIdeal.nD Cert.UpColIdeal.τ Cert.UpColIdeal.sig) → Buf (Elt Ideal) ℓ) (g : Dev Cert.UpColIdeal.nD → PrngReg), Pre_UpColIdeal m →
    θ_run (Cert.UpColIdeal.defs (F := Ideal)) (onTc (τ := Cert.UpColIdeal.τ) (Cert.UpColIdeal.main (F := Ideal))) ⟨m, fun _ => 0, g⟩ (fun r => (∀ c : Dev Cert.UpColIdeal.nD,
      r.2.mem ((c.tc : Thread Cert.UpColIdeal.nD Cert.UpColIdeal.τ).loc Cert.UpColIdeal.main_arg0) = m ((c.tc : Thread Cert.UpColIdeal.nD Cert.UpColIdeal.τ).loc Cert.UpColIdeal.main_arg0)
      ∧ r.2.mem ((c.tc : Thread Cert.UpColIdeal.nD Cert.UpColIdeal.τ).loc Cert.UpColIdeal.main_arg1) = m ((c.tc : Thread Cert.UpColIdeal.nD Cert.UpColIdeal.τ).loc Cert.UpColIdeal.main_arg1)
      ∧ r.2.mem ((c.tc : Thread Cert.UpColIdeal.nD Cert.UpColIdeal.τ).loc Cert.UpColIdeal.main_arg2) = m ((c.tc : Thread Cert.UpColIdeal.nD Cert.UpColIdeal.τ).loc Cert.UpColIdeal.main_arg2)
      ∧ r.2.mem ((c.tc : Thread Cert.UpColIdeal.nD Cert.UpColIdeal.τ).loc Cert.UpColIdeal.main_arg3) = m ((c.tc : Thread Cert.UpColIdeal.nD Cert.UpColIdeal.τ).loc Cert.UpColIdeal.main_arg3)
      ∧ r.2.mem ((c.tc : Thread Cert.UpColIdeal.nD Cert.UpColIdeal.τ).loc Cert.UpColIdeal.main_arg4) = m ((c.tc : Thread Cert.UpColIdeal.nD Cert.UpColIdeal.τ).loc Cert.UpColIdeal.main_arg4)
      ∧ r.2.mem ((c.tc : Thread Cert.UpColIdeal.nD Cert.UpColIdeal.τ).loc Cert.UpColIdeal.main_arg5) = m ((c.tc : Thread Cert.UpColIdeal.nD Cert.UpColIdeal.τ).loc Cert.UpColIdeal.main_arg5)
      ∧ r.2.mem ((c.tc : Thread Cert.UpColIdeal.nD Cert.UpColIdeal.τ).loc Cert.UpColIdeal.main_arg6) = m ((c.tc : Thread Cert.UpColIdeal.nD Cert.UpColIdeal.τ).loc Cert.UpColIdeal.main_arg6)
      ∧ r.2.mem ((c.tc : Thread Cert.UpColIdeal.nD Cert.UpColIdeal.τ).loc Cert.UpColIdeal.main_arg7) = m ((c.tc : Thread Cert.UpColIdeal.nD Cert.UpColIdeal.τ).loc Cert.UpColIdeal.main_arg7))
      ∧ r.2.sem = fun _ => 0)

def quiescent_UpColRefIdeal [hUpColRefIdeal : Cert.UpColRefIdeal.Facts] : Prop :=
  ∀ (m : (ℓ : Loc Cert.UpColRefIdeal.nD Cert.UpColRefIdeal.τ Cert.UpColRefIdeal.sig) → Buf (Elt Ideal) ℓ) (g : Dev Cert.UpColRefIdeal.nD → PrngReg), Pre_UpColRefIdeal m →
    θ_run (Cert.UpColRefIdeal.defs (F := Ideal)) (onTc (τ := Cert.UpColRefIdeal.τ) (Cert.UpColRefIdeal.main (F := Ideal))) ⟨m, fun _ => 0, g⟩ (fun r => (∀ c : Dev Cert.UpColRefIdeal.nD,
      r.2.mem ((c.tc : Thread Cert.UpColRefIdeal.nD Cert.UpColRefIdeal.τ).loc Cert.UpColRefIdeal.main_arg0) = m ((c.tc : Thread Cert.UpColRefIdeal.nD Cert.UpColRefIdeal.τ).loc Cert.UpColRefIdeal.main_arg0)
      ∧ r.2.mem ((c.tc : Thread Cert.UpColRefIdeal.nD Cert.UpColRefIdeal.τ).loc Cert.UpColRefIdeal.main_arg1) = m ((c.tc : Thread Cert.UpColRefIdeal.nD Cert.UpColRefIdeal.τ).loc Cert.UpColRefIdeal.main_arg1)
      ∧ r.2.mem ((c.tc : Thread Cert.UpColRefIdeal.nD Cert.UpColRefIdeal.τ).loc Cert.UpColRefIdeal.main_arg2) = m ((c.tc : Thread Cert.UpColRefIdeal.nD Cert.UpColRefIdeal.τ).loc Cert.UpColRefIdeal.main_arg2)
      ∧ r.2.mem ((c.tc : Thread Cert.UpColRefIdeal.nD Cert.UpColRefIdeal.τ).loc Cert.UpColRefIdeal.main_arg3) = m ((c.tc : Thread Cert.UpColRefIdeal.nD Cert.UpColRefIdeal.τ).loc Cert.UpColRefIdeal.main_arg3)
      ∧ r.2.mem ((c.tc : Thread Cert.UpColRefIdeal.nD Cert.UpColRefIdeal.τ).loc Cert.UpColRefIdeal.main_arg4) = m ((c.tc : Thread Cert.UpColRefIdeal.nD Cert.UpColRefIdeal.τ).loc Cert.UpColRefIdeal.main_arg4)
      ∧ r.2.mem ((c.tc : Thread Cert.UpColRefIdeal.nD Cert.UpColRefIdeal.τ).loc Cert.UpColRefIdeal.main_arg5) = m ((c.tc : Thread Cert.UpColRefIdeal.nD Cert.UpColRefIdeal.τ).loc Cert.UpColRefIdeal.main_arg5)
      ∧ r.2.mem ((c.tc : Thread Cert.UpColRefIdeal.nD Cert.UpColRefIdeal.τ).loc Cert.UpColRefIdeal.main_arg6) = m ((c.tc : Thread Cert.UpColRefIdeal.nD Cert.UpColRefIdeal.τ).loc Cert.UpColRefIdeal.main_arg6)
      ∧ r.2.mem ((c.tc : Thread Cert.UpColRefIdeal.nD Cert.UpColRefIdeal.τ).loc Cert.UpColRefIdeal.main_arg7) = m ((c.tc : Thread Cert.UpColRefIdeal.nD Cert.UpColRefIdeal.τ).loc Cert.UpColRefIdeal.main_arg7))
      ∧ r.2.sem = fun _ => 0)

def quiescent_UpColRefIdeal_pre_on_mesh_col [hUpColRefIdeal : Cert.UpColRefIdeal.Facts] [hPre_on_mesh_col : Cert.Pre_on_mesh_col.Facts] : Prop :=
  ∀ (m : (ℓ : Loc Cert.UpColRefIdeal.nD Cert.UpColRefIdeal.τ Cert.UpColRefIdeal.sig) → Buf (Elt Ideal) ℓ) (g : Dev Cert.UpColRefIdeal.nD → PrngReg), Pre_UpColRefIdeal_on_mesh_col m →
    θ_run (Cert.UpColRefIdeal.defs (F := Ideal)) (onTc (τ := Cert.UpColRefIdeal.τ) (Cert.UpColRefIdeal.main (F := Ideal))) ⟨m, fun _ => 0, g⟩ (fun r => (∀ c : Dev Cert.UpColRefIdeal.nD,
      r.2.mem ((c.tc : Thread Cert.UpColRefIdeal.nD Cert.UpColRefIdeal.τ).loc Cert.UpColRefIdeal.main_arg0) = m ((c.tc : Thread Cert.UpColRefIdeal.nD Cert.UpColRefIdeal.τ).loc Cert.UpColRefIdeal.main_arg0)
      ∧ r.2.mem ((c.tc : Thread Cert.UpColRefIdeal.nD Cert.UpColRefIdeal.τ).loc Cert.UpColRefIdeal.main_arg1) = m ((c.tc : Thread Cert.UpColRefIdeal.nD Cert.UpColRefIdeal.τ).loc Cert.UpColRefIdeal.main_arg1)
      ∧ r.2.mem ((c.tc : Thread Cert.UpColRefIdeal.nD Cert.UpColRefIdeal.τ).loc Cert.UpColRefIdeal.main_arg2) = m ((c.tc : Thread Cert.UpColRefIdeal.nD Cert.UpColRefIdeal.τ).loc Cert.UpColRefIdeal.main_arg2)
      ∧ r.2.mem ((c.tc : Thread Cert.UpColRefIdeal.nD Cert.UpColRefIdeal.τ).loc Cert.UpColRefIdeal.main_arg3) = m ((c.tc : Thread Cert.UpColRefIdeal.nD Cert.UpColRefIdeal.τ).loc Cert.UpColRefIdeal.main_arg3)
      ∧ r.2.mem ((c.tc : Thread Cert.UpColRefIdeal.nD Cert.UpColRefIdeal.τ).loc Cert.UpColRefIdeal.main_arg4) = m ((c.tc : Thread Cert.UpColRefIdeal.nD Cert.UpColRefIdeal.τ).loc Cert.UpColRefIdeal.main_arg4)
      ∧ r.2.mem ((c.tc : Thread Cert.UpColRefIdeal.nD Cert.UpColRefIdeal.τ).loc Cert.UpColRefIdeal.main_arg5) = m ((c.tc : Thread Cert.UpColRefIdeal.nD Cert.UpColRefIdeal.τ).loc Cert.UpColRefIdeal.main_arg5)
      ∧ r.2.mem ((c.tc : Thread Cert.UpColRefIdeal.nD Cert.UpColRefIdeal.τ).loc Cert.UpColRefIdeal.main_arg6) = m ((c.tc : Thread Cert.UpColRefIdeal.nD Cert.UpColRefIdeal.τ).loc Cert.UpColRefIdeal.main_arg6)
      ∧ r.2.mem ((c.tc : Thread Cert.UpColRefIdeal.nD Cert.UpColRefIdeal.τ).loc Cert.UpColRefIdeal.main_arg7) = m ((c.tc : Thread Cert.UpColRefIdeal.nD Cert.UpColRefIdeal.τ).loc Cert.UpColRefIdeal.main_arg7))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
      ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
      ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
      ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
      ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
      ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
      ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
      ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
      ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
      ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
      ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
      ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
      ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
      ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
      ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
      ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
      ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27)
      ∧ r.2.mem ((c.tc : Thread Cert.AdamwIdeal.nD Cert.AdamwIdeal.τ).loc Cert.AdamwIdeal.main_arg28) = m ((c.tc : Thread Cert.AdamwIdeal.nD Cert.AdamwIdeal.τ).loc Cert.AdamwIdeal.main_arg28)
      ∧ r.2.mem ((c.tc : Thread Cert.AdamwIdeal.nD Cert.AdamwIdeal.τ).loc Cert.AdamwIdeal.main_arg29) = m ((c.tc : Thread Cert.AdamwIdeal.nD Cert.AdamwIdeal.τ).loc Cert.AdamwIdeal.main_arg29)
      ∧ r.2.mem ((c.tc : Thread Cert.AdamwIdeal.nD Cert.AdamwIdeal.τ).loc Cert.AdamwIdeal.main_arg30) = m ((c.tc : Thread Cert.AdamwIdeal.nD Cert.AdamwIdeal.τ).loc Cert.AdamwIdeal.main_arg30)
      ∧ r.2.mem ((c.tc : Thread Cert.AdamwIdeal.nD Cert.AdamwIdeal.τ).loc Cert.AdamwIdeal.main_arg31) = m ((c.tc : Thread Cert.AdamwIdeal.nD Cert.AdamwIdeal.τ).loc Cert.AdamwIdeal.main_arg31)
      ∧ r.2.mem ((c.tc : Thread Cert.AdamwIdeal.nD Cert.AdamwIdeal.τ).loc Cert.AdamwIdeal.main_arg32) = m ((c.tc : Thread Cert.AdamwIdeal.nD Cert.AdamwIdeal.τ).loc Cert.AdamwIdeal.main_arg32)
      ∧ r.2.mem ((c.tc : Thread Cert.AdamwIdeal.nD Cert.AdamwIdeal.τ).loc Cert.AdamwIdeal.main_arg33) = m ((c.tc : Thread Cert.AdamwIdeal.nD Cert.AdamwIdeal.τ).loc Cert.AdamwIdeal.main_arg33)
      ∧ r.2.mem ((c.tc : Thread Cert.AdamwIdeal.nD Cert.AdamwIdeal.τ).loc Cert.AdamwIdeal.main_arg34) = m ((c.tc : Thread Cert.AdamwIdeal.nD Cert.AdamwIdeal.τ).loc Cert.AdamwIdeal.main_arg34)
      ∧ r.2.mem ((c.tc : Thread Cert.AdamwIdeal.nD Cert.AdamwIdeal.τ).loc Cert.AdamwIdeal.main_arg35) = m ((c.tc : Thread Cert.AdamwIdeal.nD Cert.AdamwIdeal.τ).loc Cert.AdamwIdeal.main_arg35)
      ∧ r.2.mem ((c.tc : Thread Cert.AdamwIdeal.nD Cert.AdamwIdeal.τ).loc Cert.AdamwIdeal.main_arg36) = m ((c.tc : Thread Cert.AdamwIdeal.nD Cert.AdamwIdeal.τ).loc Cert.AdamwIdeal.main_arg36)
      ∧ r.2.mem ((c.tc : Thread Cert.AdamwIdeal.nD Cert.AdamwIdeal.τ).loc Cert.AdamwIdeal.main_arg37) = m ((c.tc : Thread Cert.AdamwIdeal.nD Cert.AdamwIdeal.τ).loc Cert.AdamwIdeal.main_arg37)
      ∧ r.2.mem ((c.tc : Thread Cert.AdamwIdeal.nD Cert.AdamwIdeal.τ).loc Cert.AdamwIdeal.main_arg38) = m ((c.tc : Thread Cert.AdamwIdeal.nD Cert.AdamwIdeal.τ).loc Cert.AdamwIdeal.main_arg38)
      ∧ r.2.mem ((c.tc : Thread Cert.AdamwIdeal.nD Cert.AdamwIdeal.τ).loc Cert.AdamwIdeal.main_arg39) = m ((c.tc : Thread Cert.AdamwIdeal.nD Cert.AdamwIdeal.τ).loc Cert.AdamwIdeal.main_arg39)
      ∧ r.2.mem ((c.tc : Thread Cert.AdamwIdeal.nD Cert.AdamwIdeal.τ).loc Cert.AdamwIdeal.main_arg40) = m ((c.tc : Thread Cert.AdamwIdeal.nD Cert.AdamwIdeal.τ).loc Cert.AdamwIdeal.main_arg40)
      ∧ r.2.mem ((c.tc : Thread Cert.AdamwIdeal.nD Cert.AdamwIdeal.τ).loc Cert.AdamwIdeal.main_arg41) = m ((c.tc : Thread Cert.AdamwIdeal.nD Cert.AdamwIdeal.τ).loc Cert.AdamwIdeal.main_arg41)
      ∧ r.2.mem ((c.tc : Thread Cert.AdamwIdeal.nD Cert.AdamwIdeal.τ).loc Cert.AdamwIdeal.main_arg42) = m ((c.tc : Thread Cert.AdamwIdeal.nD Cert.AdamwIdeal.τ).loc Cert.AdamwIdeal.main_arg42)
      ∧ r.2.mem ((c.tc : Thread Cert.AdamwIdeal.nD Cert.AdamwIdeal.τ).loc Cert.AdamwIdeal.main_arg43) = m ((c.tc : Thread Cert.AdamwIdeal.nD Cert.AdamwIdeal.τ).loc Cert.AdamwIdeal.main_arg43)
      ∧ r.2.mem ((c.tc : Thread Cert.AdamwIdeal.nD Cert.AdamwIdeal.τ).loc Cert.AdamwIdeal.main_arg44) = m ((c.tc : Thread Cert.AdamwIdeal.nD Cert.AdamwIdeal.τ).loc Cert.AdamwIdeal.main_arg44)
      ∧ r.2.mem ((c.tc : Thread Cert.AdamwIdeal.nD Cert.AdamwIdeal.τ).loc Cert.AdamwIdeal.main_arg45) = m ((c.tc : Thread Cert.AdamwIdeal.nD Cert.AdamwIdeal.τ).loc Cert.AdamwIdeal.main_arg45)
      ∧ r.2.mem ((c.tc : Thread Cert.AdamwIdeal.nD Cert.AdamwIdeal.τ).loc Cert.AdamwIdeal.main_arg46) = m ((c.tc : Thread Cert.AdamwIdeal.nD Cert.AdamwIdeal.τ).loc Cert.AdamwIdeal.main_arg46)
      ∧ r.2.mem ((c.tc : Thread Cert.AdamwIdeal.nD Cert.AdamwIdeal.τ).loc Cert.AdamwIdeal.main_arg47) = m ((c.tc : Thread Cert.AdamwIdeal.nD Cert.AdamwIdeal.τ).loc Cert.AdamwIdeal.main_arg47)
      ∧ r.2.mem ((c.tc : Thread Cert.AdamwIdeal.nD Cert.AdamwIdeal.τ).loc Cert.AdamwIdeal.main_arg48) = m ((c.tc : Thread Cert.AdamwIdeal.nD Cert.AdamwIdeal.τ).loc Cert.AdamwIdeal.main_arg48)
      ∧ r.2.mem ((c.tc : Thread Cert.AdamwIdeal.nD Cert.AdamwIdeal.τ).loc Cert.AdamwIdeal.main_arg49) = m ((c.tc : Thread Cert.AdamwIdeal.nD Cert.AdamwIdeal.τ).loc Cert.AdamwIdeal.main_arg49)
      ∧ r.2.mem ((c.tc : Thread Cert.AdamwIdeal.nD Cert.AdamwIdeal.τ).loc Cert.AdamwIdeal.main_arg50) = m ((c.tc : Thread Cert.AdamwIdeal.nD Cert.AdamwIdeal.τ).loc Cert.AdamwIdeal.main_arg50)
      ∧ r.2.mem ((c.tc : Thread Cert.AdamwIdeal.nD Cert.AdamwIdeal.τ).loc Cert.AdamwIdeal.main_arg51) = m ((c.tc : Thread Cert.AdamwIdeal.nD Cert.AdamwIdeal.τ).loc Cert.AdamwIdeal.main_arg51)
      ∧ r.2.mem ((c.tc : Thread Cert.AdamwIdeal.nD Cert.AdamwIdeal.τ).loc Cert.AdamwIdeal.main_arg52) = m ((c.tc : Thread Cert.AdamwIdeal.nD Cert.AdamwIdeal.τ).loc Cert.AdamwIdeal.main_arg52)
      ∧ r.2.mem ((c.tc : Thread Cert.AdamwIdeal.nD Cert.AdamwIdeal.τ).loc Cert.AdamwIdeal.main_arg53) = m ((c.tc : Thread Cert.AdamwIdeal.nD Cert.AdamwIdeal.τ).loc Cert.AdamwIdeal.main_arg53)
      ∧ r.2.mem ((c.tc : Thread Cert.AdamwIdeal.nD Cert.AdamwIdeal.τ).loc Cert.AdamwIdeal.main_arg54) = m ((c.tc : Thread Cert.AdamwIdeal.nD Cert.AdamwIdeal.τ).loc Cert.AdamwIdeal.main_arg54)
      ∧ r.2.mem ((c.tc : Thread Cert.AdamwIdeal.nD Cert.AdamwIdeal.τ).loc Cert.AdamwIdeal.main_arg55) = m ((c.tc : Thread Cert.AdamwIdeal.nD Cert.AdamwIdeal.τ).loc Cert.AdamwIdeal.main_arg55)
      ∧ r.2.mem ((c.tc : Thread Cert.AdamwIdeal.nD Cert.AdamwIdeal.τ).loc Cert.AdamwIdeal.main_arg56) = m ((c.tc : Thread Cert.AdamwIdeal.nD Cert.AdamwIdeal.τ).loc Cert.AdamwIdeal.main_arg56)
      ∧ r.2.mem ((c.tc : Thread Cert.AdamwIdeal.nD Cert.AdamwIdeal.τ).loc Cert.AdamwIdeal.main_arg57) = m ((c.tc : Thread Cert.AdamwIdeal.nD Cert.AdamwIdeal.τ).loc Cert.AdamwIdeal.main_arg57)
      ∧ r.2.mem ((c.tc : Thread Cert.AdamwIdeal.nD Cert.AdamwIdeal.τ).loc Cert.AdamwIdeal.main_arg58) = m ((c.tc : Thread Cert.AdamwIdeal.nD Cert.AdamwIdeal.τ).loc Cert.AdamwIdeal.main_arg58)
      ∧ r.2.mem ((c.tc : Thread Cert.AdamwIdeal.nD Cert.AdamwIdeal.τ).loc Cert.AdamwIdeal.main_arg59) = m ((c.tc : Thread Cert.AdamwIdeal.nD Cert.AdamwIdeal.τ).loc Cert.AdamwIdeal.main_arg59))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6)
      ∧ r.2.mem ((c.tc : Thread Cert.AdamwRefIdeal.nD Cert.AdamwRefIdeal.τ).loc Cert.AdamwRefIdeal.main_arg7) = m ((c.tc : Thread Cert.AdamwRefIdeal.nD Cert.AdamwRefIdeal.τ).loc Cert.AdamwRefIdeal.main_arg7)
      ∧ r.2.mem ((c.tc : Thread Cert.AdamwRefIdeal.nD Cert.AdamwRefIdeal.τ).loc Cert.AdamwRefIdeal.main_arg8) = m ((c.tc : Thread Cert.AdamwRefIdeal.nD Cert.AdamwRefIdeal.τ).loc Cert.AdamwRefIdeal.main_arg8)
      ∧ r.2.mem ((c.tc : Thread Cert.AdamwRefIdeal.nD Cert.AdamwRefIdeal.τ).loc Cert.AdamwRefIdeal.main_arg9) = m ((c.tc : Thread Cert.AdamwRefIdeal.nD Cert.AdamwRefIdeal.τ).loc Cert.AdamwRefIdeal.main_arg9)
      ∧ r.2.mem ((c.tc : Thread Cert.AdamwRefIdeal.nD Cert.AdamwRefIdeal.τ).loc Cert.AdamwRefIdeal.main_arg10) = m ((c.tc : Thread Cert.AdamwRefIdeal.nD Cert.AdamwRefIdeal.τ).loc Cert.AdamwRefIdeal.main_arg10)
      ∧ r.2.mem ((c.tc : Thread Cert.AdamwRefIdeal.nD Cert.AdamwRefIdeal.τ).loc Cert.AdamwRefIdeal.main_arg11) = m ((c.tc : Thread Cert.AdamwRefIdeal.nD Cert.AdamwRefIdeal.τ).loc Cert.AdamwRefIdeal.main_arg11)
      ∧ r.2.mem ((c.tc : Thread Cert.AdamwRefIdeal.nD Cert.AdamwRefIdeal.τ).loc Cert.AdamwRefIdeal.main_arg12) = m ((c.tc : Thread Cert.AdamwRefIdeal.nD Cert.AdamwRefIdeal.τ).loc Cert.AdamwRefIdeal.main_arg12)
      ∧ r.2.mem ((c.tc : Thread Cert.AdamwRefIdeal.nD Cert.AdamwRefIdeal.τ).loc Cert.AdamwRefIdeal.main_arg13) = m ((c.tc : Thread Cert.AdamwRefIdeal.nD Cert.AdamwRefIdeal.τ).loc Cert.AdamwRefIdeal.main_arg13)
      ∧ r.2.mem ((c.tc : Thread Cert.AdamwRefIdeal.nD Cert.AdamwRefIdeal.τ).loc Cert.AdamwRefIdeal.main_arg14) = m ((c.tc : Thread Cert.AdamwRefIdeal.nD Cert.AdamwRefIdeal.τ).loc Cert.AdamwRefIdeal.main_arg14)
      ∧ r.2.mem ((c.tc : Thread Cert.AdamwRefIdeal.nD Cert.AdamwRefIdeal.τ).loc Cert.AdamwRefIdeal.main_arg15) = m ((c.tc : Thread Cert.AdamwRefIdeal.nD Cert.AdamwRefIdeal.τ).loc Cert.AdamwRefIdeal.main_arg15)
      ∧ r.2.mem ((c.tc : Thread Cert.AdamwRefIdeal.nD Cert.AdamwRefIdeal.τ).loc Cert.AdamwRefIdeal.main_arg16) = m ((c.tc : Thread Cert.AdamwRefIdeal.nD Cert.AdamwRefIdeal.τ).loc Cert.AdamwRefIdeal.main_arg16)
      ∧ r.2.mem ((c.tc : Thread Cert.AdamwRefIdeal.nD Cert.AdamwRefIdeal.τ).loc Cert.AdamwRefIdeal.main_arg17) = m ((c.tc : Thread Cert.AdamwRefIdeal.nD Cert.AdamwRefIdeal.τ).loc Cert.AdamwRefIdeal.main_arg17)
      ∧ r.2.mem ((c.tc : Thread Cert.AdamwRefIdeal.nD Cert.AdamwRefIdeal.τ).loc Cert.AdamwRefIdeal.main_arg18) = m ((c.tc : Thread Cert.AdamwRefIdeal.nD Cert.AdamwRefIdeal.τ).loc Cert.AdamwRefIdeal.main_arg18)
      ∧ r.2.mem ((c.tc : Thread Cert.AdamwRefIdeal.nD Cert.AdamwRefIdeal.τ).loc Cert.AdamwRefIdeal.main_arg19) = m ((c.tc : Thread Cert.AdamwRefIdeal.nD Cert.AdamwRefIdeal.τ).loc Cert.AdamwRefIdeal.main_arg19)
      ∧ r.2.mem ((c.tc : Thread Cert.AdamwRefIdeal.nD Cert.AdamwRefIdeal.τ).loc Cert.AdamwRefIdeal.main_arg20) = m ((c.tc : Thread Cert.AdamwRefIdeal.nD Cert.AdamwRefIdeal.τ).loc Cert.AdamwRefIdeal.main_arg20)
      ∧ r.2.mem ((c.tc : Thread Cert.AdamwRefIdeal.nD Cert.AdamwRefIdeal.τ).loc Cert.AdamwRefIdeal.main_arg21) = m ((c.tc : Thread Cert.AdamwRefIdeal.nD Cert.AdamwRefIdeal.τ).loc Cert.AdamwRefIdeal.main_arg21)
      ∧ r.2.mem ((c.tc : Thread Cert.AdamwRefIdeal.nD Cert.AdamwRefIdeal.τ).loc Cert.AdamwRefIdeal.main_arg22) = m ((c.tc : Thread Cert.AdamwRefIdeal.nD Cert.AdamwRefIdeal.τ).loc Cert.AdamwRefIdeal.main_arg22)
      ∧ r.2.mem ((c.tc : Thread Cert.AdamwRefIdeal.nD Cert.AdamwRefIdeal.τ).loc Cert.AdamwRefIdeal.main_arg23) = m ((c.tc : Thread Cert.AdamwRefIdeal.nD Cert.AdamwRefIdeal.τ).loc Cert.AdamwRefIdeal.main_arg23)
      ∧ r.2.mem ((c.tc : Thread Cert.AdamwRefIdeal.nD Cert.AdamwRefIdeal.τ).loc Cert.AdamwRefIdeal.main_arg24) = m ((c.tc : Thread Cert.AdamwRefIdeal.nD Cert.AdamwRefIdeal.τ).loc Cert.AdamwRefIdeal.main_arg24)
      ∧ r.2.mem ((c.tc : Thread Cert.AdamwRefIdeal.nD Cert.AdamwRefIdeal.τ).loc Cert.AdamwRefIdeal.main_arg25) = m ((c.tc : Thread Cert.AdamwRefIdeal.nD Cert.AdamwRefIdeal.τ).loc Cert.AdamwRefIdeal.main_arg25)
      ∧ r.2.mem ((c.tc : Thread Cert.AdamwRefIdeal.nD Cert.AdamwRefIdeal.τ).loc Cert.AdamwRefIdeal.main_arg26) = m ((c.tc : Thread Cert.AdamwRefIdeal.nD Cert.AdamwRefIdeal.τ).loc Cert.AdamwRefIdeal.main_arg26)
      ∧ r.2.mem ((c.tc : Thread Cert.AdamwRefIdeal.nD Cert.AdamwRefIdeal.τ).loc Cert.AdamwRefIdeal.main_arg27) = m ((c.tc : Thread Cert.AdamwRefIdeal.nD Cert.AdamwRefIdeal.τ).loc Cert.AdamwRefIdeal.main_arg27)
      ∧ r.2.mem ((c.tc : Thread Cert.AdamwRefIdeal.nD Cert.AdamwRefIdeal.τ).loc Cert.AdamwRefIdeal.main_arg28) = m ((c.tc : Thread Cert.AdamwRefIdeal.nD Cert.AdamwRefIdeal.τ).loc Cert.AdamwRefIdeal.main_arg28)
      ∧ r.2.mem ((c.tc : Thread Cert.AdamwRefIdeal.nD Cert.AdamwRefIdeal.τ).loc Cert.AdamwRefIdeal.main_arg29) = m ((c.tc : Thread Cert.AdamwRefIdeal.nD Cert.AdamwRefIdeal.τ).loc Cert.AdamwRefIdeal.main_arg29)
      ∧ r.2.mem ((c.tc : Thread Cert.AdamwRefIdeal.nD Cert.AdamwRefIdeal.τ).loc Cert.AdamwRefIdeal.main_arg30) = m ((c.tc : Thread Cert.AdamwRefIdeal.nD Cert.AdamwRefIdeal.τ).loc Cert.AdamwRefIdeal.main_arg30)
      ∧ r.2.mem ((c.tc : Thread Cert.AdamwRefIdeal.nD Cert.AdamwRefIdeal.τ).loc Cert.AdamwRefIdeal.main_arg31) = m ((c.tc : Thread Cert.AdamwRefIdeal.nD Cert.AdamwRefIdeal.τ).loc Cert.AdamwRefIdeal.main_arg31)
      ∧ r.2.mem ((c.tc : Thread Cert.AdamwRefIdeal.nD Cert.AdamwRefIdeal.τ).loc Cert.AdamwRefIdeal.main_arg32) = m ((c.tc : Thread Cert.AdamwRefIdeal.nD Cert.AdamwRefIdeal.τ).loc Cert.AdamwRefIdeal.main_arg32)
      ∧ r.2.mem ((c.tc : Thread Cert.AdamwRefIdeal.nD Cert.AdamwRefIdeal.τ).loc Cert.AdamwRefIdeal.main_arg33) = m ((c.tc : Thread Cert.AdamwRefIdeal.nD Cert.AdamwRefIdeal.τ).loc Cert.AdamwRefIdeal.main_arg33)
      ∧ r.2.mem ((c.tc : Thread Cert.AdamwRefIdeal.nD Cert.AdamwRefIdeal.τ).loc Cert.AdamwRefIdeal.main_arg34) = m ((c.tc : Thread Cert.AdamwRefIdeal.nD Cert.AdamwRefIdeal.τ).loc Cert.AdamwRefIdeal.main_arg34)
      ∧ r.2.mem ((c.tc : Thread Cert.AdamwRefIdeal.nD Cert.AdamwRefIdeal.τ).loc Cert.AdamwRefIdeal.main_arg35) = m ((c.tc : Thread Cert.AdamwRefIdeal.nD Cert.AdamwRefIdeal.τ).loc Cert.AdamwRefIdeal.main_arg35)
      ∧ r.2.mem ((c.tc : Thread Cert.AdamwRefIdeal.nD Cert.AdamwRefIdeal.τ).loc Cert.AdamwRefIdeal.main_arg36) = m ((c.tc : Thread Cert.AdamwRefIdeal.nD Cert.AdamwRefIdeal.τ).loc Cert.AdamwRefIdeal.main_arg36)
      ∧ r.2.mem ((c.tc : Thread Cert.AdamwRefIdeal.nD Cert.AdamwRefIdeal.τ).loc Cert.AdamwRefIdeal.main_arg37) = m ((c.tc : Thread Cert.AdamwRefIdeal.nD Cert.AdamwRefIdeal.τ).loc Cert.AdamwRefIdeal.main_arg37)
      ∧ r.2.mem ((c.tc : Thread Cert.AdamwRefIdeal.nD Cert.AdamwRefIdeal.τ).loc Cert.AdamwRefIdeal.main_arg38) = m ((c.tc : Thread Cert.AdamwRefIdeal.nD Cert.AdamwRefIdeal.τ).loc Cert.AdamwRefIdeal.main_arg38)
      ∧ r.2.mem ((c.tc : Thread Cert.AdamwRefIdeal.nD Cert.AdamwRefIdeal.τ).loc Cert.AdamwRefIdeal.main_arg39) = m ((c.tc : Thread Cert.AdamwRefIdeal.nD Cert.AdamwRefIdeal.τ).loc Cert.AdamwRefIdeal.main_arg39)
      ∧ r.2.mem ((c.tc : Thread Cert.AdamwRefIdeal.nD Cert.AdamwRefIdeal.τ).loc Cert.AdamwRefIdeal.main_arg40) = m ((c.tc : Thread Cert.AdamwRefIdeal.nD Cert.AdamwRefIdeal.τ).loc Cert.AdamwRefIdeal.main_arg40)
      ∧ r.2.mem ((c.tc : Thread Cert.AdamwRefIdeal.nD Cert.AdamwRefIdeal.τ).loc Cert.AdamwRefIdeal.main_arg41) = m ((c.tc : Thread Cert.AdamwRefIdeal.nD Cert.AdamwRefIdeal.τ).loc Cert.AdamwRefIdeal.main_arg41)
      ∧ r.2.mem ((c.tc : Thread Cert.AdamwRefIdeal.nD Cert.AdamwRefIdeal.τ).loc Cert.AdamwRefIdeal.main_arg42) = m ((c.tc : Thread Cert.AdamwRefIdeal.nD Cert.AdamwRefIdeal.τ).loc Cert.AdamwRefIdeal.main_arg42)
      ∧ r.2.mem ((c.tc : Thread Cert.AdamwRefIdeal.nD Cert.AdamwRefIdeal.τ).loc Cert.AdamwRefIdeal.main_arg43) = m ((c.tc : Thread Cert.AdamwRefIdeal.nD Cert.AdamwRefIdeal.τ).loc Cert.AdamwRefIdeal.main_arg43)
      ∧ r.2.mem ((c.tc : Thread Cert.AdamwRefIdeal.nD Cert.AdamwRefIdeal.τ).loc Cert.AdamwRefIdeal.main_arg44) = m ((c.tc : Thread Cert.AdamwRefIdeal.nD Cert.AdamwRefIdeal.τ).loc Cert.AdamwRefIdeal.main_arg44)
      ∧ r.2.mem ((c.tc : Thread Cert.AdamwRefIdeal.nD Cert.AdamwRefIdeal.τ).loc Cert.AdamwRefIdeal.main_arg45) = m ((c.tc : Thread Cert.AdamwRefIdeal.nD Cert.AdamwRefIdeal.τ).loc Cert.AdamwRefIdeal.main_arg45)
      ∧ r.2.mem ((c.tc : Thread Cert.AdamwRefIdeal.nD Cert.AdamwRefIdeal.τ).loc Cert.AdamwRefIdeal.main_arg46) = m ((c.tc : Thread Cert.AdamwRefIdeal.nD Cert.AdamwRefIdeal.τ).loc Cert.AdamwRefIdeal.main_arg46)
      ∧ r.2.mem ((c.tc : Thread Cert.AdamwRefIdeal.nD Cert.AdamwRefIdeal.τ).loc Cert.AdamwRefIdeal.main_arg47) = m ((c.tc : Thread Cert.AdamwRefIdeal.nD Cert.AdamwRefIdeal.τ).loc Cert.AdamwRefIdeal.main_arg47)
      ∧ r.2.mem ((c.tc : Thread Cert.AdamwRefIdeal.nD Cert.AdamwRefIdeal.τ).loc Cert.AdamwRefIdeal.main_arg48) = m ((c.tc : Thread Cert.AdamwRefIdeal.nD Cert.AdamwRefIdeal.τ).loc Cert.AdamwRefIdeal.main_arg48)
      ∧ r.2.mem ((c.tc : Thread Cert.AdamwRefIdeal.nD Cert.AdamwRefIdeal.τ).loc Cert.AdamwRefIdeal.main_arg49) = m ((c.tc : Thread Cert.AdamwRefIdeal.nD Cert.AdamwRefIdeal.τ).loc Cert.AdamwRefIdeal.main_arg49)
      ∧ r.2.mem ((c.tc : Thread Cert.AdamwRefIdeal.nD Cert.AdamwRefIdeal.τ).loc Cert.AdamwRefIdeal.main_arg50) = m ((c.tc : Thread Cert.AdamwRefIdeal.nD Cert.AdamwRefIdeal.τ).loc Cert.AdamwRefIdeal.main_arg50)
      ∧ r.2.mem ((c.tc : Thread Cert.AdamwRefIdeal.nD Cert.AdamwRefIdeal.τ).loc Cert.AdamwRefIdeal.main_arg51) = m ((c.tc : Thread Cert.AdamwRefIdeal.nD Cert.AdamwRefIdeal.τ).loc Cert.AdamwRefIdeal.main_arg51)
      ∧ r.2.mem ((c.tc : Thread Cert.AdamwRefIdeal.nD Cert.AdamwRefIdeal.τ).loc Cert.AdamwRefIdeal.main_arg52) = m ((c.tc : Thread Cert.AdamwRefIdeal.nD Cert.AdamwRefIdeal.τ).loc Cert.AdamwRefIdeal.main_arg52)
      ∧ r.2.mem ((c.tc : Thread Cert.AdamwRefIdeal.nD Cert.AdamwRefIdeal.τ).loc Cert.AdamwRefIdeal.main_arg53) = m ((c.tc : Thread Cert.AdamwRefIdeal.nD Cert.AdamwRefIdeal.τ).loc Cert.AdamwRefIdeal.main_arg53)
      ∧ r.2.mem ((c.tc : Thread Cert.AdamwRefIdeal.nD Cert.AdamwRefIdeal.τ).loc Cert.AdamwRefIdeal.main_arg54) = m ((c.tc : Thread Cert.AdamwRefIdeal.nD Cert.AdamwRefIdeal.τ).loc Cert.AdamwRefIdeal.main_arg54)
      ∧ r.2.mem ((c.tc : Thread Cert.AdamwRefIdeal.nD Cert.AdamwRefIdeal.τ).loc Cert.AdamwRefIdeal.main_arg55) = m ((c.tc : Thread Cert.AdamwRefIdeal.nD Cert.AdamwRefIdeal.τ).loc Cert.AdamwRefIdeal.main_arg55)
      ∧ r.2.mem ((c.tc : Thread Cert.AdamwRefIdeal.nD Cert.AdamwRefIdeal.τ).loc Cert.AdamwRefIdeal.main_arg56) = m ((c.tc : Thread Cert.AdamwRefIdeal.nD Cert.AdamwRefIdeal.τ).loc Cert.AdamwRefIdeal.main_arg56)
      ∧ r.2.mem ((c.tc : Thread Cert.AdamwRefIdeal.nD Cert.AdamwRefIdeal.τ).loc Cert.AdamwRefIdeal.main_arg57) = m ((c.tc : Thread Cert.AdamwRefIdeal.nD Cert.AdamwRefIdeal.τ).loc Cert.AdamwRefIdeal.main_arg57)
      ∧ r.2.mem ((c.tc : Thread Cert.AdamwRefIdeal.nD Cert.AdamwRefIdeal.τ).loc Cert.AdamwRefIdeal.main_arg58) = m ((c.tc : Thread Cert.AdamwRefIdeal.nD Cert.AdamwRefIdeal.τ).loc Cert.AdamwRefIdeal.main_arg58)
      ∧ r.2.mem ((c.tc : Thread Cert.AdamwRefIdeal.nD Cert.AdamwRefIdeal.τ).loc Cert.AdamwRefIdeal.main_arg59) = m ((c.tc : Thread Cert.AdamwRefIdeal.nD Cert.AdamwRefIdeal.τ).loc Cert.AdamwRefIdeal.main_arg59))
      ∧ r.2.sem = fun _ => 0)

def quiescent_AdamwLastIdeal [hAdamwLastIdeal : Cert.AdamwLastIdeal.Facts] : Prop :=
  ∀ (m : (ℓ : Loc Cert.AdamwLastIdeal.nD Cert.AdamwLastIdeal.τ Cert.AdamwLastIdeal.sig) → Buf (Elt Ideal) ℓ) (g : Dev Cert.AdamwLastIdeal.nD → PrngReg), Pre_AdamwLastIdeal m →
    θ_run (Cert.AdamwLastIdeal.defs (F := Ideal)) (onTc (τ := Cert.AdamwLastIdeal.τ) (Cert.AdamwLastIdeal.main (F := Ideal))) ⟨m, fun _ => 0, g⟩ (fun r => (∀ c : Dev Cert.AdamwLastIdeal.nD,
      r.2.mem ((c.tc : Thread Cert.AdamwLastIdeal.nD Cert.AdamwLastIdeal.τ).loc Cert.AdamwLastIdeal.main_arg0) = m ((c.tc : Thread Cert.AdamwLastIdeal.nD Cert.AdamwLastIdeal.τ).loc Cert.AdamwLastIdeal.main_arg0)
      ∧ r.2.mem ((c.tc : Thread Cert.AdamwLastIdeal.nD Cert.AdamwLastIdeal.τ).loc Cert.AdamwLastIdeal.main_arg1) = m ((c.tc : Thread Cert.AdamwLastIdeal.nD Cert.AdamwLastIdeal.τ).loc Cert.AdamwLastIdeal.main_arg1)
      ∧ r.2.mem ((c.tc : Thread Cert.AdamwLastIdeal.nD Cert.AdamwLastIdeal.τ).loc Cert.AdamwLastIdeal.main_arg2) = m ((c.tc : Thread Cert.AdamwLastIdeal.nD Cert.AdamwLastIdeal.τ).loc Cert.AdamwLastIdeal.main_arg2)
      ∧ r.2.mem ((c.tc : Thread Cert.AdamwLastIdeal.nD Cert.AdamwLastIdeal.τ).loc Cert.AdamwLastIdeal.main_arg3) = m ((c.tc : Thread Cert.AdamwLastIdeal.nD Cert.AdamwLastIdeal.τ).loc Cert.AdamwLastIdeal.main_arg3)
      ∧ r.2.mem ((c.tc : Thread Cert.AdamwLastIdeal.nD Cert.AdamwLastIdeal.τ).loc Cert.AdamwLastIdeal.main_arg4) = m ((c.tc : Thread Cert.AdamwLastIdeal.nD Cert.AdamwLastIdeal.τ).loc Cert.AdamwLastIdeal.main_arg4)
      ∧ r.2.mem ((c.tc : Thread Cert.AdamwLastIdeal.nD Cert.AdamwLastIdeal.τ).loc Cert.AdamwLastIdeal.main_arg5) = m ((c.tc : Thread Cert.AdamwLastIdeal.nD Cert.AdamwLastIdeal.τ).loc Cert.AdamwLastIdeal.main_arg5)
      ∧ r.2.mem ((c.tc : Thread Cert.AdamwLastIdeal.nD Cert.AdamwLastIdeal.τ).loc Cert.AdamwLastIdeal.main_arg6) = m ((c.tc : Thread Cert.AdamwLastIdeal.nD Cert.AdamwLastIdeal.τ).loc Cert.AdamwLastIdeal.main_arg6)
      ∧ r.2.mem ((c.tc : Thread Cert.AdamwLastIdeal.nD Cert.AdamwLastIdeal.τ).loc Cert.AdamwLastIdeal.main_arg7) = m ((c.tc : Thread Cert.AdamwLastIdeal.nD Cert.AdamwLastIdeal.τ).loc Cert.AdamwLastIdeal.main_arg7)
      ∧ r.2.mem ((c.tc : Thread Cert.AdamwLastIdeal.nD Cert.AdamwLastIdeal.τ).loc Cert.AdamwLastIdeal.main_arg8) = m ((c.tc : Thread Cert.AdamwLastIdeal.nD Cert.AdamwLastIdeal.τ).loc Cert.AdamwLastIdeal.main_arg8)
      ∧ r.2.mem ((c.tc : Thread Cert.AdamwLastIdeal.nD Cert.AdamwLastIdeal.τ).loc Cert.AdamwLastIdeal.main_arg9) = m ((c.tc : Thread Cert.AdamwLastIdeal.nD Cert.AdamwLastIdeal.τ).loc Cert.AdamwLastIdeal.main_arg9)
      ∧ r.2.mem ((c.tc : Thread Cert.AdamwLastIdeal.nD Cert.AdamwLastIdeal.τ).loc Cert.AdamwLastIdeal.main_arg10) = m ((c.tc : Thread Cert.AdamwLastIdeal.nD Cert.AdamwLastIdeal.τ).loc Cert.AdamwLastIdeal.main_arg10)
      ∧ r.2.mem ((c.tc : Thread Cert.AdamwLastIdeal.nD Cert.AdamwLastIdeal.τ).loc Cert.AdamwLastIdeal.main_arg11) = m ((c.tc : Thread Cert.AdamwLastIdeal.nD Cert.AdamwLastIdeal.τ).loc Cert.AdamwLastIdeal.main_arg11)
      ∧ r.2.mem ((c.tc : Thread Cert.AdamwLastIdeal.nD Cert.AdamwLastIdeal.τ).loc Cert.AdamwLastIdeal.main_arg12) = m ((c.tc : Thread Cert.AdamwLastIdeal.nD Cert.AdamwLastIdeal.τ).loc Cert.AdamwLastIdeal.main_arg12)
      ∧ r.2.mem ((c.tc : Thread Cert.AdamwLastIdeal.nD Cert.AdamwLastIdeal.τ).loc Cert.AdamwLastIdeal.main_arg13) = m ((c.tc : Thread Cert.AdamwLastIdeal.nD Cert.AdamwLastIdeal.τ).loc Cert.AdamwLastIdeal.main_arg13)
      ∧ r.2.mem ((c.tc : Thread Cert.AdamwLastIdeal.nD Cert.AdamwLastIdeal.τ).loc Cert.AdamwLastIdeal.main_arg14) = m ((c.tc : Thread Cert.AdamwLastIdeal.nD Cert.AdamwLastIdeal.τ).loc Cert.AdamwLastIdeal.main_arg14)
      ∧ r.2.mem ((c.tc : Thread Cert.AdamwLastIdeal.nD Cert.AdamwLastIdeal.τ).loc Cert.AdamwLastIdeal.main_arg15) = m ((c.tc : Thread Cert.AdamwLastIdeal.nD Cert.AdamwLastIdeal.τ).loc Cert.AdamwLastIdeal.main_arg15)
      ∧ r.2.mem ((c.tc : Thread Cert.AdamwLastIdeal.nD Cert.AdamwLastIdeal.τ).loc Cert.AdamwLastIdeal.main_arg16) = m ((c.tc : Thread Cert.AdamwLastIdeal.nD Cert.AdamwLastIdeal.τ).loc Cert.AdamwLastIdeal.main_arg16)
      ∧ r.2.mem ((c.tc : Thread Cert.AdamwLastIdeal.nD Cert.AdamwLastIdeal.τ).loc Cert.AdamwLastIdeal.main_arg17) = m ((c.tc : Thread Cert.AdamwLastIdeal.nD Cert.AdamwLastIdeal.τ).loc Cert.AdamwLastIdeal.main_arg17)
      ∧ r.2.mem ((c.tc : Thread Cert.AdamwLastIdeal.nD Cert.AdamwLastIdeal.τ).loc Cert.AdamwLastIdeal.main_arg18) = m ((c.tc : Thread Cert.AdamwLastIdeal.nD Cert.AdamwLastIdeal.τ).loc Cert.AdamwLastIdeal.main_arg18)
      ∧ r.2.mem ((c.tc : Thread Cert.AdamwLastIdeal.nD Cert.AdamwLastIdeal.τ).loc Cert.AdamwLastIdeal.main_arg19) = m ((c.tc : Thread Cert.AdamwLastIdeal.nD Cert.AdamwLastIdeal.τ).loc Cert.AdamwLastIdeal.main_arg19)
      ∧ r.2.mem ((c.tc : Thread Cert.AdamwLastIdeal.nD Cert.AdamwLastIdeal.τ).loc Cert.AdamwLastIdeal.main_arg20) = m ((c.tc : Thread Cert.AdamwLastIdeal.nD Cert.AdamwLastIdeal.τ).loc Cert.AdamwLastIdeal.main_arg20)
      ∧ r.2.mem ((c.tc : Thread Cert.AdamwLastIdeal.nD Cert.AdamwLastIdeal.τ).loc Cert.AdamwLastIdeal.main_arg21) = m ((c.tc : Thread Cert.AdamwLastIdeal.nD Cert.AdamwLastIdeal.τ).loc Cert.AdamwLastIdeal.main_arg21)
      ∧ r.2.mem ((c.tc : Thread Cert.AdamwLastIdeal.nD Cert.AdamwLastIdeal.τ).loc Cert.AdamwLastIdeal.main_arg22) = m ((c.tc : Thread Cert.AdamwLastIdeal.nD Cert.AdamwLastIdeal.τ).loc Cert.AdamwLastIdeal.main_arg22)
      ∧ r.2.mem ((c.tc : Thread Cert.AdamwLastIdeal.nD Cert.AdamwLastIdeal.τ).loc Cert.AdamwLastIdeal.main_arg23) = m ((c.tc : Thread Cert.AdamwLastIdeal.nD Cert.AdamwLastIdeal.τ).loc Cert.AdamwLastIdeal.main_arg23)
      ∧ r.2.mem ((c.tc : Thread Cert.AdamwLastIdeal.nD Cert.AdamwLastIdeal.τ).loc Cert.AdamwLastIdeal.main_arg24) = m ((c.tc : Thread Cert.AdamwLastIdeal.nD Cert.AdamwLastIdeal.τ).loc Cert.AdamwLastIdeal.main_arg24)
      ∧ r.2.mem ((c.tc : Thread Cert.AdamwLastIdeal.nD Cert.AdamwLastIdeal.τ).loc Cert.AdamwLastIdeal.main_arg25) = m ((c.tc : Thread Cert.AdamwLastIdeal.nD Cert.AdamwLastIdeal.τ).loc Cert.AdamwLastIdeal.main_arg25)
      ∧ r.2.mem ((c.tc : Thread Cert.AdamwLastIdeal.nD Cert.AdamwLastIdeal.τ).loc Cert.AdamwLastIdeal.main_arg26) = m ((c.tc : Thread Cert.AdamwLastIdeal.nD Cert.AdamwLastIdeal.τ).loc Cert.AdamwLastIdeal.main_arg26)
      ∧ r.2.mem ((c.tc : Thread Cert.AdamwLastIdeal.nD Cert.AdamwLastIdeal.τ).loc Cert.AdamwLastIdeal.main_arg27) = m ((c.tc : Thread Cert.AdamwLastIdeal.nD Cert.AdamwLastIdeal.τ).loc Cert.AdamwLastIdeal.main_arg27)
      ∧ r.2.mem ((c.tc : Thread Cert.AdamwLastIdeal.nD Cert.AdamwLastIdeal.τ).loc Cert.AdamwLastIdeal.main_arg28) = m ((c.tc : Thread Cert.AdamwLastIdeal.nD Cert.AdamwLastIdeal.τ).loc Cert.AdamwLastIdeal.main_arg28)
      ∧ r.2.mem ((c.tc : Thread Cert.AdamwLastIdeal.nD Cert.AdamwLastIdeal.τ).loc Cert.AdamwLastIdeal.main_arg29) = m ((c.tc : Thread Cert.AdamwLastIdeal.nD Cert.AdamwLastIdeal.τ).loc Cert.AdamwLastIdeal.main_arg29)
      ∧ r.2.mem ((c.tc : Thread Cert.AdamwLastIdeal.nD Cert.AdamwLastIdeal.τ).loc Cert.AdamwLastIdeal.main_arg30) = m ((c.tc : Thread Cert.AdamwLastIdeal.nD Cert.AdamwLastIdeal.τ).loc Cert.AdamwLastIdeal.main_arg30)
      ∧ r.2.mem ((c.tc : Thread Cert.AdamwLastIdeal.nD Cert.AdamwLastIdeal.τ).loc Cert.AdamwLastIdeal.main_arg31) = m ((c.tc : Thread Cert.AdamwLastIdeal.nD Cert.AdamwLastIdeal.τ).loc Cert.AdamwLastIdeal.main_arg31)
      ∧ r.2.mem ((c.tc : Thread Cert.AdamwLastIdeal.nD Cert.AdamwLastIdeal.τ).loc Cert.AdamwLastIdeal.main_arg32) = m ((c.tc : Thread Cert.AdamwLastIdeal.nD Cert.AdamwLastIdeal.τ).loc Cert.AdamwLastIdeal.main_arg32)
      ∧ r.2.mem ((c.tc : Thread Cert.AdamwLastIdeal.nD Cert.AdamwLastIdeal.τ).loc Cert.AdamwLastIdeal.main_arg33) = m ((c.tc : Thread Cert.AdamwLastIdeal.nD Cert.AdamwLastIdeal.τ).loc Cert.AdamwLastIdeal.main_arg33)
      ∧ r.2.mem ((c.tc : Thread Cert.AdamwLastIdeal.nD Cert.AdamwLastIdeal.τ).loc Cert.AdamwLastIdeal.main_arg34) = m ((c.tc : Thread Cert.AdamwLastIdeal.nD Cert.AdamwLastIdeal.τ).loc Cert.AdamwLastIdeal.main_arg34)
      ∧ r.2.mem ((c.tc : Thread Cert.AdamwLastIdeal.nD Cert.AdamwLastIdeal.τ).loc Cert.AdamwLastIdeal.main_arg35) = m ((c.tc : Thread Cert.AdamwLastIdeal.nD Cert.AdamwLastIdeal.τ).loc Cert.AdamwLastIdeal.main_arg35)
      ∧ r.2.mem ((c.tc : Thread Cert.AdamwLastIdeal.nD Cert.AdamwLastIdeal.τ).loc Cert.AdamwLastIdeal.main_arg36) = m ((c.tc : Thread Cert.AdamwLastIdeal.nD Cert.AdamwLastIdeal.τ).loc Cert.AdamwLastIdeal.main_arg36)
      ∧ r.2.mem ((c.tc : Thread Cert.AdamwLastIdeal.nD Cert.AdamwLastIdeal.τ).loc Cert.AdamwLastIdeal.main_arg37) = m ((c.tc : Thread Cert.AdamwLastIdeal.nD Cert.AdamwLastIdeal.τ).loc Cert.AdamwLastIdeal.main_arg37)
      ∧ r.2.mem ((c.tc : Thread Cert.AdamwLastIdeal.nD Cert.AdamwLastIdeal.τ).loc Cert.AdamwLastIdeal.main_arg38) = m ((c.tc : Thread Cert.AdamwLastIdeal.nD Cert.AdamwLastIdeal.τ).loc Cert.AdamwLastIdeal.main_arg38)
      ∧ r.2.mem ((c.tc : Thread Cert.AdamwLastIdeal.nD Cert.AdamwLastIdeal.τ).loc Cert.AdamwLastIdeal.main_arg39) = m ((c.tc : Thread Cert.AdamwLastIdeal.nD Cert.AdamwLastIdeal.τ).loc Cert.AdamwLastIdeal.main_arg39)
      ∧ r.2.mem ((c.tc : Thread Cert.AdamwLastIdeal.nD Cert.AdamwLastIdeal.τ).loc Cert.AdamwLastIdeal.main_arg40) = m ((c.tc : Thread Cert.AdamwLastIdeal.nD Cert.AdamwLastIdeal.τ).loc Cert.AdamwLastIdeal.main_arg40)
      ∧ r.2.mem ((c.tc : Thread Cert.AdamwLastIdeal.nD Cert.AdamwLastIdeal.τ).loc Cert.AdamwLastIdeal.main_arg41) = m ((c.tc : Thread Cert.AdamwLastIdeal.nD Cert.AdamwLastIdeal.τ).loc Cert.AdamwLastIdeal.main_arg41)
      ∧ r.2.mem ((c.tc : Thread Cert.AdamwLastIdeal.nD Cert.AdamwLastIdeal.τ).loc Cert.AdamwLastIdeal.main_arg42) = m ((c.tc : Thread Cert.AdamwLastIdeal.nD Cert.AdamwLastIdeal.τ).loc Cert.AdamwLastIdeal.main_arg42)
      ∧ r.2.mem ((c.tc : Thread Cert.AdamwLastIdeal.nD Cert.AdamwLastIdeal.τ).loc Cert.AdamwLastIdeal.main_arg43) = m ((c.tc : Thread Cert.AdamwLastIdeal.nD Cert.AdamwLastIdeal.τ).loc Cert.AdamwLastIdeal.main_arg43)
      ∧ r.2.mem ((c.tc : Thread Cert.AdamwLastIdeal.nD Cert.AdamwLastIdeal.τ).loc Cert.AdamwLastIdeal.main_arg44) = m ((c.tc : Thread Cert.AdamwLastIdeal.nD Cert.AdamwLastIdeal.τ).loc Cert.AdamwLastIdeal.main_arg44)
      ∧ r.2.mem ((c.tc : Thread Cert.AdamwLastIdeal.nD Cert.AdamwLastIdeal.τ).loc Cert.AdamwLastIdeal.main_arg45) = m ((c.tc : Thread Cert.AdamwLastIdeal.nD Cert.AdamwLastIdeal.τ).loc Cert.AdamwLastIdeal.main_arg45)
      ∧ r.2.mem ((c.tc : Thread Cert.AdamwLastIdeal.nD Cert.AdamwLastIdeal.τ).loc Cert.AdamwLastIdeal.main_arg46) = m ((c.tc : Thread Cert.AdamwLastIdeal.nD Cert.AdamwLastIdeal.τ).loc Cert.AdamwLastIdeal.main_arg46)
      ∧ r.2.mem ((c.tc : Thread Cert.AdamwLastIdeal.nD Cert.AdamwLastIdeal.τ).loc Cert.AdamwLastIdeal.main_arg47) = m ((c.tc : Thread Cert.AdamwLastIdeal.nD Cert.AdamwLastIdeal.τ).loc Cert.AdamwLastIdeal.main_arg47)
      ∧ r.2.mem ((c.tc : Thread Cert.AdamwLastIdeal.nD Cert.AdamwLastIdeal.τ).loc Cert.AdamwLastIdeal.main_arg48) = m ((c.tc : Thread Cert.AdamwLastIdeal.nD Cert.AdamwLastIdeal.τ).loc Cert.AdamwLastIdeal.main_arg48)
      ∧ r.2.mem ((c.tc : Thread Cert.AdamwLastIdeal.nD Cert.AdamwLastIdeal.τ).loc Cert.AdamwLastIdeal.main_arg49) = m ((c.tc : Thread Cert.AdamwLastIdeal.nD Cert.AdamwLastIdeal.τ).loc Cert.AdamwLastIdeal.main_arg49)
      ∧ r.2.mem ((c.tc : Thread Cert.AdamwLastIdeal.nD Cert.AdamwLastIdeal.τ).loc Cert.AdamwLastIdeal.main_arg50) = m ((c.tc : Thread Cert.AdamwLastIdeal.nD Cert.AdamwLastIdeal.τ).loc Cert.AdamwLastIdeal.main_arg50)
      ∧ r.2.mem ((c.tc : Thread Cert.AdamwLastIdeal.nD Cert.AdamwLastIdeal.τ).loc Cert.AdamwLastIdeal.main_arg51) = m ((c.tc : Thread Cert.AdamwLastIdeal.nD Cert.AdamwLastIdeal.τ).loc Cert.AdamwLastIdeal.main_arg51)
      ∧ r.2.mem ((c.tc : Thread Cert.AdamwLastIdeal.nD Cert.AdamwLastIdeal.τ).loc Cert.AdamwLastIdeal.main_arg52) = m ((c.tc : Thread Cert.AdamwLastIdeal.nD Cert.AdamwLastIdeal.τ).loc Cert.AdamwLastIdeal.main_arg52)
      ∧ r.2.mem ((c.tc : Thread Cert.AdamwLastIdeal.nD Cert.AdamwLastIdeal.τ).loc Cert.AdamwLastIdeal.main_arg53) = m ((c.tc : Thread Cert.AdamwLastIdeal.nD Cert.AdamwLastIdeal.τ).loc Cert.AdamwLastIdeal.main_arg53)
      ∧ r.2.mem ((c.tc : Thread Cert.AdamwLastIdeal.nD Cert.AdamwLastIdeal.τ).loc Cert.AdamwLastIdeal.main_arg54) = m ((c.tc : Thread Cert.AdamwLastIdeal.nD Cert.AdamwLastIdeal.τ).loc Cert.AdamwLastIdeal.main_arg54)
      ∧ r.2.mem ((c.tc : Thread Cert.AdamwLastIdeal.nD Cert.AdamwLastIdeal.τ).loc Cert.AdamwLastIdeal.main_arg55) = m ((c.tc : Thread Cert.AdamwLastIdeal.nD Cert.AdamwLastIdeal.τ).loc Cert.AdamwLastIdeal.main_arg55)
      ∧ r.2.mem ((c.tc : Thread Cert.AdamwLastIdeal.nD Cert.AdamwLastIdeal.τ).loc Cert.AdamwLastIdeal.main_arg56) = m ((c.tc : Thread Cert.AdamwLastIdeal.nD Cert.AdamwLastIdeal.τ).loc Cert.AdamwLastIdeal.main_arg56)
      ∧ r.2.mem ((c.tc : Thread Cert.AdamwLastIdeal.nD Cert.AdamwLastIdeal.τ).loc Cert.AdamwLastIdeal.main_arg57) = m ((c.tc : Thread Cert.AdamwLastIdeal.nD Cert.AdamwLastIdeal.τ).loc Cert.AdamwLastIdeal.main_arg57)
      ∧ r.2.mem ((c.tc : Thread Cert.AdamwLastIdeal.nD Cert.AdamwLastIdeal.τ).loc Cert.AdamwLastIdeal.main_arg58) = m ((c.tc : Thread Cert.AdamwLastIdeal.nD Cert.AdamwLastIdeal.τ).loc Cert.AdamwLastIdeal.main_arg58)
      ∧ r.2.mem ((c.tc : Thread Cert.AdamwLastIdeal.nD Cert.AdamwLastIdeal.τ).loc Cert.AdamwLastIdeal.main_arg59) = m ((c.tc : Thread Cert.AdamwLastIdeal.nD Cert.AdamwLastIdeal.τ).loc Cert.AdamwLastIdeal.main_arg59))
      ∧ r.2.sem = fun _ => 0)

def quiescent_AdamwLastRefIdeal [hAdamwLastRefIdeal : Cert.AdamwLastRefIdeal.Facts] : Prop :=
  ∀ (m : (ℓ : Loc Cert.AdamwLastRefIdeal.nD Cert.AdamwLastRefIdeal.τ Cert.AdamwLastRefIdeal.sig) → Buf (Elt Ideal) ℓ) (g : Dev Cert.AdamwLastRefIdeal.nD → PrngReg), Pre_AdamwLastRefIdeal m →
    θ_run (Cert.AdamwLastRefIdeal.defs (F := Ideal)) (onTc (τ := Cert.AdamwLastRefIdeal.τ) (Cert.AdamwLastRefIdeal.main (F := Ideal))) ⟨m, fun _ => 0, g⟩ (fun r => (∀ c : Dev Cert.AdamwLastRefIdeal.nD,
      r.2.mem ((c.tc : Thread Cert.AdamwLastRefIdeal.nD Cert.AdamwLastRefIdeal.τ).loc Cert.AdamwLastRefIdeal.main_arg0) = m ((c.tc : Thread Cert.AdamwLastRefIdeal.nD Cert.AdamwLastRefIdeal.τ).loc Cert.AdamwLastRefIdeal.main_arg0)
      ∧ r.2.mem ((c.tc : Thread Cert.AdamwLastRefIdeal.nD Cert.AdamwLastRefIdeal.τ).loc Cert.AdamwLastRefIdeal.main_arg1) = m ((c.tc : Thread Cert.AdamwLastRefIdeal.nD Cert.AdamwLastRefIdeal.τ).loc Cert.AdamwLastRefIdeal.main_arg1)
      ∧ r.2.mem ((c.tc : Thread Cert.AdamwLastRefIdeal.nD Cert.AdamwLastRefIdeal.τ).loc Cert.AdamwLastRefIdeal.main_arg2) = m ((c.tc : Thread Cert.AdamwLastRefIdeal.nD Cert.AdamwLastRefIdeal.τ).loc Cert.AdamwLastRefIdeal.main_arg2)
      ∧ r.2.mem ((c.tc : Thread Cert.AdamwLastRefIdeal.nD Cert.AdamwLastRefIdeal.τ).loc Cert.AdamwLastRefIdeal.main_arg3) = m ((c.tc : Thread Cert.AdamwLastRefIdeal.nD Cert.AdamwLastRefIdeal.τ).loc Cert.AdamwLastRefIdeal.main_arg3)
      ∧ r.2.mem ((c.tc : Thread Cert.AdamwLastRefIdeal.nD Cert.AdamwLastRefIdeal.τ).loc Cert.AdamwLastRefIdeal.main_arg4) = m ((c.tc : Thread Cert.AdamwLastRefIdeal.nD Cert.AdamwLastRefIdeal.τ).loc Cert.AdamwLastRefIdeal.main_arg4)
      ∧ r.2.mem ((c.tc : Thread Cert.AdamwLastRefIdeal.nD Cert.AdamwLastRefIdeal.τ).loc Cert.AdamwLastRefIdeal.main_arg5) = m ((c.tc : Thread Cert.AdamwLastRefIdeal.nD Cert.AdamwLastRefIdeal.τ).loc Cert.AdamwLastRefIdeal.main_arg5)
      ∧ r.2.mem ((c.tc : Thread Cert.AdamwLastRefIdeal.nD Cert.AdamwLastRefIdeal.τ).loc Cert.AdamwLastRefIdeal.main_arg6) = m ((c.tc : Thread Cert.AdamwLastRefIdeal.nD Cert.AdamwLastRefIdeal.τ).loc Cert.AdamwLastRefIdeal.main_arg6)
      ∧ r.2.mem ((c.tc : Thread Cert.AdamwLastRefIdeal.nD Cert.AdamwLastRefIdeal.τ).loc Cert.AdamwLastRefIdeal.main_arg7) = m ((c.tc : Thread Cert.AdamwLastRefIdeal.nD Cert.AdamwLastRefIdeal.τ).loc Cert.AdamwLastRefIdeal.main_arg7)
      ∧ r.2.mem ((c.tc : Thread Cert.AdamwLastRefIdeal.nD Cert.AdamwLastRefIdeal.τ).loc Cert.AdamwLastRefIdeal.main_arg8) = m ((c.tc : Thread Cert.AdamwLastRefIdeal.nD Cert.AdamwLastRefIdeal.τ).loc Cert.AdamwLastRefIdeal.main_arg8)
      ∧ r.2.mem ((c.tc : Thread Cert.AdamwLastRefIdeal.nD Cert.AdamwLastRefIdeal.τ).loc Cert.AdamwLastRefIdeal.main_arg9) = m ((c.tc : Thread Cert.AdamwLastRefIdeal.nD Cert.AdamwLastRefIdeal.τ).loc Cert.AdamwLastRefIdeal.main_arg9)
      ∧ r.2.mem ((c.tc : Thread Cert.AdamwLastRefIdeal.nD Cert.AdamwLastRefIdeal.τ).loc Cert.AdamwLastRefIdeal.main_arg10) = m ((c.tc : Thread Cert.AdamwLastRefIdeal.nD Cert.AdamwLastRefIdeal.τ).loc Cert.AdamwLastRefIdeal.main_arg10)
      ∧ r.2.mem ((c.tc : Thread Cert.AdamwLastRefIdeal.nD Cert.AdamwLastRefIdeal.τ).loc Cert.AdamwLastRefIdeal.main_arg11) = m ((c.tc : Thread Cert.AdamwLastRefIdeal.nD Cert.AdamwLastRefIdeal.τ).loc Cert.AdamwLastRefIdeal.main_arg11)
      ∧ r.2.mem ((c.tc : Thread Cert.AdamwLastRefIdeal.nD Cert.AdamwLastRefIdeal.τ).loc Cert.AdamwLastRefIdeal.main_arg12) = m ((c.tc : Thread Cert.AdamwLastRefIdeal.nD Cert.AdamwLastRefIdeal.τ).loc Cert.AdamwLastRefIdeal.main_arg12)
      ∧ r.2.mem ((c.tc : Thread Cert.AdamwLastRefIdeal.nD Cert.AdamwLastRefIdeal.τ).loc Cert.AdamwLastRefIdeal.main_arg13) = m ((c.tc : Thread Cert.AdamwLastRefIdeal.nD Cert.AdamwLastRefIdeal.τ).loc Cert.AdamwLastRefIdeal.main_arg13)
      ∧ r.2.mem ((c.tc : Thread Cert.AdamwLastRefIdeal.nD Cert.AdamwLastRefIdeal.τ).loc Cert.AdamwLastRefIdeal.main_arg14) = m ((c.tc : Thread Cert.AdamwLastRefIdeal.nD Cert.AdamwLastRefIdeal.τ).loc Cert.AdamwLastRefIdeal.main_arg14)
      ∧ r.2.mem ((c.tc : Thread Cert.AdamwLastRefIdeal.nD Cert.AdamwLastRefIdeal.τ).loc Cert.AdamwLastRefIdeal.main_arg15) = m ((c.tc : Thread Cert.AdamwLastRefIdeal.nD Cert.AdamwLastRefIdeal.τ).loc Cert.AdamwLastRefIdeal.main_arg15)
      ∧ r.2.mem ((c.tc : Thread Cert.AdamwLastRefIdeal.nD Cert.AdamwLastRefIdeal.τ).loc Cert.AdamwLastRefIdeal.main_arg16) = m ((c.tc : Thread Cert.AdamwLastRefIdeal.nD Cert.AdamwLastRefIdeal.τ).loc Cert.AdamwLastRefIdeal.main_arg16)
      ∧ r.2.mem ((c.tc : Thread Cert.AdamwLastRefIdeal.nD Cert.AdamwLastRefIdeal.τ).loc Cert.AdamwLastRefIdeal.main_arg17) = m ((c.tc : Thread Cert.AdamwLastRefIdeal.nD Cert.AdamwLastRefIdeal.τ).loc Cert.AdamwLastRefIdeal.main_arg17)
      ∧ r.2.mem ((c.tc : Thread Cert.AdamwLastRefIdeal.nD Cert.AdamwLastRefIdeal.τ).loc Cert.AdamwLastRefIdeal.main_arg18) = m ((c.tc : Thread Cert.AdamwLastRefIdeal.nD Cert.AdamwLastRefIdeal.τ).loc Cert.AdamwLastRefIdeal.main_arg18)
      ∧ r.2.mem ((c.tc : Thread Cert.AdamwLastRefIdeal.nD Cert.AdamwLastRefIdeal.τ).loc Cert.AdamwLastRefIdeal.main_arg19) = m ((c.tc : Thread Cert.AdamwLastRefIdeal.nD Cert.AdamwLastRefIdeal.τ).loc Cert.AdamwLastRefIdeal.main_arg19)
      ∧ r.2.mem ((c.tc : Thread Cert.AdamwLastRefIdeal.nD Cert.AdamwLastRefIdeal.τ).loc Cert.AdamwLastRefIdeal.main_arg20) = m ((c.tc : Thread Cert.AdamwLastRefIdeal.nD Cert.AdamwLastRefIdeal.τ).loc Cert.AdamwLastRefIdeal.main_arg20)
      ∧ r.2.mem ((c.tc : Thread Cert.AdamwLastRefIdeal.nD Cert.AdamwLastRefIdeal.τ).loc Cert.AdamwLastRefIdeal.main_arg21) = m ((c.tc : Thread Cert.AdamwLastRefIdeal.nD Cert.AdamwLastRefIdeal.τ).loc Cert.AdamwLastRefIdeal.main_arg21)
      ∧ r.2.mem ((c.tc : Thread Cert.AdamwLastRefIdeal.nD Cert.AdamwLastRefIdeal.τ).loc Cert.AdamwLastRefIdeal.main_arg22) = m ((c.tc : Thread Cert.AdamwLastRefIdeal.nD Cert.AdamwLastRefIdeal.τ).loc Cert.AdamwLastRefIdeal.main_arg22)
      ∧ r.2.mem ((c.tc : Thread Cert.AdamwLastRefIdeal.nD Cert.AdamwLastRefIdeal.τ).loc Cert.AdamwLastRefIdeal.main_arg23) = m ((c.tc : Thread Cert.AdamwLastRefIdeal.nD Cert.AdamwLastRefIdeal.τ).loc Cert.AdamwLastRefIdeal.main_arg23)
      ∧ r.2.mem ((c.tc : Thread Cert.AdamwLastRefIdeal.nD Cert.AdamwLastRefIdeal.τ).loc Cert.AdamwLastRefIdeal.main_arg24) = m ((c.tc : Thread Cert.AdamwLastRefIdeal.nD Cert.AdamwLastRefIdeal.τ).loc Cert.AdamwLastRefIdeal.main_arg24)
      ∧ r.2.mem ((c.tc : Thread Cert.AdamwLastRefIdeal.nD Cert.AdamwLastRefIdeal.τ).loc Cert.AdamwLastRefIdeal.main_arg25) = m ((c.tc : Thread Cert.AdamwLastRefIdeal.nD Cert.AdamwLastRefIdeal.τ).loc Cert.AdamwLastRefIdeal.main_arg25)
      ∧ r.2.mem ((c.tc : Thread Cert.AdamwLastRefIdeal.nD Cert.AdamwLastRefIdeal.τ).loc Cert.AdamwLastRefIdeal.main_arg26) = m ((c.tc : Thread Cert.AdamwLastRefIdeal.nD Cert.AdamwLastRefIdeal.τ).loc Cert.AdamwLastRefIdeal.main_arg26)
      ∧ r.2.mem ((c.tc : Thread Cert.AdamwLastRefIdeal.nD Cert.AdamwLastRefIdeal.τ).loc Cert.AdamwLastRefIdeal.main_arg27) = m ((c.tc : Thread Cert.AdamwLastRefIdeal.nD Cert.AdamwLastRefIdeal.τ).loc Cert.AdamwLastRefIdeal.main_arg27)
      ∧ r.2.mem ((c.tc : Thread Cert.AdamwLastRefIdeal.nD Cert.AdamwLastRefIdeal.τ).loc Cert.AdamwLastRefIdeal.main_arg28) = m ((c.tc : Thread Cert.AdamwLastRefIdeal.nD Cert.AdamwLastRefIdeal.τ).loc Cert.AdamwLastRefIdeal.main_arg28)
      ∧ r.2.mem ((c.tc : Thread Cert.AdamwLastRefIdeal.nD Cert.AdamwLastRefIdeal.τ).loc Cert.AdamwLastRefIdeal.main_arg29) = m ((c.tc : Thread Cert.AdamwLastRefIdeal.nD Cert.AdamwLastRefIdeal.τ).loc Cert.AdamwLastRefIdeal.main_arg29)
      ∧ r.2.mem ((c.tc : Thread Cert.AdamwLastRefIdeal.nD Cert.AdamwLastRefIdeal.τ).loc Cert.AdamwLastRefIdeal.main_arg30) = m ((c.tc : Thread Cert.AdamwLastRefIdeal.nD Cert.AdamwLastRefIdeal.τ).loc Cert.AdamwLastRefIdeal.main_arg30)
      ∧ r.2.mem ((c.tc : Thread Cert.AdamwLastRefIdeal.nD Cert.AdamwLastRefIdeal.τ).loc Cert.AdamwLastRefIdeal.main_arg31) = m ((c.tc : Thread Cert.AdamwLastRefIdeal.nD Cert.AdamwLastRefIdeal.τ).loc Cert.AdamwLastRefIdeal.main_arg31)
      ∧ r.2.mem ((c.tc : Thread Cert.AdamwLastRefIdeal.nD Cert.AdamwLastRefIdeal.τ).loc Cert.AdamwLastRefIdeal.main_arg32) = m ((c.tc : Thread Cert.AdamwLastRefIdeal.nD Cert.AdamwLastRefIdeal.τ).loc Cert.AdamwLastRefIdeal.main_arg32)
      ∧ r.2.mem ((c.tc : Thread Cert.AdamwLastRefIdeal.nD Cert.AdamwLastRefIdeal.τ).loc Cert.AdamwLastRefIdeal.main_arg33) = m ((c.tc : Thread Cert.AdamwLastRefIdeal.nD Cert.AdamwLastRefIdeal.τ).loc Cert.AdamwLastRefIdeal.main_arg33)
      ∧ r.2.mem ((c.tc : Thread Cert.AdamwLastRefIdeal.nD Cert.AdamwLastRefIdeal.τ).loc Cert.AdamwLastRefIdeal.main_arg34) = m ((c.tc : Thread Cert.AdamwLastRefIdeal.nD Cert.AdamwLastRefIdeal.τ).loc Cert.AdamwLastRefIdeal.main_arg34)
      ∧ r.2.mem ((c.tc : Thread Cert.AdamwLastRefIdeal.nD Cert.AdamwLastRefIdeal.τ).loc Cert.AdamwLastRefIdeal.main_arg35) = m ((c.tc : Thread Cert.AdamwLastRefIdeal.nD Cert.AdamwLastRefIdeal.τ).loc Cert.AdamwLastRefIdeal.main_arg35)
      ∧ r.2.mem ((c.tc : Thread Cert.AdamwLastRefIdeal.nD Cert.AdamwLastRefIdeal.τ).loc Cert.AdamwLastRefIdeal.main_arg36) = m ((c.tc : Thread Cert.AdamwLastRefIdeal.nD Cert.AdamwLastRefIdeal.τ).loc Cert.AdamwLastRefIdeal.main_arg36)
      ∧ r.2.mem ((c.tc : Thread Cert.AdamwLastRefIdeal.nD Cert.AdamwLastRefIdeal.τ).loc Cert.AdamwLastRefIdeal.main_arg37) = m ((c.tc : Thread Cert.AdamwLastRefIdeal.nD Cert.AdamwLastRefIdeal.τ).loc Cert.AdamwLastRefIdeal.main_arg37)
      ∧ r.2.mem ((c.tc : Thread Cert.AdamwLastRefIdeal.nD Cert.AdamwLastRefIdeal.τ).loc Cert.AdamwLastRefIdeal.main_arg38) = m ((c.tc : Thread Cert.AdamwLastRefIdeal.nD Cert.AdamwLastRefIdeal.τ).loc Cert.AdamwLastRefIdeal.main_arg38)
      ∧ r.2.mem ((c.tc : Thread Cert.AdamwLastRefIdeal.nD Cert.AdamwLastRefIdeal.τ).loc Cert.AdamwLastRefIdeal.main_arg39) = m ((c.tc : Thread Cert.AdamwLastRefIdeal.nD Cert.AdamwLastRefIdeal.τ).loc Cert.AdamwLastRefIdeal.main_arg39)
      ∧ r.2.mem ((c.tc : Thread Cert.AdamwLastRefIdeal.nD Cert.AdamwLastRefIdeal.τ).loc Cert.AdamwLastRefIdeal.main_arg40) = m ((c.tc : Thread Cert.AdamwLastRefIdeal.nD Cert.AdamwLastRefIdeal.τ).loc Cert.AdamwLastRefIdeal.main_arg40)
      ∧ r.2.mem ((c.tc : Thread Cert.AdamwLastRefIdeal.nD Cert.AdamwLastRefIdeal.τ).loc Cert.AdamwLastRefIdeal.main_arg41) = m ((c.tc : Thread Cert.AdamwLastRefIdeal.nD Cert.AdamwLastRefIdeal.τ).loc Cert.AdamwLastRefIdeal.main_arg41)
      ∧ r.2.mem ((c.tc : Thread Cert.AdamwLastRefIdeal.nD Cert.AdamwLastRefIdeal.τ).loc Cert.AdamwLastRefIdeal.main_arg42) = m ((c.tc : Thread Cert.AdamwLastRefIdeal.nD Cert.AdamwLastRefIdeal.τ).loc Cert.AdamwLastRefIdeal.main_arg42)
      ∧ r.2.mem ((c.tc : Thread Cert.AdamwLastRefIdeal.nD Cert.AdamwLastRefIdeal.τ).loc Cert.AdamwLastRefIdeal.main_arg43) = m ((c.tc : Thread Cert.AdamwLastRefIdeal.nD Cert.AdamwLastRefIdeal.τ).loc Cert.AdamwLastRefIdeal.main_arg43)
      ∧ r.2.mem ((c.tc : Thread Cert.AdamwLastRefIdeal.nD Cert.AdamwLastRefIdeal.τ).loc Cert.AdamwLastRefIdeal.main_arg44) = m ((c.tc : Thread Cert.AdamwLastRefIdeal.nD Cert.AdamwLastRefIdeal.τ).loc Cert.AdamwLastRefIdeal.main_arg44)
      ∧ r.2.mem ((c.tc : Thread Cert.AdamwLastRefIdeal.nD Cert.AdamwLastRefIdeal.τ).loc Cert.AdamwLastRefIdeal.main_arg45) = m ((c.tc : Thread Cert.AdamwLastRefIdeal.nD Cert.AdamwLastRefIdeal.τ).loc Cert.AdamwLastRefIdeal.main_arg45)
      ∧ r.2.mem ((c.tc : Thread Cert.AdamwLastRefIdeal.nD Cert.AdamwLastRefIdeal.τ).loc Cert.AdamwLastRefIdeal.main_arg46) = m ((c.tc : Thread Cert.AdamwLastRefIdeal.nD Cert.AdamwLastRefIdeal.τ).loc Cert.AdamwLastRefIdeal.main_arg46)
      ∧ r.2.mem ((c.tc : Thread Cert.AdamwLastRefIdeal.nD Cert.AdamwLastRefIdeal.τ).loc Cert.AdamwLastRefIdeal.main_arg47) = m ((c.tc : Thread Cert.AdamwLastRefIdeal.nD Cert.AdamwLastRefIdeal.τ).loc Cert.AdamwLastRefIdeal.main_arg47)
      ∧ r.2.mem ((c.tc : Thread Cert.AdamwLastRefIdeal.nD Cert.AdamwLastRefIdeal.τ).loc Cert.AdamwLastRefIdeal.main_arg48) = m ((c.tc : Thread Cert.AdamwLastRefIdeal.nD Cert.AdamwLastRefIdeal.τ).loc Cert.AdamwLastRefIdeal.main_arg48)
      ∧ r.2.mem ((c.tc : Thread Cert.AdamwLastRefIdeal.nD Cert.AdamwLastRefIdeal.τ).loc Cert.AdamwLastRefIdeal.main_arg49) = m ((c.tc : Thread Cert.AdamwLastRefIdeal.nD Cert.AdamwLastRefIdeal.τ).loc Cert.AdamwLastRefIdeal.main_arg49)
      ∧ r.2.mem ((c.tc : Thread Cert.AdamwLastRefIdeal.nD Cert.AdamwLastRefIdeal.τ).loc Cert.AdamwLastRefIdeal.main_arg50) = m ((c.tc : Thread Cert.AdamwLastRefIdeal.nD Cert.AdamwLastRefIdeal.τ).loc Cert.AdamwLastRefIdeal.main_arg50)
      ∧ r.2.mem ((c.tc : Thread Cert.AdamwLastRefIdeal.nD Cert.AdamwLastRefIdeal.τ).loc Cert.AdamwLastRefIdeal.main_arg51) = m ((c.tc : Thread Cert.AdamwLastRefIdeal.nD Cert.AdamwLastRefIdeal.τ).loc Cert.AdamwLastRefIdeal.main_arg51)
      ∧ r.2.mem ((c.tc : Thread Cert.AdamwLastRefIdeal.nD Cert.AdamwLastRefIdeal.τ).loc Cert.AdamwLastRefIdeal.main_arg52) = m ((c.tc : Thread Cert.AdamwLastRefIdeal.nD Cert.AdamwLastRefIdeal.τ).loc Cert.AdamwLastRefIdeal.main_arg52)
      ∧ r.2.mem ((c.tc : Thread Cert.AdamwLastRefIdeal.nD Cert.AdamwLastRefIdeal.τ).loc Cert.AdamwLastRefIdeal.main_arg53) = m ((c.tc : Thread Cert.AdamwLastRefIdeal.nD Cert.AdamwLastRefIdeal.τ).loc Cert.AdamwLastRefIdeal.main_arg53)
      ∧ r.2.mem ((c.tc : Thread Cert.AdamwLastRefIdeal.nD Cert.AdamwLastRefIdeal.τ).loc Cert.AdamwLastRefIdeal.main_arg54) = m ((c.tc : Thread Cert.AdamwLastRefIdeal.nD Cert.AdamwLastRefIdeal.τ).loc Cert.AdamwLastRefIdeal.main_arg54)
      ∧ r.2.mem ((c.tc : Thread Cert.AdamwLastRefIdeal.nD Cert.AdamwLastRefIdeal.τ).loc Cert.AdamwLastRefIdeal.main_arg55) = m ((c.tc : Thread Cert.AdamwLastRefIdeal.nD Cert.AdamwLastRefIdeal.τ).loc Cert.AdamwLastRefIdeal.main_arg55)
      ∧ r.2.mem ((c.tc : Thread Cert.AdamwLastRefIdeal.nD Cert.AdamwLastRefIdeal.τ).loc Cert.AdamwLastRefIdeal.main_arg56) = m ((c.tc : Thread Cert.AdamwLastRefIdeal.nD Cert.AdamwLastRefIdeal.τ).loc Cert.AdamwLastRefIdeal.main_arg56)
      ∧ r.2.mem ((c.tc : Thread Cert.AdamwLastRefIdeal.nD Cert.AdamwLastRefIdeal.τ).loc Cert.AdamwLastRefIdeal.main_arg57) = m ((c.tc : Thread Cert.AdamwLastRefIdeal.nD Cert.AdamwLastRefIdeal.τ).loc Cert.AdamwLastRefIdeal.main_arg57)
      ∧ r.2.mem ((c.tc : Thread Cert.AdamwLastRefIdeal.nD Cert.AdamwLastRefIdeal.τ).loc Cert.AdamwLastRefIdeal.main_arg58) = m ((c.tc : Thread Cert.AdamwLastRefIdeal.nD Cert.AdamwLastRefIdeal.τ).loc Cert.AdamwLastRefIdeal.main_arg58)
      ∧ r.2.mem ((c.tc : Thread Cert.AdamwLastRefIdeal.nD Cert.AdamwLastRefIdeal.τ).loc Cert.AdamwLastRefIdeal.main_arg59) = m ((c.tc : Thread Cert.AdamwLastRefIdeal.nD Cert.AdamwLastRefIdeal.τ).loc Cert.AdamwLastRefIdeal.main_arg59))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)) (v6 : (c : Dev Cert.KernelIdeal.nD) → Buf (Elt Ideal) ((c.tc : Thread Cert.KernelIdeal.nD Cert.KernelIdeal.τ).loc Cert.KernelIdeal.main_v25_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_v25_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_v60) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v8_0)) (v1 : (c : Dev Cert.FwdIdeal.nD) → Buf (Elt Ideal) ((c.tc : Thread Cert.FwdIdeal.nD Cert.FwdIdeal.τ).loc Cert.FwdIdeal.main_v8_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v8_0) = v0 c
          ∧ r.2.mem ((c.tc : Thread Cert.FwdIdeal.nD Cert.FwdIdeal.τ).loc Cert.FwdIdeal.main_v8_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v21) = v0 c
          ∧ r.2.mem ((c.tc : Thread Cert.FwdRefIdeal.nD Cert.FwdRefIdeal.τ).loc Cert.FwdRefIdeal.main_v24) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_GradWin_GradWinIdeal : Prop :=
  True

def algebraic_GradWinIdeal_GradWinRefIdeal [hGradWinIdeal : Cert.GradWinIdeal.Facts] [hGradWinRefIdeal : Cert.GradWinRefIdeal.Facts] : Prop :=
  ∀ (m : (ℓ : Loc Cert.GradWinIdeal.nD Cert.GradWinIdeal.τ Cert.GradWinIdeal.sig) → Buf (Elt Ideal) ℓ) (g : Dev Cert.GradWinIdeal.nD → PrngReg)
    (m' : (ℓ : Loc Cert.GradWinRefIdeal.nD Cert.GradWinRefIdeal.τ Cert.GradWinRefIdeal.sig) → Buf (Elt Ideal) ℓ) (g' : Dev Cert.GradWinRefIdeal.nD → PrngReg), Pre_GradWinIdeal m →
    (∀ c : Dev Cert.GradWinIdeal.nD,
      m' ((c.tc : Thread Cert.GradWinRefIdeal.nD Cert.GradWinRefIdeal.τ).loc Cert.GradWinRefIdeal.main_arg0) = m ((c.tc : Thread Cert.GradWinIdeal.nD Cert.GradWinIdeal.τ).loc Cert.GradWinIdeal.main_arg0)
      ∧ m' ((c.tc : Thread Cert.GradWinRefIdeal.nD Cert.GradWinRefIdeal.τ).loc Cert.GradWinRefIdeal.main_arg1) = m ((c.tc : Thread Cert.GradWinIdeal.nD Cert.GradWinIdeal.τ).loc Cert.GradWinIdeal.main_arg1)) →
    ∃ (v0 : (c : Dev Cert.GradWinIdeal.nD) → Buf (Elt Ideal) ((c.tc : Thread Cert.GradWinIdeal.nD Cert.GradWinIdeal.τ).loc Cert.GradWinIdeal.main_v3)),
      θ_run (Cert.GradWinIdeal.defs (F := Ideal)) (onTc (τ := Cert.GradWinIdeal.τ) (Cert.GradWinIdeal.main (F := Ideal))) ⟨m, fun _ => 0, g⟩ (fun r => ∀ c : Dev Cert.GradWinIdeal.nD,
          r.2.mem ((c.tc : Thread Cert.GradWinIdeal.nD Cert.GradWinIdeal.τ).loc Cert.GradWinIdeal.main_v3) = v0 c
          ∧ r.2.mem ((c.tc : Thread Cert.GradWinIdeal.nD Cert.GradWinIdeal.τ).loc Cert.GradWinIdeal.main_arg0) = m ((c.tc : Thread Cert.GradWinIdeal.nD Cert.GradWinIdeal.τ).loc Cert.GradWinIdeal.main_arg0)
          ∧ r.2.mem ((c.tc : Thread Cert.GradWinIdeal.nD Cert.GradWinIdeal.τ).loc Cert.GradWinIdeal.main_arg1) = m ((c.tc : Thread Cert.GradWinIdeal.nD Cert.GradWinIdeal.τ).loc Cert.GradWinIdeal.main_arg1))
      ∧ θ_run (Cert.GradWinRefIdeal.defs (F := Ideal)) (onTc (τ := Cert.GradWinRefIdeal.τ) (Cert.GradWinRefIdeal.main (F := Ideal))) ⟨m', fun _ => 0, g'⟩ (fun r => ∀ c : Dev Cert.GradWinRefIdeal.nD,
          r.2.mem ((c.tc : Thread Cert.GradWinRefIdeal.nD Cert.GradWinRefIdeal.τ).loc Cert.GradWinRefIdeal.main_v8) = v0 c
          ∧ r.2.mem ((c.tc : Thread Cert.GradWinRefIdeal.nD Cert.GradWinRefIdeal.τ).loc Cert.GradWinRefIdeal.main_arg0) = m' ((c.tc : Thread Cert.GradWinRefIdeal.nD Cert.GradWinRefIdeal.τ).loc Cert.GradWinRefIdeal.main_arg0)
          ∧ r.2.mem ((c.tc : Thread Cert.GradWinRefIdeal.nD Cert.GradWinRefIdeal.τ).loc Cert.GradWinRefIdeal.main_arg1) = m' ((c.tc : Thread Cert.GradWinRefIdeal.nD Cert.GradWinRefIdeal.τ).loc Cert.GradWinRefIdeal.main_arg1))

def preserves_GradWout_GradWoutIdeal : Prop :=
  True

def algebraic_GradWoutIdeal_GradWoutRefIdeal [hGradWoutIdeal : Cert.GradWoutIdeal.Facts] [hGradWoutRefIdeal : Cert.GradWoutRefIdeal.Facts] : Prop :=
  ∀ (m : (ℓ : Loc Cert.GradWoutIdeal.nD Cert.GradWoutIdeal.τ Cert.GradWoutIdeal.sig) → Buf (Elt Ideal) ℓ) (g : Dev Cert.GradWoutIdeal.nD → PrngReg)
    (m' : (ℓ : Loc Cert.GradWoutRefIdeal.nD Cert.GradWoutRefIdeal.τ Cert.GradWoutRefIdeal.sig) → Buf (Elt Ideal) ℓ) (g' : Dev Cert.GradWoutRefIdeal.nD → PrngReg), Pre_GradWoutIdeal m →
    (∀ c : Dev Cert.GradWoutIdeal.nD,
      m' ((c.tc : Thread Cert.GradWoutRefIdeal.nD Cert.GradWoutRefIdeal.τ).loc Cert.GradWoutRefIdeal.main_arg0) = m ((c.tc : Thread Cert.GradWoutIdeal.nD Cert.GradWoutIdeal.τ).loc Cert.GradWoutIdeal.main_arg0)
      ∧ m' ((c.tc : Thread Cert.GradWoutRefIdeal.nD Cert.GradWoutRefIdeal.τ).loc Cert.GradWoutRefIdeal.main_arg1) = m ((c.tc : Thread Cert.GradWoutIdeal.nD Cert.GradWoutIdeal.τ).loc Cert.GradWoutIdeal.main_arg1)) →
    ∃ (v0 : (c : Dev Cert.GradWoutIdeal.nD) → Buf (Elt Ideal) ((c.tc : Thread Cert.GradWoutIdeal.nD Cert.GradWoutIdeal.τ).loc Cert.GradWoutIdeal.main_v2)),
      θ_run (Cert.GradWoutIdeal.defs (F := Ideal)) (onTc (τ := Cert.GradWoutIdeal.τ) (Cert.GradWoutIdeal.main (F := Ideal))) ⟨m, fun _ => 0, g⟩ (fun r => ∀ c : Dev Cert.GradWoutIdeal.nD,
          r.2.mem ((c.tc : Thread Cert.GradWoutIdeal.nD Cert.GradWoutIdeal.τ).loc Cert.GradWoutIdeal.main_v2) = v0 c
          ∧ r.2.mem ((c.tc : Thread Cert.GradWoutIdeal.nD Cert.GradWoutIdeal.τ).loc Cert.GradWoutIdeal.main_arg0) = m ((c.tc : Thread Cert.GradWoutIdeal.nD Cert.GradWoutIdeal.τ).loc Cert.GradWoutIdeal.main_arg0)
          ∧ r.2.mem ((c.tc : Thread Cert.GradWoutIdeal.nD Cert.GradWoutIdeal.τ).loc Cert.GradWoutIdeal.main_arg1) = m ((c.tc : Thread Cert.GradWoutIdeal.nD Cert.GradWoutIdeal.τ).loc Cert.GradWoutIdeal.main_arg1))
      ∧ θ_run (Cert.GradWoutRefIdeal.defs (F := Ideal)) (onTc (τ := Cert.GradWoutRefIdeal.τ) (Cert.GradWoutRefIdeal.main (F := Ideal))) ⟨m', fun _ => 0, g'⟩ (fun r => ∀ c : Dev Cert.GradWoutRefIdeal.nD,
          r.2.mem ((c.tc : Thread Cert.GradWoutRefIdeal.nD Cert.GradWoutRefIdeal.τ).loc Cert.GradWoutRefIdeal.main_v7) = v0 c
          ∧ r.2.mem ((c.tc : Thread Cert.GradWoutRefIdeal.nD Cert.GradWoutRefIdeal.τ).loc Cert.GradWoutRefIdeal.main_arg0) = m' ((c.tc : Thread Cert.GradWoutRefIdeal.nD Cert.GradWoutRefIdeal.τ).loc Cert.GradWoutRefIdeal.main_arg0)
          ∧ r.2.mem ((c.tc : Thread Cert.GradWoutRefIdeal.nD Cert.GradWoutRefIdeal.τ).loc Cert.GradWoutRefIdeal.main_arg1) = m' ((c.tc : Thread Cert.GradWoutRefIdeal.nD Cert.GradWoutRefIdeal.τ).loc Cert.GradWoutRefIdeal.main_arg1))

def preserves_Mixer_MixerIdeal : Prop :=
  True

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v13) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_UpIn_UpInIdeal : Prop :=
  True

def algebraic_UpInIdeal_UpInRefIdeal [hUpInIdeal : Cert.UpInIdeal.Facts] [hUpInRefIdeal : Cert.UpInRefIdeal.Facts] [hPre_on_mesh_in : Cert.Pre_on_mesh_in.Facts] : Prop :=
  ∀ (m : (ℓ : Loc Cert.UpInIdeal.nD Cert.UpInIdeal.τ Cert.UpInIdeal.sig) → Buf (Elt Ideal) ℓ) (g : Dev Cert.UpInIdeal.nD → PrngReg)
    (m' : (ℓ : Loc Cert.UpInRefIdeal.nD Cert.UpInRefIdeal.τ Cert.UpInRefIdeal.sig) → Buf (Elt Ideal) ℓ) (g' : Dev Cert.UpInRefIdeal.nD → PrngReg), Pre_UpInIdeal m →
    (∀ c : Dev Cert.UpInIdeal.nD,
      m' ((c.tc : Thread Cert.UpInRefIdeal.nD Cert.UpInRefIdeal.τ).loc Cert.UpInRefIdeal.main_arg0) = m ((c.tc : Thread Cert.UpInIdeal.nD Cert.UpInIdeal.τ).loc Cert.UpInIdeal.main_arg0)
      ∧ m' ((c.tc : Thread Cert.UpInRefIdeal.nD Cert.UpInRefIdeal.τ).loc Cert.UpInRefIdeal.main_arg1) = m ((c.tc : Thread Cert.UpInIdeal.nD Cert.UpInIdeal.τ).loc Cert.UpInIdeal.main_arg1)
      ∧ m' ((c.tc : Thread Cert.UpInRefIdeal.nD Cert.UpInRefIdeal.τ).loc Cert.UpInRefIdeal.main_arg2) = m ((c.tc : Thread Cert.UpInIdeal.nD Cert.UpInIdeal.τ).loc Cert.UpInIdeal.main_arg2)
      ∧ m' ((c.tc : Thread Cert.UpInRefIdeal.nD Cert.UpInRefIdeal.τ).loc Cert.UpInRefIdeal.main_arg3) = m ((c.tc : Thread Cert.UpInIdeal.nD Cert.UpInIdeal.τ).loc Cert.UpInIdeal.main_arg3)
      ∧ m' ((c.tc : Thread Cert.UpInRefIdeal.nD Cert.UpInRefIdeal.τ).loc Cert.UpInRefIdeal.main_arg4) = m ((c.tc : Thread Cert.UpInIdeal.nD Cert.UpInIdeal.τ).loc Cert.UpInIdeal.main_arg4)
      ∧ m' ((c.tc : Thread Cert.UpInRefIdeal.nD Cert.UpInRefIdeal.τ).loc Cert.UpInRefIdeal.main_arg5) = m ((c.tc : Thread Cert.UpInIdeal.nD Cert.UpInIdeal.τ).loc Cert.UpInIdeal.main_arg5)
      ∧ m' ((c.tc : Thread Cert.UpInRefIdeal.nD Cert.UpInRefIdeal.τ).loc Cert.UpInRefIdeal.main_arg6) = m ((c.tc : Thread Cert.UpInIdeal.nD Cert.UpInIdeal.τ).loc Cert.UpInIdeal.main_arg6)
      ∧ m' ((c.tc : Thread Cert.UpInRefIdeal.nD Cert.UpInRefIdeal.τ).loc Cert.UpInRefIdeal.main_arg7) = m ((c.tc : Thread Cert.UpInIdeal.nD Cert.UpInIdeal.τ).loc Cert.UpInIdeal.main_arg7)) →
    ∃ (v0 : (c : Dev Cert.UpInIdeal.nD) → Buf (Elt Ideal) ((c.tc : Thread Cert.UpInIdeal.nD Cert.UpInIdeal.τ).loc Cert.UpInIdeal.main_v0_0)) (v1 : (c : Dev Cert.UpInIdeal.nD) → Buf (Elt Ideal) ((c.tc : Thread Cert.UpInIdeal.nD Cert.UpInIdeal.τ).loc Cert.UpInIdeal.main_v0_1)) (v2 : (c : Dev Cert.UpInIdeal.nD) → Buf (Elt Ideal) ((c.tc : Thread Cert.UpInIdeal.nD Cert.UpInIdeal.τ).loc Cert.UpInIdeal.main_v0_2)) (v3 : (c : Dev Cert.UpInIdeal.nD) → Buf (Elt Ideal) ((c.tc : Thread Cert.UpInIdeal.nD Cert.UpInIdeal.τ).loc Cert.UpInIdeal.main_v0_3)),
      θ_run (Cert.UpInIdeal.defs (F := Ideal)) (onTc (τ := Cert.UpInIdeal.τ) (Cert.UpInIdeal.main (F := Ideal))) ⟨m, fun _ => 0, g⟩ (fun r => ∀ c : Dev Cert.UpInIdeal.nD,
          r.2.mem ((c.tc : Thread Cert.UpInIdeal.nD Cert.UpInIdeal.τ).loc Cert.UpInIdeal.main_v0_0) = v0 c
          ∧ r.2.mem ((c.tc : Thread Cert.UpInIdeal.nD Cert.UpInIdeal.τ).loc Cert.UpInIdeal.main_v0_1) = v1 c
          ∧ r.2.mem ((c.tc : Thread Cert.UpInIdeal.nD Cert.UpInIdeal.τ).loc Cert.UpInIdeal.main_v0_2) = v2 c
          ∧ r.2.mem ((c.tc : Thread Cert.UpInIdeal.nD Cert.UpInIdeal.τ).loc Cert.UpInIdeal.main_v0_3) = v3 c
          ∧ r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
          ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
          ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
          ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3)
          ∧ r.2.mem ((c.tc : Thread Cert.UpInIdeal.nD Cert.UpInIdeal.τ).loc Cert.UpInIdeal.main_arg4) = m ((c.tc : Thread Cert.UpInIdeal.nD Cert.UpInIdeal.τ).loc Cert.UpInIdeal.main_arg4)
          ∧ r.2.mem ((c.tc : Thread Cert.UpInIdeal.nD Cert.UpInIdeal.τ).loc Cert.UpInIdeal.main_arg5) = m ((c.tc : Thread Cert.UpInIdeal.nD Cert.UpInIdeal.τ).loc Cert.UpInIdeal.main_arg5)
          ∧ r.2.mem ((c.tc : Thread Cert.UpInIdeal.nD Cert.UpInIdeal.τ).loc Cert.UpInIdeal.main_arg6) = m ((c.tc : Thread Cert.UpInIdeal.nD Cert.UpInIdeal.τ).loc Cert.UpInIdeal.main_arg6)
          ∧ r.2.mem ((c.tc : Thread Cert.UpInIdeal.nD Cert.UpInIdeal.τ).loc Cert.UpInIdeal.main_arg7) = m ((c.tc : Thread Cert.UpInIdeal.nD Cert.UpInIdeal.τ).loc Cert.UpInIdeal.main_arg7))
      ∧ θ_run (Cert.UpInRefIdeal.defs (F := Ideal)) (onTc (τ := Cert.UpInRefIdeal.τ) (Cert.UpInRefIdeal.main (F := Ideal))) ⟨m', fun _ => 0, g'⟩ (fun r => ∀ c : Dev Cert.UpInRefIdeal.nD,
          r.2.mem ((c.tc : Thread Cert.UpInRefIdeal.nD Cert.UpInRefIdeal.τ).loc Cert.UpInRefIdeal.main_v24) = v0 c
          ∧ r.2.mem ((c.tc : Thread Cert.UpInRefIdeal.nD Cert.UpInRefIdeal.τ).loc Cert.UpInRefIdeal.main_v48) = v1 c
          ∧ r.2.mem ((c.tc : Thread Cert.UpInRefIdeal.nD Cert.UpInRefIdeal.τ).loc Cert.UpInRefIdeal.main_v29) = v2 c
          ∧ r.2.mem ((c.tc : Thread Cert.UpInRefIdeal.nD Cert.UpInRefIdeal.τ).loc Cert.UpInRefIdeal.main_v35) = v3 c
          ∧ r.2.mem ((c.tc : Thread Cert.UpInRefIdeal.nD Cert.UpInRefIdeal.τ).loc Cert.UpInRefIdeal.main_arg0) = m' ((c.tc : Thread Cert.UpInRefIdeal.nD Cert.UpInRefIdeal.τ).loc Cert.UpInRefIdeal.main_arg0)
          ∧ r.2.mem ((c.tc : Thread Cert.UpInRefIdeal.nD Cert.UpInRefIdeal.τ).loc Cert.UpInRefIdeal.main_arg1) = m' ((c.tc : Thread Cert.UpInRefIdeal.nD Cert.UpInRefIdeal.τ).loc Cert.UpInRefIdeal.main_arg1)
          ∧ r.2.mem ((c.tc : Thread Cert.UpInRefIdeal.nD Cert.UpInRefIdeal.τ).loc Cert.UpInRefIdeal.main_arg2) = m' ((c.tc : Thread Cert.UpInRefIdeal.nD Cert.UpInRefIdeal.τ).loc Cert.UpInRefIdeal.main_arg2)
          ∧ r.2.mem ((c.tc : Thread Cert.UpInRefIdeal.nD Cert.UpInRefIdeal.τ).loc Cert.UpInRefIdeal.main_arg3) = m' ((c.tc : Thread Cert.UpInRefIdeal.nD Cert.UpInRefIdeal.τ).loc Cert.UpInRefIdeal.main_arg3)
          ∧ r.2.mem ((c.tc : Thread Cert.UpInRefIdeal.nD Cert.UpInRefIdeal.τ).loc Cert.UpInRefIdeal.main_arg4) = m' ((c.tc : Thread Cert.UpInRefIdeal.nD Cert.UpInRefIdeal.τ).loc Cert.UpInRefIdeal.main_arg4)
          ∧ r.2.mem ((c.tc : Thread Cert.UpInRefIdeal.nD Cert.UpInRefIdeal.τ).loc Cert.UpInRefIdeal.main_arg5) = m' ((c.tc : Thread Cert.UpInRefIdeal.nD Cert.UpInRefIdeal.τ).loc Cert.UpInRefIdeal.main_arg5)
          ∧ r.2.mem ((c.tc : Thread Cert.UpInRefIdeal.nD Cert.UpInRefIdeal.τ).loc Cert.UpInRefIdeal.main_arg6) = m' ((c.tc : Thread Cert.UpInRefIdeal.nD Cert.UpInRefIdeal.τ).loc Cert.UpInRefIdeal.main_arg6)
          ∧ r.2.mem ((c.tc : Thread Cert.UpInRefIdeal.nD Cert.UpInRefIdeal.τ).loc Cert.UpInRefIdeal.main_arg7) = m' ((c.tc : Thread Cert.UpInRefIdeal.nD Cert.UpInRefIdeal.τ).loc Cert.UpInRefIdeal.main_arg7))

def preserves_UpOut_UpOutIdeal : Prop :=
  True

def algebraic_UpOutIdeal_UpOutRefIdeal [hUpOutIdeal : Cert.UpOutIdeal.Facts] [hUpOutRefIdeal : Cert.UpOutRefIdeal.Facts] [hPre_on_mesh_out : Cert.Pre_on_mesh_out.Facts] : Prop :=
  ∀ (m : (ℓ : Loc Cert.UpOutIdeal.nD Cert.UpOutIdeal.τ Cert.UpOutIdeal.sig) → Buf (Elt Ideal) ℓ) (g : Dev Cert.UpOutIdeal.nD → PrngReg)
    (m' : (ℓ : Loc Cert.UpOutRefIdeal.nD Cert.UpOutRefIdeal.τ Cert.UpOutRefIdeal.sig) → Buf (Elt Ideal) ℓ) (g' : Dev Cert.UpOutRefIdeal.nD → PrngReg), Pre_UpOutIdeal m →
    (∀ c : Dev Cert.UpOutIdeal.nD,
      m' ((c.tc : Thread Cert.UpOutRefIdeal.nD Cert.UpOutRefIdeal.τ).loc Cert.UpOutRefIdeal.main_arg0) = m ((c.tc : Thread Cert.UpOutIdeal.nD Cert.UpOutIdeal.τ).loc Cert.UpOutIdeal.main_arg0)
      ∧ m' ((c.tc : Thread Cert.UpOutRefIdeal.nD Cert.UpOutRefIdeal.τ).loc Cert.UpOutRefIdeal.main_arg1) = m ((c.tc : Thread Cert.UpOutIdeal.nD Cert.UpOutIdeal.τ).loc Cert.UpOutIdeal.main_arg1)
      ∧ m' ((c.tc : Thread Cert.UpOutRefIdeal.nD Cert.UpOutRefIdeal.τ).loc Cert.UpOutRefIdeal.main_arg2) = m ((c.tc : Thread Cert.UpOutIdeal.nD Cert.UpOutIdeal.τ).loc Cert.UpOutIdeal.main_arg2)
      ∧ m' ((c.tc : Thread Cert.UpOutRefIdeal.nD Cert.UpOutRefIdeal.τ).loc Cert.UpOutRefIdeal.main_arg3) = m ((c.tc : Thread Cert.UpOutIdeal.nD Cert.UpOutIdeal.τ).loc Cert.UpOutIdeal.main_arg3)
      ∧ m' ((c.tc : Thread Cert.UpOutRefIdeal.nD Cert.UpOutRefIdeal.τ).loc Cert.UpOutRefIdeal.main_arg4) = m ((c.tc : Thread Cert.UpOutIdeal.nD Cert.UpOutIdeal.τ).loc Cert.UpOutIdeal.main_arg4)
      ∧ m' ((c.tc : Thread Cert.UpOutRefIdeal.nD Cert.UpOutRefIdeal.τ).loc Cert.UpOutRefIdeal.main_arg5) = m ((c.tc : Thread Cert.UpOutIdeal.nD Cert.UpOutIdeal.τ).loc Cert.UpOutIdeal.main_arg5)
      ∧ m' ((c.tc : Thread Cert.UpOutRefIdeal.nD Cert.UpOutRefIdeal.τ).loc Cert.UpOutRefIdeal.main_arg6) = m ((c.tc : Thread Cert.UpOutIdeal.nD Cert.UpOutIdeal.τ).loc Cert.UpOutIdeal.main_arg6)
      ∧ m' ((c.tc : Thread Cert.UpOutRefIdeal.nD Cert.UpOutRefIdeal.τ).loc Cert.UpOutRefIdeal.main_arg7) = m ((c.tc : Thread Cert.UpOutIdeal.nD Cert.UpOutIdeal.τ).loc Cert.UpOutIdeal.main_arg7)) →
    ∃ (v0 : (c : Dev Cert.UpOutIdeal.nD) → Buf (Elt Ideal) ((c.tc : Thread Cert.UpOutIdeal.nD Cert.UpOutIdeal.τ).loc Cert.UpOutIdeal.main_v0_0)) (v1 : (c : Dev Cert.UpOutIdeal.nD) → Buf (Elt Ideal) ((c.tc : Thread Cert.UpOutIdeal.nD Cert.UpOutIdeal.τ).loc Cert.UpOutIdeal.main_v0_1)) (v2 : (c : Dev Cert.UpOutIdeal.nD) → Buf (Elt Ideal) ((c.tc : Thread Cert.UpOutIdeal.nD Cert.UpOutIdeal.τ).loc Cert.UpOutIdeal.main_v0_2)) (v3 : (c : Dev Cert.UpOutIdeal.nD) → Buf (Elt Ideal) ((c.tc : Thread Cert.UpOutIdeal.nD Cert.UpOutIdeal.τ).loc Cert.UpOutIdeal.main_v0_3)),
      θ_run (Cert.UpOutIdeal.defs (F := Ideal)) (onTc (τ := Cert.UpOutIdeal.τ) (Cert.UpOutIdeal.main (F := Ideal))) ⟨m, fun _ => 0, g⟩ (fun r => ∀ c : Dev Cert.UpOutIdeal.nD,
          r.2.mem ((c.tc : Thread Cert.UpOutIdeal.nD Cert.UpOutIdeal.τ).loc Cert.UpOutIdeal.main_v0_0) = v0 c
          ∧ r.2.mem ((c.tc : Thread Cert.UpOutIdeal.nD Cert.UpOutIdeal.τ).loc Cert.UpOutIdeal.main_v0_1) = v1 c
          ∧ r.2.mem ((c.tc : Thread Cert.UpOutIdeal.nD Cert.UpOutIdeal.τ).loc Cert.UpOutIdeal.main_v0_2) = v2 c
          ∧ r.2.mem ((c.tc : Thread Cert.UpOutIdeal.nD Cert.UpOutIdeal.τ).loc Cert.UpOutIdeal.main_v0_3) = v3 c
          ∧ r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
          ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
          ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
          ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3)
          ∧ r.2.mem ((c.tc : Thread Cert.UpOutIdeal.nD Cert.UpOutIdeal.τ).loc Cert.UpOutIdeal.main_arg4) = m ((c.tc : Thread Cert.UpOutIdeal.nD Cert.UpOutIdeal.τ).loc Cert.UpOutIdeal.main_arg4)
          ∧ r.2.mem ((c.tc : Thread Cert.UpOutIdeal.nD Cert.UpOutIdeal.τ).loc Cert.UpOutIdeal.main_arg5) = m ((c.tc : Thread Cert.UpOutIdeal.nD Cert.UpOutIdeal.τ).loc Cert.UpOutIdeal.main_arg5)
          ∧ r.2.mem ((c.tc : Thread Cert.UpOutIdeal.nD Cert.UpOutIdeal.τ).loc Cert.UpOutIdeal.main_arg6) = m ((c.tc : Thread Cert.UpOutIdeal.nD Cert.UpOutIdeal.τ).loc Cert.UpOutIdeal.main_arg6)
          ∧ r.2.mem ((c.tc : Thread Cert.UpOutIdeal.nD Cert.UpOutIdeal.τ).loc Cert.UpOutIdeal.main_arg7) = m ((c.tc : Thread Cert.UpOutIdeal.nD Cert.UpOutIdeal.τ).loc Cert.UpOutIdeal.main_arg7))
      ∧ θ_run (Cert.UpOutRefIdeal.defs (F := Ideal)) (onTc (τ := Cert.UpOutRefIdeal.τ) (Cert.UpOutRefIdeal.main (F := Ideal))) ⟨m', fun _ => 0, g'⟩ (fun r => ∀ c : Dev Cert.UpOutRefIdeal.nD,
          r.2.mem ((c.tc : Thread Cert.UpOutRefIdeal.nD Cert.UpOutRefIdeal.τ).loc Cert.UpOutRefIdeal.main_v24) = v0 c
          ∧ r.2.mem ((c.tc : Thread Cert.UpOutRefIdeal.nD Cert.UpOutRefIdeal.τ).loc Cert.UpOutRefIdeal.main_v48) = v1 c
          ∧ r.2.mem ((c.tc : Thread Cert.UpOutRefIdeal.nD Cert.UpOutRefIdeal.τ).loc Cert.UpOutRefIdeal.main_v29) = v2 c
          ∧ r.2.mem ((c.tc : Thread Cert.UpOutRefIdeal.nD Cert.UpOutRefIdeal.τ).loc Cert.UpOutRefIdeal.main_v35) = v3 c
          ∧ r.2.mem ((c.tc : Thread Cert.UpOutRefIdeal.nD Cert.UpOutRefIdeal.τ).loc Cert.UpOutRefIdeal.main_arg0) = m' ((c.tc : Thread Cert.UpOutRefIdeal.nD Cert.UpOutRefIdeal.τ).loc Cert.UpOutRefIdeal.main_arg0)
          ∧ r.2.mem ((c.tc : Thread Cert.UpOutRefIdeal.nD Cert.UpOutRefIdeal.τ).loc Cert.UpOutRefIdeal.main_arg1) = m' ((c.tc : Thread Cert.UpOutRefIdeal.nD Cert.UpOutRefIdeal.τ).loc Cert.UpOutRefIdeal.main_arg1)
          ∧ r.2.mem ((c.tc : Thread Cert.UpOutRefIdeal.nD Cert.UpOutRefIdeal.τ).loc Cert.UpOutRefIdeal.main_arg2) = m' ((c.tc : Thread Cert.UpOutRefIdeal.nD Cert.UpOutRefIdeal.τ).loc Cert.UpOutRefIdeal.main_arg2)
          ∧ r.2.mem ((c.tc : Thread Cert.UpOutRefIdeal.nD Cert.UpOutRefIdeal.τ).loc Cert.UpOutRefIdeal.main_arg3) = m' ((c.tc : Thread Cert.UpOutRefIdeal.nD Cert.UpOutRefIdeal.τ).loc Cert.UpOutRefIdeal.main_arg3)
          ∧ r.2.mem ((c.tc : Thread Cert.UpOutRefIdeal.nD Cert.UpOutRefIdeal.τ).loc Cert.UpOutRefIdeal.main_arg4) = m' ((c.tc : Thread Cert.UpOutRefIdeal.nD Cert.UpOutRefIdeal.τ).loc Cert.UpOutRefIdeal.main_arg4)
          ∧ r.2.mem ((c.tc : Thread Cert.UpOutRefIdeal.nD Cert.UpOutRefIdeal.τ).loc Cert.UpOutRefIdeal.main_arg5) = m' ((c.tc : Thread Cert.UpOutRefIdeal.nD Cert.UpOutRefIdeal.τ).loc Cert.UpOutRefIdeal.main_arg5)
          ∧ r.2.mem ((c.tc : Thread Cert.UpOutRefIdeal.nD Cert.UpOutRefIdeal.τ).loc Cert.UpOutRefIdeal.main_arg6) = m' ((c.tc : Thread Cert.UpOutRefIdeal.nD Cert.UpOutRefIdeal.τ).loc Cert.UpOutRefIdeal.main_arg6)
          ∧ r.2.mem ((c.tc : Thread Cert.UpOutRefIdeal.nD Cert.UpOutRefIdeal.τ).loc Cert.UpOutRefIdeal.main_arg7) = m' ((c.tc : Thread Cert.UpOutRefIdeal.nD Cert.UpOutRefIdeal.τ).loc Cert.UpOutRefIdeal.main_arg7))

def preserves_UpSquare_UpSquareIdeal : Prop :=
  True

def algebraic_UpSquareIdeal_UpSquareRefIdeal [hUpSquareIdeal : Cert.UpSquareIdeal.Facts] [hUpSquareRefIdeal : Cert.UpSquareRefIdeal.Facts] [hPre_on_mesh_square : Cert.Pre_on_mesh_square.Facts] : Prop :=
  ∀ (m : (ℓ : Loc Cert.UpSquareIdeal.nD Cert.UpSquareIdeal.τ Cert.UpSquareIdeal.sig) → Buf (Elt Ideal) ℓ) (g : Dev Cert.UpSquareIdeal.nD → PrngReg)
    (m' : (ℓ : Loc Cert.UpSquareRefIdeal.nD Cert.UpSquareRefIdeal.τ Cert.UpSquareRefIdeal.sig) → Buf (Elt Ideal) ℓ) (g' : Dev Cert.UpSquareRefIdeal.nD → PrngReg), Pre_UpSquareIdeal m →
    (∀ c : Dev Cert.UpSquareIdeal.nD,
      m' ((c.tc : Thread Cert.UpSquareRefIdeal.nD Cert.UpSquareRefIdeal.τ).loc Cert.UpSquareRefIdeal.main_arg0) = m ((c.tc : Thread Cert.UpSquareIdeal.nD Cert.UpSquareIdeal.τ).loc Cert.UpSquareIdeal.main_arg0)
      ∧ m' ((c.tc : Thread Cert.UpSquareRefIdeal.nD Cert.UpSquareRefIdeal.τ).loc Cert.UpSquareRefIdeal.main_arg1) = m ((c.tc : Thread Cert.UpSquareIdeal.nD Cert.UpSquareIdeal.τ).loc Cert.UpSquareIdeal.main_arg1)
      ∧ m' ((c.tc : Thread Cert.UpSquareRefIdeal.nD Cert.UpSquareRefIdeal.τ).loc Cert.UpSquareRefIdeal.main_arg2) = m ((c.tc : Thread Cert.UpSquareIdeal.nD Cert.UpSquareIdeal.τ).loc Cert.UpSquareIdeal.main_arg2)
      ∧ m' ((c.tc : Thread Cert.UpSquareRefIdeal.nD Cert.UpSquareRefIdeal.τ).loc Cert.UpSquareRefIdeal.main_arg3) = m ((c.tc : Thread Cert.UpSquareIdeal.nD Cert.UpSquareIdeal.τ).loc Cert.UpSquareIdeal.main_arg3)
      ∧ m' ((c.tc : Thread Cert.UpSquareRefIdeal.nD Cert.UpSquareRefIdeal.τ).loc Cert.UpSquareRefIdeal.main_arg4) = m ((c.tc : Thread Cert.UpSquareIdeal.nD Cert.UpSquareIdeal.τ).loc Cert.UpSquareIdeal.main_arg4)
      ∧ m' ((c.tc : Thread Cert.UpSquareRefIdeal.nD Cert.UpSquareRefIdeal.τ).loc Cert.UpSquareRefIdeal.main_arg5) = m ((c.tc : Thread Cert.UpSquareIdeal.nD Cert.UpSquareIdeal.τ).loc Cert.UpSquareIdeal.main_arg5)
      ∧ m' ((c.tc : Thread Cert.UpSquareRefIdeal.nD Cert.UpSquareRefIdeal.τ).loc Cert.UpSquareRefIdeal.main_arg6) = m ((c.tc : Thread Cert.UpSquareIdeal.nD Cert.UpSquareIdeal.τ).loc Cert.UpSquareIdeal.main_arg6)
      ∧ m' ((c.tc : Thread Cert.UpSquareRefIdeal.nD Cert.UpSquareRefIdeal.τ).loc Cert.UpSquareRefIdeal.main_arg7) = m ((c.tc : Thread Cert.UpSquareIdeal.nD Cert.UpSquareIdeal.τ).loc Cert.UpSquareIdeal.main_arg7)) →
    ∃ (v0 : (c : Dev Cert.UpSquareIdeal.nD) → Buf (Elt Ideal) ((c.tc : Thread Cert.UpSquareIdeal.nD Cert.UpSquareIdeal.τ).loc Cert.UpSquareIdeal.main_v0_0)) (v1 : (c : Dev Cert.UpSquareIdeal.nD) → Buf (Elt Ideal) ((c.tc : Thread Cert.UpSquareIdeal.nD Cert.UpSquareIdeal.τ).loc Cert.UpSquareIdeal.main_v0_1)) (v2 : (c : Dev Cert.UpSquareIdeal.nD) → Buf (Elt Ideal) ((c.tc : Thread Cert.UpSquareIdeal.nD Cert.UpSquareIdeal.τ).loc Cert.UpSquareIdeal.main_v0_2)) (v3 : (c : Dev Cert.UpSquareIdeal.nD) → Buf (Elt Ideal) ((c.tc : Thread Cert.UpSquareIdeal.nD Cert.UpSquareIdeal.τ).loc Cert.UpSquareIdeal.main_v0_3)),
      θ_run (Cert.UpSquareIdeal.defs (F := Ideal)) (onTc (τ := Cert.UpSquareIdeal.τ) (Cert.UpSquareIdeal.main (F := Ideal))) ⟨m, fun _ => 0, g⟩ (fun r => ∀ c : Dev Cert.UpSquareIdeal.nD,
          r.2.mem ((c.tc : Thread Cert.UpSquareIdeal.nD Cert.UpSquareIdeal.τ).loc Cert.UpSquareIdeal.main_v0_0) = v0 c
          ∧ r.2.mem ((c.tc : Thread Cert.UpSquareIdeal.nD Cert.UpSquareIdeal.τ).loc Cert.UpSquareIdeal.main_v0_1) = v1 c
          ∧ r.2.mem ((c.tc : Thread Cert.UpSquareIdeal.nD Cert.UpSquareIdeal.τ).loc Cert.UpSquareIdeal.main_v0_2) = v2 c
          ∧ r.2.mem ((c.tc : Thread Cert.UpSquareIdeal.nD Cert.UpSquareIdeal.τ).loc Cert.UpSquareIdeal.main_v0_3) = v3 c
          ∧ r.2.mem ((c.tc : Thread Cert.UpSquareIdeal.nD Cert.UpSquareIdeal.τ).loc Cert.UpSquareIdeal.main_arg0) = m ((c.tc : Thread Cert.UpSquareIdeal.nD Cert.UpSquareIdeal.τ).loc Cert.UpSquareIdeal.main_arg0)
          ∧ r.2.mem ((c.tc : Thread Cert.UpSquareIdeal.nD Cert.UpSquareIdeal.τ).loc Cert.UpSquareIdeal.main_arg1) = m ((c.tc : Thread Cert.UpSquareIdeal.nD Cert.UpSquareIdeal.τ).loc Cert.UpSquareIdeal.main_arg1)
          ∧ r.2.mem ((c.tc : Thread Cert.UpSquareIdeal.nD Cert.UpSquareIdeal.τ).loc Cert.UpSquareIdeal.main_arg2) = m ((c.tc : Thread Cert.UpSquareIdeal.nD Cert.UpSquareIdeal.τ).loc Cert.UpSquareIdeal.main_arg2)
          ∧ r.2.mem ((c.tc : Thread Cert.UpSquareIdeal.nD Cert.UpSquareIdeal.τ).loc Cert.UpSquareIdeal.main_arg3) = m ((c.tc : Thread Cert.UpSquareIdeal.nD Cert.UpSquareIdeal.τ).loc Cert.UpSquareIdeal.main_arg3)
          ∧ r.2.mem ((c.tc : Thread Cert.UpSquareIdeal.nD Cert.UpSquareIdeal.τ).loc Cert.UpSquareIdeal.main_arg4) = m ((c.tc : Thread Cert.UpSquareIdeal.nD Cert.UpSquareIdeal.τ).loc Cert.UpSquareIdeal.main_arg4)
          ∧ r.2.mem ((c.tc : Thread Cert.UpSquareIdeal.nD Cert.UpSquareIdeal.τ).loc Cert.UpSquareIdeal.main_arg5) = m ((c.tc : Thread Cert.UpSquareIdeal.nD Cert.UpSquareIdeal.τ).loc Cert.UpSquareIdeal.main_arg5)
          ∧ r.2.mem ((c.tc : Thread Cert.UpSquareIdeal.nD Cert.UpSquareIdeal.τ).loc Cert.UpSquareIdeal.main_arg6) = m ((c.tc : Thread Cert.UpSquareIdeal.nD Cert.UpSquareIdeal.τ).loc Cert.UpSquareIdeal.main_arg6)
          ∧ r.2.mem ((c.tc : Thread Cert.UpSquareIdeal.nD Cert.UpSquareIdeal.τ).loc Cert.UpSquareIdeal.main_arg7) = m ((c.tc : Thread Cert.UpSquareIdeal.nD Cert.UpSquareIdeal.τ).loc Cert.UpSquareIdeal.main_arg7))
      ∧ θ_run (Cert.UpSquareRefIdeal.defs (F := Ideal)) (onTc (τ := Cert.UpSquareRefIdeal.τ) (Cert.UpSquareRefIdeal.main (F := Ideal))) ⟨m', fun _ => 0, g'⟩ (fun r => ∀ c : Dev Cert.UpSquareRefIdeal.nD,
          r.2.mem ((c.tc : Thread Cert.UpSquareRefIdeal.nD Cert.UpSquareRefIdeal.τ).loc Cert.UpSquareRefIdeal.main_v24) = v0 c
          ∧ r.2.mem ((c.tc : Thread Cert.UpSquareRefIdeal.nD Cert.UpSquareRefIdeal.τ).loc Cert.UpSquareRefIdeal.main_v48) = v1 c
          ∧ r.2.mem ((c.tc : Thread Cert.UpSquareRefIdeal.nD Cert.UpSquareRefIdeal.τ).loc Cert.UpSquareRefIdeal.main_v29) = v2 c
          ∧ r.2.mem ((c.tc : Thread Cert.UpSquareRefIdeal.nD Cert.UpSquareRefIdeal.τ).loc Cert.UpSquareRefIdeal.main_v35) = v3 c
          ∧ r.2.mem ((c.tc : Thread Cert.UpSquareRefIdeal.nD Cert.UpSquareRefIdeal.τ).loc Cert.UpSquareRefIdeal.main_arg0) = m' ((c.tc : Thread Cert.UpSquareRefIdeal.nD Cert.UpSquareRefIdeal.τ).loc Cert.UpSquareRefIdeal.main_arg0)
          ∧ r.2.mem ((c.tc : Thread Cert.UpSquareRefIdeal.nD Cert.UpSquareRefIdeal.τ).loc Cert.UpSquareRefIdeal.main_arg1) = m' ((c.tc : Thread Cert.UpSquareRefIdeal.nD Cert.UpSquareRefIdeal.τ).loc Cert.UpSquareRefIdeal.main_arg1)
          ∧ r.2.mem ((c.tc : Thread Cert.UpSquareRefIdeal.nD Cert.UpSquareRefIdeal.τ).loc Cert.UpSquareRefIdeal.main_arg2) = m' ((c.tc : Thread Cert.UpSquareRefIdeal.nD Cert.UpSquareRefIdeal.τ).loc Cert.UpSquareRefIdeal.main_arg2)
          ∧ r.2.mem ((c.tc : Thread Cert.UpSquareRefIdeal.nD Cert.UpSquareRefIdeal.τ).loc Cert.UpSquareRefIdeal.main_arg3) = m' ((c.tc : Thread Cert.UpSquareRefIdeal.nD Cert.UpSquareRefIdeal.τ).loc Cert.UpSquareRefIdeal.main_arg3)
          ∧ r.2.mem ((c.tc : Thread Cert.UpSquareRefIdeal.nD Cert.UpSquareRefIdeal.τ).loc Cert.UpSquareRefIdeal.main_arg4) = m' ((c.tc : Thread Cert.UpSquareRefIdeal.nD Cert.UpSquareRefIdeal.τ).loc Cert.UpSquareRefIdeal.main_arg4)
          ∧ r.2.mem ((c.tc : Thread Cert.UpSquareRefIdeal.nD Cert.UpSquareRefIdeal.τ).loc Cert.UpSquareRefIdeal.main_arg5) = m' ((c.tc : Thread Cert.UpSquareRefIdeal.nD Cert.UpSquareRefIdeal.τ).loc Cert.UpSquareRefIdeal.main_arg5)
          ∧ r.2.mem ((c.tc : Thread Cert.UpSquareRefIdeal.nD Cert.UpSquareRefIdeal.τ).loc Cert.UpSquareRefIdeal.main_arg6) = m' ((c.tc : Thread Cert.UpSquareRefIdeal.nD Cert.UpSquareRefIdeal.τ).loc Cert.UpSquareRefIdeal.main_arg6)
          ∧ r.2.mem ((c.tc : Thread Cert.UpSquareRefIdeal.nD Cert.UpSquareRefIdeal.τ).loc Cert.UpSquareRefIdeal.main_arg7) = m' ((c.tc : Thread Cert.UpSquareRefIdeal.nD Cert.UpSquareRefIdeal.τ).loc Cert.UpSquareRefIdeal.main_arg7))

def preserves_UpCol_UpColIdeal : Prop :=
  True

def algebraic_UpColIdeal_UpColRefIdeal [hUpColIdeal : Cert.UpColIdeal.Facts] [hUpColRefIdeal : Cert.UpColRefIdeal.Facts] [hPre_on_mesh_col : Cert.Pre_on_mesh_col.Facts] : Prop :=
  ∀ (m : (ℓ : Loc Cert.UpColIdeal.nD Cert.UpColIdeal.τ Cert.UpColIdeal.sig) → Buf (Elt Ideal) ℓ) (g : Dev Cert.UpColIdeal.nD → PrngReg)
    (m' : (ℓ : Loc Cert.UpColRefIdeal.nD Cert.UpColRefIdeal.τ Cert.UpColRefIdeal.sig) → Buf (Elt Ideal) ℓ) (g' : Dev Cert.UpColRefIdeal.nD → PrngReg), Pre_UpColIdeal m →
    (∀ c : Dev Cert.UpColIdeal.nD,
      m' ((c.tc : Thread Cert.UpColRefIdeal.nD Cert.UpColRefIdeal.τ).loc Cert.UpColRefIdeal.main_arg0) = m ((c.tc : Thread Cert.UpColIdeal.nD Cert.UpColIdeal.τ).loc Cert.UpColIdeal.main_arg0)
      ∧ m' ((c.tc : Thread Cert.UpColRefIdeal.nD Cert.UpColRefIdeal.τ).loc Cert.UpColRefIdeal.main_arg1) = m ((c.tc : Thread Cert.UpColIdeal.nD Cert.UpColIdeal.τ).loc Cert.UpColIdeal.main_arg1)
      ∧ m' ((c.tc : Thread Cert.UpColRefIdeal.nD Cert.UpColRefIdeal.τ).loc Cert.UpColRefIdeal.main_arg2) = m ((c.tc : Thread Cert.UpColIdeal.nD Cert.UpColIdeal.τ).loc Cert.UpColIdeal.main_arg2)
      ∧ m' ((c.tc : Thread Cert.UpColRefIdeal.nD Cert.UpColRefIdeal.τ).loc Cert.UpColRefIdeal.main_arg3) = m ((c.tc : Thread Cert.UpColIdeal.nD Cert.UpColIdeal.τ).loc Cert.UpColIdeal.main_arg3)
      ∧ m' ((c.tc : Thread Cert.UpColRefIdeal.nD Cert.UpColRefIdeal.τ).loc Cert.UpColRefIdeal.main_arg4) = m ((c.tc : Thread Cert.UpColIdeal.nD Cert.UpColIdeal.τ).loc Cert.UpColIdeal.main_arg4)
      ∧ m' ((c.tc : Thread Cert.UpColRefIdeal.nD Cert.UpColRefIdeal.τ).loc Cert.UpColRefIdeal.main_arg5) = m ((c.tc : Thread Cert.UpColIdeal.nD Cert.UpColIdeal.τ).loc Cert.UpColIdeal.main_arg5)
      ∧ m' ((c.tc : Thread Cert.UpColRefIdeal.nD Cert.UpColRefIdeal.τ).loc Cert.UpColRefIdeal.main_arg6) = m ((c.tc : Thread Cert.UpColIdeal.nD Cert.UpColIdeal.τ).loc Cert.UpColIdeal.main_arg6)
      ∧ m' ((c.tc : Thread Cert.UpColRefIdeal.nD Cert.UpColRefIdeal.τ).loc Cert.UpColRefIdeal.main_arg7) = m ((c.tc : Thread Cert.UpColIdeal.nD Cert.UpColIdeal.τ).loc Cert.UpColIdeal.main_arg7)) →
    ∃ (v0 : (c : Dev Cert.UpColIdeal.nD) → Buf (Elt Ideal) ((c.tc : Thread Cert.UpColIdeal.nD Cert.UpColIdeal.τ).loc Cert.UpColIdeal.main_v0_0)) (v1 : (c : Dev Cert.UpColIdeal.nD) → Buf (Elt Ideal) ((c.tc : Thread Cert.UpColIdeal.nD Cert.UpColIdeal.τ).loc Cert.UpColIdeal.main_v0_1)) (v2 : (c : Dev Cert.UpColIdeal.nD) → Buf (Elt Ideal) ((c.tc : Thread Cert.UpColIdeal.nD Cert.UpColIdeal.τ).loc Cert.UpColIdeal.main_v0_2)) (v3 : (c : Dev Cert.UpColIdeal.nD) → Buf (Elt Ideal) ((c.tc : Thread Cert.UpColIdeal.nD Cert.UpColIdeal.τ).loc Cert.UpColIdeal.main_v0_3)),
      θ_run (Cert.UpColIdeal.defs (F := Ideal)) (onTc (τ := Cert.UpColIdeal.τ) (Cert.UpColIdeal.main (F := Ideal))) ⟨m, fun _ => 0, g⟩ (fun r => ∀ c : Dev Cert.UpColIdeal.nD,
          r.2.mem ((c.tc : Thread Cert.UpColIdeal.nD Cert.UpColIdeal.τ).loc Cert.UpColIdeal.main_v0_0) = v0 c
          ∧ r.2.mem ((c.tc : Thread Cert.UpColIdeal.nD Cert.UpColIdeal.τ).loc Cert.UpColIdeal.main_v0_1) = v1 c
          ∧ r.2.mem ((c.tc : Thread Cert.UpColIdeal.nD Cert.UpColIdeal.τ).loc Cert.UpColIdeal.main_v0_2) = v2 c
          ∧ r.2.mem ((c.tc : Thread Cert.UpColIdeal.nD Cert.UpColIdeal.τ).loc Cert.UpColIdeal.main_v0_3) = v3 c
          ∧ r.2.mem ((c.tc : Thread Cert.UpColIdeal.nD Cert.UpColIdeal.τ).loc Cert.UpColIdeal.main_arg0) = m ((c.tc : Thread Cert.UpColIdeal.nD Cert.UpColIdeal.τ).loc Cert.UpColIdeal.main_arg0)
          ∧ r.2.mem ((c.tc : Thread Cert.UpColIdeal.nD Cert.UpColIdeal.τ).loc Cert.UpColIdeal.main_arg1) = m ((c.tc : Thread Cert.UpColIdeal.nD Cert.UpColIdeal.τ).loc Cert.UpColIdeal.main_arg1)
          ∧ r.2.mem ((c.tc : Thread Cert.UpColIdeal.nD Cert.UpColIdeal.τ).loc Cert.UpColIdeal.main_arg2) = m ((c.tc : Thread Cert.UpColIdeal.nD Cert.UpColIdeal.τ).loc Cert.UpColIdeal.main_arg2)
          ∧ r.2.mem ((c.tc : Thread Cert.UpColIdeal.nD Cert.UpColIdeal.τ).loc Cert.UpColIdeal.main_arg3) = m ((c.tc : Thread Cert.UpColIdeal.nD Cert.UpColIdeal.τ).loc Cert.UpColIdeal.main_arg3)
          ∧ r.2.mem ((c.tc : Thread Cert.UpColIdeal.nD Cert.UpColIdeal.τ).loc Cert.UpColIdeal.main_arg4) = m ((c.tc : Thread Cert.UpColIdeal.nD Cert.UpColIdeal.τ).loc Cert.UpColIdeal.main_arg4)
          ∧ r.2.mem ((c.tc : Thread Cert.UpColIdeal.nD Cert.UpColIdeal.τ).loc Cert.UpColIdeal.main_arg5) = m ((c.tc : Thread Cert.UpColIdeal.nD Cert.UpColIdeal.τ).loc Cert.UpColIdeal.main_arg5)
          ∧ r.2.mem ((c.tc : Thread Cert.UpColIdeal.nD Cert.UpColIdeal.τ).loc Cert.UpColIdeal.main_arg6) = m ((c.tc : Thread Cert.UpColIdeal.nD Cert.UpColIdeal.τ).loc Cert.UpColIdeal.main_arg6)
          ∧ r.2.mem ((c.tc : Thread Cert.UpColIdeal.nD Cert.UpColIdeal.τ).loc Cert.UpColIdeal.main_arg7) = m ((c.tc : Thread Cert.UpColIdeal.nD Cert.UpColIdeal.τ).loc Cert.UpColIdeal.main_arg7))
      ∧ θ_run (Cert.UpColRefIdeal.defs (F := Ideal)) (onTc (τ := Cert.UpColRefIdeal.τ) (Cert.UpColRefIdeal.main (F := Ideal))) ⟨m', fun _ => 0, g'⟩ (fun r => ∀ c : Dev Cert.UpColRefIdeal.nD,
          r.2.mem ((c.tc : Thread Cert.UpColRefIdeal.nD Cert.UpColRefIdeal.τ).loc Cert.UpColRefIdeal.main_v24) = v0 c
          ∧ r.2.mem ((c.tc : Thread Cert.UpColRefIdeal.nD Cert.UpColRefIdeal.τ).loc Cert.UpColRefIdeal.main_v48) = v1 c
          ∧ r.2.mem ((c.tc : Thread Cert.UpColRefIdeal.nD Cert.UpColRefIdeal.τ).loc Cert.UpColRefIdeal.main_v29) = v2 c
          ∧ r.2.mem ((c.tc : Thread Cert.UpColRefIdeal.nD Cert.UpColRefIdeal.τ).loc Cert.UpColRefIdeal.main_v35) = v3 c
          ∧ r.2.mem ((c.tc : Thread Cert.UpColRefIdeal.nD Cert.UpColRefIdeal.τ).loc Cert.UpColRefIdeal.main_arg0) = m' ((c.tc : Thread Cert.UpColRefIdeal.nD Cert.UpColRefIdeal.τ).loc Cert.UpColRefIdeal.main_arg0)
          ∧ r.2.mem ((c.tc : Thread Cert.UpColRefIdeal.nD Cert.UpColRefIdeal.τ).loc Cert.UpColRefIdeal.main_arg1) = m' ((c.tc : Thread Cert.UpColRefIdeal.nD Cert.UpColRefIdeal.τ).loc Cert.UpColRefIdeal.main_arg1)
          ∧ r.2.mem ((c.tc : Thread Cert.UpColRefIdeal.nD Cert.UpColRefIdeal.τ).loc Cert.UpColRefIdeal.main_arg2) = m' ((c.tc : Thread Cert.UpColRefIdeal.nD Cert.UpColRefIdeal.τ).loc Cert.UpColRefIdeal.main_arg2)
          ∧ r.2.mem ((c.tc : Thread Cert.UpColRefIdeal.nD Cert.UpColRefIdeal.τ).loc Cert.UpColRefIdeal.main_arg3) = m' ((c.tc : Thread Cert.UpColRefIdeal.nD Cert.UpColRefIdeal.τ).loc Cert.UpColRefIdeal.main_arg3)
          ∧ r.2.mem ((c.tc : Thread Cert.UpColRefIdeal.nD Cert.UpColRefIdeal.τ).loc Cert.UpColRefIdeal.main_arg4) = m' ((c.tc : Thread Cert.UpColRefIdeal.nD Cert.UpColRefIdeal.τ).loc Cert.UpColRefIdeal.main_arg4)
          ∧ r.2.mem ((c.tc : Thread Cert.UpColRefIdeal.nD Cert.UpColRefIdeal.τ).loc Cert.UpColRefIdeal.main_arg5) = m' ((c.tc : Thread Cert.UpColRefIdeal.nD Cert.UpColRefIdeal.τ).loc Cert.UpColRefIdeal.main_arg5)
          ∧ r.2.mem ((c.tc : Thread Cert.UpColRefIdeal.nD Cert.UpColRefIdeal.τ).loc Cert.UpColRefIdeal.main_arg6) = m' ((c.tc : Thread Cert.UpColRefIdeal.nD Cert.UpColRefIdeal.τ).loc Cert.UpColRefIdeal.main_arg6)
          ∧ r.2.mem ((c.tc : Thread Cert.UpColRefIdeal.nD Cert.UpColRefIdeal.τ).loc Cert.UpColRefIdeal.main_arg7) = m' ((c.tc : Thread Cert.UpColRefIdeal.nD Cert.UpColRefIdeal.τ).loc Cert.UpColRefIdeal.main_arg7))

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)
      ∧ m' ((c.tc : Thread Cert.AdamwRefIdeal.nD Cert.AdamwRefIdeal.τ).loc Cert.AdamwRefIdeal.main_arg7) = m ((c.tc : Thread Cert.AdamwIdeal.nD Cert.AdamwIdeal.τ).loc Cert.AdamwIdeal.main_arg7)
      ∧ m' ((c.tc : Thread Cert.AdamwRefIdeal.nD Cert.AdamwRefIdeal.τ).loc Cert.AdamwRefIdeal.main_arg8) = m ((c.tc : Thread Cert.AdamwIdeal.nD Cert.AdamwIdeal.τ).loc Cert.AdamwIdeal.main_arg8)
      ∧ m' ((c.tc : Thread Cert.AdamwRefIdeal.nD Cert.AdamwRefIdeal.τ).loc Cert.AdamwRefIdeal.main_arg9) = m ((c.tc : Thread Cert.AdamwIdeal.nD Cert.AdamwIdeal.τ).loc Cert.AdamwIdeal.main_arg9)
      ∧ m' ((c.tc : Thread Cert.AdamwRefIdeal.nD Cert.AdamwRefIdeal.τ).loc Cert.AdamwRefIdeal.main_arg10) = m ((c.tc : Thread Cert.AdamwIdeal.nD Cert.AdamwIdeal.τ).loc Cert.AdamwIdeal.main_arg10)
      ∧ m' ((c.tc : Thread Cert.AdamwRefIdeal.nD Cert.AdamwRefIdeal.τ).loc Cert.AdamwRefIdeal.main_arg11) = m ((c.tc : Thread Cert.AdamwIdeal.nD Cert.AdamwIdeal.τ).loc Cert.AdamwIdeal.main_arg11)
      ∧ m' ((c.tc : Thread Cert.AdamwRefIdeal.nD Cert.AdamwRefIdeal.τ).loc Cert.AdamwRefIdeal.main_arg12) = m ((c.tc : Thread Cert.AdamwIdeal.nD Cert.AdamwIdeal.τ).loc Cert.AdamwIdeal.main_arg12)
      ∧ m' ((c.tc : Thread Cert.AdamwRefIdeal.nD Cert.AdamwRefIdeal.τ).loc Cert.AdamwRefIdeal.main_arg13) = m ((c.tc : Thread Cert.AdamwIdeal.nD Cert.AdamwIdeal.τ).loc Cert.AdamwIdeal.main_arg13)
      ∧ m' ((c.tc : Thread Cert.AdamwRefIdeal.nD Cert.AdamwRefIdeal.τ).loc Cert.AdamwRefIdeal.main_arg14) = m ((c.tc : Thread Cert.AdamwIdeal.nD Cert.AdamwIdeal.τ).loc Cert.AdamwIdeal.main_arg14)
      ∧ m' ((c.tc : Thread Cert.AdamwRefIdeal.nD Cert.AdamwRefIdeal.τ).loc Cert.AdamwRefIdeal.main_arg15) = m ((c.tc : Thread Cert.AdamwIdeal.nD Cert.AdamwIdeal.τ).loc Cert.AdamwIdeal.main_arg15)
      ∧ m' ((c.tc : Thread Cert.AdamwRefIdeal.nD Cert.AdamwRefIdeal.τ).loc Cert.AdamwRefIdeal.main_arg16) = m ((c.tc : Thread Cert.AdamwIdeal.nD Cert.AdamwIdeal.τ).loc Cert.AdamwIdeal.main_arg16)
      ∧ m' ((c.tc : Thread Cert.AdamwRefIdeal.nD Cert.AdamwRefIdeal.τ).loc Cert.AdamwRefIdeal.main_arg17) = m ((c.tc : Thread Cert.AdamwIdeal.nD Cert.AdamwIdeal.τ).loc Cert.AdamwIdeal.main_arg17)
      ∧ m' ((c.tc : Thread Cert.AdamwRefIdeal.nD Cert.AdamwRefIdeal.τ).loc Cert.AdamwRefIdeal.main_arg18) = m ((c.tc : Thread Cert.AdamwIdeal.nD Cert.AdamwIdeal.τ).loc Cert.AdamwIdeal.main_arg18)
      ∧ m' ((c.tc : Thread Cert.AdamwRefIdeal.nD Cert.AdamwRefIdeal.τ).loc Cert.AdamwRefIdeal.main_arg19) = m ((c.tc : Thread Cert.AdamwIdeal.nD Cert.AdamwIdeal.τ).loc Cert.AdamwIdeal.main_arg19)
      ∧ m' ((c.tc : Thread Cert.AdamwRefIdeal.nD Cert.AdamwRefIdeal.τ).loc Cert.AdamwRefIdeal.main_arg20) = m ((c.tc : Thread Cert.AdamwIdeal.nD Cert.AdamwIdeal.τ).loc Cert.AdamwIdeal.main_arg20)
      ∧ m' ((c.tc : Thread Cert.AdamwRefIdeal.nD Cert.AdamwRefIdeal.τ).loc Cert.AdamwRefIdeal.main_arg21) = m ((c.tc : Thread Cert.AdamwIdeal.nD Cert.AdamwIdeal.τ).loc Cert.AdamwIdeal.main_arg21)
      ∧ m' ((c.tc : Thread Cert.AdamwRefIdeal.nD Cert.AdamwRefIdeal.τ).loc Cert.AdamwRefIdeal.main_arg22) = m ((c.tc : Thread Cert.AdamwIdeal.nD Cert.AdamwIdeal.τ).loc Cert.AdamwIdeal.main_arg22)
      ∧ m' ((c.tc : Thread Cert.AdamwRefIdeal.nD Cert.AdamwRefIdeal.τ).loc Cert.AdamwRefIdeal.main_arg23) = m ((c.tc : Thread Cert.AdamwIdeal.nD Cert.AdamwIdeal.τ).loc Cert.AdamwIdeal.main_arg23)
      ∧ m' ((c.tc : Thread Cert.AdamwRefIdeal.nD Cert.AdamwRefIdeal.τ).loc Cert.AdamwRefIdeal.main_arg24) = m ((c.tc : Thread Cert.AdamwIdeal.nD Cert.AdamwIdeal.τ).loc Cert.AdamwIdeal.main_arg24)
      ∧ m' ((c.tc : Thread Cert.AdamwRefIdeal.nD Cert.AdamwRefIdeal.τ).loc Cert.AdamwRefIdeal.main_arg25) = m ((c.tc : Thread Cert.AdamwIdeal.nD Cert.AdamwIdeal.τ).loc Cert.AdamwIdeal.main_arg25)
      ∧ m' ((c.tc : Thread Cert.AdamwRefIdeal.nD Cert.AdamwRefIdeal.τ).loc Cert.AdamwRefIdeal.main_arg26) = m ((c.tc : Thread Cert.AdamwIdeal.nD Cert.AdamwIdeal.τ).loc Cert.AdamwIdeal.main_arg26)
      ∧ m' ((c.tc : Thread Cert.AdamwRefIdeal.nD Cert.AdamwRefIdeal.τ).loc Cert.AdamwRefIdeal.main_arg27) = m ((c.tc : Thread Cert.AdamwIdeal.nD Cert.AdamwIdeal.τ).loc Cert.AdamwIdeal.main_arg27)
      ∧ m' ((c.tc : Thread Cert.AdamwRefIdeal.nD Cert.AdamwRefIdeal.τ).loc Cert.AdamwRefIdeal.main_arg28) = m ((c.tc : Thread Cert.AdamwIdeal.nD Cert.AdamwIdeal.τ).loc Cert.AdamwIdeal.main_arg28)
      ∧ m' ((c.tc : Thread Cert.AdamwRefIdeal.nD Cert.AdamwRefIdeal.τ).loc Cert.AdamwRefIdeal.main_arg29) = m ((c.tc : Thread Cert.AdamwIdeal.nD Cert.AdamwIdeal.τ).loc Cert.AdamwIdeal.main_arg29)
      ∧ m' ((c.tc : Thread Cert.AdamwRefIdeal.nD Cert.AdamwRefIdeal.τ).loc Cert.AdamwRefIdeal.main_arg30) = m ((c.tc : Thread Cert.AdamwIdeal.nD Cert.AdamwIdeal.τ).loc Cert.AdamwIdeal.main_arg30)
      ∧ m' ((c.tc : Thread Cert.AdamwRefIdeal.nD Cert.AdamwRefIdeal.τ).loc Cert.AdamwRefIdeal.main_arg31) = m ((c.tc : Thread Cert.AdamwIdeal.nD Cert.AdamwIdeal.τ).loc Cert.AdamwIdeal.main_arg31)
      ∧ m' ((c.tc : Thread Cert.AdamwRefIdeal.nD Cert.AdamwRefIdeal.τ).loc Cert.AdamwRefIdeal.main_arg32) = m ((c.tc : Thread Cert.AdamwIdeal.nD Cert.AdamwIdeal.τ).loc Cert.AdamwIdeal.main_arg32)
      ∧ m' ((c.tc : Thread Cert.AdamwRefIdeal.nD Cert.AdamwRefIdeal.τ).loc Cert.AdamwRefIdeal.main_arg33) = m ((c.tc : Thread Cert.AdamwIdeal.nD Cert.AdamwIdeal.τ).loc Cert.AdamwIdeal.main_arg33)
      ∧ m' ((c.tc : Thread Cert.AdamwRefIdeal.nD Cert.AdamwRefIdeal.τ).loc Cert.AdamwRefIdeal.main_arg34) = m ((c.tc : Thread Cert.AdamwIdeal.nD Cert.AdamwIdeal.τ).loc Cert.AdamwIdeal.main_arg34)
      ∧ m' ((c.tc : Thread Cert.AdamwRefIdeal.nD Cert.AdamwRefIdeal.τ).loc Cert.AdamwRefIdeal.main_arg35) = m ((c.tc : Thread Cert.AdamwIdeal.nD Cert.AdamwIdeal.τ).loc Cert.AdamwIdeal.main_arg35)
      ∧ m' ((c.tc : Thread Cert.AdamwRefIdeal.nD Cert.AdamwRefIdeal.τ).loc Cert.AdamwRefIdeal.main_arg36) = m ((c.tc : Thread Cert.AdamwIdeal.nD Cert.AdamwIdeal.τ).loc Cert.AdamwIdeal.main_arg36)
      ∧ m' ((c.tc : Thread Cert.AdamwRefIdeal.nD Cert.AdamwRefIdeal.τ).loc Cert.AdamwRefIdeal.main_arg37) = m ((c.tc : Thread Cert.AdamwIdeal.nD Cert.AdamwIdeal.τ).loc Cert.AdamwIdeal.main_arg37)
      ∧ m' ((c.tc : Thread Cert.AdamwRefIdeal.nD Cert.AdamwRefIdeal.τ).loc Cert.AdamwRefIdeal.main_arg38) = m ((c.tc : Thread Cert.AdamwIdeal.nD Cert.AdamwIdeal.τ).loc Cert.AdamwIdeal.main_arg38)
      ∧ m' ((c.tc : Thread Cert.AdamwRefIdeal.nD Cert.AdamwRefIdeal.τ).loc Cert.AdamwRefIdeal.main_arg39) = m ((c.tc : Thread Cert.AdamwIdeal.nD Cert.AdamwIdeal.τ).loc Cert.AdamwIdeal.main_arg39)
      ∧ m' ((c.tc : Thread Cert.AdamwRefIdeal.nD Cert.AdamwRefIdeal.τ).loc Cert.AdamwRefIdeal.main_arg40) = m ((c.tc : Thread Cert.AdamwIdeal.nD Cert.AdamwIdeal.τ).loc Cert.AdamwIdeal.main_arg40)
      ∧ m' ((c.tc : Thread Cert.AdamwRefIdeal.nD Cert.AdamwRefIdeal.τ).loc Cert.AdamwRefIdeal.main_arg41) = m ((c.tc : Thread Cert.AdamwIdeal.nD Cert.AdamwIdeal.τ).loc Cert.AdamwIdeal.main_arg41)
      ∧ m' ((c.tc : Thread Cert.AdamwRefIdeal.nD Cert.AdamwRefIdeal.τ).loc Cert.AdamwRefIdeal.main_arg42) = m ((c.tc : Thread Cert.AdamwIdeal.nD Cert.AdamwIdeal.τ).loc Cert.AdamwIdeal.main_arg42)
      ∧ m' ((c.tc : Thread Cert.AdamwRefIdeal.nD Cert.AdamwRefIdeal.τ).loc Cert.AdamwRefIdeal.main_arg43) = m ((c.tc : Thread Cert.AdamwIdeal.nD Cert.AdamwIdeal.τ).loc Cert.AdamwIdeal.main_arg43)
      ∧ m' ((c.tc : Thread Cert.AdamwRefIdeal.nD Cert.AdamwRefIdeal.τ).loc Cert.AdamwRefIdeal.main_arg44) = m ((c.tc : Thread Cert.AdamwIdeal.nD Cert.AdamwIdeal.τ).loc Cert.AdamwIdeal.main_arg44)
      ∧ m' ((c.tc : Thread Cert.AdamwRefIdeal.nD Cert.AdamwRefIdeal.τ).loc Cert.AdamwRefIdeal.main_arg45) = m ((c.tc : Thread Cert.AdamwIdeal.nD Cert.AdamwIdeal.τ).loc Cert.AdamwIdeal.main_arg45)
      ∧ m' ((c.tc : Thread Cert.AdamwRefIdeal.nD Cert.AdamwRefIdeal.τ).loc Cert.AdamwRefIdeal.main_arg46) = m ((c.tc : Thread Cert.AdamwIdeal.nD Cert.AdamwIdeal.τ).loc Cert.AdamwIdeal.main_arg46)
      ∧ m' ((c.tc : Thread Cert.AdamwRefIdeal.nD Cert.AdamwRefIdeal.τ).loc Cert.AdamwRefIdeal.main_arg47) = m ((c.tc : Thread Cert.AdamwIdeal.nD Cert.AdamwIdeal.τ).loc Cert.AdamwIdeal.main_arg47)
      ∧ m' ((c.tc : Thread Cert.AdamwRefIdeal.nD Cert.AdamwRefIdeal.τ).loc Cert.AdamwRefIdeal.main_arg48) = m ((c.tc : Thread Cert.AdamwIdeal.nD Cert.AdamwIdeal.τ).loc Cert.AdamwIdeal.main_arg48)
      ∧ m' ((c.tc : Thread Cert.AdamwRefIdeal.nD Cert.AdamwRefIdeal.τ).loc Cert.AdamwRefIdeal.main_arg49) = m ((c.tc : Thread Cert.AdamwIdeal.nD Cert.AdamwIdeal.τ).loc Cert.AdamwIdeal.main_arg49)
      ∧ m' ((c.tc : Thread Cert.AdamwRefIdeal.nD Cert.AdamwRefIdeal.τ).loc Cert.AdamwRefIdeal.main_arg50) = m ((c.tc : Thread Cert.AdamwIdeal.nD Cert.AdamwIdeal.τ).loc Cert.AdamwIdeal.main_arg50)
      ∧ m' ((c.tc : Thread Cert.AdamwRefIdeal.nD Cert.AdamwRefIdeal.τ).loc Cert.AdamwRefIdeal.main_arg51) = m ((c.tc : Thread Cert.AdamwIdeal.nD Cert.AdamwIdeal.τ).loc Cert.AdamwIdeal.main_arg51)
      ∧ m' ((c.tc : Thread Cert.AdamwRefIdeal.nD Cert.AdamwRefIdeal.τ).loc Cert.AdamwRefIdeal.main_arg52) = m ((c.tc : Thread Cert.AdamwIdeal.nD Cert.AdamwIdeal.τ).loc Cert.AdamwIdeal.main_arg52)
      ∧ m' ((c.tc : Thread Cert.AdamwRefIdeal.nD Cert.AdamwRefIdeal.τ).loc Cert.AdamwRefIdeal.main_arg53) = m ((c.tc : Thread Cert.AdamwIdeal.nD Cert.AdamwIdeal.τ).loc Cert.AdamwIdeal.main_arg53)
      ∧ m' ((c.tc : Thread Cert.AdamwRefIdeal.nD Cert.AdamwRefIdeal.τ).loc Cert.AdamwRefIdeal.main_arg54) = m ((c.tc : Thread Cert.AdamwIdeal.nD Cert.AdamwIdeal.τ).loc Cert.AdamwIdeal.main_arg54)
      ∧ m' ((c.tc : Thread Cert.AdamwRefIdeal.nD Cert.AdamwRefIdeal.τ).loc Cert.AdamwRefIdeal.main_arg55) = m ((c.tc : Thread Cert.AdamwIdeal.nD Cert.AdamwIdeal.τ).loc Cert.AdamwIdeal.main_arg55)
      ∧ m' ((c.tc : Thread Cert.AdamwRefIdeal.nD Cert.AdamwRefIdeal.τ).loc Cert.AdamwRefIdeal.main_arg56) = m ((c.tc : Thread Cert.AdamwIdeal.nD Cert.AdamwIdeal.τ).loc Cert.AdamwIdeal.main_arg56)
      ∧ m' ((c.tc : Thread Cert.AdamwRefIdeal.nD Cert.AdamwRefIdeal.τ).loc Cert.AdamwRefIdeal.main_arg57) = m ((c.tc : Thread Cert.AdamwIdeal.nD Cert.AdamwIdeal.τ).loc Cert.AdamwIdeal.main_arg57)
      ∧ m' ((c.tc : Thread Cert.AdamwRefIdeal.nD Cert.AdamwRefIdeal.τ).loc Cert.AdamwRefIdeal.main_arg58) = m ((c.tc : Thread Cert.AdamwIdeal.nD Cert.AdamwIdeal.τ).loc Cert.AdamwIdeal.main_arg58)
      ∧ m' ((c.tc : Thread Cert.AdamwRefIdeal.nD Cert.AdamwRefIdeal.τ).loc Cert.AdamwRefIdeal.main_arg59) = m ((c.tc : Thread Cert.AdamwIdeal.nD Cert.AdamwIdeal.τ).loc Cert.AdamwIdeal.main_arg59)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)) (v4 : (c : Dev Cert.AdamwIdeal.nD) → Buf (Elt Ideal) ((c.tc : Thread Cert.AdamwIdeal.nD Cert.AdamwIdeal.τ).loc Cert.AdamwIdeal.main_v0_4)) (v5 : (c : Dev Cert.AdamwIdeal.nD) → Buf (Elt Ideal) ((c.tc : Thread Cert.AdamwIdeal.nD Cert.AdamwIdeal.τ).loc Cert.AdamwIdeal.main_v0_5)) (v6 : (c : Dev Cert.AdamwIdeal.nD) → Buf (Elt Ideal) ((c.tc : Thread Cert.AdamwIdeal.nD Cert.AdamwIdeal.τ).loc Cert.AdamwIdeal.main_v0_6)) (v7 : (c : Dev Cert.AdamwIdeal.nD) → Buf (Elt Ideal) ((c.tc : Thread Cert.AdamwIdeal.nD Cert.AdamwIdeal.τ).loc Cert.AdamwIdeal.main_v0_7)) (v8 : (c : Dev Cert.AdamwIdeal.nD) → Buf (Elt Ideal) ((c.tc : Thread Cert.AdamwIdeal.nD Cert.AdamwIdeal.τ).loc Cert.AdamwIdeal.main_v0_8)) (v9 : (c : Dev Cert.AdamwIdeal.nD) → Buf (Elt Ideal) ((c.tc : Thread Cert.AdamwIdeal.nD Cert.AdamwIdeal.τ).loc Cert.AdamwIdeal.main_v0_9)) (v10 : (c : Dev Cert.AdamwIdeal.nD) → Buf (Elt Ideal) ((c.tc : Thread Cert.AdamwIdeal.nD Cert.AdamwIdeal.τ).loc Cert.AdamwIdeal.main_v0_10)) (v11 : (c : Dev Cert.AdamwIdeal.nD) → Buf (Elt Ideal) ((c.tc : Thread Cert.AdamwIdeal.nD Cert.AdamwIdeal.τ).loc Cert.AdamwIdeal.main_v0_11)) (v12 : (c : Dev Cert.AdamwIdeal.nD) → Buf (Elt Ideal) ((c.tc : Thread Cert.AdamwIdeal.nD Cert.AdamwIdeal.τ).loc Cert.AdamwIdeal.main_v0_12)) (v13 : (c : Dev Cert.AdamwIdeal.nD) → Buf (Elt Ideal) ((c.tc : Thread Cert.AdamwIdeal.nD Cert.AdamwIdeal.τ).loc Cert.AdamwIdeal.main_v0_13)) (v14 : (c : Dev Cert.AdamwIdeal.nD) → Buf (Elt Ideal) ((c.tc : Thread Cert.AdamwIdeal.nD Cert.AdamwIdeal.τ).loc Cert.AdamwIdeal.main_v0_14)) (v15 : (c : Dev Cert.AdamwIdeal.nD) → Buf (Elt Ideal) ((c.tc : Thread Cert.AdamwIdeal.nD Cert.AdamwIdeal.τ).loc Cert.AdamwIdeal.main_v0_15)) (v16 : (c : Dev Cert.AdamwIdeal.nD) → Buf (Elt Ideal) ((c.tc : Thread Cert.AdamwIdeal.nD Cert.AdamwIdeal.τ).loc Cert.AdamwIdeal.main_v0_16)) (v17 : (c : Dev Cert.AdamwIdeal.nD) → Buf (Elt Ideal) ((c.tc : Thread Cert.AdamwIdeal.nD Cert.AdamwIdeal.τ).loc Cert.AdamwIdeal.main_v0_17)) (v18 : (c : Dev Cert.AdamwIdeal.nD) → Buf (Elt Ideal) ((c.tc : Thread Cert.AdamwIdeal.nD Cert.AdamwIdeal.τ).loc Cert.AdamwIdeal.main_v0_18)) (v19 : (c : Dev Cert.AdamwIdeal.nD) → Buf (Elt Ideal) ((c.tc : Thread Cert.AdamwIdeal.nD Cert.AdamwIdeal.τ).loc Cert.AdamwIdeal.main_v0_19)) (v20 : (c : Dev Cert.AdamwIdeal.nD) → Buf (Elt Ideal) ((c.tc : Thread Cert.AdamwIdeal.nD Cert.AdamwIdeal.τ).loc Cert.AdamwIdeal.main_v0_20)) (v21 : (c : Dev Cert.AdamwIdeal.nD) → Buf (Elt Ideal) ((c.tc : Thread Cert.AdamwIdeal.nD Cert.AdamwIdeal.τ).loc Cert.AdamwIdeal.main_v0_21)) (v22 : (c : Dev Cert.AdamwIdeal.nD) → Buf (Elt Ideal) ((c.tc : Thread Cert.AdamwIdeal.nD Cert.AdamwIdeal.τ).loc Cert.AdamwIdeal.main_v0_22)) (v23 : (c : Dev Cert.AdamwIdeal.nD) → Buf (Elt Ideal) ((c.tc : Thread Cert.AdamwIdeal.nD Cert.AdamwIdeal.τ).loc Cert.AdamwIdeal.main_v0_23)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_v0_4) = v4 c
          ∧ r.2.mem ((c.tc : Thread Cert.AdamwIdeal.nD Cert.AdamwIdeal.τ).loc Cert.AdamwIdeal.main_v0_5) = v5 c
          ∧ r.2.mem ((c.tc : Thread Cert.AdamwIdeal.nD Cert.AdamwIdeal.τ).loc Cert.AdamwIdeal.main_v0_6) = v6 c
          ∧ r.2.mem ((c.tc : Thread Cert.AdamwIdeal.nD Cert.AdamwIdeal.τ).loc Cert.AdamwIdeal.main_v0_7) = v7 c
          ∧ r.2.mem ((c.tc : Thread Cert.AdamwIdeal.nD Cert.AdamwIdeal.τ).loc Cert.AdamwIdeal.main_v0_8) = v8 c
          ∧ r.2.mem ((c.tc : Thread Cert.AdamwIdeal.nD Cert.AdamwIdeal.τ).loc Cert.AdamwIdeal.main_v0_9) = v9 c
          ∧ r.2.mem ((c.tc : Thread Cert.AdamwIdeal.nD Cert.AdamwIdeal.τ).loc Cert.AdamwIdeal.main_v0_10) = v10 c
          ∧ r.2.mem ((c.tc : Thread Cert.AdamwIdeal.nD Cert.AdamwIdeal.τ).loc Cert.AdamwIdeal.main_v0_11) = v11 c
          ∧ r.2.mem ((c.tc : Thread Cert.AdamwIdeal.nD Cert.AdamwIdeal.τ).loc Cert.AdamwIdeal.main_v0_12) = v12 c
          ∧ r.2.mem ((c.tc : Thread Cert.AdamwIdeal.nD Cert.AdamwIdeal.τ).loc Cert.AdamwIdeal.main_v0_13) = v13 c
          ∧ r.2.mem ((c.tc : Thread Cert.AdamwIdeal.nD Cert.AdamwIdeal.τ).loc Cert.AdamwIdeal.main_v0_14) = v14 c
          ∧ r.2.mem ((c.tc : Thread Cert.AdamwIdeal.nD Cert.AdamwIdeal.τ).loc Cert.AdamwIdeal.main_v0_15) = v15 c
          ∧ r.2.mem ((c.tc : Thread Cert.AdamwIdeal.nD Cert.AdamwIdeal.τ).loc Cert.AdamwIdeal.main_v0_16) = v16 c
          ∧ r.2.mem ((c.tc : Thread Cert.AdamwIdeal.nD Cert.AdamwIdeal.τ).loc Cert.AdamwIdeal.main_v0_17) = v17 c
          ∧ r.2.mem ((c.tc : Thread Cert.AdamwIdeal.nD Cert.AdamwIdeal.τ).loc Cert.AdamwIdeal.main_v0_18) = v18 c
          ∧ r.2.mem ((c.tc : Thread Cert.AdamwIdeal.nD Cert.AdamwIdeal.τ).loc Cert.AdamwIdeal.main_v0_19) = v19 c
          ∧ r.2.mem ((c.tc : Thread Cert.AdamwIdeal.nD Cert.AdamwIdeal.τ).loc Cert.AdamwIdeal.main_v0_20) = v20 c
          ∧ r.2.mem ((c.tc : Thread Cert.AdamwIdeal.nD Cert.AdamwIdeal.τ).loc Cert.AdamwIdeal.main_v0_21) = v21 c
          ∧ r.2.mem ((c.tc : Thread Cert.AdamwIdeal.nD Cert.AdamwIdeal.τ).loc Cert.AdamwIdeal.main_v0_22) = v22 c
          ∧ r.2.mem ((c.tc : Thread Cert.AdamwIdeal.nD Cert.AdamwIdeal.τ).loc Cert.AdamwIdeal.main_v0_23) = v23 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
          ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
          ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
          ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
          ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
          ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
          ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
          ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
          ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
          ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
          ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
          ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
          ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
          ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
          ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
          ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
          ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27)
          ∧ r.2.mem ((c.tc : Thread Cert.AdamwIdeal.nD Cert.AdamwIdeal.τ).loc Cert.AdamwIdeal.main_arg28) = m ((c.tc : Thread Cert.AdamwIdeal.nD Cert.AdamwIdeal.τ).loc Cert.AdamwIdeal.main_arg28)
          ∧ r.2.mem ((c.tc : Thread Cert.AdamwIdeal.nD Cert.AdamwIdeal.τ).loc Cert.AdamwIdeal.main_arg29) = m ((c.tc : Thread Cert.AdamwIdeal.nD Cert.AdamwIdeal.τ).loc Cert.AdamwIdeal.main_arg29)
          ∧ r.2.mem ((c.tc : Thread Cert.AdamwIdeal.nD Cert.AdamwIdeal.τ).loc Cert.AdamwIdeal.main_arg30) = m ((c.tc : Thread Cert.AdamwIdeal.nD Cert.AdamwIdeal.τ).loc Cert.AdamwIdeal.main_arg30)
          ∧ r.2.mem ((c.tc : Thread Cert.AdamwIdeal.nD Cert.AdamwIdeal.τ).loc Cert.AdamwIdeal.main_arg31) = m ((c.tc : Thread Cert.AdamwIdeal.nD Cert.AdamwIdeal.τ).loc Cert.AdamwIdeal.main_arg31)
          ∧ r.2.mem ((c.tc : Thread Cert.AdamwIdeal.nD Cert.AdamwIdeal.τ).loc Cert.AdamwIdeal.main_arg32) = m ((c.tc : Thread Cert.AdamwIdeal.nD Cert.AdamwIdeal.τ).loc Cert.AdamwIdeal.main_arg32)
          ∧ r.2.mem ((c.tc : Thread Cert.AdamwIdeal.nD Cert.AdamwIdeal.τ).loc Cert.AdamwIdeal.main_arg33) = m ((c.tc : Thread Cert.AdamwIdeal.nD Cert.AdamwIdeal.τ).loc Cert.AdamwIdeal.main_arg33)
          ∧ r.2.mem ((c.tc : Thread Cert.AdamwIdeal.nD Cert.AdamwIdeal.τ).loc Cert.AdamwIdeal.main_arg34) = m ((c.tc : Thread Cert.AdamwIdeal.nD Cert.AdamwIdeal.τ).loc Cert.AdamwIdeal.main_arg34)
          ∧ r.2.mem ((c.tc : Thread Cert.AdamwIdeal.nD Cert.AdamwIdeal.τ).loc Cert.AdamwIdeal.main_arg35) = m ((c.tc : Thread Cert.AdamwIdeal.nD Cert.AdamwIdeal.τ).loc Cert.AdamwIdeal.main_arg35)
          ∧ r.2.mem ((c.tc : Thread Cert.AdamwIdeal.nD Cert.AdamwIdeal.τ).loc Cert.AdamwIdeal.main_arg36) = m ((c.tc : Thread Cert.AdamwIdeal.nD Cert.AdamwIdeal.τ).loc Cert.AdamwIdeal.main_arg36)
          ∧ r.2.mem ((c.tc : Thread Cert.AdamwIdeal.nD Cert.AdamwIdeal.τ).loc Cert.AdamwIdeal.main_arg37) = m ((c.tc : Thread Cert.AdamwIdeal.nD Cert.AdamwIdeal.τ).loc Cert.AdamwIdeal.main_arg37)
          ∧ r.2.mem ((c.tc : Thread Cert.AdamwIdeal.nD Cert.AdamwIdeal.τ).loc Cert.AdamwIdeal.main_arg38) = m ((c.tc : Thread Cert.AdamwIdeal.nD Cert.AdamwIdeal.τ).loc Cert.AdamwIdeal.main_arg38)
          ∧ r.2.mem ((c.tc : Thread Cert.AdamwIdeal.nD Cert.AdamwIdeal.τ).loc Cert.AdamwIdeal.main_arg39) = m ((c.tc : Thread Cert.AdamwIdeal.nD Cert.AdamwIdeal.τ).loc Cert.AdamwIdeal.main_arg39)
          ∧ r.2.mem ((c.tc : Thread Cert.AdamwIdeal.nD Cert.AdamwIdeal.τ).loc Cert.AdamwIdeal.main_arg40) = m ((c.tc : Thread Cert.AdamwIdeal.nD Cert.AdamwIdeal.τ).loc Cert.AdamwIdeal.main_arg40)
          ∧ r.2.mem ((c.tc : Thread Cert.AdamwIdeal.nD Cert.AdamwIdeal.τ).loc Cert.AdamwIdeal.main_arg41) = m ((c.tc : Thread Cert.AdamwIdeal.nD Cert.AdamwIdeal.τ).loc Cert.AdamwIdeal.main_arg41)
          ∧ r.2.mem ((c.tc : Thread Cert.AdamwIdeal.nD Cert.AdamwIdeal.τ).loc Cert.AdamwIdeal.main_arg42) = m ((c.tc : Thread Cert.AdamwIdeal.nD Cert.AdamwIdeal.τ).loc Cert.AdamwIdeal.main_arg42)
          ∧ r.2.mem ((c.tc : Thread Cert.AdamwIdeal.nD Cert.AdamwIdeal.τ).loc Cert.AdamwIdeal.main_arg43) = m ((c.tc : Thread Cert.AdamwIdeal.nD Cert.AdamwIdeal.τ).loc Cert.AdamwIdeal.main_arg43)
          ∧ r.2.mem ((c.tc : Thread Cert.AdamwIdeal.nD Cert.AdamwIdeal.τ).loc Cert.AdamwIdeal.main_arg44) = m ((c.tc : Thread Cert.AdamwIdeal.nD Cert.AdamwIdeal.τ).loc Cert.AdamwIdeal.main_arg44)
          ∧ r.2.mem ((c.tc : Thread Cert.AdamwIdeal.nD Cert.AdamwIdeal.τ).loc Cert.AdamwIdeal.main_arg45) = m ((c.tc : Thread Cert.AdamwIdeal.nD Cert.AdamwIdeal.τ).loc Cert.AdamwIdeal.main_arg45)
          ∧ r.2.mem ((c.tc : Thread Cert.AdamwIdeal.nD Cert.AdamwIdeal.τ).loc Cert.AdamwIdeal.main_arg46) = m ((c.tc : Thread Cert.AdamwIdeal.nD Cert.AdamwIdeal.τ).loc Cert.AdamwIdeal.main_arg46)
          ∧ r.2.mem ((c.tc : Thread Cert.AdamwIdeal.nD Cert.AdamwIdeal.τ).loc Cert.AdamwIdeal.main_arg47) = m ((c.tc : Thread Cert.AdamwIdeal.nD Cert.AdamwIdeal.τ).loc Cert.AdamwIdeal.main_arg47)
          ∧ r.2.mem ((c.tc : Thread Cert.AdamwIdeal.nD Cert.AdamwIdeal.τ).loc Cert.AdamwIdeal.main_arg48) = m ((c.tc : Thread Cert.AdamwIdeal.nD Cert.AdamwIdeal.τ).loc Cert.AdamwIdeal.main_arg48)
          ∧ r.2.mem ((c.tc : Thread Cert.AdamwIdeal.nD Cert.AdamwIdeal.τ).loc Cert.AdamwIdeal.main_arg49) = m ((c.tc : Thread Cert.AdamwIdeal.nD Cert.AdamwIdeal.τ).loc Cert.AdamwIdeal.main_arg49)
          ∧ r.2.mem ((c.tc : Thread Cert.AdamwIdeal.nD Cert.AdamwIdeal.τ).loc Cert.AdamwIdeal.main_arg50) = m ((c.tc : Thread Cert.AdamwIdeal.nD Cert.AdamwIdeal.τ).loc Cert.AdamwIdeal.main_arg50)
          ∧ r.2.mem ((c.tc : Thread Cert.AdamwIdeal.nD Cert.AdamwIdeal.τ).loc Cert.AdamwIdeal.main_arg51) = m ((c.tc : Thread Cert.AdamwIdeal.nD Cert.AdamwIdeal.τ).loc Cert.AdamwIdeal.main_arg51)
          ∧ r.2.mem ((c.tc : Thread Cert.AdamwIdeal.nD Cert.AdamwIdeal.τ).loc Cert.AdamwIdeal.main_arg52) = m ((c.tc : Thread Cert.AdamwIdeal.nD Cert.AdamwIdeal.τ).loc Cert.AdamwIdeal.main_arg52)
          ∧ r.2.mem ((c.tc : Thread Cert.AdamwIdeal.nD Cert.AdamwIdeal.τ).loc Cert.AdamwIdeal.main_arg53) = m ((c.tc : Thread Cert.AdamwIdeal.nD Cert.AdamwIdeal.τ).loc Cert.AdamwIdeal.main_arg53)
          ∧ r.2.mem ((c.tc : Thread Cert.AdamwIdeal.nD Cert.AdamwIdeal.τ).loc Cert.AdamwIdeal.main_arg54) = m ((c.tc : Thread Cert.AdamwIdeal.nD Cert.AdamwIdeal.τ).loc Cert.AdamwIdeal.main_arg54)
          ∧ r.2.mem ((c.tc : Thread Cert.AdamwIdeal.nD Cert.AdamwIdeal.τ).loc Cert.AdamwIdeal.main_arg55) = m ((c.tc : Thread Cert.AdamwIdeal.nD Cert.AdamwIdeal.τ).loc Cert.AdamwIdeal.main_arg55)
          ∧ r.2.mem ((c.tc : Thread Cert.AdamwIdeal.nD Cert.AdamwIdeal.τ).loc Cert.AdamwIdeal.main_arg56) = m ((c.tc : Thread Cert.AdamwIdeal.nD Cert.AdamwIdeal.τ).loc Cert.AdamwIdeal.main_arg56)
          ∧ r.2.mem ((c.tc : Thread Cert.AdamwIdeal.nD Cert.AdamwIdeal.τ).loc Cert.AdamwIdeal.main_arg57) = m ((c.tc : Thread Cert.AdamwIdeal.nD Cert.AdamwIdeal.τ).loc Cert.AdamwIdeal.main_arg57)
          ∧ r.2.mem ((c.tc : Thread Cert.AdamwIdeal.nD Cert.AdamwIdeal.τ).loc Cert.AdamwIdeal.main_arg58) = m ((c.tc : Thread Cert.AdamwIdeal.nD Cert.AdamwIdeal.τ).loc Cert.AdamwIdeal.main_arg58)
          ∧ r.2.mem ((c.tc : Thread Cert.AdamwIdeal.nD Cert.AdamwIdeal.τ).loc Cert.AdamwIdeal.main_arg59) = m ((c.tc : Thread Cert.AdamwIdeal.nD Cert.AdamwIdeal.τ).loc Cert.AdamwIdeal.main_arg59))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_v47) = v3 c
          ∧ r.2.mem ((c.tc : Thread Cert.AdamwRefIdeal.nD Cert.AdamwRefIdeal.τ).loc Cert.AdamwRefIdeal.main_v28) = v4 c
          ∧ r.2.mem ((c.tc : Thread Cert.AdamwRefIdeal.nD Cert.AdamwRefIdeal.τ).loc Cert.AdamwRefIdeal.main_v34) = v5 c
          ∧ r.2.mem ((c.tc : Thread Cert.AdamwRefIdeal.nD Cert.AdamwRefIdeal.τ).loc Cert.AdamwRefIdeal.main_v71) = v6 c
          ∧ r.2.mem ((c.tc : Thread Cert.AdamwRefIdeal.nD Cert.AdamwRefIdeal.τ).loc Cert.AdamwRefIdeal.main_v52) = v7 c
          ∧ r.2.mem ((c.tc : Thread Cert.AdamwRefIdeal.nD Cert.AdamwRefIdeal.τ).loc Cert.AdamwRefIdeal.main_v58) = v8 c
          ∧ r.2.mem ((c.tc : Thread Cert.AdamwRefIdeal.nD Cert.AdamwRefIdeal.τ).loc Cert.AdamwRefIdeal.main_v95) = v9 c
          ∧ r.2.mem ((c.tc : Thread Cert.AdamwRefIdeal.nD Cert.AdamwRefIdeal.τ).loc Cert.AdamwRefIdeal.main_v76) = v10 c
          ∧ r.2.mem ((c.tc : Thread Cert.AdamwRefIdeal.nD Cert.AdamwRefIdeal.τ).loc Cert.AdamwRefIdeal.main_v82) = v11 c
          ∧ r.2.mem ((c.tc : Thread Cert.AdamwRefIdeal.nD Cert.AdamwRefIdeal.τ).loc Cert.AdamwRefIdeal.main_v119) = v12 c
          ∧ r.2.mem ((c.tc : Thread Cert.AdamwRefIdeal.nD Cert.AdamwRefIdeal.τ).loc Cert.AdamwRefIdeal.main_v100) = v13 c
          ∧ r.2.mem ((c.tc : Thread Cert.AdamwRefIdeal.nD Cert.AdamwRefIdeal.τ).loc Cert.AdamwRefIdeal.main_v106) = v14 c
          ∧ r.2.mem ((c.tc : Thread Cert.AdamwRefIdeal.nD Cert.AdamwRefIdeal.τ).loc Cert.AdamwRefIdeal.main_v143) = v15 c
          ∧ r.2.mem ((c.tc : Thread Cert.AdamwRefIdeal.nD Cert.AdamwRefIdeal.τ).loc Cert.AdamwRefIdeal.main_v124) = v16 c
          ∧ r.2.mem ((c.tc : Thread Cert.AdamwRefIdeal.nD Cert.AdamwRefIdeal.τ).loc Cert.AdamwRefIdeal.main_v130) = v17 c
          ∧ r.2.mem ((c.tc : Thread Cert.AdamwRefIdeal.nD Cert.AdamwRefIdeal.τ).loc Cert.AdamwRefIdeal.main_v167) = v18 c
          ∧ r.2.mem ((c.tc : Thread Cert.AdamwRefIdeal.nD Cert.AdamwRefIdeal.τ).loc Cert.AdamwRefIdeal.main_v148) = v19 c
          ∧ r.2.mem ((c.tc : Thread Cert.AdamwRefIdeal.nD Cert.AdamwRefIdeal.τ).loc Cert.AdamwRefIdeal.main_v154) = v20 c
          ∧ r.2.mem ((c.tc : Thread Cert.AdamwRefIdeal.nD Cert.AdamwRefIdeal.τ).loc Cert.AdamwRefIdeal.main_v191) = v21 c
          ∧ r.2.mem ((c.tc : Thread Cert.AdamwRefIdeal.nD Cert.AdamwRefIdeal.τ).loc Cert.AdamwRefIdeal.main_v172) = v22 c
          ∧ r.2.mem ((c.tc : Thread Cert.AdamwRefIdeal.nD Cert.AdamwRefIdeal.τ).loc Cert.AdamwRefIdeal.main_v178) = v23 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6)
          ∧ r.2.mem ((c.tc : Thread Cert.AdamwRefIdeal.nD Cert.AdamwRefIdeal.τ).loc Cert.AdamwRefIdeal.main_arg7) = m' ((c.tc : Thread Cert.AdamwRefIdeal.nD Cert.AdamwRefIdeal.τ).loc Cert.AdamwRefIdeal.main_arg7)
          ∧ r.2.mem ((c.tc : Thread Cert.AdamwRefIdeal.nD Cert.AdamwRefIdeal.τ).loc Cert.AdamwRefIdeal.main_arg8) = m' ((c.tc : Thread Cert.AdamwRefIdeal.nD Cert.AdamwRefIdeal.τ).loc Cert.AdamwRefIdeal.main_arg8)
          ∧ r.2.mem ((c.tc : Thread Cert.AdamwRefIdeal.nD Cert.AdamwRefIdeal.τ).loc Cert.AdamwRefIdeal.main_arg9) = m' ((c.tc : Thread Cert.AdamwRefIdeal.nD Cert.AdamwRefIdeal.τ).loc Cert.AdamwRefIdeal.main_arg9)
          ∧ r.2.mem ((c.tc : Thread Cert.AdamwRefIdeal.nD Cert.AdamwRefIdeal.τ).loc Cert.AdamwRefIdeal.main_arg10) = m' ((c.tc : Thread Cert.AdamwRefIdeal.nD Cert.AdamwRefIdeal.τ).loc Cert.AdamwRefIdeal.main_arg10)
          ∧ r.2.mem ((c.tc : Thread Cert.AdamwRefIdeal.nD Cert.AdamwRefIdeal.τ).loc Cert.AdamwRefIdeal.main_arg11) = m' ((c.tc : Thread Cert.AdamwRefIdeal.nD Cert.AdamwRefIdeal.τ).loc Cert.AdamwRefIdeal.main_arg11)
          ∧ r.2.mem ((c.tc : Thread Cert.AdamwRefIdeal.nD Cert.AdamwRefIdeal.τ).loc Cert.AdamwRefIdeal.main_arg12) = m' ((c.tc : Thread Cert.AdamwRefIdeal.nD Cert.AdamwRefIdeal.τ).loc Cert.AdamwRefIdeal.main_arg12)
          ∧ r.2.mem ((c.tc : Thread Cert.AdamwRefIdeal.nD Cert.AdamwRefIdeal.τ).loc Cert.AdamwRefIdeal.main_arg13) = m' ((c.tc : Thread Cert.AdamwRefIdeal.nD Cert.AdamwRefIdeal.τ).loc Cert.AdamwRefIdeal.main_arg13)
          ∧ r.2.mem ((c.tc : Thread Cert.AdamwRefIdeal.nD Cert.AdamwRefIdeal.τ).loc Cert.AdamwRefIdeal.main_arg14) = m' ((c.tc : Thread Cert.AdamwRefIdeal.nD Cert.AdamwRefIdeal.τ).loc Cert.AdamwRefIdeal.main_arg14)
          ∧ r.2.mem ((c.tc : Thread Cert.AdamwRefIdeal.nD Cert.AdamwRefIdeal.τ).loc Cert.AdamwRefIdeal.main_arg15) = m' ((c.tc : Thread Cert.AdamwRefIdeal.nD Cert.AdamwRefIdeal.τ).loc Cert.AdamwRefIdeal.main_arg15)
          ∧ r.2.mem ((c.tc : Thread Cert.AdamwRefIdeal.nD Cert.AdamwRefIdeal.τ).loc Cert.AdamwRefIdeal.main_arg16) = m' ((c.tc : Thread Cert.AdamwRefIdeal.nD Cert.AdamwRefIdeal.τ).loc Cert.AdamwRefIdeal.main_arg16)
          ∧ r.2.mem ((c.tc : Thread Cert.AdamwRefIdeal.nD Cert.AdamwRefIdeal.τ).loc Cert.AdamwRefIdeal.main_arg17) = m' ((c.tc : Thread Cert.AdamwRefIdeal.nD Cert.AdamwRefIdeal.τ).loc Cert.AdamwRefIdeal.main_arg17)
          ∧ r.2.mem ((c.tc : Thread Cert.AdamwRefIdeal.nD Cert.AdamwRefIdeal.τ).loc Cert.AdamwRefIdeal.main_arg18) = m' ((c.tc : Thread Cert.AdamwRefIdeal.nD Cert.AdamwRefIdeal.τ).loc Cert.AdamwRefIdeal.main_arg18)
          ∧ r.2.mem ((c.tc : Thread Cert.AdamwRefIdeal.nD Cert.AdamwRefIdeal.τ).loc Cert.AdamwRefIdeal.main_arg19) = m' ((c.tc : Thread Cert.AdamwRefIdeal.nD Cert.AdamwRefIdeal.τ).loc Cert.AdamwRefIdeal.main_arg19)
          ∧ r.2.mem ((c.tc : Thread Cert.AdamwRefIdeal.nD Cert.AdamwRefIdeal.τ).loc Cert.AdamwRefIdeal.main_arg20) = m' ((c.tc : Thread Cert.AdamwRefIdeal.nD Cert.AdamwRefIdeal.τ).loc Cert.AdamwRefIdeal.main_arg20)
          ∧ r.2.mem ((c.tc : Thread Cert.AdamwRefIdeal.nD Cert.AdamwRefIdeal.τ).loc Cert.AdamwRefIdeal.main_arg21) = m' ((c.tc : Thread Cert.AdamwRefIdeal.nD Cert.AdamwRefIdeal.τ).loc Cert.AdamwRefIdeal.main_arg21)
          ∧ r.2.mem ((c.tc : Thread Cert.AdamwRefIdeal.nD Cert.AdamwRefIdeal.τ).loc Cert.AdamwRefIdeal.main_arg22) = m' ((c.tc : Thread Cert.AdamwRefIdeal.nD Cert.AdamwRefIdeal.τ).loc Cert.AdamwRefIdeal.main_arg22)
          ∧ r.2.mem ((c.tc : Thread Cert.AdamwRefIdeal.nD Cert.AdamwRefIdeal.τ).loc Cert.AdamwRefIdeal.main_arg23) = m' ((c.tc : Thread Cert.AdamwRefIdeal.nD Cert.AdamwRefIdeal.τ).loc Cert.AdamwRefIdeal.main_arg23)
          ∧ r.2.mem ((c.tc : Thread Cert.AdamwRefIdeal.nD Cert.AdamwRefIdeal.τ).loc Cert.AdamwRefIdeal.main_arg24) = m' ((c.tc : Thread Cert.AdamwRefIdeal.nD Cert.AdamwRefIdeal.τ).loc Cert.AdamwRefIdeal.main_arg24)
          ∧ r.2.mem ((c.tc : Thread Cert.AdamwRefIdeal.nD Cert.AdamwRefIdeal.τ).loc Cert.AdamwRefIdeal.main_arg25) = m' ((c.tc : Thread Cert.AdamwRefIdeal.nD Cert.AdamwRefIdeal.τ).loc Cert.AdamwRefIdeal.main_arg25)
          ∧ r.2.mem ((c.tc : Thread Cert.AdamwRefIdeal.nD Cert.AdamwRefIdeal.τ).loc Cert.AdamwRefIdeal.main_arg26) = m' ((c.tc : Thread Cert.AdamwRefIdeal.nD Cert.AdamwRefIdeal.τ).loc Cert.AdamwRefIdeal.main_arg26)
          ∧ r.2.mem ((c.tc : Thread Cert.AdamwRefIdeal.nD Cert.AdamwRefIdeal.τ).loc Cert.AdamwRefIdeal.main_arg27) = m' ((c.tc : Thread Cert.AdamwRefIdeal.nD Cert.AdamwRefIdeal.τ).loc Cert.AdamwRefIdeal.main_arg27)
          ∧ r.2.mem ((c.tc : Thread Cert.AdamwRefIdeal.nD Cert.AdamwRefIdeal.τ).loc Cert.AdamwRefIdeal.main_arg28) = m' ((c.tc : Thread Cert.AdamwRefIdeal.nD Cert.AdamwRefIdeal.τ).loc Cert.AdamwRefIdeal.main_arg28)
          ∧ r.2.mem ((c.tc : Thread Cert.AdamwRefIdeal.nD Cert.AdamwRefIdeal.τ).loc Cert.AdamwRefIdeal.main_arg29) = m' ((c.tc : Thread Cert.AdamwRefIdeal.nD Cert.AdamwRefIdeal.τ).loc Cert.AdamwRefIdeal.main_arg29)
          ∧ r.2.mem ((c.tc : Thread Cert.AdamwRefIdeal.nD Cert.AdamwRefIdeal.τ).loc Cert.AdamwRefIdeal.main_arg30) = m' ((c.tc : Thread Cert.AdamwRefIdeal.nD Cert.AdamwRefIdeal.τ).loc Cert.AdamwRefIdeal.main_arg30)
          ∧ r.2.mem ((c.tc : Thread Cert.AdamwRefIdeal.nD Cert.AdamwRefIdeal.τ).loc Cert.AdamwRefIdeal.main_arg31) = m' ((c.tc : Thread Cert.AdamwRefIdeal.nD Cert.AdamwRefIdeal.τ).loc Cert.AdamwRefIdeal.main_arg31)
          ∧ r.2.mem ((c.tc : Thread Cert.AdamwRefIdeal.nD Cert.AdamwRefIdeal.τ).loc Cert.AdamwRefIdeal.main_arg32) = m' ((c.tc : Thread Cert.AdamwRefIdeal.nD Cert.AdamwRefIdeal.τ).loc Cert.AdamwRefIdeal.main_arg32)
          ∧ r.2.mem ((c.tc : Thread Cert.AdamwRefIdeal.nD Cert.AdamwRefIdeal.τ).loc Cert.AdamwRefIdeal.main_arg33) = m' ((c.tc : Thread Cert.AdamwRefIdeal.nD Cert.AdamwRefIdeal.τ).loc Cert.AdamwRefIdeal.main_arg33)
          ∧ r.2.mem ((c.tc : Thread Cert.AdamwRefIdeal.nD Cert.AdamwRefIdeal.τ).loc Cert.AdamwRefIdeal.main_arg34) = m' ((c.tc : Thread Cert.AdamwRefIdeal.nD Cert.AdamwRefIdeal.τ).loc Cert.AdamwRefIdeal.main_arg34)
          ∧ r.2.mem ((c.tc : Thread Cert.AdamwRefIdeal.nD Cert.AdamwRefIdeal.τ).loc Cert.AdamwRefIdeal.main_arg35) = m' ((c.tc : Thread Cert.AdamwRefIdeal.nD Cert.AdamwRefIdeal.τ).loc Cert.AdamwRefIdeal.main_arg35)
          ∧ r.2.mem ((c.tc : Thread Cert.AdamwRefIdeal.nD Cert.AdamwRefIdeal.τ).loc Cert.AdamwRefIdeal.main_arg36) = m' ((c.tc : Thread Cert.AdamwRefIdeal.nD Cert.AdamwRefIdeal.τ).loc Cert.AdamwRefIdeal.main_arg36)
          ∧ r.2.mem ((c.tc : Thread Cert.AdamwRefIdeal.nD Cert.AdamwRefIdeal.τ).loc Cert.AdamwRefIdeal.main_arg37) = m' ((c.tc : Thread Cert.AdamwRefIdeal.nD Cert.AdamwRefIdeal.τ).loc Cert.AdamwRefIdeal.main_arg37)
          ∧ r.2.mem ((c.tc : Thread Cert.AdamwRefIdeal.nD Cert.AdamwRefIdeal.τ).loc Cert.AdamwRefIdeal.main_arg38) = m' ((c.tc : Thread Cert.AdamwRefIdeal.nD Cert.AdamwRefIdeal.τ).loc Cert.AdamwRefIdeal.main_arg38)
          ∧ r.2.mem ((c.tc : Thread Cert.AdamwRefIdeal.nD Cert.AdamwRefIdeal.τ).loc Cert.AdamwRefIdeal.main_arg39) = m' ((c.tc : Thread Cert.AdamwRefIdeal.nD Cert.AdamwRefIdeal.τ).loc Cert.AdamwRefIdeal.main_arg39)
          ∧ r.2.mem ((c.tc : Thread Cert.AdamwRefIdeal.nD Cert.AdamwRefIdeal.τ).loc Cert.AdamwRefIdeal.main_arg40) = m' ((c.tc : Thread Cert.AdamwRefIdeal.nD Cert.AdamwRefIdeal.τ).loc Cert.AdamwRefIdeal.main_arg40)
          ∧ r.2.mem ((c.tc : Thread Cert.AdamwRefIdeal.nD Cert.AdamwRefIdeal.τ).loc Cert.AdamwRefIdeal.main_arg41) = m' ((c.tc : Thread Cert.AdamwRefIdeal.nD Cert.AdamwRefIdeal.τ).loc Cert.AdamwRefIdeal.main_arg41)
          ∧ r.2.mem ((c.tc : Thread Cert.AdamwRefIdeal.nD Cert.AdamwRefIdeal.τ).loc Cert.AdamwRefIdeal.main_arg42) = m' ((c.tc : Thread Cert.AdamwRefIdeal.nD Cert.AdamwRefIdeal.τ).loc Cert.AdamwRefIdeal.main_arg42)
          ∧ r.2.mem ((c.tc : Thread Cert.AdamwRefIdeal.nD Cert.AdamwRefIdeal.τ).loc Cert.AdamwRefIdeal.main_arg43) = m' ((c.tc : Thread Cert.AdamwRefIdeal.nD Cert.AdamwRefIdeal.τ).loc Cert.AdamwRefIdeal.main_arg43)
          ∧ r.2.mem ((c.tc : Thread Cert.AdamwRefIdeal.nD Cert.AdamwRefIdeal.τ).loc Cert.AdamwRefIdeal.main_arg44) = m' ((c.tc : Thread Cert.AdamwRefIdeal.nD Cert.AdamwRefIdeal.τ).loc Cert.AdamwRefIdeal.main_arg44)
          ∧ r.2.mem ((c.tc : Thread Cert.AdamwRefIdeal.nD Cert.AdamwRefIdeal.τ).loc Cert.AdamwRefIdeal.main_arg45) = m' ((c.tc : Thread Cert.AdamwRefIdeal.nD Cert.AdamwRefIdeal.τ).loc Cert.AdamwRefIdeal.main_arg45)
          ∧ r.2.mem ((c.tc : Thread Cert.AdamwRefIdeal.nD Cert.AdamwRefIdeal.τ).loc Cert.AdamwRefIdeal.main_arg46) = m' ((c.tc : Thread Cert.AdamwRefIdeal.nD Cert.AdamwRefIdeal.τ).loc Cert.AdamwRefIdeal.main_arg46)
          ∧ r.2.mem ((c.tc : Thread Cert.AdamwRefIdeal.nD Cert.AdamwRefIdeal.τ).loc Cert.AdamwRefIdeal.main_arg47) = m' ((c.tc : Thread Cert.AdamwRefIdeal.nD Cert.AdamwRefIdeal.τ).loc Cert.AdamwRefIdeal.main_arg47)
          ∧ r.2.mem ((c.tc : Thread Cert.AdamwRefIdeal.nD Cert.AdamwRefIdeal.τ).loc Cert.AdamwRefIdeal.main_arg48) = m' ((c.tc : Thread Cert.AdamwRefIdeal.nD Cert.AdamwRefIdeal.τ).loc Cert.AdamwRefIdeal.main_arg48)
          ∧ r.2.mem ((c.tc : Thread Cert.AdamwRefIdeal.nD Cert.AdamwRefIdeal.τ).loc Cert.AdamwRefIdeal.main_arg49) = m' ((c.tc : Thread Cert.AdamwRefIdeal.nD Cert.AdamwRefIdeal.τ).loc Cert.AdamwRefIdeal.main_arg49)
          ∧ r.2.mem ((c.tc : Thread Cert.AdamwRefIdeal.nD Cert.AdamwRefIdeal.τ).loc Cert.AdamwRefIdeal.main_arg50) = m' ((c.tc : Thread Cert.AdamwRefIdeal.nD Cert.AdamwRefIdeal.τ).loc Cert.AdamwRefIdeal.main_arg50)
          ∧ r.2.mem ((c.tc : Thread Cert.AdamwRefIdeal.nD Cert.AdamwRefIdeal.τ).loc Cert.AdamwRefIdeal.main_arg51) = m' ((c.tc : Thread Cert.AdamwRefIdeal.nD Cert.AdamwRefIdeal.τ).loc Cert.AdamwRefIdeal.main_arg51)
          ∧ r.2.mem ((c.tc : Thread Cert.AdamwRefIdeal.nD Cert.AdamwRefIdeal.τ).loc Cert.AdamwRefIdeal.main_arg52) = m' ((c.tc : Thread Cert.AdamwRefIdeal.nD Cert.AdamwRefIdeal.τ).loc Cert.AdamwRefIdeal.main_arg52)
          ∧ r.2.mem ((c.tc : Thread Cert.AdamwRefIdeal.nD Cert.AdamwRefIdeal.τ).loc Cert.AdamwRefIdeal.main_arg53) = m' ((c.tc : Thread Cert.AdamwRefIdeal.nD Cert.AdamwRefIdeal.τ).loc Cert.AdamwRefIdeal.main_arg53)
          ∧ r.2.mem ((c.tc : Thread Cert.AdamwRefIdeal.nD Cert.AdamwRefIdeal.τ).loc Cert.AdamwRefIdeal.main_arg54) = m' ((c.tc : Thread Cert.AdamwRefIdeal.nD Cert.AdamwRefIdeal.τ).loc Cert.AdamwRefIdeal.main_arg54)
          ∧ r.2.mem ((c.tc : Thread Cert.AdamwRefIdeal.nD Cert.AdamwRefIdeal.τ).loc Cert.AdamwRefIdeal.main_arg55) = m' ((c.tc : Thread Cert.AdamwRefIdeal.nD Cert.AdamwRefIdeal.τ).loc Cert.AdamwRefIdeal.main_arg55)
          ∧ r.2.mem ((c.tc : Thread Cert.AdamwRefIdeal.nD Cert.AdamwRefIdeal.τ).loc Cert.AdamwRefIdeal.main_arg56) = m' ((c.tc : Thread Cert.AdamwRefIdeal.nD Cert.AdamwRefIdeal.τ).loc Cert.AdamwRefIdeal.main_arg56)
          ∧ r.2.mem ((c.tc : Thread Cert.AdamwRefIdeal.nD Cert.AdamwRefIdeal.τ).loc Cert.AdamwRefIdeal.main_arg57) = m' ((c.tc : Thread Cert.AdamwRefIdeal.nD Cert.AdamwRefIdeal.τ).loc Cert.AdamwRefIdeal.main_arg57)
          ∧ r.2.mem ((c.tc : Thread Cert.AdamwRefIdeal.nD Cert.AdamwRefIdeal.τ).loc Cert.AdamwRefIdeal.main_arg58) = m' ((c.tc : Thread Cert.AdamwRefIdeal.nD Cert.AdamwRefIdeal.τ).loc Cert.AdamwRefIdeal.main_arg58)
          ∧ r.2.mem ((c.tc : Thread Cert.AdamwRefIdeal.nD Cert.AdamwRefIdeal.τ).loc Cert.AdamwRefIdeal.main_arg59) = m' ((c.tc : Thread Cert.AdamwRefIdeal.nD Cert.AdamwRefIdeal.τ).loc Cert.AdamwRefIdeal.main_arg59))

def algebraic_AdamwLastIdeal_AdamwLastRefIdeal [hAdamwLastIdeal : Cert.AdamwLastIdeal.Facts] [hAdamwLastRefIdeal : Cert.AdamwLastRefIdeal.Facts] : Prop :=
  ∀ (m : (ℓ : Loc Cert.AdamwLastIdeal.nD Cert.AdamwLastIdeal.τ Cert.AdamwLastIdeal.sig) → Buf (Elt Ideal) ℓ) (g : Dev Cert.AdamwLastIdeal.nD → PrngReg)
    (m' : (ℓ : Loc Cert.AdamwLastRefIdeal.nD Cert.AdamwLastRefIdeal.τ Cert.AdamwLastRefIdeal.sig) → Buf (Elt Ideal) ℓ) (g' : Dev Cert.AdamwLastRefIdeal.nD → PrngReg), Pre_AdamwLastIdeal m →
    (∀ c : Dev Cert.AdamwLastIdeal.nD,
      m' ((c.tc : Thread Cert.AdamwLastRefIdeal.nD Cert.AdamwLastRefIdeal.τ).loc Cert.AdamwLastRefIdeal.main_arg0) = m ((c.tc : Thread Cert.AdamwLastIdeal.nD Cert.AdamwLastIdeal.τ).loc Cert.AdamwLastIdeal.main_arg0)
      ∧ m' ((c.tc : Thread Cert.AdamwLastRefIdeal.nD Cert.AdamwLastRefIdeal.τ).loc Cert.AdamwLastRefIdeal.main_arg1) = m ((c.tc : Thread Cert.AdamwLastIdeal.nD Cert.AdamwLastIdeal.τ).loc Cert.AdamwLastIdeal.main_arg1)
      ∧ m' ((c.tc : Thread Cert.AdamwLastRefIdeal.nD Cert.AdamwLastRefIdeal.τ).loc Cert.AdamwLastRefIdeal.main_arg2) = m ((c.tc : Thread Cert.AdamwLastIdeal.nD Cert.AdamwLastIdeal.τ).loc Cert.AdamwLastIdeal.main_arg2)
      ∧ m' ((c.tc : Thread Cert.AdamwLastRefIdeal.nD Cert.AdamwLastRefIdeal.τ).loc Cert.AdamwLastRefIdeal.main_arg3) = m ((c.tc : Thread Cert.AdamwLastIdeal.nD Cert.AdamwLastIdeal.τ).loc Cert.AdamwLastIdeal.main_arg3)
      ∧ m' ((c.tc : Thread Cert.AdamwLastRefIdeal.nD Cert.AdamwLastRefIdeal.τ).loc Cert.AdamwLastRefIdeal.main_arg4) = m ((c.tc : Thread Cert.AdamwLastIdeal.nD Cert.AdamwLastIdeal.τ).loc Cert.AdamwLastIdeal.main_arg4)
      ∧ m' ((c.tc : Thread Cert.AdamwLastRefIdeal.nD Cert.AdamwLastRefIdeal.τ).loc Cert.AdamwLastRefIdeal.main_arg5) = m ((c.tc : Thread Cert.AdamwLastIdeal.nD Cert.AdamwLastIdeal.τ).loc Cert.AdamwLastIdeal.main_arg5)
      ∧ m' ((c.tc : Thread Cert.AdamwLastRefIdeal.nD Cert.AdamwLastRefIdeal.τ).loc Cert.AdamwLastRefIdeal.main_arg6) = m ((c.tc : Thread Cert.AdamwLastIdeal.nD Cert.AdamwLastIdeal.τ).loc Cert.AdamwLastIdeal.main_arg6)
      ∧ m' ((c.tc : Thread Cert.AdamwLastRefIdeal.nD Cert.AdamwLastRefIdeal.τ).loc Cert.AdamwLastRefIdeal.main_arg7) = m ((c.tc : Thread Cert.AdamwLastIdeal.nD Cert.AdamwLastIdeal.τ).loc Cert.AdamwLastIdeal.main_arg7)
      ∧ m' ((c.tc : Thread Cert.AdamwLastRefIdeal.nD Cert.AdamwLastRefIdeal.τ).loc Cert.AdamwLastRefIdeal.main_arg8) = m ((c.tc : Thread Cert.AdamwLastIdeal.nD Cert.AdamwLastIdeal.τ).loc Cert.AdamwLastIdeal.main_arg8)
      ∧ m' ((c.tc : Thread Cert.AdamwLastRefIdeal.nD Cert.AdamwLastRefIdeal.τ).loc Cert.AdamwLastRefIdeal.main_arg9) = m ((c.tc : Thread Cert.AdamwLastIdeal.nD Cert.AdamwLastIdeal.τ).loc Cert.AdamwLastIdeal.main_arg9)
      ∧ m' ((c.tc : Thread Cert.AdamwLastRefIdeal.nD Cert.AdamwLastRefIdeal.τ).loc Cert.AdamwLastRefIdeal.main_arg10) = m ((c.tc : Thread Cert.AdamwLastIdeal.nD Cert.AdamwLastIdeal.τ).loc Cert.AdamwLastIdeal.main_arg10)
      ∧ m' ((c.tc : Thread Cert.AdamwLastRefIdeal.nD Cert.AdamwLastRefIdeal.τ).loc Cert.AdamwLastRefIdeal.main_arg11) = m ((c.tc : Thread Cert.AdamwLastIdeal.nD Cert.AdamwLastIdeal.τ).loc Cert.AdamwLastIdeal.main_arg11)
      ∧ m' ((c.tc : Thread Cert.AdamwLastRefIdeal.nD Cert.AdamwLastRefIdeal.τ).loc Cert.AdamwLastRefIdeal.main_arg12) = m ((c.tc : Thread Cert.AdamwLastIdeal.nD Cert.AdamwLastIdeal.τ).loc Cert.AdamwLastIdeal.main_arg12)
      ∧ m' ((c.tc : Thread Cert.AdamwLastRefIdeal.nD Cert.AdamwLastRefIdeal.τ).loc Cert.AdamwLastRefIdeal.main_arg13) = m ((c.tc : Thread Cert.AdamwLastIdeal.nD Cert.AdamwLastIdeal.τ).loc Cert.AdamwLastIdeal.main_arg13)
      ∧ m' ((c.tc : Thread Cert.AdamwLastRefIdeal.nD Cert.AdamwLastRefIdeal.τ).loc Cert.AdamwLastRefIdeal.main_arg14) = m ((c.tc : Thread Cert.AdamwLastIdeal.nD Cert.AdamwLastIdeal.τ).loc Cert.AdamwLastIdeal.main_arg14)
      ∧ m' ((c.tc : Thread Cert.AdamwLastRefIdeal.nD Cert.AdamwLastRefIdeal.τ).loc Cert.AdamwLastRefIdeal.main_arg15) = m ((c.tc : Thread Cert.AdamwLastIdeal.nD Cert.AdamwLastIdeal.τ).loc Cert.AdamwLastIdeal.main_arg15)
      ∧ m' ((c.tc : Thread Cert.AdamwLastRefIdeal.nD Cert.AdamwLastRefIdeal.τ).loc Cert.AdamwLastRefIdeal.main_arg16) = m ((c.tc : Thread Cert.AdamwLastIdeal.nD Cert.AdamwLastIdeal.τ).loc Cert.AdamwLastIdeal.main_arg16)
      ∧ m' ((c.tc : Thread Cert.AdamwLastRefIdeal.nD Cert.AdamwLastRefIdeal.τ).loc Cert.AdamwLastRefIdeal.main_arg17) = m ((c.tc : Thread Cert.AdamwLastIdeal.nD Cert.AdamwLastIdeal.τ).loc Cert.AdamwLastIdeal.main_arg17)
      ∧ m' ((c.tc : Thread Cert.AdamwLastRefIdeal.nD Cert.AdamwLastRefIdeal.τ).loc Cert.AdamwLastRefIdeal.main_arg18) = m ((c.tc : Thread Cert.AdamwLastIdeal.nD Cert.AdamwLastIdeal.τ).loc Cert.AdamwLastIdeal.main_arg18)
      ∧ m' ((c.tc : Thread Cert.AdamwLastRefIdeal.nD Cert.AdamwLastRefIdeal.τ).loc Cert.AdamwLastRefIdeal.main_arg19) = m ((c.tc : Thread Cert.AdamwLastIdeal.nD Cert.AdamwLastIdeal.τ).loc Cert.AdamwLastIdeal.main_arg19)
      ∧ m' ((c.tc : Thread Cert.AdamwLastRefIdeal.nD Cert.AdamwLastRefIdeal.τ).loc Cert.AdamwLastRefIdeal.main_arg20) = m ((c.tc : Thread Cert.AdamwLastIdeal.nD Cert.AdamwLastIdeal.τ).loc Cert.AdamwLastIdeal.main_arg20)
      ∧ m' ((c.tc : Thread Cert.AdamwLastRefIdeal.nD Cert.AdamwLastRefIdeal.τ).loc Cert.AdamwLastRefIdeal.main_arg21) = m ((c.tc : Thread Cert.AdamwLastIdeal.nD Cert.AdamwLastIdeal.τ).loc Cert.AdamwLastIdeal.main_arg21)
      ∧ m' ((c.tc : Thread Cert.AdamwLastRefIdeal.nD Cert.AdamwLastRefIdeal.τ).loc Cert.AdamwLastRefIdeal.main_arg22) = m ((c.tc : Thread Cert.AdamwLastIdeal.nD Cert.AdamwLastIdeal.τ).loc Cert.AdamwLastIdeal.main_arg22)
      ∧ m' ((c.tc : Thread Cert.AdamwLastRefIdeal.nD Cert.AdamwLastRefIdeal.τ).loc Cert.AdamwLastRefIdeal.main_arg23) = m ((c.tc : Thread Cert.AdamwLastIdeal.nD Cert.AdamwLastIdeal.τ).loc Cert.AdamwLastIdeal.main_arg23)
      ∧ m' ((c.tc : Thread Cert.AdamwLastRefIdeal.nD Cert.AdamwLastRefIdeal.τ).loc Cert.AdamwLastRefIdeal.main_arg24) = m ((c.tc : Thread Cert.AdamwLastIdeal.nD Cert.AdamwLastIdeal.τ).loc Cert.AdamwLastIdeal.main_arg24)
      ∧ m' ((c.tc : Thread Cert.AdamwLastRefIdeal.nD Cert.AdamwLastRefIdeal.τ).loc Cert.AdamwLastRefIdeal.main_arg25) = m ((c.tc : Thread Cert.AdamwLastIdeal.nD Cert.AdamwLastIdeal.τ).loc Cert.AdamwLastIdeal.main_arg25)
      ∧ m' ((c.tc : Thread Cert.AdamwLastRefIdeal.nD Cert.AdamwLastRefIdeal.τ).loc Cert.AdamwLastRefIdeal.main_arg26) = m ((c.tc : Thread Cert.AdamwLastIdeal.nD Cert.AdamwLastIdeal.τ).loc Cert.AdamwLastIdeal.main_arg26)
      ∧ m' ((c.tc : Thread Cert.AdamwLastRefIdeal.nD Cert.AdamwLastRefIdeal.τ).loc Cert.AdamwLastRefIdeal.main_arg27) = m ((c.tc : Thread Cert.AdamwLastIdeal.nD Cert.AdamwLastIdeal.τ).loc Cert.AdamwLastIdeal.main_arg27)
      ∧ m' ((c.tc : Thread Cert.AdamwLastRefIdeal.nD Cert.AdamwLastRefIdeal.τ).loc Cert.AdamwLastRefIdeal.main_arg28) = m ((c.tc : Thread Cert.AdamwLastIdeal.nD Cert.AdamwLastIdeal.τ).loc Cert.AdamwLastIdeal.main_arg28)
      ∧ m' ((c.tc : Thread Cert.AdamwLastRefIdeal.nD Cert.AdamwLastRefIdeal.τ).loc Cert.AdamwLastRefIdeal.main_arg29) = m ((c.tc : Thread Cert.AdamwLastIdeal.nD Cert.AdamwLastIdeal.τ).loc Cert.AdamwLastIdeal.main_arg29)
      ∧ m' ((c.tc : Thread Cert.AdamwLastRefIdeal.nD Cert.AdamwLastRefIdeal.τ).loc Cert.AdamwLastRefIdeal.main_arg30) = m ((c.tc : Thread Cert.AdamwLastIdeal.nD Cert.AdamwLastIdeal.τ).loc Cert.AdamwLastIdeal.main_arg30)
      ∧ m' ((c.tc : Thread Cert.AdamwLastRefIdeal.nD Cert.AdamwLastRefIdeal.τ).loc Cert.AdamwLastRefIdeal.main_arg31) = m ((c.tc : Thread Cert.AdamwLastIdeal.nD Cert.AdamwLastIdeal.τ).loc Cert.AdamwLastIdeal.main_arg31)
      ∧ m' ((c.tc : Thread Cert.AdamwLastRefIdeal.nD Cert.AdamwLastRefIdeal.τ).loc Cert.AdamwLastRefIdeal.main_arg32) = m ((c.tc : Thread Cert.AdamwLastIdeal.nD Cert.AdamwLastIdeal.τ).loc Cert.AdamwLastIdeal.main_arg32)
      ∧ m' ((c.tc : Thread Cert.AdamwLastRefIdeal.nD Cert.AdamwLastRefIdeal.τ).loc Cert.AdamwLastRefIdeal.main_arg33) = m ((c.tc : Thread Cert.AdamwLastIdeal.nD Cert.AdamwLastIdeal.τ).loc Cert.AdamwLastIdeal.main_arg33)
      ∧ m' ((c.tc : Thread Cert.AdamwLastRefIdeal.nD Cert.AdamwLastRefIdeal.τ).loc Cert.AdamwLastRefIdeal.main_arg34) = m ((c.tc : Thread Cert.AdamwLastIdeal.nD Cert.AdamwLastIdeal.τ).loc Cert.AdamwLastIdeal.main_arg34)
      ∧ m' ((c.tc : Thread Cert.AdamwLastRefIdeal.nD Cert.AdamwLastRefIdeal.τ).loc Cert.AdamwLastRefIdeal.main_arg35) = m ((c.tc : Thread Cert.AdamwLastIdeal.nD Cert.AdamwLastIdeal.τ).loc Cert.AdamwLastIdeal.main_arg35)
      ∧ m' ((c.tc : Thread Cert.AdamwLastRefIdeal.nD Cert.AdamwLastRefIdeal.τ).loc Cert.AdamwLastRefIdeal.main_arg36) = m ((c.tc : Thread Cert.AdamwLastIdeal.nD Cert.AdamwLastIdeal.τ).loc Cert.AdamwLastIdeal.main_arg36)
      ∧ m' ((c.tc : Thread Cert.AdamwLastRefIdeal.nD Cert.AdamwLastRefIdeal.τ).loc Cert.AdamwLastRefIdeal.main_arg37) = m ((c.tc : Thread Cert.AdamwLastIdeal.nD Cert.AdamwLastIdeal.τ).loc Cert.AdamwLastIdeal.main_arg37)
      ∧ m' ((c.tc : Thread Cert.AdamwLastRefIdeal.nD Cert.AdamwLastRefIdeal.τ).loc Cert.AdamwLastRefIdeal.main_arg38) = m ((c.tc : Thread Cert.AdamwLastIdeal.nD Cert.AdamwLastIdeal.τ).loc Cert.AdamwLastIdeal.main_arg38)
      ∧ m' ((c.tc : Thread Cert.AdamwLastRefIdeal.nD Cert.AdamwLastRefIdeal.τ).loc Cert.AdamwLastRefIdeal.main_arg39) = m ((c.tc : Thread Cert.AdamwLastIdeal.nD Cert.AdamwLastIdeal.τ).loc Cert.AdamwLastIdeal.main_arg39)
      ∧ m' ((c.tc : Thread Cert.AdamwLastRefIdeal.nD Cert.AdamwLastRefIdeal.τ).loc Cert.AdamwLastRefIdeal.main_arg40) = m ((c.tc : Thread Cert.AdamwLastIdeal.nD Cert.AdamwLastIdeal.τ).loc Cert.AdamwLastIdeal.main_arg40)
      ∧ m' ((c.tc : Thread Cert.AdamwLastRefIdeal.nD Cert.AdamwLastRefIdeal.τ).loc Cert.AdamwLastRefIdeal.main_arg41) = m ((c.tc : Thread Cert.AdamwLastIdeal.nD Cert.AdamwLastIdeal.τ).loc Cert.AdamwLastIdeal.main_arg41)
      ∧ m' ((c.tc : Thread Cert.AdamwLastRefIdeal.nD Cert.AdamwLastRefIdeal.τ).loc Cert.AdamwLastRefIdeal.main_arg42) = m ((c.tc : Thread Cert.AdamwLastIdeal.nD Cert.AdamwLastIdeal.τ).loc Cert.AdamwLastIdeal.main_arg42)
      ∧ m' ((c.tc : Thread Cert.AdamwLastRefIdeal.nD Cert.AdamwLastRefIdeal.τ).loc Cert.AdamwLastRefIdeal.main_arg43) = m ((c.tc : Thread Cert.AdamwLastIdeal.nD Cert.AdamwLastIdeal.τ).loc Cert.AdamwLastIdeal.main_arg43)
      ∧ m' ((c.tc : Thread Cert.AdamwLastRefIdeal.nD Cert.AdamwLastRefIdeal.τ).loc Cert.AdamwLastRefIdeal.main_arg44) = m ((c.tc : Thread Cert.AdamwLastIdeal.nD Cert.AdamwLastIdeal.τ).loc Cert.AdamwLastIdeal.main_arg44)
      ∧ m' ((c.tc : Thread Cert.AdamwLastRefIdeal.nD Cert.AdamwLastRefIdeal.τ).loc Cert.AdamwLastRefIdeal.main_arg45) = m ((c.tc : Thread Cert.AdamwLastIdeal.nD Cert.AdamwLastIdeal.τ).loc Cert.AdamwLastIdeal.main_arg45)
      ∧ m' ((c.tc : Thread Cert.AdamwLastRefIdeal.nD Cert.AdamwLastRefIdeal.τ).loc Cert.AdamwLastRefIdeal.main_arg46) = m ((c.tc : Thread Cert.AdamwLastIdeal.nD Cert.AdamwLastIdeal.τ).loc Cert.AdamwLastIdeal.main_arg46)
      ∧ m' ((c.tc : Thread Cert.AdamwLastRefIdeal.nD Cert.AdamwLastRefIdeal.τ).loc Cert.AdamwLastRefIdeal.main_arg47) = m ((c.tc : Thread Cert.AdamwLastIdeal.nD Cert.AdamwLastIdeal.τ).loc Cert.AdamwLastIdeal.main_arg47)
      ∧ m' ((c.tc : Thread Cert.AdamwLastRefIdeal.nD Cert.AdamwLastRefIdeal.τ).loc Cert.AdamwLastRefIdeal.main_arg48) = m ((c.tc : Thread Cert.AdamwLastIdeal.nD Cert.AdamwLastIdeal.τ).loc Cert.AdamwLastIdeal.main_arg48)
      ∧ m' ((c.tc : Thread Cert.AdamwLastRefIdeal.nD Cert.AdamwLastRefIdeal.τ).loc Cert.AdamwLastRefIdeal.main_arg49) = m ((c.tc : Thread Cert.AdamwLastIdeal.nD Cert.AdamwLastIdeal.τ).loc Cert.AdamwLastIdeal.main_arg49)
      ∧ m' ((c.tc : Thread Cert.AdamwLastRefIdeal.nD Cert.AdamwLastRefIdeal.τ).loc Cert.AdamwLastRefIdeal.main_arg50) = m ((c.tc : Thread Cert.AdamwLastIdeal.nD Cert.AdamwLastIdeal.τ).loc Cert.AdamwLastIdeal.main_arg50)
      ∧ m' ((c.tc : Thread Cert.AdamwLastRefIdeal.nD Cert.AdamwLastRefIdeal.τ).loc Cert.AdamwLastRefIdeal.main_arg51) = m ((c.tc : Thread Cert.AdamwLastIdeal.nD Cert.AdamwLastIdeal.τ).loc Cert.AdamwLastIdeal.main_arg51)
      ∧ m' ((c.tc : Thread Cert.AdamwLastRefIdeal.nD Cert.AdamwLastRefIdeal.τ).loc Cert.AdamwLastRefIdeal.main_arg52) = m ((c.tc : Thread Cert.AdamwLastIdeal.nD Cert.AdamwLastIdeal.τ).loc Cert.AdamwLastIdeal.main_arg52)
      ∧ m' ((c.tc : Thread Cert.AdamwLastRefIdeal.nD Cert.AdamwLastRefIdeal.τ).loc Cert.AdamwLastRefIdeal.main_arg53) = m ((c.tc : Thread Cert.AdamwLastIdeal.nD Cert.AdamwLastIdeal.τ).loc Cert.AdamwLastIdeal.main_arg53)
      ∧ m' ((c.tc : Thread Cert.AdamwLastRefIdeal.nD Cert.AdamwLastRefIdeal.τ).loc Cert.AdamwLastRefIdeal.main_arg54) = m ((c.tc : Thread Cert.AdamwLastIdeal.nD Cert.AdamwLastIdeal.τ).loc Cert.AdamwLastIdeal.main_arg54)
      ∧ m' ((c.tc : Thread Cert.AdamwLastRefIdeal.nD Cert.AdamwLastRefIdeal.τ).loc Cert.AdamwLastRefIdeal.main_arg55) = m ((c.tc : Thread Cert.AdamwLastIdeal.nD Cert.AdamwLastIdeal.τ).loc Cert.AdamwLastIdeal.main_arg55)
      ∧ m' ((c.tc : Thread Cert.AdamwLastRefIdeal.nD Cert.AdamwLastRefIdeal.τ).loc Cert.AdamwLastRefIdeal.main_arg56) = m ((c.tc : Thread Cert.AdamwLastIdeal.nD Cert.AdamwLastIdeal.τ).loc Cert.AdamwLastIdeal.main_arg56)
      ∧ m' ((c.tc : Thread Cert.AdamwLastRefIdeal.nD Cert.AdamwLastRefIdeal.τ).loc Cert.AdamwLastRefIdeal.main_arg57) = m ((c.tc : Thread Cert.AdamwLastIdeal.nD Cert.AdamwLastIdeal.τ).loc Cert.AdamwLastIdeal.main_arg57)
      ∧ m' ((c.tc : Thread Cert.AdamwLastRefIdeal.nD Cert.AdamwLastRefIdeal.τ).loc Cert.AdamwLastRefIdeal.main_arg58) = m ((c.tc : Thread Cert.AdamwLastIdeal.nD Cert.AdamwLastIdeal.τ).loc Cert.AdamwLastIdeal.main_arg58)
      ∧ m' ((c.tc : Thread Cert.AdamwLastRefIdeal.nD Cert.AdamwLastRefIdeal.τ).loc Cert.AdamwLastRefIdeal.main_arg59) = m ((c.tc : Thread Cert.AdamwLastIdeal.nD Cert.AdamwLastIdeal.τ).loc Cert.AdamwLastIdeal.main_arg59)) →
    ∃ (v0 : (c : Dev Cert.AdamwLastIdeal.nD) → Buf (Elt Ideal) ((c.tc : Thread Cert.AdamwLastIdeal.nD Cert.AdamwLastIdeal.τ).loc Cert.AdamwLastIdeal.main_v0_24)) (v1 : (c : Dev Cert.AdamwLastIdeal.nD) → Buf (Elt Ideal) ((c.tc : Thread Cert.AdamwLastIdeal.nD Cert.AdamwLastIdeal.τ).loc Cert.AdamwLastIdeal.main_v0_25)) (v2 : (c : Dev Cert.AdamwLastIdeal.nD) → Buf (Elt Ideal) ((c.tc : Thread Cert.AdamwLastIdeal.nD Cert.AdamwLastIdeal.τ).loc Cert.AdamwLastIdeal.main_v0_26)) (v3 : (c : Dev Cert.AdamwLastIdeal.nD) → Buf (Elt Ideal) ((c.tc : Thread Cert.AdamwLastIdeal.nD Cert.AdamwLastIdeal.τ).loc Cert.AdamwLastIdeal.main_v0_27)) (v4 : (c : Dev Cert.AdamwLastIdeal.nD) → Buf (Elt Ideal) ((c.tc : Thread Cert.AdamwLastIdeal.nD Cert.AdamwLastIdeal.τ).loc Cert.AdamwLastIdeal.main_v0_28)) (v5 : (c : Dev Cert.AdamwLastIdeal.nD) → Buf (Elt Ideal) ((c.tc : Thread Cert.AdamwLastIdeal.nD Cert.AdamwLastIdeal.τ).loc Cert.AdamwLastIdeal.main_v0_29)) (v6 : (c : Dev Cert.AdamwLastIdeal.nD) → Buf (Elt Ideal) ((c.tc : Thread Cert.AdamwLastIdeal.nD Cert.AdamwLastIdeal.τ).loc Cert.AdamwLastIdeal.main_v0_30)) (v7 : (c : Dev Cert.AdamwLastIdeal.nD) → Buf (Elt Ideal) ((c.tc : Thread Cert.AdamwLastIdeal.nD Cert.AdamwLastIdeal.τ).loc Cert.AdamwLastIdeal.main_v0_31)) (v8 : (c : Dev Cert.AdamwLastIdeal.nD) → Buf (Elt Ideal) ((c.tc : Thread Cert.AdamwLastIdeal.nD Cert.AdamwLastIdeal.τ).loc Cert.AdamwLastIdeal.main_v0_32)) (v9 : (c : Dev Cert.AdamwLastIdeal.nD) → Buf (Elt Ideal) ((c.tc : Thread Cert.AdamwLastIdeal.nD Cert.AdamwLastIdeal.τ).loc Cert.AdamwLastIdeal.main_v0_33)) (v10 : (c : Dev Cert.AdamwLastIdeal.nD) → Buf (Elt Ideal) ((c.tc : Thread Cert.AdamwLastIdeal.nD Cert.AdamwLastIdeal.τ).loc Cert.AdamwLastIdeal.main_v0_34)) (v11 : (c : Dev Cert.AdamwLastIdeal.nD) → Buf (Elt Ideal) ((c.tc : Thread Cert.AdamwLastIdeal.nD Cert.AdamwLastIdeal.τ).loc Cert.AdamwLastIdeal.main_v0_35)) (v12 : (c : Dev Cert.AdamwLastIdeal.nD) → Buf (Elt Ideal) ((c.tc : Thread Cert.AdamwLastIdeal.nD Cert.AdamwLastIdeal.τ).loc Cert.AdamwLastIdeal.main_v0_36)) (v13 : (c : Dev Cert.AdamwLastIdeal.nD) → Buf (Elt Ideal) ((c.tc : Thread Cert.AdamwLastIdeal.nD Cert.AdamwLastIdeal.τ).loc Cert.AdamwLastIdeal.main_v0_37)) (v14 : (c : Dev Cert.AdamwLastIdeal.nD) → Buf (Elt Ideal) ((c.tc : Thread Cert.AdamwLastIdeal.nD Cert.AdamwLastIdeal.τ).loc Cert.AdamwLastIdeal.main_v0_38)) (v15 : (c : Dev Cert.AdamwLastIdeal.nD) → Buf (Elt Ideal) ((c.tc : Thread Cert.AdamwLastIdeal.nD Cert.AdamwLastIdeal.τ).loc Cert.AdamwLastIdeal.main_v0_39)) (v16 : (c : Dev Cert.AdamwLastIdeal.nD) → Buf (Elt Ideal) ((c.tc : Thread Cert.AdamwLastIdeal.nD Cert.AdamwLastIdeal.τ).loc Cert.AdamwLastIdeal.main_v0_40)) (v17 : (c : Dev Cert.AdamwLastIdeal.nD) → Buf (Elt Ideal) ((c.tc : Thread Cert.AdamwLastIdeal.nD Cert.AdamwLastIdeal.τ).loc Cert.AdamwLastIdeal.main_v0_41)) (v18 : (c : Dev Cert.AdamwLastIdeal.nD) → Buf (Elt Ideal) ((c.tc : Thread Cert.AdamwLastIdeal.nD Cert.AdamwLastIdeal.τ).loc Cert.AdamwLastIdeal.main_v0_42)) (v19 : (c : Dev Cert.AdamwLastIdeal.nD) → Buf (Elt Ideal) ((c.tc : Thread Cert.AdamwLastIdeal.nD Cert.AdamwLastIdeal.τ).loc Cert.AdamwLastIdeal.main_v0_43)) (v20 : (c : Dev Cert.AdamwLastIdeal.nD) → Buf (Elt Ideal) ((c.tc : Thread Cert.AdamwLastIdeal.nD Cert.AdamwLastIdeal.τ).loc Cert.AdamwLastIdeal.main_v0_44)),
      θ_run (Cert.AdamwLastIdeal.defs (F := Ideal)) (onTc (τ := Cert.AdamwLastIdeal.τ) (Cert.AdamwLastIdeal.main (F := Ideal))) ⟨m, fun _ => 0, g⟩ (fun r => ∀ c : Dev Cert.AdamwLastIdeal.nD,
          r.2.mem ((c.tc : Thread Cert.AdamwLastIdeal.nD Cert.AdamwLastIdeal.τ).loc Cert.AdamwLastIdeal.main_v0_24) = v0 c
          ∧ r.2.mem ((c.tc : Thread Cert.AdamwLastIdeal.nD Cert.AdamwLastIdeal.τ).loc Cert.AdamwLastIdeal.main_v0_25) = v1 c
          ∧ r.2.mem ((c.tc : Thread Cert.AdamwLastIdeal.nD Cert.AdamwLastIdeal.τ).loc Cert.AdamwLastIdeal.main_v0_26) = v2 c
          ∧ r.2.mem ((c.tc : Thread Cert.AdamwLastIdeal.nD Cert.AdamwLastIdeal.τ).loc Cert.AdamwLastIdeal.main_v0_27) = v3 c
          ∧ r.2.mem ((c.tc : Thread Cert.AdamwLastIdeal.nD Cert.AdamwLastIdeal.τ).loc Cert.AdamwLastIdeal.main_v0_28) = v4 c
          ∧ r.2.mem ((c.tc : Thread Cert.AdamwLastIdeal.nD Cert.AdamwLastIdeal.τ).loc Cert.AdamwLastIdeal.main_v0_29) = v5 c
          ∧ r.2.mem ((c.tc : Thread Cert.AdamwLastIdeal.nD Cert.AdamwLastIdeal.τ).loc Cert.AdamwLastIdeal.main_v0_30) = v6 c
          ∧ r.2.mem ((c.tc : Thread Cert.AdamwLastIdeal.nD Cert.AdamwLastIdeal.τ).loc Cert.AdamwLastIdeal.main_v0_31) = v7 c
          ∧ r.2.mem ((c.tc : Thread Cert.AdamwLastIdeal.nD Cert.AdamwLastIdeal.τ).loc Cert.AdamwLastIdeal.main_v0_32) = v8 c
          ∧ r.2.mem ((c.tc : Thread Cert.AdamwLastIdeal.nD Cert.AdamwLastIdeal.τ).loc Cert.AdamwLastIdeal.main_v0_33) = v9 c
          ∧ r.2.mem ((c.tc : Thread Cert.AdamwLastIdeal.nD Cert.AdamwLastIdeal.τ).loc Cert.AdamwLastIdeal.main_v0_34) = v10 c
          ∧ r.2.mem ((c.tc : Thread Cert.AdamwLastIdeal.nD Cert.AdamwLastIdeal.τ).loc Cert.AdamwLastIdeal.main_v0_35) = v11 c
          ∧ r.2.mem ((c.tc : Thread Cert.AdamwLastIdeal.nD Cert.AdamwLastIdeal.τ).loc Cert.AdamwLastIdeal.main_v0_36) = v12 c
          ∧ r.2.mem ((c.tc : Thread Cert.AdamwLastIdeal.nD Cert.AdamwLastIdeal.τ).loc Cert.AdamwLastIdeal.main_v0_37) = v13 c
          ∧ r.2.mem ((c.tc : Thread Cert.AdamwLastIdeal.nD Cert.AdamwLastIdeal.τ).loc Cert.AdamwLastIdeal.main_v0_38) = v14 c
          ∧ r.2.mem ((c.tc : Thread Cert.AdamwLastIdeal.nD Cert.AdamwLastIdeal.τ).loc Cert.AdamwLastIdeal.main_v0_39) = v15 c
          ∧ r.2.mem ((c.tc : Thread Cert.AdamwLastIdeal.nD Cert.AdamwLastIdeal.τ).loc Cert.AdamwLastIdeal.main_v0_40) = v16 c
          ∧ r.2.mem ((c.tc : Thread Cert.AdamwLastIdeal.nD Cert.AdamwLastIdeal.τ).loc Cert.AdamwLastIdeal.main_v0_41) = v17 c
          ∧ r.2.mem ((c.tc : Thread Cert.AdamwLastIdeal.nD Cert.AdamwLastIdeal.τ).loc Cert.AdamwLastIdeal.main_v0_42) = v18 c
          ∧ r.2.mem ((c.tc : Thread Cert.AdamwLastIdeal.nD Cert.AdamwLastIdeal.τ).loc Cert.AdamwLastIdeal.main_v0_43) = v19 c
          ∧ r.2.mem ((c.tc : Thread Cert.AdamwLastIdeal.nD Cert.AdamwLastIdeal.τ).loc Cert.AdamwLastIdeal.main_v0_44) = v20 c
          ∧ r.2.mem ((c.tc : Thread Cert.AdamwLastIdeal.nD Cert.AdamwLastIdeal.τ).loc Cert.AdamwLastIdeal.main_arg0) = m ((c.tc : Thread Cert.AdamwLastIdeal.nD Cert.AdamwLastIdeal.τ).loc Cert.AdamwLastIdeal.main_arg0)
          ∧ r.2.mem ((c.tc : Thread Cert.AdamwLastIdeal.nD Cert.AdamwLastIdeal.τ).loc Cert.AdamwLastIdeal.main_arg1) = m ((c.tc : Thread Cert.AdamwLastIdeal.nD Cert.AdamwLastIdeal.τ).loc Cert.AdamwLastIdeal.main_arg1)
          ∧ r.2.mem ((c.tc : Thread Cert.AdamwLastIdeal.nD Cert.AdamwLastIdeal.τ).loc Cert.AdamwLastIdeal.main_arg2) = m ((c.tc : Thread Cert.AdamwLastIdeal.nD Cert.AdamwLastIdeal.τ).loc Cert.AdamwLastIdeal.main_arg2)
          ∧ r.2.mem ((c.tc : Thread Cert.AdamwLastIdeal.nD Cert.AdamwLastIdeal.τ).loc Cert.AdamwLastIdeal.main_arg3) = m ((c.tc : Thread Cert.AdamwLastIdeal.nD Cert.AdamwLastIdeal.τ).loc Cert.AdamwLastIdeal.main_arg3)
          ∧ r.2.mem ((c.tc : Thread Cert.AdamwLastIdeal.nD Cert.AdamwLastIdeal.τ).loc Cert.AdamwLastIdeal.main_arg4) = m ((c.tc : Thread Cert.AdamwLastIdeal.nD Cert.AdamwLastIdeal.τ).loc Cert.AdamwLastIdeal.main_arg4)
          ∧ r.2.mem ((c.tc : Thread Cert.AdamwLastIdeal.nD Cert.AdamwLastIdeal.τ).loc Cert.AdamwLastIdeal.main_arg5) = m ((c.tc : Thread Cert.AdamwLastIdeal.nD Cert.AdamwLastIdeal.τ).loc Cert.AdamwLastIdeal.main_arg5)
          ∧ r.2.mem ((c.tc : Thread Cert.AdamwLastIdeal.nD Cert.AdamwLastIdeal.τ).loc Cert.AdamwLastIdeal.main_arg6) = m ((c.tc : Thread Cert.AdamwLastIdeal.nD Cert.AdamwLastIdeal.τ).loc Cert.AdamwLastIdeal.main_arg6)
          ∧ r.2.mem ((c.tc : Thread Cert.AdamwLastIdeal.nD Cert.AdamwLastIdeal.τ).loc Cert.AdamwLastIdeal.main_arg7) = m ((c.tc : Thread Cert.AdamwLastIdeal.nD Cert.AdamwLastIdeal.τ).loc Cert.AdamwLastIdeal.main_arg7)
          ∧ r.2.mem ((c.tc : Thread Cert.AdamwLastIdeal.nD Cert.AdamwLastIdeal.τ).loc Cert.AdamwLastIdeal.main_arg8) = m ((c.tc : Thread Cert.AdamwLastIdeal.nD Cert.AdamwLastIdeal.τ).loc Cert.AdamwLastIdeal.main_arg8)
          ∧ r.2.mem ((c.tc : Thread Cert.AdamwLastIdeal.nD Cert.AdamwLastIdeal.τ).loc Cert.AdamwLastIdeal.main_arg9) = m ((c.tc : Thread Cert.AdamwLastIdeal.nD Cert.AdamwLastIdeal.τ).loc Cert.AdamwLastIdeal.main_arg9)
          ∧ r.2.mem ((c.tc : Thread Cert.AdamwLastIdeal.nD Cert.AdamwLastIdeal.τ).loc Cert.AdamwLastIdeal.main_arg10) = m ((c.tc : Thread Cert.AdamwLastIdeal.nD Cert.AdamwLastIdeal.τ).loc Cert.AdamwLastIdeal.main_arg10)
          ∧ r.2.mem ((c.tc : Thread Cert.AdamwLastIdeal.nD Cert.AdamwLastIdeal.τ).loc Cert.AdamwLastIdeal.main_arg11) = m ((c.tc : Thread Cert.AdamwLastIdeal.nD Cert.AdamwLastIdeal.τ).loc Cert.AdamwLastIdeal.main_arg11)
          ∧ r.2.mem ((c.tc : Thread Cert.AdamwLastIdeal.nD Cert.AdamwLastIdeal.τ).loc Cert.AdamwLastIdeal.main_arg12) = m ((c.tc : Thread Cert.AdamwLastIdeal.nD Cert.AdamwLastIdeal.τ).loc Cert.AdamwLastIdeal.main_arg12)
          ∧ r.2.mem ((c.tc : Thread Cert.AdamwLastIdeal.nD Cert.AdamwLastIdeal.τ).loc Cert.AdamwLastIdeal.main_arg13) = m ((c.tc : Thread Cert.AdamwLastIdeal.nD Cert.AdamwLastIdeal.τ).loc Cert.AdamwLastIdeal.main_arg13)
          ∧ r.2.mem ((c.tc : Thread Cert.AdamwLastIdeal.nD Cert.AdamwLastIdeal.τ).loc Cert.AdamwLastIdeal.main_arg14) = m ((c.tc : Thread Cert.AdamwLastIdeal.nD Cert.AdamwLastIdeal.τ).loc Cert.AdamwLastIdeal.main_arg14)
          ∧ r.2.mem ((c.tc : Thread Cert.AdamwLastIdeal.nD Cert.AdamwLastIdeal.τ).loc Cert.AdamwLastIdeal.main_arg15) = m ((c.tc : Thread Cert.AdamwLastIdeal.nD Cert.AdamwLastIdeal.τ).loc Cert.AdamwLastIdeal.main_arg15)
          ∧ r.2.mem ((c.tc : Thread Cert.AdamwLastIdeal.nD Cert.AdamwLastIdeal.τ).loc Cert.AdamwLastIdeal.main_arg16) = m ((c.tc : Thread Cert.AdamwLastIdeal.nD Cert.AdamwLastIdeal.τ).loc Cert.AdamwLastIdeal.main_arg16)
          ∧ r.2.mem ((c.tc : Thread Cert.AdamwLastIdeal.nD Cert.AdamwLastIdeal.τ).loc Cert.AdamwLastIdeal.main_arg17) = m ((c.tc : Thread Cert.AdamwLastIdeal.nD Cert.AdamwLastIdeal.τ).loc Cert.AdamwLastIdeal.main_arg17)
          ∧ r.2.mem ((c.tc : Thread Cert.AdamwLastIdeal.nD Cert.AdamwLastIdeal.τ).loc Cert.AdamwLastIdeal.main_arg18) = m ((c.tc : Thread Cert.AdamwLastIdeal.nD Cert.AdamwLastIdeal.τ).loc Cert.AdamwLastIdeal.main_arg18)
          ∧ r.2.mem ((c.tc : Thread Cert.AdamwLastIdeal.nD Cert.AdamwLastIdeal.τ).loc Cert.AdamwLastIdeal.main_arg19) = m ((c.tc : Thread Cert.AdamwLastIdeal.nD Cert.AdamwLastIdeal.τ).loc Cert.AdamwLastIdeal.main_arg19)
          ∧ r.2.mem ((c.tc : Thread Cert.AdamwLastIdeal.nD Cert.AdamwLastIdeal.τ).loc Cert.AdamwLastIdeal.main_arg20) = m ((c.tc : Thread Cert.AdamwLastIdeal.nD Cert.AdamwLastIdeal.τ).loc Cert.AdamwLastIdeal.main_arg20)
          ∧ r.2.mem ((c.tc : Thread Cert.AdamwLastIdeal.nD Cert.AdamwLastIdeal.τ).loc Cert.AdamwLastIdeal.main_arg21) = m ((c.tc : Thread Cert.AdamwLastIdeal.nD Cert.AdamwLastIdeal.τ).loc Cert.AdamwLastIdeal.main_arg21)
          ∧ r.2.mem ((c.tc : Thread Cert.AdamwLastIdeal.nD Cert.AdamwLastIdeal.τ).loc Cert.AdamwLastIdeal.main_arg22) = m ((c.tc : Thread Cert.AdamwLastIdeal.nD Cert.AdamwLastIdeal.τ).loc Cert.AdamwLastIdeal.main_arg22)
          ∧ r.2.mem ((c.tc : Thread Cert.AdamwLastIdeal.nD Cert.AdamwLastIdeal.τ).loc Cert.AdamwLastIdeal.main_arg23) = m ((c.tc : Thread Cert.AdamwLastIdeal.nD Cert.AdamwLastIdeal.τ).loc Cert.AdamwLastIdeal.main_arg23)
          ∧ r.2.mem ((c.tc : Thread Cert.AdamwLastIdeal.nD Cert.AdamwLastIdeal.τ).loc Cert.AdamwLastIdeal.main_arg24) = m ((c.tc : Thread Cert.AdamwLastIdeal.nD Cert.AdamwLastIdeal.τ).loc Cert.AdamwLastIdeal.main_arg24)
          ∧ r.2.mem ((c.tc : Thread Cert.AdamwLastIdeal.nD Cert.AdamwLastIdeal.τ).loc Cert.AdamwLastIdeal.main_arg25) = m ((c.tc : Thread Cert.AdamwLastIdeal.nD Cert.AdamwLastIdeal.τ).loc Cert.AdamwLastIdeal.main_arg25)
          ∧ r.2.mem ((c.tc : Thread Cert.AdamwLastIdeal.nD Cert.AdamwLastIdeal.τ).loc Cert.AdamwLastIdeal.main_arg26) = m ((c.tc : Thread Cert.AdamwLastIdeal.nD Cert.AdamwLastIdeal.τ).loc Cert.AdamwLastIdeal.main_arg26)
          ∧ r.2.mem ((c.tc : Thread Cert.AdamwLastIdeal.nD Cert.AdamwLastIdeal.τ).loc Cert.AdamwLastIdeal.main_arg27) = m ((c.tc : Thread Cert.AdamwLastIdeal.nD Cert.AdamwLastIdeal.τ).loc Cert.AdamwLastIdeal.main_arg27)
          ∧ r.2.mem ((c.tc : Thread Cert.AdamwLastIdeal.nD Cert.AdamwLastIdeal.τ).loc Cert.AdamwLastIdeal.main_arg28) = m ((c.tc : Thread Cert.AdamwLastIdeal.nD Cert.AdamwLastIdeal.τ).loc Cert.AdamwLastIdeal.main_arg28)
          ∧ r.2.mem ((c.tc : Thread Cert.AdamwLastIdeal.nD Cert.AdamwLastIdeal.τ).loc Cert.AdamwLastIdeal.main_arg29) = m ((c.tc : Thread Cert.AdamwLastIdeal.nD Cert.AdamwLastIdeal.τ).loc Cert.AdamwLastIdeal.main_arg29)
          ∧ r.2.mem ((c.tc : Thread Cert.AdamwLastIdeal.nD Cert.AdamwLastIdeal.τ).loc Cert.AdamwLastIdeal.main_arg30) = m ((c.tc : Thread Cert.AdamwLastIdeal.nD Cert.AdamwLastIdeal.τ).loc Cert.AdamwLastIdeal.main_arg30)
          ∧ r.2.mem ((c.tc : Thread Cert.AdamwLastIdeal.nD Cert.AdamwLastIdeal.τ).loc Cert.AdamwLastIdeal.main_arg31) = m ((c.tc : Thread Cert.AdamwLastIdeal.nD Cert.AdamwLastIdeal.τ).loc Cert.AdamwLastIdeal.main_arg31)
          ∧ r.2.mem ((c.tc : Thread Cert.AdamwLastIdeal.nD Cert.AdamwLastIdeal.τ).loc Cert.AdamwLastIdeal.main_arg32) = m ((c.tc : Thread Cert.AdamwLastIdeal.nD Cert.AdamwLastIdeal.τ).loc Cert.AdamwLastIdeal.main_arg32)
          ∧ r.2.mem ((c.tc : Thread Cert.AdamwLastIdeal.nD Cert.AdamwLastIdeal.τ).loc Cert.AdamwLastIdeal.main_arg33) = m ((c.tc : Thread Cert.AdamwLastIdeal.nD Cert.AdamwLastIdeal.τ).loc Cert.AdamwLastIdeal.main_arg33)
          ∧ r.2.mem ((c.tc : Thread Cert.AdamwLastIdeal.nD Cert.AdamwLastIdeal.τ).loc Cert.AdamwLastIdeal.main_arg34) = m ((c.tc : Thread Cert.AdamwLastIdeal.nD Cert.AdamwLastIdeal.τ).loc Cert.AdamwLastIdeal.main_arg34)
          ∧ r.2.mem ((c.tc : Thread Cert.AdamwLastIdeal.nD Cert.AdamwLastIdeal.τ).loc Cert.AdamwLastIdeal.main_arg35) = m ((c.tc : Thread Cert.AdamwLastIdeal.nD Cert.AdamwLastIdeal.τ).loc Cert.AdamwLastIdeal.main_arg35)
          ∧ r.2.mem ((c.tc : Thread Cert.AdamwLastIdeal.nD Cert.AdamwLastIdeal.τ).loc Cert.AdamwLastIdeal.main_arg36) = m ((c.tc : Thread Cert.AdamwLastIdeal.nD Cert.AdamwLastIdeal.τ).loc Cert.AdamwLastIdeal.main_arg36)
          ∧ r.2.mem ((c.tc : Thread Cert.AdamwLastIdeal.nD Cert.AdamwLastIdeal.τ).loc Cert.AdamwLastIdeal.main_arg37) = m ((c.tc : Thread Cert.AdamwLastIdeal.nD Cert.AdamwLastIdeal.τ).loc Cert.AdamwLastIdeal.main_arg37)
          ∧ r.2.mem ((c.tc : Thread Cert.AdamwLastIdeal.nD Cert.AdamwLastIdeal.τ).loc Cert.AdamwLastIdeal.main_arg38) = m ((c.tc : Thread Cert.AdamwLastIdeal.nD Cert.AdamwLastIdeal.τ).loc Cert.AdamwLastIdeal.main_arg38)
          ∧ r.2.mem ((c.tc : Thread Cert.AdamwLastIdeal.nD Cert.AdamwLastIdeal.τ).loc Cert.AdamwLastIdeal.main_arg39) = m ((c.tc : Thread Cert.AdamwLastIdeal.nD Cert.AdamwLastIdeal.τ).loc Cert.AdamwLastIdeal.main_arg39)
          ∧ r.2.mem ((c.tc : Thread Cert.AdamwLastIdeal.nD Cert.AdamwLastIdeal.τ).loc Cert.AdamwLastIdeal.main_arg40) = m ((c.tc : Thread Cert.AdamwLastIdeal.nD Cert.AdamwLastIdeal.τ).loc Cert.AdamwLastIdeal.main_arg40)
          ∧ r.2.mem ((c.tc : Thread Cert.AdamwLastIdeal.nD Cert.AdamwLastIdeal.τ).loc Cert.AdamwLastIdeal.main_arg41) = m ((c.tc : Thread Cert.AdamwLastIdeal.nD Cert.AdamwLastIdeal.τ).loc Cert.AdamwLastIdeal.main_arg41)
          ∧ r.2.mem ((c.tc : Thread Cert.AdamwLastIdeal.nD Cert.AdamwLastIdeal.τ).loc Cert.AdamwLastIdeal.main_arg42) = m ((c.tc : Thread Cert.AdamwLastIdeal.nD Cert.AdamwLastIdeal.τ).loc Cert.AdamwLastIdeal.main_arg42)
          ∧ r.2.mem ((c.tc : Thread Cert.AdamwLastIdeal.nD Cert.AdamwLastIdeal.τ).loc Cert.AdamwLastIdeal.main_arg43) = m ((c.tc : Thread Cert.AdamwLastIdeal.nD Cert.AdamwLastIdeal.τ).loc Cert.AdamwLastIdeal.main_arg43)
          ∧ r.2.mem ((c.tc : Thread Cert.AdamwLastIdeal.nD Cert.AdamwLastIdeal.τ).loc Cert.AdamwLastIdeal.main_arg44) = m ((c.tc : Thread Cert.AdamwLastIdeal.nD Cert.AdamwLastIdeal.τ).loc Cert.AdamwLastIdeal.main_arg44)
          ∧ r.2.mem ((c.tc : Thread Cert.AdamwLastIdeal.nD Cert.AdamwLastIdeal.τ).loc Cert.AdamwLastIdeal.main_arg45) = m ((c.tc : Thread Cert.AdamwLastIdeal.nD Cert.AdamwLastIdeal.τ).loc Cert.AdamwLastIdeal.main_arg45)
          ∧ r.2.mem ((c.tc : Thread Cert.AdamwLastIdeal.nD Cert.AdamwLastIdeal.τ).loc Cert.AdamwLastIdeal.main_arg46) = m ((c.tc : Thread Cert.AdamwLastIdeal.nD Cert.AdamwLastIdeal.τ).loc Cert.AdamwLastIdeal.main_arg46)
          ∧ r.2.mem ((c.tc : Thread Cert.AdamwLastIdeal.nD Cert.AdamwLastIdeal.τ).loc Cert.AdamwLastIdeal.main_arg47) = m ((c.tc : Thread Cert.AdamwLastIdeal.nD Cert.AdamwLastIdeal.τ).loc Cert.AdamwLastIdeal.main_arg47)
          ∧ r.2.mem ((c.tc : Thread Cert.AdamwLastIdeal.nD Cert.AdamwLastIdeal.τ).loc Cert.AdamwLastIdeal.main_arg48) = m ((c.tc : Thread Cert.AdamwLastIdeal.nD Cert.AdamwLastIdeal.τ).loc Cert.AdamwLastIdeal.main_arg48)
          ∧ r.2.mem ((c.tc : Thread Cert.AdamwLastIdeal.nD Cert.AdamwLastIdeal.τ).loc Cert.AdamwLastIdeal.main_arg49) = m ((c.tc : Thread Cert.AdamwLastIdeal.nD Cert.AdamwLastIdeal.τ).loc Cert.AdamwLastIdeal.main_arg49)
          ∧ r.2.mem ((c.tc : Thread Cert.AdamwLastIdeal.nD Cert.AdamwLastIdeal.τ).loc Cert.AdamwLastIdeal.main_arg50) = m ((c.tc : Thread Cert.AdamwLastIdeal.nD Cert.AdamwLastIdeal.τ).loc Cert.AdamwLastIdeal.main_arg50)
          ∧ r.2.mem ((c.tc : Thread Cert.AdamwLastIdeal.nD Cert.AdamwLastIdeal.τ).loc Cert.AdamwLastIdeal.main_arg51) = m ((c.tc : Thread Cert.AdamwLastIdeal.nD Cert.AdamwLastIdeal.τ).loc Cert.AdamwLastIdeal.main_arg51)
          ∧ r.2.mem ((c.tc : Thread Cert.AdamwLastIdeal.nD Cert.AdamwLastIdeal.τ).loc Cert.AdamwLastIdeal.main_arg52) = m ((c.tc : Thread Cert.AdamwLastIdeal.nD Cert.AdamwLastIdeal.τ).loc Cert.AdamwLastIdeal.main_arg52)
          ∧ r.2.mem ((c.tc : Thread Cert.AdamwLastIdeal.nD Cert.AdamwLastIdeal.τ).loc Cert.AdamwLastIdeal.main_arg53) = m ((c.tc : Thread Cert.AdamwLastIdeal.nD Cert.AdamwLastIdeal.τ).loc Cert.AdamwLastIdeal.main_arg53)
          ∧ r.2.mem ((c.tc : Thread Cert.AdamwLastIdeal.nD Cert.AdamwLastIdeal.τ).loc Cert.AdamwLastIdeal.main_arg54) = m ((c.tc : Thread Cert.AdamwLastIdeal.nD Cert.AdamwLastIdeal.τ).loc Cert.AdamwLastIdeal.main_arg54)
          ∧ r.2.mem ((c.tc : Thread Cert.AdamwLastIdeal.nD Cert.AdamwLastIdeal.τ).loc Cert.AdamwLastIdeal.main_arg55) = m ((c.tc : Thread Cert.AdamwLastIdeal.nD Cert.AdamwLastIdeal.τ).loc Cert.AdamwLastIdeal.main_arg55)
          ∧ r.2.mem ((c.tc : Thread Cert.AdamwLastIdeal.nD Cert.AdamwLastIdeal.τ).loc Cert.AdamwLastIdeal.main_arg56) = m ((c.tc : Thread Cert.AdamwLastIdeal.nD Cert.AdamwLastIdeal.τ).loc Cert.AdamwLastIdeal.main_arg56)
          ∧ r.2.mem ((c.tc : Thread Cert.AdamwLastIdeal.nD Cert.AdamwLastIdeal.τ).loc Cert.AdamwLastIdeal.main_arg57) = m ((c.tc : Thread Cert.AdamwLastIdeal.nD Cert.AdamwLastIdeal.τ).loc Cert.AdamwLastIdeal.main_arg57)
          ∧ r.2.mem ((c.tc : Thread Cert.AdamwLastIdeal.nD Cert.AdamwLastIdeal.τ).loc Cert.AdamwLastIdeal.main_arg58) = m ((c.tc : Thread Cert.AdamwLastIdeal.nD Cert.AdamwLastIdeal.τ).loc Cert.AdamwLastIdeal.main_arg58)
          ∧ r.2.mem ((c.tc : Thread Cert.AdamwLastIdeal.nD Cert.AdamwLastIdeal.τ).loc Cert.AdamwLastIdeal.main_arg59) = m ((c.tc : Thread Cert.AdamwLastIdeal.nD Cert.AdamwLastIdeal.τ).loc Cert.AdamwLastIdeal.main_arg59))
      ∧ θ_run (Cert.AdamwLastRefIdeal.defs (F := Ideal)) (onTc (τ := Cert.AdamwLastRefIdeal.τ) (Cert.AdamwLastRefIdeal.main (F := Ideal))) ⟨m', fun _ => 0, g'⟩ (fun r => ∀ c : Dev Cert.AdamwLastRefIdeal.nD,
          r.2.mem ((c.tc : Thread Cert.AdamwLastRefIdeal.nD Cert.AdamwLastRefIdeal.τ).loc Cert.AdamwLastRefIdeal.main_v23) = v0 c
          ∧ r.2.mem ((c.tc : Thread Cert.AdamwLastRefIdeal.nD Cert.AdamwLastRefIdeal.τ).loc Cert.AdamwLastRefIdeal.main_v4) = v1 c
          ∧ r.2.mem ((c.tc : Thread Cert.AdamwLastRefIdeal.nD Cert.AdamwLastRefIdeal.τ).loc Cert.AdamwLastRefIdeal.main_v10) = v2 c
          ∧ r.2.mem ((c.tc : Thread Cert.AdamwLastRefIdeal.nD Cert.AdamwLastRefIdeal.τ).loc Cert.AdamwLastRefIdeal.main_v47) = v3 c
          ∧ r.2.mem ((c.tc : Thread Cert.AdamwLastRefIdeal.nD Cert.AdamwLastRefIdeal.τ).loc Cert.AdamwLastRefIdeal.main_v28) = v4 c
          ∧ r.2.mem ((c.tc : Thread Cert.AdamwLastRefIdeal.nD Cert.AdamwLastRefIdeal.τ).loc Cert.AdamwLastRefIdeal.main_v34) = v5 c
          ∧ r.2.mem ((c.tc : Thread Cert.AdamwLastRefIdeal.nD Cert.AdamwLastRefIdeal.τ).loc Cert.AdamwLastRefIdeal.main_v71) = v6 c
          ∧ r.2.mem ((c.tc : Thread Cert.AdamwLastRefIdeal.nD Cert.AdamwLastRefIdeal.τ).loc Cert.AdamwLastRefIdeal.main_v52) = v7 c
          ∧ r.2.mem ((c.tc : Thread Cert.AdamwLastRefIdeal.nD Cert.AdamwLastRefIdeal.τ).loc Cert.AdamwLastRefIdeal.main_v58) = v8 c
          ∧ r.2.mem ((c.tc : Thread Cert.AdamwLastRefIdeal.nD Cert.AdamwLastRefIdeal.τ).loc Cert.AdamwLastRefIdeal.main_v95) = v9 c
          ∧ r.2.mem ((c.tc : Thread Cert.AdamwLastRefIdeal.nD Cert.AdamwLastRefIdeal.τ).loc Cert.AdamwLastRefIdeal.main_v76) = v10 c
          ∧ r.2.mem ((c.tc : Thread Cert.AdamwLastRefIdeal.nD Cert.AdamwLastRefIdeal.τ).loc Cert.AdamwLastRefIdeal.main_v82) = v11 c
          ∧ r.2.mem ((c.tc : Thread Cert.AdamwLastRefIdeal.nD Cert.AdamwLastRefIdeal.τ).loc Cert.AdamwLastRefIdeal.main_v119) = v12 c
          ∧ r.2.mem ((c.tc : Thread Cert.AdamwLastRefIdeal.nD Cert.AdamwLastRefIdeal.τ).loc Cert.AdamwLastRefIdeal.main_v100) = v13 c
          ∧ r.2.mem ((c.tc : Thread Cert.AdamwLastRefIdeal.nD Cert.AdamwLastRefIdeal.τ).loc Cert.AdamwLastRefIdeal.main_v106) = v14 c
          ∧ r.2.mem ((c.tc : Thread Cert.AdamwLastRefIdeal.nD Cert.AdamwLastRefIdeal.τ).loc Cert.AdamwLastRefIdeal.main_v143) = v15 c
          ∧ r.2.mem ((c.tc : Thread Cert.AdamwLastRefIdeal.nD Cert.AdamwLastRefIdeal.τ).loc Cert.AdamwLastRefIdeal.main_v124) = v16 c
          ∧ r.2.mem ((c.tc : Thread Cert.AdamwLastRefIdeal.nD Cert.AdamwLastRefIdeal.τ).loc Cert.AdamwLastRefIdeal.main_v130) = v17 c
          ∧ r.2.mem ((c.tc : Thread Cert.AdamwLastRefIdeal.nD Cert.AdamwLastRefIdeal.τ).loc Cert.AdamwLastRefIdeal.main_v167) = v18 c
          ∧ r.2.mem ((c.tc : Thread Cert.AdamwLastRefIdeal.nD Cert.AdamwLastRefIdeal.τ).loc Cert.AdamwLastRefIdeal.main_v148) = v19 c
          ∧ r.2.mem ((c.tc : Thread Cert.AdamwLastRefIdeal.nD Cert.AdamwLastRefIdeal.τ).loc Cert.AdamwLastRefIdeal.main_v154) = v20 c
          ∧ r.2.mem ((c.tc : Thread Cert.AdamwLastRefIdeal.nD Cert.AdamwLastRefIdeal.τ).loc Cert.AdamwLastRefIdeal.main_arg0) = m' ((c.tc : Thread Cert.AdamwLastRefIdeal.nD Cert.AdamwLastRefIdeal.τ).loc Cert.AdamwLastRefIdeal.main_arg0)
          ∧ r.2.mem ((c.tc : Thread Cert.AdamwLastRefIdeal.nD Cert.AdamwLastRefIdeal.τ).loc Cert.AdamwLastRefIdeal.main_arg1) = m' ((c.tc : Thread Cert.AdamwLastRefIdeal.nD Cert.AdamwLastRefIdeal.τ).loc Cert.AdamwLastRefIdeal.main_arg1)
          ∧ r.2.mem ((c.tc : Thread Cert.AdamwLastRefIdeal.nD Cert.AdamwLastRefIdeal.τ).loc Cert.AdamwLastRefIdeal.main_arg2) = m' ((c.tc : Thread Cert.AdamwLastRefIdeal.nD Cert.AdamwLastRefIdeal.τ).loc Cert.AdamwLastRefIdeal.main_arg2)
          ∧ r.2.mem ((c.tc : Thread Cert.AdamwLastRefIdeal.nD Cert.AdamwLastRefIdeal.τ).loc Cert.AdamwLastRefIdeal.main_arg3) = m' ((c.tc : Thread Cert.AdamwLastRefIdeal.nD Cert.AdamwLastRefIdeal.τ).loc Cert.AdamwLastRefIdeal.main_arg3)
          ∧ r.2.mem ((c.tc : Thread Cert.AdamwLastRefIdeal.nD Cert.AdamwLastRefIdeal.τ).loc Cert.AdamwLastRefIdeal.main_arg4) = m' ((c.tc : Thread Cert.AdamwLastRefIdeal.nD Cert.AdamwLastRefIdeal.τ).loc Cert.AdamwLastRefIdeal.main_arg4)
          ∧ r.2.mem ((c.tc : Thread Cert.AdamwLastRefIdeal.nD Cert.AdamwLastRefIdeal.τ).loc Cert.AdamwLastRefIdeal.main_arg5) = m' ((c.tc : Thread Cert.AdamwLastRefIdeal.nD Cert.AdamwLastRefIdeal.τ).loc Cert.AdamwLastRefIdeal.main_arg5)
          ∧ r.2.mem ((c.tc : Thread Cert.AdamwLastRefIdeal.nD Cert.AdamwLastRefIdeal.τ).loc Cert.AdamwLastRefIdeal.main_arg6) = m' ((c.tc : Thread Cert.AdamwLastRefIdeal.nD Cert.AdamwLastRefIdeal.τ).loc Cert.AdamwLastRefIdeal.main_arg6)
          ∧ r.2.mem ((c.tc : Thread Cert.AdamwLastRefIdeal.nD Cert.AdamwLastRefIdeal.τ).loc Cert.AdamwLastRefIdeal.main_arg7) = m' ((c.tc : Thread Cert.AdamwLastRefIdeal.nD Cert.AdamwLastRefIdeal.τ).loc Cert.AdamwLastRefIdeal.main_arg7)
          ∧ r.2.mem ((c.tc : Thread Cert.AdamwLastRefIdeal.nD Cert.AdamwLastRefIdeal.τ).loc Cert.AdamwLastRefIdeal.main_arg8) = m' ((c.tc : Thread Cert.AdamwLastRefIdeal.nD Cert.AdamwLastRefIdeal.τ).loc Cert.AdamwLastRefIdeal.main_arg8)
          ∧ r.2.mem ((c.tc : Thread Cert.AdamwLastRefIdeal.nD Cert.AdamwLastRefIdeal.τ).loc Cert.AdamwLastRefIdeal.main_arg9) = m' ((c.tc : Thread Cert.AdamwLastRefIdeal.nD Cert.AdamwLastRefIdeal.τ).loc Cert.AdamwLastRefIdeal.main_arg9)
          ∧ r.2.mem ((c.tc : Thread Cert.AdamwLastRefIdeal.nD Cert.AdamwLastRefIdeal.τ).loc Cert.AdamwLastRefIdeal.main_arg10) = m' ((c.tc : Thread Cert.AdamwLastRefIdeal.nD Cert.AdamwLastRefIdeal.τ).loc Cert.AdamwLastRefIdeal.main_arg10)
          ∧ r.2.mem ((c.tc : Thread Cert.AdamwLastRefIdeal.nD Cert.AdamwLastRefIdeal.τ).loc Cert.AdamwLastRefIdeal.main_arg11) = m' ((c.tc : Thread Cert.AdamwLastRefIdeal.nD Cert.AdamwLastRefIdeal.τ).loc Cert.AdamwLastRefIdeal.main_arg11)
          ∧ r.2.mem ((c.tc : Thread Cert.AdamwLastRefIdeal.nD Cert.AdamwLastRefIdeal.τ).loc Cert.AdamwLastRefIdeal.main_arg12) = m' ((c.tc : Thread Cert.AdamwLastRefIdeal.nD Cert.AdamwLastRefIdeal.τ).loc Cert.AdamwLastRefIdeal.main_arg12)
          ∧ r.2.mem ((c.tc : Thread Cert.AdamwLastRefIdeal.nD Cert.AdamwLastRefIdeal.τ).loc Cert.AdamwLastRefIdeal.main_arg13) = m' ((c.tc : Thread Cert.AdamwLastRefIdeal.nD Cert.AdamwLastRefIdeal.τ).loc Cert.AdamwLastRefIdeal.main_arg13)
          ∧ r.2.mem ((c.tc : Thread Cert.AdamwLastRefIdeal.nD Cert.AdamwLastRefIdeal.τ).loc Cert.AdamwLastRefIdeal.main_arg14) = m' ((c.tc : Thread Cert.AdamwLastRefIdeal.nD Cert.AdamwLastRefIdeal.τ).loc Cert.AdamwLastRefIdeal.main_arg14)
          ∧ r.2.mem ((c.tc : Thread Cert.AdamwLastRefIdeal.nD Cert.AdamwLastRefIdeal.τ).loc Cert.AdamwLastRefIdeal.main_arg15) = m' ((c.tc : Thread Cert.AdamwLastRefIdeal.nD Cert.AdamwLastRefIdeal.τ).loc Cert.AdamwLastRefIdeal.main_arg15)
          ∧ r.2.mem ((c.tc : Thread Cert.AdamwLastRefIdeal.nD Cert.AdamwLastRefIdeal.τ).loc Cert.AdamwLastRefIdeal.main_arg16) = m' ((c.tc : Thread Cert.AdamwLastRefIdeal.nD Cert.AdamwLastRefIdeal.τ).loc Cert.AdamwLastRefIdeal.main_arg16)
          ∧ r.2.mem ((c.tc : Thread Cert.AdamwLastRefIdeal.nD Cert.AdamwLastRefIdeal.τ).loc Cert.AdamwLastRefIdeal.main_arg17) = m' ((c.tc : Thread Cert.AdamwLastRefIdeal.nD Cert.AdamwLastRefIdeal.τ).loc Cert.AdamwLastRefIdeal.main_arg17)
          ∧ r.2.mem ((c.tc : Thread Cert.AdamwLastRefIdeal.nD Cert.AdamwLastRefIdeal.τ).loc Cert.AdamwLastRefIdeal.main_arg18) = m' ((c.tc : Thread Cert.AdamwLastRefIdeal.nD Cert.AdamwLastRefIdeal.τ).loc Cert.AdamwLastRefIdeal.main_arg18)
          ∧ r.2.mem ((c.tc : Thread Cert.AdamwLastRefIdeal.nD Cert.AdamwLastRefIdeal.τ).loc Cert.AdamwLastRefIdeal.main_arg19) = m' ((c.tc : Thread Cert.AdamwLastRefIdeal.nD Cert.AdamwLastRefIdeal.τ).loc Cert.AdamwLastRefIdeal.main_arg19)
          ∧ r.2.mem ((c.tc : Thread Cert.AdamwLastRefIdeal.nD Cert.AdamwLastRefIdeal.τ).loc Cert.AdamwLastRefIdeal.main_arg20) = m' ((c.tc : Thread Cert.AdamwLastRefIdeal.nD Cert.AdamwLastRefIdeal.τ).loc Cert.AdamwLastRefIdeal.main_arg20)
          ∧ r.2.mem ((c.tc : Thread Cert.AdamwLastRefIdeal.nD Cert.AdamwLastRefIdeal.τ).loc Cert.AdamwLastRefIdeal.main_arg21) = m' ((c.tc : Thread Cert.AdamwLastRefIdeal.nD Cert.AdamwLastRefIdeal.τ).loc Cert.AdamwLastRefIdeal.main_arg21)
          ∧ r.2.mem ((c.tc : Thread Cert.AdamwLastRefIdeal.nD Cert.AdamwLastRefIdeal.τ).loc Cert.AdamwLastRefIdeal.main_arg22) = m' ((c.tc : Thread Cert.AdamwLastRefIdeal.nD Cert.AdamwLastRefIdeal.τ).loc Cert.AdamwLastRefIdeal.main_arg22)
          ∧ r.2.mem ((c.tc : Thread Cert.AdamwLastRefIdeal.nD Cert.AdamwLastRefIdeal.τ).loc Cert.AdamwLastRefIdeal.main_arg23) = m' ((c.tc : Thread Cert.AdamwLastRefIdeal.nD Cert.AdamwLastRefIdeal.τ).loc Cert.AdamwLastRefIdeal.main_arg23)
          ∧ r.2.mem ((c.tc : Thread Cert.AdamwLastRefIdeal.nD Cert.AdamwLastRefIdeal.τ).loc Cert.AdamwLastRefIdeal.main_arg24) = m' ((c.tc : Thread Cert.AdamwLastRefIdeal.nD Cert.AdamwLastRefIdeal.τ).loc Cert.AdamwLastRefIdeal.main_arg24)
          ∧ r.2.mem ((c.tc : Thread Cert.AdamwLastRefIdeal.nD Cert.AdamwLastRefIdeal.τ).loc Cert.AdamwLastRefIdeal.main_arg25) = m' ((c.tc : Thread Cert.AdamwLastRefIdeal.nD Cert.AdamwLastRefIdeal.τ).loc Cert.AdamwLastRefIdeal.main_arg25)
          ∧ r.2.mem ((c.tc : Thread Cert.AdamwLastRefIdeal.nD Cert.AdamwLastRefIdeal.τ).loc Cert.AdamwLastRefIdeal.main_arg26) = m' ((c.tc : Thread Cert.AdamwLastRefIdeal.nD Cert.AdamwLastRefIdeal.τ).loc Cert.AdamwLastRefIdeal.main_arg26)
          ∧ r.2.mem ((c.tc : Thread Cert.AdamwLastRefIdeal.nD Cert.AdamwLastRefIdeal.τ).loc Cert.AdamwLastRefIdeal.main_arg27) = m' ((c.tc : Thread Cert.AdamwLastRefIdeal.nD Cert.AdamwLastRefIdeal.τ).loc Cert.AdamwLastRefIdeal.main_arg27)
          ∧ r.2.mem ((c.tc : Thread Cert.AdamwLastRefIdeal.nD Cert.AdamwLastRefIdeal.τ).loc Cert.AdamwLastRefIdeal.main_arg28) = m' ((c.tc : Thread Cert.AdamwLastRefIdeal.nD Cert.AdamwLastRefIdeal.τ).loc Cert.AdamwLastRefIdeal.main_arg28)
          ∧ r.2.mem ((c.tc : Thread Cert.AdamwLastRefIdeal.nD Cert.AdamwLastRefIdeal.τ).loc Cert.AdamwLastRefIdeal.main_arg29) = m' ((c.tc : Thread Cert.AdamwLastRefIdeal.nD Cert.AdamwLastRefIdeal.τ).loc Cert.AdamwLastRefIdeal.main_arg29)
          ∧ r.2.mem ((c.tc : Thread Cert.AdamwLastRefIdeal.nD Cert.AdamwLastRefIdeal.τ).loc Cert.AdamwLastRefIdeal.main_arg30) = m' ((c.tc : Thread Cert.AdamwLastRefIdeal.nD Cert.AdamwLastRefIdeal.τ).loc Cert.AdamwLastRefIdeal.main_arg30)
          ∧ r.2.mem ((c.tc : Thread Cert.AdamwLastRefIdeal.nD Cert.AdamwLastRefIdeal.τ).loc Cert.AdamwLastRefIdeal.main_arg31) = m' ((c.tc : Thread Cert.AdamwLastRefIdeal.nD Cert.AdamwLastRefIdeal.τ).loc Cert.AdamwLastRefIdeal.main_arg31)
          ∧ r.2.mem ((c.tc : Thread Cert.AdamwLastRefIdeal.nD Cert.AdamwLastRefIdeal.τ).loc Cert.AdamwLastRefIdeal.main_arg32) = m' ((c.tc : Thread Cert.AdamwLastRefIdeal.nD Cert.AdamwLastRefIdeal.τ).loc Cert.AdamwLastRefIdeal.main_arg32)
          ∧ r.2.mem ((c.tc : Thread Cert.AdamwLastRefIdeal.nD Cert.AdamwLastRefIdeal.τ).loc Cert.AdamwLastRefIdeal.main_arg33) = m' ((c.tc : Thread Cert.AdamwLastRefIdeal.nD Cert.AdamwLastRefIdeal.τ).loc Cert.AdamwLastRefIdeal.main_arg33)
          ∧ r.2.mem ((c.tc : Thread Cert.AdamwLastRefIdeal.nD Cert.AdamwLastRefIdeal.τ).loc Cert.AdamwLastRefIdeal.main_arg34) = m' ((c.tc : Thread Cert.AdamwLastRefIdeal.nD Cert.AdamwLastRefIdeal.τ).loc Cert.AdamwLastRefIdeal.main_arg34)
          ∧ r.2.mem ((c.tc : Thread Cert.AdamwLastRefIdeal.nD Cert.AdamwLastRefIdeal.τ).loc Cert.AdamwLastRefIdeal.main_arg35) = m' ((c.tc : Thread Cert.AdamwLastRefIdeal.nD Cert.AdamwLastRefIdeal.τ).loc Cert.AdamwLastRefIdeal.main_arg35)
          ∧ r.2.mem ((c.tc : Thread Cert.AdamwLastRefIdeal.nD Cert.AdamwLastRefIdeal.τ).loc Cert.AdamwLastRefIdeal.main_arg36) = m' ((c.tc : Thread Cert.AdamwLastRefIdeal.nD Cert.AdamwLastRefIdeal.τ).loc Cert.AdamwLastRefIdeal.main_arg36)
          ∧ r.2.mem ((c.tc : Thread Cert.AdamwLastRefIdeal.nD Cert.AdamwLastRefIdeal.τ).loc Cert.AdamwLastRefIdeal.main_arg37) = m' ((c.tc : Thread Cert.AdamwLastRefIdeal.nD Cert.AdamwLastRefIdeal.τ).loc Cert.AdamwLastRefIdeal.main_arg37)
          ∧ r.2.mem ((c.tc : Thread Cert.AdamwLastRefIdeal.nD Cert.AdamwLastRefIdeal.τ).loc Cert.AdamwLastRefIdeal.main_arg38) = m' ((c.tc : Thread Cert.AdamwLastRefIdeal.nD Cert.AdamwLastRefIdeal.τ).loc Cert.AdamwLastRefIdeal.main_arg38)
          ∧ r.2.mem ((c.tc : Thread Cert.AdamwLastRefIdeal.nD Cert.AdamwLastRefIdeal.τ).loc Cert.AdamwLastRefIdeal.main_arg39) = m' ((c.tc : Thread Cert.AdamwLastRefIdeal.nD Cert.AdamwLastRefIdeal.τ).loc Cert.AdamwLastRefIdeal.main_arg39)
          ∧ r.2.mem ((c.tc : Thread Cert.AdamwLastRefIdeal.nD Cert.AdamwLastRefIdeal.τ).loc Cert.AdamwLastRefIdeal.main_arg40) = m' ((c.tc : Thread Cert.AdamwLastRefIdeal.nD Cert.AdamwLastRefIdeal.τ).loc Cert.AdamwLastRefIdeal.main_arg40)
          ∧ r.2.mem ((c.tc : Thread Cert.AdamwLastRefIdeal.nD Cert.AdamwLastRefIdeal.τ).loc Cert.AdamwLastRefIdeal.main_arg41) = m' ((c.tc : Thread Cert.AdamwLastRefIdeal.nD Cert.AdamwLastRefIdeal.τ).loc Cert.AdamwLastRefIdeal.main_arg41)
          ∧ r.2.mem ((c.tc : Thread Cert.AdamwLastRefIdeal.nD Cert.AdamwLastRefIdeal.τ).loc Cert.AdamwLastRefIdeal.main_arg42) = m' ((c.tc : Thread Cert.AdamwLastRefIdeal.nD Cert.AdamwLastRefIdeal.τ).loc Cert.AdamwLastRefIdeal.main_arg42)
          ∧ r.2.mem ((c.tc : Thread Cert.AdamwLastRefIdeal.nD Cert.AdamwLastRefIdeal.τ).loc Cert.AdamwLastRefIdeal.main_arg43) = m' ((c.tc : Thread Cert.AdamwLastRefIdeal.nD Cert.AdamwLastRefIdeal.τ).loc Cert.AdamwLastRefIdeal.main_arg43)
          ∧ r.2.mem ((c.tc : Thread Cert.AdamwLastRefIdeal.nD Cert.AdamwLastRefIdeal.τ).loc Cert.AdamwLastRefIdeal.main_arg44) = m' ((c.tc : Thread Cert.AdamwLastRefIdeal.nD Cert.AdamwLastRefIdeal.τ).loc Cert.AdamwLastRefIdeal.main_arg44)
          ∧ r.2.mem ((c.tc : Thread Cert.AdamwLastRefIdeal.nD Cert.AdamwLastRefIdeal.τ).loc Cert.AdamwLastRefIdeal.main_arg45) = m' ((c.tc : Thread Cert.AdamwLastRefIdeal.nD Cert.AdamwLastRefIdeal.τ).loc Cert.AdamwLastRefIdeal.main_arg45)
          ∧ r.2.mem ((c.tc : Thread Cert.AdamwLastRefIdeal.nD Cert.AdamwLastRefIdeal.τ).loc Cert.AdamwLastRefIdeal.main_arg46) = m' ((c.tc : Thread Cert.AdamwLastRefIdeal.nD Cert.AdamwLastRefIdeal.τ).loc Cert.AdamwLastRefIdeal.main_arg46)
          ∧ r.2.mem ((c.tc : Thread Cert.AdamwLastRefIdeal.nD Cert.AdamwLastRefIdeal.τ).loc Cert.AdamwLastRefIdeal.main_arg47) = m' ((c.tc : Thread Cert.AdamwLastRefIdeal.nD Cert.AdamwLastRefIdeal.τ).loc Cert.AdamwLastRefIdeal.main_arg47)
          ∧ r.2.mem ((c.tc : Thread Cert.AdamwLastRefIdeal.nD Cert.AdamwLastRefIdeal.τ).loc Cert.AdamwLastRefIdeal.main_arg48) = m' ((c.tc : Thread Cert.AdamwLastRefIdeal.nD Cert.AdamwLastRefIdeal.τ).loc Cert.AdamwLastRefIdeal.main_arg48)
          ∧ r.2.mem ((c.tc : Thread Cert.AdamwLastRefIdeal.nD Cert.AdamwLastRefIdeal.τ).loc Cert.AdamwLastRefIdeal.main_arg49) = m' ((c.tc : Thread Cert.AdamwLastRefIdeal.nD Cert.AdamwLastRefIdeal.τ).loc Cert.AdamwLastRefIdeal.main_arg49)
          ∧ r.2.mem ((c.tc : Thread Cert.AdamwLastRefIdeal.nD Cert.AdamwLastRefIdeal.τ).loc Cert.AdamwLastRefIdeal.main_arg50) = m' ((c.tc : Thread Cert.AdamwLastRefIdeal.nD Cert.AdamwLastRefIdeal.τ).loc Cert.AdamwLastRefIdeal.main_arg50)
          ∧ r.2.mem ((c.tc : Thread Cert.AdamwLastRefIdeal.nD Cert.AdamwLastRefIdeal.τ).loc Cert.AdamwLastRefIdeal.main_arg51) = m' ((c.tc : Thread Cert.AdamwLastRefIdeal.nD Cert.AdamwLastRefIdeal.τ).loc Cert.AdamwLastRefIdeal.main_arg51)
          ∧ r.2.mem ((c.tc : Thread Cert.AdamwLastRefIdeal.nD Cert.AdamwLastRefIdeal.τ).loc Cert.AdamwLastRefIdeal.main_arg52) = m' ((c.tc : Thread Cert.AdamwLastRefIdeal.nD Cert.AdamwLastRefIdeal.τ).loc Cert.AdamwLastRefIdeal.main_arg52)
          ∧ r.2.mem ((c.tc : Thread Cert.AdamwLastRefIdeal.nD Cert.AdamwLastRefIdeal.τ).loc Cert.AdamwLastRefIdeal.main_arg53) = m' ((c.tc : Thread Cert.AdamwLastRefIdeal.nD Cert.AdamwLastRefIdeal.τ).loc Cert.AdamwLastRefIdeal.main_arg53)
          ∧ r.2.mem ((c.tc : Thread Cert.AdamwLastRefIdeal.nD Cert.AdamwLastRefIdeal.τ).loc Cert.AdamwLastRefIdeal.main_arg54) = m' ((c.tc : Thread Cert.AdamwLastRefIdeal.nD Cert.AdamwLastRefIdeal.τ).loc Cert.AdamwLastRefIdeal.main_arg54)
          ∧ r.2.mem ((c.tc : Thread Cert.AdamwLastRefIdeal.nD Cert.AdamwLastRefIdeal.τ).loc Cert.AdamwLastRefIdeal.main_arg55) = m' ((c.tc : Thread Cert.AdamwLastRefIdeal.nD Cert.AdamwLastRefIdeal.τ).loc Cert.AdamwLastRefIdeal.main_arg55)
          ∧ r.2.mem ((c.tc : Thread Cert.AdamwLastRefIdeal.nD Cert.AdamwLastRefIdeal.τ).loc Cert.AdamwLastRefIdeal.main_arg56) = m' ((c.tc : Thread Cert.AdamwLastRefIdeal.nD Cert.AdamwLastRefIdeal.τ).loc Cert.AdamwLastRefIdeal.main_arg56)
          ∧ r.2.mem ((c.tc : Thread Cert.AdamwLastRefIdeal.nD Cert.AdamwLastRefIdeal.τ).loc Cert.AdamwLastRefIdeal.main_arg57) = m' ((c.tc : Thread Cert.AdamwLastRefIdeal.nD Cert.AdamwLastRefIdeal.τ).loc Cert.AdamwLastRefIdeal.main_arg57)
          ∧ r.2.mem ((c.tc : Thread Cert.AdamwLastRefIdeal.nD Cert.AdamwLastRefIdeal.τ).loc Cert.AdamwLastRefIdeal.main_arg58) = m' ((c.tc : Thread Cert.AdamwLastRefIdeal.nD Cert.AdamwLastRefIdeal.τ).loc Cert.AdamwLastRefIdeal.main_arg58)
          ∧ r.2.mem ((c.tc : Thread Cert.AdamwLastRefIdeal.nD Cert.AdamwLastRefIdeal.τ).loc Cert.AdamwLastRefIdeal.main_arg59) = m' ((c.tc : Thread Cert.AdamwLastRefIdeal.nD Cert.AdamwLastRefIdeal.τ).loc Cert.AdamwLastRefIdeal.main_arg59))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hGradWin : Cert.GradWin.Facts) (hGradWinIdeal : Cert.GradWinIdeal.Facts) (hGradWinRefIdeal : Cert.GradWinRefIdeal.Facts) (hGradWout : Cert.GradWout.Facts) (hGradWoutIdeal : Cert.GradWoutIdeal.Facts) (hGradWoutRefIdeal : Cert.GradWoutRefIdeal.Facts) (hMixer : Cert.Mixer.Facts) (hMixerIdeal : Cert.MixerIdeal.Facts) (hMixIn : Cert.MixIn.Facts) (hMixInIdeal : Cert.MixInIdeal.Facts) (hMixInRefIdeal : Cert.MixInRefIdeal.Facts) (hUpIn : Cert.UpIn.Facts) (hUpInIdeal : Cert.UpInIdeal.Facts) (hUpInRefIdeal : Cert.UpInRefIdeal.Facts) (hUpOut : Cert.UpOut.Facts) (hUpOutIdeal : Cert.UpOutIdeal.Facts) (hUpOutRefIdeal : Cert.UpOutRefIdeal.Facts) (hUpSquare : Cert.UpSquare.Facts) (hUpSquareIdeal : Cert.UpSquareIdeal.Facts) (hUpSquareRefIdeal : Cert.UpSquareRefIdeal.Facts) (hUpCol : Cert.UpCol.Facts) (hUpColIdeal : Cert.UpColIdeal.Facts) (hUpColRefIdeal : Cert.UpColRefIdeal.Facts) (hAdamwIdeal : Cert.AdamwIdeal.Facts) (hAdamwRefIdeal : Cert.AdamwRefIdeal.Facts) (hAdamwLastIdeal : Cert.AdamwLastIdeal.Facts) (hAdamwLastRefIdeal : Cert.AdamwLastRefIdeal.Facts) (hPre_finite : Cert.Pre_finite.Facts) (hPre_on_mesh_in : Cert.Pre_on_mesh_in.Facts) (hPre_on_mesh_out : Cert.Pre_on_mesh_out.Facts) (hPre_on_mesh_square : Cert.Pre_on_mesh_square.Facts) (hPre_on_mesh_col : Cert.Pre_on_mesh_col.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdRefIdeal (hFwdRefIdeal := hFwdRefIdeal)
    ∧ quiescent_GradWin (hGradWin := hGradWin)
    ∧ quiescent_GradWinIdeal (hGradWinIdeal := hGradWinIdeal)
    ∧ quiescent_GradWinRefIdeal (hGradWinRefIdeal := hGradWinRefIdeal)
    ∧ quiescent_GradWout (hGradWout := hGradWout)
    ∧ quiescent_GradWoutIdeal (hGradWoutIdeal := hGradWoutIdeal)
    ∧ quiescent_GradWoutRefIdeal (hGradWoutRefIdeal := hGradWoutRefIdeal)
    ∧ quiescent_Mixer (hMixer := hMixer)
    ∧ quiescent_MixerIdeal (hMixerIdeal := hMixerIdeal)
    ∧ quiescent_MixIn (hMixIn := hMixIn)
    ∧ quiescent_MixInIdeal (hMixInIdeal := hMixInIdeal)
    ∧ quiescent_MixInRefIdeal (hMixInRefIdeal := hMixInRefIdeal)
    ∧ quiescent_UpIn (hUpIn := hUpIn) (hPre_on_mesh_in := hPre_on_mesh_in)
    ∧ quiescent_UpInIdeal (hUpInIdeal := hUpInIdeal) (hPre_on_mesh_in := hPre_on_mesh_in)
    ∧ quiescent_UpInRefIdeal (hUpInRefIdeal := hUpInRefIdeal)
    ∧ quiescent_UpInRefIdeal_pre_on_mesh_in (hUpInRefIdeal := hUpInRefIdeal) (hPre_on_mesh_in := hPre_on_mesh_in)
    ∧ quiescent_UpOut (hUpOut := hUpOut) (hPre_on_mesh_out := hPre_on_mesh_out)
    ∧ quiescent_UpOutIdeal (hUpOutIdeal := hUpOutIdeal) (hPre_on_mesh_out := hPre_on_mesh_out)
    ∧ quiescent_UpOutRefIdeal (hUpOutRefIdeal := hUpOutRefIdeal)
    ∧ quiescent_UpOutRefIdeal_pre_on_mesh_out (hUpOutRefIdeal := hUpOutRefIdeal) (hPre_on_mesh_out := hPre_on_mesh_out)
    ∧ quiescent_UpSquare (hUpSquare := hUpSquare) (hPre_on_mesh_square := hPre_on_mesh_square)
    ∧ quiescent_UpSquareIdeal (hUpSquareIdeal := hUpSquareIdeal) (hPre_on_mesh_square := hPre_on_mesh_square)
    ∧ quiescent_UpSquareRefIdeal (hUpSquareRefIdeal := hUpSquareRefIdeal)
    ∧ quiescent_UpSquareRefIdeal_pre_on_mesh_square (hUpSquareRefIdeal := hUpSquareRefIdeal) (hPre_on_mesh_square := hPre_on_mesh_square)
    ∧ quiescent_UpCol (hUpCol := hUpCol) (hPre_on_mesh_col := hPre_on_mesh_col)
    ∧ quiescent_UpColIdeal (hUpColIdeal := hUpColIdeal) (hPre_on_mesh_col := hPre_on_mesh_col)
    ∧ quiescent_UpColRefIdeal (hUpColRefIdeal := hUpColRefIdeal)
    ∧ quiescent_UpColRefIdeal_pre_on_mesh_col (hUpColRefIdeal := hUpColRefIdeal) (hPre_on_mesh_col := hPre_on_mesh_col)
    ∧ quiescent_AdamwIdeal (hAdamwIdeal := hAdamwIdeal)
    ∧ quiescent_AdamwRefIdeal (hAdamwRefIdeal := hAdamwRefIdeal)
    ∧ quiescent_AdamwLastIdeal (hAdamwLastIdeal := hAdamwLastIdeal)
    ∧ quiescent_AdamwLastRefIdeal (hAdamwLastRefIdeal := hAdamwLastRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdRefIdeal (hFwdIdeal := hFwdIdeal) (hFwdRefIdeal := hFwdRefIdeal)
    ∧ preserves_GradWin_GradWinIdeal
    ∧ algebraic_GradWinIdeal_GradWinRefIdeal (hGradWinIdeal := hGradWinIdeal) (hGradWinRefIdeal := hGradWinRefIdeal)
    ∧ preserves_GradWout_GradWoutIdeal
    ∧ algebraic_GradWoutIdeal_GradWoutRefIdeal (hGradWoutIdeal := hGradWoutIdeal) (hGradWoutRefIdeal := hGradWoutRefIdeal)
    ∧ preserves_Mixer_MixerIdeal
    ∧ preserves_MixIn_MixInIdeal
    ∧ algebraic_MixInIdeal_MixInRefIdeal (hMixInIdeal := hMixInIdeal) (hMixInRefIdeal := hMixInRefIdeal)
    ∧ preserves_UpIn_UpInIdeal
    ∧ algebraic_UpInIdeal_UpInRefIdeal (hUpInIdeal := hUpInIdeal) (hUpInRefIdeal := hUpInRefIdeal) (hPre_on_mesh_in := hPre_on_mesh_in)
    ∧ preserves_UpOut_UpOutIdeal
    ∧ algebraic_UpOutIdeal_UpOutRefIdeal (hUpOutIdeal := hUpOutIdeal) (hUpOutRefIdeal := hUpOutRefIdeal) (hPre_on_mesh_out := hPre_on_mesh_out)
    ∧ preserves_UpSquare_UpSquareIdeal
    ∧ algebraic_UpSquareIdeal_UpSquareRefIdeal (hUpSquareIdeal := hUpSquareIdeal) (hUpSquareRefIdeal := hUpSquareRefIdeal) (hPre_on_mesh_square := hPre_on_mesh_square)
    ∧ preserves_UpCol_UpColIdeal
    ∧ algebraic_UpColIdeal_UpColRefIdeal (hUpColIdeal := hUpColIdeal) (hUpColRefIdeal := hUpColRefIdeal) (hPre_on_mesh_col := hPre_on_mesh_col)
    ∧ algebraic_AdamwIdeal_AdamwRefIdeal (hAdamwIdeal := hAdamwIdeal) (hAdamwRefIdeal := hAdamwRefIdeal)
    ∧ algebraic_AdamwLastIdeal_AdamwLastRefIdeal (hAdamwLastIdeal := hAdamwLastIdeal) (hAdamwLastRefIdeal := hAdamwLastRefIdeal)
-- ==== Pre_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024x5632 .f32) (main_arg4 : FVec F S2816x1024 .f32) : IVec S4096x1024 1 × IVec S1024 1 × IVec S1024x5632 1 × IVec S2816x1024 1 :=
  let main_v0 : FVec F S4096x1024 .f32 := subf main_arg1 main_arg1
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S1024 .f32 := subf main_arg2 main_arg2
  let main_cst_0 : FVec F S_ .f32 := constant S_ .f32 0x00000000#32
  let main_v4 : FVec F S1024 .f32 := broadcastInDim S1024 ![] bcast_S_S1024 main_cst_0
  let main_v5 : IVec S1024 1 := cmpf .oeq main_v3 main_v4
  let main_v6 : FVec F S1024x5632 .f32 := subf main_arg3 main_arg3
  let main_cst_1 : FVec F S_ .f32 := constant S_ .f32 0x00000000#32
  let main_v7 : FVec F S1024x5632 .f32 := broadcastInDim S1024x5632 ![] bcast_S_S1024x5632 main_cst_1
  let main_v8 : IVec S1024x5632 1 := cmpf .oeq main_v6 main_v7
  let main_v9 : FVec F S2816x1024 .f32 := subf main_arg4 main_arg4
  let main_cst_2 : FVec F S_ .f32 := constant S_ .f32 0x00000000#32
  let main_v10 : FVec F S2816x1024 .f32 := broadcastInDim S2816x1024 ![] bcast_S_S2816x1024 main_cst_2
  let main_v11 : IVec S2816x1024 1 := cmpf .oeq main_v9 main_v10
  (main_v2, main_v5, main_v8, main_v11)
-- ==== Pre_on_mesh_col.lean ====
abbrev S8x1024x256 : Shape := ⟨3, ![8, 1024, 256]⟩
abbrev S7x1024x256 : Shape := ⟨3, ![7, 1024, 256]⟩
abbrev S2x1024x256 : Shape := ⟨3, ![2, 1024, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x256 .bf16) (main_arg1 : FVec F S8x1024x256 .bf16) (main_arg2 : FVec F S7x1024x256 .bf16) (main_arg3 : FVec F S7x1024x256 .bf16) (main_arg4 : FVec F S2x1024x256 .f32) (main_arg5 : FVec F S2x1024x256 .f32) (main_arg6 : FVec F S2x1024x256 .f32) (main_arg7 : IVec S1 32) : IVec S1 1 :=
  let main_c : IVec S_ 32 := constantI S_ 32 0#32
  let main_v0 : IVec S1 32 := broadcastInDim S1 ![] bcast_S_S1 main_c
  let main_v1 : IVec S1 1 := cmpi .sge main_arg7 main_v0
  let main_c_0 : IVec S_ 32 := constantI S_ 32 8#32
  let main_v2 : IVec S1 32 := broadcastInDim S1 ![] bcast_S_S1 main_c_0
  let main_v3 : IVec S1 1 := cmpi .slt main_arg7 main_v2
  let main_v4 : IVec S1 1 := andi main_v1 main_v3
  main_v4
-- ==== Pre_on_mesh_in.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x704x1024 .bf16) (main_arg1 : FVec F S8x704x1024 .bf16) (main_arg2 : FVec F S7x704x1024 .bf16) (main_arg3 : FVec F S7x704x1024 .bf16) (main_arg4 : FVec F S2x704x1024 .f32) (main_arg5 : FVec F S2x704x1024 .f32) (main_arg6 : FVec F S2x704x1024 .f32) (main_arg7 : IVec S1 32) : IVec S1 1 :=
  let main_c : IVec S_ 32 := constantI S_ 32 0#32
  let main_v0 : IVec S1 32 := broadcastInDim S1 ![] bcast_S_S1 main_c
  let main_v1 : IVec S1 1 := cmpi .sge main_arg7 main_v0
  let main_c_0 : IVec S_ 32 := constantI S_ 32 8#32
  let main_v2 : IVec S1 32 := broadcastInDim S1 ![] bcast_S_S1 main_c_0
  let main_v3 : IVec S1 1 := cmpi .slt main_arg7 main_v2
  let main_v4 : IVec S1 1 := andi main_v1 main_v3
  main_v4
-- ==== Pre_on_mesh_out.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x352x1024 .bf16) (main_arg1 : FVec F S8x352x1024 .bf16) (main_arg2 : FVec F S7x352x1024 .bf16) (main_arg3 : FVec F S7x352x1024 .bf16) (main_arg4 : FVec F S2x352x1024 .f32) (main_arg5 : FVec F S2x352x1024 .f32) (main_arg6 : FVec F S2x352x1024 .f32) (main_arg7 : IVec S1 32) : IVec S1 1 :=
  let main_c : IVec S_ 32 := constantI S_ 32 0#32
  let main_v0 : IVec S1 32 := broadcastInDim S1 ![] bcast_S_S1 main_c
  let main_v1 : IVec S1 1 := cmpi .sge main_arg7 main_v0
  let main_c_0 : IVec S_ 32 := constantI S_ 32 8#32
  let main_v2 : IVec S1 32 := broadcastInDim S1 ![] bcast_S_S1 main_c_0
  let main_v3 : IVec S1 1 := cmpi .slt main_arg7 main_v2
  let main_v4 : IVec S1 1 := andi main_v1 main_v3
  main_v4
-- ==== Pre_on_mesh_square.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S8x128x1024 .bf16) (main_arg2 : FVec F S7x128x1024 .bf16) (main_arg3 : FVec F S7x128x1024 .bf16) (main_arg4 : FVec F S2x128x1024 .f32) (main_arg5 : FVec F S2x128x1024 .f32) (main_arg6 : FVec F S2x128x1024 .f32) (main_arg7 : IVec S1 32) : IVec S1 1 :=
  let main_c : IVec S_ 32 := constantI S_ 32 0#32
  let main_v0 : IVec S1 32 := broadcastInDim S1 ![] bcast_S_S1 main_c
  let main_v1 : IVec S1 1 := cmpi .sge main_arg7 main_v0
  let main_c_0 : IVec S_ 32 := constantI S_ 32 8#32
  let main_v2 : IVec S1 32 := broadcastInDim S1 ![] bcast_S_S1 main_c_0
  let main_v3 : IVec S1 1 := cmpi .slt main_arg7 main_v2
  let main_v4 : IVec S1 1 := andi main_v1 main_v3
  main_v4
-- ==== Kernel.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S2x4x704x1024 : Shape := ⟨4, ![2, 4, 704, 1024]⟩
abbrev S4x2x352x1024 : Shape := ⟨4, ![4, 2, 352, 1024]⟩
abbrev S4x4096x704 : Shape := ⟨3, ![4, 4096, 704]⟩
abbrev S512x1024 : Shape := ⟨2, ![512, 1024]⟩
abbrev S2x1x512x704 : Shape := ⟨4, ![2, 1, 512, 704]⟩
abbrev S2x1x704x1024 : Shape := ⟨4, ![2, 1, 704, 1024]⟩
abbrev S1x2x352x1024 : Shape := ⟨4, ![1, 2, 352, 1024]⟩
abbrev S1x512x704 : Shape := ⟨3, ![1, 512, 704]⟩
abbrev S512 : Shape := ⟨1, ![512]⟩
abbrev S512x1 : Shape := ⟨2, ![512, 1]⟩
abbrev S2x352x1024 : Shape := ⟨3, ![2, 352, 1024]⟩
abbrev S704x1024 : Shape := ⟨2, ![704, 1024]⟩
abbrev S256x1024 : Shape := ⟨2, ![256, 1024]⟩
abbrev S256x704 : Shape := ⟨2, ![256, 704]⟩
abbrev S1x1x256x704 : Shape := ⟨4, ![1, 1, 256, 704]⟩
abbrev S1x256x704 : Shape := ⟨3, ![1, 256, 704]⟩
abbrev S1x1x704x1024 : Shape := ⟨4, ![1, 1, 704, 1024]⟩

abbrev nBuf : Space → Nat
  | .hbm => 40
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S2816x1024, .bf16⟩
  | .hbm, ⟨9, _⟩ => ⟨S8x352x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .bf16⟩
  | .hbm, ⟨28, _⟩ => ⟨S4096x2x4x704, .bf16⟩
  | .hbm, ⟨29, _⟩ => ⟨S2x4x4096x704, .bf16⟩
  | .hbm, ⟨30, _⟩ => ⟨S2x4x704x1024, .bf16⟩
  | .hbm, ⟨31, _⟩ => ⟨S4x2x352x1024, .bf16⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S4x4096x704, .bf16⟩
  | .hbm, ⟨36, _⟩ => ⟨S2x4x4096x704, .bf16⟩
  | .hbm, ⟨37, _⟩ => ⟨S1x1024, .f32⟩
  | .hbm, ⟨38, _⟩ => ⟨S4096x1024, .bf16⟩
  | .hbm, ⟨39, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1x512x704, .bf16⟩
  | .local _ .vmem, ⟨5, _⟩ => ⟨S2x1x512x704, .bf16⟩
  | .local _ .vmem, ⟨6, _⟩ => ⟨S1x1024, .f32⟩
  | .local _ .vmem, ⟨7, _⟩ => ⟨S2x1x704x1024, .bf16⟩
  | .local _ .vmem, ⟨8, _⟩ => ⟨S2x1x704x1024, .bf16⟩
  | .local _ .vmem, ⟨9, _⟩ => ⟨S1x2x352x1024, .bf16⟩
  | .local _ .vmem, ⟨10, _⟩ => ⟨S1x2x352x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x512x704, .bf16⟩
  | .local _ .vmem, ⟨16, _⟩ => ⟨S1x512x704, .bf16⟩
  | .local _ .vmem, ⟨17, _⟩ => ⟨S2x1x512x704, .bf16⟩
  | .local _ .vmem, ⟨18, _⟩ => ⟨S2x1x512x704, .bf16⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v108 : BitVec 1 := Scalar.cmpi .eq arg1 c3_i32
  let v109 : BitVec 32 := Scalar.extui v108
  let c0_i32_83 : BitVec 32 := 0#32
  let v110 : BitVec 1 := Scalar.cmpi .ne v109 c0_i32_83
  v110

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_104 : BitVec 32 := 0#32
  let v147 : BitVec 1 := Scalar.cmpi .eq arg0 c0_i32_104
  let v148 : BitVec 32 := Scalar.extui v147
  let c0_i32_105 : BitVec 32 := 0#32
  let v149 : BitVec 1 := Scalar.cmpi .ne v148 c0_i32_105
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .bf16⟩
  | .hbm, ⟨82, _⟩ => ⟨S4096x4x704, .f32⟩
  | .hbm, ⟨83, _⟩ => ⟨S4x4096x704, .f32⟩
  | .hbm, ⟨84, _⟩ => ⟨S4x4096x704, .bf16⟩
  | .hbm, ⟨85, _⟩ => ⟨S4096x2x4x704, .f32⟩
  | .hbm, ⟨86, _⟩ => ⟨S2x4x4096x704, .f32⟩
  | .hbm, ⟨87, _⟩ => ⟨S2x4x4096x704, .bf16⟩
  | .hbm, ⟨88, _⟩ => ⟨S1x1024, .f32⟩
  | .hbm, ⟨89, _⟩ => ⟨S4096x1024, .bf16⟩
  | .hbm, ⟨90, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Fwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S2x4x704x1024 : Shape := ⟨4, ![2, 4, 704, 1024]⟩
abbrev S4x2x352x1024 : Shape := ⟨4, ![4, 2, 352, 1024]⟩
abbrev S1x1024 : Shape := ⟨2, ![1, 1024]⟩
abbrev S2x4x4096x704 : Shape := ⟨4, ![2, 4, 4096, 704]⟩
abbrev S1024x1024 : Shape := ⟨2, ![1024, 1024]⟩
abbrev S2x1x704x1024 : Shape := ⟨4, ![2, 1, 704, 1024]⟩
abbrev S1x2x352x1024 : Shape := ⟨4, ![1, 2, 352, 1024]⟩
abbrev S2x1x1024x704 : Shape := ⟨4, ![2, 1, 1024, 704]⟩
abbrev S1024x1 : Shape := ⟨2, ![1024, 1]⟩
abbrev S1x1x704x1024 : Shape := ⟨4, ![1, 1, 704, 1024]⟩
abbrev S704x1024 : Shape := ⟨2, ![704, 1024]⟩
abbrev S1024x704 : Shape := ⟨2, ![1024, 704]⟩
abbrev S1x1x1024x704 : Shape := ⟨4, ![1, 1, 1024, 704]⟩
abbrev S2x352x1024 : Shape := ⟨3, ![2, 352, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S8x704x1024, .bf16⟩
  | .hbm, ⟨7, _⟩ => ⟨S2816x1024, .bf16⟩
  | .hbm, ⟨8, _⟩ => ⟨S8x352x1024, .bf16⟩
  | .hbm, ⟨9, _⟩ => ⟨S2x4x704x1024, .bf16⟩
  | .hbm, ⟨10, _⟩ => ⟨S4x2x352x1024, .bf16⟩
  | .hbm, ⟨11, _⟩ => ⟨S1x1024, .f32⟩
  | .hbm, ⟨12, _⟩ => ⟨S4096x1024, .f32⟩
  | .hbm, ⟨13, _⟩ => ⟨S2x4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1x704x1024, .bf16⟩
  | .local _ .vmem, ⟨4, _⟩ => ⟨S2x1x704x1024, .bf16⟩
  | .local _ .vmem, ⟨5, _⟩ => ⟨S1x2x352x1024, .bf16⟩
  | .local _ .vmem, ⟨6, _⟩ => ⟨S1x2x352x1024, .bf16⟩
  | .local _ .vmem, ⟨7, _⟩ => ⟨S1024x1024, .f32⟩
  | .local _ .vmem, ⟨8, _⟩ => ⟨S1024x1024, .f32⟩
  | .local _ .vmem, ⟨9, _⟩ => ⟨S2x1x1024x704, .bf16⟩
  | .local _ .vmem, ⟨10, _⟩ => ⟨S2x1x1024x704, .bf16⟩
  | .local _ .vmem, ⟨11, _⟩ => ⟨S1024x1024, .bf16⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_30 : BitVec 32 := 0#32
  let v39 : BitVec 1 := Scalar.cmpi .ne v38 c0_i32_30
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x2x4x704, .f32⟩
  | .hbm, ⟨39, _⟩ => ⟨S2x4x4096x704, .f32⟩
  | .hbm, ⟨40, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== GradWin.lean ====
abbrev S4096x1024 : Shape := ⟨2, ![4096, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S8x4096x704 : Shape := ⟨3, ![8, 4096, 704]⟩
abbrev S8x704x1024 : Shape := ⟨3, ![8, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x2x4x704, .bf16⟩
  | .hbm, ⟨3, _⟩ => ⟨S2x4x4096x704, .bf16⟩
  | .hbm, ⟨4, _⟩ => ⟨S8x4096x704, .bf16⟩
  | .hbm, ⟨5, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWinRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradWout.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWoutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mixer.lean ====
abbrev S4096x2048 : Shape := ⟨2, ![4096, 2048]⟩
abbrev S4096x1024 : Shape := ⟨2, ![4096, 1024]⟩
abbrev S1024x1024 : Shape := ⟨2, ![1024, 1024]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S31x256 : Shape := ⟨2, ![31, 256]⟩
abbrev S4x64x64 : Shape := ⟨3, ![4, 64, 64]⟩
abbrev S_ : Shape := ⟨0, ![]⟩
abbrev S8x256 : Shape := ⟨2, ![8, 256]⟩
abbrev S32x256 : Shape := ⟨2, ![32, 256]⟩
abbrev S1x256 : Shape := ⟨2, ![1, 256]⟩
abbrev S128x128 : Shape := ⟨2, ![128, 128]⟩
abbrev S128x4 : Shape := ⟨2, ![128, 4]⟩
abbrev S128x4x64 : Shape := ⟨3, ![128, 4, 64]⟩
abbrev S128x256 : Shape := ⟨2, ![128, 256]⟩
abbrev S4x4 : Shape := ⟨2, ![4, 4]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S8x128x1024 : Shape := ⟨3, ![8, 128, 1024]⟩
abbrev S512x2048 : Shape := ⟨2, ![512, 2048]⟩
abbrev S32x2048 : Shape := ⟨2, ![32, 2048]⟩
abbrev S512x1024 : Shape := ⟨2, ![512, 1024]⟩
abbrev S32x1024 : Shape := ⟨2, ![32, 1024]⟩
abbrev S576x256 : Shape := ⟨2, ![576, 256]⟩
abbrev S8x576x256 : Shape := ⟨3, ![8, 576, 256]⟩
abbrev S512x256 : Shape := ⟨2, ![512, 256]⟩
abbrev S512 : Shape := ⟨1, ![512]⟩
abbrev S512x1 : Shape := ⟨2, ![512, 1]⟩
abbrev S1x128x128 : Shape := ⟨3, ![1, 128, 128]⟩
abbrev S128 : Shape := ⟨1, ![128]⟩
abbrev S128x1 : Shape := ⟨2, ![128, 1]⟩
abbrev S568x256 : Shape := ⟨2, ![568, 256]⟩
abbrev S1x568x256 : Shape := ⟨3, ![1, 568, 256]⟩
abbrev S1x544x256 : Shape := ⟨3, ![1, 544, 256]⟩
abbrev S544x256 : Shape := ⟨2, ![544, 256]⟩
abbrev S544 : Shape := ⟨1, ![544]⟩
abbrev S544x1 : Shape := ⟨2, ![544, 1]⟩
abbrev S536x256 : Shape := ⟨2, ![536, 256]⟩
abbrev S1x536x256 : Shape := ⟨3, ![1, 536, 256]⟩
abbrev S1x512x256 : Shape := ⟨3, ![1, 512, 256]⟩
abbrev S528x256 : Shape := ⟨2, ![528, 256]⟩
abbrev S520x256 : Shape := ⟨2, ![520, 256]⟩

abbrev nBuf : Space → Nat
  | .hbm => 65
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024x1024, .f32⟩
  | .hbm, ⟨3, _⟩ => ⟨S3x256, .f32⟩
  | .hbm, ⟨4, _⟩ => ⟨S256, .f32⟩
  | .hbm, ⟨5, _⟩ => ⟨S4x128x128, .f32⟩
  | .hbm, ⟨6, _⟩ => ⟨S4x128, .f32⟩
  | .hbm, ⟨7, _⟩ => ⟨S31x256, .f32⟩
  | .hbm, ⟨8, _⟩ => ⟨S256, .f32⟩
  | .hbm, ⟨9, _⟩ => ⟨S256, .f32⟩
  | .hbm, ⟨10, _⟩ => ⟨S4x64x64, .f32⟩
  | .hbm, ⟨11, _⟩ => ⟨S256, .f32⟩
  | .hbm, ⟨12, _⟩ => ⟨S_, .i32⟩
  | .hbm, ⟨13, _⟩ => ⟨S_, .f32⟩
  | .hbm, ⟨14, _⟩ => ⟨S8x256, .f32⟩
  | .hbm, ⟨15, _⟩ => ⟨S_, .i32⟩
  | .hbm, ⟨16, _⟩ => ⟨S_, .f32⟩
  | .hbm, ⟨17, _⟩ => ⟨S32x256, .f32⟩
  | .hbm, ⟨18, _⟩ => ⟨S_, .f32⟩
  | .hbm, ⟨19, _⟩ => ⟨S256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S8x256, .f32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S4x128x128, .i1⟩
  | .hbm, ⟨36, _⟩ => ⟨S_, .f32⟩
  | .hbm, ⟨37, _⟩ => ⟨S4x128x128, .f32⟩
  | .hbm, ⟨38, _⟩ => ⟨S4x128x128, .f32⟩
  | .hbm, ⟨39, _⟩ => ⟨S4x128x128, .bf16⟩
  | .hbm, ⟨40, _⟩ => ⟨S128x4, .f32⟩
  | .hbm, ⟨41, _⟩ => ⟨S128x4x64, .f32⟩
  | .hbm, ⟨42, _⟩ => ⟨S128x256, .f32⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S4x64x1x64, .f32⟩
  | .hbm, ⟨51, _⟩ => ⟨S4x1x4x1, .f32⟩
  | .hbm, ⟨52, _⟩ => ⟨S4x64x4x64, .f32⟩
  | .hbm, ⟨53, _⟩ => ⟨S4x64x4x64, .f32⟩
  | .hbm, ⟨54, _⟩ => ⟨S4x64x4x64, .f32⟩
  | .hbm, ⟨55, _⟩ => ⟨S256x256, .f32⟩
  | .hbm, ⟨56, _⟩ => ⟨S256x256, .bf16⟩
  | .hbm, ⟨57, _⟩ => ⟨S1024x1024, .bf16⟩
  | .hbm, ⟨58, _⟩ => ⟨S8x128x1024, .bf16⟩
  | .hbm, ⟨59, _⟩ => ⟨S4096x2048, .bf16⟩
  | .hbm, ⟨60, _⟩ => ⟨S8x256, .f32⟩
  | .hbm, ⟨61, _⟩ => ⟨S32x256, .f32⟩
  | .hbm, ⟨62, _⟩ => ⟨S4x128x128, .f32⟩
  | .hbm, ⟨63, _⟩ => ⟨S128x128, .f32⟩
  | .hbm, ⟨64, _⟩ => ⟨S256x256, .f32⟩
  | .local _ .vmem, ⟨0, _⟩ => ⟨S512x2048, .f32⟩
  | .local _ .vmem, ⟨1, _⟩ => ⟨S512x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S512x1024, .f32⟩
  | .local _ .vmem, ⟨7, _⟩ => ⟨S512x1024, .f32⟩
  | .local _ .vmem, ⟨8, _⟩ => ⟨S32x1024, .f32⟩
  | .local _ .vmem, ⟨9, _⟩ => ⟨S32x1024, .f32⟩
  | .local _ .vmem, ⟨10, _⟩ => ⟨S8x128x1024, .bf16⟩
  | .local _ .vmem, ⟨11, _⟩ => ⟨S8x256, .f32⟩
  | .local _ .vmem, ⟨12, _⟩ => ⟨S32x256, .f32⟩
  | .local _ .vmem, ⟨13, _⟩ => ⟨S8x256, .f32⟩
  | .local _ .vmem, ⟨14, _⟩ => ⟨S4x128x128, .bf16⟩
  | .local _ .vmem, ⟨15, _⟩ => ⟨S128x256, .f32⟩
  | .local _ .vmem, ⟨16, _⟩ => ⟨S256x256, .bf16⟩
  | .local _ .vmem, ⟨17, _⟩ => ⟨S512x2048, .bf16⟩
  | .local _ .vmem, ⟨18, _⟩ => ⟨S512x2048, .bf16⟩
  | .local _ .vmem, ⟨19, _⟩ => ⟨S8x256, .f32⟩
  | .local _ .vmem, ⟨20, _⟩ => ⟨S32x256, .f32⟩
  | .local _ .vmem, ⟨21, _⟩ => ⟨S4x128x128, .f32⟩
  | .local _ .vmem, ⟨22, _⟩ => ⟨S128x128, .f32⟩
  | .local _ .vmem, ⟨23, _⟩ => ⟨S256x256, .f32⟩
  | .local _ .vmem, ⟨24, _⟩ => ⟨S576x256, .f32⟩
  | .local _ .vmem, ⟨25, _⟩ => ⟨S576x256, .f32⟩
  | .local _ .vmem, ⟨26, _⟩ => ⟨S576x256, .f32⟩
  | .local _ .vmem, ⟨27, _⟩ => ⟨S8x576x256, .f32⟩
  | .local _ .vmem, ⟨28, _⟩ => ⟨S8x576x256, .f32⟩
  | .local _ .vmem, ⟨29, _⟩ => ⟨S512x1024, .f32⟩
  | .local _ .vmem, ⟨30, _⟩ => ⟨S32x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_cst : Ref sig .tc := ⟨.hbm, 36, rfl⟩
abbrev main_call2_v6 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32_0 : Ref sig .tc := ⟨.hbm, 59, rfl⟩
abbrev main_v32_1 : Ref sig .tc := ⟨.hbm, 60, rfl⟩
abbrev main_v32_2 : Ref sig .tc := ⟨.hbm, 61, rfl⟩
abbrev main_v32_3 : Ref sig .tc := ⟨.hbm, 62, rfl⟩
abbrev main_v32_4 : Ref sig .tc := ⟨.hbm, 63, rfl⟩
abbrev main_v32_5 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixIn.lean ====
abbrev S4096x1024 : Shape := ⟨2, ![4096, 1024]⟩
abbrev S1024 : Shape := ⟨1, ![1024]⟩
abbrev S1024x2048 : Shape := ⟨2, ![1024, 2048]⟩
abbrev S1024x8x256 : Shape := ⟨3, ![1024, 8, 256]⟩
abbrev S8x1024x256 : Shape := ⟨3, ![8, 1024, 256]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S1x1024, .f32⟩
  | .hbm, ⟨7, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S512x2048, .f32⟩
  | .local _ .vmem, ⟨5, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixInRefIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== UpIn.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S7x704x1024, .bf16⟩
  | .hbm, ⟨3, _⟩ => ⟨S7x704x1024, .bf16⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S7x176x1024, .bf16⟩
  | .local _ .vmem, ⟨5, _⟩ => ⟨S7x176x1024, .bf16⟩
  | .local _ .vmem, ⟨6, _⟩ => ⟨S7x176x1024, .bf16⟩
  | .local _ .vmem, ⟨7, _⟩ => ⟨S7x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c3_i32 : BitVec 32 := 3#32
  let v2 : BitVec 32 := Scalar.select v1 arg1 c3_i32
  let c0_i32_0 : BitVec 32 := 0#32
  let c0_i32_1 : BitVec 32 := 0#32
  ![v0.toNat, v2.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpInIdeal.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S7x704x1024, .bf16⟩
  | .hbm, ⟨3, _⟩ => ⟨S7x704x1024, .bf16⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S7x176x1024, .bf16⟩
  | .local _ .vmem, ⟨5, _⟩ => ⟨S7x176x1024, .bf16⟩
  | .local _ .vmem, ⟨6, _⟩ => ⟨S7x176x1024, .bf16⟩
  | .local _ .vmem, ⟨7, _⟩ => ⟨S7x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c3_i32 : BitVec 32 := 3#32
  let v2 : BitVec 32 := Scalar.select v1 arg1 c3_i32
  let c0_i32_0 : BitVec 32 := 0#32
  let c0_i32_1 : BitVec 32 := 0#32
  ![v0.toNat, v2.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpInRefIdeal.lean ====
abbrev S8x704x1024 : Shape := ⟨3, ![8, 704, 1024]⟩
abbrev S7x704x1024 : Shape := ⟨3, ![7, 704, 1024]⟩
abbrev S2x704x1024 : Shape := ⟨3, ![2, 704, 1024]⟩
abbrev S1 : Shape := ⟨1, ![1]⟩
abbrev S1x1x1 : Shape := ⟨3, ![1, 1, 1]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S7x704x1024, .bf16⟩
  | .hbm, ⟨3, _⟩ => ⟨S7x704x1024, .bf16⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S1, .i32⟩
  | .hbm, ⟨8, _⟩ => ⟨S8x704x1024, .i32⟩
  | .hbm, ⟨9, _⟩ => ⟨S1x1x1, .i32⟩
  | .hbm, ⟨10, _⟩ => ⟨S8x704x1024, .i32⟩
  | .hbm, ⟨11, _⟩ => ⟨S8x704x1024, .i1⟩
  | .hbm, ⟨12, _⟩ => ⟨S8x704x1024, .f32⟩
  | .hbm, ⟨13, _⟩ => ⟨S_, .f32⟩
  | .hbm, ⟨14, _⟩ => ⟨S8x704x1024, .f32⟩
  | .hbm, ⟨15, _⟩ => ⟨S8x704x1024, .f32⟩
  | .hbm, ⟨16, _⟩ => ⟨S_, .f32⟩
  | .hbm, ⟨17, _⟩ => ⟨S704x1024, .f32⟩
  | .hbm, ⟨18, _⟩ => ⟨S7x704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S8x704x1024, .i32⟩
  | .hbm, ⟨23, _⟩ => ⟨S1x1x1, .i32⟩
  | .hbm, ⟨24, _⟩ => ⟨S8x704x1024, .i32⟩
  | .hbm, ⟨25, _⟩ => ⟨S8x704x1024, .i1⟩
  | .hbm, ⟨26, _⟩ => ⟨S8x704x1024, .f32⟩
  | .hbm, ⟨27, _⟩ => ⟨S_, .f32⟩
  | .hbm, ⟨28, _⟩ => ⟨S8x704x1024, .f32⟩
  | .hbm, ⟨29, _⟩ => ⟨S8x704x1024, .f32⟩
  | .hbm, ⟨30, _⟩ => ⟨S_, .f32⟩
  | .hbm, ⟨31, _⟩ => ⟨S704x1024, .f32⟩
  | .hbm, ⟨32, _⟩ => ⟨S7x704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S1x704x1024, .f32⟩
  | .hbm, ⟨37, _⟩ => ⟨S1x704x1024, .f32⟩
  | .hbm, ⟨38, _⟩ => ⟨S2x704x1024, .f32⟩
  | .hbm, ⟨39, _⟩ => ⟨S_, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | .hbm, ⟨49, _⟩ => ⟨S2x704x1024, .f32⟩
  | .hbm, ⟨50, _⟩ => ⟨S_, .f32⟩
  | .hbm, ⟨51, _⟩ => ⟨S2x704x1024, .f32⟩
  | .hbm, ⟨52, _⟩ => ⟨S2x704x1024, .f32⟩
  | .hbm, ⟨53, _⟩ => ⟨S2x704x1024, .f32⟩
  | .hbm, ⟨54, _⟩ => ⟨S_, .f32⟩
  | .hbm, ⟨55, _⟩ => ⟨S2x704x1024, .f32⟩
  | .hbm, ⟨56, _⟩ => ⟨S2x704x1024, .f32⟩
  | .hbm, ⟨57, _⟩ => ⟨S_, .f32⟩
  | .hbm, ⟨58, _⟩ => ⟨S2x704x1024, .f32⟩
  | .hbm, ⟨59, _⟩ => ⟨S2x704x1024, .f32⟩
  | .hbm, ⟨60, _⟩ => ⟨S2x704x1024, .f32⟩
  | .hbm, ⟨61, _⟩ => ⟨S_, .f32⟩
  | .hbm, ⟨62, _⟩ => ⟨S2x704x1024, .f32⟩
  | .hbm, ⟨63, _⟩ => ⟨S2x704x1024, .f32⟩
  | .hbm, ⟨64, _⟩ => ⟨S2x704x1024, .f32⟩
  | .hbm, ⟨65, _⟩ => ⟨S_, .f32⟩
  | .hbm, ⟨66, _⟩ => ⟨S2x704x1024, .f32⟩
  | .hbm, ⟨67, _⟩ => ⟨S2x704x1024, .f32⟩
  | .hbm, ⟨68, _⟩ => ⟨S2x704x1024, .f32⟩
  | .hbm, ⟨69, _⟩ => ⟨S_, .f32⟩
  | .hbm, ⟨70, _⟩ => ⟨S2x704x1024, .f32⟩
  | .hbm, ⟨71, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== UpOut.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S7x352x1024, .bf16⟩
  | .hbm, ⟨3, _⟩ => ⟨S7x352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S7x176x1024, .bf16⟩
  | .local _ .vmem, ⟨5, _⟩ => ⟨S7x176x1024, .bf16⟩
  | .local _ .vmem, ⟨6, _⟩ => ⟨S7x176x1024, .bf16⟩
  | .local _ .vmem, ⟨7, _⟩ => ⟨S7x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c1_i32 : BitVec 32 := 1#32
  let v2 : BitVec 32 := Scalar.select v1 arg1 c1_i32
  let c0_i32_0 : BitVec 32 := 0#32
  let c0_i32_1 : BitVec 32 := 0#32
  ![v0.toNat, v2.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpOutIdeal.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S7x352x1024, .bf16⟩
  | .hbm, ⟨3, _⟩ => ⟨S7x352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S7x176x1024, .bf16⟩
  | .local _ .vmem, ⟨5, _⟩ => ⟨S7x176x1024, .bf16⟩
  | .local _ .vmem, ⟨6, _⟩ => ⟨S7x176x1024, .bf16⟩
  | .local _ .vmem, ⟨7, _⟩ => ⟨S7x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c1_i32 : BitVec 32 := 1#32
  let v2 : BitVec 32 := Scalar.select v1 arg1 c1_i32
  let c0_i32_0 : BitVec 32 := 0#32
  let c0_i32_1 : BitVec 32 := 0#32
  ![v0.toNat, v2.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpOutRefIdeal.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1 : Shape := ⟨1, ![1]⟩
abbrev S1x1x1 : Shape := ⟨3, ![1, 1, 1]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S7x352x1024, .bf16⟩
  | .hbm, ⟨3, _⟩ => ⟨S7x352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S1, .i32⟩
  | .hbm, ⟨8, _⟩ => ⟨S8x352x1024, .i32⟩
  | .hbm, ⟨9, _⟩ => ⟨S1x1x1, .i32⟩
  | .hbm, ⟨10, _⟩ => ⟨S8x352x1024, .i32⟩
  | .hbm, ⟨11, _⟩ => ⟨S8x352x1024, .i1⟩
  | .hbm, ⟨12, _⟩ => ⟨S8x352x1024, .f32⟩
  | .hbm, ⟨13, _⟩ => ⟨S_, .f32⟩
  | .hbm, ⟨14, _⟩ => ⟨S8x352x1024, .f32⟩
  | .hbm, ⟨15, _⟩ => ⟨S8x352x1024, .f32⟩
  | .hbm, ⟨16, _⟩ => ⟨S_, .f32⟩
  | .hbm, ⟨17, _⟩ => ⟨S352x1024, .f32⟩
  | .hbm, ⟨18, _⟩ => ⟨S7x352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S8x352x1024, .i32⟩
  | .hbm, ⟨23, _⟩ => ⟨S1x1x1, .i32⟩
  | .hbm, ⟨24, _⟩ => ⟨S8x352x1024, .i32⟩
  | .hbm, ⟨25, _⟩ => ⟨S8x352x1024, .i1⟩
  | .hbm, ⟨26, _⟩ => ⟨S8x352x1024, .f32⟩
  | .hbm, ⟨27, _⟩ => ⟨S_, .f32⟩
  | .hbm, ⟨28, _⟩ => ⟨S8x352x1024, .f32⟩
  | .hbm, ⟨29, _⟩ => ⟨S8x352x1024, .f32⟩
  | .hbm, ⟨30, _⟩ => ⟨S_, .f32⟩
  | .hbm, ⟨31, _⟩ => ⟨S352x1024, .f32⟩
  | .hbm, ⟨32, _⟩ => ⟨S7x352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S1x352x1024, .f32⟩
  | .hbm, ⟨37, _⟩ => ⟨S1x352x1024, .f32⟩
  | .hbm, ⟨38, _⟩ => ⟨S2x352x1024, .f32⟩
  | .hbm, ⟨39, _⟩ => ⟨S_, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | .hbm, ⟨49, _⟩ => ⟨S2x352x1024, .f32⟩
  | .hbm, ⟨50, _⟩ => ⟨S_, .f32⟩
  | .hbm, ⟨51, _⟩ => ⟨S2x352x1024, .f32⟩
  | .hbm, ⟨52, _⟩ => ⟨S2x352x1024, .f32⟩
  | .hbm, ⟨53, _⟩ => ⟨S2x352x1024, .f32⟩
  | .hbm, ⟨54, _⟩ => ⟨S_, .f32⟩
  | .hbm, ⟨55, _⟩ => ⟨S2x352x1024, .f32⟩
  | .hbm, ⟨56, _⟩ => ⟨S2x352x1024, .f32⟩
  | .hbm, ⟨57, _⟩ => ⟨S_, .f32⟩
  | .hbm, ⟨58, _⟩ => ⟨S2x352x1024, .f32⟩
  | .hbm, ⟨59, _⟩ => ⟨S2x352x1024, .f32⟩
  | .hbm, ⟨60, _⟩ => ⟨S2x352x1024, .f32⟩
  | .hbm, ⟨61, _⟩ => ⟨S_, .f32⟩
  | .hbm, ⟨62, _⟩ => ⟨S2x352x1024, .f32⟩
  | .hbm, ⟨63, _⟩ => ⟨S2x352x1024, .f32⟩
  | .hbm, ⟨64, _⟩ => ⟨S2x352x1024, .f32⟩
  | .hbm, ⟨65, _⟩ => ⟨S_, .f32⟩
  | .hbm, ⟨66, _⟩ => ⟨S2x352x1024, .f32⟩
  | .hbm, ⟨67, _⟩ => ⟨S2x352x1024, .f32⟩
  | .hbm, ⟨68, _⟩ => ⟨S2x352x1024, .f32⟩
  | .hbm, ⟨69, _⟩ => ⟨S_, .f32⟩
  | .hbm, ⟨70, _⟩ => ⟨S2x352x1024, .f32⟩
  | .hbm, ⟨71, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== UpSquare.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 11
  | .vmem => 22
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S7x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S7x128x1024, .bf16⟩
  | .local _ .vmem, ⟨5, _⟩ => ⟨S7x128x1024, .bf16⟩
  | .local _ .vmem, ⟨6, _⟩ => ⟨S7x128x1024, .bf16⟩
  | .local _ .vmem, ⟨7, _⟩ => ⟨S7x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpSquareIdeal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 11
  | .vmem => 22
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S7x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S7x128x1024, .bf16⟩
  | .local _ .vmem, ⟨5, _⟩ => ⟨S7x128x1024, .bf16⟩
  | .local _ .vmem, ⟨6, _⟩ => ⟨S7x128x1024, .bf16⟩
  | .local _ .vmem, ⟨7, _⟩ => ⟨S7x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpSquareRefIdeal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1 : Shape := ⟨1, ![1]⟩
abbrev S1x1x1 : Shape := ⟨3, ![1, 1, 1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S7x128x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S1, .i32⟩
  | .hbm, ⟨8, _⟩ => ⟨S8x128x1024, .i32⟩
  | .hbm, ⟨9, _⟩ => ⟨S1x1x1, .i32⟩
  | .hbm, ⟨10, _⟩ => ⟨S8x128x1024, .i32⟩
  | .hbm, ⟨11, _⟩ => ⟨S8x128x1024, .i1⟩
  | .hbm, ⟨12, _⟩ => ⟨S8x128x1024, .f32⟩
  | .hbm, ⟨13, _⟩ => ⟨S_, .f32⟩
  | .hbm, ⟨14, _⟩ => ⟨S8x128x1024, .f32⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S7x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S8x128x1024, .i32⟩
  | .hbm, ⟨23, _⟩ => ⟨S1x1x1, .i32⟩
  | .hbm, ⟨24, _⟩ => ⟨S8x128x1024, .i32⟩
  | .hbm, ⟨25, _⟩ => ⟨S8x128x1024, .i1⟩
  | .hbm, ⟨26, _⟩ => ⟨S8x128x1024, .f32⟩
  | .hbm, ⟨27, _⟩ => ⟨S_, .f32⟩
  | .hbm, ⟨28, _⟩ => ⟨S8x128x1024, .f32⟩
  | .hbm, ⟨29, _⟩ => ⟨S8x128x1024, .f32⟩
  | .hbm, ⟨30, _⟩ => ⟨S_, .f32⟩
  | .hbm, ⟨31, _⟩ => ⟨S128x1024, .f32⟩
  | .hbm, ⟨32, _⟩ => ⟨S7x128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S1x128x1024, .f32⟩
  | .hbm, ⟨37, _⟩ => ⟨S1x128x1024, .f32⟩
  | .hbm, ⟨38, _⟩ => ⟨S2x128x1024, .f32⟩
  | .hbm, ⟨39, _⟩ => ⟨S_, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | .hbm, ⟨49, _⟩ => ⟨S2x128x1024, .f32⟩
  | .hbm, ⟨50, _⟩ => ⟨S_, .f32⟩
  | .hbm, ⟨51, _⟩ => ⟨S2x128x1024, .f32⟩
  | .hbm, ⟨52, _⟩ => ⟨S2x128x1024, .f32⟩
  | .hbm, ⟨53, _⟩ => ⟨S2x128x1024, .f32⟩
  | .hbm, ⟨54, _⟩ => ⟨S_, .f32⟩
  | .hbm, ⟨55, _⟩ => ⟨S2x128x1024, .f32⟩
  | .hbm, ⟨56, _⟩ => ⟨S2x128x1024, .f32⟩
  | .hbm, ⟨57, _⟩ => ⟨S_, .f32⟩
  | .hbm, ⟨58, _⟩ => ⟨S2x128x1024, .f32⟩
  | .hbm, ⟨59, _⟩ => ⟨S2x128x1024, .f32⟩
  | .hbm, ⟨60, _⟩ => ⟨S2x128x1024, .f32⟩
  | .hbm, ⟨61, _⟩ => ⟨S_, .f32⟩
  | .hbm, ⟨62, _⟩ => ⟨S2x128x1024, .f32⟩
  | .hbm, ⟨63, _⟩ => ⟨S2x128x1024, .f32⟩
  | .hbm, ⟨64, _⟩ => ⟨S2x128x1024, .f32⟩
  | .hbm, ⟨65, _⟩ => ⟨S_, .f32⟩
  | .hbm, ⟨66, _⟩ => ⟨S2x128x1024, .f32⟩
  | .hbm, ⟨67, _⟩ => ⟨S2x128x1024, .f32⟩
  | .hbm, ⟨68, _⟩ => ⟨S2x128x1024, .f32⟩
  | .hbm, ⟨69, _⟩ => ⟨S_, .f32⟩
  | .hbm, ⟨70, _⟩ => ⟨S2x128x1024, .f32⟩
  | .hbm, ⟨71, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== UpCol.lean ====
abbrev S8x1024x256 : Shape := ⟨3, ![8, 1024, 256]⟩
abbrev S7x1024x256 : Shape := ⟨3, ![7, 1024, 256]⟩
abbrev S2x1024x256 : Shape := ⟨3, ![2, 1024, 256]⟩
abbrev S1 : Shape := ⟨1, ![1]⟩
abbrev S1x256x256 : Shape := ⟨3, ![1, 256, 256]⟩
abbrev S7x256x256 : Shape := ⟨3, ![7, 256, 256]⟩
abbrev S256x256 : Shape := ⟨2, ![256, 256]⟩

abbrev nBuf : Space → Nat
  | .hbm => 11
  | .vmem => 22
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S7x1024x256, .bf16⟩
  | .hbm, ⟨3, _⟩ => ⟨S7x1024x256, .bf16⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S7x256x256, .bf16⟩
  | .local _ .vmem, ⟨5, _⟩ => ⟨S7x256x256, .bf16⟩
  | .local _ .vmem, ⟨6, _⟩ => ⟨S7x256x256, .bf16⟩
  | .local _ .vmem, ⟨7, _⟩ => ⟨S7x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c3_i32 : BitVec 32 := 3#32
  let v2 : BitVec 32 := Scalar.select v1 arg1 c3_i32
  let c0_i32_0 : BitVec 32 := 0#32
  let c0_i32_1 : BitVec 32 := 0#32
  ![v0.toNat, v2.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpColRefIdeal.lean ====
abbrev S8x1024x256 : Shape := ⟨3, ![8, 1024, 256]⟩
abbrev S7x1024x256 : Shape := ⟨3, ![7, 1024, 256]⟩
abbrev S2x1024x256 : Shape := ⟨3, ![2, 1024, 256]⟩
abbrev S1 : Shape := ⟨1, ![1]⟩
abbrev S1x1x1 : Shape := ⟨3, ![1, 1, 1]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 72
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S7x1024x256, .bf16⟩
  | .hbm, ⟨3, _⟩ => ⟨S7x1024x256, .bf16⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S1, .i32⟩
  | .hbm, ⟨8, _⟩ => ⟨S8x1024x256, .i32⟩
  | .hbm, ⟨9, _⟩ => ⟨S1x1x1, .i32⟩
  | .hbm, ⟨10, _⟩ => ⟨S8x1024x256, .i32⟩
  | .hbm, ⟨11, _⟩ => ⟨S8x1024x256, .i1⟩
  | .hbm, ⟨12, _⟩ => ⟨S8x1024x256, .f32⟩
  | .hbm, ⟨13, _⟩ => ⟨S_, .f32⟩
  | .hbm, ⟨14, _⟩ => ⟨S8x1024x256, .f32⟩
  | .hbm, ⟨15, _⟩ => ⟨S8x1024x256, .f32⟩
  | .hbm, ⟨16, _⟩ => ⟨S_, .f32⟩
  | .hbm, ⟨17, _⟩ => ⟨S1024x256, .f32⟩
  | .hbm, ⟨18, _⟩ => ⟨S7x1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S8x1024x256, .i32⟩
  | .hbm, ⟨23, _⟩ => ⟨S1x1x1, .i32⟩
  | .hbm, ⟨24, _⟩ => ⟨S8x1024x256, .i32⟩
  | .hbm, ⟨25, _⟩ => ⟨S8x1024x256, .i1⟩
  | .hbm, ⟨26, _⟩ => ⟨S8x1024x256, .f32⟩
  | .hbm, ⟨27, _⟩ => ⟨S_, .f32⟩
  | .hbm, ⟨28, _⟩ => ⟨S8x1024x256, .f32⟩
  | .hbm, ⟨29, _⟩ => ⟨S8x1024x256, .f32⟩
  | .hbm, ⟨30, _⟩ => ⟨S_, .f32⟩
  | .hbm, ⟨31, _⟩ => ⟨S1024x256, .f32⟩
  | .hbm, ⟨32, _⟩ => ⟨S7x1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1x1024x256, .f32⟩
  | .hbm, ⟨37, _⟩ => ⟨S1x1024x256, .f32⟩
  | .hbm, ⟨38, _⟩ => ⟨S2x1024x256, .f32⟩
  | .hbm, ⟨39, _⟩ => ⟨S_, .f32⟩
  | .hbm, ⟨40, _⟩ => ⟨S2x1024x256, .f32⟩
  | .hbm, ⟨41, _⟩ => ⟨S2x1024x256, .f32⟩
  | .hbm, ⟨42, _⟩ => ⟨S_, .f32⟩
  | .hbm, ⟨43, _⟩ => ⟨S2x1024x256, .f32⟩
  | .hbm, ⟨44, _⟩ => ⟨S2x1024x256, .f32⟩
  | .hbm, ⟨45, _⟩ => ⟨S2x1024x256, .f32⟩
  | .hbm, ⟨46, _⟩ => ⟨S_, .f32⟩
  | .hbm, ⟨47, _⟩ => ⟨S2x1024x256, .f32⟩
  | .hbm, ⟨48, _⟩ => ⟨S2x1024x256, .f32⟩
  | .hbm, ⟨49, _⟩ => ⟨S2x1024x256, .f32⟩
  | .hbm, ⟨50, _⟩ => ⟨S_, .f32⟩
  | .hbm, ⟨51, _⟩ => ⟨S2x1024x256, .f32⟩
  | .hbm, ⟨52, _⟩ => ⟨S2x1024x256, .f32⟩
  | .hbm, ⟨53, _⟩ => ⟨S2x1024x256, .f32⟩
  | .hbm, ⟨54, _⟩ => ⟨S_, .f32⟩
  | .hbm, ⟨55, _⟩ => ⟨S2x1024x256, .f32⟩
  | .hbm, ⟨56, _⟩ => ⟨S2x1024x256, .f32⟩
  | .hbm, ⟨57, _⟩ => ⟨S_, .f32⟩
  | .hbm, ⟨58, _⟩ => ⟨S2x1024x256, .f32⟩
  | .hbm, ⟨59, _⟩ => ⟨S2x1024x256, .f32⟩
  | .hbm, ⟨60, _⟩ => ⟨S2x1024x256, .f32⟩
  | .hbm, ⟨61, _⟩ => ⟨S_, .f32⟩
  | .hbm, ⟨62, _⟩ => ⟨S2x1024x256, .f32⟩
  | .hbm, ⟨63, _⟩ => ⟨S2x1024x256, .f32⟩
  | .hbm, ⟨64, _⟩ => ⟨S2x1024x256, .f32⟩
  | .hbm, ⟨65, _⟩ => ⟨S_, .f32⟩
  | .hbm, ⟨66, _⟩ => ⟨S2x1024x256, .f32⟩
  | .hbm, ⟨67, _⟩ => ⟨S2x1024x256, .f32⟩
  | .hbm, ⟨68, _⟩ => ⟨S2x1024x256, .f32⟩
  | .hbm, ⟨69, _⟩ => ⟨S_, .f32⟩
  | .hbm, ⟨70, _⟩ => ⟨S2x1024x256, .f32⟩
  | .hbm, ⟨71, _⟩ => ⟨S2x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== AdamwIdeal.lean ====
abbrev S2x1024 : Shape := ⟨2, ![2, 1024]⟩
abbrev S2x256 : Shape := ⟨2, ![2, 256]⟩
abbrev S2x4x128x128 : Shape := ⟨4, ![2, 4, 128, 128]⟩
abbrev S2x4x128 : Shape := ⟨3, ![2, 4, 128]⟩
abbrev S2x4x64x64 : Shape := ⟨4, ![2, 4, 64, 64]⟩
abbrev S1x1024 : Shape := ⟨2, ![1, 1024]⟩
abbrev S2x3x32 : Shape := ⟨3, ![2, 3, 32]⟩
abbrev S2x31x32 : Shape := ⟨3, ![2, 31, 32]⟩

abbrev nBuf : Space → Nat
  | .hbm => 105
  | .vmem => 105
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x256, .f32⟩
  | .hbm, ⟨3, _⟩ => ⟨S2x4x128x128, .f32⟩
  | .hbm, ⟨4, _⟩ => ⟨S2x4x128, .f32⟩
  | .hbm, ⟨5, _⟩ => ⟨S2x256, .f32⟩
  | .hbm, ⟨6, _⟩ => ⟨S2x256, .f32⟩
  | .hbm, ⟨7, _⟩ => ⟨S2x4x64x64, .f32⟩
  | .hbm, ⟨8, _⟩ => ⟨S2x256, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024, .f32⟩
  | .hbm, ⟨13, _⟩ => ⟨S2x3x32, .f32⟩
  | .hbm, ⟨14, _⟩ => ⟨S2x31x32, .f32⟩
  | .hbm, ⟨15, _⟩ => ⟨S2x1024, .f32⟩
  | .hbm, ⟨16, _⟩ => ⟨S2x1024, .f32⟩
  | .hbm, ⟨17, _⟩ => ⟨S2x256, .f32⟩
  | .hbm, ⟨18, _⟩ => ⟨S2x4x128x128, .f32⟩
  | .hbm, ⟨19, _⟩ => ⟨S2x4x128, .f32⟩
  | .hbm, ⟨20, _⟩ => ⟨S2x256, .f32⟩
  | .hbm, ⟨21, _⟩ => ⟨S2x256, .f32⟩
  | .hbm, ⟨22, _⟩ => ⟨S2x4x64x64, .f32⟩
  | .hbm, ⟨23, _⟩ => ⟨S2x256, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S1x1024, .f32⟩
  | .hbm, ⟨28, _⟩ => ⟨S2x3x32, .f32⟩
  | .hbm, ⟨29, _⟩ => ⟨S2x31x32, .f32⟩
  | .hbm, ⟨30, _⟩ => ⟨S2x1024, .f32⟩
  | .hbm, ⟨31, _⟩ => ⟨S2x1024, .f32⟩
  | .hbm, ⟨32, _⟩ => ⟨S2x256, .f32⟩
  | .hbm, ⟨33, _⟩ => ⟨S2x4x128x128, .f32⟩
  | .hbm, ⟨34, _⟩ => ⟨S2x4x128, .f32⟩
  | .hbm, ⟨35, _⟩ => ⟨S2x256, .f32⟩
  | .hbm, ⟨36, _⟩ => ⟨S2x256, .f32⟩
  | .hbm, ⟨37, _⟩ => ⟨S2x4x64x64, .f32⟩
  | .hbm, ⟨38, _⟩ => ⟨S2x256, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S1x1024, .f32⟩
  | .hbm, ⟨43, _⟩ => ⟨S2x3x32, .f32⟩
  | .hbm, ⟨44, _⟩ => ⟨S2x31x32, .f32⟩
  | .hbm, ⟨45, _⟩ => ⟨S2x1024, .f32⟩
  | .hbm, ⟨46, _⟩ => ⟨S2x1024, .f32⟩
  | .hbm, ⟨47, _⟩ => ⟨S2x256, .f32⟩
  | .hbm, ⟨48, _⟩ => ⟨S2x4x128x128, .f32⟩
  | .hbm, ⟨49, _⟩ => ⟨S2x4x128, .f32⟩
  | .hbm, ⟨50, _⟩ => ⟨S2x256, .f32⟩
  | .hbm, ⟨51, _⟩ => ⟨S2x256, .f32⟩
  | .hbm, ⟨52, _⟩ => ⟨S2x4x64x64, .f32⟩
  | .hbm, ⟨53, _⟩ => ⟨S2x256, .f32⟩
  | .hbm, ⟨54, _⟩ => ⟨S2x1024, .f32⟩
  | .hbm, ⟨55, _⟩ => ⟨S2x1024, .f32⟩
  | .hbm, ⟨56, _⟩ => ⟨S2x1024, .f32⟩
  | .hbm, ⟨57, _⟩ => ⟨S1x1024, .f32⟩
  | .hbm, ⟨58, _⟩ => ⟨S2x3x32, .f32⟩
  | .hbm, ⟨59, _⟩ => ⟨S2x31x32, .f32⟩
  | .hbm, ⟨60, _⟩ => ⟨S2x1024, .f32⟩
  | .hbm, ⟨61, _⟩ => ⟨S2x1024, .f32⟩
  | .hbm, ⟨62, _⟩ => ⟨S2x1024, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S2x256, .f32⟩
  | .hbm, ⟨67, _⟩ => ⟨S2x256, .f32⟩
  | .hbm, ⟨68, _⟩ => ⟨S2x256, .f32⟩
  | .hbm, ⟨69, _⟩ => ⟨S2x4x128x128, .f32⟩
  | .hbm, ⟨70, _⟩ => ⟨S2x4x128x128, .f32⟩
  | .hbm, ⟨71, _⟩ => ⟨S2x4x128x128, .f32⟩
  | .hbm, ⟨72, _⟩ => ⟨S2x4x128, .f32⟩
  | .hbm, ⟨73, _⟩ => ⟨S2x4x128, .f32⟩
  | .hbm, ⟨74, _⟩ => ⟨S2x4x128, .f32⟩
  | .hbm, ⟨75, _⟩ => ⟨S2x256, .f32⟩
  | .hbm, ⟨76, _⟩ => ⟨S2x256, .f32⟩
  | .hbm, ⟨77, _⟩ => ⟨S2x256, .f32⟩
  | .hbm, ⟨78, _⟩ => ⟨S2x256, .f32⟩
  | .hbm, ⟨79, _⟩ => ⟨S2x256, .f32⟩
  | .hbm, ⟨80, _⟩ => ⟨S2x256, .f32⟩
  | .hbm, ⟨81, _⟩ => ⟨S2x4x64x64, .f32⟩
  | .hbm, ⟨82, _⟩ => ⟨S2x4x64x64, .f32⟩
  | .hbm, ⟨83, _⟩ => ⟨S2x4x64x64, .f32⟩
  | .hbm, ⟨84, _⟩ => ⟨S2x256, .f32⟩
  | .hbm, ⟨85, _⟩ => ⟨S2x256, .f32⟩
  | .hbm, ⟨86, _⟩ => ⟨S2x256, .f32⟩
  | .hbm, ⟨87, _⟩ => ⟨S2x1024, .f32⟩
  | .hbm, ⟨88, _⟩ => ⟨S2x1024, .f32⟩
  | .hbm, ⟨89, _⟩ => ⟨S2x1024, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S2x1024, .f32⟩
  | .hbm, ⟨94, _⟩ => ⟨S2x1024, .f32⟩
  | .hbm, ⟨95, _⟩ => ⟨S2x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S2x3x32, .f32⟩
  | .hbm, ⟨100, _⟩ => ⟨S2x3x32, .f32⟩
  | .hbm, ⟨101, _⟩ => ⟨S2x3x32, .f32⟩
  | .hbm, ⟨102, _⟩ => ⟨S2x31x32, .f32⟩
  | .hbm, ⟨103, _⟩ => ⟨S2x31x32, .f32⟩
  | .hbm, ⟨104, _⟩ => ⟨S2x31x32, .f32⟩
  | .local _ .vmem, ⟨0, _⟩ => ⟨S2x1024, .f32⟩
  | .local _ .vmem, ⟨1, _⟩ => ⟨S2x1024, .f32⟩
  | .local _ .vmem, ⟨2, _⟩ => ⟨S2x256, .f32⟩
  | .local _ .vmem, ⟨3, _⟩ => ⟨S2x4x128x128, .f32⟩
  | .local _ .vmem, ⟨4, _⟩ => ⟨S2x4x128, .f32⟩
  | .local _ .vmem, ⟨5, _⟩ => ⟨S2x256, .f32⟩
  | .local _ .vmem, ⟨6, _⟩ => ⟨S2x256, .f32⟩
  | .local _ .vmem, ⟨7, _⟩ => ⟨S2x4x64x64, .f32⟩
  | .local _ .vmem, ⟨8, _⟩ => ⟨S2x256, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S1x1024, .f32⟩
  | .local _ .vmem, ⟨13, _⟩ => ⟨S2x3x32, .f32⟩
  | .local _ .vmem, ⟨14, _⟩ => ⟨S2x31x32, .f32⟩
  | .local _ .vmem, ⟨15, _⟩ => ⟨S2x1024, .f32⟩
  | .local _ .vmem, ⟨16, _⟩ => ⟨S2x1024, .f32⟩
  | .local _ .vmem, ⟨17, _⟩ => ⟨S2x256, .f32⟩
  | .local _ .vmem, ⟨18, _⟩ => ⟨S2x4x128x128, .f32⟩
  | .local _ .vmem, ⟨19, _⟩ => ⟨S2x4x128, .f32⟩
  | .local _ .vmem, ⟨20, _⟩ => ⟨S2x256, .f32⟩
  | .local _ .vmem, ⟨21, _⟩ => ⟨S2x256, .f32⟩
  | .local _ .vmem, ⟨22, _⟩ => ⟨S2x4x64x64, .f32⟩
  | .local _ .vmem, ⟨23, _⟩ => ⟨S2x256, .f32⟩
  | .local _ .vmem, ⟨24, _⟩ => ⟨S2x1024, .f32⟩
  | .local _ .vmem, ⟨25, _⟩ => ⟨S2x1024, .f32⟩
  | .local _ .vmem, ⟨26, _⟩ => ⟨S2x1024, .f32⟩
  | .local _ .vmem, ⟨27, _⟩ => ⟨S1x1024, .f32⟩
  | .local _ .vmem, ⟨28, _⟩ => ⟨S2x3x32, .f32⟩
  | .local _ .vmem, ⟨29, _⟩ => ⟨S2x31x32, .f32⟩
  | .local _ .vmem, ⟨30, _⟩ => ⟨S2x1024, .f32⟩
  | .local _ .vmem, ⟨31, _⟩ => ⟨S2x1024, .f32⟩
  | .local _ .vmem, ⟨32, _⟩ => ⟨S2x256, .f32⟩
  | .local _ .vmem, ⟨33, _⟩ => ⟨S2x4x128x128, .f32⟩
  | .local _ .vmem, ⟨34, _⟩ => ⟨S2x4x128, .f32⟩
  | .local _ .vmem, ⟨35, _⟩ => ⟨S2x256, .f32⟩
  | .local _ .vmem, ⟨36, _⟩ => ⟨S2x256, .f32⟩
  | .local _ .vmem, ⟨37, _⟩ => ⟨S2x4x64x64, .f32⟩
  | .local _ .vmem, ⟨38, _⟩ => ⟨S2x256, .f32⟩
  | .local _ .vmem, ⟨39, _⟩ => ⟨S2x1024, .f32⟩
  | .local _ .vmem, ⟨40, _⟩ => ⟨S2x1024, .f32⟩
  | .local _ .vmem, ⟨41, _⟩ => ⟨S2x1024, .f32⟩
  | .local _ .vmem, ⟨42, _⟩ => ⟨S1x1024, .f32⟩
  | .local _ .vmem, ⟨43, _⟩ => ⟨S2x3x32, .f32⟩
  | .local _ .vmem, ⟨44, _⟩ => ⟨S2x31x32, .f32⟩
  | .local _ .vmem, ⟨45, _⟩ => ⟨S2x1024, .f32⟩
  | .local _ .vmem, ⟨46, _⟩ => ⟨S2x1024, .f32⟩
  | .local _ .vmem, ⟨47, _⟩ => ⟨S2x256, .f32⟩
  | .local _ .vmem, ⟨48, _⟩ => ⟨S2x4x128x128, .f32⟩
  | .local _ .vmem, ⟨49, _⟩ => ⟨S2x4x128, .f32⟩
  | .local _ .vmem, ⟨50, _⟩ => ⟨S2x256, .f32⟩
  | .local _ .vmem, ⟨51, _⟩ => ⟨S2x256, .f32⟩
  | .local _ .vmem, ⟨52, _⟩ => ⟨S2x4x64x64, .f32⟩
  | .local _ .vmem, ⟨53, _⟩ => ⟨S2x256, .f32⟩
  | .local _ .vmem, ⟨54, _⟩ => ⟨S2x1024, .f32⟩
  | .local _ .vmem, ⟨55, _⟩ => ⟨S2x1024, .f32⟩
  | .local _ .vmem, ⟨56, _⟩ => ⟨S2x1024, .f32⟩
  | .local _ .vmem, ⟨57, _⟩ => ⟨S1x1024, .f32⟩
  | .local _ .vmem, ⟨58, _⟩ => ⟨S2x3x32, .f32⟩
  | .local _ .vmem, ⟨59, _⟩ => ⟨S2x31x32, .f32⟩
  | .local _ .vmem, ⟨60, _⟩ => ⟨S2x1024, .f32⟩
  | .local _ .vmem, ⟨61, _⟩ => ⟨S2x1024, .f32⟩
  | .local _ .vmem, ⟨62, _⟩ => ⟨S2x1024, .f32⟩
  | .local _ .vmem, ⟨63, _⟩ => ⟨S2x1024, .f32⟩
  | .local _ .vmem, ⟨64, _⟩ => ⟨S2x1024, .f32⟩
  | .local _ .vmem, ⟨65, _⟩ => ⟨S2x1024, .f32⟩
  | .local _ .vmem, ⟨66, _⟩ => ⟨S2x256, .f32⟩
  | .local _ .vmem, ⟨67, _⟩ => ⟨S2x256, .f32⟩
  | .local _ .vmem, ⟨68, _⟩ => ⟨S2x256, .f32⟩
  | .local _ .vmem, ⟨69, _⟩ => ⟨S2x4x128x128, .f32⟩
  | .local _ .vmem, ⟨70, _⟩ => ⟨S2x4x128x128, .f32⟩
  | .local _ .vmem, ⟨71, _⟩ => ⟨S2x4x128x128, .f32⟩
  | .local _ .vmem, ⟨72, _⟩ => ⟨S2x4x128, .f32⟩
  | .local _ .vmem, ⟨73, _⟩ => ⟨S2x4x128, .f32⟩
  | .local _ .vmem, ⟨74, _⟩ => ⟨S2x4x128, .f32⟩
  | .local _ .vmem, ⟨75, _⟩ => ⟨S2x256, .f32⟩
  | .local _ .vmem, ⟨76, _⟩ => ⟨S2x256, .f32⟩
  | .local _ .vmem, ⟨77, _⟩ => ⟨S2x256, .f32⟩
  | .local _ .vmem, ⟨78, _⟩ => ⟨S2x256, .f32⟩
  | .local _ .vmem, ⟨79, _⟩ => ⟨S2x256, .f32⟩
  | .local _ .vmem, ⟨80, _⟩ => ⟨S2x256, .f32⟩
  | .local _ .vmem, ⟨81, _⟩ => ⟨S2x4x64x64, .f32⟩
  | .local _ .vmem, ⟨82, _⟩ => ⟨S2x4x64x64, .f32⟩
  | .local _ .vmem, ⟨83, _⟩ => ⟨S2x4x64x64, .f32⟩
  | .local _ .vmem, ⟨84, _⟩ => ⟨S2x256, .f32⟩
  | .local _ .vmem, ⟨85, _⟩ => ⟨S2x256, .f32⟩
  | .local _ .vmem, ⟨86, _⟩ => ⟨S2x256, .f32⟩
  | .local _ .vmem, ⟨87, _⟩ => ⟨S2x1024, .f32⟩
  | .local _ .vmem, ⟨88, _⟩ => ⟨S2x1024, .f32⟩
  | .local _ .vmem, ⟨89, _⟩ => ⟨S2x1024, .f32⟩
  | .local _ .vmem, ⟨90, _⟩ => ⟨S2x1024, .f32⟩
  | .local _ .vmem, ⟨91, _⟩ => ⟨S2x1024, .f32⟩
  | .local _ .vmem, ⟨92, _⟩ => ⟨S2x1024, .f32⟩
  | .local _ .vmem, ⟨93, _⟩ => ⟨S2x1024, .f32⟩
  | .local _ .vmem, ⟨94, _⟩ => ⟨S2x1024, .f32⟩
  | .local _ .vmem, ⟨95, _⟩ => ⟨S2x1024, .f32⟩
  | .local _ .vmem, ⟨96, _⟩ => ⟨S1x1024, .f32⟩
  | .local _ .vmem, ⟨97, _⟩ => ⟨S1x1024, .f32⟩
  | .local _ .vmem, ⟨98, _⟩ => ⟨S1x1024, .f32⟩
  | .local _ .vmem, ⟨99, _⟩ => ⟨S2x3x32, .f32⟩
  | .local _ .vmem, ⟨100, _⟩ => ⟨S2x3x32, .f32⟩
  | .local _ .vmem, ⟨101, _⟩ => ⟨S2x3x32, .f32⟩
  | .local _ .vmem, ⟨102, _⟩ => ⟨S2x31x32, .f32⟩
  | .local _ .vmem, ⟨103, _⟩ => ⟨S2x31x32, .f32⟩
  | .local _ .vmem, ⟨104, _⟩ => ⟨S2x31x32, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0_0 : Ref sig .tc := ⟨.hbm, 60, rfl⟩
abbrev main_v0_1 : Ref sig .tc := ⟨.hbm, 61, rfl⟩
abbrev main_v0_2 : Ref sig .tc := ⟨.hbm, 62, rfl⟩
abbrev main_v0_3 : Ref sig .tc := ⟨.hbm, 63, rfl⟩
abbrev main_v0_4 : Ref sig .tc := ⟨.hbm, 64, rfl⟩
abbrev main_v0_5 : Ref sig .tc := ⟨.hbm, 65, rfl⟩
abbrev main_v0_6 : Ref sig .tc := ⟨.hbm, 66, rfl⟩
abbrev main_v0_7 : Ref sig .tc := ⟨.hbm, 67, rfl⟩
abbrev main_v0_8 : Ref sig .tc := ⟨.hbm, 68, rfl⟩
abbrev main_v0_9 : Ref sig .tc := ⟨.hbm, 69, rfl⟩
abbrev main_v0_10 : Ref sig .tc := ⟨.hbm, 70, rfl⟩
abbrev main_v0_11 : Ref sig .tc := ⟨.hbm, 71, rfl⟩
abbrev main_v0_12 : Ref sig .tc := ⟨.hbm, 72, rfl⟩
abbrev main_v0_13 : Ref sig .tc := ⟨.hbm, 73, rfl⟩
abbrev main_v0_14 : Ref sig .tc := ⟨.hbm, 74, rfl⟩
abbrev main_v0_15 : Ref sig .tc := ⟨.hbm, 75, rfl⟩
abbrev main_v0_16 : Ref sig .tc := ⟨.hbm, 76, rfl⟩
abbrev main_v0_17 : Ref sig .tc := ⟨.hbm, 77, rfl⟩
abbrev main_v0_18 : Ref sig .tc := ⟨.hbm, 78, rfl⟩
abbrev main_v0_19 : Ref sig .tc := ⟨.hbm, 79, rfl⟩
abbrev main_v0_20 : Ref sig .tc := ⟨.hbm, 80, rfl⟩
abbrev main_v0_21 : Ref sig .tc := ⟨.hbm, 81, rfl⟩
abbrev main_v0_22 : Ref sig .tc := ⟨.hbm, 82, rfl⟩
abbrev main_v0_23 : Ref sig .tc := ⟨.hbm, 83, rfl⟩
abbrev main_v0_24 : Ref sig .tc := ⟨.hbm, 84, rfl⟩
abbrev main_v0_25 : Ref sig .tc := ⟨.hbm, 85, rfl⟩
abbrev main_v0_26 : Ref sig .tc := ⟨.hbm, 86, rfl⟩
abbrev main_v0_27 : Ref sig .tc := ⟨.hbm, 87, rfl⟩
abbrev main_v0_28 : Ref sig .tc := ⟨.hbm, 88, rfl⟩
abbrev main_v0_29 : Ref sig .tc := ⟨.hbm, 89, rfl⟩
abbrev main_v0_30 : Ref sig .tc := ⟨.hbm, 90, rfl⟩
abbrev main_v0_31 : Ref sig .tc := ⟨.hbm, 91, rfl⟩
abbrev main_v0_32 : Ref sig .tc := ⟨.hbm, 92, rfl⟩
abbrev main_v0_33 : Ref sig .tc := ⟨.hbm, 93, rfl⟩
abbrev main_v0_34 : Ref sig .tc := ⟨.hbm, 94, rfl⟩
abbrev main_v0_35 : Ref sig .tc := ⟨.hbm, 95, rfl⟩
abbrev main_v0_36 : Ref sig .tc := ⟨.hbm, 96, rfl⟩
abbrev main_v0_37 : Ref sig .tc := ⟨.hbm, 97, rfl⟩
abbrev main_v0_38 : Ref sig .tc := ⟨.hbm, 98, rfl⟩
abbrev main_v0_39 : Ref sig .tc := ⟨.hbm, 99, rfl⟩
abbrev main_v0_40 : Ref sig .tc := ⟨.hbm, 100, rfl⟩
abbrev main_v0_41 : Ref sig .tc := ⟨.hbm, 101, rfl⟩
abbrev main_v0_42 : Ref sig .tc := ⟨.hbm, 102, rfl⟩
abbrev main_v0_43 : Ref sig .tc := ⟨.hbm, 103, rfl⟩
abbrev main_v0_44 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_stg90_0 : Ref sig .tc := ⟨.vmem, 90, rfl⟩
abbrev cc0_stg91_0 : Ref sig .tc := ⟨.vmem, 91, rfl⟩
abbrev cc0_stg92_0 : Ref sig .tc := ⟨.vmem, 92, rfl⟩
abbrev cc0_stg93_0 : Ref sig .tc := ⟨.vmem, 93, rfl⟩
abbrev cc0_stg94_0 : Ref sig .tc := ⟨.vmem, 94, rfl⟩
abbrev cc0_stg95_0 : Ref sig .tc := ⟨.vmem, 95, rfl⟩
abbrev cc0_stg96_0 : Ref sig .tc := ⟨.vmem, 96, rfl⟩
abbrev cc0_stg97_0 : Ref sig .tc := ⟨.vmem, 97, rfl⟩
abbrev cc0_stg98_0 : Ref sig .tc := ⟨.vmem, 98, rfl⟩
abbrev cc0_stg99_0 : Ref sig .tc := ⟨.vmem, 99, rfl⟩
abbrev cc0_stg100_0 : Ref sig .tc := ⟨.vmem, 100, rfl⟩
abbrev cc0_stg101_0 : Ref sig .tc := ⟨.vmem, 101, rfl⟩
abbrev cc0_stg102_0 : Ref sig .tc := ⟨.vmem, 102, rfl⟩
abbrev cc0_stg103_0 : Ref sig .tc := ⟨.vmem, 103, rfl⟩
abbrev cc0_stg104_0 : Ref sig .tc := ⟨.vmem, 104, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89
abbrev cc0_sem90_0 : DmaSem sig := 90
abbrev cc0_sem91_0 : DmaSem sig := 91
abbrev cc0_sem92_0 : DmaSem sig := 92
abbrev cc0_sem93_0 : DmaSem sig := 93
abbrev cc0_sem94_0 : DmaSem sig := 94
abbrev cc0_sem95_0 : DmaSem sig := 95
abbrev cc0_sem96_0 : DmaSem sig := 96
abbrev cc0_sem97_0 : DmaSem sig := 97
abbrev cc0_sem98_0 : DmaSem sig := 98
abbrev cc0_sem99_0 : DmaSem sig := 99
abbrev cc0_sem100_0 : DmaSem sig := 100
abbrev cc0_sem101_0 : DmaSem sig := 101
abbrev cc0_sem102_0 : DmaSem sig := 102
abbrev cc0_sem103_0 : DmaSem sig := 103
abbrev cc0_sem104_0 : DmaSem sig := 104

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x31x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x4x64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x3x32 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x31x32 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x4x128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x4x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x4x64x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x3x32 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x31x32 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x256 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x4x128x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S2x4x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x4x64x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x256 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S2x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S2x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S2x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S2x3x32 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S2x31x32 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S2x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S2x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S2x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S2x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S2x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S2x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S2x256 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S2x256 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S2x256 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S2x4x128x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S2x4x128x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S2x4x128x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S2x4x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S2x4x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S2x4x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S2x256 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S2x256 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S2x256 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S2x256 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S2x256 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S2x256 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S2x4x64x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S2x4x64x64 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S2x4x64x64 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S2x256 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S2x256 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S2x256 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S2x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S2x1024 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S2x1024 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))

abbrev stage0_90 : Fin 1 → Memref sig .tc .vmem S2x1024 .f32 := fun | 0 => Memref.whole cc0_stg90_0 | ⟨_ + 1, h⟩ => absurd h (Nat.not_lt.2 (Nat.le_add_left _ _))
abbrev sem0_90 : Fin 1 → DmaSem sig := fun | 0 => cc0_sem90_0 | ⟨_ + 1, h⟩ => absurd h (Nat.not_lt.2 (Nat.le_add_left _ _))

abbrev stage0_91 : Fin 1 → Memref sig .tc .vmem S2x1024 .f32 := fun | 0 => Memref.whole cc0_stg91_0 | ⟨_ + 1, h⟩ => absurd h (Nat.not_lt.2 (Nat.le_add_left _ _))
abbrev sem0_91 : Fin 1 → DmaSem sig := fun | 0 => cc0_sem91_0 | ⟨_ + 1, h⟩ => absurd h (Nat.not_lt.2 (Nat.le_add_left _ _))

abbrev stage0_92 : Fin 1 → Memref sig .tc .vmem S2x1024 .f32 := fun | 0 => Memref.whole cc0_stg92_0 | ⟨_ + 1, h⟩ => absurd h (Nat.not_lt.2 (Nat.le_add_left _ _))
abbrev sem0_92 : Fin 1 → DmaSem sig := fun | 0 => cc0_sem92_0 | ⟨_ + 1, h⟩ => absurd h (Nat.not_lt.2 (Nat.le_add_left _ _))

abbrev stage0_93 : Fin 1 → Memref sig .tc .vmem S2x1024 .f32 := fun | 0 => Memref.whole cc0_stg93_0 | ⟨_ + 1, h⟩ => absurd h (Nat.not_lt.2 (Nat.le_add_left _ _))
abbrev sem0_93 : Fin 1 → DmaSem sig := fun | 0 => cc0_sem93_0 | ⟨_ + 1, h⟩ => absurd h (Nat.not_lt.2 (Nat.le_add_left _ _))

abbrev stage0_94 : Fin 1 → Memref sig .tc .vmem S2x1024 .f32 := fun | 0 => Memref.whole cc0_stg94_0 | ⟨_ + 1, h⟩ => absurd h (Nat.not_lt.2 (Nat.le_add_left _ _))
abbrev sem0_94 : Fin 1 → DmaSem sig := fun | 0 => cc0_sem94_0 | ⟨_ + 1, h⟩ => absurd h (Nat.not_lt.2 (Nat.le_add_left _ _))

abbrev stage0_95 : Fin 1 → Memref sig .tc .vmem S2x1024 .f32 := fun | 0 => Memref.whole cc0_stg95_0 | ⟨_ + 1, h⟩ => absurd h (Nat.not_lt.2 (Nat.le_add_left _ _))
abbrev sem0_95 : Fin 1 → DmaSem sig := fun | 0 => cc0_sem95_0 | ⟨_ + 1, h⟩ => absurd h (Nat.not_lt.2 (Nat.le_add_left _ _))

abbrev stage0_96 : Fin 1 → Memref sig .tc .vmem S1x1024 .f32 := fun | 0 => Memref.whole cc0_stg96_0 | ⟨_ + 1, h⟩ => absurd h (Nat.not_lt.2 (Nat.le_add_left _ _))
abbrev sem0_96 : Fin 1 → DmaSem sig := fun | 0 => cc0_sem96_0 | ⟨_ + 1, h⟩ => absurd h (Nat.not_lt.2 (Nat.le_add_left _ _))

abbrev stage0_97 : Fin 1 → Memref sig .tc .vmem S1x1024 .f32 := fun | 0 => Memref.whole cc0_stg97_0 | ⟨_ + 1, h⟩ => absurd h (Nat.not_lt.2 (Nat.le_add_left _ _))
abbrev sem0_97 : Fin 1 → DmaSem sig := fun | 0 => cc0_sem97_0 | ⟨_ + 1, h⟩ => absurd h (Nat.not_lt.2 (Nat.le_add_left _ _))

abbrev stage0_98 : Fin 1 → Memref sig .tc .vmem S1x1024 .f32 := fun | 0 => Memref.whole cc0_stg98_0 | ⟨_ + 1, h⟩ => absurd h (Nat.not_lt.2 (Nat.le_add_left _ _))
abbrev sem0_98 : Fin 1 → DmaSem sig := fun | 0 => cc0_sem98_0 | ⟨_ + 1, h⟩ => absurd h (Nat.not_lt.2 (Nat.le_add_left _ _))

abbrev stage0_99 : Fin 1 → Memref sig .tc .vmem S2x3x32 .f32 := fun | 0 => Memref.whole cc0_stg99_0 | ⟨_ + 1, h⟩ => absurd h (Nat.not_lt.2 (Nat.le_add_left _ _))
abbrev sem0_99 : Fin 1 → DmaSem sig := fun | 0 => cc0_sem99_0 | ⟨_ + 1, h⟩ => absurd h (Nat.not_lt.2 (Nat.le_add_left _ _))

abbrev stage0_100 : Fin 1 → Memref sig .tc .vmem S2x3x32 .f32 := fun | 0 => Memref.whole cc0_stg100_0 | ⟨_ + 1, h⟩ => absurd h (Nat.not_lt.2 (Nat.le_add_left _ _))
abbrev sem0_100 : Fin 1 → DmaSem sig := fun | 0 => cc0_sem100_0 | ⟨_ + 1, h⟩ => absurd h (Nat.not_lt.2 (Nat.le_add_left _ _))

abbrev stage0_101 : Fin 1 → Memref sig .tc .vmem S2x3x32 .f32 := fun | 0 => Memref.whole cc0_stg101_0 | ⟨_ + 1, h⟩ => absurd h (Nat.not_lt.2 (Nat.le_add_left _ _))
abbrev sem0_101 : Fin 1 → DmaSem sig := fun | 0 => cc0_sem101_0 | ⟨_ + 1, h⟩ => absurd h (Nat.not_lt.2 (Nat.le_add_left _ _))

abbrev stage0_102 : Fin 1 → Memref sig .tc .vmem S2x31x32 .f32 := fun | 0 => Memref.whole cc0_stg102_0 | ⟨_ + 1, h⟩ => absurd h (Nat.not_lt.2 (Nat.le_add_left _ _))
abbrev sem0_102 : Fin 1 → DmaSem sig := fun | 0 => cc0_sem102_0 | ⟨_ + 1, h⟩ => absurd h (Nat.not_lt.2 (Nat.le_add_left _ _))

abbrev stage0_103 : Fin 1 → Memref sig .tc .vmem S2x31x32 .f32 := fun | 0 => Memref.whole cc0_stg103_0 | ⟨_ + 1, h⟩ => absurd h (Nat.not_lt.2 (Nat.le_add_left _ _))
abbrev sem0_103 : Fin 1 → DmaSem sig := fun | 0 => cc0_sem103_0 | ⟨_ + 1, h⟩ => absurd h (Nat.not_lt.2 (Nat.le_add_left _ _))

abbrev stage0_104 : Fin 1 → Memref sig .tc .vmem S2x31x32 .f32 := fun | 0 => Memref.whole cc0_stg104_0 | ⟨_ + 1, h⟩ => absurd h (Nat.not_lt.2 (Nat.le_add_left _ _))
abbrev sem0_104 : Fin 1 → DmaSem sig := fun | 0 => cc0_sem104_0 | ⟨_ + 1, h⟩ => absurd h (Nat.not_lt.2 (Nat.le_add_left _ _))
-- ==== AdamwRefIdeal.lean ====
abbrev S2x1024 : Shape := ⟨2, ![2, 1024]⟩
abbrev S2x256 : Shape := ⟨2, ![2, 256]⟩
abbrev S2x4x128x128 : Shape := ⟨4, ![2, 4, 128, 128]⟩
abbrev S2x4x128 : Shape := ⟨3, ![2, 4, 128]⟩
abbrev S2x4x64x64 : Shape := ⟨4, ![2, 4, 64, 64]⟩
abbrev S1x1024 : Shape := ⟨2, ![1, 1024]⟩
abbrev S2x3x32 : Shape := ⟨3, ![2, 3, 32]⟩
abbrev S2x31x32 : Shape := ⟨3, ![2, 31, 32]⟩
abbrev S_ : Shape := ⟨0, ![]⟩

abbrev nBuf : Space → Nat
  | .hbm => 324
  | .vmem => 0
  | .smem => 0
  | _ => 0

abbrev hbmTy0_0 (i : Nat) : BufTy := match i % 128 with
  | 0 => ⟨S2x1024, .f32⟩
  | 1 => ⟨S2x1024, .f32⟩
  | 2 => ⟨S2x256, .f32⟩
  | 3 => ⟨S2x4x128x128, .f32⟩
  | 4 => ⟨S2x4x128, .f32⟩
  | 5 => ⟨S2x256, .f32⟩
  | 6 => ⟨S2x256, .f32⟩
  | 7 => ⟨S2x4x64x64, .f32⟩
  | 8 => ⟨S2x256, .f32⟩
  | 9 => ⟨S2x1024, .f32⟩
  | 10 => ⟨S2x1024, .f32⟩
  | 11 => ⟨S2x1024, .f32⟩
  | 12 => ⟨S1x1024, .f32⟩
  | 13 => ⟨S2x3x32, .f32⟩
  | 14 => ⟨S2x31x32, .f32⟩
  | 15 => ⟨S2x1024, .f32⟩
  | 16 => ⟨S2x1024, .f32⟩
  | 17 => ⟨S2x256, .f32⟩
  | 18 => ⟨S2x4x128x128, .f32⟩
  | 19 => ⟨S2x4x128, .f32⟩
  | 20 => ⟨S2x256, .f32⟩
  | 21 => ⟨S2x256, .f32⟩
  | 22 => ⟨S2x4x64x64, .f32⟩
  | 23 => ⟨S2x256, .f32⟩
  | 24 => ⟨S2x1024, .f32⟩
  | 25 => ⟨S2x1024, .f32⟩
  | 26 => ⟨S2x1024, .f32⟩
  | 27 => ⟨S1x1024, .f32⟩
  | 28 => ⟨S2x3x32, .f32⟩
  | 29 => ⟨S2x31x32, .f32⟩
  | 30 => ⟨S2x1024, .f32⟩
  | 31 => ⟨S2x1024, .f32⟩
  | 32 => ⟨S2x256, .f32⟩
  | 33 => ⟨S2x4x128x128, .f32⟩
  | 34 => ⟨S2x4x128, .f32⟩
  | 35 => ⟨S2x256, .f32⟩
  | 36 => ⟨S2x256, .f32⟩
  | 37 => ⟨S2x4x64x64, .f32⟩
  | 38 => ⟨S2x256, .f32⟩
  | 39 => ⟨S2x1024, .f32⟩
  | 40 => ⟨S2x1024, .f32⟩
  | 41 => ⟨S2x1024, .f32⟩
  | 42 => ⟨S1x1024, .f32⟩
  | 43 => ⟨S2x3x32, .f32⟩
  | 44 => ⟨S2x31x32, .f32⟩
  | 45 => ⟨S2x1024, .f32⟩
  | 46 => ⟨S2x1024, .f32⟩
  | 47 => ⟨S2x256, .f32⟩
  | 48 => ⟨S2x4x128x128, .f32⟩
  | 49 => ⟨S2x4x128, .f32⟩
  | 50 => ⟨S2x256, .f32⟩
  | 51 => ⟨S2x256, .f32⟩
  | 52 => ⟨S2x4x64x64, .f32⟩
  | 53 => ⟨S2x256, .f32⟩
  | 54 => ⟨S2x1024, .f32⟩
  | 55 => ⟨S2x1024, .f32⟩
  | 56 => ⟨S2x1024, .f32⟩
  | 57 => ⟨S1x1024, .f32⟩
  | 58 => ⟨S2x3x32, .f32⟩
  | 59 => ⟨S2x31x32, .f32⟩
  | 60 => ⟨S_, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S2x1024, .f32⟩
  | 90 => ⟨S_, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S2x1024, .f32⟩
  | 123 => ⟨S_, .f32⟩
  | 124 => ⟨S2x1024, .f32⟩
  | 125 => ⟨S2x1024, .f32⟩
  | 126 => ⟨S_, .f32⟩
  | 127 => ⟨S2x256, .f32⟩
  | _ => ⟨S2x1024, .f32⟩

abbrev hbmTy0_1 (i : Nat) : BufTy := match i % 128 with
  | 0 => ⟨S2x256, .f32⟩
  | 1 => ⟨S_, .f32⟩
  | 2 => ⟨S2x256, .f32⟩
  | 3 => ⟨S2x256, .f32⟩
  | 4 => ⟨S2x256, .f32⟩
  | 5 => ⟨S_, .f32⟩
  | 6 => ⟨S2x256, .f32⟩
  | 7 => ⟨S2x256, .f32⟩
  | 8 => ⟨S2x256, .f32⟩
  | 9 => ⟨S_, .f32⟩
  | 10 => ⟨S2x256, .f32⟩
  | 11 => ⟨S2x256, .f32⟩
  | 12 => ⟨S2x256, .f32⟩
  | 13 => ⟨S_, .f32⟩
  | 14 => ⟨S2x256, .f32⟩
  | 15 => ⟨S2x256, .f32⟩
  | 16 => ⟨S_, .f32⟩
  | 17 => ⟨S2x256, .f32⟩
  | 18 => ⟨S2x256, .f32⟩
  | 19 => ⟨S2x256, .f32⟩
  | 20 => ⟨S_, .f32⟩
  | 21 => ⟨S2x256, .f32⟩
  | 22 => ⟨S2x256, .f32⟩
  | 23 => ⟨S2x256, .f32⟩
  | 24 => ⟨S_, .f32⟩
  | 25 => ⟨S2x256, .f32⟩
  | 26 => ⟨S2x256, .f32⟩
  | 27 => ⟨S2x256, .f32⟩
  | 28 => ⟨S_, .f32⟩
  | 29 => ⟨S2x256, .f32⟩
  | 30 => ⟨S2x256, .f32⟩
  | 31 => ⟨S_, .f32⟩
  | 32 => ⟨S2x4x128x128, .f32⟩
  | 33 => ⟨S2x4x128x128, .f32⟩
  | 34 => ⟨S_, .f32⟩
  | 35 => ⟨S2x4x128x128, .f32⟩
  | 36 => ⟨S2x4x128x128, .f32⟩
  | 37 => ⟨S2x4x128x128, .f32⟩
  | 38 => ⟨S_, .f32⟩
  | 39 => ⟨S2x4x128x128, .f32⟩
  | 40 => ⟨S2x4x128x128, .f32⟩
  | 41 => ⟨S2x4x128x128, .f32⟩
  | 42 => ⟨S_, .f32⟩
  | 43 => ⟨S2x4x128x128, .f32⟩
  | 44 => ⟨S2x4x128x128, .f32⟩
  | 45 => ⟨S2x4x128x128, .f32⟩
  | 46 => ⟨S_, .f32⟩
  | 47 => ⟨S2x4x128x128, .f32⟩
  | 48 => ⟨S2x4x128x128, .f32⟩
  | 49 => ⟨S_, .f32⟩
  | 50 => ⟨S2x4x128x128, .f32⟩
  | 51 => ⟨S2x4x128x128, .f32⟩
  | 52 => ⟨S2x4x128x128, .f32⟩
  | 53 => ⟨S_, .f32⟩
  | 54 => ⟨S2x4x128x128, .f32⟩
  | 55 => ⟨S2x4x128x128, .f32⟩
  | 56 => ⟨S2x4x128x128, .f32⟩
  | 57 => ⟨S_, .f32⟩
  | 58 => ⟨S2x4x128x128, .f32⟩
  | 59 => ⟨S2x4x128x128, .f32⟩
  | 60 => ⟨S2x4x128x128, .f32⟩
  | 61 => ⟨S_, .f32⟩
  | 62 => ⟨S2x4x128x128, .f32⟩
  | 63 => ⟨S2x4x128x128, .f32⟩
  | 64 => ⟨S_, .f32⟩
  | 65 => ⟨S2x4x128, .f32⟩
  | 66 => ⟨S2x4x128, .f32⟩
  | 67 => ⟨S_, .f32⟩
  | 68 => ⟨S2x4x128, .f32⟩
  | 69 => ⟨S2x4x128, .f32⟩
  | 70 => ⟨S2x4x128, .f32⟩
  | 71 => ⟨S_, .f32⟩
  | 72 => ⟨S2x4x128, .f32⟩
  | 73 => ⟨S2x4x128, .f32⟩
  | 74 => ⟨S2x4x128, .f32⟩
  | 75 => ⟨S_, .f32⟩
  | 76 => ⟨S2x4x128, .f32⟩
  | 77 => ⟨S2x4x128, .f32⟩
  | 78 => ⟨S2x4x128, .f32⟩
  | 79 => ⟨S_, .f32⟩
  | 80 => ⟨S2x4x128, .f32⟩
  | 81 => ⟨S2x4x128, .f32⟩
  | 82 => ⟨S_, .f32⟩
  | 83 => ⟨S2x4x128, .f32⟩
  | 84 => ⟨S2x4x128, .f32⟩
  | 85 => ⟨S2x4x128, .f32⟩
  | 86 => ⟨S_, .f32⟩
  | 87 => ⟨S2x4x128, .f32⟩
  | 88 => ⟨S2x4x128, .f32⟩
  | 89 => ⟨S2x4x128, .f32⟩
  | 90 => ⟨S_, .f32⟩
  | 91 => ⟨S2x4x128, .f32⟩
  | 92 => ⟨S2x4x128, .f32⟩
  | 93 => ⟨S2x4x128, .f32⟩
  | 94 => ⟨S_, .f32⟩
  | 95 => ⟨S2x4x128, .f32⟩
  | 96 => ⟨S2x4x128, .f32⟩
  | 97 => ⟨S_, .f32⟩
  | 98 => ⟨S2x256, .f32⟩
  | 99 => ⟨S2x256, .f32⟩
  | 100 => ⟨S_, .f32⟩
  | 101 => ⟨S2x256, .f32⟩
  | 102 => ⟨S2x256, .f32⟩
  | 103 => ⟨S2x256, .f32⟩
  | 104 => ⟨S_, .f32⟩
  | 105 => ⟨S2x256, .f32⟩
  | 106 => ⟨S2x256, .f32⟩
  | 107 => ⟨S2x256, .f32⟩
  | 108 => ⟨S_, .f32⟩
  | 109 => ⟨S2x256, .f32⟩
  | 110 => ⟨S2x256, .f32⟩
  | 111 => ⟨S2x256, .f32⟩
  | 112 => ⟨S_, .f32⟩
  | 113 => ⟨S2x256, .f32⟩
  | 114 => ⟨S2x256, .f32⟩
  | 115 => ⟨S_, .f32⟩
  | 116 => ⟨S2x256, .f32⟩
  | 117 => ⟨S2x256, .f32⟩
  | 118 => ⟨S2x256, .f32⟩
  | 119 => ⟨S_, .f32⟩
  | 120 => ⟨S2x256, .f32⟩
  | 121 => ⟨S2x256, .f32⟩
  | 122 => ⟨S2x256, .f32⟩
  | 123 => ⟨S_, .f32⟩
  | 124 => ⟨S2x256, .f32⟩
  | 125 => ⟨S2x256, .f32⟩
  | 126 => ⟨S2x256, .f32⟩
  | 127 => ⟨S_, .f32⟩
  | _ => ⟨S2x1024, .f32⟩

abbrev hbmTy0_2 (i : Nat) : BufTy := match i % 128 with
  | 0 => ⟨S2x256, .f32⟩
  | 1 => ⟨S2x256, .f32⟩
  | 2 => ⟨S_, .f32⟩
  | 3 => ⟨S2x256, .f32⟩
  | 4 => ⟨S2x256, .f32⟩
  | 5 => ⟨S_, .f32⟩
  | 6 => ⟨S2x256, .f32⟩
  | 7 => ⟨S2x256, .f32⟩
  | 8 => ⟨S2x256, .f32⟩
  | 9 => ⟨S_, .f32⟩
  | 10 => ⟨S2x256, .f32⟩
  | 11 => ⟨S2x256, .f32⟩
  | 12 => ⟨S2x256, .f32⟩
  | 13 => ⟨S_, .f32⟩
  | 14 => ⟨S2x256, .f32⟩
  | 15 => ⟨S2x256, .f32⟩
  | 16 => ⟨S2x256, .f32⟩
  | 17 => ⟨S_, .f32⟩
  | 18 => ⟨S2x256, .f32⟩
  | 19 => ⟨S2x256, .f32⟩
  | 20 => ⟨S_, .f32⟩
  | 21 => ⟨S2x256, .f32⟩
  | 22 => ⟨S2x256, .f32⟩
  | 23 => ⟨S2x256, .f32⟩
  | 24 => ⟨S_, .f32⟩
  | 25 => ⟨S2x256, .f32⟩
  | 26 => ⟨S2x256, .f32⟩
  | 27 => ⟨S2x256, .f32⟩
  | 28 => ⟨S_, .f32⟩
  | 29 => ⟨S2x256, .f32⟩
  | 30 => ⟨S2x256, .f32⟩
  | 31 => ⟨S2x256, .f32⟩
  | 32 => ⟨S_, .f32⟩
  | 33 => ⟨S2x256, .f32⟩
  | 34 => ⟨S2x256, .f32⟩
  | 35 => ⟨S_, .f32⟩
  | 36 => ⟨S2x4x64x64, .f32⟩
  | 37 => ⟨S2x4x64x64, .f32⟩
  | 38 => ⟨S_, .f32⟩
  | 39 => ⟨S2x4x64x64, .f32⟩
  | 40 => ⟨S2x4x64x64, .f32⟩
  | 41 => ⟨S2x4x64x64, .f32⟩
  | 42 => ⟨S_, .f32⟩
  | 43 => ⟨S2x4x64x64, .f32⟩
  | 44 => ⟨S2x4x64x64, .f32⟩
  | 45 => ⟨S2x4x64x64, .f32⟩
  | 46 => ⟨S_, .f32⟩
  | 47 => ⟨S2x4x64x64, .f32⟩
  | 48 => ⟨S2x4x64x64, .f32⟩
  | 49 => ⟨S2x4x64x64, .f32⟩
  | 50 => ⟨S_, .f32⟩
  | 51 => ⟨S2x4x64x64, .f32⟩
  | 52 => ⟨S2x4x64x64, .f32⟩
  | 53 => ⟨S_, .f32⟩
  | 54 => ⟨S2x4x64x64, .f32⟩
  | 55 => ⟨S2x4x64x64, .f32⟩
  | 56 => ⟨S2x4x64x64, .f32⟩
  | 57 => ⟨S_, .f32⟩
  | 58 => ⟨S2x4x64x64, .f32⟩
  | 59 => ⟨S2x4x64x64, .f32⟩
  | 60 => ⟨S2x4x64x64, .f32⟩
  | 61 => ⟨S_, .f32⟩
  | 62 => ⟨S2x4x64x64, .f32⟩
  | 63 => ⟨S2x4x64x64, .f32⟩
  | 64 => ⟨S2x4x64x64, .f32⟩
  | 65 => ⟨S_, .f32⟩
  | 66 => ⟨S2x4x64x64, .f32⟩
  | 67 => ⟨S2x4x64x64, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩
abbrev main_cst_62 : Ref sig .tc := ⟨.hbm, 291, rfl⟩
abbrev main_v168 : Ref sig .tc := ⟨.hbm, 292, rfl⟩
abbrev main_v169 : Ref sig .tc := ⟨.hbm, 293, rfl⟩
abbrev main_cst_63 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_64 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_65 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_66 : Ref sig .tc := ⟨.hbm, 306, rfl⟩
abbrev main_v179 : Ref sig .tc := ⟨.hbm, 307, rfl⟩
abbrev main_v180 : Ref sig .tc := ⟨.hbm, 308, rfl⟩
abbrev main_cst_67 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_68 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_cst_69 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_70 : Ref sig .tc := ⟨.hbm, 321, rfl⟩
abbrev main_v190 : Ref sig .tc := ⟨.hbm, 322, rfl⟩
abbrev main_v191 : Ref sig .tc := ⟨.hbm, 323, rfl⟩

abbrev nD : Nat := 1
abbrev τ : Topo := Topo.v7x

variable {F : FTy → Type} [FloatOps F]
-- ==== AdamwLastIdeal.lean ====
abbrev S2x1024 : Shape := ⟨2, ![2, 1024]⟩
abbrev S2x256 : Shape := ⟨2, ![2, 256]⟩
abbrev S2x4x128x128 : Shape := ⟨4, ![2, 4, 128, 128]⟩
abbrev S2x4x128 : Shape := ⟨3, ![2, 4, 128]⟩
abbrev S2x4x64x64 : Shape := ⟨4, ![2, 4, 64, 64]⟩
abbrev S1x1024 : Shape := ⟨2, ![1, 1024]⟩
abbrev S2x3x32 : Shape := ⟨3, ![2, 3, 32]⟩
abbrev S2x31x32 : Shape := ⟨3, ![2, 31, 32]⟩

abbrev nBuf : Space → Nat
  | .hbm => 105
  | .vmem => 105
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x256, .f32⟩
  | .hbm, ⟨3, _⟩ => ⟨S2x4x128x128, .f32⟩
  | .hbm, ⟨4, _⟩ => ⟨S2x4x128, .f32⟩
  | .hbm, ⟨5, _⟩ => ⟨S2x256, .f32⟩
  | .hbm, ⟨6, _⟩ => ⟨S2x256, .f32⟩
  | .hbm, ⟨7, _⟩ => ⟨S2x4x64x64, .f32⟩
  | .hbm, ⟨8, _⟩ => ⟨S2x256, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024, .f32⟩
  | .hbm, ⟨13, _⟩ => ⟨S2x3x32, .f32⟩
  | .hbm, ⟨14, _⟩ => ⟨S2x31x32, .f32⟩
  | .hbm, ⟨15, _⟩ => ⟨S2x1024, .f32⟩
  | .hbm, ⟨16, _⟩ => ⟨S2x1024, .f32⟩
  | .hbm, ⟨17, _⟩ => ⟨S2x256, .f32⟩
  | .hbm, ⟨18, _⟩ => ⟨S2x4x128x128, .f32⟩
  | .hbm, ⟨19, _⟩ => ⟨S2x4x128, .f32⟩
  | .hbm, ⟨20, _⟩ => ⟨S2x256, .f32⟩
  | .hbm, ⟨21, _⟩ => ⟨S2x256, .f32⟩
  | .hbm, ⟨22, _⟩ => ⟨S2x4x64x64, .f32⟩
  | .hbm, ⟨23, _⟩ => ⟨S2x256, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S1x1024, .f32⟩
  | .hbm, ⟨28, _⟩ => ⟨S2x3x32, .f32⟩
  | .hbm, ⟨29, _⟩ => ⟨S2x31x32, .f32⟩
  | .hbm, ⟨30, _⟩ => ⟨S2x1024, .f32⟩
  | .hbm, ⟨31, _⟩ => ⟨S2x1024, .f32⟩
  | .hbm, ⟨32, _⟩ => ⟨S2x256, .f32⟩
  | .hbm, ⟨33, _⟩ => ⟨S2x4x128x128, .f32⟩
  | .hbm, ⟨34, _⟩ => ⟨S2x4x128, .f32⟩
  | .hbm, ⟨35, _⟩ => ⟨S2x256, .f32⟩
  | .hbm, ⟨36, _⟩ => ⟨S2x256, .f32⟩
  | .hbm, ⟨37, _⟩ => ⟨S2x4x64x64, .f32⟩
  | .hbm, ⟨38, _⟩ => ⟨S2x256, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S1x1024, .f32⟩
  | .hbm, ⟨43, _⟩ => ⟨S2x3x32, .f32⟩
  | .hbm, ⟨44, _⟩ => ⟨S2x31x32, .f32⟩
  | .hbm, ⟨45, _⟩ => ⟨S2x1024, .f32⟩
  | .hbm, ⟨46, _⟩ => ⟨S2x1024, .f32⟩
  | .hbm, ⟨47, _⟩ => ⟨S2x256, .f32⟩
  | .hbm, ⟨48, _⟩ => ⟨S2x4x128x128, .f32⟩
  | .hbm, ⟨49, _⟩ => ⟨S2x4x128, .f32⟩
  | .hbm, ⟨50, _⟩ => ⟨S2x256, .f32⟩
  | .hbm, ⟨51, _⟩ => ⟨S2x256, .f32⟩
  | .hbm, ⟨52, _⟩ => ⟨S2x4x64x64, .f32⟩
  | .hbm, ⟨53, _⟩ => ⟨S2x256, .f32⟩
  | .hbm, ⟨54, _⟩ => ⟨S2x1024, .f32⟩
  | .hbm, ⟨55, _⟩ => ⟨S2x1024, .f32⟩
  | .hbm, ⟨56, _⟩ => ⟨S2x1024, .f32⟩
  | .hbm, ⟨57, _⟩ => ⟨S1x1024, .f32⟩
  | .hbm, ⟨58, _⟩ => ⟨S2x3x32, .f32⟩
  | .hbm, ⟨59, _⟩ => ⟨S2x31x32, .f32⟩
  | .hbm, ⟨60, _⟩ => ⟨S2x1024, .f32⟩
  | .hbm, ⟨61, _⟩ => ⟨S2x1024, .f32⟩
  | .hbm, ⟨62, _⟩ => ⟨S2x1024, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S2x256, .f32⟩
  | .hbm, ⟨67, _⟩ => ⟨S2x256, .f32⟩
  | .hbm, ⟨68, _⟩ => ⟨S2x256, .f32⟩
  | .hbm, ⟨69, _⟩ => ⟨S2x4x128x128, .f32⟩
  | .hbm, ⟨70, _⟩ => ⟨S2x4x128x128, .f32⟩
  | .hbm, ⟨71, _⟩ => ⟨S2x4x128x128, .f32⟩
  | .hbm, ⟨72, _⟩ => ⟨S2x4x128, .f32⟩
  | .hbm, ⟨73, _⟩ => ⟨S2x4x128, .f32⟩
  | .hbm, ⟨74, _⟩ => ⟨S2x4x128, .f32⟩
  | .hbm, ⟨75, _⟩ => ⟨S2x256, .f32⟩
  | .hbm, ⟨76, _⟩ => ⟨S2x256, .f32⟩
  | .hbm, ⟨77, _⟩ => ⟨S2x256, .f32⟩
  | .hbm, ⟨78, _⟩ => ⟨S2x256, .f32⟩
  | .hbm, ⟨79, _⟩ => ⟨S2x256, .f32⟩
  | .hbm, ⟨80, _⟩ => ⟨S2x256, .f32⟩
  | .hbm, ⟨81, _⟩ => ⟨S2x4x64x64, .f32⟩
  | .hbm, ⟨82, _⟩ => ⟨S2x4x64x64, .f32⟩
  | .hbm, ⟨83, _⟩ => ⟨S2x4x64x64, .f32⟩
  | .hbm, ⟨84, _⟩ => ⟨S2x256, .f32⟩
  | .hbm, ⟨85, _⟩ => ⟨S2x256, .f32⟩
  | .hbm, ⟨86, _⟩ => ⟨S2x256, .f32⟩
  | .hbm, ⟨87, _⟩ => ⟨S2x1024, .f32⟩
  | .hbm, ⟨88, _⟩ => ⟨S2x1024, .f32⟩
  | .hbm, ⟨89, _⟩ => ⟨S2x1024, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S2x1024, .f32⟩
  | .hbm, ⟨94, _⟩ => ⟨S2x1024, .f32⟩
  | .hbm, ⟨95, _⟩ => ⟨S2x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S2x3x32, .f32⟩
  | .hbm, ⟨100, _⟩ => ⟨S2x3x32, .f32⟩
  | .hbm, ⟨101, _⟩ => ⟨S2x3x32, .f32⟩
  | .hbm, ⟨102, _⟩ => ⟨S2x31x32, .f32⟩
  | .hbm, ⟨103, _⟩ => ⟨S2x31x32, .f32⟩
  | .hbm, ⟨104, _⟩ => ⟨S2x31x32, .f32⟩
  | .local _ .vmem, ⟨0, _⟩ => ⟨S2x1024, .f32⟩
  | .local _ .vmem, ⟨1, _⟩ => ⟨S2x1024, .f32⟩
  | .local _ .vmem, ⟨2, _⟩ => ⟨S2x256, .f32⟩
  | .local _ .vmem, ⟨3, _⟩ => ⟨S2x4x128x128, .f32⟩
  | .local _ .vmem, ⟨4, _⟩ => ⟨S2x4x128, .f32⟩
  | .local _ .vmem, ⟨5, _⟩ => ⟨S2x256, .f32⟩
  | .local _ .vmem, ⟨6, _⟩ => ⟨S2x256, .f32⟩
  | .local _ .vmem, ⟨7, _⟩ => ⟨S2x4x64x64, .f32⟩
  | .local _ .vmem, ⟨8, _⟩ => ⟨S2x256, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S1x1024, .f32⟩
  | .local _ .vmem, ⟨13, _⟩ => ⟨S2x3x32, .f32⟩
  | .local _ .vmem, ⟨14, _⟩ => ⟨S2x31x32, .f32⟩
  | .local _ .vmem, ⟨15, _⟩ => ⟨S2x1024, .f32⟩
  | .local _ .vmem, ⟨16, _⟩ => ⟨S2x1024, .f32⟩
  | .local _ .vmem, ⟨17, _⟩ => ⟨S2x256, .f32⟩
  | .local _ .vmem, ⟨18, _⟩ => ⟨S2x4x128x128, .f32⟩
  | .local _ .vmem, ⟨19, _⟩ => ⟨S2x4x128, .f32⟩
  | .local _ .vmem, ⟨20, _⟩ => ⟨S2x256, .f32⟩
  | .local _ .vmem, ⟨21, _⟩ => ⟨S2x256, .f32⟩
  | .local _ .vmem, ⟨22, _⟩ => ⟨S2x4x64x64, .f32⟩
  | .local _ .vmem, ⟨23, _⟩ => ⟨S2x256, .f32⟩
  | .local _ .vmem, ⟨24, _⟩ => ⟨S2x1024, .f32⟩
  | .local _ .vmem, ⟨25, _⟩ => ⟨S2x1024, .f32⟩
  | .local _ .vmem, ⟨26, _⟩ => ⟨S2x1024, .f32⟩
  | .local _ .vmem, ⟨27, _⟩ => ⟨S1x1024, .f32⟩
  | .local _ .vmem, ⟨28, _⟩ => ⟨S2x3x32, .f32⟩
  | .local _ .vmem, ⟨29, _⟩ => ⟨S2x31x32, .f32⟩
  | .local _ .vmem, ⟨30, _⟩ => ⟨S2x1024, .f32⟩
  | .local _ .vmem, ⟨31, _⟩ => ⟨S2x1024, .f32⟩
  | .local _ .vmem, ⟨32, _⟩ => ⟨S2x256, .f32⟩
  | .local _ .vmem, ⟨33, _⟩ => ⟨S2x4x128x128, .f32⟩
  | .local _ .vmem, ⟨34, _⟩ => ⟨S2x4x128, .f32⟩
  | .local _ .vmem, ⟨35, _⟩ => ⟨S2x256, .f32⟩
  | .local _ .vmem, ⟨36, _⟩ => ⟨S2x256, .f32⟩
  | .local _ .vmem, ⟨37, _⟩ => ⟨S2x4x64x64, .f32⟩
  | .local _ .vmem, ⟨38, _⟩ => ⟨S2x256, .f32⟩
  | .local _ .vmem, ⟨39, _⟩ => ⟨S2x1024, .f32⟩
  | .local _ .vmem, ⟨40, _⟩ => ⟨S2x1024, .f32⟩
  | .local _ .vmem, ⟨41, _⟩ => ⟨S2x1024, .f32⟩
  | .local _ .vmem, ⟨42, _⟩ => ⟨S1x1024, .f32⟩
  | .local _ .vmem, ⟨43, _⟩ => ⟨S2x3x32, .f32⟩
  | .local _ .vmem, ⟨44, _⟩ => ⟨S2x31x32, .f32⟩
  | .local _ .vmem, ⟨45, _⟩ => ⟨S2x1024, .f32⟩
  | .local _ .vmem, ⟨46, _⟩ => ⟨S2x1024, .f32⟩
  | .local _ .vmem, ⟨47, _⟩ => ⟨S2x256, .f32⟩
  | .local _ .vmem, ⟨48, _⟩ => ⟨S2x4x128x128, .f32⟩
  | .local _ .vmem, ⟨49, _⟩ => ⟨S2x4x128, .f32⟩
  | .local _ .vmem, ⟨50, _⟩ => ⟨S2x256, .f32⟩
  | .local _ .vmem, ⟨51, _⟩ => ⟨S2x256, .f32⟩
  | .local _ .vmem, ⟨52, _⟩ => ⟨S2x4x64x64, .f32⟩
  | .local _ .vmem, ⟨53, _⟩ => ⟨S2x256, .f32⟩
  | .local _ .vmem, ⟨54, _⟩ => ⟨S2x1024, .f32⟩
  | .local _ .vmem, ⟨55, _⟩ => ⟨S2x1024, .f32⟩
  | .local _ .vmem, ⟨56, _⟩ => ⟨S2x1024, .f32⟩
  | .local _ .vmem, ⟨57, _⟩ => ⟨S1x1024, .f32⟩
  | .local _ .vmem, ⟨58, _⟩ => ⟨S2x3x32, .f32⟩
  | .local _ .vmem, ⟨59, _⟩ => ⟨S2x31x32, .f32⟩
  | .local _ .vmem, ⟨60, _⟩ => ⟨S2x1024, .f32⟩
  | .local _ .vmem, ⟨61, _⟩ => ⟨S2x1024, .f32⟩
  | .local _ .vmem, ⟨62, _⟩ => ⟨S2x1024, .f32⟩
  | .local _ .vmem, ⟨63, _⟩ => ⟨S2x1024, .f32⟩
  | .local _ .vmem, ⟨64, _⟩ => ⟨S2x1024, .f32⟩
  | .local _ .vmem, ⟨65, _⟩ => ⟨S2x1024, .f32⟩
  | .local _ .vmem, ⟨66, _⟩ => ⟨S2x256, .f32⟩
  | .local _ .vmem, ⟨67, _⟩ => ⟨S2x256, .f32⟩
  | .local _ .vmem, ⟨68, _⟩ => ⟨S2x256, .f32⟩
  | .local _ .vmem, ⟨69, _⟩ => ⟨S2x4x128x128, .f32⟩
  | .local _ .vmem, ⟨70, _⟩ => ⟨S2x4x128x128, .f32⟩
  | .local _ .vmem, ⟨71, _⟩ => ⟨S2x4x128x128, .f32⟩
  | .local _ .vmem, ⟨72, _⟩ => ⟨S2x4x128, .f32⟩
  | .local _ .vmem, ⟨73, _⟩ => ⟨S2x4x128, .f32⟩
  | .local _ .vmem, ⟨74, _⟩ => ⟨S2x4x128, .f32⟩
  | .local _ .vmem, ⟨75, _⟩ => ⟨S2x256, .f32⟩
  | .local _ .vmem, ⟨76, _⟩ => ⟨S2x256, .f32⟩
  | .local _ .vmem, ⟨77, _⟩ => ⟨S2x256, .f32⟩
  | .local _ .vmem, ⟨78, _⟩ => ⟨S2x256, .f32⟩
  | .local _ .vmem, ⟨79, _⟩ => ⟨S2x256, .f32⟩
  | .local _ .vmem, ⟨80, _⟩ => ⟨S2x256, .f32⟩
  | .local _ .vmem, ⟨81, _⟩ => ⟨S2x4x64x64, .f32⟩
  | .local _ .vmem, ⟨82, _⟩ => ⟨S2x4x64x64, .f32⟩
  | .local _ .vmem, ⟨83, _⟩ => ⟨S2x4x64x64, .f32⟩
  | .local _ .vmem, ⟨84, _⟩ => ⟨S2x256, .f32⟩
  | .local _ .vmem, ⟨85, _⟩ => ⟨S2x256, .f32⟩
  | .local _ .vmem, ⟨86, _⟩ => ⟨S2x256, .f32⟩
  | .local _ .vmem, ⟨87, _⟩ => ⟨S2x1024, .f32⟩
  | .local _ .vmem, ⟨88, _⟩ => ⟨S2x1024, .f32⟩
  | .local _ .vmem, ⟨89, _⟩ => ⟨S2x1024, .f32⟩
  | .local _ .vmem, ⟨90, _⟩ => ⟨S2x1024, .f32⟩
  | .local _ .vmem, ⟨91, _⟩ => ⟨S2x1024, .f32⟩
  | .local _ .vmem, ⟨92, _⟩ => ⟨S2x1024, .f32⟩
  | .local _ .vmem, ⟨93, _⟩ => ⟨S2x1024, .f32⟩
  | .local _ .vmem, ⟨94, _⟩ => ⟨S2x1024, .f32⟩
  | .local _ .vmem, ⟨95, _⟩ => ⟨S2x1024, .f32⟩
  | .local _ .vmem, ⟨96, _⟩ => ⟨S1x1024, .f32⟩
  | .local _ .vmem, ⟨97, _⟩ => ⟨S1x1024, .f32⟩
  | .local _ .vmem, ⟨98, _⟩ => ⟨S1x1024, .f32⟩
  | .local _ .vmem, ⟨99, _⟩ => ⟨S2x3x32, .f32⟩
  | .local _ .vmem, ⟨100, _⟩ => ⟨S2x3x32, .f32⟩
  | .local _ .vmem, ⟨101, _⟩ => ⟨S2x3x32, .f32⟩
  | .local _ .vmem, ⟨102, _⟩ => ⟨S2x31x32, .f32⟩
  | .local _ .vmem, ⟨103, _⟩ => ⟨S2x31x32, .f32⟩
  | .local _ .vmem, ⟨104, _⟩ => ⟨S2x31x32, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0_0 : Ref sig .tc := ⟨.hbm, 60, rfl⟩
abbrev main_v0_1 : Ref sig .tc := ⟨.hbm, 61, rfl⟩
abbrev main_v0_2 : Ref sig .tc := ⟨.hbm, 62, rfl⟩
abbrev main_v0_3 : Ref sig .tc := ⟨.hbm, 63, rfl⟩
abbrev main_v0_4 : Ref sig .tc := ⟨.hbm, 64, rfl⟩
abbrev main_v0_5 : Ref sig .tc := ⟨.hbm, 65, rfl⟩
abbrev main_v0_6 : Ref sig .tc := ⟨.hbm, 66, rfl⟩
abbrev main_v0_7 : Ref sig .tc := ⟨.hbm, 67, rfl⟩
abbrev main_v0_8 : Ref sig .tc := ⟨.hbm, 68, rfl⟩
abbrev main_v0_9 : Ref sig .tc := ⟨.hbm, 69, rfl⟩
abbrev main_v0_10 : Ref sig .tc := ⟨.hbm, 70, rfl⟩
abbrev main_v0_11 : Ref sig .tc := ⟨.hbm, 71, rfl⟩
abbrev main_v0_12 : Ref sig .tc := ⟨.hbm, 72, rfl⟩
abbrev main_v0_13 : Ref sig .tc := ⟨.hbm, 73, rfl⟩
abbrev main_v0_14 : Ref sig .tc := ⟨.hbm, 74, rfl⟩
abbrev main_v0_15 : Ref sig .tc := ⟨.hbm, 75, rfl⟩
abbrev main_v0_16 : Ref sig .tc := ⟨.hbm, 76, rfl⟩
abbrev main_v0_17 : Ref sig .tc := ⟨.hbm, 77, rfl⟩
abbrev main_v0_18 : Ref sig .tc := ⟨.hbm, 78, rfl⟩
abbrev main_v0_19 : Ref sig .tc := ⟨.hbm, 79, rfl⟩
abbrev main_v0_20 : Ref sig .tc := ⟨.hbm, 80, rfl⟩
abbrev main_v0_21 : Ref sig .tc := ⟨.hbm, 81, rfl⟩
abbrev main_v0_22 : Ref sig .tc := ⟨.hbm, 82, rfl⟩
abbrev main_v0_23 : Ref sig .tc := ⟨.hbm, 83, rfl⟩
abbrev main_v0_24 : Ref sig .tc := ⟨.hbm, 84, rfl⟩
abbrev main_v0_25 : Ref sig .tc := ⟨.hbm, 85, rfl⟩
abbrev main_v0_26 : Ref sig .tc := ⟨.hbm, 86, rfl⟩
abbrev main_v0_27 : Ref sig .tc := ⟨.hbm, 87, rfl⟩
abbrev main_v0_28 : Ref sig .tc := ⟨.hbm, 88, rfl⟩
abbrev main_v0_29 : Ref sig .tc := ⟨.hbm, 89, rfl⟩
abbrev main_v0_30 : Ref sig .tc := ⟨.hbm, 90, rfl⟩
abbrev main_v0_31 : Ref sig .tc := ⟨.hbm, 91, rfl⟩
abbrev main_v0_32 : Ref sig .tc := ⟨.hbm, 92, rfl⟩
abbrev main_v0_33 : Ref sig .tc := ⟨.hbm, 93, rfl⟩
abbrev main_v0_34 : Ref sig .tc := ⟨.hbm, 94, rfl⟩
abbrev main_v0_35 : Ref sig .tc := ⟨.hbm, 95, rfl⟩
abbrev main_v0_36 : Ref sig .tc := ⟨.hbm, 96, rfl⟩
abbrev main_v0_37 : Ref sig .tc := ⟨.hbm, 97, rfl⟩
abbrev main_v0_38 : Ref sig .tc := ⟨.hbm, 98, rfl⟩
abbrev main_v0_39 : Ref sig .tc := ⟨.hbm, 99, rfl⟩
abbrev main_v0_40 : Ref sig .tc := ⟨.hbm, 100, rfl⟩
abbrev main_v0_41 : Ref sig .tc := ⟨.hbm, 101, rfl⟩
abbrev main_v0_42 : Ref sig .tc := ⟨.hbm, 102, rfl⟩
abbrev main_v0_43 : Ref sig .tc := ⟨.hbm, 103, rfl⟩
abbrev main_v0_44 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_stg90_0 : Ref sig .tc := ⟨.vmem, 90, rfl⟩
abbrev cc0_stg91_0 : Ref sig .tc := ⟨.vmem, 91, rfl⟩
abbrev cc0_stg92_0 : Ref sig .tc := ⟨.vmem, 92, rfl⟩
abbrev cc0_stg93_0 : Ref sig .tc := ⟨.vmem, 93, rfl⟩
abbrev cc0_stg94_0 : Ref sig .tc := ⟨.vmem, 94, rfl⟩
abbrev cc0_stg95_0 : Ref sig .tc := ⟨.vmem, 95, rfl⟩
abbrev cc0_stg96_0 : Ref sig .tc := ⟨.vmem, 96, rfl⟩
abbrev cc0_stg97_0 : Ref sig .tc := ⟨.vmem, 97, rfl⟩
abbrev cc0_stg98_0 : Ref sig .tc := ⟨.vmem, 98, rfl⟩
abbrev cc0_stg99_0 : Ref sig .tc := ⟨.vmem, 99, rfl⟩
abbrev cc0_stg100_0 : Ref sig .tc := ⟨.vmem, 100, rfl⟩
abbrev cc0_stg101_0 : Ref sig .tc := ⟨.vmem, 101, rfl⟩
abbrev cc0_stg102_0 : Ref sig .tc := ⟨.vmem, 102, rfl⟩
abbrev cc0_stg103_0 : Ref sig .tc := ⟨.vmem, 103, rfl⟩
abbrev cc0_stg104_0 : Ref sig .tc := ⟨.vmem, 104, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89
abbrev cc0_sem90_0 : DmaSem sig := 90
abbrev cc0_sem91_0 : DmaSem sig := 91
abbrev cc0_sem92_0 : DmaSem sig := 92
abbrev cc0_sem93_0 : DmaSem sig := 93
abbrev cc0_sem94_0 : DmaSem sig := 94
abbrev cc0_sem95_0 : DmaSem sig := 95
abbrev cc0_sem96_0 : DmaSem sig := 96
abbrev cc0_sem97_0 : DmaSem sig := 97
abbrev cc0_sem98_0 : DmaSem sig := 98
abbrev cc0_sem99_0 : DmaSem sig := 99
abbrev cc0_sem100_0 : DmaSem sig := 100
abbrev cc0_sem101_0 : DmaSem sig := 101
abbrev cc0_sem102_0 : DmaSem sig := 102
abbrev cc0_sem103_0 : DmaSem sig := 103
abbrev cc0_sem104_0 : DmaSem sig := 104

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x31x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x4x64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x3x32 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x31x32 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x4x128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x4x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x4x64x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x3x32 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x31x32 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x256 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x4x128x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S2x4x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x4x64x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x256 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S2x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S2x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S2x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S2x3x32 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S2x31x32 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S2x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S2x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S2x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S2x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S2x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S2x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S2x256 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S2x256 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S2x256 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S2x4x128x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S2x4x128x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S2x4x128x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S2x4x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S2x4x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S2x4x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S2x256 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S2x256 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S2x256 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S2x256 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S2x256 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S2x256 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S2x4x64x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S2x4x64x64 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S2x4x64x64 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S2x256 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S2x256 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S2x256 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S2x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S2x1024 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S2x1024 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))

abbrev stage0_90 : Fin 1 → Memref sig .tc .vmem S2x1024 .f32 := fun | 0 => Memref.whole cc0_stg90_0 | ⟨_ + 1, h⟩ => absurd h (Nat.not_lt.2 (Nat.le_add_left _ _))
abbrev sem0_90 : Fin 1 → DmaSem sig := fun | 0 => cc0_sem90_0 | ⟨_ + 1, h⟩ => absurd h (Nat.not_lt.2 (Nat.le_add_left _ _))

abbrev stage0_91 : Fin 1 → Memref sig .tc .vmem S2x1024 .f32 := fun | 0 => Memref.whole cc0_stg91_0 | ⟨_ + 1, h⟩ => absurd h (Nat.not_lt.2 (Nat.le_add_left _ _))
abbrev sem0_91 : Fin 1 → DmaSem sig := fun | 0 => cc0_sem91_0 | ⟨_ + 1, h⟩ => absurd h (Nat.not_lt.2 (Nat.le_add_left _ _))

abbrev stage0_92 : Fin 1 → Memref sig .tc .vmem S2x1024 .f32 := fun | 0 => Memref.whole cc0_stg92_0 | ⟨_ + 1, h⟩ => absurd h (Nat.not_lt.2 (Nat.le_add_left _ _))
abbrev sem0_92 : Fin 1 → DmaSem sig := fun | 0 => cc0_sem92_0 | ⟨_ + 1, h⟩ => absurd h (Nat.not_lt.2 (Nat.le_add_left _ _))

abbrev stage0_93 : Fin 1 → Memref sig .tc .vmem S2x1024 .f32 := fun | 0 => Memref.whole cc0_stg93_0 | ⟨_ + 1, h⟩ => absurd h (Nat.not_lt.2 (Nat.le_add_left _ _))
abbrev sem0_93 : Fin 1 → DmaSem sig := fun | 0 => cc0_sem93_0 | ⟨_ + 1, h⟩ => absurd h (Nat.not_lt.2 (Nat.le_add_left _ _))

abbrev stage0_94 : Fin 1 → Memref sig .tc .vmem S2x1024 .f32 := fun | 0 => Memref.whole cc0_stg94_0 | ⟨_ + 1, h⟩ => absurd h (Nat.not_lt.2 (Nat.le_add_left _ _))
abbrev sem0_94 : Fin 1 → DmaSem sig := fun | 0 => cc0_sem94_0 | ⟨_ + 1, h⟩ => absurd h (Nat.not_lt.2 (Nat.le_add_left _ _))

abbrev stage0_95 : Fin 1 → Memref sig .tc .vmem S2x1024 .f32 := fun | 0 => Memref.whole cc0_stg95_0 | ⟨_ + 1, h⟩ => absurd h (Nat.not_lt.2 (Nat.le_add_left _ _))
abbrev sem0_95 : Fin 1 → DmaSem sig := fun | 0 => cc0_sem95_0 | ⟨_ + 1, h⟩ => absurd h (Nat.not_lt.2 (Nat.le_add_left _ _))

abbrev stage0_96 : Fin 1 → Memref sig .tc .vmem S1x1024 .f32 := fun | 0 => Memref.whole cc0_stg96_0 | ⟨_ + 1, h⟩ => absurd h (Nat.not_lt.2 (Nat.le_add_left _ _))
abbrev sem0_96 : Fin 1 → DmaSem sig := fun | 0 => cc0_sem96_0 | ⟨_ + 1, h⟩ => absurd h (Nat.not_lt.2 (Nat.le_add_left _ _))

abbrev stage0_97 : Fin 1 → Memref sig .tc .vmem S1x1024 .f32 := fun | 0 => Memref.whole cc0_stg97_0 | ⟨_ + 1, h⟩ => absurd h (Nat.not_lt.2 (Nat.le_add_left _ _))
abbrev sem0_97 : Fin 1 → DmaSem sig := fun | 0 => cc0_sem97_0 | ⟨_ + 1, h⟩ => absurd h (Nat.not_lt.2 (Nat.le_add_left _ _))

abbrev stage0_98 : Fin 1 → Memref sig .tc .vmem S1x1024 .f32 := fun | 0 => Memref.whole cc0_stg98_0 | ⟨_ + 1, h⟩ => absurd h (Nat.not_lt.2 (Nat.le_add_left _ _))
abbrev sem0_98 : Fin 1 → DmaSem sig := fun | 0 => cc0_sem98_0 | ⟨_ + 1, h⟩ => absurd h (Nat.not_lt.2 (Nat.le_add_left _ _))

abbrev stage0_99 : Fin 1 → Memref sig .tc .vmem S2x3x32 .f32 := fun | 0 => Memref.whole cc0_stg99_0 | ⟨_ + 1, h⟩ => absurd h (Nat.not_lt.2 (Nat.le_add_left _ _))
abbrev sem0_99 : Fin 1 → DmaSem sig := fun | 0 => cc0_sem99_0 | ⟨_ + 1, h⟩ => absurd h (Nat.not_lt.2 (Nat.le_add_left _ _))

abbrev stage0_100 : Fin 1 → Memref sig .tc .vmem S2x3x32 .f32 := fun | 0 => Memref.whole cc0_stg100_0 | ⟨_ + 1, h⟩ => absurd h (Nat.not_lt.2 (Nat.le_add_left _ _))
abbrev sem0_100 : Fin 1 → DmaSem sig := fun | 0 => cc0_sem100_0 | ⟨_ + 1, h⟩ => absurd h (Nat.not_lt.2 (Nat.le_add_left _ _))

abbrev stage0_101 : Fin 1 → Memref sig .tc .vmem S2x3x32 .f32 := fun | 0 => Memref.whole cc0_stg101_0 | ⟨_ + 1, h⟩ => absurd h (Nat.not_lt.2 (Nat.le_add_left _ _))
abbrev sem0_101 : Fin 1 → DmaSem sig := fun | 0 => cc0_sem101_0 | ⟨_ + 1, h⟩ => absurd h (Nat.not_lt.2 (Nat.le_add_left _ _))

abbrev stage0_102 : Fin 1 → Memref sig .tc .vmem S2x31x32 .f32 := fun | 0 => Memref.whole cc0_stg102_0 | ⟨_ + 1, h⟩ => absurd h (Nat.not_lt.2 (Nat.le_add_left _ _))
abbrev sem0_102 : Fin 1 → DmaSem sig := fun | 0 => cc0_sem102_0 | ⟨_ + 1, h⟩ => absurd h (Nat.not_lt.2 (Nat.le_add_left _ _))

abbrev stage0_103 : Fin 1 → Memref sig .tc .vmem S2x31x32 .f32 := fun | 0 => Memref.whole cc0_stg103_0 | ⟨_ + 1, h⟩ => absurd h (Nat.not_lt.2 (Nat.le_add_left _ _))
abbrev sem0_103 : Fin 1 → DmaSem sig := fun | 0 => cc0_sem103_0 | ⟨_ + 1, h⟩ => absurd h (Nat.not_lt.2 (Nat.le_add_left _ _))

abbrev stage0_104 : Fin 1 → Memref sig .tc .vmem S2x31x32 .f32 := fun | 0 => Memref.whole cc0_stg104_0 | ⟨_ + 1, h⟩ => absurd h (Nat.not_lt.2 (Nat.le_add_left _ _))
abbrev sem0_104 : Fin 1 → DmaSem sig := fun | 0 => cc0_sem104_0 | ⟨_ + 1, h⟩ => absurd h (Nat.not_lt.2 (Nat.le_add_left _ _))
-- ==== AdamwLastRefIdeal.lean ====
abbrev S2x1024 : Shape := ⟨2, ![2, 1024]⟩
abbrev S2x256 : Shape := ⟨2, ![2, 256]⟩
abbrev S2x4x128x128 : Shape := ⟨4, ![2, 4, 128, 128]⟩
abbrev S2x4x128 : Shape := ⟨3, ![2, 4, 128]⟩
abbrev S2x4x64x64 : Shape := ⟨4, ![2, 4, 64, 64]⟩
abbrev S1x1024 : Shape := ⟨2, ![1, 1024]⟩
abbrev S2x3x32 : Shape := ⟨3, ![2, 3, 32]⟩
abbrev S2x31x32 : Shape := ⟨3, ![2, 31, 32]⟩
abbrev S_ : Shape := ⟨0, ![]⟩

abbrev nBuf : Space → Nat
  | .hbm => 291
  | .vmem => 0
  | .smem => 0
  | _ => 0

abbrev hbmTy0_0 (i : Nat) : BufTy := match i % 128 with
  | 0 => ⟨S2x1024, .f32⟩
  | 1 => ⟨S2x1024, .f32⟩
  | 2 => ⟨S2x256, .f32⟩
  | 3 => ⟨S2x4x128x128, .f32⟩
  | 4 => ⟨S2x4x128, .f32⟩
  | 5 => ⟨S2x256, .f32⟩
  | 6 => ⟨S2x256, .f32⟩
  | 7 => ⟨S2x4x64x64, .f32⟩
  | 8 => ⟨S2x256, .f32⟩
  | 9 => ⟨S2x1024, .f32⟩
  | 10 => ⟨S2x1024, .f32⟩
  | 11 => ⟨S2x1024, .f32⟩
  | 12 => ⟨S1x1024, .f32⟩
  | 13 => ⟨S2x3x32, .f32⟩
  | 14 => ⟨S2x31x32, .f32⟩
  | 15 => ⟨S2x1024, .f32⟩
  | 16 => ⟨S2x1024, .f32⟩
  | 17 => ⟨S2x256, .f32⟩
  | 18 => ⟨S2x4x128x128, .f32⟩
  | 19 => ⟨S2x4x128, .f32⟩
  | 20 => ⟨S2x256, .f32⟩
  | 21 => ⟨S2x256, .f32⟩
  | 22 => ⟨S2x4x64x64, .f32⟩
  | 23 => ⟨S2x256, .f32⟩
  | 24 => ⟨S2x1024, .f32⟩
  | 25 => ⟨S2x1024, .f32⟩
  | 26 => ⟨S2x1024, .f32⟩
  | 27 => ⟨S1x1024, .f32⟩
  | 28 => ⟨S2x3x32, .f32⟩
  | 29 => ⟨S2x31x32, .f32⟩
  | 30 => ⟨S2x1024, .f32⟩
  | 31 => ⟨S2x1024, .f32⟩
  | 32 => ⟨S2x256, .f32⟩
  | 33 => ⟨S2x4x128x128, .f32⟩
  | 34 => ⟨S2x4x128, .f32⟩
  | 35 => ⟨S2x256, .f32⟩
  | 36 => ⟨S2x256, .f32⟩
  | 37 => ⟨S2x4x64x64, .f32⟩
  | 38 => ⟨S2x256, .f32⟩
  | 39 => ⟨S2x1024, .f32⟩
  | 40 => ⟨S2x1024, .f32⟩
  | 41 => ⟨S2x1024, .f32⟩
  | 42 => ⟨S1x1024, .f32⟩
  | 43 => ⟨S2x3x32, .f32⟩
  | 44 => ⟨S2x31x32, .f32⟩
  | 45 => ⟨S2x1024, .f32⟩
  | 46 => ⟨S2x1024, .f32⟩
  | 47 => ⟨S2x256, .f32⟩
  | 48 => ⟨S2x4x128x128, .f32⟩
  | 49 => ⟨S2x4x128, .f32⟩
  | 50 => ⟨S2x256, .f32⟩
  | 51 => ⟨S2x256, .f32⟩
  | 52 => ⟨S2x4x64x64, .f32⟩
  | 53 => ⟨S2x256, .f32⟩
  | 54 => ⟨S2x1024, .f32⟩
  | 55 => ⟨S2x1024, .f32⟩
  | 56 => ⟨S2x1024, .f32⟩
  | 57 => ⟨S1x1024, .f32⟩
  | 58 => ⟨S2x3x32, .f32⟩
  | 59 => ⟨S2x31x32, .f32⟩
  | 60 => ⟨S_, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S2x256, .f32⟩
  | 67 => ⟨S_, .f32⟩
  | 68 => ⟨S2x256, .f32⟩
  | 69 => ⟨S2x256, .f32⟩
  | 70 => ⟨S2x256, .f32⟩
  | 71 => ⟨S_, .f32⟩
  | 72 => ⟨S2x256, .f32⟩
  | 73 => ⟨S2x256, .f32⟩
  | 74 => ⟨S2x256, .f32⟩
  | 75 => ⟨S_, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S2x256, .f32⟩
  | 86 => ⟨S_, .f32⟩
  | 87 => ⟨S2x256, .f32⟩
  | 88 => ⟨S2x256, .f32⟩
  | 89 => ⟨S2x256, .f32⟩
  | 90 => ⟨S_, .f32⟩
  | 91 => ⟨S2x256, .f32⟩
  | 92 => ⟨S2x256, .f32⟩
  | 93 => ⟨S_, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S2x1024, .f32⟩
  | 123 => ⟨S_, .f32⟩
  | 124 => ⟨S2x1024, .f32⟩
  | 125 => ⟨S2x1024, .f32⟩
  | 126 => ⟨S_, .f32⟩
  | 127 => ⟨S2x1024, .f32⟩
  | _ => ⟨S2x1024, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S2x1024, .f32⟩
  | 28 => ⟨S_, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S2x3x32, .f32⟩
  | 99 => ⟨S2x3x32, .f32⟩
  | 100 => ⟨S_, .f32⟩
  | 101 => ⟨S2x3x32, .f32⟩
  | 102 => ⟨S2x3x32, .f32⟩
  | 103 => ⟨S2x3x32, .f32⟩
  | 104 => ⟨S_, .f32⟩
  | 105 => ⟨S2x3x32, .f32⟩
  | 106 => ⟨S2x3x32, .f32⟩
  | 107 => ⟨S2x3x32, .f32⟩
  | 108 => ⟨S_, .f32⟩
  | 109 => ⟨S2x3x32, .f32⟩
  | 110 => ⟨S2x3x32, .f32⟩
  | 111 => ⟨S2x3x32, .f32⟩
  | 112 => ⟨S_, .f32⟩
  | 113 => ⟨S2x3x32, .f32⟩
  | 114 => ⟨S2x3x32, .f32⟩
  | 115 => ⟨S_, .f32⟩
  | 116 => ⟨S2x3x32, .f32⟩
  | 117 => ⟨S2x3x32, .f32⟩
  | 118 => ⟨S2x3x32, .f32⟩
  | 119 => ⟨S_, .f32⟩
  | 120 => ⟨S2x3x32, .f32⟩
  | 121 => ⟨S2x3x32, .f32⟩
  | 122 => ⟨S2x3x32, .f32⟩
  | 123 => ⟨S_, .f32⟩
  | 124 => ⟨S2x3x32, .f32⟩
  | 125 => ⟨S2x3x32, .f32⟩
  | 126 => ⟨S2x3x32, .f32⟩
  | 127 => ⟨S_, .f32⟩
  | _ => ⟨S2x1024, .f32⟩

abbrev hbmTy0_2 (i : Nat) : BufTy := match i % 128 with
  | 0 => ⟨S2x3x32, .f32⟩
  | 1 => ⟨S2x3x32, .f32⟩
  | 2 => ⟨S_, .f32⟩
  | 3 => ⟨S2x31x32, .f32⟩
  | 4 => ⟨S2x31x32, .f32⟩
  | 5 => ⟨S_, .f32⟩
  | 6 => ⟨S2x31x32, .f32⟩
  | 7 => ⟨S2x31x32, .f32⟩
  | 8 => ⟨S2x31x32, .f32⟩
  | 9 => ⟨S_, .f32⟩
  | 10 => ⟨S2x31x32, .f32⟩
  | 11 => ⟨S2x31x32, .f32⟩
  | 12 => ⟨S2x31x32, .f32⟩
  | 13 => ⟨S_, .f32⟩
  | 14 => ⟨S2x31x32, .f32⟩
  | 15 => ⟨S2x31x32, .f32⟩
  | 16 => ⟨S2x31x32, .f32⟩
  | 17 => ⟨S_, .f32⟩
  | 18 => ⟨S2x31x32, .f32⟩
  | 19 => ⟨S2x31x32, .f32⟩
  | 20 => ⟨S_, .f32⟩
  | 21 => ⟨S2x31x32, .f32⟩
  | 22 => ⟨S2x31x32, .f32⟩
  | 23 => ⟨S2x31x32, .f32⟩
  | 24 => ⟨S_, .f32⟩
  | 25 => ⟨S2x31x32, .f32⟩
  | 26 => ⟨S2x31x32, .f32⟩
  | 27 => ⟨S2x31x32, .f32⟩
  | 28 => ⟨S_, .f32⟩
  | 29 => ⟨S2x31x32, .f32⟩
  | 30 => ⟨S2x31x32, .f32⟩
  | 31 => ⟨S2x31x32, .f32⟩
  | 32 => ⟨S_, .f32⟩
  | 33 => ⟨S2x31x32, .f32⟩
  | 34 => ⟨S2x31x32, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩

abbrev nD : Nat := 1
abbrev τ : Topo := Topo.v7x

variable {F : FTy → Type} [FloatOps F]
-- ==== Proof.RowsRun.lean ====
module

public import proofs.«01_k».proof.Proof.Gen.KernelIdeal.Frame
public import proofs.«01_k».proof.Proof.Gen.KernelIdeal.Skeleton

@[expose] public section

set_option maxRecDepth 16384

/-!
# The body of the feed-forward backward call, run once

One step of `ffn_bwd_rows` on whole buffers, whatever the buffers are. A step belongs to one of four
cases: the first of a row block (`StepA`), one in the middle (`StepB`), the last of the first row
block (`StepC`), the last of a later row block (`StepD`). For each case the run says which pieces the
step stores into each buffer. The lists of pieces depend on what the buffers held, not on which
buffers they are.
-/

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffer `a`, which held `x`, after the pieces `L` are stored into it (the last one first). -/
def Wrote {s : Shape} {e : EltTy} (c : Dev nD) (a : Memref sig .tc .vmem s e)
    (x : s.Idx → Elt F e) (L : List (View.Piece (Elt F) s e)) : sProp 𝕄 :=
  iprop(∃ f, ⌜a.view.read (Elt F) f = x⌝ ∗ a.view.loc (c : Thread nD τ) ↦[a.view.set]{fullShare} a.view.writes (Elt F) f L)

/-- Stored pieces, spelled another way. -/
theorem Wrote.of {s : Shape} {e : EltTy} (c : Dev nD) (a : Memref sig .tc .vmem s e)
    (f : a.view.ty.Contents (Elt F)) {L L' : List (View.Piece (Elt F) s e)} (h : L = L') :
    (a.view.loc (c : Thread nD τ) ↦[a.view.set]{fullShare} a.view.writes (Elt F) f L : sProp 𝕄)
      ⊢ Wrote c a (a.view.read (Elt F) f) L' := by
  subst h
  unfold Wrote
  iintro H
  iexists f; isplitr; · ipureintro; rfl
  iexact H

/-- Nothing was stored: the buffer holds what it held. -/
theorem Wrote.nil {s : Shape} {e : EltTy} (c : Dev nD) (a : Memref sig .tc .vmem s e)
    (x : s.Idx → Elt F e) : (Wrote c a x [] : sProp 𝕄) ⊢ owns (c : Thread nD τ) a fullShare x := .rfl

/-- The stored pieces cover the buffer: it holds what they make, whatever it held. -/
theorem Wrote.cover {s : Shape} {e : EltTy} (c : Dev nD) (a : Memref sig .tc .vmem s e)
    (x : s.Idx → Elt F e) (L : List (View.Piece (Elt F) s e)) (hL : ∀ y, ∃ p ∈ L, y ∈ p.1.set) :
    (Wrote c a x L : sProp 𝕄) ⊢ owns (c : Thread nD τ) a fullShare (View.canon L) := by
  unfold Wrote owns
  iintro ⟨%f, -, H⟩
  iexists _; isplitr; · ipureintro; exact View.read_writes_eq_canon _ f _ hL
  iexact H

/-! ## What a step stores -/

/-- The whole of a `512 × 1024` buffer. -/
abbrev rW : Rect S512x1024 := Rect.unit (s := S512x1024) ![0, 0] S512x1024.size inb_S512x1024_S512x1024_0_0
/-- Its upper 256 rows. -/
abbrev rU : Rect S512x1024 := Rect.unit (s := S512x1024) ![0, 0] S256x1024.size inb_S512x1024_S256x1024_0_0
/-- Its lower 256 rows. -/
abbrev rL : Rect S512x1024 := Rect.unit (s := S512x1024) ![256, 0] S256x1024.size inb_S512x1024_S256x1024_256_0
/-- The whole of a `1 × 1024` buffer. -/
abbrev rG : Rect S1x1024 := Rect.unit (s := S1x1024) ![0, 0] S1x1024.size inb_S1x1024_S1x1024_0_0
/-- The whole block of the second weight. -/
abbrev rO : Rect S1x2x352x1024 := Rect.unit (s := S1x2x352x1024) ![0, 0, 0, 0] S1x2x352x1024.size inb_S1x2x352x1024_S1x2x352x1024_0_0_0_0
/-- The gate half of the first weight's block. -/
abbrev rI0 : Rect S2x1x704x1024 := Rect.unit (s := S2x1x704x1024) ![0, 0, 0, 0] S1x1x704x1024.size inb_S2x1x704x1024_S1x1x704x1024_0_0_0_0
/-- The value half of the first weight's block. -/
abbrev rI1 : Rect S2x1x704x1024 := Rect.unit (s := S2x1x704x1024) ![1, 0, 0, 0] S1x1x704x1024.size inb_S2x1x704x1024_S1x1x704x1024_1_0_0_0
/-- Gate, upper rows. -/
abbrev rGU : Rect S2x1x512x704 := Rect.unit (s := S2x1x512x704) ![0, 0, 0, 0] S1x1x256x704.size inb_S2x1x512x704_S1x1x256x704_0_0_0_0
/-- Value, upper rows. -/
abbrev rVU : Rect S2x1x512x704 := Rect.unit (s := S2x1x512x704) ![1, 0, 0, 0] S1x1x256x704.size inb_S2x1x512x704_S1x1x256x704_1_0_0_0
/-- Gate, lower rows. -/
abbrev rGL : Rect S2x1x512x704 := Rect.unit (s := S2x1x512x704) ![0, 0, 256, 0] S1x1x256x704.size inb_S2x1x512x704_S1x1x256x704_0_0_256_0
/-- Value, lower rows. -/
abbrev rVL : Rect S2x1x512x704 := Rect.unit (s := S2x1x512x704) ![1, 0, 256, 0] S1x1x256x704.size inb_S2x1x512x704_S1x1x256x704_1_0_256_0
/-- The activations' upper rows. -/
abbrev rAU : Rect S1x512x704 := Rect.unit (s := S1x512x704) ![0, 0, 0] S1x256x704.size inb_S1x512x704_S1x256x704_0_0_0
/-- The activations' lower rows. -/
abbrev rAL : Rect S1x512x704 := Rect.unit (s := S1x512x704) ![0, 256, 0] S1x256x704.size inb_S1x512x704_S1x256x704_0_256_0

/-- The one the logistic function's derivative takes. -/
abbrev oneF : F .f32 := Scalar.ofBits .f32 0x3F800000#32

/-- The activations `silu g * u`, recomputed: two pieces. -/
def act (gu : Vec F S2x1x512x704 .bf16) : List (View.Piece (Elt F) S1x512x704 .bf16) :=
  [⟨rAL, k0_pay31 (View.ld gu rGL) (View.ld gu rVL)⟩, ⟨rAU, k0_pay19 (View.ld gu rGU) (View.ld gu rVU)⟩]

/-- The gradients of gate and value: four pieces. `du` and `dl` are the upper and the lower rows of the
    incoming gradient. -/
def dgu (gu : Vec F S2x1x512x704 .bf16) (wo : Vec F S1x2x352x1024 .bf16) (du dl : Vec F S256x1024 .bf16) :
    List (View.Piece (Elt F) S2x1x512x704 .bf16) :=
  [⟨rVL, k0_pay35 (k0_pay21 (k0_pay13 (View.ld wo rO)) dl) (View.ld gu rGL)⟩,
   ⟨rGL, k0_pay34 (k0_pay21 (k0_pay13 (View.ld wo rO)) dl) (View.ld gu rGL) (View.ld gu rVL)⟩,
   ⟨rVU, k0_pay25 (k0_pay14 (View.ld wo rO) du) (k0_pay18 (View.ld gu rGU))⟩,
   ⟨rGU, k0_pay24 (k0_pay14 (View.ld wo rO) du) (k0_pay16 (View.ld gu rVU)) (k0_pay17 (View.ld gu rGU))
      (k0_pay20 (View.ld gu rGU)) oneF⟩]

/-- The accumulator's upper rows after the step; `s` is what they held. -/
def accU (gu : Vec F S2x1x512x704 .bf16) (wi : Vec F S2x1x704x1024 .bf16) (wo : Vec F S1x2x352x1024 .bf16)
    (du : Vec F S256x1024 .bf16) (s : Vec F S256x1024 .f32) : View.Piece (Elt F) S512x1024 .f32 :=
  ⟨rU, k0_pay26 (k0_pay14 (View.ld wo rO) du) (k0_pay16 (View.ld gu rVU)) (k0_pay17 (View.ld gu rGU))
    (k0_pay18 (View.ld gu rGU)) (k0_pay20 (View.ld gu rGU)) oneF s (View.ld wi rI0) (View.ld wi rI1)⟩

/-- The accumulator's lower rows after the step; `s` is what they held. -/
def accL (gu : Vec F S2x1x512x704 .bf16) (wi : Vec F S2x1x704x1024 .bf16) (wo : Vec F S1x2x352x1024 .bf16)
    (dl : Vec F S256x1024 .bf16) (s : Vec F S256x1024 .f32) : View.Piece (Elt F) S512x1024 .f32 :=
  ⟨rL, k0_pay1 (k0_pay32 (k0_pay21 (k0_pay13 (View.ld wo rO)) dl) (View.ld gu rGL) (View.ld gu rVL))
    (k0_pay33 (k0_pay21 (k0_pay13 (View.ld wo rO)) dl) (View.ld gu rGL)) s (View.ld wi rI0) (View.ld wi rI1)⟩

/-- The normalised rows. -/
def hPc (x : Vec F S512x1024 .f32) (g : Vec F S1x1024 .f32) : List (View.Piece (Elt F) S512x1024 .bf16) :=
  [⟨rW, k0_pay10 (View.ld x rW) (View.ld g rG)⟩]

/-- The incoming gradient, halved. -/
def dyhPc (dy : Vec F S512x1024 .f32) : List (View.Piece (Elt F) S512x1024 .bf16) := [⟨rW, k0_pay11 (View.ld dy rW)⟩]

/-- The accumulator at zero. -/
def zeroPc : List (View.Piece (Elt F) S512x1024 .f32) := [⟨rW, k0_pay12⟩]

/-- The accumulator's pieces of a first step. -/
def accFirst (dy : Vec F S512x1024 .f32) (gu : Vec F S2x1x512x704 .bf16) (wi : Vec F S2x1x704x1024 .bf16)
    (wo : Vec F S1x2x352x1024 .bf16) : List (View.Piece (Elt F) S512x1024 .f32) :=
  accL gu wi wo (View.ld (View.canon (dyhPc dy)) rL)
      (View.ld (View.canon (accU gu wi wo (View.ld (View.canon (dyhPc dy)) rU) (View.ld (View.canon zeroPc) rU) :: zeroPc)) rL)
    :: accU gu wi wo (View.ld (View.canon (dyhPc dy)) rU) (View.ld (View.canon zeroPc) rU) :: zeroPc

/-- The accumulator's pieces of a later step: `dyh` and `s` are the gradient and the accumulator found. -/
def accNext (gu : Vec F S2x1x512x704 .bf16) (wi : Vec F S2x1x704x1024 .bf16) (wo : Vec F S1x2x352x1024 .bf16)
    (dyh : Vec F S512x1024 .bf16) (s : Vec F S512x1024 .f32) : List (View.Piece (Elt F) S512x1024 .f32) :=
  [accL gu wi wo (View.ld dyh rL) (View.ld s rL), accU gu wi wo (View.ld dyh rU) (View.ld s rU)]

/-- The gradient of the rows. -/
def dxPc (x dy : Vec F S512x1024 .f32) (g : Vec F S1x1024 .f32) (s : Vec F S512x1024 .f32) :
    List (View.Piece (Elt F) S512x1024 .f32) :=
  [⟨rW, k0_pay8 (View.ld g rG) (View.ld x rW) (View.ld s rW) (View.ld dy rW)⟩]

/-- The gradient of the rows, narrowed. -/
def dxbPc (x dy : Vec F S512x1024 .f32) (g : Vec F S1x1024 .f32) (s : Vec F S512x1024 .f32) :
    List (View.Piece (Elt F) S512x1024 .bf16) :=
  [⟨rW, k0_pay9 (View.ld g rG) (View.ld x rW) (View.ld s rW) (View.ld dy rW)⟩]

/-- The gain's gradient at zero. -/
def dgZero : List (View.Piece (Elt F) S1x1024 .f32) := [⟨rG, k0_pay2⟩]

/-- The gain's gradient with a row block added to `d`. -/
def dgAdd (x s : Vec F S512x1024 .f32) (d : Vec F S1x1024 .f32) : View.Piece (Elt F) S1x1024 .f32 :=
  ⟨rG, k0_pay3 (k0_pay6 (View.ld x rW) (View.ld s rW)) (View.ld d rG)⟩

/-- A load that stored pieces cover reads what they make. -/
theorem cov {s : Shape} {e : EltTy} (a : Memref sig .tc .vmem s e) (L : List (View.Piece (Elt F) s e)) (B : Rect s) :
    a.view.readCov L B.toLoadRect = View.ld (View.canon L) B :=
  View.readAt_writes_junk_eq_canon a.view L B.toLoadRect

/-! ## The triple -/

/-- The triple of one step: the step takes the six input blocks and the seven result buffers and the
    accumulator at given contents, leaves the inputs, and stores the pieces `L` into the others. `P` says
    at which grid coordinates. -/
def Step (P : grid0.Coords → Prop) (x2 : Vec F S512x1024 .f32) (x3 : Vec F S512x1024 .f32) (x4 : Vec F S2x1x512x704 .bf16) (x5 : Vec F S1x1024 .f32) (x6 : Vec F S2x1x704x1024 .bf16) (x7 : Vec F S1x2x352x1024 .bf16) (x10 : Vec F S512x1024 .bf16) (x13 : Vec F S1x1024 .f32) (x14 : Vec F S512x1024 .bf16) (x16 : Vec F S512x1024 .f32)
    (L9 : List (View.Piece (Elt F) S512x1024 .f32)) (L10 : List (View.Piece (Elt F) S512x1024 .bf16)) (L11 : List (View.Piece (Elt F) S1x512x704 .bf16)) (L12 : List (View.Piece (Elt F) S2x1x512x704 .bf16)) (L13 : List (View.Piece (Elt F) S1x1024 .f32)) (L14 : List (View.Piece (Elt F) S512x1024 .bf16)) (L15 : List (View.Piece (Elt F) S512x1024 .bf16)) (L16 : List (View.Piece (Elt F) S512x1024 .f32)) : Prop :=
  ∀ (c : Dev nD) (i : grid0.Coords), P i → ∀ (a2 : Memref sig .tc .vmem S512x1024 .f32) (h2 : a2.IsWhole) (a3 : Memref sig .tc .vmem S512x1024 .f32) (h3 : a3.IsWhole) (a4 : Memref sig .tc .vmem S2x1x512x704 .bf16) (h4 : a4.IsWhole) (a5 : Memref sig .tc .vmem S1x1024 .f32) (h5 : a5.IsWhole) (a6 : Memref sig .tc .vmem S2x1x704x1024 .bf16) (h6 : a6.IsWhole) (a7 : Memref sig .tc .vmem S1x2x352x1024 .bf16) (h7 : a7.IsWhole) (a8 : Memref sig .tc .hbm S1024 .f32) (h8 : a8.IsWhole) (a9 : Memref sig .tc .vmem S512x1024 .f32) (h9 : a9.IsWhole) (a10 : Memref sig .tc .vmem S512x1024 .bf16) (h10 : a10.IsWhole) (a11 : Memref sig .tc .vmem S1x512x704 .bf16) (h11 : a11.IsWhole) (a12 : Memref sig .tc .vmem S2x1x512x704 .bf16) (h12 : a12.IsWhole) (a13 : Memref sig .tc .vmem S1x1024 .f32) (h13 : a13.IsWhole) (a14 : Memref sig .tc .vmem S512x1024 .bf16) (h14 : a14.IsWhole) (a15 : Memref sig .tc .vmem S512x1024 .bf16) (h15 : a15.IsWhole) (a16 : Memref sig .tc .vmem S512x1024 .f32) (h16 : a16.IsWhole)
    (x9 : Vec F S512x1024 .f32) (x11 : Vec F S1x512x704 .bf16) (x12 : Vec F S2x1x512x704 .bf16) (x15 : Vec F S512x1024 .bf16) (E : Set ℕ) (K : PUnit → sProp 𝕄),
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ Wrote c a9 x9 L9 ∗ Wrote c a10 x10 L10 ∗ Wrote c a11 x11 L11 ∗ Wrote c a12 x12 L12 ∗ Wrote c a13 x13 L13 ∗ Wrote c a14 x14 L14 ∗ Wrote c a15 x15 L15 ∗ Wrote c a16 x16 L16) -∗ K ⟨⟩))
      ⊢ wp frame (wpE (defs₀ (F := F)) Variants.none c none) E (cc0_ffn_bwd_rows i a2 h2 a3 h3 a4 h4 a5 h5 a6 h6 a7 h7 a8 h8 a9 h9 a10 h10 a11 h11 a12 h12 a13 h13 a14 h14 a15 h15 a16 h16) K

/-- The grid coordinates of the first step of a row block. -/
abbrev CaseA (i : grid0.Coords) : Prop := k0_cond1 i = 1#1 ∧ ¬k0_cond2 i = 1#1

set_option maxHeartbeats 4000000 in
/-- What the first step of a row block stores. -/
theorem runA (x2 : Vec F S512x1024 .f32) (x3 : Vec F S512x1024 .f32) (x4 : Vec F S2x1x512x704 .bf16) (x5 : Vec F S1x1024 .f32) (x6 : Vec F S2x1x704x1024 .bf16) (x7 : Vec F S1x2x352x1024 .bf16) (x10 : Vec F S512x1024 .bf16) (x13 : Vec F S1x1024 .f32) (x14 : Vec F S512x1024 .bf16) (x16 : Vec F S512x1024 .f32) :
    Step CaseA x2 x3 x4 x5 x6 x7 x10 x13 x14 x16
      [] (hPc x2 x5) (act x4) (dgu x4 x7 (View.ld (View.canon (dyhPc x3)) rU) (View.ld (View.canon (dyhPc x3)) rL)) [] (dyhPc x3) [] (accFirst x3 x4 x6 x7) := by
  intro c i hc a2 h2 a3 h3 a4 h4 a5 h5 a6 h6 a7 h7 a8 h8 a9 h9 a10 h10 a11 h11 a12 h12 a13 h13 a14 h14 a15 h15 a16 h16 x9 x11 x12 x15 E K
  obtain ⟨hc1, hc2⟩ := hc
  simp only [cc0_ffn_bwd_rows_eq_skeleton]; unfold cc0_ffn_bwd_rows_skel
  simp only [k0_part1_eq_skeleton, k0_part2_eq_skeleton, k0_part3_eq_skeleton, k0_part4_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  obtain rfl := e2; obtain rfl := e3; obtain rfl := e4; obtain rfl := e5; obtain rfl := e6; obtain rfl := e7; obtain rfl := e9; obtain rfl := e10; obtain rfl := e11; obtain rfl := e12; obtain rfl := e13; obtain rfl := e14; obtain rfl := e15; obtain rfl := e16
  sl_exec (disch := first | sl_exact hc1 | sl_exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]; · iapply (Wrote.of c a9 f9 rfl); iexact H9
  isplitl [H10]; · iapply (Wrote.of c a10 f10 rfl); iexact H10
  isplitl [H11]; · iapply (Wrote.of c a11 f11 rfl); iexact H11
  isplitl [H12]; · iapply (Wrote.of c a12 f12 (congrArg₂ (fun d d' => dgu (View.read (Elt F) a4.view f4) (View.read (Elt F) a7.view f7) d d') (cov a14 (dyhPc (View.read (Elt F) a3.view f3)) rU) (cov a14 (dyhPc (View.read (Elt F) a3.view f3)) rL))); iexact H12
  isplitl [H13]; · iapply (Wrote.of c a13 f13 rfl); iexact H13
  isplitl [H14]; · iapply (Wrote.of c a14 f14 rfl); iexact H14
  isplitl [H15]; · iapply (Wrote.of c a15 f15 rfl); iexact H15
  iapply (Wrote.of c a16 f16 ((congrArg₂ (fun d d' => accL (View.read (Elt F) a4.view f4) (View.read (Elt F) a6.view f6) (View.read (Elt F) a7.view f7) d (a16.view.readCov (accU (View.read (Elt F) a4.view f4) (View.read (Elt F) a6.view f6) (View.read (Elt F) a7.view f7) d' (a16.view.readCov zeroPc rU.toLoadRect) :: zeroPc) rL.toLoadRect) :: accU (View.read (Elt F) a4.view f4) (View.read (Elt F) a6.view f6) (View.read (Elt F) a7.view f7) d' (a16.view.readCov zeroPc rU.toLoadRect) :: zeroPc) (cov a14 (dyhPc (View.read (Elt F) a3.view f3)) rL) (cov a14 (dyhPc (View.read (Elt F) a3.view f3)) rU)).trans (by simp only [cov]; rfl))); iexact H16

/-- The grid coordinates of a step in the middle of a row block. -/
abbrev CaseB (i : grid0.Coords) : Prop := ¬k0_cond1 i = 1#1 ∧ ¬k0_cond2 i = 1#1

set_option maxHeartbeats 4000000 in
/-- What a step in the middle of a row block stores. -/
theorem runB (x2 : Vec F S512x1024 .f32) (x3 : Vec F S512x1024 .f32) (x4 : Vec F S2x1x512x704 .bf16) (x5 : Vec F S1x1024 .f32) (x6 : Vec F S2x1x704x1024 .bf16) (x7 : Vec F S1x2x352x1024 .bf16) (x10 : Vec F S512x1024 .bf16) (x13 : Vec F S1x1024 .f32) (x14 : Vec F S512x1024 .bf16) (x16 : Vec F S512x1024 .f32) :
    Step CaseB x2 x3 x4 x5 x6 x7 x10 x13 x14 x16
      [] [] (act x4) (dgu x4 x7 (View.ld x14 rU) (View.ld x14 rL)) [] [] [] (accNext x4 x6 x7 x14 x16) := by
  intro c i hc a2 h2 a3 h3 a4 h4 a5 h5 a6 h6 a7 h7 a8 h8 a9 h9 a10 h10 a11 h11 a12 h12 a13 h13 a14 h14 a15 h15 a16 h16 x9 x11 x12 x15 E K
  obtain ⟨hc1, hc2⟩ := hc
  simp only [cc0_ffn_bwd_rows_eq_skeleton]; unfold cc0_ffn_bwd_rows_skel
  simp only [k0_part1_eq_skeleton, k0_part2_eq_skeleton, k0_part3_eq_skeleton, k0_part4_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  obtain rfl := e2; obtain rfl := e3; obtain rfl := e4; obtain rfl := e5; obtain rfl := e6; obtain rfl := e7; obtain rfl := e9; obtain rfl := e10; obtain rfl := e11; obtain rfl := e12; obtain rfl := e13; obtain rfl := e14; obtain rfl := e15; obtain rfl := e16
  sl_exec (disch := first | sl_exact hc1 | sl_exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]; · iapply (Wrote.of c a9 f9 rfl); iexact H9
  isplitl [H10]; · iapply (Wrote.of c a10 f10 rfl); iexact H10
  isplitl [H11]; · iapply (Wrote.of c a11 f11 rfl); iexact H11
  isplitl [H12]; · iapply (Wrote.of c a12 f12 rfl); iexact H12
  isplitl [H13]; · iapply (Wrote.of c a13 f13 rfl); iexact H13
  isplitl [H14]; · iapply (Wrote.of c a14 f14 rfl); iexact H14
  isplitl [H15]; · iapply (Wrote.of c a15 f15 rfl); iexact H15
  iapply (Wrote.of c a16 f16 rfl); iexact H16

/-- The grid coordinates of the last step of the first row block. -/
abbrev CaseC (i : grid0.Coords) : Prop := (¬k0_cond1 i = 1#1 ∧ k0_cond2 i = 1#1) ∧ k0_cond3 i = 1#1

set_option maxHeartbeats 4000000 in
/-- What the last step of the first row block stores. -/
theorem runC (x2 : Vec F S512x1024 .f32) (x3 : Vec F S512x1024 .f32) (x4 : Vec F S2x1x512x704 .bf16) (x5 : Vec F S1x1024 .f32) (x6 : Vec F S2x1x704x1024 .bf16) (x7 : Vec F S1x2x352x1024 .bf16) (x10 : Vec F S512x1024 .bf16) (x13 : Vec F S1x1024 .f32) (x14 : Vec F S512x1024 .bf16) (x16 : Vec F S512x1024 .f32) :
    Step CaseC x2 x3 x4 x5 x6 x7 x10 x13 x14 x16
      (dxPc x2 x3 x5 (View.canon (accNext x4 x6 x7 x14 x16))) [] (act x4) (dgu x4 x7 (View.ld x14 rU) (View.ld x14 rL)) (dgAdd x2 (View.canon (accNext x4 x6 x7 x14 x16)) (View.canon dgZero) :: dgZero) [] (dxbPc x2 x3 x5 (View.canon (accNext x4 x6 x7 x14 x16))) (accNext x4 x6 x7 x14 x16) := by
  intro c i hc a2 h2 a3 h3 a4 h4 a5 h5 a6 h6 a7 h7 a8 h8 a9 h9 a10 h10 a11 h11 a12 h12 a13 h13 a14 h14 a15 h15 a16 h16 x9 x11 x12 x15 E K
  obtain ⟨⟨hc1, hc2⟩, hc3⟩ := hc
  simp only [cc0_ffn_bwd_rows_eq_skeleton]; unfold cc0_ffn_bwd_rows_skel
  simp only [k0_part1_eq_skeleton, k0_part2_eq_skeleton, k0_part3_eq_skeleton, k0_part4_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  obtain rfl := e2; obtain rfl := e3; obtain rfl := e4; obtain rfl := e5; obtain rfl := e6; obtain rfl := e7; obtain rfl := e9; obtain rfl := e10; obtain rfl := e11; obtain rfl := e12; obtain rfl := e13; obtain rfl := e14; obtain rfl := e15; obtain rfl := e16
  sl_exec (disch := first | sl_exact hc1 | sl_exact hc2 | sl_exact hc3)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]; · iapply (Wrote.of c a9 f9 (congrArg (fun s => ([⟨rW, k0_pay8 (View.ld (View.read (Elt F) a5.view f5) rG) (View.ld (View.read (Elt F) a2.view f2) rW) s (View.ld (View.read (Elt F) a3.view f3) rW)⟩] : List (View.Piece (Elt F) S512x1024 .f32))) (cov a16 (accNext (View.read (Elt F) a4.view f4) (View.read (Elt F) a6.view f6) (View.read (Elt F) a7.view f7) (View.read (Elt F) a14.view f14) (View.read (Elt F) a16.view f16)) rW))); iexact H9
  isplitl [H10]; · iapply (Wrote.of c a10 f10 rfl); iexact H10
  isplitl [H11]; · iapply (Wrote.of c a11 f11 rfl); iexact H11
  isplitl [H12]; · iapply (Wrote.of c a12 f12 rfl); iexact H12
  isplitl [H13]; · iapply (Wrote.of c a13 f13 (congrArg₂ (fun s d => ((⟨rG, k0_pay3 (k0_pay6 (View.ld (View.read (Elt F) a2.view f2) rW) s) d⟩ :: dgZero) : List (View.Piece (Elt F) S1x1024 .f32))) (cov a16 (accNext (View.read (Elt F) a4.view f4) (View.read (Elt F) a6.view f6) (View.read (Elt F) a7.view f7) (View.read (Elt F) a14.view f14) (View.read (Elt F) a16.view f16)) rW) (cov a13 dgZero rG))); iexact H13
  isplitl [H14]; · iapply (Wrote.of c a14 f14 rfl); iexact H14
  isplitl [H15]; · iapply (Wrote.of c a15 f15 (congrArg (fun s => ([⟨rW, k0_pay9 (View.ld (View.read (Elt F) a5.view f5) rG) (View.ld (View.read (Elt F) a2.view f2) rW) s (View.ld (View.read (Elt F) a3.view f3) rW)⟩] : List (View.Piece (Elt F) S512x1024 .bf16))) (cov a16 (accNext (View.read (Elt F) a4.view f4) (View.read (Elt F) a6.view f6) (View.read (Elt F) a7.view f7) (View.read (Elt F) a14.view f14) (View.read (Elt F) a16.view f16)) rW))); iexact H15
  iapply (Wrote.of c a16 f16 rfl); iexact H16

/-- The grid coordinates of the last step of a later row block. -/
abbrev CaseD (i : grid0.Coords) : Prop := (¬k0_cond1 i = 1#1 ∧ k0_cond2 i = 1#1) ∧ ¬k0_cond3 i = 1#1

set_option maxHeartbeats 4000000 in
/-- What the last step of a later row block stores. -/
theorem runD (x2 : Vec F S512x1024 .f32) (x3 : Vec F S512x1024 .f32) (x4 : Vec F S2x1x512x704 .bf16) (x5 : Vec F S1x1024 .f32) (x6 : Vec F S2x1x704x1024 .bf16) (x7 : Vec F S1x2x352x1024 .bf16) (x10 : Vec F S512x1024 .bf16) (x13 : Vec F S1x1024 .f32) (x14 : Vec F S512x1024 .bf16) (x16 : Vec F S512x1024 .f32) :
    Step CaseD x2 x3 x4 x5 x6 x7 x10 x13 x14 x16
      (dxPc x2 x3 x5 (View.canon (accNext x4 x6 x7 x14 x16))) [] (act x4) (dgu x4 x7 (View.ld x14 rU) (View.ld x14 rL)) [dgAdd x2 (View.canon (accNext x4 x6 x7 x14 x16)) x13] [] (dxbPc x2 x3 x5 (View.canon (accNext x4 x6 x7 x14 x16))) (accNext x4 x6 x7 x14 x16) := by
  intro c i hc a2 h2 a3 h3 a4 h4 a5 h5 a6 h6 a7 h7 a8 h8 a9 h9 a10 h10 a11 h11 a12 h12 a13 h13 a14 h14 a15 h15 a16 h16 x9 x11 x12 x15 E K
  obtain ⟨⟨hc1, hc2⟩, hc3⟩ := hc
  simp only [cc0_ffn_bwd_rows_eq_skeleton]; unfold cc0_ffn_bwd_rows_skel
  simp only [k0_part1_eq_skeleton, k0_part2_eq_skeleton, k0_part3_eq_skeleton, k0_part4_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  obtain rfl := e2; obtain rfl := e3; obtain rfl := e4; obtain rfl := e5; obtain rfl := e6; obtain rfl := e7; obtain rfl := e9; obtain rfl := e10; obtain rfl := e11; obtain rfl := e12; obtain rfl := e13; obtain rfl := e14; obtain rfl := e15; obtain rfl := e16
  sl_exec (disch := first | sl_exact hc1 | sl_exact hc2 | sl_exact hc3)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]; · iapply (Wrote.of c a9 f9 (congrArg (fun s => ([⟨rW, k0_pay8 (View.ld (View.read (Elt F) a5.view f5) rG) (View.ld (View.read (Elt F) a2.view f2) rW) s (View.ld (View.read (Elt F) a3.view f3) rW)⟩] : List (View.Piece (Elt F) S512x1024 .f32))) (cov a16 (accNext (View.read (Elt F) a4.view f4) (View.read (Elt F) a6.view f6) (View.read (Elt F) a7.view f7) (View.read (Elt F) a14.view f14) (View.read (Elt F) a16.view f16)) rW))); iexact H9
  isplitl [H10]; · iapply (Wrote.of c a10 f10 rfl); iexact H10
  isplitl [H11]; · iapply (Wrote.of c a11 f11 rfl); iexact H11
  isplitl [H12]; · iapply (Wrote.of c a12 f12 rfl); iexact H12
  isplitl [H13]; · iapply (Wrote.of c a13 f13 (congrArg (fun s => ([⟨rG, k0_pay3 (k0_pay6 (View.ld (View.read (Elt F) a2.view f2) rW) s) (View.ld (View.read (Elt F) a13.view f13) rG)⟩] : List (View.Piece (Elt F) S1x1024 .f32))) (cov a16 (accNext (View.read (Elt F) a4.view f4) (View.read (Elt F) a6.view f6) (View.read (Elt F) a7.view f7) (View.read (Elt F) a14.view f14) (View.read (Elt F) a16.view f16)) rW))); iexact H13
  isplitl [H14]; · iapply (Wrote.of c a14 f14 rfl); iexact H14
  isplitl [H15]; · iapply (Wrote.of c a15 f15 (congrArg (fun s => ([⟨rW, k0_pay9 (View.ld (View.read (Elt F) a5.view f5) rG) (View.ld (View.read (Elt F) a2.view f2) rW) s (View.ld (View.read (Elt F) a3.view f3) rW)⟩] : List (View.Piece (Elt F) S512x1024 .bf16))) (cov a16 (accNext (View.read (Elt F) a4.view f4) (View.read (Elt F) a6.view f6) (View.read (Elt F) a7.view f7) (View.read (Elt F) a14.view f14) (View.read (Elt F) a16.view f16)) rW))); iexact H15
  iapply (Wrote.of c a16 f16 rfl); iexact H16

end Cert.KernelIdeal.Rows

end
-- ==== Proof.RowsFrame.lean ====
module

public import proofs.«01_k».proof.Proof.RowsRun
public import Idealize.ShloMosaic.Lib.Pipeline.TableIdle
public import Idealize.ShloMosaic.Lib.Claim

@[expose] public section

set_option maxRecDepth 16384

/-!
# The frame of the feed-forward backward call

What each result buffer holds after each of the 32 steps, and from it the frame: the program runs to
its end from any memory, its arguments end as they began, and every semaphore is back at zero.

Two of the result buffers, the normalised rows `h` and the narrowed incoming gradient, are filled in the
first step of a row block, read in all four and written back after the last. A third, the gain's
gradient, is carried over all row blocks. The accumulator is carried over the steps of a row block.
-/

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step, with what the buffers hold at its end -/

/-- A buffer that held `x` holds `r` once the pieces `L` are stored into it. -/
def Makes {s : Shape} {e : EltTy} (x : s.Idx → Elt F e) (L : List (View.Piece (Elt F) s e)) (r : s.Idx → Elt F e) : Prop :=
  ∀ (c : Dev nD) (a : Memref sig .tc .vmem s e), (Wrote c a x L : sProp 𝕄) ⊢ owns (c : Thread nD τ) a fullShare r

theorem Makes.nil {s : Shape} {e : EltTy} (x : s.Idx → Elt F e) : Makes x [] x := fun c a => Wrote.nil c a x

theorem Makes.cover {s : Shape} {e : EltTy} (x : s.Idx → Elt F e) (L : List (View.Piece (Elt F) s e))
    (hL : ∀ y, ∃ p ∈ L, y ∈ p.1.set) : Makes x L (View.canon L) := fun c a => Wrote.cover c a x L hL

/-- A step with its results named. -/
theorem Step.results {P : grid0.Coords → Prop} {x2 : Vec F S512x1024 .f32} {x3 : Vec F S512x1024 .f32} {x4 : Vec F S2x1x512x704 .bf16} {x5 : Vec F S1x1024 .f32} {x6 : Vec F S2x1x704x1024 .bf16} {x7 : Vec F S1x2x352x1024 .bf16} {x10 : Vec F S512x1024 .bf16} {x13 : Vec F S1x1024 .f32} {x14 : Vec F S512x1024 .bf16} {x16 : Vec F S512x1024 .f32}
    {L9 : List (View.Piece (Elt F) S512x1024 .f32)} {L10 : List (View.Piece (Elt F) S512x1024 .bf16)} {L11 : List (View.Piece (Elt F) S1x512x704 .bf16)} {L12 : List (View.Piece (Elt F) S2x1x512x704 .bf16)} {L13 : List (View.Piece (Elt F) S1x1024 .f32)} {L14 : List (View.Piece (Elt F) S512x1024 .bf16)} {L15 : List (View.Piece (Elt F) S512x1024 .bf16)} {L16 : List (View.Piece (Elt F) S512x1024 .f32)}
    (hS : Step P x2 x3 x4 x5 x6 x7 x10 x13 x14 x16 L9 L10 L11 L12 L13 L14 L15 L16) (c : Dev nD) (i : grid0.Coords) (hi : P i)
    {x9 : Vec F S512x1024 .f32} {x11 : Vec F S1x512x704 .bf16} {x12 : Vec F S2x1x512x704 .bf16} {x15 : Vec F S512x1024 .bf16} {r9 : Vec F S512x1024 .f32} {r10 : Vec F S512x1024 .bf16} {r11 : Vec F S1x512x704 .bf16} {r12 : Vec F S2x1x512x704 .bf16} {r13 : Vec F S1x1024 .f32} {r14 : Vec F S512x1024 .bf16} {r15 : Vec F S512x1024 .bf16} {r16 : Vec F S512x1024 .f32}
    (m9 : Makes x9 L9 r9) (m10 : Makes x10 L10 r10) (m11 : Makes x11 L11 r11) (m12 : Makes x12 L12 r12) (m13 : Makes x13 L13 r13) (m14 : Makes x14 L14 r14) (m15 : Makes x15 L15 r15) (m16 : Makes x16 L16 r16)
    (a2 : Memref sig .tc .vmem S512x1024 .f32) (h2 : a2.IsWhole) (a3 : Memref sig .tc .vmem S512x1024 .f32) (h3 : a3.IsWhole) (a4 : Memref sig .tc .vmem S2x1x512x704 .bf16) (h4 : a4.IsWhole) (a5 : Memref sig .tc .vmem S1x1024 .f32) (h5 : a5.IsWhole) (a6 : Memref sig .tc .vmem S2x1x704x1024 .bf16) (h6 : a6.IsWhole) (a7 : Memref sig .tc .vmem S1x2x352x1024 .bf16) (h7 : a7.IsWhole) (a8 : Memref sig .tc .hbm S1024 .f32) (h8 : a8.IsWhole) (a9 : Memref sig .tc .vmem S512x1024 .f32) (h9 : a9.IsWhole) (a10 : Memref sig .tc .vmem S512x1024 .bf16) (h10 : a10.IsWhole) (a11 : Memref sig .tc .vmem S1x512x704 .bf16) (h11 : a11.IsWhole) (a12 : Memref sig .tc .vmem S2x1x512x704 .bf16) (h12 : a12.IsWhole) (a13 : Memref sig .tc .vmem S1x1024 .f32) (h13 : a13.IsWhole) (a14 : Memref sig .tc .vmem S512x1024 .bf16) (h14 : a14.IsWhole) (a15 : Memref sig .tc .vmem S512x1024 .bf16) (h15 : a15.IsWhole) (a16 : Memref sig .tc .vmem S512x1024 .f32) (h16 : a16.IsWhole) (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a9 fullShare r9 ∗ owns (c : Thread nD τ) a10 fullShare r10 ∗ owns (c : Thread nD τ) a11 fullShare r11 ∗ owns (c : Thread nD τ) a12 fullShare r12 ∗ owns (c : Thread nD τ) a13 fullShare r13 ∗ owns (c : Thread nD τ) a14 fullShare r14 ∗ owns (c : Thread nD τ) a15 fullShare r15 ∗ owns (c : Thread nD τ) a16 fullShare r16) -∗ K ⟨⟩))
      ⊢ wp frame (wpE (defs₀ (F := F)) Variants.none c none) E (cc0_ffn_bwd_rows i a2 h2 a3 h3 a4 h4 a5 h5 a6 h6 a7 h7 a8 h8 a9 h9 a10 h10 a11 h11 a12 h12 a13 h13 a14 h14 a15 h15 a16 h16) K := by
  iintro ⟨H2, H3, H4, H5, H6, H7, H9, H10, H11, H12, H13, H14, H15, H16, Hk⟩
  iapply (hS c i hi a2 h2 a3 h3 a4 h4 a5 h5 a6 h6 a7 h7 a8 h8 a9 h9 a10 h10 a11 h11 a12 h12 a13 h13 a14 h14 a15 h15 a16 h16 x9 x11 x12 x15 E K)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H9, H10, H11, H12, H13, H14, H15, H16⟩
  iapply Hk
  isplitl [H2]; · iexact H2
  isplitl [H3]; · iexact H3
  isplitl [H4]; · iexact H4
  isplitl [H5]; · iexact H5
  isplitl [H6]; · iexact H6
  isplitl [H7]; · iexact H7
  isplitl [H9]; · iapply (m9 c a9); iexact H9
  isplitl [H10]; · iapply (m10 c a10); iexact H10
  isplitl [H11]; · iapply (m11 c a11); iexact H11
  isplitl [H12]; · iapply (m12 c a12); iexact H12
  isplitl [H13]; · iapply (m13 c a13); iexact H13
  isplitl [H14]; · iapply (m14 c a14); iexact H14
  isplitl [H15]; · iapply (m15 c a15); iexact H15
  iapply (m16 c a16); iexact H16

/-! ## Every step's stores cover the buffers they are into -/

theorem cover_act (gu : Vec F S2x1x512x704 .bf16) : ∀ y, ∃ p ∈ act gu, y ∈ p.1.set :=
  View.cover_of_tiledL _ S1x256x704.size (by unfold act; sl_kernel_rfl)

theorem cover_dgu (gu : Vec F S2x1x512x704 .bf16) (wo : Vec F S1x2x352x1024 .bf16) (du dl : Vec F S256x1024 .bf16) :
    ∀ y, ∃ p ∈ dgu gu wo du dl, y ∈ p.1.set :=
  View.cover_of_tiledL _ S1x1x256x704.size (by unfold dgu; sl_kernel_rfl)

theorem cover_accNext (gu : Vec F S2x1x512x704 .bf16) (wi : Vec F S2x1x704x1024 .bf16) (wo : Vec F S1x2x352x1024 .bf16)
    (dyh : Vec F S512x1024 .bf16) (s : Vec F S512x1024 .f32) : ∀ y, ∃ p ∈ accNext gu wi wo dyh s, y ∈ p.1.set :=
  View.cover_of_tiledL _ S256x1024.size (by unfold accNext accL accU; sl_kernel_rfl)

theorem cover_rW {e : EltTy} (w : rW.shape.Idx → Elt F e) (L : List (View.Piece (Elt F) S512x1024 e))
    (h : (⟨rW, w⟩ : View.Piece (Elt F) S512x1024 e) ∈ L) : ∀ y, ∃ p ∈ L, y ∈ p.1.set := fun y =>
  ⟨_, h, by
    obtain ⟨p, hp, hy⟩ := View.cover_of_tiledL ([⟨rW, w⟩] : List (View.Piece (Elt F) S512x1024 e)) S512x1024.size (by sl_kernel_rfl) y
    rw [List.mem_singleton] at hp
    rw [hp] at hy
    exact hy⟩

theorem cover_rG {e : EltTy} (w : rG.shape.Idx → Elt F e) (L : List (View.Piece (Elt F) S1x1024 e))
    (h : (⟨rG, w⟩ : View.Piece (Elt F) S1x1024 e) ∈ L) : ∀ y, ∃ p ∈ L, y ∈ p.1.set := fun y =>
  ⟨_, h, by
    obtain ⟨p, hp, hy⟩ := View.cover_of_tiledL ([⟨rG, w⟩] : List (View.Piece (Elt F) S1x1024 e)) S1x1024.size (by sl_kernel_rfl) y
    rw [List.mem_singleton] at hp
    rw [hp] at hy
    exact hy⟩

theorem cover_accFirst (dy : Vec F S512x1024 .f32) (gu : Vec F S2x1x512x704 .bf16) (wi : Vec F S2x1x704x1024 .bf16)
    (wo : Vec F S1x2x352x1024 .bf16) : ∀ y, ∃ p ∈ accFirst dy gu wi wo, y ∈ p.1.set :=
  cover_rW _ _ (List.mem_cons_of_mem _ (List.mem_cons_of_mem _ (List.mem_singleton_self _)))

/-! ## The conditions and the schedule, by the step's number -/

theorem cond1_iff : ∀ t : Fin cfg0.N, k0_cond1 (grid0.coords t) = 1#1 ↔ t.val % 4 = 0 := by decide +kernel
theorem cond2_iff : ∀ t : Fin cfg0.N, k0_cond2 (grid0.coords t) = 1#1 ↔ t.val % 4 = 3 := by decide +kernel
theorem cond3_iff : ∀ t : Fin cfg0.N, k0_cond3 (grid0.coords t) = 1#1 ↔ t.val < 4 := by decide +kernel

theorem idle6 : ∀ t : Fin cfg0.N, cfg0.idle 6 (cfg0.grid.coords t) = !decide (t.val % 4 = 3) := by decide +kernel
theorem idle7 : ∀ t : Fin cfg0.N, cfg0.idle 7 (cfg0.grid.coords t) = !decide (t.val % 4 = 0) := by decide +kernel
theorem idle10 : ∀ t : Fin cfg0.N, cfg0.idle 10 (cfg0.grid.coords t) = !decide (t.val % 4 = 3) := by decide +kernel
theorem idle11 : ∀ t : Fin cfg0.N, cfg0.idle 11 (cfg0.grid.coords t) = !decide (t.val % 4 = 0) := by decide +kernel
theorem idle12 : ∀ t : Fin cfg0.N, cfg0.idle 12 (cfg0.grid.coords t) = !decide (t.val % 4 = 3) := by decide +kernel

theorem flush6 : ∀ t : Fin cfg0.N, (cfg0.win 6).flush t = decide (t.val % 4 = 3) := fun t => by
  rw [Bool.eq_iff_iff, flush0_6, decide_eq_true_iff]
theorem flush7 : ∀ t : Fin cfg0.N, (cfg0.win 7).flush t = decide (t.val % 4 = 3) := fun t => by
  rw [Bool.eq_iff_iff, flush0_7, decide_eq_true_iff]
theorem flush10 : ∀ t : Fin cfg0.N, (cfg0.win 10).flush t = decide (t.val % 32 = 31) := fun t => by
  rw [Bool.eq_iff_iff, flush0_10, decide_eq_true_iff]
theorem flush11 : ∀ t : Fin cfg0.N, (cfg0.win 11).flush t = decide (t.val % 4 = 3) := fun t => by
  rw [Bool.eq_iff_iff, flush0_11, decide_eq_true_iff]
theorem flush12 : ∀ t : Fin cfg0.N, (cfg0.win 12).flush t = decide (t.val % 4 = 3) := fun t => by
  rw [Bool.eq_iff_iff, flush0_12, decide_eq_true_iff]

/-- The normalised rows' buffer is unfilled at the first step of a row block only. -/
theorem fresh7 (n : ℕ) (h : n ≤ cfg0.N) : cfg0.fresh 7 n = decide (n % 4 = 0) :=
  cfg0.fresh_tab 7 (fun n => decide (n % 4 = 0)) rfl (fun t => by
    rw [flush7, idle7, Bool.eq_iff_iff]
    simp only [Bool.or_eq_true, Bool.and_eq_true, Bool.not_eq_true', decide_eq_true_iff, decide_eq_false_iff_not]
    omega) n h

/-- The same for the narrowed incoming gradient. -/
theorem fresh11 (n : ℕ) (h : n ≤ cfg0.N) : cfg0.fresh 11 n = decide (n % 4 = 0) :=
  cfg0.fresh_tab 11 (fun n => decide (n % 4 = 0)) rfl (fun t => by
    rw [flush11, idle11, Bool.eq_iff_iff]
    simp only [Bool.or_eq_true, Bool.and_eq_true, Bool.not_eq_true', decide_eq_true_iff, decide_eq_false_iff_not]
    omega) n h

/-- The gain's gradient is unfilled until the last step of the first row block. -/
theorem fresh10 (n : ℕ) (h : n ≤ cfg0.N) : cfg0.fresh 10 n = decide (n < 4 ∨ 32 ≤ n) :=
  cfg0.fresh_tab 10 (fun n => decide (n < 4 ∨ 32 ≤ n)) rfl (fun t => by
    have ht : t.val < 32 := lt_of_lt_of_eq t.isLt N_0
    rw [flush10, idle10, Bool.eq_iff_iff]
    simp only [Bool.or_eq_true, Bool.and_eq_true, Bool.not_eq_true', decide_eq_true_iff, decide_eq_false_iff_not]
    omega) n h

/-! ## What the buffers hold after each step -/

variable (m : (ℓ : Loc nD τ sig) → Buf (Elt F) ℓ) (ρ : Dev nD → PrngReg)

/-- Step number `n`. -/
def pt (n : ℕ) : Fin cfg0.N := if h : n < cfg0.N then ⟨n, h⟩ else ⟨0, by rw [show cfg0.N = 32 from N_0]; decide⟩

theorem pt_val (t : Fin cfg0.N) : pt t.val = t := by unfold pt; rw [dif_pos t.isLt]

/-- The first step of the row block of step `n`. -/
def base (n : ℕ) : Fin cfg0.N := pt (n / 4 * 4)

theorem base_first (t : Fin cfg0.N) (h : t.val % 4 = 0) : base t.val = t := by
  unfold base; rw [show t.val / 4 * 4 = t.val by omega, pt_val]

theorem base_pred (n : ℕ) (h : ¬n % 4 = 0) : base (n - 1) = base n := by
  unfold base; rw [show (n - 1) / 4 * 4 = n / 4 * 4 by omega]

/-- The row block's normalised rows. -/
def hAt (c : Dev nD) (n : ℕ) : Vec F S512x1024 .bf16 := View.canon (hPc (iblk m c 0 (base n)) (iblk m c 3 (base n)))

/-- The row block's incoming gradient, narrowed. -/
def dyhAt (c : Dev nD) (n : ℕ) : Vec F S512x1024 .bf16 := View.canon (dyhPc (iblk m c 1 (base n)))

/-- The accumulator after step `n`. -/
def accAt (c : Dev nD) : ℕ → Vec F S512x1024 .f32
  | 0 => View.canon (accFirst (iblk m c 1 (pt 0)) (iblk m c 2 (pt 0)) (iblk m c 4 (pt 0)) (iblk m c 5 (pt 0)))
  | n + 1 =>
    if (n + 1) % 4 = 0 then
      View.canon (accFirst (iblk m c 1 (pt (n + 1))) (iblk m c 2 (pt (n + 1))) (iblk m c 4 (pt (n + 1))) (iblk m c 5 (pt (n + 1))))
    else
      View.canon (accNext (iblk m c 2 (pt (n + 1))) (iblk m c 4 (pt (n + 1))) (iblk m c 5 (pt (n + 1))) (dyhAt m c (n + 1)) (accAt c n))

theorem accAt_first (c : Dev nD) (t : Fin cfg0.N) (h : t.val % 4 = 0) :
    accAt m c t.val = View.canon (accFirst (iblk m c 1 t) (iblk m c 2 t) (iblk m c 4 t) (iblk m c 5 t)) := by
  obtain ⟨n, hn⟩ := t
  cases n with
  | zero => rw [accAt, show pt 0 = ⟨0, hn⟩ from pt_val ⟨0, hn⟩]
  | succ n => rw [accAt, if_pos h, show pt (n + 1) = ⟨n + 1, hn⟩ from pt_val ⟨n + 1, hn⟩]

theorem accAt_next (c : Dev nD) (t : Fin cfg0.N) (h : ¬t.val % 4 = 0) :
    accAt m c t.val = View.canon (accNext (iblk m c 2 t) (iblk m c 4 t) (iblk m c 5 t) (dyhAt m c t.val) (accAt m c (t.val - 1))) := by
  obtain ⟨n, hn⟩ := t
  cases n with
  | zero => exact absurd rfl h
  | succ n => rw [accAt, if_neg h, show pt (n + 1) = ⟨n + 1, hn⟩ from pt_val ⟨n + 1, hn⟩]; rfl

/-- The gain's gradient after step `n`. -/
def dgAt (c : Dev nD) : ℕ → Vec F S1x1024 .f32
  | 0 => View.canon dgZero
  | n + 1 =>
    if (n + 1) % 4 = 3 then
      if n + 1 < 4 then View.canon (dgAdd (iblk m c 0 (pt (n + 1))) (accAt m c (n + 1)) (View.canon dgZero) :: dgZero)
      else View.canon [dgAdd (iblk m c 0 (pt (n + 1))) (accAt m c (n + 1)) (dgAt c n)]
    else dgAt c n

theorem dgAt_zero (c : Dev nD) (t : Fin cfg0.N) (h : t.val % 4 = 3) (h4 : t.val < 4) :
    dgAt m c t.val = View.canon (dgAdd (iblk m c 0 t) (accAt m c t.val) (View.canon dgZero) :: dgZero) := by
  obtain ⟨n, hn⟩ := t
  cases n with
  | zero => exact absurd h (by simp)
  | succ n => rw [dgAt, if_pos h, if_pos h4, show pt (n + 1) = ⟨n + 1, hn⟩ from pt_val ⟨n + 1, hn⟩]

theorem dgAt_add (c : Dev nD) (t : Fin cfg0.N) (h : t.val % 4 = 3) (h4 : ¬t.val < 4) :
    dgAt m c t.val = View.canon [dgAdd (iblk m c 0 t) (accAt m c t.val) (dgAt m c (t.val - 1))] := by
  obtain ⟨n, hn⟩ := t
  cases n with
  | zero => exact absurd h (by simp)
  | succ n => rw [dgAt, if_pos h, if_neg h4, show pt (n + 1) = ⟨n + 1, hn⟩ from pt_val ⟨n + 1, hn⟩]; rfl

theorem dgAt_keep (c : Dev nD) (n : ℕ) (h : ¬n % 4 = 3) (h0 : n ≠ 0) : dgAt m c n = dgAt m c (n - 1) := by
  cases n with
  | zero => exact absurd rfl h0
  | succ n => rw [dgAt, if_neg h]; rfl

/-- The rows' gradient, as the last step of a row block stores it. -/
def dxAt (c : Dev nD) (t : Fin cfg0.N) : Vec F S512x1024 .f32 :=
  View.canon (dxPc (iblk m c 0 t) (iblk m c 1 t) (iblk m c 3 t) (accAt m c t.val))

/-- The same, narrowed. -/
def dxbAt (c : Dev nD) (t : Fin cfg0.N) : Vec F S512x1024 .bf16 :=
  View.canon (dxbPc (iblk m c 0 t) (iblk m c 1 t) (iblk m c 3 t) (accAt m c t.val))

/-- The activations of step `t`. -/
def actAt (c : Dev nD) (t : Fin cfg0.N) : Vec F S1x512x704 .bf16 := View.canon (act (iblk m c 2 t))

/-- The gradients of gate and value of step `t`. -/
def dguAt (c : Dev nD) (t : Fin cfg0.N) : Vec F S2x1x512x704 .bf16 :=
  View.canon (dgu (iblk m c 2 t) (iblk m c 5 t) (View.ld (dyhAt m c t.val) rU) (View.ld (dyhAt m c t.val) rL))

/-- The scratch operand: the accumulator. -/
abbrev scM : Memref sig .tc .vmem S512x1024 .f32 := Memref.whole cc0_scratch0

/-- The invariant before step `n`: within a row block the accumulator is what the step before left. -/
def Inv (c : Dev nD) (n : ℕ) : sProp 𝕄 :=
  iprop((∃ s, ⌜¬n % 4 = 0 → s = accAt m c (n - 1)⌝ ∗ owns (c : Thread nD τ) scM fullShare s) ∗ (∃ r, prngReg c r))

theorem launch_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: what each window's buffer holds after each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxAt m c t
    | ⟨7, _⟩ => hAt m c t.val
    | ⟨8, _⟩ => actAt m c t
    | ⟨9, _⟩ => dguAt m c t
    | ⟨10, _⟩ => dgAt m c t.val
    | ⟨11, _⟩ => dyhAt m c t.val
    | ⟨12, _⟩ => dxbAt m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dxAt m c t := by dsimp only [dats]
theorem after7 (c : Dev nD) (t : Fin cfg0.N) : (dats m 0 c).after 7 t = hAt m c t.val := by dsimp only [dats]
theorem after8 (c : Dev nD) (t : Fin cfg0.N) : (dats m 0 c).after 8 t = actAt m c t := by dsimp only [dats]
theorem after9 (c : Dev nD) (t : Fin cfg0.N) : (dats m 0 c).after 9 t = dguAt m c t := by dsimp only [dats]
theorem after10 (c : Dev nD) (t : Fin cfg0.N) : (dats m 0 c).after 10 t = dgAt m c t.val := by dsimp only [dats]
theorem after11 (c : Dev nD) (t : Fin cfg0.N) : (dats m 0 c).after 11 t = dyhAt m c t.val := by dsimp only [dats]
theorem after12 (c : Dev nD) (t : Fin cfg0.N) : (dats m 0 c).after 12 t = dxbAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Within a row block the buffer of window 7 holds what the first step put there. -/
theorem before7 (c : Dev nD) (t : Fin cfg0.N) (h : ¬t.val % 4 = 0) (d) : (dats m 0 c).before 7 t d = hAt m c t.val := by
  rw [(dats m 0 c).before_out_traj 7 rfl (fun _ _ => rfl) (fun t h0 hi hf => by
      rw [idle7] at hi
      rw [after7, after7]
      unfold hAt
      rw [base_pred _ (by simpa using hi)]) t.val t rfl d, fresh7 _ (Nat.le_of_lt t.isLt), if_neg (by simpa using h), after7]
  unfold hAt
  rw [base_pred _ h]

/-- Within a row block the buffer of window 11 holds what the first step put there. -/
theorem before11 (c : Dev nD) (t : Fin cfg0.N) (h : ¬t.val % 4 = 0) (d) : (dats m 0 c).before 11 t d = dyhAt m c t.val := by
  rw [(dats m 0 c).before_out_traj 11 rfl (fun _ _ => rfl) (fun t h0 hi hf => by
      rw [idle11] at hi
      rw [after11, after11]
      unfold dyhAt
      rw [base_pred _ (by simpa using hi)]) t.val t rfl d, fresh11 _ (Nat.le_of_lt t.isLt), if_neg (by simpa using h), after11]
  unfold dyhAt
  rw [base_pred _ h]

/-- After the first row block the gain's gradient is what the step before left. -/
theorem before10 (c : Dev nD) (t : Fin cfg0.N) (h : ¬t.val < 4) (d) : (dats m 0 c).before 10 t d = dgAt m c (t.val - 1) := by
  have ht : t.val < 32 := lt_of_lt_of_eq t.isLt N_0
  rw [(dats m 0 c).before_out_traj 10 rfl (fun _ _ => rfl) (fun t h0 hi hf => by
      rw [idle10] at hi
      rw [after10, after10]
      exact dgAt_keep m c _ (by simpa using hi) h0) t.val t rfl d, fresh10 _ (Nat.le_of_lt t.isLt),
    if_neg (by simp only [decide_eq_true_iff]; omega), after10]

/-! ## What the pipeline asks back of each buffer -/

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after5]
theorem leaves8 (c : Dev nD) (t : Fin cfg0.N) : (dats m 0 c).leavesExact 8 t = owns (c : Thread nD τ) (st0_8 t) fullShare (actAt m c t) := by
  unfold Dat.leavesExact; rw [show cfg0.idle 8 (cfg0.grid.coords t) = false from rfl, after8]
theorem leaves9 (c : Dev nD) (t : Fin cfg0.N) : (dats m 0 c).leavesExact 9 t = owns (c : Thread nD τ) (st0_9 t) fullShare (dguAt m c t) := by
  unfold Dat.leavesExact; rw [show cfg0.idle 9 (cfg0.grid.coords t) = false from rfl, after9]

theorem leaves7 (c : Dev nD) (t : Fin cfg0.N) : owns (c : Thread nD τ) (st0_7 t) fullShare (hAt m c t.val) ⊢ (dats m 0 c).leavesExact 7 t := by
  by_cases h0 : t.val % 4 = 0
  · unfold Dat.leavesExact; rw [show cfg0.idle 7 (cfg0.grid.coords t) = false by rw [idle7]; simp [h0], after7]
  have hi : cfg0.idle 7 (cfg0.grid.coords t) = true := by rw [idle7]; simp [h0]
  by_cases h3 : t.val % 4 = 3
  · unfold Dat.leavesExact; rw [hi, show (cfg0.win 7).flush t = true by rw [flush7]; simp [h3], after7]
  · rw [Dat.leavesExact_idle (dats m 0 c) 7 t hi (by rw [flush7]; simp [h3])]
    iintro H; iexists (hAt m c t.val); rw [before7 m c t h0]; iexact H

theorem leaves11 (c : Dev nD) (t : Fin cfg0.N) : owns (c : Thread nD τ) (st0_11 t) fullShare (dyhAt m c t.val) ⊢ (dats m 0 c).leavesExact 11 t := by
  by_cases h0 : t.val % 4 = 0
  · unfold Dat.leavesExact; rw [show cfg0.idle 11 (cfg0.grid.coords t) = false by rw [idle11]; simp [h0], after11]
  have hi : cfg0.idle 11 (cfg0.grid.coords t) = true := by rw [idle11]; simp [h0]
  by_cases h3 : t.val % 4 = 3
  · unfold Dat.leavesExact; rw [hi, show (cfg0.win 11).flush t = true by rw [flush11]; simp [h3], after11]
  · rw [Dat.leavesExact_idle (dats m 0 c) 11 t hi (by rw [flush11]; simp [h3])]
    iintro H; iexists (dyhAt m c t.val); rw [before11 m c t h0]; iexact H

theorem leaves6 (c : Dev nD) (t : Fin cfg0.N) (d) :
    owns (c : Thread nD τ) (st0_6 t) fullShare (if t.val % 4 = 3 then dxAt m c t else (dats m 0 c).before 6 t d) ⊢ (dats m 0 c).leavesExact 6 t := by
  by_cases h3 : t.val % 4 = 3
  · unfold Dat.leavesExact; rw [if_pos h3, show cfg0.idle 6 (cfg0.grid.coords t) = false by rw [idle6]; simp [h3], after6]
  · rw [if_neg h3, Dat.leavesExact_idle (dats m 0 c) 6 t (by rw [idle6]; simp [h3]) (by rw [flush6]; simp only [decide_eq_false_iff_not]; omega)]
    iintro H; iexists d; iexact H

theorem leaves10 (c : Dev nD) (t : Fin cfg0.N) (d) :
    owns (c : Thread nD τ) (st0_10 t) fullShare (if t.val % 4 = 3 then dgAt m c t.val else (dats m 0 c).before 10 t d) ⊢ (dats m 0 c).leavesExact 10 t := by
  by_cases h3 : t.val % 4 = 3
  · unfold Dat.leavesExact; rw [if_pos h3, show cfg0.idle 10 (cfg0.grid.coords t) = false by rw [idle10]; simp [h3], after10]
  · rw [if_neg h3, Dat.leavesExact_idle (dats m 0 c) 10 t (by rw [idle10]; simp [h3]) (by rw [flush10]; simp only [decide_eq_false_iff_not]; omega)]
    iintro H; iexists d; iexact H

theorem leaves12 (c : Dev nD) (t : Fin cfg0.N) (d) :
    owns (c : Thread nD τ) (st0_12 t) fullShare (if t.val % 4 = 3 then dxbAt m c t else (dats m 0 c).before 12 t d) ⊢ (dats m 0 c).leavesExact 12 t := by
  by_cases h3 : t.val % 4 = 3
  · unfold Dat.leavesExact; rw [if_pos h3, show cfg0.idle 12 (cfg0.grid.coords t) = false by rw [idle12]; simp [h3], after12]
  · rw [if_neg h3, Dat.leavesExact_idle (dats m 0 c) 12 t (by rw [idle12]; simp [h3]) (by rw [flush12]; simp only [decide_eq_false_iff_not]; omega)]
    iintro H; iexists d; iexact H

/-! ## The body -/

set_option maxHeartbeats 4000000 in
/-- One step of the grid: from the blocks and the carried buffers to what the tables above say. -/
theorem step (c : Dev nD) (t : Fin cfg0.N) (x9 : Vec F S512x1024 .f32) (x10 : Vec F S512x1024 .bf16) (x11 : Vec F S1x512x704 .bf16) (x12 : Vec F S2x1x512x704 .bf16) (x13 : Vec F S1x1024 .f32) (x14 : Vec F S512x1024 .bf16) (x15 : Vec F S512x1024 .bf16) (x16 : Vec F S512x1024 .f32)
    (e10 : ¬t.val % 4 = 0 → x10 = hAt m c t.val) (e13 : ¬t.val < 4 → x13 = dgAt m c (t.val - 1))
    (e14 : ¬t.val % 4 = 0 → x14 = dyhAt m c t.val) (e16 : ¬t.val % 4 = 0 → x16 = accAt m c (t.val - 1)) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare x9 ∗ owns (c : Thread nD τ) (st0_7 t) fullShare x10 ∗ owns (c : Thread nD τ) (st0_8 t) fullShare x11 ∗ owns (c : Thread nD τ) (st0_9 t) fullShare x12 ∗ owns (c : Thread nD τ) (st0_10 t) fullShare x13 ∗ owns (c : Thread nD τ) (st0_11 t) fullShare x14 ∗ owns (c : Thread nD τ) (st0_12 t) fullShare x15 ∗ owns (c : Thread nD τ) scM fullShare x16
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (if t.val % 4 = 3 then dxAt m c t else x9) ∗ owns (c : Thread nD τ) (st0_7 t) fullShare (hAt m c t.val) ∗ owns (c : Thread nD τ) (st0_8 t) fullShare (actAt m c t) ∗ owns (c : Thread nD τ) (st0_9 t) fullShare (dguAt m c t) ∗ owns (c : Thread nD τ) (st0_10 t) fullShare (if t.val % 4 = 3 then dgAt m c t.val else x13) ∗ owns (c : Thread nD τ) (st0_11 t) fullShare (dyhAt m c t.val) ∗ owns (c : Thread nD τ) (st0_12 t) fullShare (if t.val % 4 = 3 then dxbAt m c t else x15) ∗ owns (c : Thread nD τ) scM fullShare (accAt m c t.val)) -∗ K ⟨⟩))
      ⊢ wp frame (wpE (defs₀ (F := F)) Variants.none c none) Set.univ (bodyAt0 t) K := by
  have hact : Makes x11 (act (iblk m c 2 t)) (actAt m c t) := Makes.cover _ _ (cover_act _)
  by_cases h0 : t.val % 4 = 0
  · have h3 : ¬t.val % 4 = 3 := by omega
    have hd : dyhAt m c t.val = View.canon (dyhPc (iblk m c 1 t)) := by unfold dyhAt; rw [base_first t h0]
    have hh : hAt m c t.val = View.canon (hPc (iblk m c 0 t) (iblk m c 3 t)) := by unfold hAt; rw [base_first t h0]
    simp only [if_neg h3]
    exact (runA (iblk m c 0 t) (iblk m c 1 t) (iblk m c 2 t) (iblk m c 3 t) (iblk m c 4 t) (iblk m c 5 t) x10 x13 x14 x16).results c _
      ⟨(cond1_iff t).mpr h0, fun h => h3 ((cond2_iff t).mp h)⟩ (Makes.nil x9)
      (by rw [hh]; exact Makes.cover _ _ (cover_rW _ _ (List.mem_singleton_self _))) hact
      (by unfold dguAt; rw [hd]; exact Makes.cover _ _ (cover_dgu _ _ _ _)) (Makes.nil _)
      (by rw [hd]; exact Makes.cover _ _ (cover_rW _ _ (List.mem_singleton_self _))) (Makes.nil x15)
      (by rw [accAt_first m c t h0]; exact Makes.cover _ _ (cover_accFirst _ _ _ _)) _ _ _ _ _ _ _ _ _ _ _ _ _ _ _ _ _ _ _ _ _ _ _ _ _ _ _ _ _ _ Set.univ K
  obtain rfl := e10 h0
  obtain rfl := e14 h0
  obtain rfl := e16 h0
  have hdgu : Makes x12 (dgu (iblk m c 2 t) (iblk m c 5 t) (View.ld (dyhAt m c t.val) rU) (View.ld (dyhAt m c t.val) rL)) (dguAt m c t) :=
    Makes.cover _ _ (cover_dgu _ _ _ _)
  have hacc : Makes (accAt m c (t.val - 1)) (accNext (iblk m c 2 t) (iblk m c 4 t) (iblk m c 5 t) (dyhAt m c t.val) (accAt m c (t.val - 1))) (accAt m c t.val) := by
    rw [accAt_next m c t h0]; exact Makes.cover _ _ (cover_accNext _ _ _ _ _)
  by_cases h3 : t.val % 4 = 3
  · have hdx : Makes x9 (dxPc (iblk m c 0 t) (iblk m c 1 t) (iblk m c 3 t) (View.canon (accNext (iblk m c 2 t) (iblk m c 4 t) (iblk m c 5 t) (dyhAt m c t.val) (accAt m c (t.val - 1))))) (dxAt m c t) := by
      unfold dxAt; rw [accAt_next m c t h0]; exact Makes.cover _ _ (cover_rW _ _ (List.mem_singleton_self _))
    have hdxb : Makes x15 (dxbPc (iblk m c 0 t) (iblk m c 1 t) (iblk m c 3 t) (View.canon (accNext (iblk m c 2 t) (iblk m c 4 t) (iblk m c 5 t) (dyhAt m c t.val) (accAt m c (t.val - 1))))) (dxbAt m c t) := by
      unfold dxbAt; rw [accAt_next m c t h0]; exact Makes.cover _ _ (cover_rW _ _ (List.mem_singleton_self _))
    simp only [if_pos h3]
    by_cases h4 : t.val < 4
    · exact (runC (iblk m c 0 t) (iblk m c 1 t) (iblk m c 2 t) (iblk m c 3 t) (iblk m c 4 t) (iblk m c 5 t) (hAt m c t.val) x13 (dyhAt m c t.val) (accAt m c (t.val - 1))).results c _
        ⟨⟨fun h => h0 ((cond1_iff t).mp h), (cond2_iff t).mpr h3⟩, (cond3_iff t).mpr h4⟩ hdx (Makes.nil _) hact hdgu
        (by rw [dgAt_zero m c t h3 h4, accAt_next m c t h0]; exact Makes.cover _ _ (cover_rG _ _ (List.mem_cons_of_mem _ (List.mem_singleton_self _))))
        (Makes.nil _) hdxb hacc _ _ _ _ _ _ _ _ _ _ _ _ _ _ _ _ _ _ _ _ _ _ _ _ _ _ _ _ _ _ Set.univ K
    · obtain rfl := e13 h4
      exact (runD (iblk m c 0 t) (iblk m c 1 t) (iblk m c 2 t) (iblk m c 3 t) (iblk m c 4 t) (iblk m c 5 t) (hAt m c t.val) (dgAt m c (t.val - 1)) (dyhAt m c t.val) (accAt m c (t.val - 1))).results c _
        ⟨⟨fun h => h0 ((cond1_iff t).mp h), (cond2_iff t).mpr h3⟩, fun h => h4 ((cond3_iff t).mp h)⟩ hdx (Makes.nil _) hact hdgu
        (by rw [dgAt_add m c t h3 h4, accAt_next m c t h0]; exact Makes.cover _ _ (cover_rG _ _ (List.mem_singleton_self _)))
        (Makes.nil _) hdxb hacc _ _ _ _ _ _ _ _ _ _ _ _ _ _ _ _ _ _ _ _ _ _ _ _ _ _ _ _ _ _ Set.univ K
  · simp only [if_neg h3]
    exact (runB (iblk m c 0 t) (iblk m c 1 t) (iblk m c 2 t) (iblk m c 3 t) (iblk m c 4 t) (iblk m c 5 t) (hAt m c t.val) x13 (dyhAt m c t.val) (accAt m c (t.val - 1))).results c _
      ⟨fun h => h0 ((cond1_iff t).mp h), fun h => h3 ((cond2_iff t).mp h)⟩ (Makes.nil x9) (Makes.nil _) hact hdgu
      (Makes.nil _) (Makes.nil _) (Makes.nil x15) hacc _ _ _ _ _ _ _ _ _ _ _ _ _ _ _ _ _ _ _ _ _ _ _ _ _ _ _ _ _ _ Set.univ K

/-- What the pipeline calls the body with at step `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))

/-- What it asks back. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

set_option maxHeartbeats 4000000 in
/-- The body meets the pipeline's demands at every step. -/
theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl,
    show (dats m 0 c).Φ t.castSucc = Inv m c t.val from rfl, show (dats m 0 c).Φ t.succ = Inv m c (t.val + 1) from rfl]
  rw [leaves0, leaves1, leaves2, leaves3, leaves4, leaves5, leaves8, leaves9]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (step m c t ((dats m 0 c).before 6 t d6) ((dats m 0 c).before 7 t d7) ((dats m 0 c).before 8 t d8) ((dats m 0 c).before 9 t d9)
    ((dats m 0 c).before 10 t d10) ((dats m 0 c).before 11 t d11) ((dats m 0 c).before 12 t d12) s
    (fun h => before7 m c t h d7) (fun h => before10 m c t h d10) (fun h => before11 m c t h d11) hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexists (accAt m c t.val); isplitr
      · ipureintro; intro _; rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6 m c t d6); iexact H6
  isplitl [H7]; · iapply (leaves7 m c t); iexact H7
  isplitl [H8]; · iexact H8
  isplitl [H9]; · iexact H9
  isplitl [H10]; · iapply (leaves10 m c t d10); iexact H10
  isplitl [H11]; · iapply (leaves11 m c t); iexact H11
  iapply (leaves12 m c t d12); iexact H12

/-! ## The launch and the frame -/

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem enter (c : Dev nD) : Pipeline.ΦA spec0 c ⊢ (dats m 0 c).Φ 0 := by
  rw [show (dats m 0 c).Φ 0 = Inv m c 0 from rfl, launch_eq]
  unfold Inv
  iintro ⟨⟨%d, HS⟩, Hg⟩
  isplitl [HS]
  · iexists d; isplitr
    · ipureintro; intro h; exact absurd rfl h
    iexact HS
  iexact Hg

theorem leave (c : Dev nD) : (dats m 0 c).Φ (Fin.last cfg0.N) ⊢ Pipeline.ΦA spec0 c := by
  rw [show (dats m 0 c).Φ (Fin.last cfg0.N) = Inv m c cfg0.N from rfl, launch_eq]
  unfold Inv
  iintro ⟨⟨%s, -, HS⟩, Hg⟩
  isplitl [HS]
  · iexists s; iexact HS
  iexact Hg

set_option backward.isDefEq.respectTransparency.types false in
/-- Every run ends with the pipeline's arrays as the tables above make them, and every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The run alone. -/
theorem run_main : θ_run defs (onTc (τ := τ) (main (F := F))) (s₀ m ρ) (Pipeline.FramePost cfgs (dats m) 0 (V m)) :=
  (θ_run defs _ _).mono (fun _ h => h.1) (run_all m ρ)

/-- The frame: the arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_all m ρ))

end Cert.KernelIdeal.Rows

end
-- ==== Proof.RowsMath.lean ====
/- The two identities between real numbers that the backward call and its reference meet in: the derivative of the
   gate, and the derivative of the root-mean-square norm. -/
module

public import Idealize.ShloMosaic.PureOps.Ideal.Laws
public import Idealize.ShloMosaic.Lib.IdealHost

@[expose] public section

noncomputable section

open Idealize.ShloMosaic
open scoped BigOperators

namespace Cert.RowsMath

/-- The extended real is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals, as a real. -/
theorem coe_sum {n : ℕ} (f : Fin n → ℝ) : ∑ i, (f i : EReal) = ((∑ i, f i : ℝ) : EReal) := by
  induction n with
  | zero => simp
  | succ n ih => rw [Fin.sum_univ_castSucc, Fin.sum_univ_castSucc, ih, EReal.coe_add]

/-- A finite sum of real numbers is real. -/
theorem IsReal.sum {n : ℕ} {f : Fin n → EReal} (h : ∀ i, IsReal (f i)) : IsReal (∑ i, f i) := by
  choose g hg using h
  exact ⟨∑ i, g i, (Finset.sum_congr rfl fun i _ => hg i).trans (coe_sum g)⟩

/-- What less itself is zero is real. -/
theorem IsReal.of_sub {x : EReal} (h : x - x = 0) : IsReal x := by
  induction x using EReal.rec with
  | bot => exact absurd h (by simp)
  | coe r => exact ⟨r, rfl⟩
  | top => exact absurd h (by simp)

/-- The program's constants. -/
theorem half_eq : Ideal.ofBits .f32 0x3F000000#32 = ((1 / 2 : ℝ) : EReal) := by
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul]; norm_num
theorem n_eq : Ideal.ofBits .f32 0x44800000#32 = ((1024 : ℝ) : EReal) := by
  simp [Ideal.ofBits, Ideal.ieee, -EReal.coe_mul]; norm_num
theorem eps_eq : ∃ e : ℝ, 0 < e ∧ Ideal.ofBits .f32 0x358637BD#32 = (e : EReal) := by
  refine ⟨_, ?_, by simp [Ideal.ofBits, Ideal.ieee, -EReal.coe_mul]; rfl⟩
  norm_num

/-! ## The gate -/

/-- The logistic function as both programs write it. -/
def sgm (g : EReal) : EReal := Ideal.div 1 (1 + Ideal.exp (-g))

theorem sig_real {g : EReal} (h : IsReal g) : IsReal (sgm g) := by
  obtain ⟨a, rfl⟩ := h
  exact ⟨_, Ideal.logistic_coe a⟩

/-- The activation as the kernel writes it, from gate and value. -/
def act (g u : EReal) : EReal := g * sgm g * u

/-- The gate's gradient as the kernel writes it, from the activation's gradient, gate and value. -/
def dgate (d g u : EReal) : EReal := d * (u * (sgm g * (1 + g * (1 - sgm g))))

/-- The value's gradient. -/
def dval (d g : EReal) : EReal := d * (g * sgm g)

/-- The gate's gradient as the reference's chain rule gives it. -/
theorem dgate_eq {d g u : EReal} (hd : IsReal d) (hg : IsReal g) (hu : IsReal u) :
    d * u * sgm g + g * (d * u) * (sgm g * (1 - sgm g)) = dgate d g u := by
  obtain ⟨s, hs⟩ := sig_real hg
  unfold dgate
  rw [hs]
  obtain ⟨d, rfl⟩ := hd; obtain ⟨g, rfl⟩ := hg; obtain ⟨u, rfl⟩ := hu
  norm_cast
  ring

theorem dgate_real {d g u : EReal} (hd : IsReal d) (hg : IsReal g) (hu : IsReal u) : IsReal (dgate d g u) := by
  obtain ⟨s, hs⟩ := sig_real hg
  unfold dgate
  rw [hs]
  obtain ⟨d, rfl⟩ := hd; obtain ⟨g, rfl⟩ := hg; obtain ⟨u, rfl⟩ := hu
  norm_cast
  exact IsReal.coe _

theorem dval_real {d g : EReal} (hd : IsReal d) (hg : IsReal g) : IsReal (dval d g) := hd.mul (hg.mul (sig_real hg))

/-! ## The norm -/

/-- A row's mean square with the small constant added. -/
def vare (f : Fin 1024 → EReal) : EReal :=
  Ideal.div (∑ l, f l * f l) (Ideal.ofBits .f32 0x44800000#32) + Ideal.ofBits .f32 0x358637BD#32

/-- One over the root of the mean square. -/
def rinv (f : Fin 1024 → EReal) : EReal := Ideal.rsqrt (vare f)

/-- Of a row of reals the mean square is a positive real `v`, and `rinv` is a real `r` with `r * r * v = 1`. -/
theorem inv_real {f : Fin 1024 → EReal} (h : ∀ l, IsReal (f l)) :
    ∃ v r : ℝ, 0 < v ∧ r * r * v = 1 ∧ vare f = (v : EReal) ∧ rinv f = (r : EReal) := by
  choose x hx using h
  obtain ⟨e, he, hE⟩ := eps_eq
  have hv : vare f = (((∑ l, x l * x l) * (1 / 1024) + e : ℝ) : EReal) := by
    unfold vare
    rw [n_eq, hE, Ideal.div_coe (by norm_num), EReal.coe_add, EReal.coe_mul, ← coe_sum]
    simp only [hx, EReal.coe_mul]
  have h0 : 0 < (∑ l, x l * x l) * (1 / 1024) + e :=
    add_pos_of_nonneg_of_pos (mul_nonneg (Finset.sum_nonneg fun l _ => mul_self_nonneg _) (by norm_num)) he
  refine ⟨_, (Real.sqrt ((∑ l, x l * x l) * (1 / 1024) + e))⁻¹, h0, ?_, hv, ?_⟩
  · have hs := Real.mul_self_sqrt h0.le
    have hp := Real.sqrt_pos.mpr h0
    generalize (∑ l, x l * x l) * (1 / 1024) + e = v at hs hp h0 ⊢
    rw [← mul_inv, hs, inv_mul_cancel₀ h0.ne']
  · unfold rinv
    rw [hv, Ideal.rsqrt_coe, if_neg (not_lt.mpr h0.le), if_neg h0.ne']

/-- The norm's gradient at column `k` as the kernel writes it: `x` is the row, `d` the gradient of the normed row,
    `g` the gain. -/
def dnorm (x d g : Fin 1024 → EReal) (k : Fin 1024) : EReal :=
  rinv x * (d k * g k - x k * rinv x * Ideal.div (∑ l, d l * g l * (x l * rinv x)) (Ideal.ofBits .f32 0x44800000#32))

/-- The reference's common factor of the norm's gradient. -/
def dmean (x d g : Fin 1024 → EReal) : EReal :=
  Ideal.div ((∑ l, x l * (d l * g l)) * (Ideal.ofBits .f32 0xBF000000#32 * Ideal.div (rinv x) (vare x)))
    (Ideal.ofBits .f32 0x44800000#32)

/-- The norm's gradient as the reference's chain rule gives it. -/
theorem dnorm_eq {x d g : Fin 1024 → EReal} (hx : ∀ l, IsReal (x l)) (hd : ∀ l, IsReal (d l)) (hg : ∀ l, IsReal (g l)) (k : Fin 1024) :
    d k * g k * rinv x + x k * dmean x d g + dmean x d g * x k = dnorm x d g k := by
  obtain ⟨v, r, hv, hr, eV, eR⟩ := inv_real hx
  choose x' ex using hx
  choose d' ed using hd
  choose g' eg using hg
  have e1 : ∑ l, x l * (d l * g l) = ((∑ l, x' l * (d' l * g' l) : ℝ) : EReal) := by
    rw [← coe_sum]; simp only [ex, ed, eg, EReal.coe_mul]
  have e2 : ∑ l, d l * g l * (x l * rinv x) = ((∑ l, x' l * (d' l * g' l) : ℝ) * r : EReal) := by
    rw [← EReal.coe_mul, Finset.sum_mul, ← coe_sum]
    refine Finset.sum_congr rfl fun l _ => ?_
    rw [ex, ed, eg, eR]
    norm_cast
    ring
  unfold dnorm dmean
  rw [e1, e2, eR, eV, neg_half_eq, n_eq, Ideal.div_coe hv.ne', Ideal.div_coe (by norm_num), Ideal.div_coe (by norm_num), ex, ed, eg]
  generalize (∑ l, x' l * (d' l * g' l)) = T
  norm_cast
  have hvi : 1 / v = r * r := by field_simp; linarith [hr]
  rw [hvi]
  ring

/-! ## A row with an infinite entry -/

theorem mul_self_nonneg' (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- A row with an infinite entry has an infinite mean square, and `rinv` is zero. -/
theorem inv_top {f : Fin 1024 → EReal} (h : ¬∀ l, IsReal (f l)) : vare f = ⊤ ∧ rinv f = 0 := by
  obtain ⟨l, hl⟩ := not_forall.mp h
  have h1 : f l * f l = ⊤ := by
    generalize f l = x at hl
    induction x using EReal.rec with
    | bot => exact EReal.bot_mul_bot
    | coe r => exact absurd ⟨r, rfl⟩ hl
    | top => exact EReal.top_mul_top
  have h2 : ∑ l, f l * f l = ⊤ := by
    rw [← Finset.add_sum_erase Finset.univ (fun l => f l * f l) (Finset.mem_univ l)]
    show f l * f l + _ = ⊤
    rw [h1]
    refine EReal.top_add_of_ne_bot (ne_of_gt (lt_of_lt_of_le EReal.bot_lt_zero ?_))
    exact Finset.sum_nonneg fun l _ => mul_self_nonneg' _
  obtain ⟨e, he, hE⟩ := eps_eq
  have hv : vare f = ⊤ := by
    unfold vare
    rw [h2, n_eq, hE, Ideal.div_coe (by norm_num), EReal.top_mul_coe_of_pos (by norm_num), EReal.top_add_coe]
  refine ⟨hv, ?_⟩
  unfold rinv
  rw [hv, Ideal.rsqrt_top]

/-- A normed entry is real, of any row. -/
theorem norm_real (f : Fin 1024 → EReal) (l : Fin 1024) : IsReal (f l * rinv f) := by
  by_cases h : ∀ l, IsReal (f l)
  · obtain ⟨_, r, _, _, _, hr⟩ := inv_real h
    exact (h l).mul ⟨r, hr⟩
  · rw [(inv_top h).2, mul_zero]
    exact ⟨0, rfl⟩

/-- The norm's gradient as the reference's chain rule gives it, of any row. -/
theorem dnorm_eq' {x d g : Fin 1024 → EReal} (hd : ∀ l, IsReal (d l)) (hg : ∀ l, IsReal (g l)) (k : Fin 1024) :
    d k * g k * rinv x + x k * dmean x d g + dmean x d g * x k = dnorm x d g k := by
  by_cases h : ∀ l, IsReal (x l)
  · exact dnorm_eq h hd hg k
  · obtain ⟨hv, hr⟩ := inv_top h
    have hm : dmean x d g = 0 := by
      unfold dmean
      rw [hv, hr, n_eq, Ideal.div_coe (by norm_num), show Ideal.div 0 ⊤ = 0 from by simp [Ideal.div], mul_zero, mul_zero, zero_mul]
    unfold dnorm
    rw [hm, hr, mul_zero, mul_zero, zero_mul, zero_mul, add_zero, add_zero]

end Cert.RowsMath

end
-- ==== Proof.RowsRef.lean ====
/- The reference of the backward call over the rows, element by element. -/
module

public import proofs.«01_k».proof.Proof.Gen.ReferenceIdeal.Read
public import proofs.«01_k».proof.Proof.RowsMath
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.ReferenceIdeal.Rows

open Cert.ReferenceIdeal Cert.ReferenceIdeal.Read Cert.RowsMath

variable (X Y : FVec Ideal S4096x1024 .f32) (G : FVec Ideal S1024 .f32) (W : FVec Ideal S1024x5632 .f32) (U : FVec Ideal S2816x1024 .f32)

/-- A row of the input. -/
abbrev row (i : Fin 4096) : Fin 1024 → EReal := fun l => X (ix2 i l)

/-- The normed rows. -/
theorem h_at (i : Fin 4096) (k : Fin 1024) : val_main_v15 (F := Ideal) X G (ix2 i k) = X (ix2 i k) * rinv (row X i) * G (ix1 k) := by
  unfold rinv vare
  pointwise [val_main_v15,val_main_v14,val_main_v13,val_main_v12,val_main_v11,val_main_v7,val_main_v6,val_main_v5,val_main_v4,val_main_v3,val_main_v2,val_main_v1,val_main_v0,val_main_cst,val_main_cst_0,val_main_cst_1]

/-- The first product. -/
def z (i : Fin 4096) (n : Fin 5632) : EReal := ∑ k : Fin 1024, X (ix2 i k) * rinv (row X i) * G (ix1 k) * W (ix2 k n)

theorem z_at (i : Fin 4096) (n : Fin 5632) : val_main_v16 (F := Ideal) X G W (ix2 i n) = z X G W i n := by
  unfold z
  simp only [← h_at]
  pointwise [val_main_v16]

/-- The gate's column of `q`. -/
abbrev qg (q : Fin 2816) : Fin 5632 := ⟨q.val, by omega⟩
/-- The value's column of `q`. -/
abbrev qv (q : Fin 2816) : Fin 5632 := ⟨2816 + q.val, by omega⟩

theorem gate_at (i : Fin 4096) (q : Fin 2816) : val_main_v17 (F := Ideal) X G W (ix2 i q) = z X G W i (qg q) := by
  rw [← z_at]; pointwise [val_main_v17]
theorem value_at (i : Fin 4096) (q : Fin 2816) : val_main_v18 (F := Ideal) X G W (ix2 i q) = z X G W i (qv q) := by
  rw [← z_at]; pointwise [val_main_v18]

/-- The logistic of the gate. -/
theorem sig_at (i : Fin 4096) (q : Fin 2816) : val_main_v19_2 (F := Ideal) X G W (ix2 i q) = sgm (z X G W i (qg q)) := by
  rw [← gate_at]; unfold sgm
  pointwise [val_main_v19_2, val_main_call0_v4, val_main_call0_v3, val_main_call0_v2, val_main_call0_v1, val_main_call0_v0, val_main_call0_cst, val_main_call0_cst_0]

/-- The activation. -/
theorem act_at (i : Fin 4096) (q : Fin 2816) : val_main_v20 (F := Ideal) X G W (ix2 i q) = act (z X G W i (qg q)) (z X G W i (qv q)) := by
  unfold act
  rw [← sig_at, ← gate_at, ← value_at]
  pointwise [val_main_v20, val_main_v19_0]

/-- Half the incoming gradient. -/
theorem dyh_at (i : Fin 4096) (k : Fin 1024) : val_main_v23 (F := Ideal) Y (ix2 i k) = Ideal.ofBits .f32 0x3F000000#32 * Y (ix2 i k) := by
  pointwise [val_main_v23, val_main_v22, val_main_cst_3]

/-- The activation's gradient. -/
def dact (i : Fin 4096) (q : Fin 2816) : EReal := ∑ k : Fin 1024, Ideal.ofBits .f32 0x3F000000#32 * Y (ix2 i k) * U (ix2 q k)

theorem dact_at (i : Fin 4096) (q : Fin 2816) : val_main_v24 (F := Ideal) Y U (ix2 i q) = dact Y U i q := by
  unfold dact
  simp only [← dyh_at]
  pointwise [val_main_v24]

theorem dval_at (i : Fin 4096) (q : Fin 2816) :
    val_main_v25 (F := Ideal) X Y G W U (ix2 i q) = dval (dact Y U i q) (z X G W i (qg q)) := by
  unfold dval
  rw [mul_comm, ← sig_at, ← gate_at, ← dact_at]
  pointwise [val_main_v25, val_main_v19_0]

theorem dgate_at (i : Fin 4096) (q : Fin 2816) (hd : IsReal (dact Y U i q)) (hg : IsReal (z X G W i (qg q))) (hu : IsReal (z X G W i (qv q))) :
    val_main_v27 (F := Ideal) X Y G W U (ix2 i q) = dgate (dact Y U i q) (z X G W i (qg q)) (z X G W i (qv q)) := by
  rw [← dgate_eq hd hg hu, ← sig_at, ← gate_at, ← value_at, ← dact_at]
  pointwise [val_main_v27, val_main_call1_v2, val_main_call1_v1, val_main_call1_v0, val_main_v26, val_main_v19_1, val_main_call0_v7, val_main_call0_v6, val_main_call0_cst_1]

/-! ## With finite arguments -/

/-- The gradient of the first product, for a column of the gate or of the value. -/
theorem dz_gate (i : Fin 4096) (q : Fin 2816) (hd : IsReal (dact Y U i q)) (hg : IsReal (z X G W i (qg q))) (hu : IsReal (z X G W i (qv q))) :
    val_main_v28 (F := Ideal) X Y G W U (ix2 i (qg q)) = dgate (dact Y U i q) (z X G W i (qg q)) (z X G W i (qv q)) := by
  rw [← dgate_at X Y G W U i q hd hg hu]
  unfold val_main_v28
  exact concatenate_pair_apply_left (t := S4096x5632) (s₁ := S4096x2816) (s₂ := S4096x2816) 1 _ _ _ (ix2 i (qg q)) rfl (ix2 i q) (fun a => match a with | ⟨0, _⟩ => rfl | ⟨1, _⟩ => rfl)

theorem dz_value (i : Fin 4096) (q : Fin 2816) :
    val_main_v28 (F := Ideal) X Y G W U (ix2 i (qv q)) = dval (dact Y U i q) (z X G W i (qg q)) := by
  rw [← dval_at X Y G W U i q]
  unfold val_main_v28
  exact concatenate_pair_apply_right (t := S4096x5632) (s₁ := S4096x2816) (s₂ := S4096x2816) 1 _ _ _ (ix2 i (qv q)) rfl rfl (ix2 i q) (fun a => match a with | ⟨0, _⟩ => fun _ => rfl | ⟨1, _⟩ => fun h => absurd rfl h) (Nat.add_comm _ _)

/-- Every argument but the input itself is real. -/
structure AllReal : Prop where
  y : ∀ i k, IsReal (Y (ix2 i k))
  g : ∀ k, IsReal (G (ix1 k))
  w : ∀ k n, IsReal (W (ix2 k n))
  u : ∀ q k, IsReal (U (ix2 q k))

section
variable {X Y : FVec Ideal S4096x1024 .f32} {G : FVec Ideal S1024 .f32} {W : FVec Ideal S1024x5632 .f32} {U : FVec Ideal S2816x1024 .f32}

theorem AllReal.z (H : AllReal Y G W U) (i : Fin 4096) (n : Fin 5632) : IsReal (z X G W i n) :=
  IsReal.sum fun k => ((norm_real (row X i) k).mul (H.g k)).mul (H.w k n)

theorem AllReal.dact (H : AllReal Y G W U) (i : Fin 4096) (q : Fin 2816) : IsReal (dact Y U i q) :=
  IsReal.sum fun k => IsReal.mul (IsReal.mul ⟨_, half_eq⟩ (H.y i k)) (H.u q k)
end

/-- The column of tile `j`'s entry `l`. -/
abbrev qq (j : Fin 4) (l : Fin 704) : Fin 2816 := ⟨j.val * 704 + l.val, by omega⟩

/-- One tile's part of the normed rows' gradient. -/
def dpart (i : Fin 4096) (k : Fin 1024) (j : Fin 4) : EReal :=
  (∑ l : Fin 704, dgate (dact Y U i (qq j l)) (z X G W i (qg (qq j l))) (z X G W i (qv (qq j l))) * W (ix2 k (qg (qq j l)))) +
    ∑ l : Fin 704, dval (dact Y U i (qq j l)) (z X G W i (qg (qq j l))) * W (ix2 k (qv (qq j l)))

/-- The normed rows' gradient. -/
def dh (i : Fin 4096) (k : Fin 1024) : EReal := ∑ j : Fin 4, dpart X Y G W U i k j

theorem dh_at (H : AllReal Y G W U) (i : Fin 4096) (k : Fin 1024) : val_main_v29 (F := Ideal) X Y G W U (ix2 i k) = dh X Y G W U i k := by
  have e : val_main_v29 (F := Ideal) X Y G W U (ix2 i k) = ∑ n : Fin 5632, val_main_v28 (F := Ideal) X Y G W U (ix2 i n) * W (ix2 k n) := by
    pointwise [val_main_v29]
  rw [e, Fin.sum_univ_two_halves 2816 2816 rfl (fun n : Fin 5632 => val_main_v28 (F := Ideal) X Y G W U (ix2 i n) * W (ix2 k n))]
  unfold dh dpart
  rw [Finset.sum_add_distrib, Fin.sum_univ_tiles 4 704 rfl, Fin.sum_univ_tiles 4 704 rfl]
  refine congrArg₂ (· + ·) (Finset.sum_congr rfl fun j _ => Finset.sum_congr rfl fun l _ => ?_) (Finset.sum_congr rfl fun j _ => Finset.sum_congr rfl fun l _ => ?_)
  · exact congrArg (· * _) (dz_gate X Y G W U i (qq j l) (H.dact _ _) (H.z _ _) (H.z _ _))
  · exact congrArg (· * _) (dz_value X Y G W U i (qq j l))

section
variable {X Y : FVec Ideal S4096x1024 .f32} {G : FVec Ideal S1024 .f32} {W : FVec Ideal S1024x5632 .f32} {U : FVec Ideal S2816x1024 .f32}
theorem AllReal.dh (H : AllReal Y G W U) (i : Fin 4096) (k : Fin 1024) : IsReal (dh X Y G W U i k) :=
  IsReal.sum fun j => (IsReal.sum fun l => (dgate_real (H.dact _ _) (H.z _ _) (H.z _ _)).mul (H.w _ _)).add
    (IsReal.sum fun l => (dval_real (H.dact _ _) (H.z _ _)).mul (H.w _ _))
end

/-- The gain's gradient: the normed rows without the gain, times the gradient, summed over the rows. -/
def dgain (k : Fin 1024) : EReal := ∑ i : Fin 4096, dh X Y G W U i k * (X (ix2 i k) * rinv (row X i))

theorem dgain_at (H : AllReal Y G W U) (k : Fin 1024) : val_main_v35 (F := Ideal) X Y G W U (ix1 k) = dgain X Y G W U k := by
  have e : val_main_v35 (F := Ideal) X Y G W U (ix1 k) = ∑ i : Fin 4096, X (ix2 i k) * rinv (row X i) * val_main_v29 (F := Ideal) X Y G W U (ix2 i k) := by
    unfold rinv vare
    pointwise [val_main_v35, val_main_v32, val_main_v31, val_main_v30, val_main_cst_4, val_main_cst_5, val_main_v12,val_main_v11,val_main_v7,val_main_v6,val_main_v5,val_main_v4,val_main_v3,val_main_v2,val_main_v1,val_main_v0,val_main_cst,val_main_cst_0,val_main_cst_1]
    simp only [Fin.sum_univ_one]
  rw [e]
  refine Finset.sum_congr rfl fun i _ => ?_
  rw [dh_at X Y G W U H, mul_comm]

/-- The input's gradient. -/
def dx (i : Fin 4096) (k : Fin 1024) : EReal :=
  Y (ix2 i k) + dnorm (row X i) (fun l => dh X Y G W U i l) (fun l => G (ix1 l)) k

theorem dx_at (H : AllReal Y G W U) (i : Fin 4096) (k : Fin 1024) : val_main_v50 (F := Ideal) X Y G W U (ix2 i k) = dx X Y G W U i k := by
  have e : val_main_v50 (F := Ideal) X Y G W U (ix2 i k) = Y (ix2 i k) +
      (val_main_v29 (F := Ideal) X Y G W U (ix2 i k) * G (ix1 k) * rinv (row X i) +
        X (ix2 i k) * dmean (row X i) (fun l => val_main_v29 (F := Ideal) X Y G W U (ix2 i l)) (fun l => G (ix1 l)) +
        dmean (row X i) (fun l => val_main_v29 (F := Ideal) X Y G W U (ix2 i l)) (fun l => G (ix1 l)) * X (ix2 i k)) := by
    unfold dmean rinv vare
    pointwise [val_main_v50, val_main_v49, val_main_v48, val_main_v47, val_main_v46, val_main_v45, val_main_v44, val_main_v43, val_main_v42, val_main_v41, val_main_v40, val_main_v39, val_main_v38, val_main_v37, val_main_v36, val_main_v34, val_main_v33, val_main_v13, val_main_v10, val_main_v9, val_main_v8, val_main_cst_2, val_main_cst_6, val_main_cst_7, val_main_cst_8, val_main_v7,val_main_v6,val_main_v5,val_main_v4,val_main_v3,val_main_v2,val_main_v1,val_main_v0,val_main_cst,val_main_cst_0,val_main_cst_1]
    simp only [Fin.sum_univ_one]
  rw [e]
  simp only [dh_at X Y G W U H]
  rw [dnorm_eq' (x := row X i) (fun l => H.dh i l) H.g k]
  rfl

/-! ## The results -/

/-- The gradient at a column of the gate (`s = 0`) or of the value. -/
def dzv (s : Fin 2) (d g u : EReal) : EReal := if s.val = 0 then dgate d g u else dval d g

theorem res_h (i : Fin 4096) (k : Fin 1024) : val_main_v51 (F := Ideal) X G (ix2 i k) = X (ix2 i k) * rinv (row X i) * G (ix1 k) := by
  rw [← h_at]; pointwise [val_main_v51]

theorem res_act (j : Fin 4) (i : Fin 4096) (l : Fin 704) :
    val_main_v54 (F := Ideal) X G W (ix3 j i l) = act (z X G W i (qg (qq j l))) (z X G W i (qv (qq j l))) := by
  rw [← act_at]; pointwise [val_main_v54, val_main_v53, val_main_v52]

theorem res_dgu (H : AllReal Y G W U) (s : Fin 2) (j : Fin 4) (i : Fin 4096) (l : Fin 704) :
    val_main_v57 (F := Ideal) X Y G W U (ix4 s j i l) = dzv s (dact Y U i (qq j l)) (z X G W i (qg (qq j l))) (z X G W i (qv (qq j l))) := by
  have e : val_main_v57 (F := Ideal) X Y G W U (ix4 s j i l) = val_main_v28 (F := Ideal) X Y G W U (ix2 i ⟨s.val * 2816 + j.val * 704 + l.val, by omega⟩) := by
    pointwise [val_main_v57, val_main_v56, val_main_v55]
  rw [e]
  unfold dzv
  by_cases h : s.val = 0
  · rw [if_pos h, ← dz_gate X Y G W U i (qq j l) (H.dact _ _) (H.z _ _) (H.z _ _)]
    exact congrArg (fun n => val_main_v28 (F := Ideal) X Y G W U (ix2 i n)) (Fin.ext (by show s.val * 2816 + j.val * 704 + l.val = j.val * 704 + l.val; omega))
  · rw [if_neg h, ← dz_value X Y G W U i (qq j l)]
    exact congrArg (fun n => val_main_v28 (F := Ideal) X Y G W U (ix2 i n)) (Fin.ext (by show s.val * 2816 + j.val * 704 + l.val = 2816 + (j.val * 704 + l.val); omega))

theorem res_dgain (H : AllReal Y G W U) (a : Fin 1) (k : Fin 1024) : val_main_v58 (F := Ideal) X Y G W U (ix2 a k) = dgain X Y G W U k := by
  rw [← dgain_at X Y G W U H]; pointwise [val_main_v58]

theorem res_dyh (i : Fin 4096) (k : Fin 1024) : val_main_v59 (F := Ideal) Y (ix2 i k) = Ideal.ofBits .f32 0x3F000000#32 * Y (ix2 i k) := by
  rw [← dyh_at]; pointwise [val_main_v59]

theorem res_dxb (H : AllReal Y G W U) (i : Fin 4096) (k : Fin 1024) : val_main_v60 (F := Ideal) X Y G W U (ix2 i k) = dx X Y G W U i k := by
  rw [← dx_at X Y G W U H]; pointwise [val_main_v60]

end Cert.ReferenceIdeal.Rows

end
-- ==== Proof.RowsPoint.lean ====
/- One step of the backward call over the rows, element by element: what each of its stages computes from the blocks
   it loads. -/
module

public import proofs.«01_k».proof.Proof.RowsFrame
public import proofs.«01_k».proof.Proof.RowsRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.RowsVal

open Cert.KernelIdeal Cert.KernelIdeal.Gen Cert.KernelIdeal.Rows
open Cert.ReferenceIdeal.Rows (dzv)

/-! ## Loads -/

theorem ldW {e : EltTy} (d : Vec Ideal S512x1024 e) (a : Fin 512) (k : Fin 1024) : View.ld d rW (ix2 a k) = d (ix2 a k) :=
  View.ld_unit_apply_of _ _ _ _ _ (ix2 a k) (fun b => match b with | ⟨0, _⟩ => (Nat.zero_add _).symm | ⟨1, _⟩ => (Nat.zero_add _).symm)
theorem ldG {e : EltTy} (d : Vec Ideal S1x1024 e) (a : Fin 1) (k : Fin 1024) : View.ld d rG (ix2 a k) = d (ix2 a k) :=
  View.ld_unit_apply_of _ _ _ _ _ (ix2 a k) (fun b => match b with | ⟨0, _⟩ => (Nat.zero_add _).symm | ⟨1, _⟩ => (Nat.zero_add _).symm)
theorem ldO {e : EltTy} (d : Vec Ideal S1x2x352x1024 e) (i : Fin 1) (p : Fin 2) (b : Fin 352) (k : Fin 1024) : View.ld d rO (ix4 i p b k) = d (ix4 i p b k) :=
  View.ld_unit_apply_of _ _ _ _ _ (ix4 i p b k) (fun b => match b with | ⟨0, _⟩ => (Nat.zero_add _).symm | ⟨1, _⟩ => (Nat.zero_add _).symm | ⟨2, _⟩ => (Nat.zero_add _).symm | ⟨3, _⟩ => (Nat.zero_add _).symm)
theorem ldU {e : EltTy} (d : Vec Ideal S512x1024 e) (a : Fin 256) (k : Fin 1024) : View.ld d rU (ix2 a k) = d (ix2 ⟨a.val, by omega⟩ k) :=
  View.ld_unit_apply_of _ _ _ _ _ (ix2 _ k) (fun b => match b with | ⟨0, _⟩ => (Nat.zero_add _).symm | ⟨1, _⟩ => (Nat.zero_add _).symm)
theorem ldL {e : EltTy} (d : Vec Ideal S512x1024 e) (a : Fin 256) (k : Fin 1024) : View.ld d rL (ix2 a k) = d (ix2 ⟨256 + a.val, by omega⟩ k) :=
  View.ld_unit_apply_of _ _ _ _ _ (ix2 _ k) (fun b => match b with | ⟨0, _⟩ => rfl | ⟨1, _⟩ => (Nat.zero_add _).symm)
theorem ldI0 {e : EltTy} (d : Vec Ideal S2x1x704x1024 e) (b : Fin 704) (k : Fin 1024) : View.ld d rI0 (ix4 0 0 b k) = d (ix4 0 0 b k) :=
  View.ld_unit_apply_of _ _ _ _ _ (ix4 0 0 b k) (fun b => match b with | ⟨0, _⟩ => rfl | ⟨1, _⟩ => rfl | ⟨2, _⟩ => (Nat.zero_add _).symm | ⟨3, _⟩ => (Nat.zero_add _).symm)
theorem ldI1 {e : EltTy} (d : Vec Ideal S2x1x704x1024 e) (b : Fin 704) (k : Fin 1024) : View.ld d rI1 (ix4 0 0 b k) = d (ix4 1 0 b k) :=
  View.ld_unit_apply_of _ _ _ _ _ (ix4 1 0 b k) (fun b => match b with | ⟨0, _⟩ => rfl | ⟨1, _⟩ => rfl | ⟨2, _⟩ => (Nat.zero_add _).symm | ⟨3, _⟩ => (Nat.zero_add _).symm)
theorem ldGU {e : EltTy} (d : Vec Ideal S2x1x512x704 e) (a : Fin 256) (b : Fin 704) : View.ld d rGU (ix4 0 0 a b) = d (ix4 0 0 ⟨a.val, by omega⟩ b) :=
  View.ld_unit_apply_of _ _ _ _ _ (ix4 0 0 _ b) (fun b => match b with | ⟨0, _⟩ => rfl | ⟨1, _⟩ => rfl | ⟨2, _⟩ => (Nat.zero_add _).symm | ⟨3, _⟩ => (Nat.zero_add _).symm)
theorem ldVU {e : EltTy} (d : Vec Ideal S2x1x512x704 e) (a : Fin 256) (b : Fin 704) : View.ld d rVU (ix4 0 0 a b) = d (ix4 1 0 ⟨a.val, by omega⟩ b) :=
  View.ld_unit_apply_of _ _ _ _ _ (ix4 1 0 _ b) (fun b => match b with | ⟨0, _⟩ => rfl | ⟨1, _⟩ => rfl | ⟨2, _⟩ => (Nat.zero_add _).symm | ⟨3, _⟩ => (Nat.zero_add _).symm)
theorem ldGL {e : EltTy} (d : Vec Ideal S2x1x512x704 e) (a : Fin 256) (b : Fin 704) : View.ld d rGL (ix4 0 0 a b) = d (ix4 0 0 ⟨256 + a.val, by omega⟩ b) :=
  View.ld_unit_apply_of _ _ _ _ _ (ix4 0 0 _ b) (fun b => match b with | ⟨0, _⟩ => rfl | ⟨1, _⟩ => rfl | ⟨2, _⟩ => rfl | ⟨3, _⟩ => (Nat.zero_add _).symm)
theorem ldVL {e : EltTy} (d : Vec Ideal S2x1x512x704 e) (a : Fin 256) (b : Fin 704) : View.ld d rVL (ix4 0 0 a b) = d (ix4 1 0 ⟨256 + a.val, by omega⟩ b) :=
  View.ld_unit_apply_of _ _ _ _ _ (ix4 1 0 _ b) (fun b => match b with | ⟨0, _⟩ => rfl | ⟨1, _⟩ => rfl | ⟨2, _⟩ => rfl | ⟨3, _⟩ => (Nat.zero_add _).symm)

/-! ## The stages of the body -/

/-- The activation's gradient from the rows' gradient `d` and a block of the second weight. -/
def kd (d : Fin 1024 → EReal) (wo : Vec Ideal S1x2x352x1024 .bf16) (b : Fin 704) : EReal :=
  ∑ k : Fin 1024, d k * wo (ix4 0 ⟨b.val / 352, by omega⟩ ⟨b.val % 352, by omega⟩ k)

theorem dU_at (wo : FVec Ideal S1x2x352x1024 .bf16) (d : FVec Ideal S256x1024 .bf16) (a : Fin 256) (b : Fin 704) :
    k0_pay14 (F := Ideal) wo d (ix2 a b) = kd (fun k => d (ix2 a k)) wo b := by
  unfold kd
  pointwise [k0_pay14, k0_pay13]

theorem dL_at (wo : FVec Ideal S1x2x352x1024 .bf16) (d : FVec Ideal S256x1024 .bf16) (a : Fin 256) (b : Fin 704) :
    k0_pay21 (F := Ideal) (k0_pay13 (F := Ideal) wo) d (ix2 a b) = kd (fun k => d (ix2 a k)) wo b := by
  unfold kd
  pointwise [k0_pay21, k0_pay13]

theorem actU_at (g u : FVec Ideal S1x1x256x704 .bf16) (i : Fin 1) (a : Fin 256) (b : Fin 704) :
    k0_pay19 (F := Ideal) g u (ix3 i a b) = RowsMath.act (g (ix4 0 0 a b)) (u (ix4 0 0 a b)) := by
  unfold RowsMath.act RowsMath.sgm
  pointwise [k0_pay19, k0_pay18, k0_pay17, k0_pay16, k0_pay15]
  rw [zero_sub]

theorem actL_at (g u : FVec Ideal S1x1x256x704 .bf16) (i : Fin 1) (a : Fin 256) (b : Fin 704) :
    k0_pay31 (F := Ideal) g u (ix3 i a b) = RowsMath.act (g (ix4 0 0 a b)) (u (ix4 0 0 a b)) := by
  unfold RowsMath.act RowsMath.sgm
  pointwise [k0_pay31, k0_pay30, k0_pay29, k0_pay28, k0_pay27]
  rw [zero_sub]

theorem gateU_at (D : FVec Ideal S256x704 .f32) (g u : FVec Ideal S1x1x256x704 .bf16) (a : Fin 256) (b : Fin 704) :
    k0_pay22 (F := Ideal) D (k0_pay16 (F := Ideal) u) (k0_pay17 (F := Ideal) g) (k0_pay20 (F := Ideal) g) oneF (ix2 a b)
      = RowsMath.dgate (D (ix2 a b)) (g (ix4 0 0 a b)) (u (ix4 0 0 a b)) := by
  unfold RowsMath.dgate RowsMath.sgm oneF
  pointwise [k0_pay22, k0_pay20, k0_pay17, k0_pay16, k0_pay15]
  rw [zero_sub]

theorem gateL_at (D : FVec Ideal S256x704 .f32) (g u : FVec Ideal S1x1x256x704 .bf16) (a : Fin 256) (b : Fin 704) :
    k0_pay32 (F := Ideal) D g u (ix2 a b) = RowsMath.dgate (D (ix2 a b)) (g (ix4 0 0 a b)) (u (ix4 0 0 a b)) := by
  unfold RowsMath.dgate RowsMath.sgm
  pointwise [k0_pay32, k0_pay29, k0_pay28, k0_pay27]
  rw [zero_sub]

theorem valueU_at (D : FVec Ideal S256x704 .f32) (g : FVec Ideal S1x1x256x704 .bf16) (a : Fin 256) (b : Fin 704) :
    k0_pay23 (F := Ideal) D (k0_pay18 (F := Ideal) g) (ix2 a b) = RowsMath.dval (D (ix2 a b)) (g (ix4 0 0 a b)) := by
  unfold RowsMath.dval RowsMath.sgm
  pointwise [k0_pay23, k0_pay18, k0_pay17, k0_pay15]
  rw [zero_sub]

theorem valueL_at (D : FVec Ideal S256x704 .f32) (g : FVec Ideal S1x1x256x704 .bf16) (a : Fin 256) (b : Fin 704) :
    k0_pay33 (F := Ideal) D g (ix2 a b) = RowsMath.dval (D (ix2 a b)) (g (ix4 0 0 a b)) := by
  unfold RowsMath.dval RowsMath.sgm
  pointwise [k0_pay33, k0_pay30, k0_pay29, k0_pay27]
  rw [zero_sub]

theorem pay24_eq (D u s v : FVec Ideal S256x704 .f32) (o : Ideal .f32) (i j : Fin 1) (a : Fin 256) (b : Fin 704) :
    k0_pay24 (F := Ideal) D u s v o (ix4 i j a b) = k0_pay22 (F := Ideal) D u s v o (ix2 a b) := by pointwise [k0_pay24]
theorem pay25_eq (D s : FVec Ideal S256x704 .f32) (i j : Fin 1) (a : Fin 256) (b : Fin 704) :
    k0_pay25 (F := Ideal) D s (ix4 i j a b) = k0_pay23 (F := Ideal) D s (ix2 a b) := by pointwise [k0_pay25]
theorem pay34_eq (D : FVec Ideal S256x704 .f32) (g u : FVec Ideal S1x1x256x704 .bf16) (i j : Fin 1) (a : Fin 256) (b : Fin 704) :
    k0_pay34 (F := Ideal) D g u (ix4 i j a b) = k0_pay32 (F := Ideal) D g u (ix2 a b) := by pointwise [k0_pay34]
theorem pay35_eq (D : FVec Ideal S256x704 .f32) (g : FVec Ideal S1x1x256x704 .bf16) (i j : Fin 1) (a : Fin 256) (b : Fin 704) :
    k0_pay35 (F := Ideal) D g (ix4 i j a b) = k0_pay33 (F := Ideal) D g (ix2 a b) := by pointwise [k0_pay35]

/-- The accumulating step: what the two halves of the gradient add. -/
theorem stepL_at (p q : FVec Ideal S256x704 .bf16) (s : FVec Ideal S256x1024 .f32) (u v : FVec Ideal S1x1x704x1024 .bf16) (a : Fin 256) (k : Fin 1024) :
    k0_pay1 (F := Ideal) p q s u v (ix2 a k)
      = s (ix2 a k) + ((∑ l : Fin 704, p (ix2 a l) * u (ix4 0 0 l k)) + ∑ l : Fin 704, q (ix2 a l) * v (ix4 0 0 l k)) := by
  pointwise [k0_pay1]

theorem stepU_at (D w y z t : FVec Ideal S256x704 .f32) (o : Ideal .f32) (s : FVec Ideal S256x1024 .f32) (u v : FVec Ideal S1x1x704x1024 .bf16) (a : Fin 256) (k : Fin 1024) :
    k0_pay26 (F := Ideal) D w y z t o s u v (ix2 a k)
      = s (ix2 a k) + ((∑ l : Fin 704, k0_pay22 (F := Ideal) D w y t o (ix2 a l) * u (ix4 0 0 l k)) + ∑ l : Fin 704, k0_pay23 (F := Ideal) D z (ix2 a l) * v (ix4 0 0 l k)) := by
  pointwise [k0_pay26]

theorem h_at (x : FVec Ideal S512x1024 .f32) (g : FVec Ideal S1x1024 .f32) (a : Fin 512) (k : Fin 1024) :
    k0_pay10 (F := Ideal) x g (ix2 a k) = x (ix2 a k) * RowsMath.rinv (fun l => x (ix2 a l)) * g (ix2 0 k) := by
  unfold RowsMath.rinv RowsMath.vare
  pointwise [k0_pay10]

theorem dyh_at (d : FVec Ideal S512x1024 .f32) (a : Fin 512) (k : Fin 1024) :
    k0_pay11 (F := Ideal) d (ix2 a k) = Ideal.ofBits .f32 0x3F000000#32 * d (ix2 a k) := by
  pointwise [k0_pay11]

theorem zero_at (a : Fin 512) (k : Fin 1024) : k0_pay12 (F := Ideal) (ix2 a k) = 0 := by pointwise [k0_pay12]
theorem zeroG_at (a : Fin 1) (k : Fin 1024) : k0_pay2 (F := Ideal) (ix2 a k) = 0 := by pointwise [k0_pay2]

theorem dg_at (x s : FVec Ideal S512x1024 .f32) (d : FVec Ideal S1x1024 .f32) (a : Fin 1) (k : Fin 1024) :
    k0_pay3 (F := Ideal) (k0_pay6 (F := Ideal) x s) d (ix2 a k)
      = d (ix2 a k) + ∑ i : Fin 512, s (ix2 i k) * (x (ix2 i k) * RowsMath.rinv (fun l => x (ix2 i l))) := by
  unfold RowsMath.rinv RowsMath.vare
  pointwise [k0_pay3, k0_pay6, k0_pay5, k0_pay4]

theorem dx_at (g : FVec Ideal S1x1024 .f32) (x s dy : FVec Ideal S512x1024 .f32) (a : Fin 512) (k : Fin 1024) :
    k0_pay8 (F := Ideal) g x s dy (ix2 a k)
      = dy (ix2 a k) + RowsMath.dnorm (fun l => x (ix2 a l)) (fun l => s (ix2 a l)) (fun l => g (ix2 0 l)) k := by
  unfold RowsMath.dnorm RowsMath.rinv RowsMath.vare
  pointwise [k0_pay8, k0_pay7, k0_pay5, k0_pay4]

theorem dxb_at (g : FVec Ideal S1x1024 .f32) (x s dy : FVec Ideal S512x1024 .f32) (a : Fin 512) (k : Fin 1024) :
    k0_pay9 (F := Ideal) g x s dy (ix2 a k)
      = dy (ix2 a k) + RowsMath.dnorm (fun l => x (ix2 a l)) (fun l => s (ix2 a l)) (fun l => g (ix2 0 l)) k := by
  unfold RowsMath.dnorm RowsMath.rinv RowsMath.vare
  pointwise [k0_pay9, k0_pay7, k0_pay5, k0_pay4]

end Cert.KernelIdeal.RowsVal

end
-- ==== Proof.RowsTile.lean ====
/- What one step of the backward call over the rows leaves in each buffer, as a function of the blocks it loads. -/
module

public import proofs.«01_k».proof.Proof.RowsPoint

@[expose] public section

set_option maxRecDepth 16384

noncomputable section

open Idealize.ShloMosaic Idealize.ShloMosaic.TcCoe Idealize.SL.Sem
open scoped BigOperators

namespace Cert.KernelIdeal.RowsVal

open Cert.KernelIdeal Cert.KernelIdeal.Gen Cert.KernelIdeal.Rows
open Cert.ReferenceIdeal.Rows (dzv)

/-- Pieces that are one store over the whole buffer. -/
theorem whole_val {e : EltTy} (w : Vec Ideal S512x1024 e) (L : List (View.Piece (Elt Ideal) S512x1024 e)) (a : Fin 512) (k : Fin 1024) :
    View.canon (⟨rW, w⟩ :: L : List (View.Piece (Elt Ideal) S512x1024 e)) (ix2 a k) = w (ix2 a k) := by
  have h := View.canon_cons_emb rW w L (ix2 a k)
  have e' : rW.emb (ix2 a k) = ix2 a k := by
    funext b
    match b with
    | ⟨0, _⟩ => exact Fin.ext (by show 0 + 1 * a.val = a.val; omega)
    | ⟨1, _⟩ => exact Fin.ext (by show 0 + 1 * k.val = k.val; omega)
  rw [e'] at h
  exact h

theorem wholeG_val {e : EltTy} (w : Vec Ideal S1x1024 e) (L : List (View.Piece (Elt Ideal) S1x1024 e)) (a : Fin 1) (k : Fin 1024) :
    View.canon (⟨rG, w⟩ :: L : List (View.Piece (Elt Ideal) S1x1024 e)) (ix2 a k) = w (ix2 a k) := by
  have h := View.canon_cons_emb rG w L (ix2 a k)
  have e' : rG.emb (ix2 a k) = ix2 a k := by
    funext b
    match b with
    | ⟨0, _⟩ => exact Fin.ext (by show 0 + 1 * a.val = a.val; omega)
    | ⟨1, _⟩ => exact Fin.ext (by show 0 + 1 * k.val = k.val; omega)
  rw [e'] at h
  exact h

/-- A store over the lower rows is what is read there. -/
theorem lower_val {e : EltTy} (w : Vec Ideal S256x1024 e) (L : List (View.Piece (Elt Ideal) S512x1024 e)) (a : Fin 256) (k : Fin 1024) (r : Fin 512) (hr : r.val = 256 + a.val) :
    View.canon (⟨rL, w⟩ :: L : List (View.Piece (Elt Ideal) S512x1024 e)) (ix2 r k) = w (ix2 a k) := by
  have h := View.canon_cons_emb rL w L (ix2 a k)
  have e' : rL.emb (ix2 a k) = ix2 r k := by
    funext b
    match b with
    | ⟨0, _⟩ => exact Fin.ext (by show 256 + 1 * a.val = r.val; omega)
    | ⟨1, _⟩ => exact Fin.ext (by show 0 + 1 * k.val = k.val; omega)
  rw [e'] at h
  exact h

theorem upper_val {e : EltTy} (w : Vec Ideal S256x1024 e) (L : List (View.Piece (Elt Ideal) S512x1024 e)) (a : Fin 256) (k : Fin 1024) (r : Fin 512) (hr : r.val = a.val) :
    View.canon (⟨rU, w⟩ :: L : List (View.Piece (Elt Ideal) S512x1024 e)) (ix2 r k) = w (ix2 a k) := by
  have h := View.canon_cons_emb rU w L (ix2 a k)
  have e' : rU.emb (ix2 a k) = ix2 r k := by
    funext b
    match b with
    | ⟨0, _⟩ => exact Fin.ext (by show 0 + 1 * a.val = r.val; omega)
    | ⟨1, _⟩ => exact Fin.ext (by show 0 + 1 * k.val = k.val; omega)
  rw [e'] at h
  exact h

/-- A store over the lower rows is not read in the upper. -/
theorem lower_skip {e : EltTy} (w : Vec Ideal S256x1024 e) (L : List (View.Piece (Elt Ideal) S512x1024 e)) (k : Fin 1024) (r : Fin 512) (hr : r.val < 256) :
    View.canon (⟨rL, w⟩ :: L : List (View.Piece (Elt Ideal) S512x1024 e)) (ix2 r k) = View.canon L (ix2 r k) := by
  refine View.canon_cons_of_not_mem _ _ ?_
  intro hm
  obtain ⟨i, hi, he⟩ := (LoadRect.mem_set _).mp hm (0 : Fin 2)
  have he' : r.val = 256 + 1 * i := he
  omega

theorem upper_skip {e : EltTy} (w : Vec Ideal S256x1024 e) (L : List (View.Piece (Elt Ideal) S512x1024 e)) (k : Fin 1024) (r : Fin 512) (hr : 256 ≤ r.val) :
    View.canon (⟨rU, w⟩ :: L : List (View.Piece (Elt Ideal) S512x1024 e)) (ix2 r k) = View.canon L (ix2 r k) := by
  refine View.canon_cons_of_not_mem _ _ ?_
  intro hm
  obtain ⟨i, hi, he⟩ := (LoadRect.mem_set _).mp hm (0 : Fin 2)
  have hi1 : i < 256 := hi
  have he' : r.val = 0 + 1 * i := he
  omega

/-- The activations. -/
theorem act_val (gu : Vec Ideal S2x1x512x704 .bf16) (y : S1x512x704.Idx) :
    View.canon (Rows.act gu) y = RowsMath.act (gu (ix4 0 0 (y 1) (y 2))) (gu (ix4 1 0 (y 1) (y 2))) := by
  unfold Rows.act
  canon_tiles x h
  all_goals idx_vars x
  · rw [actL_at, ldGL, ldVL]
    exact congrArg₂ RowsMath.act (congrArg gu (by blk_ext)) (congrArg gu (by blk_ext))
  · rw [actU_at, ldGU, ldVU]
    exact congrArg₂ RowsMath.act (congrArg gu (by blk_ext)) (congrArg gu (by blk_ext))

/-- The activation's gradient, from the rows' gradient `d`. -/
abbrev kD (d : Vec Ideal S512x1024 .bf16) (wo : Vec Ideal S1x2x352x1024 .bf16) (r : Fin 512) (b : Fin 704) : EReal :=
  kd (fun k => d (ix2 r k)) wo b

theorem kdU (d : Vec Ideal S512x1024 .bf16) (wo : Vec Ideal S1x2x352x1024 .bf16) (a : Fin 256) (b : Fin 704) :
    k0_pay14 (F := Ideal) (View.ld wo rO) (View.ld d rU) (ix2 a b) = kD d wo ⟨a.val, by omega⟩ b := by
  rw [dU_at]
  unfold kd
  exact Finset.sum_congr rfl fun k _ => congrArg₂ (· * ·) (ldU d a k) (ldO wo _ _ _ k)

theorem kdL (d : Vec Ideal S512x1024 .bf16) (wo : Vec Ideal S1x2x352x1024 .bf16) (a : Fin 256) (b : Fin 704) :
    k0_pay21 (F := Ideal) (k0_pay13 (F := Ideal) (View.ld wo rO)) (View.ld d rL) (ix2 a b) = kD d wo ⟨256 + a.val, by omega⟩ b := by
  rw [dL_at]
  unfold kd
  exact Finset.sum_congr rfl fun k _ => congrArg₂ (· * ·) (ldL d a k) (ldO wo _ _ _ k)

/-- The gradients of gate and value. -/
theorem dgu_val (gu : Vec Ideal S2x1x512x704 .bf16) (wo : Vec Ideal S1x2x352x1024 .bf16) (d : Vec Ideal S512x1024 .bf16) (y : S2x1x512x704.Idx) :
    View.canon (Rows.dgu gu wo (View.ld d rU) (View.ld d rL)) y
      = dzv (y 0) (kD d wo (y 2) (y 3)) (gu (ix4 0 0 (y 2) (y 3))) (gu (ix4 1 0 (y 2) (y 3))) := by
  unfold Rows.dgu
  canon_tiles x h
  all_goals idx_vars x
  · have e0 : (y 0).val ≠ 0 := by rw [h0]; omega
    unfold dzv
    rw [if_neg e0, pay35_eq, valueL_at, kdL, ldGL]
    have e2 : y 2 = (⟨256 + x2.val, by omega⟩ : Fin 512) := Fin.ext h2
    have e3 : y 3 = x3 := Fin.ext h3
    rw [e2, e3]
  · have e0 : (y 0).val = 0 := by rw [h0]; omega
    unfold dzv
    rw [if_pos e0, pay34_eq, gateL_at, kdL, ldGL, ldVL]
    have e2 : y 2 = (⟨256 + x2.val, by omega⟩ : Fin 512) := Fin.ext h2
    have e3 : y 3 = x3 := Fin.ext h3
    rw [e2, e3]
  · have e0 : (y 0).val ≠ 0 := by rw [h0]; omega
    unfold dzv
    rw [if_neg e0, pay25_eq, valueU_at, kdU, ldGU]
    have e2 : y 2 = (⟨x2.val, by omega⟩ : Fin 512) := Fin.ext h2
    have e3 : y 3 = x3 := Fin.ext h3
    rw [e2, e3]
  · have e0 : (y 0).val = 0 := by rw [h0]; omega
    unfold dzv
    rw [if_pos e0, pay24_eq, gateU_at, kdU, ldGU, ldVU]
    have e2 : y 2 = (⟨x2.val, by omega⟩ : Fin 512) := Fin.ext h2
    have e3 : y 3 = x3 := Fin.ext h3
    rw [e2, e3]

/-- What a step adds to the accumulator at row `r`, column `k`. -/
def tile (gu : Vec Ideal S2x1x512x704 .bf16) (wi : Vec Ideal S2x1x704x1024 .bf16) (wo : Vec Ideal S1x2x352x1024 .bf16) (d : Vec Ideal S512x1024 .bf16)
    (r : Fin 512) (k : Fin 1024) : EReal :=
  (∑ l : Fin 704, RowsMath.dgate (kD d wo r l) (gu (ix4 0 0 r l)) (gu (ix4 1 0 r l)) * wi (ix4 0 0 l k)) +
    ∑ l : Fin 704, RowsMath.dval (kD d wo r l) (gu (ix4 0 0 r l)) * wi (ix4 1 0 l k)

variable (gu : Vec Ideal S2x1x512x704 .bf16) (wi : Vec Ideal S2x1x704x1024 .bf16) (wo : Vec Ideal S1x2x352x1024 .bf16) (d : Vec Ideal S512x1024 .bf16)

/-- The lower rows' piece at its element. -/
theorem accL_val (s : Vec Ideal S256x1024 .f32) (L : List (View.Piece (Elt Ideal) S512x1024 .f32)) (a : Fin 256) (k : Fin 1024) (r : Fin 512) (hr : r.val = 256 + a.val) :
    View.canon (accL gu wi wo (View.ld d rL) s :: L) (ix2 r k) = s (ix2 a k) + tile gu wi wo d r k := by
  obtain ⟨r, hlt⟩ := r
  obtain rfl : r = 256 + a.val := hr
  unfold accL
  refine (lower_val _ L a k _ rfl).trans ?_
  rw [stepL_at]
  unfold tile
  refine congrArg (s (ix2 a k) + ·) (congrArg₂ (· + ·) (Finset.sum_congr rfl fun l _ => ?_) (Finset.sum_congr rfl fun l _ => ?_))
  · rw [gateL_at, kdL, ldGL, ldVL, ldI0]
  · rw [valueL_at, kdL, ldGL, ldI1]

/-- The upper rows' piece at its element. -/
theorem accU_val (s : Vec Ideal S256x1024 .f32) (L : List (View.Piece (Elt Ideal) S512x1024 .f32)) (a : Fin 256) (k : Fin 1024) (r : Fin 512) (hr : r.val = a.val) :
    View.canon (accU gu wi wo (View.ld d rU) s :: L) (ix2 r k) = s (ix2 a k) + tile gu wi wo d r k := by
  obtain ⟨r, hlt⟩ := r
  obtain rfl : r = a.val := hr
  unfold accU
  refine (upper_val _ L a k _ rfl).trans ?_
  rw [stepU_at]
  unfold tile
  refine congrArg (s (ix2 a k) + ·) (congrArg₂ (· + ·) (Finset.sum_congr rfl fun l _ => ?_) (Finset.sum_congr rfl fun l _ => ?_))
  · rw [gateU_at, kdU, ldGU, ldVU, ldI0]
  · rw [valueU_at, kdU, ldGU, ldI1]

theorem accU_skip (du : Vec Ideal S256x1024 .bf16) (s : Vec Ideal S256x1024 .f32) (L : List (View.Piece (Elt Ideal) S512x1024 .f32)) (k : Fin 1024) (r : Fin 512) (hr : 256 ≤ r.val) :
    View.canon (accU gu wi wo du s :: L) (ix2 r k) = View.canon L (ix2 r k) := by
  unfold accU
  exact upper_skip _ L k r hr

/-- A later step adds its part to the accumulator. -/
theorem accNext_val (s : Vec Ideal S512x1024 .f32) (r : Fin 512) (k : Fin 1024) :
    View.canon (accNext gu wi wo d s) (ix2 r k) = s (ix2 r k) + tile gu wi wo d r k := by
  unfold accNext
  by_cases h : r.val < 256
  · refine (lower_skip _ _ k r h).trans ?_
    rw [accU_val gu wi wo d _ _ ⟨r.val, h⟩ k r rfl, ldU]
  · have hr : r.val = 256 + (r.val - 256) := by omega
    rw [accL_val gu wi wo d _ _ ⟨r.val - 256, by omega⟩ k r hr, ldL]
    exact congrArg (fun q => s (ix2 q k) + tile gu wi wo d r k) (Fin.ext hr.symm)

/-- A first step leaves its part. -/
theorem accFirst_val (dy : Vec Ideal S512x1024 .f32) (r : Fin 512) (k : Fin 1024) :
    View.canon (accFirst dy gu wi wo) (ix2 r k) = 0 + tile gu wi wo (View.canon (dyhPc dy)) r k := by
  have hz : ∀ q : Fin 512, View.canon (zeroPc (F := Ideal)) (ix2 q k) = 0 := fun q => by
    unfold zeroPc
    rw [whole_val, zero_at]
  unfold accFirst
  by_cases h : r.val < 256
  · refine (lower_skip _ _ k r h).trans ?_
    rw [accU_val gu wi wo _ _ _ ⟨r.val, h⟩ k r rfl, ldU, hz]
  · have hr : r.val = 256 + (r.val - 256) := by omega
    rw [accL_val gu wi wo _ _ _ ⟨r.val - 256, by omega⟩ k r hr, ldL]
    rw [accU_skip gu wi wo _ _ _ k _ (by show 256 ≤ 256 + (r.val - 256); omega), hz]

/-- The normed rows. -/
theorem h_val (x : Vec Ideal S512x1024 .f32) (g : Vec Ideal S1x1024 .f32) (a : Fin 512) (k : Fin 1024) :
    View.canon (hPc x g) (ix2 a k) = x (ix2 a k) * RowsMath.rinv (fun l => x (ix2 a l)) * g (ix2 0 k) := by
  unfold hPc
  rw [whole_val, h_at]
  exact congrArg₂ (· * ·) (congrArg₂ (· * ·) (ldW x a k) (congrArg RowsMath.rinv (funext fun l => ldW x a l))) (ldG g 0 k)

/-- Half the incoming gradient. -/
theorem dyh_val (y : Vec Ideal S512x1024 .f32) (a : Fin 512) (k : Fin 1024) :
    View.canon (dyhPc y) (ix2 a k) = Ideal.ofBits .f32 0x3F000000#32 * y (ix2 a k) := by
  unfold dyhPc
  rw [whole_val, dyh_at, ldW]

theorem dnorm_congr {x x' e e' g g' : Fin 1024 → EReal} (hx : ∀ l, x l = x' l) (he : ∀ l, e l = e' l) (hg : ∀ l, g l = g' l) (k : Fin 1024) :
    RowsMath.dnorm x e g k = RowsMath.dnorm x' e' g' k := by
  rw [funext hx, funext he, funext hg]

/-- The input's gradient. -/
theorem dx_val (x y : Vec Ideal S512x1024 .f32) (g : Vec Ideal S1x1024 .f32) (s : Vec Ideal S512x1024 .f32) (a : Fin 512) (k : Fin 1024) :
    View.canon (dxPc x y g s) (ix2 a k)
      = y (ix2 a k) + RowsMath.dnorm (fun l => x (ix2 a l)) (fun l => s (ix2 a l)) (fun l => g (ix2 0 l)) k := by
  unfold dxPc
  rw [whole_val, dx_at]
  exact congrArg₂ (· + ·) (ldW y a k) (dnorm_congr (fun l => ldW x a l) (fun l => ldW s a l) (fun l => ldG g 0 l) k)

/-- The input's gradient, narrowed. -/
theorem dxb_val (x y : Vec Ideal S512x1024 .f32) (g : Vec Ideal S1x1024 .f32) (s : Vec Ideal S512x1024 .f32) (a : Fin 512) (k : Fin 1024) :
    View.canon (dxbPc x y g s) (ix2 a k)
      = y (ix2 a k) + RowsMath.dnorm (fun l => x (ix2 a l)) (fun l => s (ix2 a l)) (fun l => g (ix2 0 l)) k := by
  unfold dxbPc
  rw [whole_val, dxb_at]
  exact congrArg₂ (· + ·) (ldW y a k) (dnorm_congr (fun l => ldW x a l) (fun l => ldW s a l) (fun l => ldG g 0 l) k)

/-- The gain's gradient with a row block added. -/
theorem dgAdd_val (x s : Vec Ideal S512x1024 .f32) (e : Vec Ideal S1x1024 .f32) (L : List (View.Piece (Elt Ideal) S1x1024 .f32)) (a : Fin 1) (k : Fin 1024) :
    View.canon (dgAdd x s e :: L) (ix2 a k)
      = e (ix2 a k) + ∑ i : Fin 512, s (ix2 i k) * (x (ix2 i k) * RowsMath.rinv (fun l => x (ix2 i l))) := by
  unfold dgAdd
  rw [wholeG_val, dg_at]
  exact congrArg₂ (· + ·) (ldG e a k) (Finset.sum_congr rfl fun i _ =>
    congrArg₂ (· * ·) (ldW s i k) (congrArg₂ (· * ·) (ldW x i k) (congrArg RowsMath.rinv (funext fun l => ldW x i l))))

theorem dgZero_val (a : Fin 1) (k : Fin 1024) : View.canon (dgZero (F := Ideal)) (ix2 a k) = 0 := by
  unfold dgZero
  rw [wholeG_val, zeroG_at]

end Cert.KernelIdeal.RowsVal

end
-- ==== Proof.RowsVal.lean ====
/- The values of the backward call over the rows: its seven results are the reference's. -/
module

public import proofs.«01_k».proof.Proof.RowsTile

@[expose] public section

set_option maxRecDepth 16384

noncomputable section

open Idealize.ShloMosaic Idealize.ShloMosaic.TcCoe Idealize.SL.Sem
open Idealize.ShloMosaic.Pipeline (Dat)
open scoped BigOperators

namespace Cert.KernelIdeal.RowsVal

open Cert.KernelIdeal Cert.KernelIdeal.Gen Cert.KernelIdeal.Rows
open Cert.ReferenceIdeal.Rows (dzv z dact qq qg qv row dpart dh dgain dx AllReal)

variable (m : (ℓ : Loc nD τ sig) → Buf (Elt Ideal) ℓ)

/-- The input as launched. -/
abbrev aX (c : Dev nD) : FVec Ideal S4096x1024 .f32 := m ((c : Thread nD τ).loc main_arg0)
/-- The incoming gradient as launched. -/
abbrev aY (c : Dev nD) : FVec Ideal S4096x1024 .f32 := m ((c : Thread nD τ).loc main_arg1)
/-- The gain as launched. -/
abbrev aG (c : Dev nD) : FVec Ideal S1024 .f32 := m ((c : Thread nD τ).loc main_arg2)
/-- The first weight as launched. -/
abbrev aW (c : Dev nD) : FVec Ideal S1024x5632 .f32 := m ((c : Thread nD τ).loc main_arg3)
/-- The second weight as launched. -/
abbrev aU (c : Dev nD) : FVec Ideal S2816x1024 .f32 := m ((c : Thread nD τ).loc main_arg4)

/-- The index maps in closed form. -/
theorem idx_val : ∀ t : Fin cfg0.N, win0_0.index t = ![t.val / 4, 0]
    ∧ win0_1.index t = ![t.val / 4, 0]
    ∧ win0_2.index t = ![0, t.val % 4, t.val / 4, 0]
    ∧ win0_3.index t = ![0, 0]
    ∧ win0_4.index t = ![0, t.val % 4, 0, 0]
    ∧ win0_5.index t = ![t.val % 4, 0, 0, 0]
    ∧ win0_6.index t = ![t.val / 4, 0]
    ∧ win0_7.index t = ![t.val / 4, 0]
    ∧ win0_8.index t = ![t.val % 4, t.val / 4, 0]
    ∧ win0_9.index t = ![0, t.val % 4, t.val / 4, 0]
    ∧ win0_10.index t = ![0, 0]
    ∧ win0_11.index t = ![t.val / 4, 0]
    ∧ win0_12.index t = ![t.val / 4, 0] :=
  (by decide +kernel : ∀ t : Fin grid0.N, _)

/-! ## The arrays the host prepares -/

/-- The saved first product. -/
theorem hostZ (c : Dev nD) (s : Fin 2) (j : Fin 4) (i : Fin 4096) (b : Fin 704) (n : Fin 5632) (hn : n.val = s.val * 2816 + j.val * 704 + b.val) :
    (show FVec Ideal S2x4x4096x704 .bf16 from V m c main_v21) (ix4 s j i b) = z (aX m c) (aG m c) (aW m c) i n := by
  show V m c main_v21 (ix4 s j i b) = _
  unfold z RowsMath.rinv RowsMath.vare
  entry_read
  pointwise
  show (_ : EReal) = (_ : EReal)
  refine Finset.sum_congr rfl fun k _ => congrArg₂ (· * ·) rfl ?_
  blk_ext

/-- The first weight as the host arranges it. -/
theorem hostW (c : Dev nD) (s : Fin 2) (j : Fin 4) (b : Fin 704) (k : Fin 1024) (q : Fin 5632) (hq : q.val = s.val * 2816 + j.val * 704 + b.val) :
    (show FVec Ideal S2x4x704x1024 .bf16 from V m c main_v22) (ix4 s j b k) = aW m c (ix2 k q) := by
  show V m c main_v22 (ix4 s j b k) = _
  entry_read
  pointwise
  blk_ext

/-- The second weight as the host arranges it. -/
theorem hostU (c : Dev nD) (j : Fin 4) (p : Fin 2) (b : Fin 352) (k : Fin 1024) (q : Fin 2816) (hq : q.val = j.val * 704 + p.val * 352 + b.val) :
    (show FVec Ideal S4x2x352x1024 .bf16 from V m c main_v23) (ix4 j p b k) = aU m c (ix2 q k) := by
  show V m c main_v23 (ix4 j p b k) = _
  entry_read
  pointwise
  blk_ext

/-! ## The blocks -/

theorem blkX (c : Dev nD) (t : Fin cfg0.N) (a : Fin 512) (k : Fin 1024) (r : Fin 4096) (hr : r.val = t.val / 4 * 512 + a.val) :
    (show FVec Ideal S512x1024 .f32 from iblk m c 0 t) (ix2 a k) = aX m c (ix2 r k) := by
  show iblk m c 0 t (ix2 a k) = _
  blk_ext [iblk, V, idx_val t]

theorem blkY (c : Dev nD) (t : Fin cfg0.N) (a : Fin 512) (k : Fin 1024) (r : Fin 4096) (hr : r.val = t.val / 4 * 512 + a.val) :
    (show FVec Ideal S512x1024 .f32 from iblk m c 1 t) (ix2 a k) = aY m c (ix2 r k) := by
  show iblk m c 1 t (ix2 a k) = _
  blk_ext [iblk, V, idx_val t]

theorem blkG (c : Dev nD) (t : Fin cfg0.N) (k : Fin 1024) :
    (show FVec Ideal S1x1024 .f32 from iblk m c 3 t) (ix2 0 k) = aG m c (ix1 k) := by
  have h : (show FVec Ideal S1x1024 .f32 from V m c main_v24) (ix2 0 k) = aG m c (ix1 k) := by
    show V m c main_v24 (ix2 0 k) = _
    entry_read
    pointwise
  refine Eq.trans ?_ h
  show iblk m c 3 t (ix2 0 k) = V m c main_v24 _
  blk_ext [iblk, idx_val t]

theorem read2 (t : Fin cfg0.N) (v : Vec Ideal S2x4x4096x704 .bf16) (y : S2x1x512x704.Idx) (i : S2x4x4096x704.Idx)
    (h : ((cfg0.win 2).blk t).view.emb y = i) : ((cfg0.win 2).blk t).view.read (Elt Ideal) v y = v i := by
  subst h
  rfl

theorem read4 (t : Fin cfg0.N) (v : Vec Ideal S2x4x704x1024 .bf16) (y : S2x1x704x1024.Idx) (i : S2x4x704x1024.Idx)
    (h : ((cfg0.win 4).blk t).view.emb y = i) : ((cfg0.win 4).blk t).view.read (Elt Ideal) v y = v i := by
  subst h
  rfl

theorem read5 (t : Fin cfg0.N) (v : Vec Ideal S4x2x352x1024 .bf16) (y : S1x2x352x1024.Idx) (i : S4x2x352x1024.Idx)
    (h : ((cfg0.win 5).blk t).view.emb y = i) : ((cfg0.win 5).blk t).view.read (Elt Ideal) v y = v i := by
  subst h
  rfl

theorem blkZ (c : Dev nD) (t : Fin cfg0.N) (s : Fin 2) (a : Fin 512) (b : Fin 704) (r : Fin 4096) (hr : r.val = t.val / 4 * 512 + a.val)
    (n : Fin 5632) (hn : n.val = s.val * 2816 + t.val % 4 * 704 + b.val) :
    (show FVec Ideal S2x1x512x704 .bf16 from iblk m c 2 t) (ix4 s 0 a b) = z (aX m c) (aG m c) (aW m c) r n := by
  obtain ⟨j, hj⟩ : ∃ j : Fin 4, j.val = t.val % 4 := ⟨⟨t.val % 4, by omega⟩, rfl⟩
  exact (read2 t (V m c main_v21) (ix4 s 0 a b) (ix4 s j r b) (by blk_ext [idx_val t, hj, hr])).trans (hostZ m c s j r b n (by omega))

theorem blkW (c : Dev nD) (t : Fin cfg0.N) (s : Fin 2) (b : Fin 704) (k : Fin 1024) (q : Fin 5632) (hq : q.val = s.val * 2816 + t.val % 4 * 704 + b.val) :
    (show FVec Ideal S2x1x704x1024 .bf16 from iblk m c 4 t) (ix4 s 0 b k) = aW m c (ix2 k q) := by
  obtain ⟨j, hj⟩ : ∃ j : Fin 4, j.val = t.val % 4 := ⟨⟨t.val % 4, by omega⟩, rfl⟩
  exact (read4 t (V m c main_v22) (ix4 s 0 b k) (ix4 s j b k) (by blk_ext [idx_val t, hj])).trans (hostW m c s j b k q (by omega))

theorem blkU (c : Dev nD) (t : Fin cfg0.N) (p : Fin 2) (b : Fin 352) (k : Fin 1024) (q : Fin 2816) (hq : q.val = t.val % 4 * 704 + p.val * 352 + b.val) :
    (show FVec Ideal S1x2x352x1024 .bf16 from iblk m c 5 t) (ix4 0 p b k) = aU m c (ix2 q k) := by
  obtain ⟨j, hj⟩ : ∃ j : Fin 4, j.val = t.val % 4 := ⟨⟨t.val % 4, by omega⟩, rfl⟩
  exact (read5 t (V m c main_v23) (ix4 0 p b k) (ix4 j p b k) (by blk_ext [idx_val t, hj])).trans (hostU m c j p b k q (by omega))

/-! ## What the steps leave -/

theorem lt32 (t : Fin cfg0.N) : t.val < 32 := lt_of_lt_of_eq t.isLt N_0

theorem base_val (n : ℕ) (hn : n < 32) : (base n).val = n / 4 * 4 := by
  unfold base pt
  rw [dif_pos (by rw [show cfg0.N = 32 from N_0]; omega)]

/-- The normed rows. -/
theorem h_pt (c : Dev nD) (n : ℕ) (hn : n < 32) (a : Fin 512) (k : Fin 1024) (r : Fin 4096) (hr : r.val = n / 4 * 512 + a.val) :
    hAt m c n (ix2 a k) = aX m c (ix2 r k) * RowsMath.rinv (row (aX m c) r) * aG m c (ix1 k) := by
  unfold hAt
  have hb := base_val n hn
  rw [h_val]
  exact congrArg₂ (· * ·) (congrArg₂ (· * ·) (blkX m c _ a k r (by omega))
    (congrArg RowsMath.rinv (funext fun l => blkX m c _ a l r (by omega)))) (blkG m c _ k)

/-- Half the incoming gradient. -/
theorem dyh_pt (c : Dev nD) (n : ℕ) (hn : n < 32) (a : Fin 512) (k : Fin 1024) (r : Fin 4096) (hr : r.val = n / 4 * 512 + a.val) :
    dyhAt m c n (ix2 a k) = Ideal.ofBits .f32 0x3F000000#32 * aY m c (ix2 r k) := by
  unfold dyhAt
  have hb := base_val n hn
  rw [dyh_val]
  exact congrArg (_ * ·) (blkY m c _ a k r (by omega))

/-- The column tile of a point. -/
abbrev jt (n : ℕ) : Fin 4 := ⟨n % 4, by omega⟩

/-- The activation's gradient. -/
theorem kd_pt (c : Dev nD) (t : Fin cfg0.N) (d : Vec Ideal S512x1024 .bf16) (a : Fin 512) (b : Fin 704) (r : Fin 4096)
    (hd : ∀ k, d (ix2 a k) = Ideal.ofBits .f32 0x3F000000#32 * aY m c (ix2 r k)) :
    kD d (iblk m c 5 t) a b = dact (aY m c) (aU m c) r (qq (jt t.val) b) := by
  unfold kD kd dact
  exact Finset.sum_congr rfl fun k _ => congrArg₂ (· * ·) (hd k)
    (blkU m c t _ _ k _ (by show t.val % 4 * 704 + b.val = t.val % 4 * 704 + b.val / 352 * 352 + b.val % 352; omega))

/-- A saved gate's element. -/
theorem g_pt (c : Dev nD) (t : Fin cfg0.N) (a : Fin 512) (b : Fin 704) (r : Fin 4096) (hr : r.val = t.val / 4 * 512 + a.val) :
    (show FVec Ideal S2x1x512x704 .bf16 from iblk m c 2 t) (ix4 0 0 a b) = z (aX m c) (aG m c) (aW m c) r (qg (qq (jt t.val) b)) :=
  blkZ m c t 0 a b r hr _ (by show t.val % 4 * 704 + b.val = 0 * 2816 + t.val % 4 * 704 + b.val; omega)

/-- A saved value's element. -/
theorem u_pt (c : Dev nD) (t : Fin cfg0.N) (a : Fin 512) (b : Fin 704) (r : Fin 4096) (hr : r.val = t.val / 4 * 512 + a.val) :
    (show FVec Ideal S2x1x512x704 .bf16 from iblk m c 2 t) (ix4 1 0 a b) = z (aX m c) (aG m c) (aW m c) r (qv (qq (jt t.val) b)) :=
  blkZ m c t 1 a b r hr _ (by show 2816 + (t.val % 4 * 704 + b.val) = 1 * 2816 + t.val % 4 * 704 + b.val; omega)

/-- What a step adds to the accumulator. -/
theorem tile_pt (c : Dev nD) (t : Fin cfg0.N) (d : Vec Ideal S512x1024 .bf16) (a : Fin 512) (k : Fin 1024) (r : Fin 4096) (hr : r.val = t.val / 4 * 512 + a.val)
    (hd : ∀ k, d (ix2 a k) = Ideal.ofBits .f32 0x3F000000#32 * aY m c (ix2 r k)) :
    tile (iblk m c 2 t) (iblk m c 4 t) (iblk m c 5 t) d a k = dpart (aX m c) (aY m c) (aG m c) (aW m c) (aU m c) r k (jt t.val) := by
  unfold tile dpart
  refine congrArg₂ (· + ·) (Finset.sum_congr rfl fun l _ => congrArg₂ (· * ·) ?_ ?_) (Finset.sum_congr rfl fun l _ => congrArg₂ (· * ·) ?_ ?_)
  · exact congr (congrArg₂ RowsMath.dgate (kd_pt m c t d a l r hd) (g_pt m c t a l r hr)) (u_pt m c t a l r hr)
  · exact blkW m c t 0 l k _ (by show t.val % 4 * 704 + l.val = 0 * 2816 + t.val % 4 * 704 + l.val; omega)
  · exact congrArg₂ RowsMath.dval (kd_pt m c t d a l r hd) (g_pt m c t a l r hr)
  · exact blkW m c t 1 l k _ (by show 2816 + (t.val % 4 * 704 + l.val) = 1 * 2816 + t.val % 4 * 704 + l.val; omega)

/-- The part of the normed rows' gradient that point `t` adds at element `y` of its tile. -/
def part (c : Dev nD) (t : Fin cfg0.N) (y : S512x1024.Idx) : EReal :=
  dpart (aX m c) (aY m c) (aG m c) (aW m c) (aU m c) ⟨t.val / 4 * 512 + (y 0).val, by
    have := lt32 t; have : (y 0).val < 512 := (y 0).isLt; omega⟩ (y 1) (jt t.val)

theorem acc_first (c : Dev nD) (t : Fin cfg0.N) (z0 : t.val % 4 = 0) (y : S512x1024.Idx) :
    accAt m c t.val y = 0 + part m c t y := by
  idx_vars y
  rw [accAt_first m c t z0, accFirst_val]
  refine congrArg (0 + ·) (tile_pt m c t _ y0 y1 _ rfl fun k => ?_)
  rw [dyh_val]
  exact congrArg (_ * ·) (blkY m c t y0 k _ rfl)

theorem acc_step (c : Dev nD) (t : Fin cfg0.N) (z0 : ¬t.val % 4 = 0) (y : S512x1024.Idx) :
    accAt m c t.val y = accAt m c (t.val - 1) y + part m c t y := by
  idx_vars y
  rw [accAt_next m c t z0, accNext_val]
  exact congrArg (_ + ·) (tile_pt m c t _ y0 y1 _ rfl fun k => dyh_pt m c t.val (lt32 t) y0 k _ rfl)

/-- The accumulator after the last step of a row block: the normed rows' gradient. -/
theorem acc_last (c : Dev nD) (t : Fin cfg0.N) (z3 : t.val % 4 = 3) (a : Fin 512) (k : Fin 1024) (r : Fin 4096) (hr : r.val = t.val / 4 * 512 + a.val) :
    accAt m c t.val (ix2 a k) = dh (aX m c) (aY m c) (aG m c) (aW m c) (aU m c) r k := by
  have e := Pipeline.eq_sum_fin_of_reset_step_apply_of_flush (fun n (h : n < cfg0.N) => accAt m c n) 4 (fun _ => (0 : EReal)) (part m c)
    (fun t h y => acc_first m c t h y) (fun t h y => acc_step m c t h y) t z3 (ix2 a k)
  refine e.trans ?_
  rw [zero_add]
  unfold dh
  refine Finset.sum_congr rfl fun s _ => ?_
  unfold part
  have hs : (4 * (t.val / 4) + s.val) / 4 = t.val / 4 := by omega
  have hs' : (4 * (t.val / 4) + s.val) % 4 = s.val := by omega
  refine congr (congrArg (fun i => dpart (aX m c) (aY m c) (aG m c) (aW m c) (aU m c) i k) (Fin.ext ?_)) (Fin.ext ?_)
  · show (4 * (t.val / 4) + s.val) / 4 * 512 + a.val = r.val
    rw [hs, hr]
  · show (4 * (t.val / 4) + s.val) % 4 = s.val
    exact hs'

/-! ## The gain's gradient -/

/-- Row block `n`'s part of the gain's gradient. -/
def gpart (c : Dev nD) (k : Fin 1024) (n : ℕ) : EReal :=
  ∑ i : Fin 512, dh (aX m c) (aY m c) (aG m c) (aW m c) (aU m c) ⟨(n * 512 + i.val) % 4096, by omega⟩ k *
    (aX m c (ix2 ⟨(n * 512 + i.val) % 4096, by omega⟩ k) * RowsMath.rinv (row (aX m c) ⟨(n * 512 + i.val) % 4096, by omega⟩))

/-- What the last step of a row block adds. -/
theorem gpart_pt (c : Dev nD) (t : Fin cfg0.N) (z3 : t.val % 4 = 3) (k : Fin 1024) :
    (∑ i : Fin 512, accAt m c t.val (ix2 i k) * ((show FVec Ideal S512x1024 .f32 from iblk m c 0 t) (ix2 i k) *
      RowsMath.rinv (fun l => (show FVec Ideal S512x1024 .f32 from iblk m c 0 t) (ix2 i l)))) = gpart m c k (t.val / 4) := by
  have ht := lt32 t
  unfold gpart
  refine Finset.sum_congr rfl fun i _ => ?_
  have hr : (t.val / 4 * 512 + i.val) % 4096 = t.val / 4 * 512 + i.val := Nat.mod_eq_of_lt (by omega)
  exact congrArg₂ (· * ·) (acc_last m c t z3 i k _ hr) (congrArg₂ (· * ·) (blkX m c t i k _ hr)
    (congrArg RowsMath.rinv (funext fun l => blkX m c t i l _ hr)))

theorem dg_pt (c : Dev nD) (a : Fin 1) (k : Fin 1024) : ∀ n : ℕ, n < 8 → dgAt m c (4 * n + 3) (ix2 a k) = ∑ i ∈ Finset.range (n + 1), gpart m c k i := by
  intro n
  induction n with
  | zero =>
    intro hn
    have e := dgAt_zero m c ⟨3, by rw [show cfg0.N = 32 from N_0]; omega⟩ rfl (by show 3 < 4; omega)
    refine (congrFun e (ix2 a k)).trans ?_
    rw [dgAdd_val, dgZero_val, zero_add]
    refine (gpart_pt m c ⟨3, by rw [show cfg0.N = 32 from N_0]; omega⟩ rfl k).trans ?_
    rw [Finset.sum_range_one]
    exact congrArg (gpart m c k) (by show 3 / 4 = 0; rfl)
  | succ n ih =>
    intro hn
    have hN : 4 * (n + 1) + 3 < cfg0.N := by rw [show cfg0.N = 32 from N_0]; omega
    have e := dgAt_add m c ⟨4 * (n + 1) + 3, hN⟩ (by show (4 * (n + 1) + 3) % 4 = 3; omega) (by show ¬4 * (n + 1) + 3 < 4; omega)
    refine (congrFun e (ix2 a k)).trans ?_
    rw [dgAdd_val, Finset.sum_range_succ, ← ih (by omega)]
    refine congrArg₂ (· + ·) (congrFun ?_ _) ((gpart_pt m c ⟨4 * (n + 1) + 3, hN⟩ (by show (4 * (n + 1) + 3) % 4 = 3; omega) k).trans
      (congrArg (gpart m c k) (by show (4 * (n + 1) + 3) / 4 = n + 1; omega)))
    show dgAt m c (4 * n + 6) = dgAt m c (4 * n + 3)
    rw [dgAt_keep m c (4 * n + 6) (by omega) (by omega), show 4 * n + 6 - 1 = 4 * n + 5 by omega,
      dgAt_keep m c (4 * n + 5) (by omega) (by omega), show 4 * n + 5 - 1 = 4 * n + 4 by omega,
      dgAt_keep m c (4 * n + 4) (by omega) (by omega), show 4 * n + 4 - 1 = 4 * n + 3 by omega]

/-- The gain's gradient after the last step. -/
theorem dg_last (c : Dev nD) (a : Fin 1) (k : Fin 1024) :
    dgAt m c 31 (ix2 a k) = dgain (aX m c) (aY m c) (aG m c) (aW m c) (aU m c) k := by
  refine (dg_pt m c a k 7 (by omega)).trans ?_
  unfold dgain
  rw [Finset.sum_range, Fin.sum_univ_tiles 8 512 rfl]
  refine Finset.sum_congr rfl fun n _ => ?_
  unfold gpart
  refine Finset.sum_congr rfl fun i _ => ?_
  have hr : (⟨(n.val * 512 + i.val) % 4096, by omega⟩ : Fin 4096) = ⟨n.val * 512 + i.val, by omega⟩ :=
    Fin.ext (Nat.mod_eq_of_lt (by omega))
  rw [hr]

/-! ## The results -/

section
open Cert.ReferenceIdeal.Read

variable {m}

theorem final6 (c : Dev nD) (H : AllReal (aY m c) (aG m c) (aW m c) (aU m c)) :
    (dats m 0 c).arrAt 6 (cfgs 0).N = val_main_v50 (F := Ideal) (aX m c) (aY m c) (aG m c) (aW m c) (aU m c) := by
  refine (dats m 0 c).arrAt_eq_of_covers 6 _ (by decide +kernel) fun t hf y => ?_
  blk_simp
  have z3 : t.val % 4 = 3 := (flush0_6 t).mp hf
  have hN := lt32 t
  rw [after6]
  idx_vars y
  have e : ((cfg0.win 6).blk t).view.emb (ix2 y0 y1) = ix2 (⟨t.val / 4 * 512 + y0.val, by omega⟩ : Fin 4096) y1 := by blk_ext [idx_val t]
  rw [e, Cert.ReferenceIdeal.Rows.dx_at _ _ _ _ _ H]
  unfold dxAt dx
  rw [dx_val]
  exact congrArg₂ (· + ·) (blkY m c t y0 y1 _ rfl) (dnorm_congr (fun l => blkX m c t y0 l _ rfl)
    (fun l => acc_last m c t z3 y0 l _ rfl) (fun l => blkG m c t l) y1)

theorem final12 (c : Dev nD) (H : AllReal (aY m c) (aG m c) (aW m c) (aU m c)) :
    (dats m 0 c).arrAt 12 (cfgs 0).N = val_main_v60 (F := Ideal) (aX m c) (aY m c) (aG m c) (aW m c) (aU m c) := by
  refine (dats m 0 c).arrAt_eq_of_covers 12 _ (by decide +kernel) fun t hf y => ?_
  blk_simp
  have z3 : t.val % 4 = 3 := (flush0_12 t).mp hf
  have hN := lt32 t
  rw [after12]
  idx_vars y
  have e : ((cfg0.win 12).blk t).view.emb (ix2 y0 y1) = ix2 (⟨t.val / 4 * 512 + y0.val, by omega⟩ : Fin 4096) y1 := by blk_ext [idx_val t]
  rw [e, Cert.ReferenceIdeal.Rows.res_dxb _ _ _ _ _ H]
  unfold dxbAt dx
  rw [dxb_val]
  exact congrArg₂ (· + ·) (blkY m c t y0 y1 _ rfl) (dnorm_congr (fun l => blkX m c t y0 l _ rfl)
    (fun l => acc_last m c t z3 y0 l _ rfl) (fun l => blkG m c t l) y1)

theorem final7 (c : Dev nD) : (dats m 0 c).arrAt 7 (cfgs 0).N = val_main_v51 (F := Ideal) (aX m c) (aG m c) := by
  refine (dats m 0 c).arrAt_eq_of_covers 7 _ (by decide +kernel) fun t hf y => ?_
  blk_simp
  have hN := lt32 t
  rw [after7]
  idx_vars y
  have e : ((cfg0.win 7).blk t).view.emb (ix2 y0 y1) = ix2 (⟨t.val / 4 * 512 + y0.val, by omega⟩ : Fin 4096) y1 := by blk_ext [idx_val t]
  rw [e, Cert.ReferenceIdeal.Rows.res_h]
  exact h_pt m c t.val hN y0 y1 _ rfl

theorem final11 (c : Dev nD) : (dats m 0 c).arrAt 11 (cfgs 0).N = val_main_v59 (F := Ideal) (aY m c) := by
  refine (dats m 0 c).arrAt_eq_of_covers 11 _ (by decide +kernel) fun t hf y => ?_
  blk_simp
  have hN := lt32 t
  rw [after11]
  idx_vars y
  have e : ((cfg0.win 11).blk t).view.emb (ix2 y0 y1) = ix2 (⟨t.val / 4 * 512 + y0.val, by omega⟩ : Fin 4096) y1 := by blk_ext [idx_val t]
  rw [e, Cert.ReferenceIdeal.Rows.res_dyh]
  exact dyh_pt m c t.val hN y0 y1 _ rfl

theorem final8 (c : Dev nD) : (dats m 0 c).arrAt 8 (cfgs 0).N = val_main_v54 (F := Ideal) (aX m c) (aG m c) (aW m c) := by
  refine (dats m 0 c).arrAt_eq_of_covers 8 _ (by decide +kernel) fun t hf y => ?_
  blk_simp
  have hN := lt32 t
  rw [after8]
  idx_vars y
  have e : ((cfg0.win 8).blk t).view.emb (ix3 y0 y1 y2) = ix3 (jt t.val) (⟨t.val / 4 * 512 + y1.val, by omega⟩ : Fin 4096) y2 := by blk_ext [idx_val t]
  rw [e, Cert.ReferenceIdeal.Rows.res_act]
  unfold actAt
  rw [act_val]
  exact congrArg₂ RowsMath.act (g_pt m c t y1 y2 _ rfl) (u_pt m c t y1 y2 _ rfl)

theorem final9 (c : Dev nD) (H : AllReal (aY m c) (aG m c) (aW m c) (aU m c)) :
    (dats m 0 c).arrAt 9 (cfgs 0).N = val_main_v57 (F := Ideal) (aX m c) (aY m c) (aG m c) (aW m c) (aU m c) := by
  refine (dats m 0 c).arrAt_eq_of_covers 9 _ (by decide +kernel) fun t hf y => ?_
  blk_simp
  have hN := lt32 t
  rw [after9]
  idx_vars y
  have e : ((cfg0.win 9).blk t).view.emb (ix4 y0 y1 y2 y3) = ix4 y0 (jt t.val) (⟨t.val / 4 * 512 + y2.val, by omega⟩ : Fin 4096) y3 := by blk_ext [idx_val t]
  rw [e, Cert.ReferenceIdeal.Rows.res_dgu _ _ _ _ _ H]
  unfold dguAt
  rw [dgu_val]
  exact congr (congrArg₂ (dzv y0) (kd_pt m c t _ y2 y3 _ fun k => dyh_pt m c t.val hN y2 k _ rfl) (g_pt m c t y2 y3 _ rfl)) (u_pt m c t y2 y3 _ rfl)

theorem final10 (c : Dev nD) (H : AllReal (aY m c) (aG m c) (aW m c) (aU m c)) :
    (dats m 0 c).arrAt 10 (cfgs 0).N = val_main_v58 (F := Ideal) (aX m c) (aY m c) (aG m c) (aW m c) (aU m c) := by
  refine (dats m 0 c).arrAt_eq_of_covers 10 _ (by decide +kernel) fun t hf y => ?_
  blk_simp
  have hN := lt32 t
  have z : t.val = 31 := by have := (flush0_10 t).mp hf; omega
  rw [after10, z]
  idx_vars y
  have e : ((cfg0.win 10).blk t).view.emb (ix2 y0 y1) = ix2 y0 y1 := by blk_ext [idx_val t]
  rw [e, Cert.ReferenceIdeal.Rows.res_dgain _ _ _ _ _ H]
  exact dg_last m c y0 y1

end

end Cert.KernelIdeal.RowsVal

end
-- ==== Proof.ValFwd.lean ====
/- The values of the forward feed-forward call: what it leaves are the residual branch's output and the two saved halves
   of the first product, as the reference has them. -/
module

public import proofs.«01_k».proof.Proof.Gen.FwdIdeal.Frame
public import proofs.«01_k».proof.Proof.Gen.FwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FwdIdeal.Val

open Cert.FwdIdeal Cert.FwdIdeal.Gen

section Reference

open Cert.FwdRefIdeal.Read

variable (X : FVec Ideal Cert.FwdRefIdeal.S4096x1024 .f32) (G : FVec Ideal Cert.FwdRefIdeal.S1024 .f32)
  (W : FVec Ideal Cert.FwdRefIdeal.S1024x5632 .f32) (U : FVec Ideal Cert.FwdRefIdeal.S2816x1024 .f32)

/-- One element of the root-mean-square norm of a row `f`, with gain `g`. -/
def rms (f : Fin 1024 → EReal) (g : EReal) (k : Fin 1024) : EReal :=
  f k * Ideal.rsqrt (Ideal.div (∑ l, f l * f l) (Ideal.ofBits .f32 0x44800000#32) + Ideal.ofBits .f32 0x358637BD#32) * g

/-- One element of the gate: the first half times its logistic, times the second half. -/
def swiglu (a b : EReal) : EReal := a * Ideal.div 1 (1 + Ideal.exp (-a)) * b

/-- The normed input. -/
abbrev hR : FVec Ideal Cert.FwdRefIdeal.S4096x1024 .f32 := val_main_v12 (F := Ideal) X G
/-- The first product. -/
abbrev zR : FVec Ideal Cert.FwdRefIdeal.S4096x5632 .f32 := val_main_v13 (F := Ideal) X G W
/-- The gated activation. -/
abbrev aR : FVec Ideal Cert.FwdRefIdeal.S4096x2816 .f32 := val_main_v17 (F := Ideal) X G W
/-- The reference's first result. -/
abbrev REF0 : FVec Ideal Cert.FwdRefIdeal.S4096x1024 .f32 := val_main_v21 (F := Ideal) X G W U
/-- The reference's second result. -/
abbrev REF1 : FVec Ideal Cert.FwdRefIdeal.S2x4x4096x704 .bf16 := val_main_v24 (F := Ideal) X G W

/-- The normed input's element. -/
theorem hR_at (i : Fin 4096) (k : Fin 1024) : hR X G (ix2 i k) = rms (fun l => X (ix2 i l)) (G (ix1 k)) k := by
  unfold hR rms
  pointwise [val_main_v12,val_main_v11,val_main_v10,val_main_v9,val_main_v8,val_main_v7,val_main_v6,val_main_v5,val_main_v4,val_main_v3,val_main_v2,val_main_v1,val_main_v0,val_main_cst,val_main_cst_0,val_main_cst_1]

/-- The first product's element. -/
theorem zR_at (i : Fin 4096) (n : Fin 5632) : zR X G W (ix2 i n) = ∑ k : Fin 1024, hR X G (ix2 i k) * W (ix2 k n) := by
  unfold zR
  pointwise [val_main_v13]

/-- The activation's element. -/
theorem aR_at (i : Fin 4096) (q : Fin 2816) :
    aR X G W (ix2 i q) = swiglu (zR X G W (ix2 i ⟨q.val, by omega⟩)) (zR X G W (ix2 i ⟨2816 + q.val, by omega⟩)) := by
  unfold aR swiglu
  pointwise [val_main_v17, val_main_v16, val_main_v15, val_main_v14, val_main_call0_v5, val_main_call0_v4, val_main_call0_v3, val_main_call0_v2, val_main_call0_v1, val_main_call0_v0, val_main_call0_cst, val_main_call0_cst_0]

/-- The first result's element. -/
theorem ref0_at (i : Fin 4096) (b : Fin 1024) :
    REF0 X G W U (ix2 i b) = X (ix2 i b) + Ideal.ofBits .f32 0x3F000000#32 * ∑ q : Fin 2816, aR X G W (ix2 i q) * U (ix2 q b) := by
  unfold REF0
  pointwise [val_main_v21, val_main_v20, val_main_v19, val_main_v18, val_main_cst_2]

/-- The second result's element: the first product's, in halves and column blocks. -/
theorem ref1_at (s : Fin 2) (j : Fin 4) (i : Fin 4096) (a : Fin 704) :
    REF1 X G W (ix4 s j i a) = zR X G W (ix2 i ⟨s.val * 2816 + j.val * 704 + a.val, by omega⟩) := by
  unfold REF1
  pointwise [val_main_v24, val_main_v23, val_main_v22]

end Reference

/-- The norm stage of the body. -/
theorem norm_at (x : FVec Ideal S1024x1024 .f32) (g : FVec Ideal S1x1024 .f32) (a k : Fin 1024) :
    k0_pay3 (F := Ideal) x g (ix2 a k) = rms (fun l => x (ix2 a l)) (g (ix2 0 k)) k := by
  unfold rms
  pointwise [k0_pay3]

/-- The zero fill. -/
theorem zero_at (j : S1024x1024.Idx) : k0_pay4 (F := Ideal) j = 0 := by pointwise [k0_pay4]

/-- The accumulating step. -/
theorem step_at (p : FVec Ideal S1024x704 .bf16) (acc : FVec Ideal S1024x1024 .f32) (w : FVec Ideal S1x2x352x1024 .bf16) (a b : Fin 1024) :
    k0_pay1 (F := Ideal) p acc w (ix2 a b)
      = acc (ix2 a b) + ∑ k : Fin 704, p (ix2 a k) * w (ix4 0 ⟨k.val / 352, by omega⟩ ⟨k.val % 352, by omega⟩ b) := by
  pointwise [k0_pay1]

/-- The gate stage of the body. -/
theorem gate_at (h : FVec Ideal S1024x1024 .bf16) (u v : FVec Ideal S1x1x704x1024 .bf16) (a : Fin 1024) (b : Fin 704) :
    k0_pay9 (F := Ideal) h u v (ix2 a b)
      = swiglu (∑ k : Fin 1024, h (ix2 a k) * u (ix4 0 0 b k)) (∑ k : Fin 1024, h (ix2 a k) * v (ix4 0 0 b k)) := by
  unfold swiglu
  pointwise [k0_pay9, k0_pay5, k0_pay6]
  rw [zero_sub]

/-- The first saved half. -/
theorem save_at (h : FVec Ideal S1024x1024 .bf16) (u : FVec Ideal S1x1x704x1024 .bf16) (s j : Fin 1) (a : Fin 1024) (b : Fin 704) :
    k0_pay7 (F := Ideal) h u (ix4 s j a b) = ∑ k : Fin 1024, h (ix2 a k) * u (ix4 0 0 b k) := by
  pointwise [k0_pay7, k0_pay5]

/-- The second saved half. -/
theorem save_at' (h : FVec Ideal S1024x1024 .bf16) (u : FVec Ideal S1x1x704x1024 .bf16) (s j : Fin 1) (a : Fin 1024) (b : Fin 704) :
    k0_pay8 (F := Ideal) h u (ix4 s j a b) = ∑ k : Fin 1024, h (ix2 a k) * u (ix4 0 0 b k) := by
  pointwise [k0_pay8, k0_pay6]

/-- The residual stage: the input and half the accumulated product. -/
theorem out_at (x acc : FVec Ideal S1024x1024 .f32) (a b : Fin 1024) :
    k0_pay2 (F := Ideal) x acc (ix2 a b) = x (ix2 a b) + Ideal.ofBits .f32 0x3F000000#32 * acc (ix2 a b) := by
  pointwise [k0_pay2]

variable (m : (ℓ : Loc nD τ sig) → Buf (Elt Ideal) ℓ)

/-- The input as launched. -/
abbrev aX (c : Dev nD) : FVec Ideal S4096x1024 .f32 := m ((c : Thread nD τ).loc main_arg0)
/-- The gain as launched. -/
abbrev aG (c : Dev nD) : FVec Ideal S1024 .f32 := m ((c : Thread nD τ).loc main_arg1)
/-- The first weight as launched. -/
abbrev aW (c : Dev nD) : FVec Ideal S1024x5632 .f32 := m ((c : Thread nD τ).loc main_arg2)
/-- The second weight as launched. -/
abbrev aU (c : Dev nD) : FVec Ideal S2816x1024 .f32 := m ((c : Thread nD τ).loc main_arg3)

/-- The index maps in closed form. -/
theorem idx_val : ∀ t : Fin cfg0.N, win0_0.index t = ![t.val / 4, 0]
    ∧ win0_1.index t = ![0, 0]
    ∧ win0_2.index t = ![0, t.val % 4, 0, 0]
    ∧ win0_3.index t = ![t.val % 4, 0, 0, 0]
    ∧ win0_4.index t = ![t.val / 4, 0]
    ∧ win0_5.index t = ![0, t.val % 4, t.val / 4, 0] :=
  (by decide +kernel : ∀ t : Fin grid0.N, _)

/-- The first weight as the host arranges it. -/
theorem hostW (c : Dev nD) (s : Fin 2) (j : Fin 4) (b : Fin 704) (k : Fin 1024) (q : Fin 5632) (hq : q.val = s.val * 2816 + j.val * 704 + b.val) :
    (show FVec Ideal S2x4x704x1024 .bf16 from V m c main_v5) (ix4 s j b k) = aW m c (ix2 k q) := by
  show V m c main_v5 (ix4 s j b k) = _
  entry_read
  pointwise
  blk_ext

/-- The second weight as the host arranges it. -/
theorem hostU (c : Dev nD) (j : Fin 4) (p : Fin 2) (b : Fin 352) (k : Fin 1024) (q : Fin 2816) (hq : q.val = j.val * 704 + p.val * 352 + b.val) :
    (show FVec Ideal S4x2x352x1024 .bf16 from V m c main_v6) (ix4 j p b k) = aU m c (ix2 q k) := by
  show V m c main_v6 (ix4 j p b k) = _
  entry_read
  pointwise
  blk_ext

/-- A window of the input: rows `1024 (t / 4) + a`. -/
theorem blkX (c : Dev nD) (t : Fin cfg0.N) (a k : Fin 1024) (r : Fin 4096) (hr : r.val = t.val / 4 * 1024 + a.val) :
    (show FVec Ideal S1024x1024 .f32 from iblk m c 0 t) (ix2 a k) = aX m c (ix2 r k) := by
  show iblk m c 0 t (ix2 a k) = _
  blk_ext [iblk, V, idx_val t]

/-- The gain's window. -/
theorem blkG (c : Dev nD) (t : Fin cfg0.N) (k : Fin 1024) :
    (show FVec Ideal S1x1024 .f32 from iblk m c 1 t) (ix2 0 k) = aG m c (ix1 k) := by
  have h : (show FVec Ideal S1x1024 .f32 from V m c main_v7) (ix2 0 k) = aG m c (ix1 k) := by
    show V m c main_v7 (ix2 0 k) = _
    entry_read
    pointwise
  refine Eq.trans ?_ h
  show iblk m c 1 t (ix2 0 k) = V m c main_v7 _
  blk_ext [iblk, idx_val t]

/-- A read of an array `v` through the first weight's window. -/
theorem read2 (t : Fin cfg0.N) (v : Vec Ideal S2x4x704x1024 .bf16) (y : S2x1x704x1024.Idx) (i : S2x4x704x1024.Idx)
    (h : ((cfg0.win 2).blk t).view.emb y = i) : ((cfg0.win 2).blk t).view.read (Elt Ideal) v y = v i := by
  subst h
  rfl

/-- A read of an array `v` through the second weight's window. -/
theorem read3 (t : Fin cfg0.N) (v : Vec Ideal S4x2x352x1024 .bf16) (y : S1x2x352x1024.Idx) (i : S4x2x352x1024.Idx)
    (h : ((cfg0.win 3).blk t).view.emb y = i) : ((cfg0.win 3).blk t).view.read (Elt Ideal) v y = v i := by
  subst h
  rfl

/-- A window of the first weight: both halves of column block `t % 4`. -/
theorem blkW (c : Dev nD) (t : Fin cfg0.N) (s : Fin 2) (b : Fin 704) (k : Fin 1024) (q : Fin 5632) (hq : q.val = s.val * 2816 + t.val % 4 * 704 + b.val) :
    (show FVec Ideal S2x1x704x1024 .bf16 from iblk m c 2 t) (ix4 s 0 b k) = aW m c (ix2 k q) := by
  obtain ⟨j, hj⟩ : ∃ j : Fin 4, j.val = t.val % 4 := ⟨⟨t.val % 4, by omega⟩, rfl⟩
  exact (read2 t (V m c main_v5) (ix4 s 0 b k) (ix4 s j b k) (by blk_ext [idx_val t, hj])).trans (hostW m c s j b k q (by omega))

/-- A window of the second weight: row block `t % 4`. -/
theorem blkU (c : Dev nD) (t : Fin cfg0.N) (p : Fin 2) (b : Fin 352) (k : Fin 1024) (q : Fin 2816) (hq : q.val = t.val % 4 * 704 + p.val * 352 + b.val) :
    (show FVec Ideal S1x2x352x1024 .bf16 from iblk m c 3 t) (ix4 0 p b k) = aU m c (ix2 q k) := by
  obtain ⟨j, hj⟩ : ∃ j : Fin 4, j.val = t.val % 4 := ⟨⟨t.val % 4, by omega⟩, rfl⟩
  exact (read3 t (V m c main_v6) (ix4 0 p b k) (ix4 j p b k) (by blk_ext [idx_val t, hj])).trans (hostU m c j p b k q (by omega))

/-- The scratch that holds the normed rows, after every point: the rows of the point's tile. -/
theorem scr0 (c : Dev nD) : ∀ (n : ℕ) (hn : n < cfg0.N) (a k : Fin 1024) (r : Fin 4096), r.val = n / 4 * 1024 + a.val →
    (outsAt0 m c n hn).2.2.1 (ix2 a k) = hR (aX m c) (aG m c) (ix2 r k) := by
  intro n
  induction n using Nat.strong_induction_on with
  | _ n ih =>
    intro hn a k r hr
    by_cases h0 : n % 4 = 0
    · rw [outsAt0_A m c ⟨n, hn⟩ h0 (by show ¬n % 4 = 3; omega)]
      dsimp only
      frame_out
      rw [norm_at, hR_at]
      exact congrArg₂ (fun f g => rms f g k) (funext fun l => blkX m c ⟨n, hn⟩ a l r hr) (blkG m c ⟨n, hn⟩ k)
    · have e : (outsAt0 m c n hn).2.2.1 = (outsAt0 m c (n - 1) (Nat.lt_of_le_of_lt (Nat.sub_le _ _) hn)).2.2.1 := by
        by_cases h3 : n % 4 = 3
        · rw [outsAt0_C m c ⟨n, hn⟩ h0 h3]; rfl
        · rw [outsAt0_B m c ⟨n, hn⟩ h0 h3]; rfl
      rw [e]
      exact ih (n - 1) (by omega) _ a k r (by omega)

/-- A saved element from the normed rows `h` and a half `u` of the point's weight block. -/
theorem half_at (c : Dev nD) (t : Fin cfg0.N) (h : FVec Ideal S1024x1024 .bf16) (u : FVec Ideal S1x1x704x1024 .bf16) (s : Fin 2) (a : Fin 1024) (b : Fin 704)
    (r : Fin 4096) (q : Fin 5632) (hq : q.val = s.val * 2816 + t.val % 4 * 704 + b.val)
    (hh : ∀ k, h (ix2 a k) = hR (aX m c) (aG m c) (ix2 r k))
    (hu : ∀ k, u (ix4 0 0 b k) = (show FVec Ideal S2x1x704x1024 .bf16 from iblk m c 2 t) (ix4 s 0 b k)) :
    ∑ k : Fin 1024, h (ix2 a k) * u (ix4 0 0 b k) = zR (aX m c) (aG m c) (aW m c) (ix2 r q) := by
  rw [zR_at]
  exact Finset.sum_congr rfl fun k _ => congrArg₂ (· * ·) (hh k) ((hu k).trans (blkW m c t s b k q hq))

/-- The part of the second product that point `t` adds at element `y` of its tile. -/
def part (c : Dev nD) (t : Fin cfg0.N) (y : S1024x1024.Idx) : EReal :=
  ∑ k : Fin 704, aR (aX m c) (aG m c) (aW m c) (ix2 ⟨t.val / 4 * 1024 + (y 0).val, by
      have := lt_of_lt_of_eq t.isLt N_0; have : (y 0).val < 1024 := (y 0).isLt; omega⟩ ⟨t.val % 4 * 704 + k.val, by omega⟩)
    * aU m c (ix2 ⟨t.val % 4 * 704 + k.val, by omega⟩ (y 1))

/-- The accumulating step at a point, over the normed rows `h` and the two halves `u`, `v` of its weight block. -/
theorem step_core (c : Dev nD) (t : Fin cfg0.N) (h : FVec Ideal S1024x1024 .bf16) (u v : FVec Ideal S1x1x704x1024 .bf16)
    (acc : FVec Ideal S1024x1024 .f32)
    (hh : ∀ (a k : Fin 1024) (r : Fin 4096), r.val = t.val / 4 * 1024 + a.val → h (ix2 a k) = hR (aX m c) (aG m c) (ix2 r k))
    (hu : ∀ b k, u (ix4 0 0 b k) = (show FVec Ideal S2x1x704x1024 .bf16 from iblk m c 2 t) (ix4 0 0 b k))
    (hv : ∀ b k, v (ix4 0 0 b k) = (show FVec Ideal S2x1x704x1024 .bf16 from iblk m c 2 t) (ix4 1 0 b k)) (y : S1024x1024.Idx) :
    k0_pay1 (F := Ideal) (k0_pay9 (F := Ideal) h u v) acc (iblk m c 3 t) y = acc y + part m c t y := by
  idx_vars y
  rw [step_at]
  refine congrArg (acc (ix2 y0 y1) + ·) (Finset.sum_congr rfl fun k _ => congrArg₂ (· * ·) ?_ ?_)
  · rw [gate_at, aR_at]
    refine congrArg₂ swiglu (half_at m c t h u 0 y0 k _ _ ?_ (fun l => hh y0 l _ rfl) (hu k)) (half_at m c t h v 1 y0 k _ _ ?_ (fun l => hh y0 l _ rfl) (hv k))
    · show t.val % 4 * 704 + k.val = 0 * 2816 + t.val % 4 * 704 + k.val; omega
    · show 2816 + (t.val % 4 * 704 + k.val) = 1 * 2816 + t.val % 4 * 704 + k.val; omega
  · exact blkU m c t _ _ y1 _ (by show t.val % 4 * 704 + k.val = t.val % 4 * 704 + k.val / 352 * 352 + k.val % 352; omega)

/-- The scratch at a tile's first point, as the body computes it. -/
theorem norm_pt (c : Dev nD) (t : Fin cfg0.N) (a k : Fin 1024) (r : Fin 4096) (hr : r.val = t.val / 4 * 1024 + a.val) :
    k0_pay3 (F := Ideal) (iblk m c 0 t) (iblk m c 1 t) (ix2 a k) = hR (aX m c) (aG m c) (ix2 r k) := by
  rw [norm_at, hR_at]
  exact congrArg₂ (fun f g => rms f g k) (funext fun l => blkX m c t a l r hr) (blkG m c t k)

/-- The scratch at a later point of the tile, as the body reads it. -/
theorem scr_pt (c : Dev nD) (t : Fin cfg0.N) (h0 : ¬t.val % 4 = 0) (hn : t.val - 1 < cfg0.N) (a k : Fin 1024) (r : Fin 4096) (hr : r.val = t.val / 4 * 1024 + a.val) :
    (View.whole cc0_scratch0).read (Elt Ideal) ((Memref.isWhole_whole cc0_scratch0).unread (outsAt0 m c (t.val - 1) hn).2.2.1) (ix2 a k)
      = hR (aX m c) (aG m c) (ix2 r k) :=
  (congrFun ((Memref.isWhole_whole cc0_scratch0).read_unread _) _).trans (scr0 m c (t.val - 1) hn a k r (by omega))

/-- The saved halves at the first point of a tile. -/
theorem out5_A (c : Dev nD) (t : Fin cfg0.N) (z0 : t.val % 4 = 0) (y : S2x1x1024x704.Idx) (r : Fin 4096) (hr : r.val = t.val / 4 * 1024 + (y 2).val)
    (q : Fin 5632) (hq : q.val = (y 0).val * 2816 + t.val % 4 * 704 + (y 3).val) :
    (outsAt0 m c t.val t.isLt).2.1 y = zR (aX m c) (aG m c) (aW m c) (ix2 r q) := by
  rw [outsAt0_A m c t z0 (by omega)]
  dsimp only
  frame_out
  canon_tiles x h
  all_goals idx_vars x
  · rw [save_at']
    refine half_at m c t _ _ 1 x2 x3 r q (by omega) ?_ ?_
    · exact (fun k => norm_pt m c t x2 k r (by omega))
    · exact (fun k => View.ld_unit_apply_of _ _ _ _ _ (ix4 1 0 _ k) (fun a => match a with | ⟨0, _⟩ => rfl | ⟨1, _⟩ => rfl | ⟨2, _⟩ => (Nat.zero_add _).symm | ⟨3, _⟩ => (Nat.zero_add _).symm))
  · rw [save_at]
    have e0 : (y 0).val = 0 := h0.trans (by show x0.val = 0; omega)
    have e3 : (y 3).val = x3.val := h3
    have e2 : (y 2).val = x2.val := h2
    rw [e0, e3] at hq
    rw [e2] at hr
    clear h0 h1 h2 h3 e0 e2 e3
    refine half_at m c t _ _ 0 x2 x3 r q hq ?_ ?_
    · exact (fun k => norm_pt m c t x2 k r (by omega))
    · exact (fun k => View.ld_unit_apply_of _ _ _ _ _ (ix4 0 0 _ k) (fun a => match a with | ⟨0, _⟩ => rfl | ⟨1, _⟩ => rfl | ⟨2, _⟩ => (Nat.zero_add _).symm | ⟨3, _⟩ => (Nat.zero_add _).symm))

/-- The saved halves at a middle point of a tile. -/
theorem out5_B (c : Dev nD) (t : Fin cfg0.N) (z0 : ¬t.val % 4 = 0) (z3 : ¬t.val % 4 = 3) (y : S2x1x1024x704.Idx) (r : Fin 4096) (hr : r.val = t.val / 4 * 1024 + (y 2).val)
    (q : Fin 5632) (hq : q.val = (y 0).val * 2816 + t.val % 4 * 704 + (y 3).val) :
    (outsAt0 m c t.val t.isLt).2.1 y = zR (aX m c) (aG m c) (aW m c) (ix2 r q) := by
  rw [outsAt0_B m c t z0 z3]
  dsimp only
  frame_out
  canon_tiles x h
  all_goals idx_vars x
  · rw [save_at']
    refine half_at m c t _ _ 1 x2 x3 r q (by omega) ?_ ?_
    · exact (fun k => scr_pt m c t z0 _ x2 k r (by omega))
    · exact (fun k => View.ld_unit_apply_of _ _ _ _ _ (ix4 1 0 _ k) (fun a => match a with | ⟨0, _⟩ => rfl | ⟨1, _⟩ => rfl | ⟨2, _⟩ => (Nat.zero_add _).symm | ⟨3, _⟩ => (Nat.zero_add _).symm))
  · rw [save_at]
    have e0 : (y 0).val = 0 := h0.trans (by show x0.val = 0; omega)
    have e3 : (y 3).val = x3.val := h3
    have e2 : (y 2).val = x2.val := h2
    rw [e0, e3] at hq
    rw [e2] at hr
    clear h0 h1 h2 h3 e0 e2 e3
    refine half_at m c t _ _ 0 x2 x3 r q hq ?_ ?_
    · exact (fun k => scr_pt m c t z0 _ x2 k r (by omega))
    · exact (fun k => View.ld_unit_apply_of _ _ _ _ _ (ix4 0 0 _ k) (fun a => match a with | ⟨0, _⟩ => rfl | ⟨1, _⟩ => rfl | ⟨2, _⟩ => (Nat.zero_add _).symm | ⟨3, _⟩ => (Nat.zero_add _).symm))

/-- The saved halves at the last point of a tile. -/
theorem out5_C (c : Dev nD) (t : Fin cfg0.N) (z0 : ¬t.val % 4 = 0) (z3 : t.val % 4 = 3) (y : S2x1x1024x704.Idx) (r : Fin 4096) (hr : r.val = t.val / 4 * 1024 + (y 2).val)
    (q : Fin 5632) (hq : q.val = (y 0).val * 2816 + t.val % 4 * 704 + (y 3).val) :
    (outsAt0 m c t.val t.isLt).2.1 y = zR (aX m c) (aG m c) (aW m c) (ix2 r q) := by
  rw [outsAt0_C m c t z0 z3]
  dsimp only
  frame_out
  canon_tiles x h
  all_goals idx_vars x
  · rw [save_at']
    refine half_at m c t _ _ 1 x2 x3 r q (by omega) ?_ ?_
    · exact (fun k => scr_pt m c t z0 _ x2 k r (by omega))
    · exact (fun k => View.ld_unit_apply_of _ _ _ _ _ (ix4 1 0 _ k) (fun a => match a with | ⟨0, _⟩ => rfl | ⟨1, _⟩ => rfl | ⟨2, _⟩ => (Nat.zero_add _).symm | ⟨3, _⟩ => (Nat.zero_add _).symm))
  · rw [save_at]
    have e0 : (y 0).val = 0 := h0.trans (by show x0.val = 0; omega)
    have e3 : (y 3).val = x3.val := h3
    have e2 : (y 2).val = x2.val := h2
    rw [e0, e3] at hq
    rw [e2] at hr
    clear h0 h1 h2 h3 e0 e2 e3
    refine half_at m c t _ _ 0 x2 x3 r q hq ?_ ?_
    · exact (fun k => scr_pt m c t z0 _ x2 k r (by omega))
    · exact (fun k => View.ld_unit_apply_of _ _ _ _ _ (ix4 0 0 _ k) (fun a => match a with | ⟨0, _⟩ => rfl | ⟨1, _⟩ => rfl | ⟨2, _⟩ => (Nat.zero_add _).symm | ⟨3, _⟩ => (Nat.zero_add _).symm))

/-- What every point leaves in the saved halves' block: the first product's elements. -/
theorem out5 (c : Dev nD) (t : Fin cfg0.N) (y : S2x1x1024x704.Idx) (r : Fin 4096) (hr : r.val = t.val / 4 * 1024 + (y 2).val)
    (q : Fin 5632) (hq : q.val = (y 0).val * 2816 + t.val % 4 * 704 + (y 3).val) :
    (outsAt0 m c t.val t.isLt).2.1 y = zR (aX m c) (aG m c) (aW m c) (ix2 r q) := by
  by_cases z0 : t.val % 4 = 0
  · exact out5_A m c t z0 y r hr q hq
  · by_cases z3 : t.val % 4 = 3
    · exact out5_C m c t z0 z3 y r hr q hq
    · exact out5_B m c t z0 z3 y r hr q hq

/-- The accumulator after a tile's first point. -/
theorem acc_first (c : Dev nD) (t : Fin cfg0.N) (z0 : t.val % 4 = 0) (y : S1024x1024.Idx) :
    (outsAt0 m c t.val t.isLt).2.2.2 y = 0 + part m c t y := by
  rw [outsAt0_A m c t z0 (by omega)]
  dsimp only
  frame_out
  refine (step_core m c t _ _ _ _ (fun a k r hr => norm_pt m c t a k r hr) (fun b k => View.ld_unit_apply_of _ _ _ _ _ (ix4 0 0 _ k) (fun a => match a with | ⟨0, _⟩ => rfl | ⟨1, _⟩ => rfl | ⟨2, _⟩ => (Nat.zero_add _).symm | ⟨3, _⟩ => (Nat.zero_add _).symm)) (fun b k => View.ld_unit_apply_of _ _ _ _ _ (ix4 1 0 _ k) (fun a => match a with | ⟨0, _⟩ => rfl | ⟨1, _⟩ => rfl | ⟨2, _⟩ => (Nat.zero_add _).symm | ⟨3, _⟩ => (Nat.zero_add _).symm)) y).trans ?_
  rw [zero_at]

/-- The accumulator after a later point: what the point before left and this point's part. -/
theorem acc_step (c : Dev nD) (t : Fin cfg0.N) (z0 : ¬t.val % 4 = 0) (y : S1024x1024.Idx) :
    (outsAt0 m c t.val t.isLt).2.2.2 y = (outsAt0 m c (t.val - 1) (Nat.lt_of_le_of_lt (Nat.sub_le _ _) t.isLt)).2.2.2 y + part m c t y := by
  by_cases z3 : t.val % 4 = 3
  · rw [outsAt0_C m c t z0 z3]
    dsimp only
    frame_out
    refine (step_core m c t _ _ _ _ (fun a k r hr => scr_pt m c t z0 _ a k r hr) (fun b k => View.ld_unit_apply_of _ _ _ _ _ (ix4 0 0 _ k) (fun a => match a with | ⟨0, _⟩ => rfl | ⟨1, _⟩ => rfl | ⟨2, _⟩ => (Nat.zero_add _).symm | ⟨3, _⟩ => (Nat.zero_add _).symm)) (fun b k => View.ld_unit_apply_of _ _ _ _ _ (ix4 1 0 _ k) (fun a => match a with | ⟨0, _⟩ => rfl | ⟨1, _⟩ => rfl | ⟨2, _⟩ => (Nat.zero_add _).symm | ⟨3, _⟩ => (Nat.zero_add _).symm)) y).trans ?_
    exact congrArg (· + part m c t y) (congrFun ((Memref.isWhole_whole cc0_scratch1).read_unread _) y)
  · rw [outsAt0_B m c t z0 z3]
    dsimp only
    frame_out
    refine (step_core m c t _ _ _ _ (fun a k r hr => scr_pt m c t z0 _ a k r hr) (fun b k => View.ld_unit_apply_of _ _ _ _ _ (ix4 0 0 _ k) (fun a => match a with | ⟨0, _⟩ => rfl | ⟨1, _⟩ => rfl | ⟨2, _⟩ => (Nat.zero_add _).symm | ⟨3, _⟩ => (Nat.zero_add _).symm)) (fun b k => View.ld_unit_apply_of _ _ _ _ _ (ix4 1 0 _ k) (fun a => match a with | ⟨0, _⟩ => rfl | ⟨1, _⟩ => rfl | ⟨2, _⟩ => (Nat.zero_add _).symm | ⟨3, _⟩ => (Nat.zero_add _).symm)) y).trans ?_
    exact congrArg (· + part m c t y) (congrFun ((Memref.isWhole_whole cc0_scratch1).read_unread _) y)

/-- The accumulator at a tile's last point: the whole second product. -/
theorem acc_last (c : Dev nD) (t : Fin cfg0.N) (z3 : t.val % 4 = 3) (a b : Fin 1024) (r : Fin 4096) (hr : r.val = t.val / 4 * 1024 + a.val) :
    (outsAt0 m c t.val t.isLt).2.2.2 (ix2 a b) = ∑ q : Fin 2816, aR (aX m c) (aG m c) (aW m c) (ix2 r q) * aU m c (ix2 q b) := by
  have e := Pipeline.eq_sum_fin_of_reset_step_apply_of_flush (fun n h => (outsAt0 m c n h).2.2.2) 4 (fun _ => (0 : EReal)) (part m c)
    (fun t h y => acc_first m c t h y) (fun t h y => acc_step m c t h y) t z3 (ix2 a b)
  refine e.trans ?_
  rw [zero_add, Fin.sum_univ_tiles 4 704 rfl]
  refine Finset.sum_congr rfl fun s _ => ?_
  unfold part
  have hs : (4 * (t.val / 4) + s.val) / 4 = t.val / 4 := by omega
  have hs' : (4 * (t.val / 4) + s.val) % 4 = s.val := by omega
  refine Finset.sum_congr rfl fun k _ => congrArg₂ (· * ·) (congrArg _ (congrArg₂ ix2 (Fin.ext ?_) (Fin.ext ?_))) (congrArg _ (congrArg (ix2 · b) (Fin.ext ?_)))
  · show (4 * (t.val / 4) + s.val) / 4 * 1024 + a.val = r.val
    rw [hs, hr]
  · show (4 * (t.val / 4) + s.val) % 4 * 704 + k.val = s.val * 704 + k.val
    rw [hs']
  · show (4 * (t.val / 4) + s.val) % 4 * 704 + k.val = s.val * 704 + k.val
    rw [hs']

/-- The saved halves after the run are the reference's second result. -/
theorem final5 (c : Dev nD) : (dats m 0 c).arrAt 5 (cfgs 0).N = REF1 (aX m c) (aG m c) (aW m c) := by
  refine (dats m 0 c).arrAt_eq_of_covers 5 _ (by decide +kernel) fun t hf y => ?_
  blk_simp
  have hN : t.val < 16 := lt_of_lt_of_eq t.isLt N_0
  rw [after0_5]
  idx_vars y
  have e : ((cfg0.win 5).blk t).view.emb (ix4 y0 y1 y2 y3) = ix4 y0 (⟨t.val % 4, by omega⟩ : Fin 4) (⟨t.val / 4 * 1024 + y2.val, by omega⟩ : Fin 4096) y3 := by blk_ext [idx_val t]
  rw [e, ref1_at]
  exact out5 m c t _ _ rfl _ rfl

/-- The output after the run is the reference's first result. -/
theorem final4 (c : Dev nD) : (dats m 0 c).arrAt 4 (cfgs 0).N = REF0 (aX m c) (aG m c) (aW m c) (aU m c) := by
  refine (dats m 0 c).arrAt_eq_of_covers 4 _ (by decide +kernel) fun t hf y => ?_
  blk_simp
  have z3 : t.val % 4 = 3 := (flush0_4 t).mp hf
  have hN : t.val < 16 := lt_of_lt_of_eq t.isLt N_0
  rw [after0_4]
  idx_vars y
  have e : ((cfg0.win 4).blk t).view.emb (ix2 y0 y1) = ix2 (⟨t.val / 4 * 1024 + y0.val, by omega⟩ : Fin 4096) y1 := by blk_ext [idx_val t]
  have ha := acc_last m c t z3 y0 y1 ⟨t.val / 4 * 1024 + y0.val, by omega⟩ rfl
  rw [e, ref0_at, ← ha]
  rw [outsAt0_C m c t (by omega) z3]
  dsimp only
  frame_out
  rw [out_at]
  exact congrArg (· + _) (blkX m c t y0 y1 _ rfl)

end Cert.FwdIdeal.Val

end
-- ==== Proof.ValGradWin.lean ====
/- The values of the weight-gradient call of the first feed-forward matrix: what it leaves is the transposed product
   of the gradient rows with the input rows, in eight row blocks, as the reference has it. -/
module

public import proofs.«01_k».proof.Proof.Gen.GradWinIdeal.Frame
public import proofs.«01_k».proof.Proof.Gen.GradWinRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GradWinIdeal.Val

open Cert.GradWinIdeal Cert.GradWinIdeal.Gen

variable (m : (ℓ : Loc nD τ sig) → Buf (Elt Ideal) ℓ)

/-- The reference's result over variables: the gradient's rows against the inputs' rows, transposed, in eight blocks. -/
abbrev REF (H : FVec Ideal Cert.GradWinRefIdeal.S4096x1024 .bf16) (Z : FVec Ideal Cert.GradWinRefIdeal.S4096x5632 .bf16) :
    FVec Ideal Cert.GradWinRefIdeal.S8x704x1024 .bf16 := Cert.GradWinRefIdeal.Read.val_main_v8 (F := Ideal) H Z

/-- The reference's element: a sum over all 4096 rows. -/
theorem ref_at (H : FVec Ideal Cert.GradWinRefIdeal.S4096x1024 .bf16) (Z : FVec Ideal Cert.GradWinRefIdeal.S4096x5632 .bf16)
    (s : Fin 8) (a : Fin 704) (b : Fin 1024) :
    REF H Z (ix3 s a b) = ∑ k : Fin 4096, Z (ix2 k ⟨s.val * 704 + a.val, by omega⟩) * H (ix2 k b) := by
  unfold REF
  pointwise [Cert.GradWinRefIdeal.Read.val_main_v8, Cert.GradWinRefIdeal.Read.val_main_v7, Cert.GradWinRefIdeal.Read.val_main_v6, Cert.GradWinRefIdeal.Read.val_main_v5, Cert.GradWinRefIdeal.Read.val_main_v4, Cert.GradWinRefIdeal.Read.val_main_v1, Cert.GradWinRefIdeal.Read.val_main_v0]

/-- The zero fill. -/
theorem zero_at (j : S704x1024.Idx) : k0_pay1 (F := Ideal) j = 0 := by pointwise [k0_pay1]

/-- The accumulating step: what was there and this block's part of the sum. -/
theorem step_at (acc : FVec Ideal S704x1024 .f32) (z : FVec Ideal S1x2048x704 .bf16) (h : FVec Ideal S2048x1024 .bf16) (a : Fin 704) (b : Fin 1024) :
    k0_pay2 (F := Ideal) acc z h (ix2 a b) = acc (ix2 a b) + ∑ k : Fin 2048, z (ix3 0 k a) * h (ix2 k b) := by
  pointwise [k0_pay2]

/-- The stored block: the accumulator itself (times one). -/
theorem out_at (acc : FVec Ideal S704x1024 .f32) (s : Fin 1) (a : Fin 704) (b : Fin 1024) :
    k0_pay3 (F := Ideal) acc (ix3 s a b) = acc (ix2 a b) := by
  pointwise [k0_pay3]

theorem idx_val : ∀ t : Fin cfg0.N, win0_0.index t = ![t.val / 2, t.val % 2, 0]
    ∧ win0_1.index t = ![t.val % 2, 0]
    ∧ win0_2.index t = ![t.val / 2, 0, 0] :=
  (by decide +kernel : ∀ t : Fin grid0.N, _)

/-- The gradient as the host arranges it, eight column blocks: block `s`, row `k`, column `a` is row `k`, column `704 s + a`. -/
theorem hostZ (c : Dev nD) (s : Fin 8) (k : Fin 4096) (a : Fin 704) (q : Fin 5632) (hq : q.val = s.val * 704 + a.val) :
    (show FVec Ideal S8x4096x704 .bf16 from V m c main_v2) (ix3 s k a)
      = (show FVec Ideal S4096x5632 .bf16 from m ((c : Thread nD τ).loc main_arg1)) (ix2 k q) := by
  show V m c main_v2 (ix3 s k a) = _
  entry_read
  pointwise
  blk_ext

/-- A window of it: block `t / 2`, rows `2048 (t % 2) + k`. -/
theorem blkZ (c : Dev nD) (t : Fin cfg0.N) (s : Fin 1) (k : Fin 2048) (a : Fin 704) (r : Fin 4096) (q : Fin 5632)
    (hr : r.val = t.val % 2 * 2048 + k.val) (hq : q.val = t.val / 2 * 704 + a.val) :
    (show FVec Ideal S1x2048x704 .bf16 from iblk m c 0 t) (ix3 s k a)
      = (show FVec Ideal S4096x5632 .bf16 from m ((c : Thread nD τ).loc main_arg1)) (ix2 r q) := by
  have hN : t.val < 16 := lt_of_lt_of_eq t.isLt N_0
  refine Eq.trans ?_ (hostZ m c ⟨t.val / 2, by omega⟩ r a q hq)
  show iblk m c 0 t (ix3 s k a) = V m c main_v2 _
  blk_ext [iblk, idx_val t]

/-- A window of the inputs: rows `2048 (t % 2) + k`. -/
theorem blkH (c : Dev nD) (t : Fin cfg0.N) (k : Fin 2048) (b : Fin 1024) (r : Fin 4096)
    (hr : r.val = t.val % 2 * 2048 + k.val) :
    (show FVec Ideal S2048x1024 .bf16 from iblk m c 1 t) (ix2 k b)
      = (show FVec Ideal S4096x1024 .bf16 from m ((c : Thread nD τ).loc main_arg0)) (ix2 r b) := by
  show iblk m c 1 t (ix2 k b) = _
  blk_ext [iblk, V, idx_val t]

/-- What is written back at the second of a block's two points: the two halves of the sum, one after the other. -/
theorem point (c : Dev nD) (t : Fin cfg0.N) (ht : t.val % 2 = 1) (hlt : t.val - 1 < cfg0.N) (y : S1x704x1024.Idx) :
    k0_pay3 (F := Ideal) (k0_pay2 (F := Ideal) (k0_pay2 (F := Ideal) (k0_pay1 (F := Ideal)) (iblk m c 0 ⟨t.val - 1, hlt⟩) (iblk m c 1 ⟨t.val - 1, hlt⟩))
        (iblk m c 0 t) (iblk m c 1 t)) y
      = REF (m ((c : Thread nD τ).loc main_arg0)) (m ((c : Thread nD τ).loc main_arg1)) (((cfg0.win 2).blk t).view.emb y) := by
  have hN : t.val < 16 := lt_of_lt_of_eq t.isLt N_0
  idx_vars y
  have e : ((cfg0.win 2).blk t).view.emb (ix3 y0 y1 y2) = ix3 (⟨t.val / 2, by omega⟩ : Fin 8) y1 y2 := by blk_ext [idx_val t]
  rw [e, ref_at, out_at, step_at, step_at, zero_at, zero_add, Fin.sum_univ_two_halves 2048 2048 rfl]
  refine congrArg₂ (· + ·) (Finset.sum_congr rfl fun k _ => congrArg₂ (· * ·) ?_ ?_) (Finset.sum_congr rfl fun k _ => congrArg₂ (· * ·) ?_ ?_)
  · exact blkZ m c ⟨t.val - 1, hlt⟩ 0 k y1 _ _ (by show k.val = (t.val - 1) % 2 * 2048 + k.val; omega) (by show _ = (t.val - 1) / 2 * 704 + y1.val; show t.val / 2 * 704 + y1.val = _; omega)
  · exact blkH m c ⟨t.val - 1, hlt⟩ k y2 _ (by show k.val = (t.val - 1) % 2 * 2048 + k.val; omega)
  · exact blkZ m c t 0 k y1 _ _ (by show 2048 + k.val = t.val % 2 * 2048 + k.val; omega) rfl
  · exact blkH m c t k y2 _ (by show 2048 + k.val = t.val % 2 * 2048 + k.val; omega)

/-- The array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hN : t.val < 16 := lt_of_lt_of_eq t.isLt N_0
  rw [after0_2, outsAt0_B m c t (by omega) ht]
  dsimp only
  have hlt : t.val - 1 < cfg0.N := Nat.lt_of_le_of_lt (Nat.sub_le _ _) t.isLt
  have hA := outsAt0_A m c ⟨t.val - 1, hlt⟩ (by show (t.val - 1) % 2 = 0; omega) (by show ¬(t.val - 1) % 2 = 1; omega)
  dsimp only at hA
  rw [hA]
  dsimp only
  frame_out
  exact (congrFun (congrArg (fun S => k0_pay3 (F := Ideal) (k0_pay2 (F := Ideal) S (iblk m c 0 t) (iblk m c 1 t)))
    ((Memref.isWhole_whole cc0_scratch0).read_unread _)) y).trans (point m c t ht hlt y)

end Cert.GradWinIdeal.Val

end
-- ==== Proof.ValGradWout.lean ====
/- The values of the weight-gradient call of the second feed-forward matrix: what it leaves is the transposed product
   of the activation rows with the output gradient rows, in four row blocks, as the reference has it. -/
module

public import proofs.«01_k».proof.Proof.Gen.GradWoutIdeal.Frame
public import proofs.«01_k».proof.Proof.Gen.GradWoutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GradWoutIdeal.Val

open Cert.GradWoutIdeal Cert.GradWoutIdeal.Gen

variable (m : (ℓ : Loc nD τ sig) → Buf (Elt Ideal) ℓ)

/-- The reference's result over variables: the activation's columns against the output gradient's, in four blocks. -/
abbrev REF (A : FVec Ideal Cert.GradWoutRefIdeal.S4096x2816 .bf16) (D : FVec Ideal Cert.GradWoutRefIdeal.S4096x1024 .bf16) :
    FVec Ideal Cert.GradWoutRefIdeal.S4x704x1024 .bf16 := Cert.GradWoutRefIdeal.Read.val_main_v7 (F := Ideal) A D

/-- The reference's element: a sum over all 4096 rows. -/
theorem ref_at (A : FVec Ideal Cert.GradWoutRefIdeal.S4096x2816 .bf16) (D : FVec Ideal Cert.GradWoutRefIdeal.S4096x1024 .bf16)
    (s : Fin 4) (a : Fin 704) (b : Fin 1024) :
    REF A D (ix3 s a b) = ∑ k : Fin 4096, A (ix2 k ⟨s.val * 704 + a.val, by omega⟩) * D (ix2 k b) := by
  unfold REF
  pointwise [Cert.GradWoutRefIdeal.Read.val_main_v7, Cert.GradWoutRefIdeal.Read.val_main_v6, Cert.GradWoutRefIdeal.Read.val_main_v5, Cert.GradWoutRefIdeal.Read.val_main_v4, Cert.GradWoutRefIdeal.Read.val_main_v1, Cert.GradWoutRefIdeal.Read.val_main_v0]
  exact Finset.sum_congr rfl fun k _ => mul_comm _ _

/-- The zero fill. -/
theorem zero_at (j : S704x1024.Idx) : k0_pay1 (F := Ideal) j = 0 := by pointwise [k0_pay1]

/-- The accumulating step: what was there and this block's part of the sum. -/
theorem step_at (acc : FVec Ideal S704x1024 .f32) (z : FVec Ideal S1x2048x704 .bf16) (h : FVec Ideal S2048x1024 .bf16) (a : Fin 704) (b : Fin 1024) :
    k0_pay2 (F := Ideal) acc z h (ix2 a b) = acc (ix2 a b) + ∑ k : Fin 2048, z (ix3 0 k a) * h (ix2 k b) := by
  pointwise [k0_pay2]

/-- The stored block: the accumulator itself (times one). -/
theorem out_at (acc : FVec Ideal S704x1024 .f32) (s : Fin 1) (a : Fin 704) (b : Fin 1024) :
    k0_pay3 (F := Ideal) acc (ix3 s a b) = acc (ix2 a b) := by
  pointwise [k0_pay3]

theorem idx_val : ∀ t : Fin cfg0.N, win0_0.index t = ![t.val / 2, t.val % 2, 0]
    ∧ win0_1.index t = ![t.val % 2, 0]
    ∧ win0_2.index t = ![t.val / 2, 0, 0] :=
  (by decide +kernel : ∀ t : Fin grid0.N, _)

/-- The activation as the host arranges it, four column blocks: block `s`, row `k`, column `a` is row `k`, column `704 s + a`. -/
theorem hostZ (c : Dev nD) (s : Fin 4) (k : Fin 4096) (a : Fin 704) (q : Fin 2816) (hq : q.val = s.val * 704 + a.val) :
    (show FVec Ideal S4x4096x704 .bf16 from V m c main_v1) (ix3 s k a)
      = (show FVec Ideal S4096x2816 .bf16 from m ((c : Thread nD τ).loc main_arg0)) (ix2 k q) := by
  show V m c main_v1 (ix3 s k a) = _
  entry_read
  pointwise
  blk_ext

/-- A window of it: block `t / 2`, rows `2048 (t % 2) + k`. -/
theorem blkZ (c : Dev nD) (t : Fin cfg0.N) (s : Fin 1) (k : Fin 2048) (a : Fin 704) (r : Fin 4096) (q : Fin 2816)
    (hr : r.val = t.val % 2 * 2048 + k.val) (hq : q.val = t.val / 2 * 704 + a.val) :
    (show FVec Ideal S1x2048x704 .bf16 from iblk m c 0 t) (ix3 s k a)
      = (show FVec Ideal S4096x2816 .bf16 from m ((c : Thread nD τ).loc main_arg0)) (ix2 r q) := by
  have hN : t.val < 8 := lt_of_lt_of_eq t.isLt N_0
  refine Eq.trans ?_ (hostZ m c ⟨t.val / 2, by omega⟩ r a q hq)
  show iblk m c 0 t (ix3 s k a) = V m c main_v1 _
  blk_ext [iblk, idx_val t]

/-- A window of the output gradient: rows `2048 (t % 2) + k`. -/
theorem blkH (c : Dev nD) (t : Fin cfg0.N) (k : Fin 2048) (b : Fin 1024) (r : Fin 4096)
    (hr : r.val = t.val % 2 * 2048 + k.val) :
    (show FVec Ideal S2048x1024 .bf16 from iblk m c 1 t) (ix2 k b)
      = (show FVec Ideal S4096x1024 .bf16 from m ((c : Thread nD τ).loc main_arg1)) (ix2 r b) := by
  show iblk m c 1 t (ix2 k b) = _
  blk_ext [iblk, V, idx_val t]

/-- What is written back at the second of a block's two points: the two halves of the sum, one after the other. -/
theorem point (c : Dev nD) (t : Fin cfg0.N) (ht : t.val % 2 = 1) (hlt : t.val - 1 < cfg0.N) (y : S1x704x1024.Idx) :
    k0_pay3 (F := Ideal) (k0_pay2 (F := Ideal) (k0_pay2 (F := Ideal) (k0_pay1 (F := Ideal)) (iblk m c 0 ⟨t.val - 1, hlt⟩) (iblk m c 1 ⟨t.val - 1, hlt⟩))
        (iblk m c 0 t) (iblk m c 1 t)) y
      = REF (m ((c : Thread nD τ).loc main_arg0)) (m ((c : Thread nD τ).loc main_arg1)) (((cfg0.win 2).blk t).view.emb y) := by
  have hN : t.val < 8 := lt_of_lt_of_eq t.isLt N_0
  idx_vars y
  have e : ((cfg0.win 2).blk t).view.emb (ix3 y0 y1 y2) = ix3 (⟨t.val / 2, by omega⟩ : Fin 4) y1 y2 := by blk_ext [idx_val t]
  rw [e, ref_at, out_at, step_at, step_at, zero_at, zero_add, Fin.sum_univ_two_halves 2048 2048 rfl]
  refine congrArg₂ (· + ·) (Finset.sum_congr rfl fun k _ => congrArg₂ (· * ·) ?_ ?_) (Finset.sum_congr rfl fun k _ => congrArg₂ (· * ·) ?_ ?_)
  · exact blkZ m c ⟨t.val - 1, hlt⟩ 0 k y1 _ _ (by show k.val = (t.val - 1) % 2 * 2048 + k.val; omega) (by show _ = (t.val - 1) / 2 * 704 + y1.val; show t.val / 2 * 704 + y1.val = _; omega)
  · exact blkH m c ⟨t.val - 1, hlt⟩ k y2 _ (by show k.val = (t.val - 1) % 2 * 2048 + k.val; omega)
  · exact blkZ m c t 0 k y1 _ _ (by show 2048 + k.val = t.val % 2 * 2048 + k.val; omega) rfl
  · exact blkH m c t k y2 _ (by show 2048 + k.val = t.val % 2 * 2048 + k.val; omega)

/-- The array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have ht : t.val % 2 = 1 := (flush0_2 t).mp hf
  have hN : t.val < 8 := lt_of_lt_of_eq t.isLt N_0
  rw [after0_2, outsAt0_B m c t (by omega) ht]
  dsimp only
  have hlt : t.val - 1 < cfg0.N := Nat.lt_of_le_of_lt (Nat.sub_le _ _) t.isLt
  have hA := outsAt0_A m c ⟨t.val - 1, hlt⟩ (by show (t.val - 1) % 2 = 0; omega) (by show ¬(t.val - 1) % 2 = 1; omega)
  dsimp only at hA
  rw [hA]
  dsimp only
  frame_out
  exact (congrFun (congrArg (fun S => k0_pay3 (F := Ideal) (k0_pay2 (F := Ideal) S (iblk m c 0 t) (iblk m c 1 t)))
    ((Memref.isWhole_whole cc0_scratch0).read_unread _)) y).trans (point m c t ht hlt y)

end Cert.GradWoutIdeal.Val

end
-- ==== Proof.ValMixIn.lean ====
/- The value of the token mixer's input projection: what the call leaves is the product of the normed rows with the
   weight, as the reference has it. -/
module

public import proofs.«01_k».proof.Proof.Gen.MixInIdeal.Frame
public import proofs.«01_k».proof.Proof.Gen.MixInRefIdeal.Read
public import proofs.«01_k».proof.Proof.ValFwd
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MixInIdeal.Val

open Cert.MixInIdeal Cert.MixInIdeal.Gen
open Cert.FwdIdeal.Val (rms)

section Reference

open Cert.MixInRefIdeal.Read

variable (X : FVec Ideal Cert.MixInRefIdeal.S4096x1024 .f32) (G : FVec Ideal Cert.MixInRefIdeal.S1024 .f32)
  (W : FVec Ideal Cert.MixInRefIdeal.S1024x2048 .f32)

/-- The normed input. -/
abbrev hR : FVec Ideal Cert.MixInRefIdeal.S4096x1024 .f32 := val_main_v12 (F := Ideal) X G
/-- The reference's result. -/
abbrev REF : FVec Ideal Cert.MixInRefIdeal.S4096x2048 .f32 := val_main_v13 (F := Ideal) X G W

/-- The normed input's element. -/
theorem hR_at (i : Fin 4096) (k : Fin 1024) : hR X G (ix2 i k) = rms (fun l => X (ix2 i l)) (G (ix1 k)) k := by
  unfold hR rms
  pointwise [val_main_v12,val_main_v11,val_main_v10,val_main_v9,val_main_v8,val_main_v7,val_main_v6,val_main_v5,val_main_v4,val_main_v3,val_main_v2,val_main_v1,val_main_v0,val_main_cst,val_main_cst_0,val_main_cst_1]

/-- The result's element. -/
theorem ref_at (i : Fin 4096) (n : Fin 2048) :
    REF X G W (ix2 i n) = ∑ k : Fin 1024, rms (fun l => X (ix2 i l)) (G (ix1 k)) k * W (ix2 k n) := by
  have e : REF X G W (ix2 i n) = ∑ k : Fin 1024, hR X G (ix2 i k) * W (ix2 k n) := by
    unfold REF
    pointwise [val_main_v13]
  rw [e]
  exact Finset.sum_congr rfl fun k _ => congrArg (· * W (ix2 k n)) (hR_at X G i k)

end Reference

/-- The norm stage of the body. -/
theorem norm_at (x : FVec Ideal S512x1024 .f32) (g : FVec Ideal S1x1024 .f32) (a : Fin 512) (k : Fin 1024) :
    k0_pay6 (F := Ideal) x g (ix2 a k) = rms (fun l => x (ix2 a l)) (g (ix2 0 k)) k := by
  unfold rms
  pointwise [k0_pay6]

/-- The product with one slot of the weight. -/
theorem slot_at (h : FVec Ideal S512x1024 .bf16) (w : FVec Ideal S1x1024x256 .bf16) (a : Fin 512) (b : Fin 256) :
    k0_pay1 (F := Ideal) h w (ix2 a b) = ∑ k : Fin 1024, h (ix2 a k) * w (ix3 0 k b) := by
  pointwise [k0_pay1]

/-- The payloads of the other stores are the same product. -/
theorem pay_eq (h : FVec Ideal S512x1024 .bf16) (w : FVec Ideal S1x1024x256 .bf16) :
    k0_pay2 (F := Ideal) h w = k0_pay1 (F := Ideal) h w ∧ k0_pay3 (F := Ideal) h w = k0_pay1 (F := Ideal) h w
      ∧ k0_pay4 (F := Ideal) h w = k0_pay1 (F := Ideal) h w ∧ k0_pay5 (F := Ideal) h w = k0_pay1 (F := Ideal) h w := by
  unfold k0_pay1 k0_pay2 k0_pay3 k0_pay4 k0_pay5
  exact ⟨rfl, rfl, rfl, rfl⟩

/-- The payloads of the first three stores are it over the normed rows. -/
theorem pay_eq' (x : FVec Ideal S512x1024 .f32) (g : FVec Ideal S1x1024 .f32) (w : FVec Ideal S1x1024x256 .bf16) :
    k0_pay7 (F := Ideal) x g w = k0_pay1 (F := Ideal) (k0_pay6 (F := Ideal) x g) w
      ∧ k0_pay8 (F := Ideal) x g w = k0_pay1 (F := Ideal) (k0_pay6 (F := Ideal) x g) w
      ∧ k0_pay9 (F := Ideal) x g w = k0_pay1 (F := Ideal) (k0_pay6 (F := Ideal) x g) w := by
  unfold k0_pay1 k0_pay7 k0_pay8 k0_pay9
  exact ⟨rfl, rfl, rfl⟩

variable (m : (ℓ : Loc nD τ sig) → Buf (Elt Ideal) ℓ)

/-- The input as launched. -/
abbrev aX (c : Dev nD) : FVec Ideal S4096x1024 .f32 := m ((c : Thread nD τ).loc main_arg0)
/-- The gain as launched. -/
abbrev aG (c : Dev nD) : FVec Ideal S1024 .f32 := m ((c : Thread nD τ).loc main_arg1)
/-- The weight as launched. -/
abbrev aW (c : Dev nD) : FVec Ideal S1024x2048 .f32 := m ((c : Thread nD τ).loc main_arg2)

/-- The index maps in closed form. -/
theorem idx_val : ∀ t : Fin cfg0.N, win0_0.index t = ![t.val, 0]
    ∧ win0_1.index t = ![0, 0]
    ∧ win0_2.index t = ![0, 0, 0]
    ∧ win0_3.index t = ![t.val, 0] :=
  (by decide +kernel : ∀ t : Fin grid0.N, _)

/-- The weight as the host arranges it: slot `j` holds the columns from `256 j` on. -/
theorem hostW (c : Dev nD) (j : Fin 8) (k : Fin 1024) (b : Fin 256) (q : Fin 2048) (hq : q.val = j.val * 256 + b.val) :
    (show FVec Ideal S8x1024x256 .bf16 from V m c main_v2) (ix3 j k b) = aW m c (ix2 k q) := by
  show V m c main_v2 (ix3 j k b) = _
  entry_read
  pointwise
  blk_ext

/-- The gain as the host arranges it. -/
theorem hostG (c : Dev nD) (s : Fin 1) (k : Fin 1024) :
    (show FVec Ideal S1x1024 .f32 from V m c main_v3) (ix2 s k) = aG m c (ix1 k) := by
  show V m c main_v3 (ix2 s k) = _
  entry_read
  pointwise
  blk_ext

/-- The input's block: rows `512 t + a`. -/
theorem blkX (c : Dev nD) (t : Fin cfg0.N) (a : Fin 512) (k : Fin 1024) (r : Fin 4096) (hr : r.val = t.val * 512 + a.val) :
    (show FVec Ideal S512x1024 .f32 from iblk m c 0 t) (ix2 a k) = aX m c (ix2 r k) := by
  show iblk m c 0 t (ix2 a k) = _
  blk_ext [iblk, V, idx_val t]

/-- The gain's block: the whole gain. -/
theorem blkG (c : Dev nD) (t : Fin cfg0.N) (s : Fin 1) (k : Fin 1024) :
    (show FVec Ideal S1x1024 .f32 from iblk m c 1 t) (ix2 s k) = aG m c (ix1 k) := by
  refine Eq.trans ?_ (hostG m c s k)
  show iblk m c 1 t (ix2 s k) = V m c main_v3 _
  blk_ext [iblk, idx_val t]

/-- The weight's block: the whole weight. -/
theorem blkW (c : Dev nD) (t : Fin cfg0.N) (j : Fin 8) (k : Fin 1024) (b : Fin 256) (q : Fin 2048) (hq : q.val = j.val * 256 + b.val) :
    (show FVec Ideal S8x1024x256 .bf16 from iblk m c 2 t) (ix3 j k b) = aW m c (ix2 k q) := by
  refine Eq.trans ?_ (hostW m c j k b q hq)
  show iblk m c 2 t (ix3 j k b) = V m c main_v2 _
  blk_ext [iblk, idx_val t]

/-- One stored piece, from slot `j`: its element is the reference's in the column `256 j + b`. -/
theorem piece (c : Dev nD) (t : Fin cfg0.N) (j : Fin 8) (h : FVec Ideal S512x1024 .bf16)
    (hh : h = k0_pay6 (F := Ideal) (iblk m c 0 t) (iblk m c 1 t)) (w : FVec Ideal S1x1024x256 .bf16)
    (hw : ∀ (k : Fin 1024) (b : Fin 256), w (ix3 0 k b) = (show FVec Ideal S8x1024x256 .bf16 from iblk m c 2 t) (ix3 j k b))
    (x : S512x256.Idx) (r : Fin 4096) (q : Fin 2048) (o : ℕ) (ho : j.val * 256 = o) (hr : r.val = t.val * 512 + (x 0).val) (hq : q.val = o + (x 1).val) :
    k0_pay1 (F := Ideal) h w x = REF (aX m c) (aG m c) (aW m c) (ix2 r q) := by
  subst hh ho
  idx_vars x
  rw [ref_at, slot_at]
  refine Finset.sum_congr rfl fun k _ => congrArg₂ (· * ·) ?_ ?_
  · rw [norm_at]
    unfold rms
    have e := fun l => blkX m c t x0 l r hr
    simp only [show ∀ l, iblk m c 0 t (ix2 x0 l) = aX m c (ix2 r l) from e]
    exact congrArg _ (blkG m c t 0 k)
  · exact (hw k x1).trans (blkW m c t j k x1 q hq)

/-- The written block: its element is the reference's in the row `512 t + a`. -/
theorem out_at (c : Dev nD) (t : Fin cfg0.N) (y : S512x2048.Idx) (r : Fin 4096) (q : Fin 2048)
    (hr : r.val = t.val * 512 + (y 0).val) (hq : q.val = (y 1).val) :
    out0_3 (F := Ideal) (iblk m c 0 t) (iblk m c 1 t) (iblk m c 2 t) y = REF (aX m c) (aG m c) (aW m c) (ix2 r q) := by
  unfold out0_3 k0_pay10
  frame_out
  canon_tiles x h
  all_goals try simp only [pay_eq, pay_eq']
  · refine piece m c t ⟨7, by omega⟩ _ rfl _ (fun k b => ?_) x r q 1792 rfl (hr.trans (congrArg (t.val * 512 + ·) h0)) (hq.trans h1)
    exact View.ld_unit_apply_of _ _ _ _ _ (ix3 ⟨7, by omega⟩ k b) fun a => match a with
      | ⟨0, _⟩ => rfl | ⟨1, _⟩ => (Nat.zero_add _).symm | ⟨2, _⟩ => (Nat.zero_add _).symm
  · refine piece m c t ⟨6, by omega⟩ _ rfl _ (fun k b => ?_) x r q 1536 rfl (hr.trans (congrArg (t.val * 512 + ·) h0)) (hq.trans h1)
    exact View.ld_unit_apply_of _ _ _ _ _ (ix3 ⟨6, by omega⟩ k b) fun a => match a with
      | ⟨0, _⟩ => rfl | ⟨1, _⟩ => (Nat.zero_add _).symm | ⟨2, _⟩ => (Nat.zero_add _).symm
  · refine piece m c t ⟨5, by omega⟩ _ rfl _ (fun k b => ?_) x r q 1280 rfl (hr.trans (congrArg (t.val * 512 + ·) h0)) (hq.trans h1)
    exact View.ld_unit_apply_of _ _ _ _ _ (ix3 ⟨5, by omega⟩ k b) fun a => match a with
      | ⟨0, _⟩ => rfl | ⟨1, _⟩ => (Nat.zero_add _).symm | ⟨2, _⟩ => (Nat.zero_add _).symm
  · refine piece m c t ⟨4, by omega⟩ _ rfl _ (fun k b => ?_) x r q 1024 rfl (hr.trans (congrArg (t.val * 512 + ·) h0)) (hq.trans h1)
    exact View.ld_unit_apply_of _ _ _ _ _ (ix3 ⟨4, by omega⟩ k b) fun a => match a with
      | ⟨0, _⟩ => rfl | ⟨1, _⟩ => (Nat.zero_add _).symm | ⟨2, _⟩ => (Nat.zero_add _).symm
  · refine piece m c t ⟨3, by omega⟩ _ rfl _ (fun k b => ?_) x r q 768 rfl (hr.trans (congrArg (t.val * 512 + ·) h0)) (hq.trans h1)
    exact View.ld_unit_apply_of _ _ _ _ _ (ix3 ⟨3, by omega⟩ k b) fun a => match a with
      | ⟨0, _⟩ => rfl | ⟨1, _⟩ => (Nat.zero_add _).symm | ⟨2, _⟩ => (Nat.zero_add _).symm
  · refine piece m c t ⟨2, by omega⟩ _ rfl _ (fun k b => ?_) x r q 512 rfl (hr.trans (congrArg (t.val * 512 + ·) h0)) (hq.trans h1)
    exact View.ld_unit_apply_of _ _ _ _ _ (ix3 ⟨2, by omega⟩ k b) fun a => match a with
      | ⟨0, _⟩ => rfl | ⟨1, _⟩ => (Nat.zero_add _).symm | ⟨2, _⟩ => (Nat.zero_add _).symm
  · refine piece m c t ⟨1, by omega⟩ _ rfl _ (fun k b => ?_) x r q 256 rfl (hr.trans (congrArg (t.val * 512 + ·) h0)) (hq.trans h1)
    exact View.ld_unit_apply_of _ _ _ _ _ (ix3 ⟨1, by omega⟩ k b) fun a => match a with
      | ⟨0, _⟩ => rfl | ⟨1, _⟩ => (Nat.zero_add _).symm | ⟨2, _⟩ => (Nat.zero_add _).symm
  · refine piece m c t ⟨0, by omega⟩ _ rfl _ (fun k b => ?_) x r q 0 rfl (hr.trans (congrArg (t.val * 512 + ·) h0)) (hq.trans (h1.trans (Nat.zero_add _).symm))
    exact View.ld_unit_apply_of _ _ _ _ _ (ix3 ⟨0, by omega⟩ k b) fun a => match a with
      | ⟨0, _⟩ => rfl | ⟨1, _⟩ => (Nat.zero_add _).symm | ⟨2, _⟩ => (Nat.zero_add _).symm

/-- The array after the run is the reference's result. -/
theorem final (c : Dev nD) : (dats m 0 c).arrAt 3 (cfgs 0).N = REF (aX m c) (aG m c) (aW m c) := by
  refine (dats m 0 c).arrAt_eq_of_covers 3 _ (by decide +kernel) fun t hf y => ?_
  blk_simp
  have hN : t.val < 8 := lt_of_lt_of_eq t.isLt N_0
  rw [after0_3]
  idx_vars y
  have e : ((cfg0.win 3).blk t).view.emb (ix2 y0 y1) = ix2 (⟨t.val * 512 + y0.val, by omega⟩ : Fin 4096) y1 := by blk_ext [idx_val t]
  rw [e]
  exact out_at m c t (ix2 y0 y1) _ _ rfl rfl

end Cert.MixInIdeal.Val

end
-- ==== Proof.Claims.lean ====
/- The value claims of the backward call over the rows, of the forward feed-forward call, of the mixer's input projection and of the two weight-gradient
   calls, from what each call's run leaves and the reference's stages. -/
module

public import proofs.«01_k».proof.Defs
public import proofs.«01_k».proof.Proof.RowsVal
public import proofs.«01_k».proof.Proof.ValFwd
public import proofs.«01_k».proof.Proof.ValGradWin
public import proofs.«01_k».proof.Proof.ValGradWout
public import proofs.«01_k».proof.Proof.ValMixIn
public import proofs.«01_k».proof.Proof.Gen.KernelIdeal
public import proofs.«01_k».proof.Proof.Gen.Pre_finite
public import proofs.«01_k».proof.Proof.Gen.ReferenceIdeal.Run
public import proofs.«01_k».proof.Proof.Gen.Fwd
public import proofs.«01_k».proof.Proof.Gen.FwdRefIdeal.Run
public import proofs.«01_k».proof.Proof.Gen.GradWinRefIdeal.Run
public import proofs.«01_k».proof.Proof.Gen.GradWoutRefIdeal.Run
public import proofs.«01_k».proof.Proof.Gen.MixIn
public import proofs.«01_k».proof.Proof.Gen.MixInRefIdeal.Run

@[expose] public section

noncomputable section

open Idealize.ShloMosaic Idealize.ShloMosaic.TcCoe Idealize.SL.Sem

namespace Cert.Claims

open Cert.RowsMath in
/-- An array whose elements, each less itself, are all zero holds reals only. -/
theorem real_of_ones {S T : Shape} {dims : Fin S.rank → Fin T.rank} {hb : S.BroadcastsInDim T dims} {x : FVec Ideal T .f32}
    (h : cmpf .oeq (subf x x) (broadcastInDim T dims hb (constant S .f32 0x00000000#32)) = fun _ => 1#1) (i : T.Idx) : IsReal (x i) := by
  have e : BitVec.ofBool (decide (x i - x i = Ideal.ofBits .f32 0x00000000#32)) = 1#1 := congrFun h i
  have z : Ideal.ofBits .f32 0x00000000#32 = 0 := by simp [Ideal.ofBits, Ideal.ieee]
  rw [z] at e
  by_cases hx : x i - x i = 0
  · exact IsReal.of_sub hx
  · rw [decide_eq_false hx] at e; exact absurd e (by decide)

/-- The precondition says that every argument of the backward call but the rows is real. -/
theorem allReal (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Cert.ReferenceIdeal.Rows.AllReal (Cert.KernelIdeal.RowsVal.aY m c) (Cert.KernelIdeal.RowsVal.aG m c)
      (Cert.KernelIdeal.RowsVal.aW m c) (Cert.KernelIdeal.RowsVal.aU m c) := by
  obtain ⟨h1, h2, h3, h4⟩ := h c
  exact ⟨fun i k => real_of_ones h1 _, fun k => real_of_ones h2 _, fun k n => real_of_ones h3 _, fun q k => real_of_ones h4 _⟩

set_option maxHeartbeats 4000000 in
/-- The backward call over the rows computes the reference's seven results. -/
theorem rows : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Rows.run_main m g
  · refine (θ_run _ _ _).mono (fun r h c => ?_) (Cert.ReferenceIdeal.Value.run m' g')
    have H := allReal m hpre
    obtain ⟨h0, h1, h2, h3, h4, h5, h6, h7⟩ := h c
    obtain ⟨a0, a1, a2, a3, a4⟩ := hagree c
    refine ⟨h0.trans ?_, h1.trans ?_, h2.trans ?_, h3.trans ?_, h4.trans ?_, h5.trans ?_, h6.trans ?_, h7⟩
    · rw [Cert.ReferenceIdeal.Read.val_main_v50_eq, a0, a1, a2, a3, a4]; exact (Cert.KernelIdeal.RowsVal.final6 c (H c)).symm
    · rw [a0, a2]; exact (Cert.ReferenceIdeal.Read.val_main_v51_eq _ _).trans (Cert.KernelIdeal.RowsVal.final7 c).symm
    · rw [a0, a2, a3]; exact (Cert.ReferenceIdeal.Read.val_main_v54_eq _ _ _).trans (Cert.KernelIdeal.RowsVal.final8 c).symm
    · rw [Cert.ReferenceIdeal.Read.val_main_v57_eq, a0, a1, a2, a3, a4]; exact (Cert.KernelIdeal.RowsVal.final9 c (H c)).symm
    · rw [Cert.ReferenceIdeal.Read.val_main_v58_eq, a0, a1, a2, a3, a4]; exact (Cert.KernelIdeal.RowsVal.final10 c (H c)).symm
    · rw [a1]; exact (Cert.ReferenceIdeal.Read.val_main_v59_eq _).trans (Cert.KernelIdeal.RowsVal.final11 c).symm
    · rw [Cert.ReferenceIdeal.Read.val_main_v60_eq, a0, a1, a2, a3, a4]; exact (Cert.KernelIdeal.RowsVal.final12 c (H c)).symm

/-- The forward feed-forward call computes the reference's two results. -/
theorem fwd : Cert.algebraic_FwdIdeal_FwdRefIdeal (hFwdIdeal := Cert.FwdIdeal.Gen.facts) (hFwdRefIdeal := Cert.FwdRefIdeal.Gen.facts) := by
  pair_intro
  · run_from Cert.FwdIdeal.Gen.run_main m g
  · refine (θ_run _ _ _).mono (fun r h c => ?_) (Cert.FwdRefIdeal.Value.run m' g')
    obtain ⟨h0, h1, h2⟩ := h c
    obtain ⟨a0, a1, a2, a3⟩ := hagree c
    refine ⟨h0.trans ?_, h1.trans ?_, h2⟩
    · rw [a0, a1, a2, a3]; exact (Cert.FwdRefIdeal.Read.val_main_v21_eq _ _ _ _).trans (Cert.FwdIdeal.Val.final4 m c).symm
    · rw [a0, a1, a2]; exact (Cert.FwdRefIdeal.Read.val_main_v24_eq _ _ _).trans (Cert.FwdIdeal.Val.final5 m c).symm

/-- The call for the first weight's gradient computes the reference's result. -/
theorem gradWin : Cert.algebraic_GradWinIdeal_GradWinRefIdeal (hGradWinIdeal := Cert.GradWinIdeal.Gen.facts) (hGradWinRefIdeal := Cert.GradWinRefIdeal.Gen.facts) := by
  pair_intro
  · run_from Cert.GradWinIdeal.Gen.run_main m g
  · refine (θ_run _ _ _).mono (fun r h c => ?_) (Cert.GradWinRefIdeal.Value.run m' g')
    obtain ⟨h0, h2⟩ := h c
    obtain ⟨a0, a1⟩ := hagree c
    refine ⟨h0.trans ?_, h2⟩
    rw [a0, a1]; exact (Cert.GradWinRefIdeal.Read.val_main_v8_eq _ _).trans (Cert.GradWinIdeal.Val.final m c).symm

/-- The call for the second weight's gradient computes the reference's result. -/
theorem gradWout : Cert.algebraic_GradWoutIdeal_GradWoutRefIdeal (hGradWoutIdeal := Cert.GradWoutIdeal.Gen.facts) (hGradWoutRefIdeal := Cert.GradWoutRefIdeal.Gen.facts) := by
  pair_intro
  · run_from Cert.GradWoutIdeal.Gen.run_main m g
  · refine (θ_run _ _ _).mono (fun r h c => ?_) (Cert.GradWoutRefIdeal.Value.run m' g')
    obtain ⟨h0, h2⟩ := h c
    obtain ⟨a0, a1⟩ := hagree c
    refine ⟨h0.trans ?_, h2⟩
    rw [a0, a1]; exact (Cert.GradWoutRefIdeal.Read.val_main_v7_eq _ _).trans (Cert.GradWoutIdeal.Val.final m c).symm

/-- The mixer's input projection computes the reference's result. -/
theorem mixIn : Cert.algebraic_MixInIdeal_MixInRefIdeal (hMixInIdeal := Cert.MixInIdeal.Gen.facts) (hMixInRefIdeal := Cert.MixInRefIdeal.Gen.facts) := by
  pair_intro
  · run_from Cert.MixInIdeal.Gen.run_main m g
  · refine (θ_run _ _ _).mono (fun r h c => ?_) (Cert.MixInRefIdeal.Value.run m' g')
    obtain ⟨h0, h2⟩ := h c
    obtain ⟨a0, a1, a2⟩ := hagree c
    refine ⟨h0.trans ?_, h2⟩
    rw [a0, a1, a2]; exact (Cert.MixInRefIdeal.Read.val_main_v13_eq _ _ _).trans (Cert.MixInIdeal.Val.final m c).symm

end Cert.Claims

end
-- ==== Proof.RefFrames.lean ====
/- The references' frames: each host program ends with its arguments as launched and every counter at zero. -/
module

public import proofs.«01_k».proof.Defs
public import proofs.«01_k».proof.Proof.Gen.ReferenceIdeal.Run
public import proofs.«01_k».proof.Proof.Gen.FwdRefIdeal.Run
public import proofs.«01_k».proof.Proof.Gen.GradWinRefIdeal.Run
public import proofs.«01_k».proof.Proof.Gen.GradWoutRefIdeal.Run
public import proofs.«01_k».proof.Proof.Gen.MixInRefIdeal.Run
public import proofs.«01_k».proof.Proof.Gen.Fwd
public import Idealize.ShloMosaic.Lib.Quiescent

@[expose] public section

noncomputable section

open Idealize.ShloMosaic Idealize.ShloMosaic.TcCoe Idealize.SL.Sem

namespace Cert.RefFrames

/-- The forward call's reference. -/
theorem fwd : Cert.quiescent_FwdRefIdeal (hFwdRefIdeal := Cert.FwdRefIdeal.Gen.facts) := fun m g _ =>
  (θ_run Cert.FwdRefIdeal.defs _ _).mono (fun r h => ⟨fun c => (h c).2.2, sem_eq_zero_of_no_sems (by decide) r.2⟩)
    (Cert.FwdRefIdeal.Value.run (F := Ideal) m g)

/-- The reference of the first weight's gradient. -/
theorem gradWin : Cert.quiescent_GradWinRefIdeal (hGradWinRefIdeal := Cert.GradWinRefIdeal.Gen.facts) := fun m g _ =>
  (θ_run Cert.GradWinRefIdeal.defs _ _).mono (fun r h => ⟨fun c => (h c).2, sem_eq_zero_of_no_sems (by decide) r.2⟩)
    (Cert.GradWinRefIdeal.Value.run (F := Ideal) m g)

/-- The reference of the second weight's gradient. -/
theorem gradWout : Cert.quiescent_GradWoutRefIdeal (hGradWoutRefIdeal := Cert.GradWoutRefIdeal.Gen.facts) := fun m g _ =>
  (θ_run Cert.GradWoutRefIdeal.defs _ _).mono (fun r h => ⟨fun c => (h c).2, sem_eq_zero_of_no_sems (by decide) r.2⟩)
    (Cert.GradWoutRefIdeal.Value.run (F := Ideal) m g)

/-- The reference of the backward call over the rows. -/
theorem rows : Cert.quiescent_ReferenceIdeal (hReferenceIdeal := Cert.ReferenceIdeal.Gen.facts) := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

/-- The reference of the mixer's input projection. -/
theorem mixIn : Cert.quiescent_MixInRefIdeal (hMixInRefIdeal := Cert.MixInRefIdeal.Gen.facts) := fun m g _ =>
  (θ_run Cert.MixInRefIdeal.defs _ _).mono (fun r h => ⟨fun c => (h c).2, sem_eq_zero_of_no_sems (by decide) r.2⟩)
    (Cert.MixInRefIdeal.Value.run (F := Ideal) m g)

end Cert.RefFrames

end
-- ==== Proof.Up.lean ====
/- The mathematics of the sharded optimiser, entry by entry: the sum of the device's own gradient and the seven landed
   ones, and the AdamW step. -/
module

public import Idealize.ShloMosaic.Lib.Pipeline.ValueKit
public import Idealize.ShloMosaic.Lib.Pointwise

@[expose] public section

noncomputable section

open Idealize.ShloMosaic
open scoped BigOperators

namespace Cert.Up

/-- The gradient's entry as the reference sums it: the device's own among the eight, and the seven landed ones. -/
def total (own : Fin 8 → EReal) (land : Fin 7 → EReal) (me : BitVec 32) : EReal :=
  (∑ x : Fin 8, Scalar.select (IntOp.cmpi .eq (BitVec.ofNat 32 x.val) me) (own x) 0) + ∑ x : Fin 7, land x

/-- The first moment's entry. -/
def mom (m g : EReal) : EReal := Ideal.ofBits .f32 0x3F666666#32 * m + Ideal.ofBits .f32 0x3DCCCCCD#32 * g

/-- The second moment's entry. -/
def sec (v g : EReal) : EReal := Ideal.ofBits .f32 0x3F7FBE77#32 * v + Ideal.ofBits .f32 0x3A83126F#32 * (g * g)

/-- The update's entry, from the weight and the new moments. -/
def upd (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- Of the eight words the device's index equals exactly its own. -/
theorem pick (me : BitVec 32) (j : Fin 8) (hj : j.val = me.toNat) (x : Fin 8) (a : EReal) :
    Scalar.select (IntOp.cmpi .eq (BitVec.ofNat 32 x.val) me) a 0 = if x = j then a else 0 := by
  have e : IntOp.cmpi .eq (BitVec.ofNat 32 x.val) me = BitVec.ofBool (decide (x = j)) := by
    show BitVec.ofBool (BitVec.ofNat 32 x.val == me) = _
    refine congrArg BitVec.ofBool (Bool.eq_iff_iff.mpr ?_)
    rw [beq_iff_eq, decide_eq_true_iff, Fin.ext_iff, hj]
    constructor
    · intro h; rw [← h, BitVec.toNat_ofNat]; omega
    · intro h; apply BitVec.eq_of_toNat_eq; rw [BitVec.toNat_ofNat, ← h]; omega
  rw [e]
  by_cases h : x = j
  · rw [decide_eq_true h, if_pos h]; rfl
  · rw [decide_eq_false h, if_neg h]; rfl

/-- The kernel's sum, from the left, is the reference's. -/
theorem total_eq (own : Fin 8 → EReal) (land : Fin 7 → EReal) (me : BitVec 32) (j : Fin 8) (hj : j.val = me.toNat) :
    own j + land 0 + land 1 + land 2 + land 3 + land 4 + land 5 + land 6 = total own land me := by
  unfold total
  simp only [pick me j hj]
  rw [Finset.sum_ite_eq' Finset.univ j own, if_pos (Finset.mem_univ j), Fin.sum_univ_seven]
  simp only [add_assoc]

/-- The two comparisons of the precondition say that the index is one of the eight. -/
theorem word_lt (x : BitVec 32) (h : IntOp.andi (IntOp.cmpi .sge x 0#32) (IntOp.cmpi .slt x 8#32) = 1#1) : x.toNat < 8 := by
  have h' : BitVec.ofBool ((0#32).sle x) &&& BitVec.ofBool (x.slt 8#32) = 1#1 := h
  by_contra hn
  have e : ((0#32).sle x && x.slt 8#32) = true := by
    revert h'
    cases (0#32).sle x <;> cases x.slt 8#32 <;> decide
  rw [Bool.and_eq_true, BitVec.sle_iff_toInt_le, BitVec.slt_iff_toInt_lt] at e
  have h0 : (0 : Int) ≤ x.toInt := e.1
  have h1 : x.toInt < 8 := e.2
  rw [BitVec.toInt_eq_toNat_cond] at h0 h1
  have := x.isLt
  split at h0 <;> omega

end Cert.Up

end
-- ==== Proof.ValUpIn.lean ====
/- The value of the sharded optimiser over weights of 704 rows and 1024 columns a device: the summed gradient, the update
   and the two moments are the reference's. -/
module

public import proofs.«01_k».proof.Proof.Gen.UpInIdeal.Frame
public import proofs.«01_k».proof.Proof.Gen.UpInRefIdeal.Read
public import proofs.«01_k».proof.Proof.Up

@[expose] public section

set_option maxRecDepth 16384

noncomputable section

open Idealize.ShloMosaic Idealize.ShloMosaic.TcCoe Idealize.SL.Sem
open Idealize.ShloMosaic.Pipeline (Dat)
open Cert.Up
open scoped BigOperators

namespace Cert.UpInIdeal.Val

open Cert.UpInIdeal Cert.UpInIdeal.Gen

section Reference

open Cert.UpInRefIdeal.Read

variable (o0 o1 : FVec Ideal Cert.UpInRefIdeal.S8x704x1024 .bf16) (l0 l1 : FVec Ideal Cert.UpInRefIdeal.S7x704x1024 .bf16)
  (w p q : FVec Ideal Cert.UpInRefIdeal.S2x704x1024 .f32) (d : IVec Cert.UpInRefIdeal.S1 32)

/-- The reference's gradient. -/
abbrev RG : FVec Ideal Cert.UpInRefIdeal.S2x704x1024 .f32 := val_main_v24 (F := Ideal) o0 o1 l0 l1 d
/-- The reference's first moment. -/
abbrev RM : FVec Ideal Cert.UpInRefIdeal.S2x704x1024 .f32 := val_main_v29 (F := Ideal) o0 o1 l0 l1 p d
/-- The reference's second moment. -/
abbrev RV : FVec Ideal Cert.UpInRefIdeal.S2x704x1024 .f32 := val_main_v35 (F := Ideal) o0 o1 l0 l1 q d
/-- The reference's update. -/
abbrev RU : FVec Ideal Cert.UpInRefIdeal.S2x704x1024 .f32 := val_main_v48 (F := Ideal) o0 o1 l0 l1 w p q d

/-- The first layer's gradient. -/
theorem ref_g0 (a : Fin 704) (b : Fin 1024) :
    RG o0 o1 l0 l1 d (ix3 0 a b) = total (fun x => o0 (ix3 x a b)) (fun x => l0 (ix3 x a b)) (d (ix1 0)) := by
  unfold RG total
  pointwise [val_main_v24,val_main_v22,val_main_v10,val_main_v9,val_main_v8,val_main_v7,val_main_v6,val_main_v5,val_main_v4,val_main_v3,val_main_v2,val_main_v1,val_main_v0,val_main_cst,val_main_cst_0,val_main_cst_1]

/-- The second layer's gradient. -/
theorem ref_g1 (a : Fin 704) (b : Fin 1024) :
    RG o0 o1 l0 l1 d (ix3 1 a b) = total (fun x => o1 (ix3 x a b)) (fun x => l1 (ix3 x a b)) (d (ix1 0)) := by
  unfold RG total
  pointwise [val_main_v24,val_main_v23,val_main_v21,val_main_v20,val_main_v19,val_main_v18,val_main_v17,val_main_v16,val_main_v15,val_main_v14,val_main_v13,val_main_v12,val_main_v11,val_main_cst_2,val_main_cst_3,val_main_cst_4]

/-- The first moment's entry. -/
theorem ref_m (s : Fin 2) (a : Fin 704) (b : Fin 1024) :
    RM o0 o1 l0 l1 p d (ix3 s a b) = mom (p (ix3 s a b)) (RG o0 o1 l0 l1 d (ix3 s a b)) := by
  unfold RM RG mom
  pointwise [val_main_v29,val_main_v28,val_main_v27,val_main_v26,val_main_v25,val_main_cst_5,val_main_cst_6]

/-- The second moment's entry. -/
theorem ref_v (s : Fin 2) (a : Fin 704) (b : Fin 1024) :
    RV o0 o1 l0 l1 q d (ix3 s a b) = sec (q (ix3 s a b)) (RG o0 o1 l0 l1 d (ix3 s a b)) := by
  unfold RV RG sec
  pointwise [val_main_v35,val_main_v34,val_main_v33,val_main_v32,val_main_v31,val_main_v30,val_main_cst_7,val_main_cst_8]

/-- The update's entry. -/
theorem ref_u (s : Fin 2) (a : Fin 704) (b : Fin 1024) :
    RU o0 o1 l0 l1 w p q d (ix3 s a b) = upd (w (ix3 s a b)) (RM o0 o1 l0 l1 p d (ix3 s a b)) (RV o0 o1 l0 l1 q d (ix3 s a b)) := by
  unfold RU RM RV upd
  pointwise [val_main_v48,val_main_v47,val_main_v46,val_main_v45,val_main_v44,val_main_v43,val_main_v42,val_main_v41,val_main_v40,val_main_v39,val_main_v38,val_main_v37,val_main_v36,val_main_cst_9,val_main_cst_10,val_main_cst_11,val_main_cst_12,val_main_cst_13]

end Reference

section Table

variable {F : FTy → Type} [FloatOps F] (m : (ℓ : Loc nD τ sig) → Buf (Elt F) ℓ)

/-- The device's index, as launched. -/
abbrev me (c : Dev nD) : BitVec 32 := (show IVec S1 32 from m ((c : Thread nD τ).loc main_arg7)) (ix1 0)

/-- The word that the index maps read is the device's index. -/
theorem word : (tbl m).at 0 (Rect.unit (s := S1) ![0] S1.size inb_S1_S1_0) numel1_S1 = me m 0 := by
  show (tbl m) 0 _ = (show IVec S1 32 from m (((0 : Dev nD) : Thread nD τ).loc main_arg7)) (ix1 0)
  unfold tbl
  simp only [V_main_arg7]
  blk_ext

/-- The rows at which the two layers' windows stand. -/
theorem rows : ∀ i : grid0.Coords,
    (Scalar.select (Scalar.cmpi .eq (BitVec.ofNat 32 (i 0).val) 0#32) (BitVec.ofNat 32 (i 1).val) 3#32).toNat < 4
    ∧ (Scalar.select (Scalar.cmpi .eq (BitVec.ofNat 32 (i 0).val) 1#32) (BitVec.ofNat 32 (i 1).val) 0#32).toNat < 4 := by decide +kernel

/-- Where the device's index is below eight, every block lies in its array. -/
theorem ok (h : (me m 0).toNat < 8) : Ok m := by
  have hb : ∀ n, n < 4 → ∀ a : Fin 3, ((![(me m 0).toNat, n, 0] : Fin 3 → Nat) a + 1) * S1x176x1024.size a ≤ S8x704x1024.size a := fun n hn a => by
    match a with
    | ⟨0, _⟩ => show ((me m 0).toNat + 1) * 1 ≤ 8; omega
    | ⟨1, _⟩ => exact (Nat.mul_le_mul_right 176 hn : _ ≤ 4 * 176)
    | ⟨2, _⟩ => show (0 + 1) * 1024 ≤ 1024; omega
  refine ⟨fun i => ⟨?_, .inr (Affine.block_words_dvd (of_decide_eq_true rfl) (by decide))⟩,
    fun i => ⟨?_, .inr (Affine.block_words_dvd (of_decide_eq_true rfl) (by decide))⟩⟩
  · unfold cc0_transform_0
    rw [word m]
    exact hb _ (rows i).1
  · unfold cc0_transform_1
    rw [word m]
    exact hb _ (rows i).2

end Table

section Body

/-- A landed part. -/
abbrev part (x : FVec Ideal S7x176x1024 .bf16) (p : Nat) (hi : ∀ a, (![p, 0, 0] : Fin 3 → Nat) a + ![1, 176, 1024] a ≤ S7x176x1024.size a) : FVec Ideal S1x176x1024 .bf16 :=
  View.ld (Val := Elt Ideal) (e' := .bf16) x (Rect.unit (s := S7x176x1024) ![p, 0, 0] ![1, 176, 1024] hi)

/-- A landed part's entry. -/
theorem part_at (x : FVec Ideal S7x176x1024 .bf16) (p : Nat) (hp : p < 7) (hi : ∀ a, (![p, 0, 0] : Fin 3 → Nat) a + ![1, 176, 1024] a ≤ S7x176x1024.size a) (a : Fin 176) (b : Fin 1024) :
    part x p hi (ix3 0 a b) = x (ix3 ⟨p, hp⟩ a b) :=
  View.ld_unit_apply_of (Val := Elt Ideal) _ _ _ _ _ (ix3 ⟨p, hp⟩ a b) fun k => match k with
      | ⟨0, _⟩ => rfl | ⟨1, _⟩ => (Nat.zero_add _).symm | ⟨2, _⟩ => (Nat.zero_add _).symm

variable (k : BitVec 1) (x0 x1 : FVec Ideal S1x176x1024 .bf16) (x2 x3 : FVec Ideal S7x176x1024 .bf16) (x4 x5 x6 : FVec Ideal S1x176x1024 .f32)

/-- The summed gradient of a block: the first layer's where `k` holds, else the second's. -/
abbrev grad : FVec Ideal S176x1024 .f32 :=
  k0_pay4 (F := Ideal) k
    (k0_pay3 (F := Ideal) x0 (part x2 0 inb_S7x176x1024_S1x176x1024_0_0_0) (part x2 1 inb_S7x176x1024_S1x176x1024_1_0_0) (part x2 2 inb_S7x176x1024_S1x176x1024_2_0_0) (part x2 3 inb_S7x176x1024_S1x176x1024_3_0_0) (part x2 4 inb_S7x176x1024_S1x176x1024_4_0_0) (part x2 5 inb_S7x176x1024_S1x176x1024_5_0_0) (part x2 6 inb_S7x176x1024_S1x176x1024_6_0_0))
    x1 (part x3 0 inb_S7x176x1024_S1x176x1024_0_0_0) (part x3 1 inb_S7x176x1024_S1x176x1024_1_0_0) (part x3 2 inb_S7x176x1024_S1x176x1024_2_0_0) (part x3 3 inb_S7x176x1024_S1x176x1024_3_0_0) (part x3 4 inb_S7x176x1024_S1x176x1024_4_0_0) (part x3 5 inb_S7x176x1024_S1x176x1024_5_0_0) (part x3 6 inb_S7x176x1024_S1x176x1024_6_0_0)

/-- Its entry in the first layer. -/
theorem grad_first (hk : k = 1#1) (a : Fin 176) (b : Fin 1024) : grad k x0 x1 x2 x3 (ix2 a b)
    = x0 (ix3 0 a b) + x2 (ix3 0 a b) + x2 (ix3 1 a b) + x2 (ix3 2 a b) + x2 (ix3 3 a b) + x2 (ix3 4 a b) + x2 (ix3 5 a b) + x2 (ix3 6 a b) := by
  subst hk
  unfold grad
  pointwise [k0_pay4, k0_pay3]
  exact congrArg₂ (· + ·) (congrArg₂ (· + ·) (congrArg₂ (· + ·) (congrArg₂ (· + ·) (congrArg₂ (· + ·) (congrArg₂ (· + ·) (congrArg _ (part_at x2 0 (by decide) _ a b))
    (part_at x2 1 (by decide) _ a b)) (part_at x2 2 (by decide) _ a b)) (part_at x2 3 (by decide) _ a b)) (part_at x2 4 (by decide) _ a b)) (part_at x2 5 (by decide) _ a b))
    (part_at x2 6 (by decide) _ a b)

/-- Its entry in the second layer. -/
theorem grad_second (hk : k = 0#1) (a : Fin 176) (b : Fin 1024) : grad k x0 x1 x2 x3 (ix2 a b)
    = x1 (ix3 0 a b) + x3 (ix3 0 a b) + x3 (ix3 1 a b) + x3 (ix3 2 a b) + x3 (ix3 3 a b) + x3 (ix3 4 a b) + x3 (ix3 5 a b) + x3 (ix3 6 a b) := by
  subst hk
  unfold grad
  pointwise [k0_pay4]
  exact congrArg₂ (· + ·) (congrArg₂ (· + ·) (congrArg₂ (· + ·) (congrArg₂ (· + ·) (congrArg₂ (· + ·) (congrArg₂ (· + ·) (congrArg _ (part_at x3 0 (by decide) _ a b))
    (part_at x3 1 (by decide) _ a b)) (part_at x3 2 (by decide) _ a b)) (part_at x3 3 (by decide) _ a b)) (part_at x3 4 (by decide) _ a b)) (part_at x3 5 (by decide) _ a b))
    (part_at x3 6 (by decide) _ a b)

variable (g w : FVec Ideal S176x1024 .f32)

/-- The stored gradient's entry. -/
theorem pay_g (a : Fin 176) (b : Fin 1024) : k0_pay8 (F := Ideal) g (ix3 0 a b) = g (ix2 a b) := by
  pointwise [k0_pay8]

/-- The stored first moment's entry. -/
theorem pay_m (a : Fin 176) (b : Fin 1024) : k0_pay1 (F := Ideal) (k0_pay6 (F := Ideal) g x5) (ix3 0 a b) = mom (x5 (ix3 0 a b)) (g (ix2 a b)) := by
  unfold mom
  pointwise [k0_pay1, k0_pay6]

/-- The stored second moment's entry. -/
theorem pay_v (a : Fin 176) (b : Fin 1024) : k0_pay2 (F := Ideal) (k0_pay7 (F := Ideal) g x6) (ix3 0 a b) = sec (x6 (ix3 0 a b)) (g (ix2 a b)) := by
  unfold sec
  pointwise [k0_pay2, k0_pay7]

/-- The stored update's entry. -/
theorem pay_u (a : Fin 176) (b : Fin 1024) : k0_pay9 (F := Ideal) g (k0_pay5 (F := Ideal) x4) x5 x6 (ix3 0 a b)
    = upd (x4 (ix3 0 a b)) (mom (x5 (ix3 0 a b)) (g (ix2 a b))) (sec (x6 (ix3 0 a b)) (g (ix2 a b))) := by
  unfold upd mom sec
  pointwise [k0_pay9, k0_pay7, k0_pay6, k0_pay5]

variable (c : Dev nD) (i : grid0.Coords) (r0 r1 : Memref sig .tc .vmem S1x176x1024 .bf16) (r2 r3 : Memref sig .tc .vmem S7x176x1024 .bf16)
  (r4 r5 r6 r7 r8 r9 r10 : Memref sig .tc .vmem S1x176x1024 .f32) (h0 : r0.IsWhole) (h1 : r1.IsWhole) (h2 : r2.IsWhole) (h3 : r3.IsWhole)
  (h4 : r4.IsWhole) (h5 : r5.IsWhole) (h6 : r6.IsWhole) (h7 : r7.IsWhole) (h8 : r8.IsWhole) (h9 : r9.IsWhole) (h10 : r10.IsWhole)
  (xt : TbBuf0 (F := Ideal) c tbM0_0)

/-- Whether the point is the first layer's. -/
abbrev first : BitVec 1 := Scalar.cmpi .eq (BitVec.ofNat 32 (i 0).val) 0#32

/-- What the body leaves in the gradient's block. -/
theorem out_g : out0_A_7 (F := Ideal) c i r0 h0 r1 h1 r2 h2 r3 h3 r4 h4 r5 h5 r6 h6 r7 h7 r8 h8 r9 h9 r10 h10 x0 x1 x2 x3 x4 x5 x6 xt
    = k0_pay8 (F := Ideal) (grad (first i) x0 x1 x2 x3) := by
  funext y
  unfold out0_A_7
  frame_out

/-- What the body leaves in the update's block. -/
theorem out_u : out0_A_8 (F := Ideal) c i r0 h0 r1 h1 r2 h2 r3 h3 r4 h4 r5 h5 r6 h6 r7 h7 r8 h8 r9 h9 r10 h10 x0 x1 x2 x3 x4 x5 x6 xt
    = k0_pay9 (F := Ideal) (grad (first i) x0 x1 x2 x3) (k0_pay5 (F := Ideal) x4) x5 x6 := by
  funext y
  unfold out0_A_8
  frame_out

/-- What the body leaves in the first moment's block. -/
theorem out_m : out0_A_9 (F := Ideal) c i r0 h0 r1 h1 r2 h2 r3 h3 r4 h4 r5 h5 r6 h6 r7 h7 r8 h8 r9 h9 r10 h10 x0 x1 x2 x3 x4 x5 x6 xt
    = k0_pay1 (F := Ideal) (k0_pay6 (F := Ideal) (grad (first i) x0 x1 x2 x3) x5) := by
  funext y
  unfold out0_A_9
  frame_out

/-- What the body leaves in the second moment's block. -/
theorem out_v : out0_A_10 (F := Ideal) c i r0 h0 r1 h1 r2 h2 r3 h3 r4 h4 r5 h5 r6 h6 r7 h7 r8 h8 r9 h9 r10 h10 x0 x1 x2 x3 x4 x5 x6 xt
    = k0_pay2 (F := Ideal) (k0_pay7 (F := Ideal) (grad (first i) x0 x1 x2 x3) x6) := by
  funext y
  unfold out0_A_10
  frame_out

end Body

variable (m : (ℓ : Loc nD τ sig) → Buf (Elt Ideal) ℓ) (hO : Ok m)

/-- The first layer's own gradients as launched. -/
abbrev aO0 (c : Dev nD) : FVec Ideal S8x704x1024 .bf16 := m ((c : Thread nD τ).loc main_arg0)
/-- The second layer's own gradients as launched. -/
abbrev aO1 (c : Dev nD) : FVec Ideal S8x704x1024 .bf16 := m ((c : Thread nD τ).loc main_arg1)
/-- The first layer's landed gradients as launched. -/
abbrev aL0 (c : Dev nD) : FVec Ideal S7x704x1024 .bf16 := m ((c : Thread nD τ).loc main_arg2)
/-- The second layer's landed gradients as launched. -/
abbrev aL1 (c : Dev nD) : FVec Ideal S7x704x1024 .bf16 := m ((c : Thread nD τ).loc main_arg3)
/-- The weights as launched. -/
abbrev aW (c : Dev nD) : FVec Ideal S2x704x1024 .f32 := m ((c : Thread nD τ).loc main_arg4)
/-- The first moments as launched. -/
abbrev aM (c : Dev nD) : FVec Ideal S2x704x1024 .f32 := m ((c : Thread nD τ).loc main_arg5)
/-- The second moments as launched. -/
abbrev aV (c : Dev nD) : FVec Ideal S2x704x1024 .f32 := m ((c : Thread nD τ).loc main_arg6)
/-- The device's index as launched. -/
abbrev aD (c : Dev nD) : IVec S1 32 := m ((c : Thread nD τ).loc main_arg7)

/-- The reference's gradient of the launched arrays. -/
abbrev G (c : Dev nD) : FVec Ideal S2x704x1024 .f32 := RG (aO0 m c) (aO1 m c) (aL0 m c) (aL1 m c) (aD m c)

/-- The index maps in closed form: `t` runs over the first layer's row blocks and then over the second's. -/
theorem idx_val : ∀ t : Fin grid0.N,
    (t.val < 4 → cc0_transform_2 (grid0.coords t) = ![0, t.val, 0]
      ∧ (Scalar.select (Scalar.cmpi .eq (BitVec.ofNat 32 (grid0.coords t 0).val) 0#32) (BitVec.ofNat 32 (grid0.coords t 1).val) 3#32).toNat = t.val
      ∧ first (grid0.coords t) = 1#1)
    ∧ (4 ≤ t.val → cc0_transform_3 (grid0.coords t) = ![0, t.val - 4, 0]
      ∧ (Scalar.select (Scalar.cmpi .eq (BitVec.ofNat 32 (grid0.coords t 0).val) 1#32) (BitVec.ofNat 32 (grid0.coords t 1).val) 0#32).toNat = t.val - 4
      ∧ first (grid0.coords t) = 0#1)
    ∧ cc0_transform_4 (grid0.coords t) = ![t.val / 4, t.val % 4, 0] := by decide +kernel

/-- Every block of a result is some point's. -/
theorem onto (β : (a : Fin 3) → Fin ((S2x704x1024.size a + S1x176x1024.size a - 1) / S1x176x1024.size a)) :
    ∃ t : Fin grid0.N, ∀ a, cc0_transform_4 (grid0.coords t) a = (β a).val := by
  revert β
  decide +kernel

section Blocks

variable (c : Dev nD) (t : Fin (cfgM m hO).N)

theorem idx0 (h : t.val < 4) : ((cfgM m hO).win 0).index t = ![(me m 0).toNat, t.val, 0] := by
  show cc0_transform_0 inb_S1_S1_0 numel1_S1 (tbl m) (grid0.coords t) = _
  unfold cc0_transform_0
  rw [word m]
  exact congrArg (fun n => ![(me m 0).toNat, n, 0]) ((idx_val t).1 h).2.1

theorem idx1 (h : 4 ≤ t.val) : ((cfgM m hO).win 1).index t = ![(me m 0).toNat, t.val - 4, 0] := by
  show cc0_transform_1 inb_S1_S1_0 numel1_S1 (tbl m) (grid0.coords t) = _
  unfold cc0_transform_1
  rw [word m]
  exact congrArg (fun n => ![(me m 0).toNat, n, 0]) ((idx_val t).2.1 h).2.1

theorem idx2 (h : t.val < 4) : ((cfgM m hO).win 2).index t = ![0, t.val, 0] := ((idx_val t).1 h).1

theorem idx3 (h : 4 ≤ t.val) : ((cfgM m hO).win 3).index t = ![0, t.val - 4, 0] := ((idx_val t).2.1 h).1

/-- The other seven windows stand at the layer's row block. -/
theorem idxW : ((cfgM m hO).win 4).index t = ![t.val / 4, t.val % 4, 0] ∧ ((cfgM m hO).win 5).index t = ![t.val / 4, t.val % 4, 0]
    ∧ ((cfgM m hO).win 6).index t = ![t.val / 4, t.val % 4, 0] ∧ ((cfgM m hO).win 7).index t = ![t.val / 4, t.val % 4, 0]
    ∧ ((cfgM m hO).win 8).index t = ![t.val / 4, t.val % 4, 0] ∧ ((cfgM m hO).win 9).index t = ![t.val / 4, t.val % 4, 0]
    ∧ ((cfgM m hO).win 10).index t = ![t.val / 4, t.val % 4, 0] :=
  have h := (idx_val t).2.2
  ⟨h, h, h, h, h, h, h⟩

variable (j : Fin 8) (hj : j.val = (me m 0).toNat) (a : Fin 176) (r : Fin 704) (k : Fin 1024)
include hj

/-- The first layer's own gradient's block. -/
theorem blkO0 (h : t.val < 4) (hr : r.val = t.val * 176 + a.val) :
    (show FVec Ideal S1x176x1024 .bf16 from iblk m hO c 0 t) (ix3 0 a k) = aO0 m c (ix3 j r k) := by
  show iblk m hO c 0 t (ix3 0 a k) = _
  blk_ext [iblk, V, idx0 m hO t h]

/-- The second layer's own gradient's block. -/
theorem blkO1 (h : 4 ≤ t.val) (hr : r.val = (t.val - 4) * 176 + a.val) :
    (show FVec Ideal S1x176x1024 .bf16 from iblk m hO c 1 t) (ix3 0 a k) = aO1 m c (ix3 j r k) := by
  show iblk m hO c 1 t (ix3 0 a k) = _
  blk_ext [iblk, V, idx1 m hO t h]

omit hj

/-- The first layer's landed gradients' block. -/
theorem blkL0 (p : Fin 7) (h : t.val < 4) (hr : r.val = t.val * 176 + a.val) :
    (show FVec Ideal S7x176x1024 .bf16 from iblk m hO c 2 t) (ix3 p a k) = aL0 m c (ix3 p r k) := by
  show iblk m hO c 2 t (ix3 p a k) = _
  blk_ext [iblk, V, idx2 m hO t h]

/-- The second layer's landed gradients' block. -/
theorem blkL1 (p : Fin 7) (h : 4 ≤ t.val) (hr : r.val = (t.val - 4) * 176 + a.val) :
    (show FVec Ideal S7x176x1024 .bf16 from iblk m hO c 3 t) (ix3 p a k) = aL1 m c (ix3 p r k) := by
  show iblk m hO c 3 t (ix3 p a k) = _
  blk_ext [iblk, V, idx3 m hO t h]

variable (s : Fin 2) (hs : s.val = t.val / 4) (hr : r.val = t.val % 4 * 176 + a.val)
include hs hr

/-- The weights' block. -/
theorem blkW : (show FVec Ideal S1x176x1024 .f32 from iblk m hO c 4 t) (ix3 0 a k) = aW m c (ix3 s r k) := by
  show iblk m hO c 4 t (ix3 0 a k) = _
  blk_ext [iblk, V, (idxW m hO t).1]

/-- The first moments' block. -/
theorem blkM : (show FVec Ideal S1x176x1024 .f32 from iblk m hO c 5 t) (ix3 0 a k) = aM m c (ix3 s r k) := by
  show iblk m hO c 5 t (ix3 0 a k) = _
  blk_ext [iblk, V, (idxW m hO t).2.1]

/-- The second moments' block. -/
theorem blkV : (show FVec Ideal S1x176x1024 .f32 from iblk m hO c 6 t) (ix3 0 a k) = aV m c (ix3 s r k) := by
  show iblk m hO c 6 t (ix3 0 a k) = _
  blk_ext [iblk, V, (idxW m hO t).2.2.1]

/-- The gradient that the body sums at a point. -/
abbrev gP : FVec Ideal S176x1024 .f32 :=
  grad (first (grid0.coords t)) (iblk m hO c 0 t) (iblk m hO c 1 t) (iblk m hO c 2 t) (iblk m hO c 3 t)

include hj in
/-- It is the reference's. -/
theorem gP_at : gP m hO c t (ix2 a k) = G m c (ix3 s r k) := by
  have hc : me m 0 = aD m c (ix1 0) := by obtain rfl : c = 0 := Subsingleton.elim _ _; rfl
  rcases lt_or_ge t.val 4 with h | h
  · have hr' : r.val = t.val * 176 + a.val := by rw [hr, Nat.mod_eq_of_lt h]
    obtain rfl : s = 0 := Fin.ext (hs.trans (Nat.div_eq_of_lt h))
    refine (grad_first _ _ _ _ _ ((idx_val t).1 h).2.2 a k).trans (Eq.trans ?_ ((total_eq (fun x => aO0 m c (ix3 x r k)) (fun x => aL0 m c (ix3 x r k)) _ j
      (hj.trans (congrArg BitVec.toNat hc))).trans (ref_g0 _ _ _ _ _ r k).symm))
    have o := blkO0 m hO c t j hj a r k h hr'
    have l := fun p => blkL0 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)
  · have hN : t.val < 2 * 4 := t.isLt
    have hq : t.val % 4 = t.val - 4 := by omega
    have hr' : r.val = (t.val - 4) * 176 + a.val := by rw [hr, hq]
    obtain rfl : s = 1 := Fin.ext (hs.trans (by show t.val / 4 = 1; omega))
    refine (grad_second _ _ _ _ _ ((idx_val t).2.1 h).2.2 a k).trans (Eq.trans ?_ ((total_eq (fun x => aO1 m c (ix3 x r k)) (fun x => aL1 m c (ix3 x r k)) _ j
      (hj.trans (congrArg BitVec.toNat hc))).trans (ref_g1 _ _ _ _ _ r k).symm))
    have o := blkO1 m hO c t j hj a r k h hr'
    have l := fun p => blkL1 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)

end Blocks

/-- The reference's first moment of the launched arrays. -/
abbrev M' (c : Dev nD) : FVec Ideal S2x704x1024 .f32 := RM (aO0 m c) (aO1 m c) (aL0 m c) (aL1 m c) (aM m c) (aD m c)
/-- The reference's second moment of the launched arrays. -/
abbrev V' (c : Dev nD) : FVec Ideal S2x704x1024 .f32 := RV (aO0 m c) (aO1 m c) (aL0 m c) (aL1 m c) (aV m c) (aD m c)
/-- The reference's update of the launched arrays. -/
abbrev U' (c : Dev nD) : FVec Ideal S2x704x1024 .f32 := RU (aO0 m c) (aO1 m c) (aL0 m c) (aL1 m c) (aW m c) (aM m c) (aV m c) (aD m c)

section Final

/-- What a point leaves in its four blocks. -/
theorem left (c : Dev nD) (t : Fin grid0.N) : outsAt0 m hO c t = (k0_pay8 (F := Ideal) (gP m hO c t),
    k0_pay9 (F := Ideal) (gP m hO c t) (k0_pay5 (F := Ideal) (iblk m hO c 4 t)) (iblk m hO c 5 t) (iblk m hO c 6 t),
    k0_pay1 (F := Ideal) (k0_pay6 (F := Ideal) (gP m hO c t) (iblk m hO c 5 t)), k0_pay2 (F := Ideal) (k0_pay7 (F := Ideal) (gP m hO c t) (iblk m hO c 6 t))) := by
  unfold outsAt0
  exact congrArg₂ Prod.mk (out_g ..) (congrArg₂ Prod.mk (out_u ..) (congrArg₂ Prod.mk (out_m ..) (out_v ..)))

/-- The row block of a point. -/
abbrev row (t : Fin grid0.N) (a : Fin 176) : Fin 704 := ⟨t.val % 4 * 176 + a.val, by omega⟩

/-- The layer of a point. -/
abbrev layer (t : Fin grid0.N) : Fin 2 := ⟨t.val / 4, by have : t.val < 2 * 4 := t.isLt; omega⟩

section Entries

variable (h8 : (me m 0).toNat < 8) (c : Dev nD) (t : Fin grid0.N) (a : Fin 176) (k : Fin 1024)
include h8

/-- The gradient's entry at a point. -/
theorem at_g : (outsAt0 m hO c t).1 (ix3 0 a k) = G m c (ix3 (layer t) (row t a) k) := by
  rw [left m hO c t]
  exact (pay_g _ a k).trans (gP_at m hO c t ⟨_, h8⟩ rfl a (row t a) k (layer t) rfl rfl)

/-- The first moment's entry at a point. -/
theorem at_m : (outsAt0 m hO c t).2.2.1 (ix3 0 a k) = M' m c (ix3 (layer t) (row t a) k) := by
  rw [left m hO c t]
  refine (pay_m _ _ a k).trans (Eq.trans ?_ (ref_m _ _ _ _ _ _ _ _ _).symm)
  exact congrArg₂ mom (blkM m hO c t a (row t a) k (layer t) rfl rfl) (gP_at m hO c t ⟨_, h8⟩ rfl a (row t a) k (layer t) rfl rfl)

/-- The second moment's entry at a point. -/
theorem at_v : (outsAt0 m hO c t).2.2.2 (ix3 0 a k) = V' m c (ix3 (layer t) (row t a) k) := by
  rw [left m hO c t]
  refine (pay_v _ _ a k).trans (Eq.trans ?_ (ref_v _ _ _ _ _ _ _ _ _).symm)
  exact congrArg₂ sec (blkV m hO c t a (row t a) k (layer t) rfl rfl) (gP_at m hO c t ⟨_, h8⟩ rfl a (row t a) k (layer t) rfl rfl)

/-- The update's entry at a point. -/
theorem at_u : (outsAt0 m hO c t).2.1 (ix3 0 a k) = U' m c (ix3 (layer t) (row t a) k) := by
  rw [left m hO c t]
  refine (pay_u _ _ _ _ a k).trans (Eq.trans ?_ (ref_u _ _ _ _ _ _ _ _ _ _ _).symm)
  have g := gP_at m hO c t ⟨_, h8⟩ rfl a (row t a) k (layer t) rfl rfl
  refine congr (congrArg₂ upd (blkW m hO c t a (row t a) k (layer t) rfl rfl) ?_) ?_
  · exact (congrArg₂ mom (blkM m hO c t a (row t a) k (layer t) rfl rfl) g).trans (ref_m _ _ _ _ _ _ _ _ _).symm
  · exact (congrArg₂ sec (blkV m hO c t a (row t a) k (layer t) rfl rfl) g).trans (ref_v _ _ _ _ _ _ _ _ _).symm

end Entries

/-- A window's block is not empty. -/
theorem block_pos (a : Fin S1x176x1024.rank) : 0 < S1x176x1024.size a := by
  revert a
  exact (by decide : ∀ a : Fin 3, 0 < S1x176x1024.size a)

variable (h8 : (me m 0).toNat < 8) (c : Dev nD)
include h8

/-- The gradients' array after the run. -/
theorem final7 : (dats m hO 0 c).arrAt 7 (cfgM m hO).N = G m c := by
  refine (dats m hO 0 c).arrAt_eq_of_covers 7 _ ⟨block_pos, fun β => ?_⟩ fun t hf y => ?_
  · obtain ⟨t, ht⟩ := onto β
    exact ⟨t, flush0_7 _ _, fun a => ⟨ht a, .inl rfl⟩⟩
  blk_simp
  rw [after0_7]
  revert y
  refine fun (y : S1x176x1024.Idx) => ?_
  idx_vars y
  obtain rfl : y0 = 0 := Subsingleton.elim _ _
  have e : (((cfgM m hO).win 7).blk t).view.emb (ix3 0 y1 y2) = ix3 (layer t) (row t y1) y2 := by blk_ext [(idxW m hO t).2.2.2.1]
  rw [e]
  exact at_g m hO h8 c t y1 y2

/-- The updates' array after the run. -/
theorem final8 : (dats m hO 0 c).arrAt 8 (cfgM m hO).N = U' m c := by
  refine (dats m hO 0 c).arrAt_eq_of_covers 8 _ ⟨block_pos, fun β => ?_⟩ fun t hf y => ?_
  · obtain ⟨t, ht⟩ := onto β
    exact ⟨t, flush0_8 _ _, fun a => ⟨ht a, .inl rfl⟩⟩
  blk_simp
  rw [after0_8]
  revert y
  refine fun (y : S1x176x1024.Idx) => ?_
  idx_vars y
  obtain rfl : y0 = 0 := Subsingleton.elim _ _
  have e : (((cfgM m hO).win 8).blk t).view.emb (ix3 0 y1 y2) = ix3 (layer t) (row t y1) y2 := by blk_ext [(idxW m hO t).2.2.2.2.1]
  rw [e]
  exact at_u m hO h8 c t y1 y2

/-- The first moments' array after the run. -/
theorem final9 : (dats m hO 0 c).arrAt 9 (cfgM m hO).N = M' m c := by
  refine (dats m hO 0 c).arrAt_eq_of_covers 9 _ ⟨block_pos, fun β => ?_⟩ fun t hf y => ?_
  · obtain ⟨t, ht⟩ := onto β
    exact ⟨t, flush0_9 _ _, fun a => ⟨ht a, .inl rfl⟩⟩
  blk_simp
  rw [after0_9]
  revert y
  refine fun (y : S1x176x1024.Idx) => ?_
  idx_vars y
  obtain rfl : y0 = 0 := Subsingleton.elim _ _
  have e : (((cfgM m hO).win 9).blk t).view.emb (ix3 0 y1 y2) = ix3 (layer t) (row t y1) y2 := by blk_ext [(idxW m hO t).2.2.2.2.2.1]
  rw [e]
  exact at_m m hO h8 c t y1 y2

/-- The second moments' array after the run. -/
theorem final10 : (dats m hO 0 c).arrAt 10 (cfgM m hO).N = V' m c := by
  refine (dats m hO 0 c).arrAt_eq_of_covers 10 _ ⟨block_pos, fun β => ?_⟩ fun t hf y => ?_
  · obtain ⟨t, ht⟩ := onto β
    exact ⟨t, flush0_10 _ _, fun a => ⟨ht a, .inl rfl⟩⟩
  blk_simp
  rw [after0_10]
  revert y
  refine fun (y : S1x176x1024.Idx) => ?_
  idx_vars y
  obtain rfl : y0 = 0 := Subsingleton.elim _ _
  have e : (((cfgM m hO).win 10).blk t).view.emb (ix3 0 y1 y2) = ix3 (layer t) (row t y1) y2 := by blk_ext [(idxW m hO t).2.2.2.2.2.2]
  rw [e]
  exact at_v m hO h8 c t y1 y2

end Final

end Cert.UpInIdeal.Val

end
-- ==== Proof.ValUpOut.lean ====
/- The value of the sharded optimiser over weights of 352 rows and 1024 columns a device: the summed gradient, the update
   and the two moments are the reference's. -/
module

public import proofs.«01_k».proof.Proof.Gen.UpOutIdeal.Frame
public import proofs.«01_k».proof.Proof.Gen.UpOutRefIdeal.Read
public import proofs.«01_k».proof.Proof.Up

@[expose] public section

set_option maxRecDepth 16384

noncomputable section

open Idealize.ShloMosaic Idealize.ShloMosaic.TcCoe Idealize.SL.Sem
open Idealize.ShloMosaic.Pipeline (Dat)
open Cert.Up
open scoped BigOperators

namespace Cert.UpOutIdeal.Val

open Cert.UpOutIdeal Cert.UpOutIdeal.Gen

section Reference

open Cert.UpOutRefIdeal.Read

variable (o0 o1 : FVec Ideal Cert.UpOutRefIdeal.S8x352x1024 .bf16) (l0 l1 : FVec Ideal Cert.UpOutRefIdeal.S7x352x1024 .bf16)
  (w p q : FVec Ideal Cert.UpOutRefIdeal.S2x352x1024 .f32) (d : IVec Cert.UpOutRefIdeal.S1 32)

/-- The reference's gradient. -/
abbrev RG : FVec Ideal Cert.UpOutRefIdeal.S2x352x1024 .f32 := val_main_v24 (F := Ideal) o0 o1 l0 l1 d
/-- The reference's first moment. -/
abbrev RM : FVec Ideal Cert.UpOutRefIdeal.S2x352x1024 .f32 := val_main_v29 (F := Ideal) o0 o1 l0 l1 p d
/-- The reference's second moment. -/
abbrev RV : FVec Ideal Cert.UpOutRefIdeal.S2x352x1024 .f32 := val_main_v35 (F := Ideal) o0 o1 l0 l1 q d
/-- The reference's update. -/
abbrev RU : FVec Ideal Cert.UpOutRefIdeal.S2x352x1024 .f32 := val_main_v48 (F := Ideal) o0 o1 l0 l1 w p q d

/-- The first layer's gradient. -/
theorem ref_g0 (a : Fin 352) (b : Fin 1024) :
    RG o0 o1 l0 l1 d (ix3 0 a b) = total (fun x => o0 (ix3 x a b)) (fun x => l0 (ix3 x a b)) (d (ix1 0)) := by
  unfold RG total
  pointwise [val_main_v24,val_main_v22,val_main_v10,val_main_v9,val_main_v8,val_main_v7,val_main_v6,val_main_v5,val_main_v4,val_main_v3,val_main_v2,val_main_v1,val_main_v0,val_main_cst,val_main_cst_0,val_main_cst_1]

/-- The second layer's gradient. -/
theorem ref_g1 (a : Fin 352) (b : Fin 1024) :
    RG o0 o1 l0 l1 d (ix3 1 a b) = total (fun x => o1 (ix3 x a b)) (fun x => l1 (ix3 x a b)) (d (ix1 0)) := by
  unfold RG total
  pointwise [val_main_v24,val_main_v23,val_main_v21,val_main_v20,val_main_v19,val_main_v18,val_main_v17,val_main_v16,val_main_v15,val_main_v14,val_main_v13,val_main_v12,val_main_v11,val_main_cst_2,val_main_cst_3,val_main_cst_4]

/-- The first moment's entry. -/
theorem ref_m (s : Fin 2) (a : Fin 352) (b : Fin 1024) :
    RM o0 o1 l0 l1 p d (ix3 s a b) = mom (p (ix3 s a b)) (RG o0 o1 l0 l1 d (ix3 s a b)) := by
  unfold RM RG mom
  pointwise [val_main_v29,val_main_v28,val_main_v27,val_main_v26,val_main_v25,val_main_cst_5,val_main_cst_6]

/-- The second moment's entry. -/
theorem ref_v (s : Fin 2) (a : Fin 352) (b : Fin 1024) :
    RV o0 o1 l0 l1 q d (ix3 s a b) = sec (q (ix3 s a b)) (RG o0 o1 l0 l1 d (ix3 s a b)) := by
  unfold RV RG sec
  pointwise [val_main_v35,val_main_v34,val_main_v33,val_main_v32,val_main_v31,val_main_v30,val_main_cst_7,val_main_cst_8]

/-- The update's entry. -/
theorem ref_u (s : Fin 2) (a : Fin 352) (b : Fin 1024) :
    RU o0 o1 l0 l1 w p q d (ix3 s a b) = upd (w (ix3 s a b)) (RM o0 o1 l0 l1 p d (ix3 s a b)) (RV o0 o1 l0 l1 q d (ix3 s a b)) := by
  unfold RU RM RV upd
  pointwise [val_main_v48,val_main_v47,val_main_v46,val_main_v45,val_main_v44,val_main_v43,val_main_v42,val_main_v41,val_main_v40,val_main_v39,val_main_v38,val_main_v37,val_main_v36,val_main_cst_9,val_main_cst_10,val_main_cst_11,val_main_cst_12,val_main_cst_13]

end Reference

section Table

variable {F : FTy → Type} [FloatOps F] (m : (ℓ : Loc nD τ sig) → Buf (Elt F) ℓ)

/-- The device's index, as launched. -/
abbrev me (c : Dev nD) : BitVec 32 := (show IVec S1 32 from m ((c : Thread nD τ).loc main_arg7)) (ix1 0)

/-- The word that the index maps read is the device's index. -/
theorem word : (tbl m).at 0 (Rect.unit (s := S1) ![0] S1.size inb_S1_S1_0) numel1_S1 = me m 0 := by
  show (tbl m) 0 _ = (show IVec S1 32 from m (((0 : Dev nD) : Thread nD τ).loc main_arg7)) (ix1 0)
  unfold tbl
  simp only [V_main_arg7]
  blk_ext

/-- The rows at which the two layers' windows stand. -/
theorem rows : ∀ i : grid0.Coords,
    (Scalar.select (Scalar.cmpi .eq (BitVec.ofNat 32 (i 0).val) 0#32) (BitVec.ofNat 32 (i 1).val) 1#32).toNat < 2
    ∧ (Scalar.select (Scalar.cmpi .eq (BitVec.ofNat 32 (i 0).val) 1#32) (BitVec.ofNat 32 (i 1).val) 0#32).toNat < 2 := by decide +kernel

/-- Where the device's index is below eight, every block lies in its array. -/
theorem ok (h : (me m 0).toNat < 8) : Ok m := by
  have hb : ∀ n, n < 2 → ∀ a : Fin 3, ((![(me m 0).toNat, n, 0] : Fin 3 → Nat) a + 1) * S1x176x1024.size a ≤ S8x352x1024.size a := fun n hn a => by
    match a with
    | ⟨0, _⟩ => show ((me m 0).toNat + 1) * 1 ≤ 8; omega
    | ⟨1, _⟩ => exact (Nat.mul_le_mul_right 176 hn : _ ≤ 2 * 176)
    | ⟨2, _⟩ => show (0 + 1) * 1024 ≤ 1024; omega
  refine ⟨fun i => ⟨?_, .inr (Affine.block_words_dvd (of_decide_eq_true rfl) (by decide))⟩,
    fun i => ⟨?_, .inr (Affine.block_words_dvd (of_decide_eq_true rfl) (by decide))⟩⟩
  · unfold cc0_transform_0
    rw [word m]
    exact hb _ (rows i).1
  · unfold cc0_transform_1
    rw [word m]
    exact hb _ (rows i).2

end Table

section Body

/-- A landed part. -/
abbrev part (x : FVec Ideal S7x176x1024 .bf16) (p : Nat) (hi : ∀ a, (![p, 0, 0] : Fin 3 → Nat) a + ![1, 176, 1024] a ≤ S7x176x1024.size a) : FVec Ideal S1x176x1024 .bf16 :=
  View.ld (Val := Elt Ideal) (e' := .bf16) x (Rect.unit (s := S7x176x1024) ![p, 0, 0] ![1, 176, 1024] hi)

/-- A landed part's entry. -/
theorem part_at (x : FVec Ideal S7x176x1024 .bf16) (p : Nat) (hp : p < 7) (hi : ∀ a, (![p, 0, 0] : Fin 3 → Nat) a + ![1, 176, 1024] a ≤ S7x176x1024.size a) (a : Fin 176) (b : Fin 1024) :
    part x p hi (ix3 0 a b) = x (ix3 ⟨p, hp⟩ a b) :=
  View.ld_unit_apply_of (Val := Elt Ideal) _ _ _ _ _ (ix3 ⟨p, hp⟩ a b) fun k => match k with
      | ⟨0, _⟩ => rfl | ⟨1, _⟩ => (Nat.zero_add _).symm | ⟨2, _⟩ => (Nat.zero_add _).symm

variable (k : BitVec 1) (x0 x1 : FVec Ideal S1x176x1024 .bf16) (x2 x3 : FVec Ideal S7x176x1024 .bf16) (x4 x5 x6 : FVec Ideal S1x176x1024 .f32)

/-- The summed gradient of a block: the first layer's where `k` holds, else the second's. -/
abbrev grad : FVec Ideal S176x1024 .f32 :=
  k0_pay4 (F := Ideal) k
    (k0_pay3 (F := Ideal) x0 (part x2 0 inb_S7x176x1024_S1x176x1024_0_0_0) (part x2 1 inb_S7x176x1024_S1x176x1024_1_0_0) (part x2 2 inb_S7x176x1024_S1x176x1024_2_0_0) (part x2 3 inb_S7x176x1024_S1x176x1024_3_0_0) (part x2 4 inb_S7x176x1024_S1x176x1024_4_0_0) (part x2 5 inb_S7x176x1024_S1x176x1024_5_0_0) (part x2 6 inb_S7x176x1024_S1x176x1024_6_0_0))
    x1 (part x3 0 inb_S7x176x1024_S1x176x1024_0_0_0) (part x3 1 inb_S7x176x1024_S1x176x1024_1_0_0) (part x3 2 inb_S7x176x1024_S1x176x1024_2_0_0) (part x3 3 inb_S7x176x1024_S1x176x1024_3_0_0) (part x3 4 inb_S7x176x1024_S1x176x1024_4_0_0) (part x3 5 inb_S7x176x1024_S1x176x1024_5_0_0) (part x3 6 inb_S7x176x1024_S1x176x1024_6_0_0)

/-- Its entry in the first layer. -/
theorem grad_first (hk : k = 1#1) (a : Fin 176) (b : Fin 1024) : grad k x0 x1 x2 x3 (ix2 a b)
    = x0 (ix3 0 a b) + x2 (ix3 0 a b) + x2 (ix3 1 a b) + x2 (ix3 2 a b) + x2 (ix3 3 a b) + x2 (ix3 4 a b) + x2 (ix3 5 a b) + x2 (ix3 6 a b) := by
  subst hk
  unfold grad
  pointwise [k0_pay4, k0_pay3]
  exact congrArg₂ (· + ·) (congrArg₂ (· + ·) (congrArg₂ (· + ·) (congrArg₂ (· + ·) (congrArg₂ (· + ·) (congrArg₂ (· + ·) (congrArg _ (part_at x2 0 (by decide) _ a b))
    (part_at x2 1 (by decide) _ a b)) (part_at x2 2 (by decide) _ a b)) (part_at x2 3 (by decide) _ a b)) (part_at x2 4 (by decide) _ a b)) (part_at x2 5 (by decide) _ a b))
    (part_at x2 6 (by decide) _ a b)

/-- Its entry in the second layer. -/
theorem grad_second (hk : k = 0#1) (a : Fin 176) (b : Fin 1024) : grad k x0 x1 x2 x3 (ix2 a b)
    = x1 (ix3 0 a b) + x3 (ix3 0 a b) + x3 (ix3 1 a b) + x3 (ix3 2 a b) + x3 (ix3 3 a b) + x3 (ix3 4 a b) + x3 (ix3 5 a b) + x3 (ix3 6 a b) := by
  subst hk
  unfold grad
  pointwise [k0_pay4]
  exact congrArg₂ (· + ·) (congrArg₂ (· + ·) (congrArg₂ (· + ·) (congrArg₂ (· + ·) (congrArg₂ (· + ·) (congrArg₂ (· + ·) (congrArg _ (part_at x3 0 (by decide) _ a b))
    (part_at x3 1 (by decide) _ a b)) (part_at x3 2 (by decide) _ a b)) (part_at x3 3 (by decide) _ a b)) (part_at x3 4 (by decide) _ a b)) (part_at x3 5 (by decide) _ a b))
    (part_at x3 6 (by decide) _ a b)

variable (g w : FVec Ideal S176x1024 .f32)

/-- The stored gradient's entry. -/
theorem pay_g (a : Fin 176) (b : Fin 1024) : k0_pay8 (F := Ideal) g (ix3 0 a b) = g (ix2 a b) := by
  pointwise [k0_pay8]

/-- The stored first moment's entry. -/
theorem pay_m (a : Fin 176) (b : Fin 1024) : k0_pay1 (F := Ideal) (k0_pay6 (F := Ideal) g x5) (ix3 0 a b) = mom (x5 (ix3 0 a b)) (g (ix2 a b)) := by
  unfold mom
  pointwise [k0_pay1, k0_pay6]

/-- The stored second moment's entry. -/
theorem pay_v (a : Fin 176) (b : Fin 1024) : k0_pay2 (F := Ideal) (k0_pay7 (F := Ideal) g x6) (ix3 0 a b) = sec (x6 (ix3 0 a b)) (g (ix2 a b)) := by
  unfold sec
  pointwise [k0_pay2, k0_pay7]

/-- The stored update's entry. -/
theorem pay_u (a : Fin 176) (b : Fin 1024) : k0_pay9 (F := Ideal) g (k0_pay5 (F := Ideal) x4) x5 x6 (ix3 0 a b)
    = upd (x4 (ix3 0 a b)) (mom (x5 (ix3 0 a b)) (g (ix2 a b))) (sec (x6 (ix3 0 a b)) (g (ix2 a b))) := by
  unfold upd mom sec
  pointwise [k0_pay9, k0_pay7, k0_pay6, k0_pay5]

variable (c : Dev nD) (i : grid0.Coords) (r0 r1 : Memref sig .tc .vmem S1x176x1024 .bf16) (r2 r3 : Memref sig .tc .vmem S7x176x1024 .bf16)
  (r4 r5 r6 r7 r8 r9 r10 : Memref sig .tc .vmem S1x176x1024 .f32) (h0 : r0.IsWhole) (h1 : r1.IsWhole) (h2 : r2.IsWhole) (h3 : r3.IsWhole)
  (h4 : r4.IsWhole) (h5 : r5.IsWhole) (h6 : r6.IsWhole) (h7 : r7.IsWhole) (h8 : r8.IsWhole) (h9 : r9.IsWhole) (h10 : r10.IsWhole)
  (xt : TbBuf0 (F := Ideal) c tbM0_0)

/-- Whether the point is the first layer's. -/
abbrev first : BitVec 1 := Scalar.cmpi .eq (BitVec.ofNat 32 (i 0).val) 0#32

/-- What the body leaves in the gradient's block. -/
theorem out_g : out0_A_7 (F := Ideal) c i r0 h0 r1 h1 r2 h2 r3 h3 r4 h4 r5 h5 r6 h6 r7 h7 r8 h8 r9 h9 r10 h10 x0 x1 x2 x3 x4 x5 x6 xt
    = k0_pay8 (F := Ideal) (grad (first i) x0 x1 x2 x3) := by
  funext y
  unfold out0_A_7
  frame_out

/-- What the body leaves in the update's block. -/
theorem out_u : out0_A_8 (F := Ideal) c i r0 h0 r1 h1 r2 h2 r3 h3 r4 h4 r5 h5 r6 h6 r7 h7 r8 h8 r9 h9 r10 h10 x0 x1 x2 x3 x4 x5 x6 xt
    = k0_pay9 (F := Ideal) (grad (first i) x0 x1 x2 x3) (k0_pay5 (F := Ideal) x4) x5 x6 := by
  funext y
  unfold out0_A_8
  frame_out

/-- What the body leaves in the first moment's block. -/
theorem out_m : out0_A_9 (F := Ideal) c i r0 h0 r1 h1 r2 h2 r3 h3 r4 h4 r5 h5 r6 h6 r7 h7 r8 h8 r9 h9 r10 h10 x0 x1 x2 x3 x4 x5 x6 xt
    = k0_pay1 (F := Ideal) (k0_pay6 (F := Ideal) (grad (first i) x0 x1 x2 x3) x5) := by
  funext y
  unfold out0_A_9
  frame_out

/-- What the body leaves in the second moment's block. -/
theorem out_v : out0_A_10 (F := Ideal) c i r0 h0 r1 h1 r2 h2 r3 h3 r4 h4 r5 h5 r6 h6 r7 h7 r8 h8 r9 h9 r10 h10 x0 x1 x2 x3 x4 x5 x6 xt
    = k0_pay2 (F := Ideal) (k0_pay7 (F := Ideal) (grad (first i) x0 x1 x2 x3) x6) := by
  funext y
  unfold out0_A_10
  frame_out

end Body

variable (m : (ℓ : Loc nD τ sig) → Buf (Elt Ideal) ℓ) (hO : Ok m)

/-- The first layer's own gradients as launched. -/
abbrev aO0 (c : Dev nD) : FVec Ideal S8x352x1024 .bf16 := m ((c : Thread nD τ).loc main_arg0)
/-- The second layer's own gradients as launched. -/
abbrev aO1 (c : Dev nD) : FVec Ideal S8x352x1024 .bf16 := m ((c : Thread nD τ).loc main_arg1)
/-- The first layer's landed gradients as launched. -/
abbrev aL0 (c : Dev nD) : FVec Ideal S7x352x1024 .bf16 := m ((c : Thread nD τ).loc main_arg2)
/-- The second layer's landed gradients as launched. -/
abbrev aL1 (c : Dev nD) : FVec Ideal S7x352x1024 .bf16 := m ((c : Thread nD τ).loc main_arg3)
/-- The weights as launched. -/
abbrev aW (c : Dev nD) : FVec Ideal S2x352x1024 .f32 := m ((c : Thread nD τ).loc main_arg4)
/-- The first moments as launched. -/
abbrev aM (c : Dev nD) : FVec Ideal S2x352x1024 .f32 := m ((c : Thread nD τ).loc main_arg5)
/-- The second moments as launched. -/
abbrev aV (c : Dev nD) : FVec Ideal S2x352x1024 .f32 := m ((c : Thread nD τ).loc main_arg6)
/-- The device's index as launched. -/
abbrev aD (c : Dev nD) : IVec S1 32 := m ((c : Thread nD τ).loc main_arg7)

/-- The reference's gradient of the launched arrays. -/
abbrev G (c : Dev nD) : FVec Ideal S2x352x1024 .f32 := RG (aO0 m c) (aO1 m c) (aL0 m c) (aL1 m c) (aD m c)

/-- The index maps in closed form: `t` runs over the first layer's row blocks and then over the second's. -/
theorem idx_val : ∀ t : Fin grid0.N,
    (t.val < 2 → cc0_transform_2 (grid0.coords t) = ![0, t.val, 0]
      ∧ (Scalar.select (Scalar.cmpi .eq (BitVec.ofNat 32 (grid0.coords t 0).val) 0#32) (BitVec.ofNat 32 (grid0.coords t 1).val) 1#32).toNat = t.val
      ∧ first (grid0.coords t) = 1#1)
    ∧ (2 ≤ t.val → cc0_transform_3 (grid0.coords t) = ![0, t.val - 2, 0]
      ∧ (Scalar.select (Scalar.cmpi .eq (BitVec.ofNat 32 (grid0.coords t 0).val) 1#32) (BitVec.ofNat 32 (grid0.coords t 1).val) 0#32).toNat = t.val - 2
      ∧ first (grid0.coords t) = 0#1)
    ∧ cc0_transform_4 (grid0.coords t) = ![t.val / 2, t.val % 2, 0] := by decide +kernel

/-- Every block of a result is some point's. -/
theorem onto (β : (a : Fin 3) → Fin ((S2x352x1024.size a + S1x176x1024.size a - 1) / S1x176x1024.size a)) :
    ∃ t : Fin grid0.N, ∀ a, cc0_transform_4 (grid0.coords t) a = (β a).val := by
  revert β
  decide +kernel

section Blocks

variable (c : Dev nD) (t : Fin (cfgM m hO).N)

theorem idx0 (h : t.val < 2) : ((cfgM m hO).win 0).index t = ![(me m 0).toNat, t.val, 0] := by
  show cc0_transform_0 inb_S1_S1_0 numel1_S1 (tbl m) (grid0.coords t) = _
  unfold cc0_transform_0
  rw [word m]
  exact congrArg (fun n => ![(me m 0).toNat, n, 0]) ((idx_val t).1 h).2.1

theorem idx1 (h : 2 ≤ t.val) : ((cfgM m hO).win 1).index t = ![(me m 0).toNat, t.val - 2, 0] := by
  show cc0_transform_1 inb_S1_S1_0 numel1_S1 (tbl m) (grid0.coords t) = _
  unfold cc0_transform_1
  rw [word m]
  exact congrArg (fun n => ![(me m 0).toNat, n, 0]) ((idx_val t).2.1 h).2.1

theorem idx2 (h : t.val < 2) : ((cfgM m hO).win 2).index t = ![0, t.val, 0] := ((idx_val t).1 h).1

theorem idx3 (h : 2 ≤ t.val) : ((cfgM m hO).win 3).index t = ![0, t.val - 2, 0] := ((idx_val t).2.1 h).1

/-- The other seven windows stand at the layer's row block. -/
theorem idxW : ((cfgM m hO).win 4).index t = ![t.val / 2, t.val % 2, 0] ∧ ((cfgM m hO).win 5).index t = ![t.val / 2, t.val % 2, 0]
    ∧ ((cfgM m hO).win 6).index t = ![t.val / 2, t.val % 2, 0] ∧ ((cfgM m hO).win 7).index t = ![t.val / 2, t.val % 2, 0]
    ∧ ((cfgM m hO).win 8).index t = ![t.val / 2, t.val % 2, 0] ∧ ((cfgM m hO).win 9).index t = ![t.val / 2, t.val % 2, 0]
    ∧ ((cfgM m hO).win 10).index t = ![t.val / 2, t.val % 2, 0] :=
  have h := (idx_val t).2.2
  ⟨h, h, h, h, h, h, h⟩

variable (j : Fin 8) (hj : j.val = (me m 0).toNat) (a : Fin 176) (r : Fin 352) (k : Fin 1024)
include hj

/-- The first layer's own gradient's block. -/
theorem blkO0 (h : t.val < 2) (hr : r.val = t.val * 176 + a.val) :
    (show FVec Ideal S1x176x1024 .bf16 from iblk m hO c 0 t) (ix3 0 a k) = aO0 m c (ix3 j r k) := by
  show iblk m hO c 0 t (ix3 0 a k) = _
  blk_ext [iblk, V, idx0 m hO t h]

/-- The second layer's own gradient's block. -/
theorem blkO1 (h : 2 ≤ t.val) (hr : r.val = (t.val - 2) * 176 + a.val) :
    (show FVec Ideal S1x176x1024 .bf16 from iblk m hO c 1 t) (ix3 0 a k) = aO1 m c (ix3 j r k) := by
  show iblk m hO c 1 t (ix3 0 a k) = _
  blk_ext [iblk, V, idx1 m hO t h]

omit hj

/-- The first layer's landed gradients' block. -/
theorem blkL0 (p : Fin 7) (h : t.val < 2) (hr : r.val = t.val * 176 + a.val) :
    (show FVec Ideal S7x176x1024 .bf16 from iblk m hO c 2 t) (ix3 p a k) = aL0 m c (ix3 p r k) := by
  show iblk m hO c 2 t (ix3 p a k) = _
  blk_ext [iblk, V, idx2 m hO t h]

/-- The second layer's landed gradients' block. -/
theorem blkL1 (p : Fin 7) (h : 2 ≤ t.val) (hr : r.val = (t.val - 2) * 176 + a.val) :
    (show FVec Ideal S7x176x1024 .bf16 from iblk m hO c 3 t) (ix3 p a k) = aL1 m c (ix3 p r k) := by
  show iblk m hO c 3 t (ix3 p a k) = _
  blk_ext [iblk, V, idx3 m hO t h]

variable (s : Fin 2) (hs : s.val = t.val / 2) (hr : r.val = t.val % 2 * 176 + a.val)
include hs hr

/-- The weights' block. -/
theorem blkW : (show FVec Ideal S1x176x1024 .f32 from iblk m hO c 4 t) (ix3 0 a k) = aW m c (ix3 s r k) := by
  show iblk m hO c 4 t (ix3 0 a k) = _
  blk_ext [iblk, V, (idxW m hO t).1]

/-- The first moments' block. -/
theorem blkM : (show FVec Ideal S1x176x1024 .f32 from iblk m hO c 5 t) (ix3 0 a k) = aM m c (ix3 s r k) := by
  show iblk m hO c 5 t (ix3 0 a k) = _
  blk_ext [iblk, V, (idxW m hO t).2.1]

/-- The second moments' block. -/
theorem blkV : (show FVec Ideal S1x176x1024 .f32 from iblk m hO c 6 t) (ix3 0 a k) = aV m c (ix3 s r k) := by
  show iblk m hO c 6 t (ix3 0 a k) = _
  blk_ext [iblk, V, (idxW m hO t).2.2.1]

/-- The gradient that the body sums at a point. -/
abbrev gP : FVec Ideal S176x1024 .f32 :=
  grad (first (grid0.coords t)) (iblk m hO c 0 t) (iblk m hO c 1 t) (iblk m hO c 2 t) (iblk m hO c 3 t)

include hj in
/-- It is the reference's. -/
theorem gP_at : gP m hO c t (ix2 a k) = G m c (ix3 s r k) := by
  have hc : me m 0 = aD m c (ix1 0) := by obtain rfl : c = 0 := Subsingleton.elim _ _; rfl
  rcases lt_or_ge t.val 2 with h | h
  · have hr' : r.val = t.val * 176 + a.val := by rw [hr, Nat.mod_eq_of_lt h]
    obtain rfl : s = 0 := Fin.ext (hs.trans (Nat.div_eq_of_lt h))
    refine (grad_first _ _ _ _ _ ((idx_val t).1 h).2.2 a k).trans (Eq.trans ?_ ((total_eq (fun x => aO0 m c (ix3 x r k)) (fun x => aL0 m c (ix3 x r k)) _ j
      (hj.trans (congrArg BitVec.toNat hc))).trans (ref_g0 _ _ _ _ _ r k).symm))
    have o := blkO0 m hO c t j hj a r k h hr'
    have l := fun p => blkL0 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)
  · have hN : t.val < 2 * 2 := t.isLt
    have hq : t.val % 2 = t.val - 2 := by omega
    have hr' : r.val = (t.val - 2) * 176 + a.val := by rw [hr, hq]
    obtain rfl : s = 1 := Fin.ext (hs.trans (by show t.val / 2 = 1; omega))
    refine (grad_second _ _ _ _ _ ((idx_val t).2.1 h).2.2 a k).trans (Eq.trans ?_ ((total_eq (fun x => aO1 m c (ix3 x r k)) (fun x => aL1 m c (ix3 x r k)) _ j
      (hj.trans (congrArg BitVec.toNat hc))).trans (ref_g1 _ _ _ _ _ r k).symm))
    have o := blkO1 m hO c t j hj a r k h hr'
    have l := fun p => blkL1 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)

end Blocks

/-- The reference's first moment of the launched arrays. -/
abbrev M' (c : Dev nD) : FVec Ideal S2x352x1024 .f32 := RM (aO0 m c) (aO1 m c) (aL0 m c) (aL1 m c) (aM m c) (aD m c)
/-- The reference's second moment of the launched arrays. -/
abbrev V' (c : Dev nD) : FVec Ideal S2x352x1024 .f32 := RV (aO0 m c) (aO1 m c) (aL0 m c) (aL1 m c) (aV m c) (aD m c)
/-- The reference's update of the launched arrays. -/
abbrev U' (c : Dev nD) : FVec Ideal S2x352x1024 .f32 := RU (aO0 m c) (aO1 m c) (aL0 m c) (aL1 m c) (aW m c) (aM m c) (aV m c) (aD m c)

section Final

/-- What a point leaves in its four blocks. -/
theorem left (c : Dev nD) (t : Fin grid0.N) : outsAt0 m hO c t = (k0_pay8 (F := Ideal) (gP m hO c t),
    k0_pay9 (F := Ideal) (gP m hO c t) (k0_pay5 (F := Ideal) (iblk m hO c 4 t)) (iblk m hO c 5 t) (iblk m hO c 6 t),
    k0_pay1 (F := Ideal) (k0_pay6 (F := Ideal) (gP m hO c t) (iblk m hO c 5 t)), k0_pay2 (F := Ideal) (k0_pay7 (F := Ideal) (gP m hO c t) (iblk m hO c 6 t))) := by
  unfold outsAt0
  exact congrArg₂ Prod.mk (out_g ..) (congrArg₂ Prod.mk (out_u ..) (congrArg₂ Prod.mk (out_m ..) (out_v ..)))

/-- The row block of a point. -/
abbrev row (t : Fin grid0.N) (a : Fin 176) : Fin 352 := ⟨t.val % 2 * 176 + a.val, by omega⟩

/-- The layer of a point. -/
abbrev layer (t : Fin grid0.N) : Fin 2 := ⟨t.val / 2, by have : t.val < 2 * 2 := t.isLt; omega⟩

section Entries

variable (h8 : (me m 0).toNat < 8) (c : Dev nD) (t : Fin grid0.N) (a : Fin 176) (k : Fin 1024)
include h8

/-- The gradient's entry at a point. -/
theorem at_g : (outsAt0 m hO c t).1 (ix3 0 a k) = G m c (ix3 (layer t) (row t a) k) := by
  rw [left m hO c t]
  exact (pay_g _ a k).trans (gP_at m hO c t ⟨_, h8⟩ rfl a (row t a) k (layer t) rfl rfl)

/-- The first moment's entry at a point. -/
theorem at_m : (outsAt0 m hO c t).2.2.1 (ix3 0 a k) = M' m c (ix3 (layer t) (row t a) k) := by
  rw [left m hO c t]
  refine (pay_m _ _ a k).trans (Eq.trans ?_ (ref_m _ _ _ _ _ _ _ _ _).symm)
  exact congrArg₂ mom (blkM m hO c t a (row t a) k (layer t) rfl rfl) (gP_at m hO c t ⟨_, h8⟩ rfl a (row t a) k (layer t) rfl rfl)

/-- The second moment's entry at a point. -/
theorem at_v : (outsAt0 m hO c t).2.2.2 (ix3 0 a k) = V' m c (ix3 (layer t) (row t a) k) := by
  rw [left m hO c t]
  refine (pay_v _ _ a k).trans (Eq.trans ?_ (ref_v _ _ _ _ _ _ _ _ _).symm)
  exact congrArg₂ sec (blkV m hO c t a (row t a) k (layer t) rfl rfl) (gP_at m hO c t ⟨_, h8⟩ rfl a (row t a) k (layer t) rfl rfl)

/-- The update's entry at a point. -/
theorem at_u : (outsAt0 m hO c t).2.1 (ix3 0 a k) = U' m c (ix3 (layer t) (row t a) k) := by
  rw [left m hO c t]
  refine (pay_u _ _ _ _ a k).trans (Eq.trans ?_ (ref_u _ _ _ _ _ _ _ _ _ _ _).symm)
  have g := gP_at m hO c t ⟨_, h8⟩ rfl a (row t a) k (layer t) rfl rfl
  refine congr (congrArg₂ upd (blkW m hO c t a (row t a) k (layer t) rfl rfl) ?_) ?_
  · exact (congrArg₂ mom (blkM m hO c t a (row t a) k (layer t) rfl rfl) g).trans (ref_m _ _ _ _ _ _ _ _ _).symm
  · exact (congrArg₂ sec (blkV m hO c t a (row t a) k (layer t) rfl rfl) g).trans (ref_v _ _ _ _ _ _ _ _ _).symm

end Entries

/-- A window's block is not empty. -/
theorem block_pos (a : Fin S1x176x1024.rank) : 0 < S1x176x1024.size a := by
  revert a
  exact (by decide : ∀ a : Fin 3, 0 < S1x176x1024.size a)

variable (h8 : (me m 0).toNat < 8) (c : Dev nD)
include h8

/-- The gradients' array after the run. -/
theorem final7 : (dats m hO 0 c).arrAt 7 (cfgM m hO).N = G m c := by
  refine (dats m hO 0 c).arrAt_eq_of_covers 7 _ ⟨block_pos, fun β => ?_⟩ fun t hf y => ?_
  · obtain ⟨t, ht⟩ := onto β
    exact ⟨t, flush0_7 _ _, fun a => ⟨ht a, .inl rfl⟩⟩
  blk_simp
  rw [after0_7]
  revert y
  refine fun (y : S1x176x1024.Idx) => ?_
  idx_vars y
  obtain rfl : y0 = 0 := Subsingleton.elim _ _
  have e : (((cfgM m hO).win 7).blk t).view.emb (ix3 0 y1 y2) = ix3 (layer t) (row t y1) y2 := by blk_ext [(idxW m hO t).2.2.2.1]
  rw [e]
  exact at_g m hO h8 c t y1 y2

/-- The updates' array after the run. -/
theorem final8 : (dats m hO 0 c).arrAt 8 (cfgM m hO).N = U' m c := by
  refine (dats m hO 0 c).arrAt_eq_of_covers 8 _ ⟨block_pos, fun β => ?_⟩ fun t hf y => ?_
  · obtain ⟨t, ht⟩ := onto β
    exact ⟨t, flush0_8 _ _, fun a => ⟨ht a, .inl rfl⟩⟩
  blk_simp
  rw [after0_8]
  revert y
  refine fun (y : S1x176x1024.Idx) => ?_
  idx_vars y
  obtain rfl : y0 = 0 := Subsingleton.elim _ _
  have e : (((cfgM m hO).win 8).blk t).view.emb (ix3 0 y1 y2) = ix3 (layer t) (row t y1) y2 := by blk_ext [(idxW m hO t).2.2.2.2.1]
  rw [e]
  exact at_u m hO h8 c t y1 y2

/-- The first moments' array after the run. -/
theorem final9 : (dats m hO 0 c).arrAt 9 (cfgM m hO).N = M' m c := by
  refine (dats m hO 0 c).arrAt_eq_of_covers 9 _ ⟨block_pos, fun β => ?_⟩ fun t hf y => ?_
  · obtain ⟨t, ht⟩ := onto β
    exact ⟨t, flush0_9 _ _, fun a => ⟨ht a, .inl rfl⟩⟩
  blk_simp
  rw [after0_9]
  revert y
  refine fun (y : S1x176x1024.Idx) => ?_
  idx_vars y
  obtain rfl : y0 = 0 := Subsingleton.elim _ _
  have e : (((cfgM m hO).win 9).blk t).view.emb (ix3 0 y1 y2) = ix3 (layer t) (row t y1) y2 := by blk_ext [(idxW m hO t).2.2.2.2.2.1]
  rw [e]
  exact at_m m hO h8 c t y1 y2

/-- The second moments' array after the run. -/
theorem final10 : (dats m hO 0 c).arrAt 10 (cfgM m hO).N = V' m c := by
  refine (dats m hO 0 c).arrAt_eq_of_covers 10 _ ⟨block_pos, fun β => ?_⟩ fun t hf y => ?_
  · obtain ⟨t, ht⟩ := onto β
    exact ⟨t, flush0_10 _ _, fun a => ⟨ht a, .inl rfl⟩⟩
  blk_simp
  rw [after0_10]
  revert y
  refine fun (y : S1x176x1024.Idx) => ?_
  idx_vars y
  obtain rfl : y0 = 0 := Subsingleton.elim _ _
  have e : (((cfgM m hO).win 10).blk t).view.emb (ix3 0 y1 y2) = ix3 (layer t) (row t y1) y2 := by blk_ext [(idxW m hO t).2.2.2.2.2.2]
  rw [e]
  exact at_v m hO h8 c t y1 y2

end Final

end Cert.UpOutIdeal.Val

end
-- ==== Proof.ValUpSquare.lean ====
/- The value of the sharded optimiser over weights of 128 rows and 1024 columns a device: the summed gradient, the update
   and the two moments are the reference's. -/
module

public import proofs.«01_k».proof.Proof.Gen.UpSquareIdeal.Frame
public import proofs.«01_k».proof.Proof.Gen.UpSquareRefIdeal.Read
public import proofs.«01_k».proof.Proof.Up

@[expose] public section

set_option maxRecDepth 16384

noncomputable section

open Idealize.ShloMosaic Idealize.ShloMosaic.TcCoe Idealize.SL.Sem
open Idealize.ShloMosaic.Pipeline (Dat)
open Cert.Up
open scoped BigOperators

namespace Cert.UpSquareIdeal.Val

open Cert.UpSquareIdeal Cert.UpSquareIdeal.Gen

section Reference

open Cert.UpSquareRefIdeal.Read

variable (o0 o1 : FVec Ideal Cert.UpSquareRefIdeal.S8x128x1024 .bf16) (l0 l1 : FVec Ideal Cert.UpSquareRefIdeal.S7x128x1024 .bf16)
  (w p q : FVec Ideal Cert.UpSquareRefIdeal.S2x128x1024 .f32) (d : IVec Cert.UpSquareRefIdeal.S1 32)

/-- The reference's gradient. -/
abbrev RG : FVec Ideal Cert.UpSquareRefIdeal.S2x128x1024 .f32 := val_main_v24 (F := Ideal) o0 o1 l0 l1 d
/-- The reference's first moment. -/
abbrev RM : FVec Ideal Cert.UpSquareRefIdeal.S2x128x1024 .f32 := val_main_v29 (F := Ideal) o0 o1 l0 l1 p d
/-- The reference's second moment. -/
abbrev RV : FVec Ideal Cert.UpSquareRefIdeal.S2x128x1024 .f32 := val_main_v35 (F := Ideal) o0 o1 l0 l1 q d
/-- The reference's update. -/
abbrev RU : FVec Ideal Cert.UpSquareRefIdeal.S2x128x1024 .f32 := val_main_v48 (F := Ideal) o0 o1 l0 l1 w p q d

/-- The first layer's gradient. -/
theorem ref_g0 (a : Fin 128) (b : Fin 1024) :
    RG o0 o1 l0 l1 d (ix3 0 a b) = total (fun x => o0 (ix3 x a b)) (fun x => l0 (ix3 x a b)) (d (ix1 0)) := by
  unfold RG total
  pointwise [val_main_v24,val_main_v22,val_main_v10,val_main_v9,val_main_v8,val_main_v7,val_main_v6,val_main_v5,val_main_v4,val_main_v3,val_main_v2,val_main_v1,val_main_v0,val_main_cst,val_main_cst_0,val_main_cst_1]

/-- The second layer's gradient. -/
theorem ref_g1 (a : Fin 128) (b : Fin 1024) :
    RG o0 o1 l0 l1 d (ix3 1 a b) = total (fun x => o1 (ix3 x a b)) (fun x => l1 (ix3 x a b)) (d (ix1 0)) := by
  unfold RG total
  pointwise [val_main_v24,val_main_v23,val_main_v21,val_main_v20,val_main_v19,val_main_v18,val_main_v17,val_main_v16,val_main_v15,val_main_v14,val_main_v13,val_main_v12,val_main_v11,val_main_cst_2,val_main_cst_3,val_main_cst_4]

/-- The first moment's entry. -/
theorem ref_m (s : Fin 2) (a : Fin 128) (b : Fin 1024) :
    RM o0 o1 l0 l1 p d (ix3 s a b) = mom (p (ix3 s a b)) (RG o0 o1 l0 l1 d (ix3 s a b)) := by
  unfold RM RG mom
  pointwise [val_main_v29,val_main_v28,val_main_v27,val_main_v26,val_main_v25,val_main_cst_5,val_main_cst_6]

/-- The second moment's entry. -/
theorem ref_v (s : Fin 2) (a : Fin 128) (b : Fin 1024) :
    RV o0 o1 l0 l1 q d (ix3 s a b) = sec (q (ix3 s a b)) (RG o0 o1 l0 l1 d (ix3 s a b)) := by
  unfold RV RG sec
  pointwise [val_main_v35,val_main_v34,val_main_v33,val_main_v32,val_main_v31,val_main_v30,val_main_cst_7,val_main_cst_8]

/-- The update's entry. -/
theorem ref_u (s : Fin 2) (a : Fin 128) (b : Fin 1024) :
    RU o0 o1 l0 l1 w p q d (ix3 s a b) = upd (w (ix3 s a b)) (RM o0 o1 l0 l1 p d (ix3 s a b)) (RV o0 o1 l0 l1 q d (ix3 s a b)) := by
  unfold RU RM RV upd
  pointwise [val_main_v48,val_main_v47,val_main_v46,val_main_v45,val_main_v44,val_main_v43,val_main_v42,val_main_v41,val_main_v40,val_main_v39,val_main_v38,val_main_v37,val_main_v36,val_main_cst_9,val_main_cst_10,val_main_cst_11,val_main_cst_12,val_main_cst_13]

end Reference

section Table

variable {F : FTy → Type} [FloatOps F] (m : (ℓ : Loc nD τ sig) → Buf (Elt F) ℓ)

/-- The device's index, as launched. -/
abbrev me (c : Dev nD) : BitVec 32 := (show IVec S1 32 from m ((c : Thread nD τ).loc main_arg7)) (ix1 0)

/-- The word that the index maps read is the device's index. -/
theorem word : (tbl m).at 0 (Rect.unit (s := S1) ![0] S1.size inb_S1_S1_0) numel1_S1 = me m 0 := by
  show (tbl m) 0 _ = (show IVec S1 32 from m (((0 : Dev nD) : Thread nD τ).loc main_arg7)) (ix1 0)
  unfold tbl
  simp only [V_main_arg7]
  blk_ext

/-- The rows at which the two layers' windows stand. -/
theorem rows : ∀ i : grid0.Coords,
    (Scalar.select (Scalar.cmpi .eq (BitVec.ofNat 32 (i 0).val) 0#32) (BitVec.ofNat 32 (i 1).val) 0#32).toNat < 1
    ∧ (Scalar.select (Scalar.cmpi .eq (BitVec.ofNat 32 (i 0).val) 1#32) (BitVec.ofNat 32 (i 1).val) 0#32).toNat < 1 := by decide +kernel

/-- Where the device's index is below eight, every block lies in its array. -/
theorem ok (h : (me m 0).toNat < 8) : Ok m := by
  have hb : ∀ n, n < 1 → ∀ a : Fin 3, ((![(me m 0).toNat, n, 0] : Fin 3 → Nat) a + 1) * S1x128x1024.size a ≤ S8x128x1024.size a := fun n hn a => by
    match a with
    | ⟨0, _⟩ => show ((me m 0).toNat + 1) * 1 ≤ 8; omega
    | ⟨1, _⟩ => exact (Nat.mul_le_mul_right 128 hn : _ ≤ 1 * 128)
    | ⟨2, _⟩ => show (0 + 1) * 1024 ≤ 1024; omega
  refine ⟨fun i => ⟨?_, .inr (Affine.block_words_dvd (of_decide_eq_true rfl) (by decide))⟩,
    fun i => ⟨?_, .inr (Affine.block_words_dvd (of_decide_eq_true rfl) (by decide))⟩⟩
  · unfold cc0_transform_0
    rw [word m]
    exact hb _ (rows i).1
  · unfold cc0_transform_1
    rw [word m]
    exact hb _ (rows i).2

end Table

section Body

/-- A landed part. -/
abbrev part (x : FVec Ideal S7x128x1024 .bf16) (p : Nat) (hi : ∀ a, (![p, 0, 0] : Fin 3 → Nat) a + ![1, 128, 1024] a ≤ S7x128x1024.size a) : FVec Ideal S1x128x1024 .bf16 :=
  View.ld (Val := Elt Ideal) (e' := .bf16) x (Rect.unit (s := S7x128x1024) ![p, 0, 0] ![1, 128, 1024] hi)

/-- A landed part's entry. -/
theorem part_at (x : FVec Ideal S7x128x1024 .bf16) (p : Nat) (hp : p < 7) (hi : ∀ a, (![p, 0, 0] : Fin 3 → Nat) a + ![1, 128, 1024] a ≤ S7x128x1024.size a) (a : Fin 128) (b : Fin 1024) :
    part x p hi (ix3 0 a b) = x (ix3 ⟨p, hp⟩ a b) :=
  View.ld_unit_apply_of (Val := Elt Ideal) _ _ _ _ _ (ix3 ⟨p, hp⟩ a b) fun k => match k with
      | ⟨0, _⟩ => rfl | ⟨1, _⟩ => (Nat.zero_add _).symm | ⟨2, _⟩ => (Nat.zero_add _).symm

variable (k : BitVec 1) (x0 x1 : FVec Ideal S1x128x1024 .bf16) (x2 x3 : FVec Ideal S7x128x1024 .bf16) (x4 x5 x6 : FVec Ideal S1x128x1024 .f32)

/-- The summed gradient of a block: the first layer's where `k` holds, else the second's. -/
abbrev grad : FVec Ideal S128x1024 .f32 :=
  k0_pay4 (F := Ideal) k
    (k0_pay3 (F := Ideal) x0 (part x2 0 inb_S7x128x1024_S1x128x1024_0_0_0) (part x2 1 inb_S7x128x1024_S1x128x1024_1_0_0) (part x2 2 inb_S7x128x1024_S1x128x1024_2_0_0) (part x2 3 inb_S7x128x1024_S1x128x1024_3_0_0) (part x2 4 inb_S7x128x1024_S1x128x1024_4_0_0) (part x2 5 inb_S7x128x1024_S1x128x1024_5_0_0) (part x2 6 inb_S7x128x1024_S1x128x1024_6_0_0))
    x1 (part x3 0 inb_S7x128x1024_S1x128x1024_0_0_0) (part x3 1 inb_S7x128x1024_S1x128x1024_1_0_0) (part x3 2 inb_S7x128x1024_S1x128x1024_2_0_0) (part x3 3 inb_S7x128x1024_S1x128x1024_3_0_0) (part x3 4 inb_S7x128x1024_S1x128x1024_4_0_0) (part x3 5 inb_S7x128x1024_S1x128x1024_5_0_0) (part x3 6 inb_S7x128x1024_S1x128x1024_6_0_0)

/-- Its entry in the first layer. -/
theorem grad_first (hk : k = 1#1) (a : Fin 128) (b : Fin 1024) : grad k x0 x1 x2 x3 (ix2 a b)
    = x0 (ix3 0 a b) + x2 (ix3 0 a b) + x2 (ix3 1 a b) + x2 (ix3 2 a b) + x2 (ix3 3 a b) + x2 (ix3 4 a b) + x2 (ix3 5 a b) + x2 (ix3 6 a b) := by
  subst hk
  unfold grad
  pointwise [k0_pay4, k0_pay3]
  exact congrArg₂ (· + ·) (congrArg₂ (· + ·) (congrArg₂ (· + ·) (congrArg₂ (· + ·) (congrArg₂ (· + ·) (congrArg₂ (· + ·) (congrArg _ (part_at x2 0 (by decide) _ a b))
    (part_at x2 1 (by decide) _ a b)) (part_at x2 2 (by decide) _ a b)) (part_at x2 3 (by decide) _ a b)) (part_at x2 4 (by decide) _ a b)) (part_at x2 5 (by decide) _ a b))
    (part_at x2 6 (by decide) _ a b)

/-- Its entry in the second layer. -/
theorem grad_second (hk : k = 0#1) (a : Fin 128) (b : Fin 1024) : grad k x0 x1 x2 x3 (ix2 a b)
    = x1 (ix3 0 a b) + x3 (ix3 0 a b) + x3 (ix3 1 a b) + x3 (ix3 2 a b) + x3 (ix3 3 a b) + x3 (ix3 4 a b) + x3 (ix3 5 a b) + x3 (ix3 6 a b) := by
  subst hk
  unfold grad
  pointwise [k0_pay4]
  exact congrArg₂ (· + ·) (congrArg₂ (· + ·) (congrArg₂ (· + ·) (congrArg₂ (· + ·) (congrArg₂ (· + ·) (congrArg₂ (· + ·) (congrArg _ (part_at x3 0 (by decide) _ a b))
    (part_at x3 1 (by decide) _ a b)) (part_at x3 2 (by decide) _ a b)) (part_at x3 3 (by decide) _ a b)) (part_at x3 4 (by decide) _ a b)) (part_at x3 5 (by decide) _ a b))
    (part_at x3 6 (by decide) _ a b)

variable (g w : FVec Ideal S128x1024 .f32)

/-- The stored gradient's entry. -/
theorem pay_g (a : Fin 128) (b : Fin 1024) : k0_pay8 (F := Ideal) g (ix3 0 a b) = g (ix2 a b) := by
  pointwise [k0_pay8]

/-- The stored first moment's entry. -/
theorem pay_m (a : Fin 128) (b : Fin 1024) : k0_pay1 (F := Ideal) (k0_pay6 (F := Ideal) g x5) (ix3 0 a b) = mom (x5 (ix3 0 a b)) (g (ix2 a b)) := by
  unfold mom
  pointwise [k0_pay1, k0_pay6]

/-- The stored second moment's entry. -/
theorem pay_v (a : Fin 128) (b : Fin 1024) : k0_pay2 (F := Ideal) (k0_pay7 (F := Ideal) g x6) (ix3 0 a b) = sec (x6 (ix3 0 a b)) (g (ix2 a b)) := by
  unfold sec
  pointwise [k0_pay2, k0_pay7]

/-- The stored update's entry. -/
theorem pay_u (a : Fin 128) (b : Fin 1024) : k0_pay9 (F := Ideal) g (k0_pay5 (F := Ideal) x4) x5 x6 (ix3 0 a b)
    = upd (x4 (ix3 0 a b)) (mom (x5 (ix3 0 a b)) (g (ix2 a b))) (sec (x6 (ix3 0 a b)) (g (ix2 a b))) := by
  unfold upd mom sec
  pointwise [k0_pay9, k0_pay7, k0_pay6, k0_pay5]

variable (c : Dev nD) (i : grid0.Coords) (r0 r1 : Memref sig .tc .vmem S1x128x1024 .bf16) (r2 r3 : Memref sig .tc .vmem S7x128x1024 .bf16)
  (r4 r5 r6 r7 r8 r9 r10 : Memref sig .tc .vmem S1x128x1024 .f32) (h0 : r0.IsWhole) (h1 : r1.IsWhole) (h2 : r2.IsWhole) (h3 : r3.IsWhole)
  (h4 : r4.IsWhole) (h5 : r5.IsWhole) (h6 : r6.IsWhole) (h7 : r7.IsWhole) (h8 : r8.IsWhole) (h9 : r9.IsWhole) (h10 : r10.IsWhole)
  (xt : TbBuf0 (F := Ideal) c tbM0_0)

/-- Whether the point is the first layer's. -/
abbrev first : BitVec 1 := Scalar.cmpi .eq (BitVec.ofNat 32 (i 0).val) 0#32

/-- What the body leaves in the gradient's block. -/
theorem out_g : out0_A_7 (F := Ideal) c i r0 h0 r1 h1 r2 h2 r3 h3 r4 h4 r5 h5 r6 h6 r7 h7 r8 h8 r9 h9 r10 h10 x0 x1 x2 x3 x4 x5 x6 xt
    = k0_pay8 (F := Ideal) (grad (first i) x0 x1 x2 x3) := by
  funext y
  unfold out0_A_7
  frame_out

/-- What the body leaves in the update's block. -/
theorem out_u : out0_A_8 (F := Ideal) c i r0 h0 r1 h1 r2 h2 r3 h3 r4 h4 r5 h5 r6 h6 r7 h7 r8 h8 r9 h9 r10 h10 x0 x1 x2 x3 x4 x5 x6 xt
    = k0_pay9 (F := Ideal) (grad (first i) x0 x1 x2 x3) (k0_pay5 (F := Ideal) x4) x5 x6 := by
  funext y
  unfold out0_A_8
  frame_out

/-- What the body leaves in the first moment's block. -/
theorem out_m : out0_A_9 (F := Ideal) c i r0 h0 r1 h1 r2 h2 r3 h3 r4 h4 r5 h5 r6 h6 r7 h7 r8 h8 r9 h9 r10 h10 x0 x1 x2 x3 x4 x5 x6 xt
    = k0_pay1 (F := Ideal) (k0_pay6 (F := Ideal) (grad (first i) x0 x1 x2 x3) x5) := by
  funext y
  unfold out0_A_9
  frame_out

/-- What the body leaves in the second moment's block. -/
theorem out_v : out0_A_10 (F := Ideal) c i r0 h0 r1 h1 r2 h2 r3 h3 r4 h4 r5 h5 r6 h6 r7 h7 r8 h8 r9 h9 r10 h10 x0 x1 x2 x3 x4 x5 x6 xt
    = k0_pay2 (F := Ideal) (k0_pay7 (F := Ideal) (grad (first i) x0 x1 x2 x3) x6) := by
  funext y
  unfold out0_A_10
  frame_out

end Body

variable (m : (ℓ : Loc nD τ sig) → Buf (Elt Ideal) ℓ) (hO : Ok m)

/-- The first layer's own gradients as launched. -/
abbrev aO0 (c : Dev nD) : FVec Ideal S8x128x1024 .bf16 := m ((c : Thread nD τ).loc main_arg0)
/-- The second layer's own gradients as launched. -/
abbrev aO1 (c : Dev nD) : FVec Ideal S8x128x1024 .bf16 := m ((c : Thread nD τ).loc main_arg1)
/-- The first layer's landed gradients as launched. -/
abbrev aL0 (c : Dev nD) : FVec Ideal S7x128x1024 .bf16 := m ((c : Thread nD τ).loc main_arg2)
/-- The second layer's landed gradients as launched. -/
abbrev aL1 (c : Dev nD) : FVec Ideal S7x128x1024 .bf16 := m ((c : Thread nD τ).loc main_arg3)
/-- The weights as launched. -/
abbrev aW (c : Dev nD) : FVec Ideal S2x128x1024 .f32 := m ((c : Thread nD τ).loc main_arg4)
/-- The first moments as launched. -/
abbrev aM (c : Dev nD) : FVec Ideal S2x128x1024 .f32 := m ((c : Thread nD τ).loc main_arg5)
/-- The second moments as launched. -/
abbrev aV (c : Dev nD) : FVec Ideal S2x128x1024 .f32 := m ((c : Thread nD τ).loc main_arg6)
/-- The device's index as launched. -/
abbrev aD (c : Dev nD) : IVec S1 32 := m ((c : Thread nD τ).loc main_arg7)

/-- The reference's gradient of the launched arrays. -/
abbrev G (c : Dev nD) : FVec Ideal S2x128x1024 .f32 := RG (aO0 m c) (aO1 m c) (aL0 m c) (aL1 m c) (aD m c)

/-- The index maps in closed form: `t` runs over the first layer's row blocks and then over the second's. -/
theorem idx_val : ∀ t : Fin grid0.N,
    (t.val < 1 → cc0_transform_2 (grid0.coords t) = ![0, t.val, 0]
      ∧ (Scalar.select (Scalar.cmpi .eq (BitVec.ofNat 32 (grid0.coords t 0).val) 0#32) (BitVec.ofNat 32 (grid0.coords t 1).val) 0#32).toNat = t.val
      ∧ first (grid0.coords t) = 1#1)
    ∧ (1 ≤ t.val → cc0_transform_3 (grid0.coords t) = ![0, t.val - 1, 0]
      ∧ (Scalar.select (Scalar.cmpi .eq (BitVec.ofNat 32 (grid0.coords t 0).val) 1#32) (BitVec.ofNat 32 (grid0.coords t 1).val) 0#32).toNat = t.val - 1
      ∧ first (grid0.coords t) = 0#1)
    ∧ cc0_transform_4 (grid0.coords t) = ![t.val / 1, t.val % 1, 0] := by decide +kernel

/-- Every block of a result is some point's. -/
theorem onto (β : (a : Fin 3) → Fin ((S2x128x1024.size a + S1x128x1024.size a - 1) / S1x128x1024.size a)) :
    ∃ t : Fin grid0.N, ∀ a, cc0_transform_4 (grid0.coords t) a = (β a).val := by
  revert β
  decide +kernel

section Blocks

variable (c : Dev nD) (t : Fin (cfgM m hO).N)

theorem idx0 (h : t.val < 1) : ((cfgM m hO).win 0).index t = ![(me m 0).toNat, t.val, 0] := by
  show cc0_transform_0 inb_S1_S1_0 numel1_S1 (tbl m) (grid0.coords t) = _
  unfold cc0_transform_0
  rw [word m]
  exact congrArg (fun n => ![(me m 0).toNat, n, 0]) ((idx_val t).1 h).2.1

theorem idx1 (h : 1 ≤ t.val) : ((cfgM m hO).win 1).index t = ![(me m 0).toNat, t.val - 1, 0] := by
  show cc0_transform_1 inb_S1_S1_0 numel1_S1 (tbl m) (grid0.coords t) = _
  unfold cc0_transform_1
  rw [word m]
  exact congrArg (fun n => ![(me m 0).toNat, n, 0]) ((idx_val t).2.1 h).2.1

theorem idx2 (h : t.val < 1) : ((cfgM m hO).win 2).index t = ![0, t.val, 0] := ((idx_val t).1 h).1

theorem idx3 (h : 1 ≤ t.val) : ((cfgM m hO).win 3).index t = ![0, t.val - 1, 0] := ((idx_val t).2.1 h).1

/-- The other seven windows stand at the layer's row block. -/
theorem idxW : ((cfgM m hO).win 4).index t = ![t.val / 1, t.val % 1, 0] ∧ ((cfgM m hO).win 5).index t = ![t.val / 1, t.val % 1, 0]
    ∧ ((cfgM m hO).win 6).index t = ![t.val / 1, t.val % 1, 0] ∧ ((cfgM m hO).win 7).index t = ![t.val / 1, t.val % 1, 0]
    ∧ ((cfgM m hO).win 8).index t = ![t.val / 1, t.val % 1, 0] ∧ ((cfgM m hO).win 9).index t = ![t.val / 1, t.val % 1, 0]
    ∧ ((cfgM m hO).win 10).index t = ![t.val / 1, t.val % 1, 0] :=
  have h := (idx_val t).2.2
  ⟨h, h, h, h, h, h, h⟩

variable (j : Fin 8) (hj : j.val = (me m 0).toNat) (a : Fin 128) (r : Fin 128) (k : Fin 1024)
include hj

/-- The first layer's own gradient's block. -/
theorem blkO0 (h : t.val < 1) (hr : r.val = t.val * 128 + a.val) :
    (show FVec Ideal S1x128x1024 .bf16 from iblk m hO c 0 t) (ix3 0 a k) = aO0 m c (ix3 j r k) := by
  show iblk m hO c 0 t (ix3 0 a k) = _
  blk_ext [iblk, V, idx0 m hO t h]

/-- The second layer's own gradient's block. -/
theorem blkO1 (h : 1 ≤ t.val) (hr : r.val = (t.val - 1) * 128 + a.val) :
    (show FVec Ideal S1x128x1024 .bf16 from iblk m hO c 1 t) (ix3 0 a k) = aO1 m c (ix3 j r k) := by
  show iblk m hO c 1 t (ix3 0 a k) = _
  blk_ext [iblk, V, idx1 m hO t h]

omit hj

/-- The first layer's landed gradients' block. -/
theorem blkL0 (p : Fin 7) (h : t.val < 1) (hr : r.val = t.val * 128 + a.val) :
    (show FVec Ideal S7x128x1024 .bf16 from iblk m hO c 2 t) (ix3 p a k) = aL0 m c (ix3 p r k) := by
  show iblk m hO c 2 t (ix3 p a k) = _
  blk_ext [iblk, V, idx2 m hO t h]

/-- The second layer's landed gradients' block. -/
theorem blkL1 (p : Fin 7) (h : 1 ≤ t.val) (hr : r.val = (t.val - 1) * 128 + a.val) :
    (show FVec Ideal S7x128x1024 .bf16 from iblk m hO c 3 t) (ix3 p a k) = aL1 m c (ix3 p r k) := by
  show iblk m hO c 3 t (ix3 p a k) = _
  blk_ext [iblk, V, idx3 m hO t h]

variable (s : Fin 2) (hs : s.val = t.val / 1) (hr : r.val = t.val % 1 * 128 + a.val)
include hs hr

/-- The weights' block. -/
theorem blkW : (show FVec Ideal S1x128x1024 .f32 from iblk m hO c 4 t) (ix3 0 a k) = aW m c (ix3 s r k) := by
  show iblk m hO c 4 t (ix3 0 a k) = _
  blk_ext [iblk, V, (idxW m hO t).1]

/-- The first moments' block. -/
theorem blkM : (show FVec Ideal S1x128x1024 .f32 from iblk m hO c 5 t) (ix3 0 a k) = aM m c (ix3 s r k) := by
  show iblk m hO c 5 t (ix3 0 a k) = _
  blk_ext [iblk, V, (idxW m hO t).2.1]

/-- The second moments' block. -/
theorem blkV : (show FVec Ideal S1x128x1024 .f32 from iblk m hO c 6 t) (ix3 0 a k) = aV m c (ix3 s r k) := by
  show iblk m hO c 6 t (ix3 0 a k) = _
  blk_ext [iblk, V, (idxW m hO t).2.2.1]

/-- The gradient that the body sums at a point. -/
abbrev gP : FVec Ideal S128x1024 .f32 :=
  grad (first (grid0.coords t)) (iblk m hO c 0 t) (iblk m hO c 1 t) (iblk m hO c 2 t) (iblk m hO c 3 t)

include hj in
/-- It is the reference's. -/
theorem gP_at : gP m hO c t (ix2 a k) = G m c (ix3 s r k) := by
  have hc : me m 0 = aD m c (ix1 0) := by obtain rfl : c = 0 := Subsingleton.elim _ _; rfl
  rcases lt_or_ge t.val 1 with h | h
  · have hr' : r.val = t.val * 128 + a.val := by rw [hr, Nat.mod_eq_of_lt h]
    obtain rfl : s = 0 := Fin.ext (hs.trans (Nat.div_eq_of_lt h))
    refine (grad_first _ _ _ _ _ ((idx_val t).1 h).2.2 a k).trans (Eq.trans ?_ ((total_eq (fun x => aO0 m c (ix3 x r k)) (fun x => aL0 m c (ix3 x r k)) _ j
      (hj.trans (congrArg BitVec.toNat hc))).trans (ref_g0 _ _ _ _ _ r k).symm))
    have o := blkO0 m hO c t j hj a r k h hr'
    have l := fun p => blkL0 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)
  · have hN : t.val < 2 * 1 := t.isLt
    have hq : t.val % 1 = t.val - 1 := by omega
    have hr' : r.val = (t.val - 1) * 128 + a.val := by rw [hr, hq]
    obtain rfl : s = 1 := Fin.ext (hs.trans (by show t.val / 1 = 1; omega))
    refine (grad_second _ _ _ _ _ ((idx_val t).2.1 h).2.2 a k).trans (Eq.trans ?_ ((total_eq (fun x => aO1 m c (ix3 x r k)) (fun x => aL1 m c (ix3 x r k)) _ j
      (hj.trans (congrArg BitVec.toNat hc))).trans (ref_g1 _ _ _ _ _ r k).symm))
    have o := blkO1 m hO c t j hj a r k h hr'
    have l := fun p => blkL1 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)

end Blocks

/-- The reference's first moment of the launched arrays. -/
abbrev M' (c : Dev nD) : FVec Ideal S2x128x1024 .f32 := RM (aO0 m c) (aO1 m c) (aL0 m c) (aL1 m c) (aM m c) (aD m c)
/-- The reference's second moment of the launched arrays. -/
abbrev V' (c : Dev nD) : FVec Ideal S2x128x1024 .f32 := RV (aO0 m c) (aO1 m c) (aL0 m c) (aL1 m c) (aV m c) (aD m c)
/-- The reference's update of the launched arrays. -/
abbrev U' (c : Dev nD) : FVec Ideal S2x128x1024 .f32 := RU (aO0 m c) (aO1 m c) (aL0 m c) (aL1 m c) (aW m c) (aM m c) (aV m c) (aD m c)

section Final

/-- What a point leaves in its four blocks. -/
theorem left (c : Dev nD) (t : Fin grid0.N) : outsAt0 m hO c t = (k0_pay8 (F := Ideal) (gP m hO c t),
    k0_pay9 (F := Ideal) (gP m hO c t) (k0_pay5 (F := Ideal) (iblk m hO c 4 t)) (iblk m hO c 5 t) (iblk m hO c 6 t),
    k0_pay1 (F := Ideal) (k0_pay6 (F := Ideal) (gP m hO c t) (iblk m hO c 5 t)), k0_pay2 (F := Ideal) (k0_pay7 (F := Ideal) (gP m hO c t) (iblk m hO c 6 t))) := by
  unfold outsAt0
  exact congrArg₂ Prod.mk (out_g ..) (congrArg₂ Prod.mk (out_u ..) (congrArg₂ Prod.mk (out_m ..) (out_v ..)))

/-- The row block of a point. -/
abbrev row (t : Fin grid0.N) (a : Fin 128) : Fin 128 := ⟨t.val % 1 * 128 + a.val, by omega⟩

/-- The layer of a point. -/
abbrev layer (t : Fin grid0.N) : Fin 2 := ⟨t.val / 1, by have : t.val < 2 * 1 := t.isLt; omega⟩

section Entries

variable (h8 : (me m 0).toNat < 8) (c : Dev nD) (t : Fin grid0.N) (a : Fin 128) (k : Fin 1024)
include h8

/-- The gradient's entry at a point. -/
theorem at_g : (outsAt0 m hO c t).1 (ix3 0 a k) = G m c (ix3 (layer t) (row t a) k) := by
  rw [left m hO c t]
  exact (pay_g _ a k).trans (gP_at m hO c t ⟨_, h8⟩ rfl a (row t a) k (layer t) rfl rfl)

/-- The first moment's entry at a point. -/
theorem at_m : (outsAt0 m hO c t).2.2.1 (ix3 0 a k) = M' m c (ix3 (layer t) (row t a) k) := by
  rw [left m hO c t]
  refine (pay_m _ _ a k).trans (Eq.trans ?_ (ref_m _ _ _ _ _ _ _ _ _).symm)
  exact congrArg₂ mom (blkM m hO c t a (row t a) k (layer t) rfl rfl) (gP_at m hO c t ⟨_, h8⟩ rfl a (row t a) k (layer t) rfl rfl)

/-- The second moment's entry at a point. -/
theorem at_v : (outsAt0 m hO c t).2.2.2 (ix3 0 a k) = V' m c (ix3 (layer t) (row t a) k) := by
  rw [left m hO c t]
  refine (pay_v _ _ a k).trans (Eq.trans ?_ (ref_v _ _ _ _ _ _ _ _ _).symm)
  exact congrArg₂ sec (blkV m hO c t a (row t a) k (layer t) rfl rfl) (gP_at m hO c t ⟨_, h8⟩ rfl a (row t a) k (layer t) rfl rfl)

/-- The update's entry at a point. -/
theorem at_u : (outsAt0 m hO c t).2.1 (ix3 0 a k) = U' m c (ix3 (layer t) (row t a) k) := by
  rw [left m hO c t]
  refine (pay_u _ _ _ _ a k).trans (Eq.trans ?_ (ref_u _ _ _ _ _ _ _ _ _ _ _).symm)
  have g := gP_at m hO c t ⟨_, h8⟩ rfl a (row t a) k (layer t) rfl rfl
  refine congr (congrArg₂ upd (blkW m hO c t a (row t a) k (layer t) rfl rfl) ?_) ?_
  · exact (congrArg₂ mom (blkM m hO c t a (row t a) k (layer t) rfl rfl) g).trans (ref_m _ _ _ _ _ _ _ _ _).symm
  · exact (congrArg₂ sec (blkV m hO c t a (row t a) k (layer t) rfl rfl) g).trans (ref_v _ _ _ _ _ _ _ _ _).symm

end Entries

/-- A window's block is not empty. -/
theorem block_pos (a : Fin S1x128x1024.rank) : 0 < S1x128x1024.size a := by
  revert a
  exact (by decide : ∀ a : Fin 3, 0 < S1x128x1024.size a)

variable (h8 : (me m 0).toNat < 8) (c : Dev nD)
include h8

/-- The gradients' array after the run. -/
theorem final7 : (dats m hO 0 c).arrAt 7 (cfgM m hO).N = G m c := by
  refine (dats m hO 0 c).arrAt_eq_of_covers 7 _ ⟨block_pos, fun β => ?_⟩ fun t hf y => ?_
  · obtain ⟨t, ht⟩ := onto β
    exact ⟨t, flush0_7 _ _, fun a => ⟨ht a, .inl rfl⟩⟩
  blk_simp
  rw [after0_7]
  revert y
  refine fun (y : S1x128x1024.Idx) => ?_
  idx_vars y
  obtain rfl : y0 = 0 := Subsingleton.elim _ _
  have e : (((cfgM m hO).win 7).blk t).view.emb (ix3 0 y1 y2) = ix3 (layer t) (row t y1) y2 := by blk_ext [(idxW m hO t).2.2.2.1]
  rw [e]
  exact at_g m hO h8 c t y1 y2

/-- The updates' array after the run. -/
theorem final8 : (dats m hO 0 c).arrAt 8 (cfgM m hO).N = U' m c := by
  refine (dats m hO 0 c).arrAt_eq_of_covers 8 _ ⟨block_pos, fun β => ?_⟩ fun t hf y => ?_
  · obtain ⟨t, ht⟩ := onto β
    exact ⟨t, flush0_8 _ _, fun a => ⟨ht a, .inl rfl⟩⟩
  blk_simp
  rw [after0_8]
  revert y
  refine fun (y : S1x128x1024.Idx) => ?_
  idx_vars y
  obtain rfl : y0 = 0 := Subsingleton.elim _ _
  have e : (((cfgM m hO).win 8).blk t).view.emb (ix3 0 y1 y2) = ix3 (layer t) (row t y1) y2 := by blk_ext [(idxW m hO t).2.2.2.2.1]
  rw [e]
  exact at_u m hO h8 c t y1 y2

/-- The first moments' array after the run. -/
theorem final9 : (dats m hO 0 c).arrAt 9 (cfgM m hO).N = M' m c := by
  refine (dats m hO 0 c).arrAt_eq_of_covers 9 _ ⟨block_pos, fun β => ?_⟩ fun t hf y => ?_
  · obtain ⟨t, ht⟩ := onto β
    exact ⟨t, flush0_9 _ _, fun a => ⟨ht a, .inl rfl⟩⟩
  blk_simp
  rw [after0_9]
  revert y
  refine fun (y : S1x128x1024.Idx) => ?_
  idx_vars y
  obtain rfl : y0 = 0 := Subsingleton.elim _ _
  have e : (((cfgM m hO).win 9).blk t).view.emb (ix3 0 y1 y2) = ix3 (layer t) (row t y1) y2 := by blk_ext [(idxW m hO t).2.2.2.2.2.1]
  rw [e]
  exact at_m m hO h8 c t y1 y2

/-- The second moments' array after the run. -/
theorem final10 : (dats m hO 0 c).arrAt 10 (cfgM m hO).N = V' m c := by
  refine (dats m hO 0 c).arrAt_eq_of_covers 10 _ ⟨block_pos, fun β => ?_⟩ fun t hf y => ?_
  · obtain ⟨t, ht⟩ := onto β
    exact ⟨t, flush0_10 _ _, fun a => ⟨ht a, .inl rfl⟩⟩
  blk_simp
  rw [after0_10]
  revert y
  refine fun (y : S1x128x1024.Idx) => ?_
  idx_vars y
  obtain rfl : y0 = 0 := Subsingleton.elim _ _
  have e : (((cfgM m hO).win 10).blk t).view.emb (ix3 0 y1 y2) = ix3 (layer t) (row t y1) y2 := by blk_ext [(idxW m hO t).2.2.2.2.2.2]
  rw [e]
  exact at_v m hO h8 c t y1 y2

end Final

end Cert.UpSquareIdeal.Val

end
-- ==== Proof.ValUpCol.lean ====
/- The value of the sharded optimiser over weights of 1024 rows and 256 columns a device: the summed gradient, the update
   and the two moments are the reference's. -/
module

public import proofs.«01_k».proof.Proof.Gen.UpColIdeal.Frame
public import proofs.«01_k».proof.Proof.Gen.UpColRefIdeal.Read
public import proofs.«01_k».proof.Proof.Up

@[expose] public section

set_option maxRecDepth 16384

noncomputable section

open Idealize.ShloMosaic Idealize.ShloMosaic.TcCoe Idealize.SL.Sem
open Idealize.ShloMosaic.Pipeline (Dat)
open Cert.Up
open scoped BigOperators

namespace Cert.UpColIdeal.Val

open Cert.UpColIdeal Cert.UpColIdeal.Gen

section Reference

open Cert.UpColRefIdeal.Read

variable (o0 o1 : FVec Ideal Cert.UpColRefIdeal.S8x1024x256 .bf16) (l0 l1 : FVec Ideal Cert.UpColRefIdeal.S7x1024x256 .bf16)
  (w p q : FVec Ideal Cert.UpColRefIdeal.S2x1024x256 .f32) (d : IVec Cert.UpColRefIdeal.S1 32)

/-- The reference's gradient. -/
abbrev RG : FVec Ideal Cert.UpColRefIdeal.S2x1024x256 .f32 := val_main_v24 (F := Ideal) o0 o1 l0 l1 d
/-- The reference's first moment. -/
abbrev RM : FVec Ideal Cert.UpColRefIdeal.S2x1024x256 .f32 := val_main_v29 (F := Ideal) o0 o1 l0 l1 p d
/-- The reference's second moment. -/
abbrev RV : FVec Ideal Cert.UpColRefIdeal.S2x1024x256 .f32 := val_main_v35 (F := Ideal) o0 o1 l0 l1 q d
/-- The reference's update. -/
abbrev RU : FVec Ideal Cert.UpColRefIdeal.S2x1024x256 .f32 := val_main_v48 (F := Ideal) o0 o1 l0 l1 w p q d

/-- The first layer's gradient. -/
theorem ref_g0 (a : Fin 1024) (b : Fin 256) :
    RG o0 o1 l0 l1 d (ix3 0 a b) = total (fun x => o0 (ix3 x a b)) (fun x => l0 (ix3 x a b)) (d (ix1 0)) := by
  unfold RG total
  pointwise [val_main_v24,val_main_v22,val_main_v10,val_main_v9,val_main_v8,val_main_v7,val_main_v6,val_main_v5,val_main_v4,val_main_v3,val_main_v2,val_main_v1,val_main_v0,val_main_cst,val_main_cst_0,val_main_cst_1]

/-- The second layer's gradient. -/
theorem ref_g1 (a : Fin 1024) (b : Fin 256) :
    RG o0 o1 l0 l1 d (ix3 1 a b) = total (fun x => o1 (ix3 x a b)) (fun x => l1 (ix3 x a b)) (d (ix1 0)) := by
  unfold RG total
  pointwise [val_main_v24,val_main_v23,val_main_v21,val_main_v20,val_main_v19,val_main_v18,val_main_v17,val_main_v16,val_main_v15,val_main_v14,val_main_v13,val_main_v12,val_main_v11,val_main_cst_2,val_main_cst_3,val_main_cst_4]

/-- The first moment's entry. -/
theorem ref_m (s : Fin 2) (a : Fin 1024) (b : Fin 256) :
    RM o0 o1 l0 l1 p d (ix3 s a b) = mom (p (ix3 s a b)) (RG o0 o1 l0 l1 d (ix3 s a b)) := by
  unfold RM RG mom
  pointwise [val_main_v29,val_main_v28,val_main_v27,val_main_v26,val_main_v25,val_main_cst_5,val_main_cst_6]

/-- The second moment's entry. -/
theorem ref_v (s : Fin 2) (a : Fin 1024) (b : Fin 256) :
    RV o0 o1 l0 l1 q d (ix3 s a b) = sec (q (ix3 s a b)) (RG o0 o1 l0 l1 d (ix3 s a b)) := by
  unfold RV RG sec
  pointwise [val_main_v35,val_main_v34,val_main_v33,val_main_v32,val_main_v31,val_main_v30,val_main_cst_7,val_main_cst_8]

/-- The update's entry. -/
theorem ref_u (s : Fin 2) (a : Fin 1024) (b : Fin 256) :
    RU o0 o1 l0 l1 w p q d (ix3 s a b) = upd (w (ix3 s a b)) (RM o0 o1 l0 l1 p d (ix3 s a b)) (RV o0 o1 l0 l1 q d (ix3 s a b)) := by
  unfold RU RM RV upd
  pointwise [val_main_v48,val_main_v47,val_main_v46,val_main_v45,val_main_v44,val_main_v43,val_main_v42,val_main_v41,val_main_v40,val_main_v39,val_main_v38,val_main_v37,val_main_v36,val_main_cst_9,val_main_cst_10,val_main_cst_11,val_main_cst_12,val_main_cst_13]

end Reference

section Table

variable {F : FTy → Type} [FloatOps F] (m : (ℓ : Loc nD τ sig) → Buf (Elt F) ℓ)

/-- The device's index, as launched. -/
abbrev me (c : Dev nD) : BitVec 32 := (show IVec S1 32 from m ((c : Thread nD τ).loc main_arg7)) (ix1 0)

/-- The word that the index maps read is the device's index. -/
theorem word : (tbl m).at 0 (Rect.unit (s := S1) ![0] S1.size inb_S1_S1_0) numel1_S1 = me m 0 := by
  show (tbl m) 0 _ = (show IVec S1 32 from m (((0 : Dev nD) : Thread nD τ).loc main_arg7)) (ix1 0)
  unfold tbl
  simp only [V_main_arg7]
  blk_ext

/-- The rows at which the two layers' windows stand. -/
theorem rows : ∀ i : grid0.Coords,
    (Scalar.select (Scalar.cmpi .eq (BitVec.ofNat 32 (i 0).val) 0#32) (BitVec.ofNat 32 (i 1).val) 3#32).toNat < 4
    ∧ (Scalar.select (Scalar.cmpi .eq (BitVec.ofNat 32 (i 0).val) 1#32) (BitVec.ofNat 32 (i 1).val) 0#32).toNat < 4 := by decide +kernel

/-- Where the device's index is below eight, every block lies in its array. -/
theorem ok (h : (me m 0).toNat < 8) : Ok m := by
  have hb : ∀ n, n < 4 → ∀ a : Fin 3, ((![(me m 0).toNat, n, 0] : Fin 3 → Nat) a + 1) * S1x256x256.size a ≤ S8x1024x256.size a := fun n hn a => by
    match a with
    | ⟨0, _⟩ => show ((me m 0).toNat + 1) * 1 ≤ 8; omega
    | ⟨1, _⟩ => exact (Nat.mul_le_mul_right 256 hn : _ ≤ 4 * 256)
    | ⟨2, _⟩ => show (0 + 1) * 256 ≤ 256; omega
  refine ⟨fun i => ⟨?_, .inr (Affine.block_words_dvd (of_decide_eq_true rfl) (by decide))⟩,
    fun i => ⟨?_, .inr (Affine.block_words_dvd (of_decide_eq_true rfl) (by decide))⟩⟩
  · unfold cc0_transform_0
    rw [word m]
    exact hb _ (rows i).1
  · unfold cc0_transform_1
    rw [word m]
    exact hb _ (rows i).2

end Table

section Body

/-- A landed part. -/
abbrev part (x : FVec Ideal S7x256x256 .bf16) (p : Nat) (hi : ∀ a, (![p, 0, 0] : Fin 3 → Nat) a + ![1, 256, 256] a ≤ S7x256x256.size a) : FVec Ideal S1x256x256 .bf16 :=
  View.ld (Val := Elt Ideal) (e' := .bf16) x (Rect.unit (s := S7x256x256) ![p, 0, 0] ![1, 256, 256] hi)

/-- A landed part's entry. -/
theorem part_at (x : FVec Ideal S7x256x256 .bf16) (p : Nat) (hp : p < 7) (hi : ∀ a, (![p, 0, 0] : Fin 3 → Nat) a + ![1, 256, 256] a ≤ S7x256x256.size a) (a : Fin 256) (b : Fin 256) :
    part x p hi (ix3 0 a b) = x (ix3 ⟨p, hp⟩ a b) :=
  View.ld_unit_apply_of (Val := Elt Ideal) _ _ _ _ _ (ix3 ⟨p, hp⟩ a b) fun k => match k with
      | ⟨0, _⟩ => rfl | ⟨1, _⟩ => (Nat.zero_add _).symm | ⟨2, _⟩ => (Nat.zero_add _).symm

variable (k : BitVec 1) (x0 x1 : FVec Ideal S1x256x256 .bf16) (x2 x3 : FVec Ideal S7x256x256 .bf16) (x4 x5 x6 : FVec Ideal S1x256x256 .f32)

/-- The summed gradient of a block: the first layer's where `k` holds, else the second's. -/
abbrev grad : FVec Ideal S256x256 .f32 :=
  k0_pay4 (F := Ideal) k
    (k0_pay3 (F := Ideal) x0 (part x2 0 inb_S7x256x256_S1x256x256_0_0_0) (part x2 1 inb_S7x256x256_S1x256x256_1_0_0) (part x2 2 inb_S7x256x256_S1x256x256_2_0_0) (part x2 3 inb_S7x256x256_S1x256x256_3_0_0) (part x2 4 inb_S7x256x256_S1x256x256_4_0_0) (part x2 5 inb_S7x256x256_S1x256x256_5_0_0) (part x2 6 inb_S7x256x256_S1x256x256_6_0_0))
    x1 (part x3 0 inb_S7x256x256_S1x256x256_0_0_0) (part x3 1 inb_S7x256x256_S1x256x256_1_0_0) (part x3 2 inb_S7x256x256_S1x256x256_2_0_0) (part x3 3 inb_S7x256x256_S1x256x256_3_0_0) (part x3 4 inb_S7x256x256_S1x256x256_4_0_0) (part x3 5 inb_S7x256x256_S1x256x256_5_0_0) (part x3 6 inb_S7x256x256_S1x256x256_6_0_0)

/-- Its entry in the first layer. -/
theorem grad_first (hk : k = 1#1) (a : Fin 256) (b : Fin 256) : grad k x0 x1 x2 x3 (ix2 a b)
    = x0 (ix3 0 a b) + x2 (ix3 0 a b) + x2 (ix3 1 a b) + x2 (ix3 2 a b) + x2 (ix3 3 a b) + x2 (ix3 4 a b) + x2 (ix3 5 a b) + x2 (ix3 6 a b) := by
  subst hk
  unfold grad
  pointwise [k0_pay4, k0_pay3]
  exact congrArg₂ (· + ·) (congrArg₂ (· + ·) (congrArg₂ (· + ·) (congrArg₂ (· + ·) (congrArg₂ (· + ·) (congrArg₂ (· + ·) (congrArg _ (part_at x2 0 (by decide) _ a b))
    (part_at x2 1 (by decide) _ a b)) (part_at x2 2 (by decide) _ a b)) (part_at x2 3 (by decide) _ a b)) (part_at x2 4 (by decide) _ a b)) (part_at x2 5 (by decide) _ a b))
    (part_at x2 6 (by decide) _ a b)

/-- Its entry in the second layer. -/
theorem grad_second (hk : k = 0#1) (a : Fin 256) (b : Fin 256) : grad k x0 x1 x2 x3 (ix2 a b)
    = x1 (ix3 0 a b) + x3 (ix3 0 a b) + x3 (ix3 1 a b) + x3 (ix3 2 a b) + x3 (ix3 3 a b) + x3 (ix3 4 a b) + x3 (ix3 5 a b) + x3 (ix3 6 a b) := by
  subst hk
  unfold grad
  pointwise [k0_pay4]
  exact congrArg₂ (· + ·) (congrArg₂ (· + ·) (congrArg₂ (· + ·) (congrArg₂ (· + ·) (congrArg₂ (· + ·) (congrArg₂ (· + ·) (congrArg _ (part_at x3 0 (by decide) _ a b))
    (part_at x3 1 (by decide) _ a b)) (part_at x3 2 (by decide) _ a b)) (part_at x3 3 (by decide) _ a b)) (part_at x3 4 (by decide) _ a b)) (part_at x3 5 (by decide) _ a b))
    (part_at x3 6 (by decide) _ a b)

variable (g w : FVec Ideal S256x256 .f32)

/-- The stored gradient's entry. -/
theorem pay_g (a : Fin 256) (b : Fin 256) : k0_pay8 (F := Ideal) g (ix3 0 a b) = g (ix2 a b) := by
  pointwise [k0_pay8]

/-- The stored first moment's entry. -/
theorem pay_m (a : Fin 256) (b : Fin 256) : k0_pay1 (F := Ideal) (k0_pay6 (F := Ideal) g x5) (ix3 0 a b) = mom (x5 (ix3 0 a b)) (g (ix2 a b)) := by
  unfold mom
  pointwise [k0_pay1, k0_pay6]

/-- The stored second moment's entry. -/
theorem pay_v (a : Fin 256) (b : Fin 256) : k0_pay2 (F := Ideal) (k0_pay7 (F := Ideal) g x6) (ix3 0 a b) = sec (x6 (ix3 0 a b)) (g (ix2 a b)) := by
  unfold sec
  pointwise [k0_pay2, k0_pay7]

/-- The stored update's entry. -/
theorem pay_u (a : Fin 256) (b : Fin 256) : k0_pay9 (F := Ideal) g (k0_pay5 (F := Ideal) x4) x5 x6 (ix3 0 a b)
    = upd (x4 (ix3 0 a b)) (mom (x5 (ix3 0 a b)) (g (ix2 a b))) (sec (x6 (ix3 0 a b)) (g (ix2 a b))) := by
  unfold upd mom sec
  pointwise [k0_pay9, k0_pay7, k0_pay6, k0_pay5]

variable (c : Dev nD) (i : grid0.Coords) (r0 r1 : Memref sig .tc .vmem S1x256x256 .bf16) (r2 r3 : Memref sig .tc .vmem S7x256x256 .bf16)
  (r4 r5 r6 r7 r8 r9 r10 : Memref sig .tc .vmem S1x256x256 .f32) (h0 : r0.IsWhole) (h1 : r1.IsWhole) (h2 : r2.IsWhole) (h3 : r3.IsWhole)
  (h4 : r4.IsWhole) (h5 : r5.IsWhole) (h6 : r6.IsWhole) (h7 : r7.IsWhole) (h8 : r8.IsWhole) (h9 : r9.IsWhole) (h10 : r10.IsWhole)
  (xt : TbBuf0 (F := Ideal) c tbM0_0)

/-- Whether the point is the first layer's. -/
abbrev first : BitVec 1 := Scalar.cmpi .eq (BitVec.ofNat 32 (i 0).val) 0#32

/-- What the body leaves in the gradient's block. -/
theorem out_g : out0_A_7 (F := Ideal) c i r0 h0 r1 h1 r2 h2 r3 h3 r4 h4 r5 h5 r6 h6 r7 h7 r8 h8 r9 h9 r10 h10 x0 x1 x2 x3 x4 x5 x6 xt
    = k0_pay8 (F := Ideal) (grad (first i) x0 x1 x2 x3) := by
  funext y
  unfold out0_A_7
  frame_out

/-- What the body leaves in the update's block. -/
theorem out_u : out0_A_8 (F := Ideal) c i r0 h0 r1 h1 r2 h2 r3 h3 r4 h4 r5 h5 r6 h6 r7 h7 r8 h8 r9 h9 r10 h10 x0 x1 x2 x3 x4 x5 x6 xt
    = k0_pay9 (F := Ideal) (grad (first i) x0 x1 x2 x3) (k0_pay5 (F := Ideal) x4) x5 x6 := by
  funext y
  unfold out0_A_8
  frame_out

/-- What the body leaves in the first moment's block. -/
theorem out_m : out0_A_9 (F := Ideal) c i r0 h0 r1 h1 r2 h2 r3 h3 r4 h4 r5 h5 r6 h6 r7 h7 r8 h8 r9 h9 r10 h10 x0 x1 x2 x3 x4 x5 x6 xt
    = k0_pay1 (F := Ideal) (k0_pay6 (F := Ideal) (grad (first i) x0 x1 x2 x3) x5) := by
  funext y
  unfold out0_A_9
  frame_out

/-- What the body leaves in the second moment's block. -/
theorem out_v : out0_A_10 (F := Ideal) c i r0 h0 r1 h1 r2 h2 r3 h3 r4 h4 r5 h5 r6 h6 r7 h7 r8 h8 r9 h9 r10 h10 x0 x1 x2 x3 x4 x5 x6 xt
    = k0_pay2 (F := Ideal) (k0_pay7 (F := Ideal) (grad (first i) x0 x1 x2 x3) x6) := by
  funext y
  unfold out0_A_10
  frame_out

end Body

variable (m : (ℓ : Loc nD τ sig) → Buf (Elt Ideal) ℓ) (hO : Ok m)

/-- The first layer's own gradients as launched. -/
abbrev aO0 (c : Dev nD) : FVec Ideal S8x1024x256 .bf16 := m ((c : Thread nD τ).loc main_arg0)
/-- The second layer's own gradients as launched. -/
abbrev aO1 (c : Dev nD) : FVec Ideal S8x1024x256 .bf16 := m ((c : Thread nD τ).loc main_arg1)
/-- The first layer's landed gradients as launched. -/
abbrev aL0 (c : Dev nD) : FVec Ideal S7x1024x256 .bf16 := m ((c : Thread nD τ).loc main_arg2)
/-- The second layer's landed gradients as launched. -/
abbrev aL1 (c : Dev nD) : FVec Ideal S7x1024x256 .bf16 := m ((c : Thread nD τ).loc main_arg3)
/-- The weights as launched. -/
abbrev aW (c : Dev nD) : FVec Ideal S2x1024x256 .f32 := m ((c : Thread nD τ).loc main_arg4)
/-- The first moments as launched. -/
abbrev aM (c : Dev nD) : FVec Ideal S2x1024x256 .f32 := m ((c : Thread nD τ).loc main_arg5)
/-- The second moments as launched. -/
abbrev aV (c : Dev nD) : FVec Ideal S2x1024x256 .f32 := m ((c : Thread nD τ).loc main_arg6)
/-- The device's index as launched. -/
abbrev aD (c : Dev nD) : IVec S1 32 := m ((c : Thread nD τ).loc main_arg7)

/-- The reference's gradient of the launched arrays. -/
abbrev G (c : Dev nD) : FVec Ideal S2x1024x256 .f32 := RG (aO0 m c) (aO1 m c) (aL0 m c) (aL1 m c) (aD m c)

/-- The index maps in closed form: `t` runs over the first layer's row blocks and then over the second's. -/
theorem idx_val : ∀ t : Fin grid0.N,
    (t.val < 4 → cc0_transform_2 (grid0.coords t) = ![0, t.val, 0]
      ∧ (Scalar.select (Scalar.cmpi .eq (BitVec.ofNat 32 (grid0.coords t 0).val) 0#32) (BitVec.ofNat 32 (grid0.coords t 1).val) 3#32).toNat = t.val
      ∧ first (grid0.coords t) = 1#1)
    ∧ (4 ≤ t.val → cc0_transform_3 (grid0.coords t) = ![0, t.val - 4, 0]
      ∧ (Scalar.select (Scalar.cmpi .eq (BitVec.ofNat 32 (grid0.coords t 0).val) 1#32) (BitVec.ofNat 32 (grid0.coords t 1).val) 0#32).toNat = t.val - 4
      ∧ first (grid0.coords t) = 0#1)
    ∧ cc0_transform_4 (grid0.coords t) = ![t.val / 4, t.val % 4, 0] := by decide +kernel

/-- Every block of a result is some point's. -/
theorem onto (β : (a : Fin 3) → Fin ((S2x1024x256.size a + S1x256x256.size a - 1) / S1x256x256.size a)) :
    ∃ t : Fin grid0.N, ∀ a, cc0_transform_4 (grid0.coords t) a = (β a).val := by
  revert β
  decide +kernel

section Blocks

variable (c : Dev nD) (t : Fin (cfgM m hO).N)

theorem idx0 (h : t.val < 4) : ((cfgM m hO).win 0).index t = ![(me m 0).toNat, t.val, 0] := by
  show cc0_transform_0 inb_S1_S1_0 numel1_S1 (tbl m) (grid0.coords t) = _
  unfold cc0_transform_0
  rw [word m]
  exact congrArg (fun n => ![(me m 0).toNat, n, 0]) ((idx_val t).1 h).2.1

theorem idx1 (h : 4 ≤ t.val) : ((cfgM m hO).win 1).index t = ![(me m 0).toNat, t.val - 4, 0] := by
  show cc0_transform_1 inb_S1_S1_0 numel1_S1 (tbl m) (grid0.coords t) = _
  unfold cc0_transform_1
  rw [word m]
  exact congrArg (fun n => ![(me m 0).toNat, n, 0]) ((idx_val t).2.1 h).2.1

theorem idx2 (h : t.val < 4) : ((cfgM m hO).win 2).index t = ![0, t.val, 0] := ((idx_val t).1 h).1

theorem idx3 (h : 4 ≤ t.val) : ((cfgM m hO).win 3).index t = ![0, t.val - 4, 0] := ((idx_val t).2.1 h).1

/-- The other seven windows stand at the layer's row block. -/
theorem idxW : ((cfgM m hO).win 4).index t = ![t.val / 4, t.val % 4, 0] ∧ ((cfgM m hO).win 5).index t = ![t.val / 4, t.val % 4, 0]
    ∧ ((cfgM m hO).win 6).index t = ![t.val / 4, t.val % 4, 0] ∧ ((cfgM m hO).win 7).index t = ![t.val / 4, t.val % 4, 0]
    ∧ ((cfgM m hO).win 8).index t = ![t.val / 4, t.val % 4, 0] ∧ ((cfgM m hO).win 9).index t = ![t.val / 4, t.val % 4, 0]
    ∧ ((cfgM m hO).win 10).index t = ![t.val / 4, t.val % 4, 0] :=
  have h := (idx_val t).2.2
  ⟨h, h, h, h, h, h, h⟩

variable (j : Fin 8) (hj : j.val = (me m 0).toNat) (a : Fin 256) (r : Fin 1024) (k : Fin 256)
include hj

/-- The first layer's own gradient's block. -/
theorem blkO0 (h : t.val < 4) (hr : r.val = t.val * 256 + a.val) :
    (show FVec Ideal S1x256x256 .bf16 from iblk m hO c 0 t) (ix3 0 a k) = aO0 m c (ix3 j r k) := by
  show iblk m hO c 0 t (ix3 0 a k) = _
  blk_ext [iblk, V, idx0 m hO t h]

/-- The second layer's own gradient's block. -/
theorem blkO1 (h : 4 ≤ t.val) (hr : r.val = (t.val - 4) * 256 + a.val) :
    (show FVec Ideal S1x256x256 .bf16 from iblk m hO c 1 t) (ix3 0 a k) = aO1 m c (ix3 j r k) := by
  show iblk m hO c 1 t (ix3 0 a k) = _
  blk_ext [iblk, V, idx1 m hO t h]

omit hj

/-- The first layer's landed gradients' block. -/
theorem blkL0 (p : Fin 7) (h : t.val < 4) (hr : r.val = t.val * 256 + a.val) :
    (show FVec Ideal S7x256x256 .bf16 from iblk m hO c 2 t) (ix3 p a k) = aL0 m c (ix3 p r k) := by
  show iblk m hO c 2 t (ix3 p a k) = _
  blk_ext [iblk, V, idx2 m hO t h]

/-- The second layer's landed gradients' block. -/
theorem blkL1 (p : Fin 7) (h : 4 ≤ t.val) (hr : r.val = (t.val - 4) * 256 + a.val) :
    (show FVec Ideal S7x256x256 .bf16 from iblk m hO c 3 t) (ix3 p a k) = aL1 m c (ix3 p r k) := by
  show iblk m hO c 3 t (ix3 p a k) = _
  blk_ext [iblk, V, idx3 m hO t h]

variable (s : Fin 2) (hs : s.val = t.val / 4) (hr : r.val = t.val % 4 * 256 + a.val)
include hs hr

/-- The weights' block. -/
theorem blkW : (show FVec Ideal S1x256x256 .f32 from iblk m hO c 4 t) (ix3 0 a k) = aW m c (ix3 s r k) := by
  show iblk m hO c 4 t (ix3 0 a k) = _
  blk_ext [iblk, V, (idxW m hO t).1]

/-- The first moments' block. -/
theorem blkM : (show FVec Ideal S1x256x256 .f32 from iblk m hO c 5 t) (ix3 0 a k) = aM m c (ix3 s r k) := by
  show iblk m hO c 5 t (ix3 0 a k) = _
  blk_ext [iblk, V, (idxW m hO t).2.1]

/-- The second moments' block. -/
theorem blkV : (show FVec Ideal S1x256x256 .f32 from iblk m hO c 6 t) (ix3 0 a k) = aV m c (ix3 s r k) := by
  show iblk m hO c 6 t (ix3 0 a k) = _
  blk_ext [iblk, V, (idxW m hO t).2.2.1]

/-- The gradient that the body sums at a point. -/
abbrev gP : FVec Ideal S256x256 .f32 :=
  grad (first (grid0.coords t)) (iblk m hO c 0 t) (iblk m hO c 1 t) (iblk m hO c 2 t) (iblk m hO c 3 t)

include hj in
/-- It is the reference's. -/
theorem gP_at : gP m hO c t (ix2 a k) = G m c (ix3 s r k) := by
  have hc : me m 0 = aD m c (ix1 0) := by obtain rfl : c = 0 := Subsingleton.elim _ _; rfl
  rcases lt_or_ge t.val 4 with h | h
  · have hr' : r.val = t.val * 256 + a.val := by rw [hr, Nat.mod_eq_of_lt h]
    obtain rfl : s = 0 := Fin.ext (hs.trans (Nat.div_eq_of_lt h))
    refine (grad_first _ _ _ _ _ ((idx_val t).1 h).2.2 a k).trans (Eq.trans ?_ ((total_eq (fun x => aO0 m c (ix3 x r k)) (fun x => aL0 m c (ix3 x r k)) _ j
      (hj.trans (congrArg BitVec.toNat hc))).trans (ref_g0 _ _ _ _ _ r k).symm))
    have o := blkO0 m hO c t j hj a r k h hr'
    have l := fun p => blkL0 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)
  · have hN : t.val < 2 * 4 := t.isLt
    have hq : t.val % 4 = t.val - 4 := by omega
    have hr' : r.val = (t.val - 4) * 256 + a.val := by rw [hr, hq]
    obtain rfl : s = 1 := Fin.ext (hs.trans (by show t.val / 4 = 1; omega))
    refine (grad_second _ _ _ _ _ ((idx_val t).2.1 h).2.2 a k).trans (Eq.trans ?_ ((total_eq (fun x => aO1 m c (ix3 x r k)) (fun x => aL1 m c (ix3 x r k)) _ j
      (hj.trans (congrArg BitVec.toNat hc))).trans (ref_g1 _ _ _ _ _ r k).symm))
    have o := blkO1 m hO c t j hj a r k h hr'
    have l := fun p => blkL1 m hO c t a r k p h hr'
    exact congrArg₂ (· + ·) (congrArg₂ (· + ·) (congrArg₂ (· + ·) (congrArg₂ (· + ·) (congrArg₂ (· + ·) (congrArg₂ (· + ·) (congrArg₂ (· + ·) o
      (l 0)) (l 1)) (l 2)) (l 3)) (l 4)) (l 5)) (l 6)

end Blocks

/-- The reference's first moment of the launched arrays. -/
abbrev M' (c : Dev nD) : FVec Ideal S2x1024x256 .f32 := RM (aO0 m c) (aO1 m c) (aL0 m c) (aL1 m c) (aM m c) (aD m c)
/-- The reference's second moment of the launched arrays. -/
abbrev V' (c : Dev nD) : FVec Ideal S2x1024x256 .f32 := RV (aO0 m c) (aO1 m c) (aL0 m c) (aL1 m c) (aV m c) (aD m c)
/-- The reference's update of the launched arrays. -/
abbrev U' (c : Dev nD) : FVec Ideal S2x1024x256 .f32 := RU (aO0 m c) (aO1 m c) (aL0 m c) (aL1 m c) (aW m c) (aM m c) (aV m c) (aD m c)

section Final

/-- What a point leaves in its four blocks. -/
theorem left (c : Dev nD) (t : Fin grid0.N) : outsAt0 m hO c t = (k0_pay8 (F := Ideal) (gP m hO c t),
    k0_pay9 (F := Ideal) (gP m hO c t) (k0_pay5 (F := Ideal) (iblk m hO c 4 t)) (iblk m hO c 5 t) (iblk m hO c 6 t),
    k0_pay1 (F := Ideal) (k0_pay6 (F := Ideal) (gP m hO c t) (iblk m hO c 5 t)), k0_pay2 (F := Ideal) (k0_pay7 (F := Ideal) (gP m hO c t) (iblk m hO c 6 t))) := by
  unfold outsAt0
  exact congrArg₂ Prod.mk (out_g ..) (congrArg₂ Prod.mk (out_u ..) (congrArg₂ Prod.mk (out_m ..) (out_v ..)))

/-- The row block of a point. -/
abbrev row (t : Fin grid0.N) (a : Fin 256) : Fin 1024 := ⟨t.val % 4 * 256 + a.val, by omega⟩

/-- The layer of a point. -/
abbrev layer (t : Fin grid0.N) : Fin 2 := ⟨t.val / 4, by have : t.val < 2 * 4 := t.isLt; omega⟩

section Entries

variable (h8 : (me m 0).toNat < 8) (c : Dev nD) (t : Fin grid0.N) (a : Fin 256) (k : Fin 256)
include h8

/-- The gradient's entry at a point. -/
theorem at_g : (outsAt0 m hO c t).1 (ix3 0 a k) = G m c (ix3 (layer t) (row t a) k) := by
  rw [left m hO c t]
  exact (pay_g _ a k).trans (gP_at m hO c t ⟨_, h8⟩ rfl a (row t a) k (layer t) rfl rfl)

/-- The first moment's entry at a point. -/
theorem at_m : (outsAt0 m hO c t).2.2.1 (ix3 0 a k) = M' m c (ix3 (layer t) (row t a) k) := by
  rw [left m hO c t]
  refine (pay_m _ _ a k).trans (Eq.trans ?_ (ref_m _ _ _ _ _ _ _ _ _).symm)
  exact congrArg₂ mom (blkM m hO c t a (row t a) k (layer t) rfl rfl) (gP_at m hO c t ⟨_, h8⟩ rfl a (row t a) k (layer t) rfl rfl)

/-- The second moment's entry at a point. -/
theorem at_v : (outsAt0 m hO c t).2.2.2 (ix3 0 a k) = V' m c (ix3 (layer t) (row t a) k) := by
  rw [left m hO c t]
  refine (pay_v _ _ a k).trans (Eq.trans ?_ (ref_v _ _ _ _ _ _ _ _ _).symm)
  exact congrArg₂ sec (blkV m hO c t a (row t a) k (layer t) rfl rfl) (gP_at m hO c t ⟨_, h8⟩ rfl a (row t a) k (layer t) rfl rfl)

/-- The update's entry at a point. -/
theorem at_u : (outsAt0 m hO c t).2.1 (ix3 0 a k) = U' m c (ix3 (layer t) (row t a) k) := by
  rw [left m hO c t]
  refine (pay_u _ _ _ _ a k).trans (Eq.trans ?_ (ref_u _ _ _ _ _ _ _ _ _ _ _).symm)
  have g := gP_at m hO c t ⟨_, h8⟩ rfl a (row t a) k (layer t) rfl rfl
  refine congr (congrArg₂ upd (blkW m hO c t a (row t a) k (layer t) rfl rfl) ?_) ?_
  · exact (congrArg₂ mom (blkM m hO c t a (row t a) k (layer t) rfl rfl) g).trans (ref_m _ _ _ _ _ _ _ _ _).symm
  · exact (congrArg₂ sec (blkV m hO c t a (row t a) k (layer t) rfl rfl) g).trans (ref_v _ _ _ _ _ _ _ _ _).symm

end Entries

/-- A window's block is not empty. -/
theorem block_pos (a : Fin S1x256x256.rank) : 0 < S1x256x256.size a := by
  revert a
  exact (by decide : ∀ a : Fin 3, 0 < S1x256x256.size a)

variable (h8 : (me m 0).toNat < 8) (c : Dev nD)
include h8

/-- The gradients' array after the run. -/
theorem final7 : (dats m hO 0 c).arrAt 7 (cfgM m hO).N = G m c := by
  refine (dats m hO 0 c).arrAt_eq_of_covers 7 _ ⟨block_pos, fun β => ?_⟩ fun t hf y => ?_
  · obtain ⟨t, ht⟩ := onto β
    exact ⟨t, flush0_7 _ _, fun a => ⟨ht a, .inl rfl⟩⟩
  blk_simp
  rw [after0_7]
  revert y
  refine fun (y : S1x256x256.Idx) => ?_
  idx_vars y
  obtain rfl : y0 = 0 := Subsingleton.elim _ _
  have e : (((cfgM m hO).win 7).blk t).view.emb (ix3 0 y1 y2) = ix3 (layer t) (row t y1) y2 := by blk_ext [(idxW m hO t).2.2.2.1]
  rw [e]
  exact at_g m hO h8 c t y1 y2

/-- The updates' array after the run. -/
theorem final8 : (dats m hO 0 c).arrAt 8 (cfgM m hO).N = U' m c := by
  refine (dats m hO 0 c).arrAt_eq_of_covers 8 _ ⟨block_pos, fun β => ?_⟩ fun t hf y => ?_
  · obtain ⟨t, ht⟩ := onto β
    exact ⟨t, flush0_8 _ _, fun a => ⟨ht a, .inl rfl⟩⟩
  blk_simp
  rw [after0_8]
  revert y
  refine fun (y : S1x256x256.Idx) => ?_
  idx_vars y
  obtain rfl : y0 = 0 := Subsingleton.elim _ _
  have e : (((cfgM m hO).win 8).blk t).view.emb (ix3 0 y1 y2) = ix3 (layer t) (row t y1) y2 := by blk_ext [(idxW m hO t).2.2.2.2.1]
  rw [e]
  exact at_u m hO h8 c t y1 y2

/-- The first moments' array after the run. -/
theorem final9 : (dats m hO 0 c).arrAt 9 (cfgM m hO).N = M' m c := by
  refine (dats m hO 0 c).arrAt_eq_of_covers 9 _ ⟨block_pos, fun β => ?_⟩ fun t hf y => ?_
  · obtain ⟨t, ht⟩ := onto β
    exact ⟨t, flush0_9 _ _, fun a => ⟨ht a, .inl rfl⟩⟩
  blk_simp
  rw [after0_9]
  revert y
  refine fun (y : S1x256x256.Idx) => ?_
  idx_vars y
  obtain rfl : y0 = 0 := Subsingleton.elim _ _
  have e : (((cfgM m hO).win 9).blk t).view.emb (ix3 0 y1 y2) = ix3 (layer t) (row t y1) y2 := by blk_ext [(idxW m hO t).2.2.2.2.2.1]
  rw [e]
  exact at_m m hO h8 c t y1 y2

/-- The second moments' array after the run. -/
theorem final10 : (dats m hO 0 c).arrAt 10 (cfgM m hO).N = V' m c := by
  refine (dats m hO 0 c).arrAt_eq_of_covers 10 _ ⟨block_pos, fun β => ?_⟩ fun t hf y => ?_
  · obtain ⟨t, ht⟩ := onto β
    exact ⟨t, flush0_10 _ _, fun a => ⟨ht a, .inl rfl⟩⟩
  blk_simp
  rw [after0_10]
  revert y
  refine fun (y : S1x256x256.Idx) => ?_
  idx_vars y
  obtain rfl : y0 = 0 := Subsingleton.elim _ _
  have e : (((cfgM m hO).win 10).blk t).view.emb (ix3 0 y1 y2) = ix3 (layer t) (row t y1) y2 := by blk_ext [(idxW m hO t).2.2.2.2.2.2]
  rw [e]
  exact at_v m hO h8 c t y1 y2

end Final

end Cert.UpColIdeal.Val

end
-- ==== Proof.ClaimsUp.lean ====
/- The frames and the value claims of the sharded optimiser, at the four shapes of the weights it updates. -/
module

public import proofs.«01_k».proof.Defs
public import proofs.«01_k».proof.Proof.ValUpIn
public import proofs.«01_k».proof.Proof.Gen.UpIn
public import proofs.«01_k».proof.Proof.Gen.UpIn.Frame
public import proofs.«01_k».proof.Proof.Gen.UpInIdeal
public import proofs.«01_k».proof.Proof.Gen.UpInRefIdeal.Run
public import proofs.«01_k».proof.Proof.Gen.Pre_on_mesh_in
public import proofs.«01_k».proof.Proof.ValUpOut
public import proofs.«01_k».proof.Proof.Gen.UpOut
public import proofs.«01_k».proof.Proof.Gen.UpOut.Frame
public import proofs.«01_k».proof.Proof.Gen.UpOutIdeal
public import proofs.«01_k».proof.Proof.Gen.UpOutRefIdeal.Run
public import proofs.«01_k».proof.Proof.Gen.Pre_on_mesh_out
public import proofs.«01_k».proof.Proof.ValUpSquare
public import proofs.«01_k».proof.Proof.Gen.UpSquare
public import proofs.«01_k».proof.Proof.Gen.UpSquare.Frame
public import proofs.«01_k».proof.Proof.Gen.UpSquareIdeal
public import proofs.«01_k».proof.Proof.Gen.UpSquareRefIdeal.Run
public import proofs.«01_k».proof.Proof.Gen.Pre_on_mesh_square
public import proofs.«01_k».proof.Proof.ValUpCol
public import proofs.«01_k».proof.Proof.Gen.UpCol
public import proofs.«01_k».proof.Proof.Gen.UpCol.Frame
public import proofs.«01_k».proof.Proof.Gen.UpColIdeal
public import proofs.«01_k».proof.Proof.Gen.UpColRefIdeal.Run
public import proofs.«01_k».proof.Proof.Gen.Pre_on_mesh_col
public import Idealize.ShloMosaic.Lib.Quiescent

@[expose] public section

noncomputable section

open Idealize.ShloMosaic Idealize.ShloMosaic.TcCoe Idealize.SL.Sem

namespace Cert.ClaimsUp

section UpIn

/-- The precondition says that the device's index is one of the eight. -/
theorem in_lt {F : FTy → Type} [FloatOps F] [Cert.Pre_on_mesh_in.Facts] {x0 x1 x2 x3 x4 x5 x6 : _} {d : IVec Cert.UpInIdeal.S1 32}
    (h : Cert.Pre_on_mesh_in.fn (F := F) x0 x1 x2 x3 x4 x5 x6 d = fun _ => 1#1) : (d (ix1 0)).toNat < 8 :=
  Cert.Up.word_lt _ (congrFun h (ix1 0))

/-- The printed program's frame, weights of 704 rows and 1024 columns. -/
theorem inFrame : Cert.quiescent_UpIn (hUpIn := Cert.UpIn.Gen.facts) (hPre_on_mesh_in := Cert.Pre_on_mesh_in.Gen.facts) := fun m ρ h =>
  Cert.UpIn.Gen.frame m ρ (show Cert.UpIn.Gen.Ok m from Cert.UpInIdeal.Val.ok (F := Bits) m (in_lt (h 0)))

/-- The idealized program's frame. -/
theorem inFrameIdeal : Cert.quiescent_UpInIdeal (hUpInIdeal := Cert.UpInIdeal.Gen.facts) (hPre_on_mesh_in := Cert.Pre_on_mesh_in.Gen.facts) := fun m ρ h =>
  Cert.UpInIdeal.Gen.frame m ρ (Cert.UpInIdeal.Val.ok m (in_lt (h 0)))

/-- The reference's frame. -/
theorem inFrameRef : Cert.quiescent_UpInRefIdeal (hUpInRefIdeal := Cert.UpInRefIdeal.Gen.facts) := fun m g _ =>
  (θ_run Cert.UpInRefIdeal.defs _ _).mono (fun r h => ⟨fun c => (h c).2.2.2.2, sem_eq_zero_of_no_sems (by decide) r.2⟩)
    (Cert.UpInRefIdeal.Value.run (F := Ideal) m g)

/-- The reference's frame under the precondition. -/
theorem inFrameRefPre : Cert.quiescent_UpInRefIdeal_pre_on_mesh_in (hUpInRefIdeal := Cert.UpInRefIdeal.Gen.facts) (hPre_on_mesh_in := Cert.Pre_on_mesh_in.Gen.facts) :=
  fun m g _ => inFrameRef m g trivial

set_option maxHeartbeats 4000000 in
/-- The call computes the reference's gradient, update and moments. -/
theorem inValue : Cert.algebraic_UpInIdeal_UpInRefIdeal (hUpInIdeal := Cert.UpInIdeal.Gen.facts) (hUpInRefIdeal := Cert.UpInRefIdeal.Gen.facts) (hPre_on_mesh_in := Cert.Pre_on_mesh_in.Gen.facts) := by
  pair_intro
  · run_from Cert.UpInIdeal.Gen.unchanged m g (Cert.UpInIdeal.Val.ok m (in_lt (hpre 0))) & Cert.UpInIdeal.Gen.run_main m g (Cert.UpInIdeal.Val.ok m (in_lt (hpre 0)))
    · exact Cert.UpInIdeal.Val.final7 m (Cert.UpInIdeal.Val.ok m (in_lt (hpre 0))) (in_lt (hpre 0)) c
    · exact Cert.UpInIdeal.Val.final8 m (Cert.UpInIdeal.Val.ok m (in_lt (hpre 0))) (in_lt (hpre 0)) c
    · exact Cert.UpInIdeal.Val.final9 m (Cert.UpInIdeal.Val.ok m (in_lt (hpre 0))) (in_lt (hpre 0)) c
    · exact Cert.UpInIdeal.Val.final10 m (Cert.UpInIdeal.Val.ok m (in_lt (hpre 0))) (in_lt (hpre 0)) c
  · refine (θ_run _ _ _).mono (fun r h c => ?_) (Cert.UpInRefIdeal.Value.run m' g')
    obtain ⟨h0, h1, h2, h3, h4⟩ := h c
    obtain ⟨a0, a1, a2, a3, a4, a5, a6, a7⟩ := hagree c
    refine ⟨h0.trans ?_, h1.trans ?_, h2.trans ?_, h3.trans ?_, h4⟩
    · rw [a0, a1, a2, a3, a7]; exact Cert.UpInRefIdeal.Read.val_main_v24_eq _ _ _ _ _
    · rw [Cert.UpInRefIdeal.Read.val_main_v48_eq, a0, a1, a2, a3, a4, a5, a6, a7]
    · rw [a0, a1, a2, a3, a5, a7]; exact Cert.UpInRefIdeal.Read.val_main_v29_eq _ _ _ _ _ _
    · rw [a0, a1, a2, a3, a6, a7]; exact Cert.UpInRefIdeal.Read.val_main_v35_eq _ _ _ _ _ _

end UpIn

section UpOut

/-- The precondition says that the device's index is one of the eight. -/
theorem out_lt {F : FTy → Type} [FloatOps F] [Cert.Pre_on_mesh_out.Facts] {x0 x1 x2 x3 x4 x5 x6 : _} {d : IVec Cert.UpOutIdeal.S1 32}
    (h : Cert.Pre_on_mesh_out.fn (F := F) x0 x1 x2 x3 x4 x5 x6 d = fun _ => 1#1) : (d (ix1 0)).toNat < 8 :=
  Cert.Up.word_lt _ (congrFun h (ix1 0))

/-- The printed program's frame, weights of 352 rows and 1024 columns. -/
theorem outFrame : Cert.quiescent_UpOut (hUpOut := Cert.UpOut.Gen.facts) (hPre_on_mesh_out := Cert.Pre_on_mesh_out.Gen.facts) := fun m ρ h =>
  Cert.UpOut.Gen.frame m ρ (show Cert.UpOut.Gen.Ok m from Cert.UpOutIdeal.Val.ok (F := Bits) m (out_lt (h 0)))

/-- The idealized program's frame. -/
theorem outFrameIdeal : Cert.quiescent_UpOutIdeal (hUpOutIdeal := Cert.UpOutIdeal.Gen.facts) (hPre_on_mesh_out := Cert.Pre_on_mesh_out.Gen.facts) := fun m ρ h =>
  Cert.UpOutIdeal.Gen.frame m ρ (Cert.UpOutIdeal.Val.ok m (out_lt (h 0)))

/-- The reference's frame. -/
theorem outFrameRef : Cert.quiescent_UpOutRefIdeal (hUpOutRefIdeal := Cert.UpOutRefIdeal.Gen.facts) := fun m g _ =>
  (θ_run Cert.UpOutRefIdeal.defs _ _).mono (fun r h => ⟨fun c => (h c).2.2.2.2, sem_eq_zero_of_no_sems (by decide) r.2⟩)
    (Cert.UpOutRefIdeal.Value.run (F := Ideal) m g)

/-- The reference's frame under the precondition. -/
theorem outFrameRefPre : Cert.quiescent_UpOutRefIdeal_pre_on_mesh_out (hUpOutRefIdeal := Cert.UpOutRefIdeal.Gen.facts) (hPre_on_mesh_out := Cert.Pre_on_mesh_out.Gen.facts) :=
  fun m g _ => outFrameRef m g trivial

set_option maxHeartbeats 4000000 in
/-- The call computes the reference's gradient, update and moments. -/
theorem outValue : Cert.algebraic_UpOutIdeal_UpOutRefIdeal (hUpOutIdeal := Cert.UpOutIdeal.Gen.facts) (hUpOutRefIdeal := Cert.UpOutRefIdeal.Gen.facts) (hPre_on_mesh_out := Cert.Pre_on_mesh_out.Gen.facts) := by
  pair_intro
  · run_from Cert.UpOutIdeal.Gen.unchanged m g (Cert.UpOutIdeal.Val.ok m (out_lt (hpre 0))) & Cert.UpOutIdeal.Gen.run_main m g (Cert.UpOutIdeal.Val.ok m (out_lt (hpre 0)))
    · exact Cert.UpOutIdeal.Val.final7 m (Cert.UpOutIdeal.Val.ok m (out_lt (hpre 0))) (out_lt (hpre 0)) c
    · exact Cert.UpOutIdeal.Val.final8 m (Cert.UpOutIdeal.Val.ok m (out_lt (hpre 0))) (out_lt (hpre 0)) c
    · exact Cert.UpOutIdeal.Val.final9 m (Cert.UpOutIdeal.Val.ok m (out_lt (hpre 0))) (out_lt (hpre 0)) c
    · exact Cert.UpOutIdeal.Val.final10 m (Cert.UpOutIdeal.Val.ok m (out_lt (hpre 0))) (out_lt (hpre 0)) c
  · refine (θ_run _ _ _).mono (fun r h c => ?_) (Cert.UpOutRefIdeal.Value.run m' g')
    obtain ⟨h0, h1, h2, h3, h4⟩ := h c
    obtain ⟨a0, a1, a2, a3, a4, a5, a6, a7⟩ := hagree c
    refine ⟨h0.trans ?_, h1.trans ?_, h2.trans ?_, h3.trans ?_, h4⟩
    · rw [a0, a1, a2, a3, a7]; exact Cert.UpOutRefIdeal.Read.val_main_v24_eq _ _ _ _ _
    · rw [Cert.UpOutRefIdeal.Read.val_main_v48_eq, a0, a1, a2, a3, a4, a5, a6, a7]
    · rw [a0, a1, a2, a3, a5, a7]; exact Cert.UpOutRefIdeal.Read.val_main_v29_eq _ _ _ _ _ _
    · rw [a0, a1, a2, a3, a6, a7]; exact Cert.UpOutRefIdeal.Read.val_main_v35_eq _ _ _ _ _ _

end UpOut

section UpSquare

/-- The precondition says that the device's index is one of the eight. -/
theorem square_lt {F : FTy → Type} [FloatOps F] [Cert.Pre_on_mesh_square.Facts] {x0 x1 x2 x3 x4 x5 x6 : _} {d : IVec Cert.UpSquareIdeal.S1 32}
    (h : Cert.Pre_on_mesh_square.fn (F := F) x0 x1 x2 x3 x4 x5 x6 d = fun _ => 1#1) : (d (ix1 0)).toNat < 8 :=
  Cert.Up.word_lt _ (congrFun h (ix1 0))

/-- The printed program's frame, weights of 128 rows and 1024 columns. -/
theorem squareFrame : Cert.quiescent_UpSquare (hUpSquare := Cert.UpSquare.Gen.facts) (hPre_on_mesh_square := Cert.Pre_on_mesh_square.Gen.facts) := fun m ρ h =>
  Cert.UpSquare.Gen.frame m ρ (show Cert.UpSquare.Gen.Ok m from Cert.UpSquareIdeal.Val.ok (F := Bits) m (square_lt (h 0)))

/-- The idealized program's frame. -/
theorem squareFrameIdeal : Cert.quiescent_UpSquareIdeal (hUpSquareIdeal := Cert.UpSquareIdeal.Gen.facts) (hPre_on_mesh_square := Cert.Pre_on_mesh_square.Gen.facts) := fun m ρ h =>
  Cert.UpSquareIdeal.Gen.frame m ρ (Cert.UpSquareIdeal.Val.ok m (square_lt (h 0)))

/-- The reference's frame. -/
theorem squareFrameRef : Cert.quiescent_UpSquareRefIdeal (hUpSquareRefIdeal := Cert.UpSquareRefIdeal.Gen.facts) := fun m g _ =>
  (θ_run Cert.UpSquareRefIdeal.defs _ _).mono (fun r h => ⟨fun c => (h c).2.2.2.2, sem_eq_zero_of_no_sems (by decide) r.2⟩)
    (Cert.UpSquareRefIdeal.Value.run (F := Ideal) m g)

/-- The reference's frame under the precondition. -/
theorem squareFrameRefPre : Cert.quiescent_UpSquareRefIdeal_pre_on_mesh_square (hUpSquareRefIdeal := Cert.UpSquareRefIdeal.Gen.facts) (hPre_on_mesh_square := Cert.Pre_on_mesh_square.Gen.facts) :=
  fun m g _ => squareFrameRef m g trivial

set_option maxHeartbeats 4000000 in
/-- The call computes the reference's gradient, update and moments. -/
theorem squareValue : Cert.algebraic_UpSquareIdeal_UpSquareRefIdeal (hUpSquareIdeal := Cert.UpSquareIdeal.Gen.facts) (hUpSquareRefIdeal := Cert.UpSquareRefIdeal.Gen.facts) (hPre_on_mesh_square := Cert.Pre_on_mesh_square.Gen.facts) := by
  pair_intro
  · run_from Cert.UpSquareIdeal.Gen.unchanged m g (Cert.UpSquareIdeal.Val.ok m (square_lt (hpre 0))) & Cert.UpSquareIdeal.Gen.run_main m g (Cert.UpSquareIdeal.Val.ok m (square_lt (hpre 0)))
    · exact Cert.UpSquareIdeal.Val.final7 m (Cert.UpSquareIdeal.Val.ok m (square_lt (hpre 0))) (square_lt (hpre 0)) c
    · exact Cert.UpSquareIdeal.Val.final8 m (Cert.UpSquareIdeal.Val.ok m (square_lt (hpre 0))) (square_lt (hpre 0)) c
    · exact Cert.UpSquareIdeal.Val.final9 m (Cert.UpSquareIdeal.Val.ok m (square_lt (hpre 0))) (square_lt (hpre 0)) c
    · exact Cert.UpSquareIdeal.Val.final10 m (Cert.UpSquareIdeal.Val.ok m (square_lt (hpre 0))) (square_lt (hpre 0)) c
  · refine (θ_run _ _ _).mono (fun r h c => ?_) (Cert.UpSquareRefIdeal.Value.run m' g')
    obtain ⟨h0, h1, h2, h3, h4⟩ := h c
    obtain ⟨a0, a1, a2, a3, a4, a5, a6, a7⟩ := hagree c
    refine ⟨h0.trans ?_, h1.trans ?_, h2.trans ?_, h3.trans ?_, h4⟩
    · rw [a0, a1, a2, a3, a7]; exact Cert.UpSquareRefIdeal.Read.val_main_v24_eq _ _ _ _ _
    · rw [Cert.UpSquareRefIdeal.Read.val_main_v48_eq, a0, a1, a2, a3, a4, a5, a6, a7]
    · rw [a0, a1, a2, a3, a5, a7]; exact Cert.UpSquareRefIdeal.Read.val_main_v29_eq _ _ _ _ _ _
    · rw [a0, a1, a2, a3, a6, a7]; exact Cert.UpSquareRefIdeal.Read.val_main_v35_eq _ _ _ _ _ _

end UpSquare

section UpCol

/-- The precondition says that the device's index is one of the eight. -/
theorem col_lt {F : FTy → Type} [FloatOps F] [Cert.Pre_on_mesh_col.Facts] {x0 x1 x2 x3 x4 x5 x6 : _} {d : IVec Cert.UpColIdeal.S1 32}
    (h : Cert.Pre_on_mesh_col.fn (F := F) x0 x1 x2 x3 x4 x5 x6 d = fun _ => 1#1) : (d (ix1 0)).toNat < 8 :=
  Cert.Up.word_lt _ (congrFun h (ix1 0))

/-- The printed program's frame, weights of 1024 rows and 256 columns. -/
theorem colFrame : Cert.quiescent_UpCol (hUpCol := Cert.UpCol.Gen.facts) (hPre_on_mesh_col := Cert.Pre_on_mesh_col.Gen.facts) := fun m ρ h =>
  Cert.UpCol.Gen.frame m ρ (show Cert.UpCol.Gen.Ok m from Cert.UpColIdeal.Val.ok (F := Bits) m (col_lt (h 0)))

/-- The idealized program's frame. -/
theorem colFrameIdeal : Cert.quiescent_UpColIdeal (hUpColIdeal := Cert.UpColIdeal.Gen.facts) (hPre_on_mesh_col := Cert.Pre_on_mesh_col.Gen.facts) := fun m ρ h =>
  Cert.UpColIdeal.Gen.frame m ρ (Cert.UpColIdeal.Val.ok m (col_lt (h 0)))

/-- The reference's frame. -/
theorem colFrameRef : Cert.quiescent_UpColRefIdeal (hUpColRefIdeal := Cert.UpColRefIdeal.Gen.facts) := fun m g _ =>
  (θ_run Cert.UpColRefIdeal.defs _ _).mono (fun r h => ⟨fun c => (h c).2.2.2.2, sem_eq_zero_of_no_sems (by decide) r.2⟩)
    (Cert.UpColRefIdeal.Value.run (F := Ideal) m g)

/-- The reference's frame under the precondition. -/
theorem colFrameRefPre : Cert.quiescent_UpColRefIdeal_pre_on_mesh_col (hUpColRefIdeal := Cert.UpColRefIdeal.Gen.facts) (hPre_on_mesh_col := Cert.Pre_on_mesh_col.Gen.facts) :=
  fun m g _ => colFrameRef m g trivial

set_option maxHeartbeats 4000000 in
/-- The call computes the reference's gradient, update and moments. -/
theorem colValue : Cert.algebraic_UpColIdeal_UpColRefIdeal (hUpColIdeal := Cert.UpColIdeal.Gen.facts) (hUpColRefIdeal := Cert.UpColRefIdeal.Gen.facts) (hPre_on_mesh_col := Cert.Pre_on_mesh_col.Gen.facts) := by
  pair_intro
  · run_from Cert.UpColIdeal.Gen.unchanged m g (Cert.UpColIdeal.Val.ok m (col_lt (hpre 0))) & Cert.UpColIdeal.Gen.run_main m g (Cert.UpColIdeal.Val.ok m (col_lt (hpre 0)))
    · exact Cert.UpColIdeal.Val.final7 m (Cert.UpColIdeal.Val.ok m (col_lt (hpre 0))) (col_lt (hpre 0)) c
    · exact Cert.UpColIdeal.Val.final8 m (Cert.UpColIdeal.Val.ok m (col_lt (hpre 0))) (col_lt (hpre 0)) c
    · exact Cert.UpColIdeal.Val.final9 m (Cert.UpColIdeal.Val.ok m (col_lt (hpre 0))) (col_lt (hpre 0)) c
    · exact Cert.UpColIdeal.Val.final10 m (Cert.UpColIdeal.Val.ok m (col_lt (hpre 0))) (col_lt (hpre 0)) c
  · refine (θ_run _ _ _).mono (fun r h c => ?_) (Cert.UpColRefIdeal.Value.run m' g')
    obtain ⟨h0, h1, h2, h3, h4⟩ := h c
    obtain ⟨a0, a1, a2, a3, a4, a5, a6, a7⟩ := hagree c
    refine ⟨h0.trans ?_, h1.trans ?_, h2.trans ?_, h3.trans ?_, h4⟩
    · rw [a0, a1, a2, a3, a7]; exact Cert.UpColRefIdeal.Read.val_main_v24_eq _ _ _ _ _
    · rw [Cert.UpColRefIdeal.Read.val_main_v48_eq, a0, a1, a2, a3, a4, a5, a6, a7]
    · rw [a0, a1, a2, a3, a5, a7]; exact Cert.UpColRefIdeal.Read.val_main_v29_eq _ _ _ _ _ _
    · rw [a0, a1, a2, a3, a6, a7]; exact Cert.UpColRefIdeal.Read.val_main_v35_eq _ _ _ _ _ _

end UpCol

end Cert.ClaimsUp

end
-- ==== Proof.Small.lean ====
module

public import proofs.«01_k».proof.Proof.Gen.AdamwIdeal.Launch
public import proofs.«01_k».proof.Proof.Gen.AdamwIdeal.Skeleton
public import proofs.«01_k».proof.Proof.Gen.AdamwIdeal.Points
public import Idealize.ShloMosaic.Lib.Pipeline.FrameBody
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 65536

noncomputable section

/-! The optimiser step of the fifteen small weights: one AdamW step at any shape, and the kernel's body as fifteen of them. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

/-- The number that a word of 32 bits stands for. -/
abbrev lit (b : BitVec 32) : F .f32 := Scalar.ofBits .f32 b

/-- The new first moment: 0.9 times the old one and 0.1 times the gradient. -/
def newM {S : Shape} (g m : Vec F S .f32) : Vec F S .f32 :=
  addf (mulf (broadcast S (lit 0x3F666666#32)) m) (mulf (broadcast S (lit 0x3DCCCCCD#32)) g)

/-- The new second moment: 0.999 times the old one and 0.001 times the gradient's square. -/
def newV {S : Shape} (g v : Vec F S .f32) : Vec F S .f32 :=
  addf (mulf (broadcast S (lit 0x3F7FBE77#32)) v) (mulf (broadcast S (lit 0x3A83126F#32)) (mulf g g))

/-- The change of the weight. -/
def delta {S : Shape} (w g m v : Vec F S .f32) : Vec F S .f32 :=
  mulf (broadcast S (lit 0xBA83126F#32))
    (addf (divf (divf (newM g m) (broadcast S (lit 0x3F26BD02#32)))
        (addf (sqrt (divf (newV g v) (broadcast S (lit 0x3C231ACC#32)))) (broadcast S (lit 0x322BCC77#32))))
      (mulf (broadcast S (lit 0x3C23D70A#32)) w))

/-- One weight's step in the kernel: read weight, gradient and both moments, and store the change and the two new moments. -/
def step {S : Shape} (o : Fin S.rank → ℕ) (ib : ∀ a, o a + S.size a ≤ S.size a) (h : 0 < S.numel)
    (w g m v d m' v' : Memref sig .tc .vmem S .f32) : Prog (TpuEff nD τ sig (Elt F) Λ₀ .tc) PUnit := do
  let x : Vec F S .f32 ← Prog.lift (.load w (Rect.unit (s := S) o S.size ib).toLoadRect (View.loadsAt_vmem h))
  let y : Vec F S .f32 ← Prog.lift (.load g (Rect.unit (s := S) o S.size ib).toLoadRect (View.loadsAt_vmem h))
  let z : Vec F S .f32 ← Prog.lift (.load m (Rect.unit (s := S) o S.size ib).toLoadRect (View.loadsAt_vmem h))
  let u : Vec F S .f32 ← Prog.lift (.load v (Rect.unit (s := S) o S.size ib).toLoadRect (View.loadsAt_vmem h))
  let _ : Vec F S .f32 ← Prog.lift (.load d (Rect.unit (s := S) o S.size ib).toLoadRect (View.loadsAt_vmem h))
  Prog.lift (.store d (Rect.unit (s := S) o S.size ib) (delta x y z u) Finset.univ (View.stores_vmem_bits_univ h rfl) (.inl rfl))
  let _ : Vec F S .f32 ← Prog.lift (.load m' (Rect.unit (s := S) o S.size ib).toLoadRect (View.loadsAt_vmem h))
  Prog.lift (.store m' (Rect.unit (s := S) o S.size ib) (newM y z) Finset.univ (View.stores_vmem_bits_univ h rfl) (.inl rfl))
  let _ : Vec F S .f32 ← Prog.lift (.load v' (Rect.unit (s := S) o S.size ib).toLoadRect (View.loadsAt_vmem h))
  Prog.lift (.store v' (Rect.unit (s := S) o S.size ib) (newV y u) Finset.univ (View.stores_vmem_bits_univ h rfl) (.inl rfl))

local notation "𝕄" => MT nD τ sig Unit (Elt F) ℕ (UR sig nD τ) ℕ

/-- The step's triple: the four arrays read stay, and the three written hold the step's results. -/
theorem step_sound {S : Shape} (o : Fin S.rank → ℕ) (ib : ∀ a, o a + S.size a ≤ S.size a) (h : 0 < S.numel) (ho : ∀ a, o a = 0)
    (c : Dev nD) (w g m v d m' v' : Memref sig .tc .vmem S .f32)
    (x y z u : Vec F S .f32) :
    (iprop(owns (c : Thread nD τ) w fullShare x ∗ owns (c : Thread nD τ) g fullShare y ∗ owns (c : Thread nD τ) m fullShare z
        ∗ owns (c : Thread nD τ) v fullShare u ∗ (∃ e, owns (c : Thread nD τ) d fullShare e)
        ∗ (∃ e, owns (c : Thread nD τ) m' fullShare e) ∗ (∃ e, owns (c : Thread nD τ) v' fullShare e)) : sProp 𝕄)
      ⊢ wp frame (wpE (defs₀ (F := F)) Variants.none c none) Set.univ (step o ib h w g m v d m' v') (fun _ =>
          iprop(owns (c : Thread nD τ) w fullShare x ∗ owns (c : Thread nD τ) g fullShare y ∗ owns (c : Thread nD τ) m fullShare z
            ∗ owns (c : Thread nD τ) v fullShare u ∗ owns (c : Thread nD τ) d fullShare (delta x y z u)
            ∗ owns (c : Thread nD τ) m' fullShare (newM y z) ∗ owns (c : Thread nD τ) v' fullShare (newV y u))) := by
  have cov : ∀ (p : Vec F S .f32) (i : S.Idx), ∃ q ∈ ([⟨Rect.unit (s := S) o S.size ib, p⟩] : List (View.Piece (Elt F) S .f32)), i ∈ q.1.set :=
    fun p i => ⟨_, List.mem_singleton.2 rfl, (Rect.mem_set_unit (inb := ib)).2 fun a => by
      have := (i a).isLt
      rw [ho a]; omega⟩
  have can : ∀ p : Vec F S .f32, View.canon (Val := Elt F) [⟨Rect.unit (s := S) o S.size ib, p⟩] = p := fun p =>
    View.canon_cons_unit_lit ib p [] ho
  have ld : ∀ p : Vec F S .f32, View.ld (Val := Elt F) (e' := .f32) p (Rect.unit (s := S) o S.size ib) = p := fun p => View.ld_unit_lit ib p ho
  unfold step owns
  iintro ⟨⟨%f0, %hf0, H0⟩, ⟨%f1, %hf1, H1⟩, ⟨%f2, %hf2, H2⟩, ⟨%f3, %hf3, H3⟩, ⟨%e4, %f4, %hf4, H4⟩, ⟨%e5, %f5, %hf5, H5⟩, ⟨%e6, %f6, %hf6, H6⟩⟩
  subst hf0 hf1 hf2 hf3
  have rd : ∀ (a : Memref sig .tc .vmem S .f32) (f : a.view.ty.Contents (Elt F)),
      View.readAt (Elt F) a.view (Rect.unit (s := S) o S.size ib).toLoadRect f = View.read (Elt F) a.view f := fun a f => View.ld_unit_lit ib _ ho
  sl_exec
  sl_step
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (cov _), can]
  isplitl [H5]
  · iexists _; isplitr
    swap; · iexact H5
    ipureintro
    rw [View.read_writes_eq_canon _ _ _ (cov _), can]
  iexists _; isplitr
  swap; · iexact H6
  ipureintro
  rw [View.read_writes_eq_canon _ _ _ (cov _), can]

/-- The same on arrays of which those read are held at contents that are known, and those written at any. -/
theorem step_held {S : Shape} {o : Fin S.rank → ℕ} {ib : ∀ a, o a + S.size a ≤ S.size a} {h : 0 < S.numel} (ho : ∀ a, o a = 0)
    (c : Dev nD) {w g m v d m' v' : Memref sig .tc .vmem S .f32} {x y z u : Vec F S .f32} {X Y Z U D M N : Vec F S .f32 → Vec F S .f32}
    (hX : ∀ a, X a = x) (hY : ∀ a, Y a = y) (hZ : ∀ a, Z a = z) (hU : ∀ a, U a = u) :
    (iprop((∃ a, owns (c : Thread nD τ) w fullShare (X a)) ∗ (∃ a, owns (c : Thread nD τ) g fullShare (Y a))
        ∗ (∃ a, owns (c : Thread nD τ) m fullShare (Z a)) ∗ (∃ a, owns (c : Thread nD τ) v fullShare (U a))
        ∗ (∃ a, owns (c : Thread nD τ) d fullShare (D a)) ∗ (∃ a, owns (c : Thread nD τ) m' fullShare (M a))
        ∗ (∃ a, owns (c : Thread nD τ) v' fullShare (N a))) : sProp 𝕄)
      ⊢ wp frame (wpE (defs₀ (F := F)) Variants.none c none) Set.univ (step o ib h w g m v d m' v') (fun _ =>
          iprop(owns (c : Thread nD τ) w fullShare x ∗ owns (c : Thread nD τ) g fullShare y ∗ owns (c : Thread nD τ) m fullShare z
            ∗ owns (c : Thread nD τ) v fullShare u ∗ owns (c : Thread nD τ) d fullShare (delta x y z u)
            ∗ owns (c : Thread nD τ) m' fullShare (newM y z) ∗ owns (c : Thread nD τ) v' fullShare (newV y u))) := by
  refine BIBase.Entails.trans ?_ (step_sound o ib h ho c w g m v d m' v' x y z u)
  iintro ⟨⟨%a0, H0⟩, ⟨%a1, H1⟩, ⟨%a2, H2⟩, ⟨%a3, H3⟩, ⟨%a4, H4⟩, ⟨%a5, H5⟩, ⟨%a6, H6⟩⟩
  rw [hX, hY, hZ, hU]
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- A last step. -/
theorem step_last (c : Dev nD) {p : Prog (TpuEff nD τ sig (Elt F) Λ₀ .tc) PUnit} {A B : sProp 𝕄}
    (hp : A ⊢ wp frame (wpE (defs₀ (F := F)) Variants.none c none) Set.univ p (fun _ => B)) :
    A ⊢ wp frame (wpE (defs₀ (F := F)) Variants.none c none) Set.univ (p >>= fun _ => pure PUnit.unit) (fun _ => B) := by
  rw [wp_bind]
  exact hp.trans (wp_mono _ _ _ fun _ => by iintro H; sl_step; iexact H)

/-- The kernel's body, on the blocks of a point, is the fifteen weights' steps one after another. -/
theorem body_eq (t : Fin cfg0.N) : bodyAt0 (F := F) t = (do
    step ![0, 0] inb_S2x1024_S2x1024_0_0 h_S2x1024 (win0_15.stage (cfg0.slots t 15)) (win0_0.stage (cfg0.slots t 0)) (win0_30.stage (cfg0.slots t 30)) (win0_45.stage (cfg0.slots t 45)) (win0_60.stage (cfg0.slots t 60)) (win0_61.stage (cfg0.slots t 61)) (win0_62.stage (cfg0.slots t 62))
    step ![0, 0] inb_S2x1024_S2x1024_0_0 h_S2x1024 (win0_16.stage (cfg0.slots t 16)) (win0_1.stage (cfg0.slots t 1)) (win0_31.stage (cfg0.slots t 31)) (win0_46.stage (cfg0.slots t 46)) (win0_63.stage (cfg0.slots t 63)) (win0_64.stage (cfg0.slots t 64)) (win0_65.stage (cfg0.slots t 65))
    step ![0, 0] inb_S2x256_S2x256_0_0 h_S2x256 (win0_17.stage (cfg0.slots t 17)) (win0_2.stage (cfg0.slots t 2)) (win0_32.stage (cfg0.slots t 32)) (win0_47.stage (cfg0.slots t 47)) (win0_66.stage (cfg0.slots t 66)) (win0_67.stage (cfg0.slots t 67)) (win0_68.stage (cfg0.slots t 68))
    step ![0, 0, 0, 0] inb_S2x4x128x128_S2x4x128x128_0_0_0_0 h_S2x4x128x128 (win0_18.stage (cfg0.slots t 18)) (win0_3.stage (cfg0.slots t 3)) (win0_33.stage (cfg0.slots t 33)) (win0_48.stage (cfg0.slots t 48)) (win0_69.stage (cfg0.slots t 69)) (win0_70.stage (cfg0.slots t 70)) (win0_71.stage (cfg0.slots t 71))
    step ![0, 0, 0] inb_S2x4x128_S2x4x128_0_0_0 h_S2x4x128 (win0_19.stage (cfg0.slots t 19)) (win0_4.stage (cfg0.slots t 4)) (win0_34.stage (cfg0.slots t 34)) (win0_49.stage (cfg0.slots t 49)) (win0_72.stage (cfg0.slots t 72)) (win0_73.stage (cfg0.slots t 73)) (win0_74.stage (cfg0.slots t 74))
    step ![0, 0] inb_S2x256_S2x256_0_0 h_S2x256 (win0_20.stage (cfg0.slots t 20)) (win0_5.stage (cfg0.slots t 5)) (win0_35.stage (cfg0.slots t 35)) (win0_50.stage (cfg0.slots t 50)) (win0_75.stage (cfg0.slots t 75)) (win0_76.stage (cfg0.slots t 76)) (win0_77.stage (cfg0.slots t 77))
    step ![0, 0] inb_S2x256_S2x256_0_0 h_S2x256 (win0_21.stage (cfg0.slots t 21)) (win0_6.stage (cfg0.slots t 6)) (win0_36.stage (cfg0.slots t 36)) (win0_51.stage (cfg0.slots t 51)) (win0_78.stage (cfg0.slots t 78)) (win0_79.stage (cfg0.slots t 79)) (win0_80.stage (cfg0.slots t 80))
    step ![0, 0, 0, 0] inb_S2x4x64x64_S2x4x64x64_0_0_0_0 h_S2x4x64x64 (win0_22.stage (cfg0.slots t 22)) (win0_7.stage (cfg0.slots t 7)) (win0_37.stage (cfg0.slots t 37)) (win0_52.stage (cfg0.slots t 52)) (win0_81.stage (cfg0.slots t 81)) (win0_82.stage (cfg0.slots t 82)) (win0_83.stage (cfg0.slots t 83))
    step ![0, 0] inb_S2x256_S2x256_0_0 h_S2x256 (win0_23.stage (cfg0.slots t 23)) (win0_8.stage (cfg0.slots t 8)) (win0_38.stage (cfg0.slots t 38)) (win0_53.stage (cfg0.slots t 53)) (win0_84.stage (cfg0.slots t 84)) (win0_85.stage (cfg0.slots t 85)) (win0_86.stage (cfg0.slots t 86))
    step ![0, 0] inb_S2x1024_S2x1024_0_0 h_S2x1024 (win0_24.stage (cfg0.slots t 24)) (win0_9.stage (cfg0.slots t 9)) (win0_39.stage (cfg0.slots t 39)) (win0_54.stage (cfg0.slots t 54)) (win0_87.stage (cfg0.slots t 87)) (win0_88.stage (cfg0.slots t 88)) (win0_89.stage (cfg0.slots t 89))
    step ![0, 0] inb_S2x1024_S2x1024_0_0 h_S2x1024 (win0_25.stage (cfg0.slots t 25)) (win0_10.stage (cfg0.slots t 10)) (win0_40.stage (cfg0.slots t 40)) (win0_55.stage (cfg0.slots t 55)) (win0_90.stage (cfg0.slots t 90)) (win0_91.stage (cfg0.slots t 91)) (win0_92.stage (cfg0.slots t 92))
    step ![0, 0] inb_S2x1024_S2x1024_0_0 h_S2x1024 (win0_26.stage (cfg0.slots t 26)) (win0_11.stage (cfg0.slots t 11)) (win0_41.stage (cfg0.slots t 41)) (win0_56.stage (cfg0.slots t 56)) (win0_93.stage (cfg0.slots t 93)) (win0_94.stage (cfg0.slots t 94)) (win0_95.stage (cfg0.slots t 95))
    step ![0, 0] inb_S1x1024_S1x1024_0_0 h_S1x1024 (win0_27.stage (cfg0.slots t 27)) (win0_12.stage (cfg0.slots t 12)) (win0_42.stage (cfg0.slots t 42)) (win0_57.stage (cfg0.slots t 57)) (win0_96.stage (cfg0.slots t 96)) (win0_97.stage (cfg0.slots t 97)) (win0_98.stage (cfg0.slots t 98))
    step ![0, 0, 0] inb_S2x3x32_S2x3x32_0_0_0 h_S2x3x32 (win0_28.stage (cfg0.slots t 28)) (win0_13.stage (cfg0.slots t 13)) (win0_43.stage (cfg0.slots t 43)) (win0_58.stage (cfg0.slots t 58)) (win0_99.stage (cfg0.slots t 99)) (win0_100.stage (cfg0.slots t 100)) (win0_101.stage (cfg0.slots t 101))
    step ![0, 0, 0] inb_S2x31x32_S2x31x32_0_0_0 h_S2x31x32 (win0_29.stage (cfg0.slots t 29)) (win0_14.stage (cfg0.slots t 14)) (win0_44.stage (cfg0.slots t 44)) (win0_59.stage (cfg0.slots t 59)) (win0_102.stage (cfg0.slots t 102)) (win0_103.stage (cfg0.slots t 103)) (win0_104.stage (cfg0.slots t 104))
    pure ⟨⟩) := rfl

end Cert.Small

end
-- ==== Proof.SmallData.lean ====
module

public import proofs.«01_k».proof.Proof.Small

@[expose] public section

set_option maxRecDepth 65536

noncomputable section

/-! What each window of the small weights' optimiser holds before and after the body. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the kernel is called: as launched. -/
abbrev V (c : Dev nD) (b : Ref sig .tc) : Buf (Elt F) ((c : Thread nD τ).loc b) := m ((c : Thread nD τ).loc b)

/-- The program is the kernel's call alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block: its whole array, as launched. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in each window's buffer: an array read as it was; of each weight the change and the two new moments. -/
def dats (_ : Fin 1) (c : Dev nD) : Pipeline.Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => blk m c 16 t
    | ⟨17, _⟩ => blk m c 17 t
    | ⟨18, _⟩ => blk m c 18 t
    | ⟨19, _⟩ => blk m c 19 t
    | ⟨20, _⟩ => blk m c 20 t
    | ⟨21, _⟩ => blk m c 21 t
    | ⟨22, _⟩ => blk m c 22 t
    | ⟨23, _⟩ => blk m c 23 t
    | ⟨24, _⟩ => blk m c 24 t
    | ⟨25, _⟩ => blk m c 25 t
    | ⟨26, _⟩ => blk m c 26 t
    | ⟨27, _⟩ => blk m c 27 t
    | ⟨28, _⟩ => blk m c 28 t
    | ⟨29, _⟩ => blk m c 29 t
    | ⟨30, _⟩ => blk m c 30 t
    | ⟨31, _⟩ => blk m c 31 t
    | ⟨32, _⟩ => blk m c 32 t
    | ⟨33, _⟩ => blk m c 33 t
    | ⟨34, _⟩ => blk m c 34 t
    | ⟨35, _⟩ => blk m c 35 t
    | ⟨36, _⟩ => blk m c 36 t
    | ⟨37, _⟩ => blk m c 37 t
    | ⟨38, _⟩ => blk m c 38 t
    | ⟨39, _⟩ => blk m c 39 t
    | ⟨40, _⟩ => blk m c 40 t
    | ⟨41, _⟩ => blk m c 41 t
    | ⟨42, _⟩ => blk m c 42 t
    | ⟨43, _⟩ => blk m c 43 t
    | ⟨44, _⟩ => blk m c 44 t
    | ⟨45, _⟩ => blk m c 45 t
    | ⟨46, _⟩ => blk m c 46 t
    | ⟨47, _⟩ => blk m c 47 t
    | ⟨48, _⟩ => blk m c 48 t
    | ⟨49, _⟩ => blk m c 49 t
    | ⟨50, _⟩ => blk m c 50 t
    | ⟨51, _⟩ => blk m c 51 t
    | ⟨52, _⟩ => blk m c 52 t
    | ⟨53, _⟩ => blk m c 53 t
    | ⟨54, _⟩ => blk m c 54 t
    | ⟨55, _⟩ => blk m c 55 t
    | ⟨56, _⟩ => blk m c 56 t
    | ⟨57, _⟩ => blk m c 57 t
    | ⟨58, _⟩ => blk m c 58 t
    | ⟨59, _⟩ => blk m c 59 t
    | ⟨60, _⟩ => delta (blk m c 15 t) (blk m c 0 t) (blk m c 30 t) (blk m c 45 t)
    | ⟨61, _⟩ => newM (blk m c 0 t) (blk m c 30 t)
    | ⟨62, _⟩ => newV (blk m c 0 t) (blk m c 45 t)
    | ⟨63, _⟩ => delta (blk m c 16 t) (blk m c 1 t) (blk m c 31 t) (blk m c 46 t)
    | ⟨64, _⟩ => newM (blk m c 1 t) (blk m c 31 t)
    | ⟨65, _⟩ => newV (blk m c 1 t) (blk m c 46 t)
    | ⟨66, _⟩ => delta (blk m c 17 t) (blk m c 2 t) (blk m c 32 t) (blk m c 47 t)
    | ⟨67, _⟩ => newM (blk m c 2 t) (blk m c 32 t)
    | ⟨68, _⟩ => newV (blk m c 2 t) (blk m c 47 t)
    | ⟨69, _⟩ => delta (blk m c 18 t) (blk m c 3 t) (blk m c 33 t) (blk m c 48 t)
    | ⟨70, _⟩ => newM (blk m c 3 t) (blk m c 33 t)
    | ⟨71, _⟩ => newV (blk m c 3 t) (blk m c 48 t)
    | ⟨72, _⟩ => delta (blk m c 19 t) (blk m c 4 t) (blk m c 34 t) (blk m c 49 t)
    | ⟨73, _⟩ => newM (blk m c 4 t) (blk m c 34 t)
    | ⟨74, _⟩ => newV (blk m c 4 t) (blk m c 49 t)
    | ⟨75, _⟩ => delta (blk m c 20 t) (blk m c 5 t) (blk m c 35 t) (blk m c 50 t)
    | ⟨76, _⟩ => newM (blk m c 5 t) (blk m c 35 t)
    | ⟨77, _⟩ => newV (blk m c 5 t) (blk m c 50 t)
    | ⟨78, _⟩ => delta (blk m c 21 t) (blk m c 6 t) (blk m c 36 t) (blk m c 51 t)
    | ⟨79, _⟩ => newM (blk m c 6 t) (blk m c 36 t)
    | ⟨80, _⟩ => newV (blk m c 6 t) (blk m c 51 t)
    | ⟨81, _⟩ => delta (blk m c 22 t) (blk m c 7 t) (blk m c 37 t) (blk m c 52 t)
    | ⟨82, _⟩ => newM (blk m c 7 t) (blk m c 37 t)
    | ⟨83, _⟩ => newV (blk m c 7 t) (blk m c 52 t)
    | ⟨84, _⟩ => delta (blk m c 23 t) (blk m c 8 t) (blk m c 38 t) (blk m c 53 t)
    | ⟨85, _⟩ => newM (blk m c 8 t) (blk m c 38 t)
    | ⟨86, _⟩ => newV (blk m c 8 t) (blk m c 53 t)
    | ⟨87, _⟩ => delta (blk m c 24 t) (blk m c 9 t) (blk m c 39 t) (blk m c 54 t)
    | ⟨88, _⟩ => newM (blk m c 9 t) (blk m c 39 t)
    | ⟨89, _⟩ => newV (blk m c 9 t) (blk m c 54 t)
    | ⟨90, _⟩ => delta (blk m c 25 t) (blk m c 10 t) (blk m c 40 t) (blk m c 55 t)
    | ⟨91, _⟩ => newM (blk m c 10 t) (blk m c 40 t)
    | ⟨92, _⟩ => newV (blk m c 10 t) (blk m c 55 t)
    | ⟨93, _⟩ => delta (blk m c 26 t) (blk m c 11 t) (blk m c 41 t) (blk m c 56 t)
    | ⟨94, _⟩ => newM (blk m c 11 t) (blk m c 41 t)
    | ⟨95, _⟩ => newV (blk m c 11 t) (blk m c 56 t)
    | ⟨96, _⟩ => delta (blk m c 27 t) (blk m c 12 t) (blk m c 42 t) (blk m c 57 t)
    | ⟨97, _⟩ => newM (blk m c 12 t) (blk m c 42 t)
    | ⟨98, _⟩ => newV (blk m c 12 t) (blk m c 57 t)
    | ⟨99, _⟩ => delta (blk m c 28 t) (blk m c 13 t) (blk m c 43 t) (blk m c 58 t)
    | ⟨100, _⟩ => newM (blk m c 13 t) (blk m c 43 t)
    | ⟨101, _⟩ => newV (blk m c 13 t) (blk m c 58 t)
    | ⟨102, _⟩ => delta (blk m c 29 t) (blk m c 14 t) (blk m c 44 t) (blk m c 59 t)
    | ⟨103, _⟩ => newM (blk m c 14 t) (blk m c 44 t)
    | ⟨104, _⟩ => newV (blk m c 14 t) (blk m c 59 t)
    | ⟨_ + 105, h⟩ => absurd h (Nat.not_lt.2 (Nat.le_add_left _ _))
  Φ _ := Pipeline.ΦA spec0 c
  q _ := fullShare
  owed _ := 0

/-- The windows weight by weight: weight, gradient, the two moments, and the three results. -/
abbrev order : List (Fin 105) := [15, 0, 30, 45, 60, 61, 62, 16, 1, 31, 46, 63, 64, 65, 17, 2, 32, 47, 66, 67, 68, 18, 3, 33, 48, 69, 70, 71, 19, 4, 34, 49, 72, 73, 74, 20, 5, 35, 50, 75, 76, 77, 21, 6, 36, 51, 78, 79, 80, 22, 7, 37, 52, 81, 82, 83, 23, 8, 38, 53, 84, 85, 86, 24, 9, 39, 54, 87, 88, 89, 25, 10, 40, 55, 90, 91, 92, 26, 11, 41, 56, 93, 94, 95, 27, 12, 42, 57, 96, 97, 98, 28, 13, 43, 58, 99, 100, 101, 29, 14, 44, 59, 102, 103, 104]

theorem bigSep_order {M : Type} [URA M] (Φ : Fin 105 → sProp M) : bigSep Finset.univ Φ = bigSepL order Φ :=
  bigSep_univ_eq_bigSepL order (by decide) (by decide) Φ

/-- A program `k` run with two things beside it that it doesn't touch. -/
theorem beside (c : Dev nD) {P O R R' : sProp 𝕄} {k : Prog (TpuEff nD τ sig (Elt F) Λ₀ .tc) PUnit}
    (h : R ⊢ wp frame (wpE (defs₀ (F := F)) Variants.none c none) Set.univ k (fun _ => R')) :
    iprop(P ∗ O ∗ R) ⊢ wp frame (wpE (defs₀ (F := F)) Variants.none c none) Set.univ k (fun _ => iprop(P ∗ O ∗ R')) :=
  (BI.sep_mono_r ((BI.sep_mono_r h).trans (wp_frame_l _ _ _))).trans (wp_frame_l _ _ _)

/-- A window that is only read holds, before the body, what it holds after it. The conditions hold by evaluation at each such window. -/
theorem held (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (hx : ∀ t d, (dats m 0 c).fetched w t d = (dats m 0 c).after w t) (t : Fin cfg0.N) (d) :
    (dats m 0 c).before w t d = (dats m 0 c).after w t :=
  ((dats m 0 c).before_in_eq_fetched w hw hlive hclip hkeep t d).trans (hx t d)

/-- Some windows' buffers as they are when the body begins. -/
abbrev entering (c : Dev nD) (t : Fin cfg0.N) (l : List (Fin 105)) : sProp 𝕄 :=
  bigSepL l (fun w => iprop(∃ d, owns (c : Thread nD τ) ((cfg0.win w).stage (cfg0.slots t w)) fullShare ((dats m 0 c).before w t d)))

/-- Some windows' buffers as they are when it is done. -/
abbrev leaving (c : Dev nD) (t : Fin cfg0.N) (l : List (Fin 105)) : sProp 𝕄 :=
  bigSepL l (fun w => owns (c : Thread nD τ) ((cfg0.win w).stage (cfg0.slots t w)) fullShare ((dats m 0 c).after w t))

theorem defs₀_row (t : Fin cfg0.N) : defs₀ (F := F) .tc cfg0.body (cfg0.bodyArgs t (cfg0.slots t)) = bodyAt0 t := by
  unfold defs₀; rw [Defs.onTc_tc]

theorem z2 : ∀ a, (![0, 0] : Fin 2 → ℕ) a = 0 := by decide
theorem z3 : ∀ a, (![0, 0, 0] : Fin 3 → ℕ) a = 0 := by decide
theorem z4 : ∀ a, (![0, 0, 0, 0] : Fin 4 → ℕ) a = 0 := by decide

end Cert.Small

end
-- ==== Proof.SmallBody0.lean ====
module

public import proofs.«01_k».proof.Proof.SmallData

@[expose] public section

set_option maxRecDepth 65536

noncomputable section

/-! The steps of weights 0 to 3 on their windows. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight0 (c : Dev nD) (t : Fin cfg0.N) : entering m c t [15, 0, 30, 45, 60, 61, 62]
    ⊢ wp frame (wpE (defs₀ (F := F)) Variants.none c none) Set.univ
      (step ![0, 0] inb_S2x1024_S2x1024_0_0 h_S2x1024 (win0_15.stage (cfg0.slots t 15)) (win0_0.stage (cfg0.slots t 0)) (win0_30.stage (cfg0.slots t 30)) (win0_45.stage (cfg0.slots t 45)) (win0_60.stage (cfg0.slots t 60)) (win0_61.stage (cfg0.slots t 61)) (win0_62.stage (cfg0.slots t 62)))
      (fun _ => leaving m c t [15, 0, 30, 45, 60, 61, 62]) :=
  step_held z2 c (held m c 15 rfl (fun _ => rfl) (fun _ _ _ => rfl) (fun _ => rfl) (fun _ _ => rfl) t)
    (held m c 0 rfl (fun _ => rfl) (fun _ _ _ => rfl) (fun _ => rfl) (fun _ _ => rfl) t)
    (held m c 30 rfl (fun _ => rfl) (fun _ _ _ => rfl) (fun _ => rfl) (fun _ _ => rfl) t)
    (held m c 45 rfl (fun _ => rfl) (fun _ _ _ => rfl) (fun _ => rfl) (fun _ _ => rfl) t)

set_option maxHeartbeats 4000000 in
theorem weight1 (c : Dev nD) (t : Fin cfg0.N) : entering m c t [16, 1, 31, 46, 63, 64, 65]
    ⊢ wp frame (wpE (defs₀ (F := F)) Variants.none c none) Set.univ
      (step ![0, 0] inb_S2x1024_S2x1024_0_0 h_S2x1024 (win0_16.stage (cfg0.slots t 16)) (win0_1.stage (cfg0.slots t 1)) (win0_31.stage (cfg0.slots t 31)) (win0_46.stage (cfg0.slots t 46)) (win0_63.stage (cfg0.slots t 63)) (win0_64.stage (cfg0.slots t 64)) (win0_65.stage (cfg0.slots t 65)))
      (fun _ => leaving m c t [16, 1, 31, 46, 63, 64, 65]) :=
  step_held z2 c (held m c 16 rfl (fun _ => rfl) (fun _ _ _ => rfl) (fun _ => rfl) (fun _ _ => rfl) t)
    (held m c 1 rfl (fun _ => rfl) (fun _ _ _ => rfl) (fun _ => rfl) (fun _ _ => rfl) t)
    (held m c 31 rfl (fun _ => rfl) (fun _ _ _ => rfl) (fun _ => rfl) (fun _ _ => rfl) t)
    (held m c 46 rfl (fun _ => rfl) (fun _ _ _ => rfl) (fun _ => rfl) (fun _ _ => rfl) t)

set_option maxHeartbeats 4000000 in
theorem weight2 (c : Dev nD) (t : Fin cfg0.N) : entering m c t [17, 2, 32, 47, 66, 67, 68]
    ⊢ wp frame (wpE (defs₀ (F := F)) Variants.none c none) Set.univ
      (step ![0, 0] inb_S2x256_S2x256_0_0 h_S2x256 (win0_17.stage (cfg0.slots t 17)) (win0_2.stage (cfg0.slots t 2)) (win0_32.stage (cfg0.slots t 32)) (win0_47.stage (cfg0.slots t 47)) (win0_66.stage (cfg0.slots t 66)) (win0_67.stage (cfg0.slots t 67)) (win0_68.stage (cfg0.slots t 68)))
      (fun _ => leaving m c t [17, 2, 32, 47, 66, 67, 68]) :=
  step_held z2 c (held m c 17 rfl (fun _ => rfl) (fun _ _ _ => rfl) (fun _ => rfl) (fun _ _ => rfl) t)
    (held m c 2 rfl (fun _ => rfl) (fun _ _ _ => rfl) (fun _ => rfl) (fun _ _ => rfl) t)
    (held m c 32 rfl (fun _ => rfl) (fun _ _ _ => rfl) (fun _ => rfl) (fun _ _ => rfl) t)
    (held m c 47 rfl (fun _ => rfl) (fun _ _ _ => rfl) (fun _ => rfl) (fun _ _ => rfl) t)

set_option maxHeartbeats 4000000 in
theorem weight3 (c : Dev nD) (t : Fin cfg0.N) : entering m c t [18, 3, 33, 48, 69, 70, 71]
    ⊢ wp frame (wpE (defs₀ (F := F)) Variants.none c none) Set.univ
      (step ![0, 0, 0, 0] inb_S2x4x128x128_S2x4x128x128_0_0_0_0 h_S2x4x128x128 (win0_18.stage (cfg0.slots t 18)) (win0_3.stage (cfg0.slots t 3)) (win0_33.stage (cfg0.slots t 33)) (win0_48.stage (cfg0.slots t 48)) (win0_69.stage (cfg0.slots t 69)) (win0_70.stage (cfg0.slots t 70)) (win0_71.stage (cfg0.slots t 71)))
      (fun _ => leaving m c t [18, 3, 33, 48, 69, 70, 71]) :=
  step_held z4 c (held m c 18 rfl (fun _ => rfl) (fun _ _ _ => rfl) (fun _ => rfl) (fun _ _ => rfl) t)
    (held m c 3 rfl (fun _ => rfl) (fun _ _ _ => rfl) (fun _ => rfl) (fun _ _ => rfl) t)
    (held m c 33 rfl (fun _ => rfl) (fun _ _ _ => rfl) (fun _ => rfl) (fun _ _ => rfl) t)
    (held m c 48 rfl (fun _ => rfl) (fun _ _ _ => rfl) (fun _ => rfl) (fun _ _ => rfl) t)

end Cert.Small

end
-- ==== Proof.SmallBody1.lean ====
module

public import proofs.«01_k».proof.Proof.SmallData

@[expose] public section

set_option maxRecDepth 65536

noncomputable section

/-! The steps of weights 4 to 7 on their windows. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight4 (c : Dev nD) (t : Fin cfg0.N) : entering m c t [19, 4, 34, 49, 72, 73, 74]
    ⊢ wp frame (wpE (defs₀ (F := F)) Variants.none c none) Set.univ
      (step ![0, 0, 0] inb_S2x4x128_S2x4x128_0_0_0 h_S2x4x128 (win0_19.stage (cfg0.slots t 19)) (win0_4.stage (cfg0.slots t 4)) (win0_34.stage (cfg0.slots t 34)) (win0_49.stage (cfg0.slots t 49)) (win0_72.stage (cfg0.slots t 72)) (win0_73.stage (cfg0.slots t 73)) (win0_74.stage (cfg0.slots t 74)))
      (fun _ => leaving m c t [19, 4, 34, 49, 72, 73, 74]) :=
  step_held z3 c (held m c 19 rfl (fun _ => rfl) (fun _ _ _ => rfl) (fun _ => rfl) (fun _ _ => rfl) t)
    (held m c 4 rfl (fun _ => rfl) (fun _ _ _ => rfl) (fun _ => rfl) (fun _ _ => rfl) t)
    (held m c 34 rfl (fun _ => rfl) (fun _ _ _ => rfl) (fun _ => rfl) (fun _ _ => rfl) t)
    (held m c 49 rfl (fun _ => rfl) (fun _ _ _ => rfl) (fun _ => rfl) (fun _ _ => rfl) t)

set_option maxHeartbeats 4000000 in
theorem weight5 (c : Dev nD) (t : Fin cfg0.N) : entering m c t [20, 5, 35, 50, 75, 76, 77]
    ⊢ wp frame (wpE (defs₀ (F := F)) Variants.none c none) Set.univ
      (step ![0, 0] inb_S2x256_S2x256_0_0 h_S2x256 (win0_20.stage (cfg0.slots t 20)) (win0_5.stage (cfg0.slots t 5)) (win0_35.stage (cfg0.slots t 35)) (win0_50.stage (cfg0.slots t 50)) (win0_75.stage (cfg0.slots t 75)) (win0_76.stage (cfg0.slots t 76)) (win0_77.stage (cfg0.slots t 77)))
      (fun _ => leaving m c t [20, 5, 35, 50, 75, 76, 77]) :=
  step_held z2 c (held m c 20 rfl (fun _ => rfl) (fun _ _ _ => rfl) (fun _ => rfl) (fun _ _ => rfl) t)
    (held m c 5 rfl (fun _ => rfl) (fun _ _ _ => rfl) (fun _ => rfl) (fun _ _ => rfl) t)
    (held m c 35 rfl (fun _ => rfl) (fun _ _ _ => rfl) (fun _ => rfl) (fun _ _ => rfl) t)
    (held m c 50 rfl (fun _ => rfl) (fun _ _ _ => rfl) (fun _ => rfl) (fun _ _ => rfl) t)

set_option maxHeartbeats 4000000 in
theorem weight6 (c : Dev nD) (t : Fin cfg0.N) : entering m c t [21, 6, 36, 51, 78, 79, 80]
    ⊢ wp frame (wpE (defs₀ (F := F)) Variants.none c none) Set.univ
      (step ![0, 0] inb_S2x256_S2x256_0_0 h_S2x256 (win0_21.stage (cfg0.slots t 21)) (win0_6.stage (cfg0.slots t 6)) (win0_36.stage (cfg0.slots t 36)) (win0_51.stage (cfg0.slots t 51)) (win0_78.stage (cfg0.slots t 78)) (win0_79.stage (cfg0.slots t 79)) (win0_80.stage (cfg0.slots t 80)))
      (fun _ => leaving m c t [21, 6, 36, 51, 78, 79, 80]) :=
  step_held z2 c (held m c 21 rfl (fun _ => rfl) (fun _ _ _ => rfl) (fun _ => rfl) (fun _ _ => rfl) t)
    (held m c 6 rfl (fun _ => rfl) (fun _ _ _ => rfl) (fun _ => rfl) (fun _ _ => rfl) t)
    (held m c 36 rfl (fun _ => rfl) (fun _ _ _ => rfl) (fun _ => rfl) (fun _ _ => rfl) t)
    (held m c 51 rfl (fun _ => rfl) (fun _ _ _ => rfl) (fun _ => rfl) (fun _ _ => rfl) t)

set_option maxHeartbeats 4000000 in
theorem weight7 (c : Dev nD) (t : Fin cfg0.N) : entering m c t [22, 7, 37, 52, 81, 82, 83]
    ⊢ wp frame (wpE (defs₀ (F := F)) Variants.none c none) Set.univ
      (step ![0, 0, 0, 0] inb_S2x4x64x64_S2x4x64x64_0_0_0_0 h_S2x4x64x64 (win0_22.stage (cfg0.slots t 22)) (win0_7.stage (cfg0.slots t 7)) (win0_37.stage (cfg0.slots t 37)) (win0_52.stage (cfg0.slots t 52)) (win0_81.stage (cfg0.slots t 81)) (win0_82.stage (cfg0.slots t 82)) (win0_83.stage (cfg0.slots t 83)))
      (fun _ => leaving m c t [22, 7, 37, 52, 81, 82, 83]) :=
  step_held z4 c (held m c 22 rfl (fun _ => rfl) (fun _ _ _ => rfl) (fun _ => rfl) (fun _ _ => rfl) t)
    (held m c 7 rfl (fun _ => rfl) (fun _ _ _ => rfl) (fun _ => rfl) (fun _ _ => rfl) t)
    (held m c 37 rfl (fun _ => rfl) (fun _ _ _ => rfl) (fun _ => rfl) (fun _ _ => rfl) t)
    (held m c 52 rfl (fun _ => rfl) (fun _ _ _ => rfl) (fun _ => rfl) (fun _ _ => rfl) t)

end Cert.Small

end
-- ==== Proof.SmallBody2.lean ====
module

public import proofs.«01_k».proof.Proof.SmallData

@[expose] public section

set_option maxRecDepth 65536

noncomputable section

/-! The steps of weights 8 to 11 on their windows. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight8 (c : Dev nD) (t : Fin cfg0.N) : entering m c t [23, 8, 38, 53, 84, 85, 86]
    ⊢ wp frame (wpE (defs₀ (F := F)) Variants.none c none) Set.univ
      (step ![0, 0] inb_S2x256_S2x256_0_0 h_S2x256 (win0_23.stage (cfg0.slots t 23)) (win0_8.stage (cfg0.slots t 8)) (win0_38.stage (cfg0.slots t 38)) (win0_53.stage (cfg0.slots t 53)) (win0_84.stage (cfg0.slots t 84)) (win0_85.stage (cfg0.slots t 85)) (win0_86.stage (cfg0.slots t 86)))
      (fun _ => leaving m c t [23, 8, 38, 53, 84, 85, 86]) :=
  step_held z2 c (held m c 23 rfl (fun _ => rfl) (fun _ _ _ => rfl) (fun _ => rfl) (fun _ _ => rfl) t)
    (held m c 8 rfl (fun _ => rfl) (fun _ _ _ => rfl) (fun _ => rfl) (fun _ _ => rfl) t)
    (held m c 38 rfl (fun _ => rfl) (fun _ _ _ => rfl) (fun _ => rfl) (fun _ _ => rfl) t)
    (held m c 53 rfl (fun _ => rfl) (fun _ _ _ => rfl) (fun _ => rfl) (fun _ _ => rfl) t)

set_option maxHeartbeats 4000000 in
theorem weight9 (c : Dev nD) (t : Fin cfg0.N) : entering m c t [24, 9, 39, 54, 87, 88, 89]
    ⊢ wp frame (wpE (defs₀ (F := F)) Variants.none c none) Set.univ
      (step ![0, 0] inb_S2x1024_S2x1024_0_0 h_S2x1024 (win0_24.stage (cfg0.slots t 24)) (win0_9.stage (cfg0.slots t 9)) (win0_39.stage (cfg0.slots t 39)) (win0_54.stage (cfg0.slots t 54)) (win0_87.stage (cfg0.slots t 87)) (win0_88.stage (cfg0.slots t 88)) (win0_89.stage (cfg0.slots t 89)))
      (fun _ => leaving m c t [24, 9, 39, 54, 87, 88, 89]) :=
  step_held z2 c (held m c 24 rfl (fun _ => rfl) (fun _ _ _ => rfl) (fun _ => rfl) (fun _ _ => rfl) t)
    (held m c 9 rfl (fun _ => rfl) (fun _ _ _ => rfl) (fun _ => rfl) (fun _ _ => rfl) t)
    (held m c 39 rfl (fun _ => rfl) (fun _ _ _ => rfl) (fun _ => rfl) (fun _ _ => rfl) t)
    (held m c 54 rfl (fun _ => rfl) (fun _ _ _ => rfl) (fun _ => rfl) (fun _ _ => rfl) t)

set_option maxHeartbeats 4000000 in
theorem weight10 (c : Dev nD) (t : Fin cfg0.N) : entering m c t [25, 10, 40, 55, 90, 91, 92]
    ⊢ wp frame (wpE (defs₀ (F := F)) Variants.none c none) Set.univ
      (step ![0, 0] inb_S2x1024_S2x1024_0_0 h_S2x1024 (win0_25.stage (cfg0.slots t 25)) (win0_10.stage (cfg0.slots t 10)) (win0_40.stage (cfg0.slots t 40)) (win0_55.stage (cfg0.slots t 55)) (win0_90.stage (cfg0.slots t 90)) (win0_91.stage (cfg0.slots t 91)) (win0_92.stage (cfg0.slots t 92)))
      (fun _ => leaving m c t [25, 10, 40, 55, 90, 91, 92]) :=
  step_held z2 c (held m c 25 rfl (fun _ => rfl) (fun _ _ _ => rfl) (fun _ => rfl) (fun _ _ => rfl) t)
    (held m c 10 rfl (fun _ => rfl) (fun _ _ _ => rfl) (fun _ => rfl) (fun _ _ => rfl) t)
    (held m c 40 rfl (fun _ => rfl) (fun _ _ _ => rfl) (fun _ => rfl) (fun _ _ => rfl) t)
    (held m c 55 rfl (fun _ => rfl) (fun _ _ _ => rfl) (fun _ => rfl) (fun _ _ => rfl) t)

set_option maxHeartbeats 4000000 in
theorem weight11 (c : Dev nD) (t : Fin cfg0.N) : entering m c t [26, 11, 41, 56, 93, 94, 95]
    ⊢ wp frame (wpE (defs₀ (F := F)) Variants.none c none) Set.univ
      (step ![0, 0] inb_S2x1024_S2x1024_0_0 h_S2x1024 (win0_26.stage (cfg0.slots t 26)) (win0_11.stage (cfg0.slots t 11)) (win0_41.stage (cfg0.slots t 41)) (win0_56.stage (cfg0.slots t 56)) (win0_93.stage (cfg0.slots t 93)) (win0_94.stage (cfg0.slots t 94)) (win0_95.stage (cfg0.slots t 95)))
      (fun _ => leaving m c t [26, 11, 41, 56, 93, 94, 95]) :=
  step_held z2 c (held m c 26 rfl (fun _ => rfl) (fun _ _ _ => rfl) (fun _ => rfl) (fun _ _ => rfl) t)
    (held m c 11 rfl (fun _ => rfl) (fun _ _ _ => rfl) (fun _ => rfl) (fun _ _ => rfl) t)
    (held m c 41 rfl (fun _ => rfl) (fun _ _ _ => rfl) (fun _ => rfl) (fun _ _ => rfl) t)
    (held m c 56 rfl (fun _ => rfl) (fun _ _ _ => rfl) (fun _ => rfl) (fun _ _ => rfl) t)

end Cert.Small

end
-- ==== Proof.SmallBody3.lean ====
module

public import proofs.«01_k».proof.Proof.SmallData

@[expose] public section

set_option maxRecDepth 65536

noncomputable section

/-! The steps of weights 12 to 14 on their windows. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight12 (c : Dev nD) (t : Fin cfg0.N) : entering m c t [27, 12, 42, 57, 96, 97, 98]
    ⊢ wp frame (wpE (defs₀ (F := F)) Variants.none c none) Set.univ
      (step ![0, 0] inb_S1x1024_S1x1024_0_0 h_S1x1024 (win0_27.stage (cfg0.slots t 27)) (win0_12.stage (cfg0.slots t 12)) (win0_42.stage (cfg0.slots t 42)) (win0_57.stage (cfg0.slots t 57)) (win0_96.stage (cfg0.slots t 96)) (win0_97.stage (cfg0.slots t 97)) (win0_98.stage (cfg0.slots t 98)))
      (fun _ => leaving m c t [27, 12, 42, 57, 96, 97, 98]) :=
  step_held z2 c (held m c 27 rfl (fun _ => rfl) (fun _ _ _ => rfl) (fun _ => rfl) (fun _ _ => rfl) t)
    (held m c 12 rfl (fun _ => rfl) (fun _ _ _ => rfl) (fun _ => rfl) (fun _ _ => rfl) t)
    (held m c 42 rfl (fun _ => rfl) (fun _ _ _ => rfl) (fun _ => rfl) (fun _ _ => rfl) t)
    (held m c 57 rfl (fun _ => rfl) (fun _ _ _ => rfl) (fun _ => rfl) (fun _ _ => rfl) t)

set_option maxHeartbeats 4000000 in
theorem weight13 (c : Dev nD) (t : Fin cfg0.N) : entering m c t [28, 13, 43, 58, 99, 100, 101]
    ⊢ wp frame (wpE (defs₀ (F := F)) Variants.none c none) Set.univ
      (step ![0, 0, 0] inb_S2x3x32_S2x3x32_0_0_0 h_S2x3x32 (win0_28.stage (cfg0.slots t 28)) (win0_13.stage (cfg0.slots t 13)) (win0_43.stage (cfg0.slots t 43)) (win0_58.stage (cfg0.slots t 58)) (win0_99.stage (cfg0.slots t 99)) (win0_100.stage (cfg0.slots t 100)) (win0_101.stage (cfg0.slots t 101)))
      (fun _ => leaving m c t [28, 13, 43, 58, 99, 100, 101]) :=
  step_held z3 c (held m c 28 rfl (fun _ => rfl) (fun _ _ _ => rfl) (fun _ => rfl) (fun _ _ => rfl) t)
    (held m c 13 rfl (fun _ => rfl) (fun _ _ _ => rfl) (fun _ => rfl) (fun _ _ => rfl) t)
    (held m c 43 rfl (fun _ => rfl) (fun _ _ _ => rfl) (fun _ => rfl) (fun _ _ => rfl) t)
    (held m c 58 rfl (fun _ => rfl) (fun _ _ _ => rfl) (fun _ => rfl) (fun _ _ => rfl) t)

set_option maxHeartbeats 4000000 in
theorem weight14 (c : Dev nD) (t : Fin cfg0.N) : entering m c t [29, 14, 44, 59, 102, 103, 104]
    ⊢ wp frame (wpE (defs₀ (F := F)) Variants.none c none) Set.univ
      (step ![0, 0, 0] inb_S2x31x32_S2x31x32_0_0_0 h_S2x31x32 (win0_29.stage (cfg0.slots t 29)) (win0_14.stage (cfg0.slots t 14)) (win0_44.stage (cfg0.slots t 44)) (win0_59.stage (cfg0.slots t 59)) (win0_102.stage (cfg0.slots t 102)) (win0_103.stage (cfg0.slots t 103)) (win0_104.stage (cfg0.slots t 104)))
      (fun _ => leaving m c t [29, 14, 44, 59, 102, 103, 104]) :=
  step_held z3 c (held m c 29 rfl (fun _ => rfl) (fun _ _ _ => rfl) (fun _ => rfl) (fun _ _ => rfl) t)
    (held m c 14 rfl (fun _ => rfl) (fun _ _ _ => rfl) (fun _ => rfl) (fun _ _ => rfl) t)
    (held m c 44 rfl (fun _ => rfl) (fun _ _ _ => rfl) (fun _ => rfl) (fun _ _ => rfl) t)
    (held m c 59 rfl (fun _ => rfl) (fun _ _ _ => rfl) (fun _ => rfl) (fun _ _ => rfl) t)

end Cert.Small

end
-- ==== Proof.SmallRun.lean ====
module

public import proofs.«01_k».proof.Proof.SmallBody0
public import proofs.«01_k».proof.Proof.SmallBody1
public import proofs.«01_k».proof.Proof.SmallBody2
public import proofs.«01_k».proof.Proof.SmallBody3
public import Idealize.ShloMosaic.Lib.Pipeline.BigSepL

@[expose] public section

set_option maxRecDepth 65536

noncomputable section

/-! The run of the small weights' optimiser. -/

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwIdeal Cert.AdamwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A program on some windows before a program `k` on others. -/
theorem parts (c : Dev nD) (t : Fin cfg0.N) {l l' : List (Fin 105)} {p k : Prog (TpuEff nD τ sig (Elt F) Λ₀ .tc) PUnit}
    (hp : entering m c t l ⊢ wp frame (wpE (defs₀ (F := F)) Variants.none c none) Set.univ p (fun _ => leaving m c t l))
    (hk : entering m c t l' ⊢ wp frame (wpE (defs₀ (F := F)) Variants.none c none) Set.univ k (fun _ => leaving m c t l')) :
    entering m c t (l ++ l') ⊢ wp frame (wpE (defs₀ (F := F)) Variants.none c none) Set.univ (p >>= fun _ => k)
      (fun _ => leaving m c t (l ++ l')) := by
  unfold entering leaving at *
  rw [bigSepL_append, bigSepL_append, wp_bind]
  refine (BI.sep_mono hp hk).trans ((wp_frame_r _ _ _).trans (wp_mono _ _ _ fun _ => ?_))
  exact wp_frame_l _ _ _

theorem order_eq : order = [15, 0, 30, 45, 60, 61, 62] ++ ([16, 1, 31, 46, 63, 64, 65] ++ ([17, 2, 32, 47, 66, 67, 68] ++ ([18, 3, 33, 48, 69, 70, 71] ++ ([19, 4, 34, 49, 72, 73, 74] ++ ([20, 5, 35, 50, 75, 76, 77] ++ ([21, 6, 36, 51, 78, 79, 80] ++ ([22, 7, 37, 52, 81, 82, 83] ++ ([23, 8, 38, 53, 84, 85, 86] ++ ([24, 9, 39, 54, 87, 88, 89] ++ ([25, 10, 40, 55, 90, 91, 92] ++ ([26, 11, 41, 56, 93, 94, 95] ++ ([27, 12, 42, 57, 96, 97, 98] ++ ([28, 13, 43, 58, 99, 100, 101] ++ ([29, 14, 44, 59, 102, 103, 104])))))))))))))) := rfl

set_option maxHeartbeats 4000000 in
/-- The body at a point: each weight's step on its seven windows. -/
theorem body_sound (c : Dev nD) (t : Fin cfg0.N) :
    entering m c t order ⊢ wp frame (wpE (defs₀ (F := F)) Variants.none c none) Set.univ (bodyAt0 t) (fun _ => leaving m c t order) := by
  rw [body_eq, order_eq]
  exact parts m c t (weight0 m c t) <| parts m c t (weight1 m c t) <| parts m c t (weight2 m c t) <| parts m c t (weight3 m c t) <| parts m c t (weight4 m c t) <| parts m c t (weight5 m c t) <| parts m c t (weight6 m c t) <| parts m c t (weight7 m c t) <| parts m c t (weight8 m c t) <| parts m c t (weight9 m c t) <| parts m c t (weight10 m c t) <| parts m c t (weight11 m c t) <| parts m c t (weight12 m c t) <| parts m c t (weight13 m c t) <| step_last c (weight14 m c t)

/-- The body's obligation at every point. -/
theorem body_obligation (c : Dev nD) : Pipeline.BodyObligation (dats (F := F) m 0 c) (defs₀ (F := F)) Variants.none () Set.univ := fun t => by
  rw [bigSep_order, bigSep_order, defs₀_row]
  exact triple_restated (beside c (body_sound m c t)) rfl .rfl fun _ => .rfl

theorem A_eq (c : Dev nD) (w : Fin cfg0.W) : (dats m 0 c).A w = V m c (Pipeline.arrRef spec0 w) := by dsimp only [dats]

set_option backward.isDefEq.respectTransparency.types false in
set_option maxHeartbeats 800000 in
/-- The program ends, each array holding what its window's last store left, and no semaphore raised. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Small

end
-- ==== Proof.SmallFrame.lean ====
module

public import proofs.«01_k».proof.Proof.SmallRun
public import Idealize.ShloMosaic.Lib.Pipeline.ValueKit.Geometry

@[expose] public section

set_option maxRecDepth 65536
set_option maxHeartbeats 4000000

noncomputable section

/-! The frame of the small weights' optimiser. -/

namespace Cert.Small

open Idealize.ShloMosaic Idealize.ShloMosaic.TcCoe Idealize.ShloMosaic.Tactic
open Idealize.SL.Sem
open Cert.AdamwIdeal Cert.AdamwIdeal.Gen

variable {F : FTy → Type} [FloatOps F]
variable (m : (ℓ : Loc nD τ sig) → Buf (Elt F) ℓ) (ρ : Dev nD → PrngReg)

variable {m}

/-- An array that is only read holds after the run what it held before. -/
theorem kept {r : PUnit × MemSt nD τ sig (Elt F)} (h : Pipeline.FramePost cfgs (dats m) 0 (V m) r) (c : Dev nD) (w : Fin cfg0.W) (hw : (cfg0.win w).isOut = false) :
    r.2.mem ((cfg0.spec w).arr.view.loc (c.tc : Thread nD τ)) = V m c (Pipeline.arrRef spec0 w) :=
  ((h c).1 w).trans (((dats m 0 c).arrAt_in w hw _).trans (A_eq m c w))

/-- An argument is unchanged. -/
abbrev Same (m : (ℓ : Loc nD τ sig) → Buf (Elt F) ℓ) (r : PUnit × MemSt nD τ sig (Elt F)) (c : Dev nD) (b : Ref sig .tc) : Prop :=
  r.2.mem ((c.tc : Thread nD τ).loc b) = m ((c.tc : Thread nD τ).loc b)

/-- All arguments are unchanged. -/
theorem args {r : PUnit × MemSt nD τ sig (Elt F)} (h : Pipeline.FramePost cfgs (dats m) 0 (V m) r) (c : Dev nD) :
    Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9 ∧ Same m r c main_arg10 ∧ Same m r c main_arg11 ∧ Same m r c main_arg12 ∧ Same m r c main_arg13 ∧ Same m r c main_arg14 ∧ Same m r c main_arg15 ∧ Same m r c main_arg16 ∧ Same m r c main_arg17 ∧ Same m r c main_arg18 ∧ Same m r c main_arg19 ∧ Same m r c main_arg20 ∧ Same m r c main_arg21 ∧ Same m r c main_arg22 ∧ Same m r c main_arg23 ∧ Same m r c main_arg24 ∧ Same m r c main_arg25 ∧ Same m r c main_arg26 ∧ Same m r c main_arg27 ∧ Same m r c main_arg28 ∧ Same m r c main_arg29 ∧ Same m r c main_arg30 ∧ Same m r c main_arg31 ∧ Same m r c main_arg32 ∧ Same m r c main_arg33 ∧ Same m r c main_arg34 ∧ Same m r c main_arg35 ∧ Same m r c main_arg36 ∧ Same m r c main_arg37 ∧ Same m r c main_arg38 ∧ Same m r c main_arg39 ∧ Same m r c main_arg40 ∧ Same m r c main_arg41 ∧ Same m r c main_arg42 ∧ Same m r c main_arg43 ∧ Same m r c main_arg44 ∧ Same m r c main_arg45 ∧ Same m r c main_arg46 ∧ Same m r c main_arg47 ∧ Same m r c main_arg48 ∧ Same m r c main_arg49 ∧ Same m r c main_arg50 ∧ Same m r c main_arg51 ∧ Same m r c main_arg52 ∧ Same m r c main_arg53 ∧ Same m r c main_arg54 ∧ Same m r c main_arg55 ∧ Same m r c main_arg56 ∧ Same m r c main_arg57 ∧ Same m r c main_arg58 ∧ Same m r c main_arg59 :=
  ⟨kept h c 0 rfl, kept h c 1 rfl, kept h c 2 rfl, kept h c 3 rfl, kept h c 4 rfl, kept h c 5 rfl, kept h c 6 rfl, kept h c 7 rfl, kept h c 8 rfl, kept h c 9 rfl, kept h c 10 rfl, kept h c 11 rfl, kept h c 12 rfl, kept h c 13 rfl, kept h c 14 rfl, kept h c 15 rfl, kept h c 16 rfl, kept h c 17 rfl, kept h c 18 rfl, kept h c 19 rfl, kept h c 20 rfl, kept h c 21 rfl, kept h c 22 rfl, kept h c 23 rfl, kept h c 24 rfl, kept h c 25 rfl, kept h c 26 rfl, kept h c 27 rfl, kept h c 28 rfl, kept h c 29 rfl, kept h c 30 rfl, kept h c 31 rfl, kept h c 32 rfl, kept h c 33 rfl, kept h c 34 rfl, kept h c 35 rfl, kept h c 36 rfl, kept h c 37 rfl, kept h c 38 rfl, kept h c 39 rfl, kept h c 40 rfl, kept h c 41 rfl, kept h c 42 rfl, kept h c 43 rfl, kept h c 44 rfl, kept h c 45 rfl, kept h c 46 rfl, kept h c 47 rfl, kept h c 48 rfl, kept h c 49 rfl, kept h c 50 rfl, kept h c 51 rfl, kept h c 52 rfl, kept h c 53 rfl, kept h c 54 rfl, kept h c 55 rfl, kept h c 56 rfl, kept h c 57 rfl, kept h c 58 rfl, kept h c 59 rfl⟩

variable (m)

/-- The frame: the program ends, its arguments unchanged and no semaphore raised. -/
theorem frame : θ_run defs (onTc (τ := τ) (main (F := F))) ⟨m, fun _ => 0, ρ⟩ (fun r => (∀ c : Dev nD,
    Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9 ∧ Same m r c main_arg10 ∧ Same m r c main_arg11 ∧ Same m r c main_arg12 ∧ Same m r c main_arg13 ∧ Same m r c main_arg14 ∧ Same m r c main_arg15 ∧ Same m r c main_arg16 ∧ Same m r c main_arg17 ∧ Same m r c main_arg18 ∧ Same m r c main_arg19 ∧ Same m r c main_arg20 ∧ Same m r c main_arg21 ∧ Same m r c main_arg22 ∧ Same m r c main_arg23 ∧ Same m r c main_arg24 ∧ Same m r c main_arg25 ∧ Same m r c main_arg26 ∧ Same m r c main_arg27 ∧ Same m r c main_arg28 ∧ Same m r c main_arg29 ∧ Same m r c main_arg30 ∧ Same m r c main_arg31 ∧ Same m r c main_arg32 ∧ Same m r c main_arg33 ∧ Same m r c main_arg34 ∧ Same m r c main_arg35 ∧ Same m r c main_arg36 ∧ Same m r c main_arg37 ∧ Same m r c main_arg38 ∧ Same m r c main_arg39 ∧ Same m r c main_arg40 ∧ Same m r c main_arg41 ∧ Same m r c main_arg42 ∧ Same m r c main_arg43 ∧ Same m r c main_arg44 ∧ Same m r c main_arg45 ∧ Same m r c main_arg46 ∧ Same m r c main_arg47 ∧ Same m r c main_arg48 ∧ Same m r c main_arg49 ∧ Same m r c main_arg50 ∧ Same m r c main_arg51 ∧ Same m r c main_arg52 ∧ Same m r c main_arg53 ∧ Same m r c main_arg54 ∧ Same m r c main_arg55 ∧ Same m r c main_arg56 ∧ Same m r c main_arg57 ∧ Same m r c main_arg58 ∧ Same m r c main_arg59) ∧ r.2.sem = fun _ => 0) :=
  (θ_run defs _ _).mono (fun _ h => ⟨fun c => args h.1 c, h.2⟩) (run_main m ρ)

end Cert.Small

end
-- ==== Proof.SmallVal.lean ====
module

public import proofs.«01_k».proof.Proof.SmallData
public import Idealize.ShloMosaic.Lib.Pipeline.ValueKit.Geometry

@[expose] public section

set_option maxRecDepth 65536
set_option maxHeartbeats 4000000

noncomputable section

/-! What the small weights' optimiser leaves in each result: the AdamW step of the arguments. -/

namespace Cert.Small

open Idealize.ShloMosaic Idealize.ShloMosaic.TcCoe Idealize.ShloMosaic.Tactic
open Idealize.SL.Sem
open Cert.AdamwIdeal Cert.AdamwIdeal.Gen

variable {F : FTy → Type} [FloatOps F]
variable (m : (ℓ : Loc nD τ sig) → Buf (Elt F) ℓ) (ρ : Dev nD → PrngReg)

/-- An argument's contents, as launched. -/
abbrev arg (c : Dev nD) (b : Ref sig .tc) : Buf (Elt F) ((c.tc : Thread nD τ).loc b) := m ((c.tc : Thread nD τ).loc b)

/-- The only point of the grid. -/
abbrev p0 : Fin cfg0.N := ⟨0, by decide⟩

theorem delta_congr {S : Shape} {w g p q w' g' p' q' : Vec F S .f32} (hw : w = w') (hg : g = g') (hp : p = p') (hq : q = q') :
    delta w g p q = delta w' g' p' q' := by subst hw hg hp hq; rfl

theorem newM_congr {S : Shape} {g p g' p' : Vec F S .f32} (hg : g = g') (hp : p = p') : newM g p = newM g' p' := by subst hg hp; rfl

theorem newV_congr {S : Shape} {g q g' q' : Vec F S .f32} (hg : g = g') (hq : q = q') : newV g q = newV g' q' := by subst hg hq; rfl

/-- A window that stands at block zero reads each element at its own index. -/
theorem at_zero (w : Pipeline.Window sig grid0) (t : Fin grid0.N) (hz : ∀ a, w.index t a = 0) (y : (w.xblock (grid0.coords t)).Idx) (a : Fin w.shape.rank) :
    ((w.rect t).emb y a : Nat) = y a :=
  Pipeline.Window.rect_emb_val_of_index_zero w t a (hz a) y

section Whole

/-! Each argument's block is the whole argument. -/

variable (c : Dev nD)

theorem whole0 : blk m c 0 p0 = arg m c main_arg0 := funext fun y => congrArg (arg m c main_arg0) (funext fun a => Fin.ext (at_zero win0_0 p0 (fun _ => rfl) y a))
theorem whole1 : blk m c 1 p0 = arg m c main_arg1 := funext fun y => congrArg (arg m c main_arg1) (funext fun a => Fin.ext (at_zero win0_1 p0 (fun _ => rfl) y a))
theorem whole2 : blk m c 2 p0 = arg m c main_arg2 := funext fun y => congrArg (arg m c main_arg2) (funext fun a => Fin.ext (at_zero win0_2 p0 (fun _ => rfl) y a))
theorem whole3 : blk m c 3 p0 = arg m c main_arg3 := funext fun y => congrArg (arg m c main_arg3) (funext fun a => Fin.ext (at_zero win0_3 p0 (fun _ => rfl) y a))
theorem whole4 : blk m c 4 p0 = arg m c main_arg4 := funext fun y => congrArg (arg m c main_arg4) (funext fun a => Fin.ext (at_zero win0_4 p0 (fun _ => rfl) y a))
theorem whole5 : blk m c 5 p0 = arg m c main_arg5 := funext fun y => congrArg (arg m c main_arg5) (funext fun a => Fin.ext (at_zero win0_5 p0 (fun _ => rfl) y a))
theorem whole6 : blk m c 6 p0 = arg m c main_arg6 := funext fun y => congrArg (arg m c main_arg6) (funext fun a => Fin.ext (at_zero win0_6 p0 (fun _ => rfl) y a))
theorem whole7 : blk m c 7 p0 = arg m c main_arg7 := funext fun y => congrArg (arg m c main_arg7) (funext fun a => Fin.ext (at_zero win0_7 p0 (fun _ => rfl) y a))
theorem whole8 : blk m c 8 p0 = arg m c main_arg8 := funext fun y => congrArg (arg m c main_arg8) (funext fun a => Fin.ext (at_zero win0_8 p0 (fun _ => rfl) y a))
theorem whole9 : blk m c 9 p0 = arg m c main_arg9 := funext fun y => congrArg (arg m c main_arg9) (funext fun a => Fin.ext (at_zero win0_9 p0 (fun _ => rfl) y a))
theorem whole10 : blk m c 10 p0 = arg m c main_arg10 := funext fun y => congrArg (arg m c main_arg10) (funext fun a => Fin.ext (at_zero win0_10 p0 (fun _ => rfl) y a))
theorem whole11 : blk m c 11 p0 = arg m c main_arg11 := funext fun y => congrArg (arg m c main_arg11) (funext fun a => Fin.ext (at_zero win0_11 p0 (fun _ => rfl) y a))
theorem whole12 : blk m c 12 p0 = arg m c main_arg12 := funext fun y => congrArg (arg m c main_arg12) (funext fun a => Fin.ext (at_zero win0_12 p0 (fun _ => rfl) y a))
theorem whole13 : blk m c 13 p0 = arg m c main_arg13 := funext fun y => congrArg (arg m c main_arg13) (funext fun a => Fin.ext (at_zero win0_13 p0 (fun _ => rfl) y a))
theorem whole14 : blk m c 14 p0 = arg m c main_arg14 := funext fun y => congrArg (arg m c main_arg14) (funext fun a => Fin.ext (at_zero win0_14 p0 (fun _ => rfl) y a))
theorem whole15 : blk m c 15 p0 = arg m c main_arg15 := funext fun y => congrArg (arg m c main_arg15) (funext fun a => Fin.ext (at_zero win0_15 p0 (fun _ => rfl) y a))
theorem whole16 : blk m c 16 p0 = arg m c main_arg16 := funext fun y => congrArg (arg m c main_arg16) (funext fun a => Fin.ext (at_zero win0_16 p0 (fun _ => rfl) y a))
theorem whole17 : blk m c 17 p0 = arg m c main_arg17 := funext fun y => congrArg (arg m c main_arg17) (funext fun a => Fin.ext (at_zero win0_17 p0 (fun _ => rfl) y a))
theorem whole18 : blk m c 18 p0 = arg m c main_arg18 := funext fun y => congrArg (arg m c main_arg18) (funext fun a => Fin.ext (at_zero win0_18 p0 (fun _ => rfl) y a))
theorem whole19 : blk m c 19 p0 = arg m c main_arg19 := funext fun y => congrArg (arg m c main_arg19) (funext fun a => Fin.ext (at_zero win0_19 p0 (fun _ => rfl) y a))
theorem whole20 : blk m c 20 p0 = arg m c main_arg20 := funext fun y => congrArg (arg m c main_arg20) (funext fun a => Fin.ext (at_zero win0_20 p0 (fun _ => rfl) y a))
theorem whole21 : blk m c 21 p0 = arg m c main_arg21 := funext fun y => congrArg (arg m c main_arg21) (funext fun a => Fin.ext (at_zero win0_21 p0 (fun _ => rfl) y a))
theorem whole22 : blk m c 22 p0 = arg m c main_arg22 := funext fun y => congrArg (arg m c main_arg22) (funext fun a => Fin.ext (at_zero win0_22 p0 (fun _ => rfl) y a))
theorem whole23 : blk m c 23 p0 = arg m c main_arg23 := funext fun y => congrArg (arg m c main_arg23) (funext fun a => Fin.ext (at_zero win0_23 p0 (fun _ => rfl) y a))
theorem whole24 : blk m c 24 p0 = arg m c main_arg24 := funext fun y => congrArg (arg m c main_arg24) (funext fun a => Fin.ext (at_zero win0_24 p0 (fun _ => rfl) y a))
theorem whole25 : blk m c 25 p0 = arg m c main_arg25 := funext fun y => congrArg (arg m c main_arg25) (funext fun a => Fin.ext (at_zero win0_25 p0 (fun _ => rfl) y a))
theorem whole26 : blk m c 26 p0 = arg m c main_arg26 := funext fun y => congrArg (arg m c main_arg26) (funext fun a => Fin.ext (at_zero win0_26 p0 (fun _ => rfl) y a))
theorem whole27 : blk m c 27 p0 = arg m c main_arg27 := funext fun y => congrArg (arg m c main_arg27) (funext fun a => Fin.ext (at_zero win0_27 p0 (fun _ => rfl) y a))
theorem whole28 : blk m c 28 p0 = arg m c main_arg28 := funext fun y => congrArg (arg m c main_arg28) (funext fun a => Fin.ext (at_zero win0_28 p0 (fun _ => rfl) y a))
theorem whole29 : blk m c 29 p0 = arg m c main_arg29 := funext fun y => congrArg (arg m c main_arg29) (funext fun a => Fin.ext (at_zero win0_29 p0 (fun _ => rfl) y a))
theorem whole30 : blk m c 30 p0 = arg m c main_arg30 := funext fun y => congrArg (arg m c main_arg30) (funext fun a => Fin.ext (at_zero win0_30 p0 (fun _ => rfl) y a))
theorem whole31 : blk m c 31 p0 = arg m c main_arg31 := funext fun y => congrArg (arg m c main_arg31) (funext fun a => Fin.ext (at_zero win0_31 p0 (fun _ => rfl) y a))
theorem whole32 : blk m c 32 p0 = arg m c main_arg32 := funext fun y => congrArg (arg m c main_arg32) (funext fun a => Fin.ext (at_zero win0_32 p0 (fun _ => rfl) y a))
theorem whole33 : blk m c 33 p0 = arg m c main_arg33 := funext fun y => congrArg (arg m c main_arg33) (funext fun a => Fin.ext (at_zero win0_33 p0 (fun _ => rfl) y a))
theorem whole34 : blk m c 34 p0 = arg m c main_arg34 := funext fun y => congrArg (arg m c main_arg34) (funext fun a => Fin.ext (at_zero win0_34 p0 (fun _ => rfl) y a))
theorem whole35 : blk m c 35 p0 = arg m c main_arg35 := funext fun y => congrArg (arg m c main_arg35) (funext fun a => Fin.ext (at_zero win0_35 p0 (fun _ => rfl) y a))
theorem whole36 : blk m c 36 p0 = arg m c main_arg36 := funext fun y => congrArg (arg m c main_arg36) (funext fun a => Fin.ext (at_zero win0_36 p0 (fun _ => rfl) y a))
theorem whole37 : blk m c 37 p0 = arg m c main_arg37 := funext fun y => congrArg (arg m c main_arg37) (funext fun a => Fin.ext (at_zero win0_37 p0 (fun _ => rfl) y a))
theorem whole38 : blk m c 38 p0 = arg m c main_arg38 := funext fun y => congrArg (arg m c main_arg38) (funext fun a => Fin.ext (at_zero win0_38 p0 (fun _ => rfl) y a))
theorem whole39 : blk m c 39 p0 = arg m c main_arg39 := funext fun y => congrArg (arg m c main_arg39) (funext fun a => Fin.ext (at_zero win0_39 p0 (fun _ => rfl) y a))
theorem whole40 : blk m c 40 p0 = arg m c main_arg40 := funext fun y => congrArg (arg m c main_arg40) (funext fun a => Fin.ext (at_zero win0_40 p0 (fun _ => rfl) y a))
theorem whole41 : blk m c 41 p0 = arg m c main_arg41 := funext fun y => congrArg (arg m c main_arg41) (funext fun a => Fin.ext (at_zero win0_41 p0 (fun _ => rfl) y a))
theorem whole42 : blk m c 42 p0 = arg m c main_arg42 := funext fun y => congrArg (arg m c main_arg42) (funext fun a => Fin.ext (at_zero win0_42 p0 (fun _ => rfl) y a))
theorem whole43 : blk m c 43 p0 = arg m c main_arg43 := funext fun y => congrArg (arg m c main_arg43) (funext fun a => Fin.ext (at_zero win0_43 p0 (fun _ => rfl) y a))
theorem whole44 : blk m c 44 p0 = arg m c main_arg44 := funext fun y => congrArg (arg m c main_arg44) (funext fun a => Fin.ext (at_zero win0_44 p0 (fun _ => rfl) y a))
theorem whole45 : blk m c 45 p0 = arg m c main_arg45 := funext fun y => congrArg (arg m c main_arg45) (funext fun a => Fin.ext (at_zero win0_45 p0 (fun _ => rfl) y a))
theorem whole46 : blk m c 46 p0 = arg m c main_arg46 := funext fun y => congrArg (arg m c main_arg46) (funext fun a => Fin.ext (at_zero win0_46 p0 (fun _ => rfl) y a))
theorem whole47 : blk m c 47 p0 = arg m c main_arg47 := funext fun y => congrArg (arg m c main_arg47) (funext fun a => Fin.ext (at_zero win0_47 p0 (fun _ => rfl) y a))
theorem whole48 : blk m c 48 p0 = arg m c main_arg48 := funext fun y => congrArg (arg m c main_arg48) (funext fun a => Fin.ext (at_zero win0_48 p0 (fun _ => rfl) y a))
theorem whole49 : blk m c 49 p0 = arg m c main_arg49 := funext fun y => congrArg (arg m c main_arg49) (funext fun a => Fin.ext (at_zero win0_49 p0 (fun _ => rfl) y a))
theorem whole50 : blk m c 50 p0 = arg m c main_arg50 := funext fun y => congrArg (arg m c main_arg50) (funext fun a => Fin.ext (at_zero win0_50 p0 (fun _ => rfl) y a))
theorem whole51 : blk m c 51 p0 = arg m c main_arg51 := funext fun y => congrArg (arg m c main_arg51) (funext fun a => Fin.ext (at_zero win0_51 p0 (fun _ => rfl) y a))
theorem whole52 : blk m c 52 p0 = arg m c main_arg52 := funext fun y => congrArg (arg m c main_arg52) (funext fun a => Fin.ext (at_zero win0_52 p0 (fun _ => rfl) y a))
theorem whole53 : blk m c 53 p0 = arg m c main_arg53 := funext fun y => congrArg (arg m c main_arg53) (funext fun a => Fin.ext (at_zero win0_53 p0 (fun _ => rfl) y a))
theorem whole54 : blk m c 54 p0 = arg m c main_arg54 := funext fun y => congrArg (arg m c main_arg54) (funext fun a => Fin.ext (at_zero win0_54 p0 (fun _ => rfl) y a))
theorem whole55 : blk m c 55 p0 = arg m c main_arg55 := funext fun y => congrArg (arg m c main_arg55) (funext fun a => Fin.ext (at_zero win0_55 p0 (fun _ => rfl) y a))
theorem whole56 : blk m c 56 p0 = arg m c main_arg56 := funext fun y => congrArg (arg m c main_arg56) (funext fun a => Fin.ext (at_zero win0_56 p0 (fun _ => rfl) y a))
theorem whole57 : blk m c 57 p0 = arg m c main_arg57 := funext fun y => congrArg (arg m c main_arg57) (funext fun a => Fin.ext (at_zero win0_57 p0 (fun _ => rfl) y a))
theorem whole58 : blk m c 58 p0 = arg m c main_arg58 := funext fun y => congrArg (arg m c main_arg58) (funext fun a => Fin.ext (at_zero win0_58 p0 (fun _ => rfl) y a))
theorem whole59 : blk m c 59 p0 = arg m c main_arg59 := funext fun y => congrArg (arg m c main_arg59) (funext fun a => Fin.ext (at_zero win0_59 p0 (fun _ => rfl) y a))

end Whole

section Final

/-! Each result array after the run. -/

variable (c : Dev nD)

theorem final60 : (dats m 0 c).arrAt 60 cfg0.N = delta (S := S2x1024) (arg m c main_arg15) (arg m c main_arg0) (arg m c main_arg30) (arg m c main_arg45) :=
  ((dats m 0 c).arrAt_eq_of_after_last 60 p0 (by decide +kernel) _ fun _ => rfl).trans (delta_congr (whole15 m c) (whole0 m c) (whole30 m c) (whole45 m c))
theorem final61 : (dats m 0 c).arrAt 61 cfg0.N = newM (S := S2x1024) (arg m c main_arg0) (arg m c main_arg30) :=
  ((dats m 0 c).arrAt_eq_of_after_last 61 p0 (by decide +kernel) _ fun _ => rfl).trans (newM_congr (whole0 m c) (whole30 m c))
theorem final62 : (dats m 0 c).arrAt 62 cfg0.N = newV (S := S2x1024) (arg m c main_arg0) (arg m c main_arg45) :=
  ((dats m 0 c).arrAt_eq_of_after_last 62 p0 (by decide +kernel) _ fun _ => rfl).trans (newV_congr (whole0 m c) (whole45 m c))
theorem final63 : (dats m 0 c).arrAt 63 cfg0.N = delta (S := S2x1024) (arg m c main_arg16) (arg m c main_arg1) (arg m c main_arg31) (arg m c main_arg46) :=
  ((dats m 0 c).arrAt_eq_of_after_last 63 p0 (by decide +kernel) _ fun _ => rfl).trans (delta_congr (whole16 m c) (whole1 m c) (whole31 m c) (whole46 m c))
theorem final64 : (dats m 0 c).arrAt 64 cfg0.N = newM (S := S2x1024) (arg m c main_arg1) (arg m c main_arg31) :=
  ((dats m 0 c).arrAt_eq_of_after_last 64 p0 (by decide +kernel) _ fun _ => rfl).trans (newM_congr (whole1 m c) (whole31 m c))
theorem final65 : (dats m 0 c).arrAt 65 cfg0.N = newV (S := S2x1024) (arg m c main_arg1) (arg m c main_arg46) :=
  ((dats m 0 c).arrAt_eq_of_after_last 65 p0 (by decide +kernel) _ fun _ => rfl).trans (newV_congr (whole1 m c) (whole46 m c))
theorem final66 : (dats m 0 c).arrAt 66 cfg0.N = delta (S := S2x256) (arg m c main_arg17) (arg m c main_arg2) (arg m c main_arg32) (arg m c main_arg47) :=
  ((dats m 0 c).arrAt_eq_of_after_last 66 p0 (by decide +kernel) _ fun _ => rfl).trans (delta_congr (whole17 m c) (whole2 m c) (whole32 m c) (whole47 m c))
theorem final67 : (dats m 0 c).arrAt 67 cfg0.N = newM (S := S2x256) (arg m c main_arg2) (arg m c main_arg32) :=
  ((dats m 0 c).arrAt_eq_of_after_last 67 p0 (by decide +kernel) _ fun _ => rfl).trans (newM_congr (whole2 m c) (whole32 m c))
theorem final68 : (dats m 0 c).arrAt 68 cfg0.N = newV (S := S2x256) (arg m c main_arg2) (arg m c main_arg47) :=
  ((dats m 0 c).arrAt_eq_of_after_last 68 p0 (by decide +kernel) _ fun _ => rfl).trans (newV_congr (whole2 m c) (whole47 m c))
theorem final69 : (dats m 0 c).arrAt 69 cfg0.N = delta (S := S2x4x128x128) (arg m c main_arg18) (arg m c main_arg3) (arg m c main_arg33) (arg m c main_arg48) :=
  ((dats m 0 c).arrAt_eq_of_after_last 69 p0 (by decide +kernel) _ fun _ => rfl).trans (delta_congr (whole18 m c) (whole3 m c) (whole33 m c) (whole48 m c))
theorem final70 : (dats m 0 c).arrAt 70 cfg0.N = newM (S := S2x4x128x128) (arg m c main_arg3) (arg m c main_arg33) :=
  ((dats m 0 c).arrAt_eq_of_after_last 70 p0 (by decide +kernel) _ fun _ => rfl).trans (newM_congr (whole3 m c) (whole33 m c))
theorem final71 : (dats m 0 c).arrAt 71 cfg0.N = newV (S := S2x4x128x128) (arg m c main_arg3) (arg m c main_arg48) :=
  ((dats m 0 c).arrAt_eq_of_after_last 71 p0 (by decide +kernel) _ fun _ => rfl).trans (newV_congr (whole3 m c) (whole48 m c))
theorem final72 : (dats m 0 c).arrAt 72 cfg0.N = delta (S := S2x4x128) (arg m c main_arg19) (arg m c main_arg4) (arg m c main_arg34) (arg m c main_arg49) :=
  ((dats m 0 c).arrAt_eq_of_after_last 72 p0 (by decide +kernel) _ fun _ => rfl).trans (delta_congr (whole19 m c) (whole4 m c) (whole34 m c) (whole49 m c))
theorem final73 : (dats m 0 c).arrAt 73 cfg0.N = newM (S := S2x4x128) (arg m c main_arg4) (arg m c main_arg34) :=
  ((dats m 0 c).arrAt_eq_of_after_last 73 p0 (by decide +kernel) _ fun _ => rfl).trans (newM_congr (whole4 m c) (whole34 m c))
theorem final74 : (dats m 0 c).arrAt 74 cfg0.N = newV (S := S2x4x128) (arg m c main_arg4) (arg m c main_arg49) :=
  ((dats m 0 c).arrAt_eq_of_after_last 74 p0 (by decide +kernel) _ fun _ => rfl).trans (newV_congr (whole4 m c) (whole49 m c))
theorem final75 : (dats m 0 c).arrAt 75 cfg0.N = delta (S := S2x256) (arg m c main_arg20) (arg m c main_arg5) (arg m c main_arg35) (arg m c main_arg50) :=
  ((dats m 0 c).arrAt_eq_of_after_last 75 p0 (by decide +kernel) _ fun _ => rfl).trans (delta_congr (whole20 m c) (whole5 m c) (whole35 m c) (whole50 m c))
theorem final76 : (dats m 0 c).arrAt 76 cfg0.N = newM (S := S2x256) (arg m c main_arg5) (arg m c main_arg35) :=
  ((dats m 0 c).arrAt_eq_of_after_last 76 p0 (by decide +kernel) _ fun _ => rfl).trans (newM_congr (whole5 m c) (whole35 m c))
theorem final77 : (dats m 0 c).arrAt 77 cfg0.N = newV (S := S2x256) (arg m c main_arg5) (arg m c main_arg50) :=
  ((dats m 0 c).arrAt_eq_of_after_last 77 p0 (by decide +kernel) _ fun _ => rfl).trans (newV_congr (whole5 m c) (whole50 m c))
theorem final78 : (dats m 0 c).arrAt 78 cfg0.N = delta (S := S2x256) (arg m c main_arg21) (arg m c main_arg6) (arg m c main_arg36) (arg m c main_arg51) :=
  ((dats m 0 c).arrAt_eq_of_after_last 78 p0 (by decide +kernel) _ fun _ => rfl).trans (delta_congr (whole21 m c) (whole6 m c) (whole36 m c) (whole51 m c))
theorem final79 : (dats m 0 c).arrAt 79 cfg0.N = newM (S := S2x256) (arg m c main_arg6) (arg m c main_arg36) :=
  ((dats m 0 c).arrAt_eq_of_after_last 79 p0 (by decide +kernel) _ fun _ => rfl).trans (newM_congr (whole6 m c) (whole36 m c))
theorem final80 : (dats m 0 c).arrAt 80 cfg0.N = newV (S := S2x256) (arg m c main_arg6) (arg m c main_arg51) :=
  ((dats m 0 c).arrAt_eq_of_after_last 80 p0 (by decide +kernel) _ fun _ => rfl).trans (newV_congr (whole6 m c) (whole51 m c))
theorem final81 : (dats m 0 c).arrAt 81 cfg0.N = delta (S := S2x4x64x64) (arg m c main_arg22) (arg m c main_arg7) (arg m c main_arg37) (arg m c main_arg52) :=
  ((dats m 0 c).arrAt_eq_of_after_last 81 p0 (by decide +kernel) _ fun _ => rfl).trans (delta_congr (whole22 m c) (whole7 m c) (whole37 m c) (whole52 m c))
theorem final82 : (dats m 0 c).arrAt 82 cfg0.N = newM (S := S2x4x64x64) (arg m c main_arg7) (arg m c main_arg37) :=
  ((dats m 0 c).arrAt_eq_of_after_last 82 p0 (by decide +kernel) _ fun _ => rfl).trans (newM_congr (whole7 m c) (whole37 m c))
theorem final83 : (dats m 0 c).arrAt 83 cfg0.N = newV (S := S2x4x64x64) (arg m c main_arg7) (arg m c main_arg52) :=
  ((dats m 0 c).arrAt_eq_of_after_last 83 p0 (by decide +kernel) _ fun _ => rfl).trans (newV_congr (whole7 m c) (whole52 m c))
theorem final84 : (dats m 0 c).arrAt 84 cfg0.N = delta (S := S2x256) (arg m c main_arg23) (arg m c main_arg8) (arg m c main_arg38) (arg m c main_arg53) :=
  ((dats m 0 c).arrAt_eq_of_after_last 84 p0 (by decide +kernel) _ fun _ => rfl).trans (delta_congr (whole23 m c) (whole8 m c) (whole38 m c) (whole53 m c))
theorem final85 : (dats m 0 c).arrAt 85 cfg0.N = newM (S := S2x256) (arg m c main_arg8) (arg m c main_arg38) :=
  ((dats m 0 c).arrAt_eq_of_after_last 85 p0 (by decide +kernel) _ fun _ => rfl).trans (newM_congr (whole8 m c) (whole38 m c))
theorem final86 : (dats m 0 c).arrAt 86 cfg0.N = newV (S := S2x256) (arg m c main_arg8) (arg m c main_arg53) :=
  ((dats m 0 c).arrAt_eq_of_after_last 86 p0 (by decide +kernel) _ fun _ => rfl).trans (newV_congr (whole8 m c) (whole53 m c))
theorem final87 : (dats m 0 c).arrAt 87 cfg0.N = delta (S := S2x1024) (arg m c main_arg24) (arg m c main_arg9) (arg m c main_arg39) (arg m c main_arg54) :=
  ((dats m 0 c).arrAt_eq_of_after_last 87 p0 (by decide +kernel) _ fun _ => rfl).trans (delta_congr (whole24 m c) (whole9 m c) (whole39 m c) (whole54 m c))
theorem final88 : (dats m 0 c).arrAt 88 cfg0.N = newM (S := S2x1024) (arg m c main_arg9) (arg m c main_arg39) :=
  ((dats m 0 c).arrAt_eq_of_after_last 88 p0 (by decide +kernel) _ fun _ => rfl).trans (newM_congr (whole9 m c) (whole39 m c))
theorem final89 : (dats m 0 c).arrAt 89 cfg0.N = newV (S := S2x1024) (arg m c main_arg9) (arg m c main_arg54) :=
  ((dats m 0 c).arrAt_eq_of_after_last 89 p0 (by decide +kernel) _ fun _ => rfl).trans (newV_congr (whole9 m c) (whole54 m c))
theorem final90 : (dats m 0 c).arrAt 90 cfg0.N = delta (S := S2x1024) (arg m c main_arg25) (arg m c main_arg10) (arg m c main_arg40) (arg m c main_arg55) :=
  ((dats m 0 c).arrAt_eq_of_after_last 90 p0 (by decide +kernel) _ fun _ => rfl).trans (delta_congr (whole25 m c) (whole10 m c) (whole40 m c) (whole55 m c))
theorem final91 : (dats m 0 c).arrAt 91 cfg0.N = newM (S := S2x1024) (arg m c main_arg10) (arg m c main_arg40) :=
  ((dats m 0 c).arrAt_eq_of_after_last 91 p0 (by decide +kernel) _ fun _ => rfl).trans (newM_congr (whole10 m c) (whole40 m c))
theorem final92 : (dats m 0 c).arrAt 92 cfg0.N = newV (S := S2x1024) (arg m c main_arg10) (arg m c main_arg55) :=
  ((dats m 0 c).arrAt_eq_of_after_last 92 p0 (by decide +kernel) _ fun _ => rfl).trans (newV_congr (whole10 m c) (whole55 m c))
theorem final93 : (dats m 0 c).arrAt 93 cfg0.N = delta (S := S2x1024) (arg m c main_arg26) (arg m c main_arg11) (arg m c main_arg41) (arg m c main_arg56) :=
  ((dats m 0 c).arrAt_eq_of_after_last 93 p0 (by decide +kernel) _ fun _ => rfl).trans (delta_congr (whole26 m c) (whole11 m c) (whole41 m c) (whole56 m c))
theorem final94 : (dats m 0 c).arrAt 94 cfg0.N = newM (S := S2x1024) (arg m c main_arg11) (arg m c main_arg41) :=
  ((dats m 0 c).arrAt_eq_of_after_last 94 p0 (by decide +kernel) _ fun _ => rfl).trans (newM_congr (whole11 m c) (whole41 m c))
theorem final95 : (dats m 0 c).arrAt 95 cfg0.N = newV (S := S2x1024) (arg m c main_arg11) (arg m c main_arg56) :=
  ((dats m 0 c).arrAt_eq_of_after_last 95 p0 (by decide +kernel) _ fun _ => rfl).trans (newV_congr (whole11 m c) (whole56 m c))
theorem final96 : (dats m 0 c).arrAt 96 cfg0.N = delta (S := S1x1024) (arg m c main_arg27) (arg m c main_arg12) (arg m c main_arg42) (arg m c main_arg57) :=
  ((dats m 0 c).arrAt_eq_of_after_last 96 p0 (by decide +kernel) _ fun _ => rfl).trans (delta_congr (whole27 m c) (whole12 m c) (whole42 m c) (whole57 m c))
theorem final97 : (dats m 0 c).arrAt 97 cfg0.N = newM (S := S1x1024) (arg m c main_arg12) (arg m c main_arg42) :=
  ((dats m 0 c).arrAt_eq_of_after_last 97 p0 (by decide +kernel) _ fun _ => rfl).trans (newM_congr (whole12 m c) (whole42 m c))
theorem final98 : (dats m 0 c).arrAt 98 cfg0.N = newV (S := S1x1024) (arg m c main_arg12) (arg m c main_arg57) :=
  ((dats m 0 c).arrAt_eq_of_after_last 98 p0 (by decide +kernel) _ fun _ => rfl).trans (newV_congr (whole12 m c) (whole57 m c))
theorem final99 : (dats m 0 c).arrAt 99 cfg0.N = delta (S := S2x3x32) (arg m c main_arg28) (arg m c main_arg13) (arg m c main_arg43) (arg m c main_arg58) :=
  ((dats m 0 c).arrAt_eq_of_after_last 99 p0 (by decide +kernel) _ fun _ => rfl).trans (delta_congr (whole28 m c) (whole13 m c) (whole43 m c) (whole58 m c))
theorem final100 : (dats m 0 c).arrAt 100 cfg0.N = newM (S := S2x3x32) (arg m c main_arg13) (arg m c main_arg43) :=
  ((dats m 0 c).arrAt_eq_of_after_last 100 p0 (by decide +kernel) _ fun _ => rfl).trans (newM_congr (whole13 m c) (whole43 m c))
theorem final101 : (dats m 0 c).arrAt 101 cfg0.N = newV (S := S2x3x32) (arg m c main_arg13) (arg m c main_arg58) :=
  ((dats m 0 c).arrAt_eq_of_after_last 101 p0 (by decide +kernel) _ fun _ => rfl).trans (newV_congr (whole13 m c) (whole58 m c))
theorem final102 : (dats m 0 c).arrAt 102 cfg0.N = delta (S := S2x31x32) (arg m c main_arg29) (arg m c main_arg14) (arg m c main_arg44) (arg m c main_arg59) :=
  ((dats m 0 c).arrAt_eq_of_after_last 102 p0 (by decide +kernel) _ fun _ => rfl).trans (delta_congr (whole29 m c) (whole14 m c) (whole44 m c) (whole59 m c))
theorem final103 : (dats m 0 c).arrAt 103 cfg0.N = newM (S := S2x31x32) (arg m c main_arg14) (arg m c main_arg44) :=
  ((dats m 0 c).arrAt_eq_of_after_last 103 p0 (by decide +kernel) _ fun _ => rfl).trans (newM_congr (whole14 m c) (whole44 m c))
theorem final104 : (dats m 0 c).arrAt 104 cfg0.N = newV (S := S2x31x32) (arg m c main_arg14) (arg m c main_arg59) :=
  ((dats m 0 c).arrAt_eq_of_after_last 104 p0 (by decide +kernel) _ fun _ => rfl).trans (newV_congr (whole14 m c) (whole59 m c))

end Final

end Cert.Small

end
-- ==== Proof.SmallRuns.lean ====
module

public import proofs.«01_k».proof.Proof.SmallFrame
public import proofs.«01_k».proof.Proof.SmallVal
public import Idealize.ShloMosaic.Lib.Pipeline.ValueKit.Geometry

@[expose] public section

set_option maxRecDepth 65536
set_option maxHeartbeats 4000000

noncomputable section

/-! The runs of the small weights' optimiser with the results' values. -/

namespace Cert.Small

open Idealize.ShloMosaic Idealize.ShloMosaic.TcCoe Idealize.ShloMosaic.Tactic
open Idealize.SL.Sem
open Cert.AdamwIdeal Cert.AdamwIdeal.Gen

variable {F : FTy → Type} [FloatOps F]
variable (m : (ℓ : Loc nD τ sig) → Buf (Elt F) ℓ) (ρ : Dev nD → PrngReg)

/-- The first eight weights' results, and the arguments unchanged. -/
theorem firstRun : θ_run defs (onTc (τ := τ) (main (F := F))) ⟨m, fun _ => 0, ρ⟩ (fun r => ∀ c : Dev nD,
    r.2.mem ((c.tc : Thread nD τ).loc main_v0_0) = delta (S := S2x1024) (arg m c main_arg15) (arg m c main_arg0) (arg m c main_arg30) (arg m c main_arg45) ∧
    r.2.mem ((c.tc : Thread nD τ).loc main_v0_1) = newM (S := S2x1024) (arg m c main_arg0) (arg m c main_arg30) ∧
    r.2.mem ((c.tc : Thread nD τ).loc main_v0_2) = newV (S := S2x1024) (arg m c main_arg0) (arg m c main_arg45) ∧
    r.2.mem ((c.tc : Thread nD τ).loc main_v0_3) = delta (S := S2x1024) (arg m c main_arg16) (arg m c main_arg1) (arg m c main_arg31) (arg m c main_arg46) ∧
    r.2.mem ((c.tc : Thread nD τ).loc main_v0_4) = newM (S := S2x1024) (arg m c main_arg1) (arg m c main_arg31) ∧
    r.2.mem ((c.tc : Thread nD τ).loc main_v0_5) = newV (S := S2x1024) (arg m c main_arg1) (arg m c main_arg46) ∧
    r.2.mem ((c.tc : Thread nD τ).loc main_v0_6) = delta (S := S2x256) (arg m c main_arg17) (arg m c main_arg2) (arg m c main_arg32) (arg m c main_arg47) ∧
    r.2.mem ((c.tc : Thread nD τ).loc main_v0_7) = newM (S := S2x256) (arg m c main_arg2) (arg m c main_arg32) ∧
    r.2.mem ((c.tc : Thread nD τ).loc main_v0_8) = newV (S := S2x256) (arg m c main_arg2) (arg m c main_arg47) ∧
    r.2.mem ((c.tc : Thread nD τ).loc main_v0_9) = delta (S := S2x4x128x128) (arg m c main_arg18) (arg m c main_arg3) (arg m c main_arg33) (arg m c main_arg48) ∧
    r.2.mem ((c.tc : Thread nD τ).loc main_v0_10) = newM (S := S2x4x128x128) (arg m c main_arg3) (arg m c main_arg33) ∧
    r.2.mem ((c.tc : Thread nD τ).loc main_v0_11) = newV (S := S2x4x128x128) (arg m c main_arg3) (arg m c main_arg48) ∧
    r.2.mem ((c.tc : Thread nD τ).loc main_v0_12) = delta (S := S2x4x128) (arg m c main_arg19) (arg m c main_arg4) (arg m c main_arg34) (arg m c main_arg49) ∧
    r.2.mem ((c.tc : Thread nD τ).loc main_v0_13) = newM (S := S2x4x128) (arg m c main_arg4) (arg m c main_arg34) ∧
    r.2.mem ((c.tc : Thread nD τ).loc main_v0_14) = newV (S := S2x4x128) (arg m c main_arg4) (arg m c main_arg49) ∧
    r.2.mem ((c.tc : Thread nD τ).loc main_v0_15) = delta (S := S2x256) (arg m c main_arg20) (arg m c main_arg5) (arg m c main_arg35) (arg m c main_arg50) ∧
    r.2.mem ((c.tc : Thread nD τ).loc main_v0_16) = newM (S := S2x256) (arg m c main_arg5) (arg m c main_arg35) ∧
    r.2.mem ((c.tc : Thread nD τ).loc main_v0_17) = newV (S := S2x256) (arg m c main_arg5) (arg m c main_arg50) ∧
    r.2.mem ((c.tc : Thread nD τ).loc main_v0_18) = delta (S := S2x256) (arg m c main_arg21) (arg m c main_arg6) (arg m c main_arg36) (arg m c main_arg51) ∧
    r.2.mem ((c.tc : Thread nD τ).loc main_v0_19) = newM (S := S2x256) (arg m c main_arg6) (arg m c main_arg36) ∧
    r.2.mem ((c.tc : Thread nD τ).loc main_v0_20) = newV (S := S2x256) (arg m c main_arg6) (arg m c main_arg51) ∧
    r.2.mem ((c.tc : Thread nD τ).loc main_v0_21) = delta (S := S2x4x64x64) (arg m c main_arg22) (arg m c main_arg7) (arg m c main_arg37) (arg m c main_arg52) ∧
    r.2.mem ((c.tc : Thread nD τ).loc main_v0_22) = newM (S := S2x4x64x64) (arg m c main_arg7) (arg m c main_arg37) ∧
    r.2.mem ((c.tc : Thread nD τ).loc main_v0_23) = newV (S := S2x4x64x64) (arg m c main_arg7) (arg m c main_arg52) ∧
    Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9 ∧ Same m r c main_arg10 ∧ Same m r c main_arg11 ∧ Same m r c main_arg12 ∧ Same m r c main_arg13 ∧ Same m r c main_arg14 ∧ Same m r c main_arg15 ∧ Same m r c main_arg16 ∧ Same m r c main_arg17 ∧ Same m r c main_arg18 ∧ Same m r c main_arg19 ∧ Same m r c main_arg20 ∧ Same m r c main_arg21 ∧ Same m r c main_arg22 ∧ Same m r c main_arg23 ∧ Same m r c main_arg24 ∧ Same m r c main_arg25 ∧ Same m r c main_arg26 ∧ Same m r c main_arg27 ∧ Same m r c main_arg28 ∧ Same m r c main_arg29 ∧ Same m r c main_arg30 ∧ Same m r c main_arg31 ∧ Same m r c main_arg32 ∧ Same m r c main_arg33 ∧ Same m r c main_arg34 ∧ Same m r c main_arg35 ∧ Same m r c main_arg36 ∧ Same m r c main_arg37 ∧ Same m r c main_arg38 ∧ Same m r c main_arg39 ∧ Same m r c main_arg40 ∧ Same m r c main_arg41 ∧ Same m r c main_arg42 ∧ Same m r c main_arg43 ∧ Same m r c main_arg44 ∧ Same m r c main_arg45 ∧ Same m r c main_arg46 ∧ Same m r c main_arg47 ∧ Same m r c main_arg48 ∧ Same m r c main_arg49 ∧ Same m r c main_arg50 ∧ Same m r c main_arg51 ∧ Same m r c main_arg52 ∧ Same m r c main_arg53 ∧ Same m r c main_arg54 ∧ Same m r c main_arg55 ∧ Same m r c main_arg56 ∧ Same m r c main_arg57 ∧ Same m r c main_arg58 ∧ Same m r c main_arg59) :=
  (θ_run defs _ _).mono (fun _ h c => ⟨((h.1 c).1 60).trans (final60 m c), ((h.1 c).1 61).trans (final61 m c), ((h.1 c).1 62).trans (final62 m c), ((h.1 c).1 63).trans (final63 m c), ((h.1 c).1 64).trans (final64 m c), ((h.1 c).1 65).trans (final65 m c), ((h.1 c).1 66).trans (final66 m c), ((h.1 c).1 67).trans (final67 m c), ((h.1 c).1 68).trans (final68 m c), ((h.1 c).1 69).trans (final69 m c), ((h.1 c).1 70).trans (final70 m c), ((h.1 c).1 71).trans (final71 m c), ((h.1 c).1 72).trans (final72 m c), ((h.1 c).1 73).trans (final73 m c), ((h.1 c).1 74).trans (final74 m c), ((h.1 c).1 75).trans (final75 m c), ((h.1 c).1 76).trans (final76 m c), ((h.1 c).1 77).trans (final77 m c), ((h.1 c).1 78).trans (final78 m c), ((h.1 c).1 79).trans (final79 m c), ((h.1 c).1 80).trans (final80 m c), ((h.1 c).1 81).trans (final81 m c), ((h.1 c).1 82).trans (final82 m c), ((h.1 c).1 83).trans (final83 m c), args h.1 c⟩) (run_main m ρ)

end Cert.Small

end
-- ==== Proof.SmallLast.lean ====
module

public import proofs.«01_k».proof.Proof.Gen.AdamwLastIdeal.Launch
public import proofs.«01_k».proof.Proof.Gen.AdamwLastIdeal.Skeleton
public import proofs.«01_k».proof.Proof.Gen.AdamwLastIdeal.Points
public import proofs.«01_k».proof.Proof.Small
public import Idealize.ShloMosaic.Lib.Pipeline.FrameBody
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 65536

noncomputable section

/-! For the call stated at its last seven weights. The optimiser step of the fifteen small weights: one AdamW step at any shape, and the kernel's body as fifteen of them. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

/-- One weight's step in the kernel: read weight, gradient and both moments, and store the change and the two new moments. -/
def step {S : Shape} (o : Fin S.rank → ℕ) (ib : ∀ a, o a + S.size a ≤ S.size a) (h : 0 < S.numel)
    (w g m v d m' v' : Memref sig .tc .vmem S .f32) : Prog (TpuEff nD τ sig (Elt F) Λ₀ .tc) PUnit := do
  let x : Vec F S .f32 ← Prog.lift (.load w (Rect.unit (s := S) o S.size ib).toLoadRect (View.loadsAt_vmem h))
  let y : Vec F S .f32 ← Prog.lift (.load g (Rect.unit (s := S) o S.size ib).toLoadRect (View.loadsAt_vmem h))
  let z : Vec F S .f32 ← Prog.lift (.load m (Rect.unit (s := S) o S.size ib).toLoadRect (View.loadsAt_vmem h))
  let u : Vec F S .f32 ← Prog.lift (.load v (Rect.unit (s := S) o S.size ib).toLoadRect (View.loadsAt_vmem h))
  let _ : Vec F S .f32 ← Prog.lift (.load d (Rect.unit (s := S) o S.size ib).toLoadRect (View.loadsAt_vmem h))
  Prog.lift (.store d (Rect.unit (s := S) o S.size ib) (delta x y z u) Finset.univ (View.stores_vmem_bits_univ h rfl) (.inl rfl))
  let _ : Vec F S .f32 ← Prog.lift (.load m' (Rect.unit (s := S) o S.size ib).toLoadRect (View.loadsAt_vmem h))
  Prog.lift (.store m' (Rect.unit (s := S) o S.size ib) (newM y z) Finset.univ (View.stores_vmem_bits_univ h rfl) (.inl rfl))
  let _ : Vec F S .f32 ← Prog.lift (.load v' (Rect.unit (s := S) o S.size ib).toLoadRect (View.loadsAt_vmem h))
  Prog.lift (.store v' (Rect.unit (s := S) o S.size ib) (newV y u) Finset.univ (View.stores_vmem_bits_univ h rfl) (.inl rfl))

local notation "𝕄" => MT nD τ sig Unit (Elt F) ℕ (UR sig nD τ) ℕ

/-- The step's triple: the four arrays read stay, and the three written hold the step's results. -/
theorem step_sound {S : Shape} (o : Fin S.rank → ℕ) (ib : ∀ a, o a + S.size a ≤ S.size a) (h : 0 < S.numel) (ho : ∀ a, o a = 0)
    (c : Dev nD) (w g m v d m' v' : Memref sig .tc .vmem S .f32)
    (x y z u : Vec F S .f32) :
    (iprop(owns (c : Thread nD τ) w fullShare x ∗ owns (c : Thread nD τ) g fullShare y ∗ owns (c : Thread nD τ) m fullShare z
        ∗ owns (c : Thread nD τ) v fullShare u ∗ (∃ e, owns (c : Thread nD τ) d fullShare e)
        ∗ (∃ e, owns (c : Thread nD τ) m' fullShare e) ∗ (∃ e, owns (c : Thread nD τ) v' fullShare e)) : sProp 𝕄)
      ⊢ wp frame (wpE (defs₀ (F := F)) Variants.none c none) Set.univ (step o ib h w g m v d m' v') (fun _ =>
          iprop(owns (c : Thread nD τ) w fullShare x ∗ owns (c : Thread nD τ) g fullShare y ∗ owns (c : Thread nD τ) m fullShare z
            ∗ owns (c : Thread nD τ) v fullShare u ∗ owns (c : Thread nD τ) d fullShare (delta x y z u)
            ∗ owns (c : Thread nD τ) m' fullShare (newM y z) ∗ owns (c : Thread nD τ) v' fullShare (newV y u))) := by
  have cov : ∀ (p : Vec F S .f32) (i : S.Idx), ∃ q ∈ ([⟨Rect.unit (s := S) o S.size ib, p⟩] : List (View.Piece (Elt F) S .f32)), i ∈ q.1.set :=
    fun p i => ⟨_, List.mem_singleton.2 rfl, (Rect.mem_set_unit (inb := ib)).2 fun a => by
      have := (i a).isLt
      rw [ho a]; omega⟩
  have can : ∀ p : Vec F S .f32, View.canon (Val := Elt F) [⟨Rect.unit (s := S) o S.size ib, p⟩] = p := fun p =>
    View.canon_cons_unit_lit ib p [] ho
  have ld : ∀ p : Vec F S .f32, View.ld (Val := Elt F) (e' := .f32) p (Rect.unit (s := S) o S.size ib) = p := fun p => View.ld_unit_lit ib p ho
  unfold step owns
  iintro ⟨⟨%f0, %hf0, H0⟩, ⟨%f1, %hf1, H1⟩, ⟨%f2, %hf2, H2⟩, ⟨%f3, %hf3, H3⟩, ⟨%e4, %f4, %hf4, H4⟩, ⟨%e5, %f5, %hf5, H5⟩, ⟨%e6, %f6, %hf6, H6⟩⟩
  subst hf0 hf1 hf2 hf3
  have rd : ∀ (a : Memref sig .tc .vmem S .f32) (f : a.view.ty.Contents (Elt F)),
      View.readAt (Elt F) a.view (Rect.unit (s := S) o S.size ib).toLoadRect f = View.read (Elt F) a.view f := fun a f => View.ld_unit_lit ib _ ho
  sl_exec
  sl_step
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (cov _), can]
  isplitl [H5]
  · iexists _; isplitr
    swap; · iexact H5
    ipureintro
    rw [View.read_writes_eq_canon _ _ _ (cov _), can]
  iexists _; isplitr
  swap; · iexact H6
  ipureintro
  rw [View.read_writes_eq_canon _ _ _ (cov _), can]

/-- The same on arrays of which those read are held at contents that are known, and those written at any. -/
theorem step_held {S : Shape} {o : Fin S.rank → ℕ} {ib : ∀ a, o a + S.size a ≤ S.size a} {h : 0 < S.numel} (ho : ∀ a, o a = 0)
    (c : Dev nD) {w g m v d m' v' : Memref sig .tc .vmem S .f32} {x y z u : Vec F S .f32} {X Y Z U D M N : Vec F S .f32 → Vec F S .f32}
    (hX : ∀ a, X a = x) (hY : ∀ a, Y a = y) (hZ : ∀ a, Z a = z) (hU : ∀ a, U a = u) :
    (iprop((∃ a, owns (c : Thread nD τ) w fullShare (X a)) ∗ (∃ a, owns (c : Thread nD τ) g fullShare (Y a))
        ∗ (∃ a, owns (c : Thread nD τ) m fullShare (Z a)) ∗ (∃ a, owns (c : Thread nD τ) v fullShare (U a))
        ∗ (∃ a, owns (c : Thread nD τ) d fullShare (D a)) ∗ (∃ a, owns (c : Thread nD τ) m' fullShare (M a))
        ∗ (∃ a, owns (c : Thread nD τ) v' fullShare (N a))) : sProp 𝕄)
      ⊢ wp frame (wpE (defs₀ (F := F)) Variants.none c none) Set.univ (step o ib h w g m v d m' v') (fun _ =>
          iprop(owns (c : Thread nD τ) w fullShare x ∗ owns (c : Thread nD τ) g fullShare y ∗ owns (c : Thread nD τ) m fullShare z
            ∗ owns (c : Thread nD τ) v fullShare u ∗ owns (c : Thread nD τ) d fullShare (delta x y z u)
            ∗ owns (c : Thread nD τ) m' fullShare (newM y z) ∗ owns (c : Thread nD τ) v' fullShare (newV y u))) := by
  refine BIBase.Entails.trans ?_ (step_sound o ib h ho c w g m v d m' v' x y z u)
  iintro ⟨⟨%a0, H0⟩, ⟨%a1, H1⟩, ⟨%a2, H2⟩, ⟨%a3, H3⟩, ⟨%a4, H4⟩, ⟨%a5, H5⟩, ⟨%a6, H6⟩⟩
  rw [hX, hY, hZ, hU]
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- A last step. -/
theorem step_last (c : Dev nD) {p : Prog (TpuEff nD τ sig (Elt F) Λ₀ .tc) PUnit} {A B : sProp 𝕄}
    (hp : A ⊢ wp frame (wpE (defs₀ (F := F)) Variants.none c none) Set.univ p (fun _ => B)) :
    A ⊢ wp frame (wpE (defs₀ (F := F)) Variants.none c none) Set.univ (p >>= fun _ => pure PUnit.unit) (fun _ => B) := by
  rw [wp_bind]
  exact hp.trans (wp_mono _ _ _ fun _ => by iintro H; sl_step; iexact H)

/-- The kernel's body, on the blocks of a point, is the fifteen weights' steps one after another. -/
theorem body_eq (t : Fin cfg0.N) : bodyAt0 (F := F) t = (do
    step ![0, 0] inb_S2x1024_S2x1024_0_0 h_S2x1024 (win0_15.stage (cfg0.slots t 15)) (win0_0.stage (cfg0.slots t 0)) (win0_30.stage (cfg0.slots t 30)) (win0_45.stage (cfg0.slots t 45)) (win0_60.stage (cfg0.slots t 60)) (win0_61.stage (cfg0.slots t 61)) (win0_62.stage (cfg0.slots t 62))
    step ![0, 0] inb_S2x1024_S2x1024_0_0 h_S2x1024 (win0_16.stage (cfg0.slots t 16)) (win0_1.stage (cfg0.slots t 1)) (win0_31.stage (cfg0.slots t 31)) (win0_46.stage (cfg0.slots t 46)) (win0_63.stage (cfg0.slots t 63)) (win0_64.stage (cfg0.slots t 64)) (win0_65.stage (cfg0.slots t 65))
    step ![0, 0] inb_S2x256_S2x256_0_0 h_S2x256 (win0_17.stage (cfg0.slots t 17)) (win0_2.stage (cfg0.slots t 2)) (win0_32.stage (cfg0.slots t 32)) (win0_47.stage (cfg0.slots t 47)) (win0_66.stage (cfg0.slots t 66)) (win0_67.stage (cfg0.slots t 67)) (win0_68.stage (cfg0.slots t 68))
    step ![0, 0, 0, 0] inb_S2x4x128x128_S2x4x128x128_0_0_0_0 h_S2x4x128x128 (win0_18.stage (cfg0.slots t 18)) (win0_3.stage (cfg0.slots t 3)) (win0_33.stage (cfg0.slots t 33)) (win0_48.stage (cfg0.slots t 48)) (win0_69.stage (cfg0.slots t 69)) (win0_70.stage (cfg0.slots t 70)) (win0_71.stage (cfg0.slots t 71))
    step ![0, 0, 0] inb_S2x4x128_S2x4x128_0_0_0 h_S2x4x128 (win0_19.stage (cfg0.slots t 19)) (win0_4.stage (cfg0.slots t 4)) (win0_34.stage (cfg0.slots t 34)) (win0_49.stage (cfg0.slots t 49)) (win0_72.stage (cfg0.slots t 72)) (win0_73.stage (cfg0.slots t 73)) (win0_74.stage (cfg0.slots t 74))
    step ![0, 0] inb_S2x256_S2x256_0_0 h_S2x256 (win0_20.stage (cfg0.slots t 20)) (win0_5.stage (cfg0.slots t 5)) (win0_35.stage (cfg0.slots t 35)) (win0_50.stage (cfg0.slots t 50)) (win0_75.stage (cfg0.slots t 75)) (win0_76.stage (cfg0.slots t 76)) (win0_77.stage (cfg0.slots t 77))
    step ![0, 0] inb_S2x256_S2x256_0_0 h_S2x256 (win0_21.stage (cfg0.slots t 21)) (win0_6.stage (cfg0.slots t 6)) (win0_36.stage (cfg0.slots t 36)) (win0_51.stage (cfg0.slots t 51)) (win0_78.stage (cfg0.slots t 78)) (win0_79.stage (cfg0.slots t 79)) (win0_80.stage (cfg0.slots t 80))
    step ![0, 0, 0, 0] inb_S2x4x64x64_S2x4x64x64_0_0_0_0 h_S2x4x64x64 (win0_22.stage (cfg0.slots t 22)) (win0_7.stage (cfg0.slots t 7)) (win0_37.stage (cfg0.slots t 37)) (win0_52.stage (cfg0.slots t 52)) (win0_81.stage (cfg0.slots t 81)) (win0_82.stage (cfg0.slots t 82)) (win0_83.stage (cfg0.slots t 83))
    step ![0, 0] inb_S2x256_S2x256_0_0 h_S2x256 (win0_23.stage (cfg0.slots t 23)) (win0_8.stage (cfg0.slots t 8)) (win0_38.stage (cfg0.slots t 38)) (win0_53.stage (cfg0.slots t 53)) (win0_84.stage (cfg0.slots t 84)) (win0_85.stage (cfg0.slots t 85)) (win0_86.stage (cfg0.slots t 86))
    step ![0, 0] inb_S2x1024_S2x1024_0_0 h_S2x1024 (win0_24.stage (cfg0.slots t 24)) (win0_9.stage (cfg0.slots t 9)) (win0_39.stage (cfg0.slots t 39)) (win0_54.stage (cfg0.slots t 54)) (win0_87.stage (cfg0.slots t 87)) (win0_88.stage (cfg0.slots t 88)) (win0_89.stage (cfg0.slots t 89))
    step ![0, 0] inb_S2x1024_S2x1024_0_0 h_S2x1024 (win0_25.stage (cfg0.slots t 25)) (win0_10.stage (cfg0.slots t 10)) (win0_40.stage (cfg0.slots t 40)) (win0_55.stage (cfg0.slots t 55)) (win0_90.stage (cfg0.slots t 90)) (win0_91.stage (cfg0.slots t 91)) (win0_92.stage (cfg0.slots t 92))
    step ![0, 0] inb_S2x1024_S2x1024_0_0 h_S2x1024 (win0_26.stage (cfg0.slots t 26)) (win0_11.stage (cfg0.slots t 11)) (win0_41.stage (cfg0.slots t 41)) (win0_56.stage (cfg0.slots t 56)) (win0_93.stage (cfg0.slots t 93)) (win0_94.stage (cfg0.slots t 94)) (win0_95.stage (cfg0.slots t 95))
    step ![0, 0] inb_S1x1024_S1x1024_0_0 h_S1x1024 (win0_27.stage (cfg0.slots t 27)) (win0_12.stage (cfg0.slots t 12)) (win0_42.stage (cfg0.slots t 42)) (win0_57.stage (cfg0.slots t 57)) (win0_96.stage (cfg0.slots t 96)) (win0_97.stage (cfg0.slots t 97)) (win0_98.stage (cfg0.slots t 98))
    step ![0, 0, 0] inb_S2x3x32_S2x3x32_0_0_0 h_S2x3x32 (win0_28.stage (cfg0.slots t 28)) (win0_13.stage (cfg0.slots t 13)) (win0_43.stage (cfg0.slots t 43)) (win0_58.stage (cfg0.slots t 58)) (win0_99.stage (cfg0.slots t 99)) (win0_100.stage (cfg0.slots t 100)) (win0_101.stage (cfg0.slots t 101))
    step ![0, 0, 0] inb_S2x31x32_S2x31x32_0_0_0 h_S2x31x32 (win0_29.stage (cfg0.slots t 29)) (win0_14.stage (cfg0.slots t 14)) (win0_44.stage (cfg0.slots t 44)) (win0_59.stage (cfg0.slots t 59)) (win0_102.stage (cfg0.slots t 102)) (win0_103.stage (cfg0.slots t 103)) (win0_104.stage (cfg0.slots t 104))
    pure ⟨⟩) := rfl

end Cert.SmallLast

end
-- ==== Proof.SmallLastData.lean ====
module

public import proofs.«01_k».proof.Proof.SmallLast

@[expose] public section

set_option maxRecDepth 65536

noncomputable section

/-! For the call stated at its last seven weights. What each window of the small weights' optimiser holds before and after the body. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the kernel is called: as launched. -/
abbrev V (c : Dev nD) (b : Ref sig .tc) : Buf (Elt F) ((c : Thread nD τ).loc b) := m ((c : Thread nD τ).loc b)

/-- The program is the kernel's call alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block: its whole array, as launched. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in each window's buffer: an array read as it was; of each weight the change and the two new moments. -/
def dats (_ : Fin 1) (c : Dev nD) : Pipeline.Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => blk m c 16 t
    | ⟨17, _⟩ => blk m c 17 t
    | ⟨18, _⟩ => blk m c 18 t
    | ⟨19, _⟩ => blk m c 19 t
    | ⟨20, _⟩ => blk m c 20 t
    | ⟨21, _⟩ => blk m c 21 t
    | ⟨22, _⟩ => blk m c 22 t
    | ⟨23, _⟩ => blk m c 23 t
    | ⟨24, _⟩ => blk m c 24 t
    | ⟨25, _⟩ => blk m c 25 t
    | ⟨26, _⟩ => blk m c 26 t
    | ⟨27, _⟩ => blk m c 27 t
    | ⟨28, _⟩ => blk m c 28 t
    | ⟨29, _⟩ => blk m c 29 t
    | ⟨30, _⟩ => blk m c 30 t
    | ⟨31, _⟩ => blk m c 31 t
    | ⟨32, _⟩ => blk m c 32 t
    | ⟨33, _⟩ => blk m c 33 t
    | ⟨34, _⟩ => blk m c 34 t
    | ⟨35, _⟩ => blk m c 35 t
    | ⟨36, _⟩ => blk m c 36 t
    | ⟨37, _⟩ => blk m c 37 t
    | ⟨38, _⟩ => blk m c 38 t
    | ⟨39, _⟩ => blk m c 39 t
    | ⟨40, _⟩ => blk m c 40 t
    | ⟨41, _⟩ => blk m c 41 t
    | ⟨42, _⟩ => blk m c 42 t
    | ⟨43, _⟩ => blk m c 43 t
    | ⟨44, _⟩ => blk m c 44 t
    | ⟨45, _⟩ => blk m c 45 t
    | ⟨46, _⟩ => blk m c 46 t
    | ⟨47, _⟩ => blk m c 47 t
    | ⟨48, _⟩ => blk m c 48 t
    | ⟨49, _⟩ => blk m c 49 t
    | ⟨50, _⟩ => blk m c 50 t
    | ⟨51, _⟩ => blk m c 51 t
    | ⟨52, _⟩ => blk m c 52 t
    | ⟨53, _⟩ => blk m c 53 t
    | ⟨54, _⟩ => blk m c 54 t
    | ⟨55, _⟩ => blk m c 55 t
    | ⟨56, _⟩ => blk m c 56 t
    | ⟨57, _⟩ => blk m c 57 t
    | ⟨58, _⟩ => blk m c 58 t
    | ⟨59, _⟩ => blk m c 59 t
    | ⟨60, _⟩ => delta (blk m c 15 t) (blk m c 0 t) (blk m c 30 t) (blk m c 45 t)
    | ⟨61, _⟩ => newM (blk m c 0 t) (blk m c 30 t)
    | ⟨62, _⟩ => newV (blk m c 0 t) (blk m c 45 t)
    | ⟨63, _⟩ => delta (blk m c 16 t) (blk m c 1 t) (blk m c 31 t) (blk m c 46 t)
    | ⟨64, _⟩ => newM (blk m c 1 t) (blk m c 31 t)
    | ⟨65, _⟩ => newV (blk m c 1 t) (blk m c 46 t)
    | ⟨66, _⟩ => delta (blk m c 17 t) (blk m c 2 t) (blk m c 32 t) (blk m c 47 t)
    | ⟨67, _⟩ => newM (blk m c 2 t) (blk m c 32 t)
    | ⟨68, _⟩ => newV (blk m c 2 t) (blk m c 47 t)
    | ⟨69, _⟩ => delta (blk m c 18 t) (blk m c 3 t) (blk m c 33 t) (blk m c 48 t)
    | ⟨70, _⟩ => newM (blk m c 3 t) (blk m c 33 t)
    | ⟨71, _⟩ => newV (blk m c 3 t) (blk m c 48 t)
    | ⟨72, _⟩ => delta (blk m c 19 t) (blk m c 4 t) (blk m c 34 t) (blk m c 49 t)
    | ⟨73, _⟩ => newM (blk m c 4 t) (blk m c 34 t)
    | ⟨74, _⟩ => newV (blk m c 4 t) (blk m c 49 t)
    | ⟨75, _⟩ => delta (blk m c 20 t) (blk m c 5 t) (blk m c 35 t) (blk m c 50 t)
    | ⟨76, _⟩ => newM (blk m c 5 t) (blk m c 35 t)
    | ⟨77, _⟩ => newV (blk m c 5 t) (blk m c 50 t)
    | ⟨78, _⟩ => delta (blk m c 21 t) (blk m c 6 t) (blk m c 36 t) (blk m c 51 t)
    | ⟨79, _⟩ => newM (blk m c 6 t) (blk m c 36 t)
    | ⟨80, _⟩ => newV (blk m c 6 t) (blk m c 51 t)
    | ⟨81, _⟩ => delta (blk m c 22 t) (blk m c 7 t) (blk m c 37 t) (blk m c 52 t)
    | ⟨82, _⟩ => newM (blk m c 7 t) (blk m c 37 t)
    | ⟨83, _⟩ => newV (blk m c 7 t) (blk m c 52 t)
    | ⟨84, _⟩ => delta (blk m c 23 t) (blk m c 8 t) (blk m c 38 t) (blk m c 53 t)
    | ⟨85, _⟩ => newM (blk m c 8 t) (blk m c 38 t)
    | ⟨86, _⟩ => newV (blk m c 8 t) (blk m c 53 t)
    | ⟨87, _⟩ => delta (blk m c 24 t) (blk m c 9 t) (blk m c 39 t) (blk m c 54 t)
    | ⟨88, _⟩ => newM (blk m c 9 t) (blk m c 39 t)
    | ⟨89, _⟩ => newV (blk m c 9 t) (blk m c 54 t)
    | ⟨90, _⟩ => delta (blk m c 25 t) (blk m c 10 t) (blk m c 40 t) (blk m c 55 t)
    | ⟨91, _⟩ => newM (blk m c 10 t) (blk m c 40 t)
    | ⟨92, _⟩ => newV (blk m c 10 t) (blk m c 55 t)
    | ⟨93, _⟩ => delta (blk m c 26 t) (blk m c 11 t) (blk m c 41 t) (blk m c 56 t)
    | ⟨94, _⟩ => newM (blk m c 11 t) (blk m c 41 t)
    | ⟨95, _⟩ => newV (blk m c 11 t) (blk m c 56 t)
    | ⟨96, _⟩ => delta (blk m c 27 t) (blk m c 12 t) (blk m c 42 t) (blk m c 57 t)
    | ⟨97, _⟩ => newM (blk m c 12 t) (blk m c 42 t)
    | ⟨98, _⟩ => newV (blk m c 12 t) (blk m c 57 t)
    | ⟨99, _⟩ => delta (blk m c 28 t) (blk m c 13 t) (blk m c 43 t) (blk m c 58 t)
    | ⟨100, _⟩ => newM (blk m c 13 t) (blk m c 43 t)
    | ⟨101, _⟩ => newV (blk m c 13 t) (blk m c 58 t)
    | ⟨102, _⟩ => delta (blk m c 29 t) (blk m c 14 t) (blk m c 44 t) (blk m c 59 t)
    | ⟨103, _⟩ => newM (blk m c 14 t) (blk m c 44 t)
    | ⟨104, _⟩ => newV (blk m c 14 t) (blk m c 59 t)
    | ⟨_ + 105, h⟩ => absurd h (Nat.not_lt.2 (Nat.le_add_left _ _))
  Φ _ := Pipeline.ΦA spec0 c
  q _ := fullShare
  owed _ := 0

/-- The windows weight by weight: weight, gradient, the two moments, and the three results. -/
abbrev order : List (Fin 105) := [15, 0, 30, 45, 60, 61, 62, 16, 1, 31, 46, 63, 64, 65, 17, 2, 32, 47, 66, 67, 68, 18, 3, 33, 48, 69, 70, 71, 19, 4, 34, 49, 72, 73, 74, 20, 5, 35, 50, 75, 76, 77, 21, 6, 36, 51, 78, 79, 80, 22, 7, 37, 52, 81, 82, 83, 23, 8, 38, 53, 84, 85, 86, 24, 9, 39, 54, 87, 88, 89, 25, 10, 40, 55, 90, 91, 92, 26, 11, 41, 56, 93, 94, 95, 27, 12, 42, 57, 96, 97, 98, 28, 13, 43, 58, 99, 100, 101, 29, 14, 44, 59, 102, 103, 104]

theorem bigSep_order {M : Type} [URA M] (Φ : Fin 105 → sProp M) : bigSep Finset.univ Φ = bigSepL order Φ :=
  bigSep_univ_eq_bigSepL order (by decide) (by decide) Φ

/-- A program `k` run with two things beside it that it doesn't touch. -/
theorem beside (c : Dev nD) {P O R R' : sProp 𝕄} {k : Prog (TpuEff nD τ sig (Elt F) Λ₀ .tc) PUnit}
    (h : R ⊢ wp frame (wpE (defs₀ (F := F)) Variants.none c none) Set.univ k (fun _ => R')) :
    iprop(P ∗ O ∗ R) ⊢ wp frame (wpE (defs₀ (F := F)) Variants.none c none) Set.univ k (fun _ => iprop(P ∗ O ∗ R')) :=
  (BI.sep_mono_r ((BI.sep_mono_r h).trans (wp_frame_l _ _ _))).trans (wp_frame_l _ _ _)

/-- A window that is only read holds, before the body, what it holds after it. The conditions hold by evaluation at each such window. -/
theorem held (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (hx : ∀ t d, (dats m 0 c).fetched w t d = (dats m 0 c).after w t) (t : Fin cfg0.N) (d) :
    (dats m 0 c).before w t d = (dats m 0 c).after w t :=
  ((dats m 0 c).before_in_eq_fetched w hw hlive hclip hkeep t d).trans (hx t d)

/-- Some windows' buffers as they are when the body begins. -/
abbrev entering (c : Dev nD) (t : Fin cfg0.N) (l : List (Fin 105)) : sProp 𝕄 :=
  bigSepL l (fun w => iprop(∃ d, owns (c : Thread nD τ) ((cfg0.win w).stage (cfg0.slots t w)) fullShare ((dats m 0 c).before w t d)))

/-- Some windows' buffers as they are when it is done. -/
abbrev leaving (c : Dev nD) (t : Fin cfg0.N) (l : List (Fin 105)) : sProp 𝕄 :=
  bigSepL l (fun w => owns (c : Thread nD τ) ((cfg0.win w).stage (cfg0.slots t w)) fullShare ((dats m 0 c).after w t))

theorem defs₀_row (t : Fin cfg0.N) : defs₀ (F := F) .tc cfg0.body (cfg0.bodyArgs t (cfg0.slots t)) = bodyAt0 t := by
  unfold defs₀; rw [Defs.onTc_tc]

theorem z2 : ∀ a, (![0, 0] : Fin 2 → ℕ) a = 0 := by decide
theorem z3 : ∀ a, (![0, 0, 0] : Fin 3 → ℕ) a = 0 := by decide
theorem z4 : ∀ a, (![0, 0, 0, 0] : Fin 4 → ℕ) a = 0 := by decide

end Cert.SmallLast

end
-- ==== Proof.SmallLastBody0.lean ====
module

public import proofs.«01_k».proof.Proof.SmallLastData

@[expose] public section

set_option maxRecDepth 65536

noncomputable section

/-! For the call stated at its last seven weights. The steps of weights 0 to 3 on their windows. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight0 (c : Dev nD) (t : Fin cfg0.N) : entering m c t [15, 0, 30, 45, 60, 61, 62]
    ⊢ wp frame (wpE (defs₀ (F := F)) Variants.none c none) Set.univ
      (step ![0, 0] inb_S2x1024_S2x1024_0_0 h_S2x1024 (win0_15.stage (cfg0.slots t 15)) (win0_0.stage (cfg0.slots t 0)) (win0_30.stage (cfg0.slots t 30)) (win0_45.stage (cfg0.slots t 45)) (win0_60.stage (cfg0.slots t 60)) (win0_61.stage (cfg0.slots t 61)) (win0_62.stage (cfg0.slots t 62)))
      (fun _ => leaving m c t [15, 0, 30, 45, 60, 61, 62]) :=
  step_held z2 c (held m c 15 rfl (fun _ => rfl) (fun _ _ _ => rfl) (fun _ => rfl) (fun _ _ => rfl) t)
    (held m c 0 rfl (fun _ => rfl) (fun _ _ _ => rfl) (fun _ => rfl) (fun _ _ => rfl) t)
    (held m c 30 rfl (fun _ => rfl) (fun _ _ _ => rfl) (fun _ => rfl) (fun _ _ => rfl) t)
    (held m c 45 rfl (fun _ => rfl) (fun _ _ _ => rfl) (fun _ => rfl) (fun _ _ => rfl) t)

set_option maxHeartbeats 4000000 in
theorem weight1 (c : Dev nD) (t : Fin cfg0.N) : entering m c t [16, 1, 31, 46, 63, 64, 65]
    ⊢ wp frame (wpE (defs₀ (F := F)) Variants.none c none) Set.univ
      (step ![0, 0] inb_S2x1024_S2x1024_0_0 h_S2x1024 (win0_16.stage (cfg0.slots t 16)) (win0_1.stage (cfg0.slots t 1)) (win0_31.stage (cfg0.slots t 31)) (win0_46.stage (cfg0.slots t 46)) (win0_63.stage (cfg0.slots t 63)) (win0_64.stage (cfg0.slots t 64)) (win0_65.stage (cfg0.slots t 65)))
      (fun _ => leaving m c t [16, 1, 31, 46, 63, 64, 65]) :=
  step_held z2 c (held m c 16 rfl (fun _ => rfl) (fun _ _ _ => rfl) (fun _ => rfl) (fun _ _ => rfl) t)
    (held m c 1 rfl (fun _ => rfl) (fun _ _ _ => rfl) (fun _ => rfl) (fun _ _ => rfl) t)
    (held m c 31 rfl (fun _ => rfl) (fun _ _ _ => rfl) (fun _ => rfl) (fun _ _ => rfl) t)
    (held m c 46 rfl (fun _ => rfl) (fun _ _ _ => rfl) (fun _ => rfl) (fun _ _ => rfl) t)

set_option maxHeartbeats 4000000 in
theorem weight2 (c : Dev nD) (t : Fin cfg0.N) : entering m c t [17, 2, 32, 47, 66, 67, 68]
    ⊢ wp frame (wpE (defs₀ (F := F)) Variants.none c none) Set.univ
      (step ![0, 0] inb_S2x256_S2x256_0_0 h_S2x256 (win0_17.stage (cfg0.slots t 17)) (win0_2.stage (cfg0.slots t 2)) (win0_32.stage (cfg0.slots t 32)) (win0_47.stage (cfg0.slots t 47)) (win0_66.stage (cfg0.slots t 66)) (win0_67.stage (cfg0.slots t 67)) (win0_68.stage (cfg0.slots t 68)))
      (fun _ => leaving m c t [17, 2, 32, 47, 66, 67, 68]) :=
  step_held z2 c (held m c 17 rfl (fun _ => rfl) (fun _ _ _ => rfl) (fun _ => rfl) (fun _ _ => rfl) t)
    (held m c 2 rfl (fun _ => rfl) (fun _ _ _ => rfl) (fun _ => rfl) (fun _ _ => rfl) t)
    (held m c 32 rfl (fun _ => rfl) (fun _ _ _ => rfl) (fun _ => rfl) (fun _ _ => rfl) t)
    (held m c 47 rfl (fun _ => rfl) (fun _ _ _ => rfl) (fun _ => rfl) (fun _ _ => rfl) t)

set_option maxHeartbeats 4000000 in
theorem weight3 (c : Dev nD) (t : Fin cfg0.N) : entering m c t [18, 3, 33, 48, 69, 70, 71]
    ⊢ wp frame (wpE (defs₀ (F := F)) Variants.none c none) Set.univ
      (step ![0, 0, 0, 0] inb_S2x4x128x128_S2x4x128x128_0_0_0_0 h_S2x4x128x128 (win0_18.stage (cfg0.slots t 18)) (win0_3.stage (cfg0.slots t 3)) (win0_33.stage (cfg0.slots t 33)) (win0_48.stage (cfg0.slots t 48)) (win0_69.stage (cfg0.slots t 69)) (win0_70.stage (cfg0.slots t 70)) (win0_71.stage (cfg0.slots t 71)))
      (fun _ => leaving m c t [18, 3, 33, 48, 69, 70, 71]) :=
  step_held z4 c (held m c 18 rfl (fun _ => rfl) (fun _ _ _ => rfl) (fun _ => rfl) (fun _ _ => rfl) t)
    (held m c 3 rfl (fun _ => rfl) (fun _ _ _ => rfl) (fun _ => rfl) (fun _ _ => rfl) t)
    (held m c 33 rfl (fun _ => rfl) (fun _ _ _ => rfl) (fun _ => rfl) (fun _ _ => rfl) t)
    (held m c 48 rfl (fun _ => rfl) (fun _ _ _ => rfl) (fun _ => rfl) (fun _ _ => rfl) t)

end Cert.SmallLast

end
-- ==== Proof.SmallLastBody1.lean ====
module

public import proofs.«01_k».proof.Proof.SmallLastData

@[expose] public section

set_option maxRecDepth 65536

noncomputable section

/-! For the call stated at its last seven weights. The steps of weights 4 to 7 on their windows. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight4 (c : Dev nD) (t : Fin cfg0.N) : entering m c t [19, 4, 34, 49, 72, 73, 74]
    ⊢ wp frame (wpE (defs₀ (F := F)) Variants.none c none) Set.univ
      (step ![0, 0, 0] inb_S2x4x128_S2x4x128_0_0_0 h_S2x4x128 (win0_19.stage (cfg0.slots t 19)) (win0_4.stage (cfg0.slots t 4)) (win0_34.stage (cfg0.slots t 34)) (win0_49.stage (cfg0.slots t 49)) (win0_72.stage (cfg0.slots t 72)) (win0_73.stage (cfg0.slots t 73)) (win0_74.stage (cfg0.slots t 74)))
      (fun _ => leaving m c t [19, 4, 34, 49, 72, 73, 74]) :=
  step_held z3 c (held m c 19 rfl (fun _ => rfl) (fun _ _ _ => rfl) (fun _ => rfl) (fun _ _ => rfl) t)
    (held m c 4 rfl (fun _ => rfl) (fun _ _ _ => rfl) (fun _ => rfl) (fun _ _ => rfl) t)
    (held m c 34 rfl (fun _ => rfl) (fun _ _ _ => rfl) (fun _ => rfl) (fun _ _ => rfl) t)
    (held m c 49 rfl (fun _ => rfl) (fun _ _ _ => rfl) (fun _ => rfl) (fun _ _ => rfl) t)

set_option maxHeartbeats 4000000 in
theorem weight5 (c : Dev nD) (t : Fin cfg0.N) : entering m c t [20, 5, 35, 50, 75, 76, 77]
    ⊢ wp frame (wpE (defs₀ (F := F)) Variants.none c none) Set.univ
      (step ![0, 0] inb_S2x256_S2x256_0_0 h_S2x256 (win0_20.stage (cfg0.slots t 20)) (win0_5.stage (cfg0.slots t 5)) (win0_35.stage (cfg0.slots t 35)) (win0_50.stage (cfg0.slots t 50)) (win0_75.stage (cfg0.slots t 75)) (win0_76.stage (cfg0.slots t 76)) (win0_77.stage (cfg0.slots t 77)))
      (fun _ => leaving m c t [20, 5, 35, 50, 75, 76, 77]) :=
  step_held z2 c (held m c 20 rfl (fun _ => rfl) (fun _ _ _ => rfl) (fun _ => rfl) (fun _ _ => rfl) t)
    (held m c 5 rfl (fun _ => rfl) (fun _ _ _ => rfl) (fun _ => rfl) (fun _ _ => rfl) t)
    (held m c 35 rfl (fun _ => rfl) (fun _ _ _ => rfl) (fun _ => rfl) (fun _ _ => rfl) t)
    (held m c 50 rfl (fun _ => rfl) (fun _ _ _ => rfl) (fun _ => rfl) (fun _ _ => rfl) t)

set_option maxHeartbeats 4000000 in
theorem weight6 (c : Dev nD) (t : Fin cfg0.N) : entering m c t [21, 6, 36, 51, 78, 79, 80]
    ⊢ wp frame (wpE (defs₀ (F := F)) Variants.none c none) Set.univ
      (step ![0, 0] inb_S2x256_S2x256_0_0 h_S2x256 (win0_21.stage (cfg0.slots t 21)) (win0_6.stage (cfg0.slots t 6)) (win0_36.stage (cfg0.slots t 36)) (win0_51.stage (cfg0.slots t 51)) (win0_78.stage (cfg0.slots t 78)) (win0_79.stage (cfg0.slots t 79)) (win0_80.stage (cfg0.slots t 80)))
      (fun _ => leaving m c t [21, 6, 36, 51, 78, 79, 80]) :=
  step_held z2 c (held m c 21 rfl (fun _ => rfl) (fun _ _ _ => rfl) (fun _ => rfl) (fun _ _ => rfl) t)
    (held m c 6 rfl (fun _ => rfl) (fun _ _ _ => rfl) (fun _ => rfl) (fun _ _ => rfl) t)
    (held m c 36 rfl (fun _ => rfl) (fun _ _ _ => rfl) (fun _ => rfl) (fun _ _ => rfl) t)
    (held m c 51 rfl (fun _ => rfl) (fun _ _ _ => rfl) (fun _ => rfl) (fun _ _ => rfl) t)

set_option maxHeartbeats 4000000 in
theorem weight7 (c : Dev nD) (t : Fin cfg0.N) : entering m c t [22, 7, 37, 52, 81, 82, 83]
    ⊢ wp frame (wpE (defs₀ (F := F)) Variants.none c none) Set.univ
      (step ![0, 0, 0, 0] inb_S2x4x64x64_S2x4x64x64_0_0_0_0 h_S2x4x64x64 (win0_22.stage (cfg0.slots t 22)) (win0_7.stage (cfg0.slots t 7)) (win0_37.stage (cfg0.slots t 37)) (win0_52.stage (cfg0.slots t 52)) (win0_81.stage (cfg0.slots t 81)) (win0_82.stage (cfg0.slots t 82)) (win0_83.stage (cfg0.slots t 83)))
      (fun _ => leaving m c t [22, 7, 37, 52, 81, 82, 83]) :=
  step_held z4 c (held m c 22 rfl (fun _ => rfl) (fun _ _ _ => rfl) (fun _ => rfl) (fun _ _ => rfl) t)
    (held m c 7 rfl (fun _ => rfl) (fun _ _ _ => rfl) (fun _ => rfl) (fun _ _ => rfl) t)
    (held m c 37 rfl (fun _ => rfl) (fun _ _ _ => rfl) (fun _ => rfl) (fun _ _ => rfl) t)
    (held m c 52 rfl (fun _ => rfl) (fun _ _ _ => rfl) (fun _ => rfl) (fun _ _ => rfl) t)

end Cert.SmallLast

end
-- ==== Proof.SmallLastBody2.lean ====
module

public import proofs.«01_k».proof.Proof.SmallLastData

@[expose] public section

set_option maxRecDepth 65536

noncomputable section

/-! For the call stated at its last seven weights. The steps of weights 8 to 11 on their windows. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight8 (c : Dev nD) (t : Fin cfg0.N) : entering m c t [23, 8, 38, 53, 84, 85, 86]
    ⊢ wp frame (wpE (defs₀ (F := F)) Variants.none c none) Set.univ
      (step ![0, 0] inb_S2x256_S2x256_0_0 h_S2x256 (win0_23.stage (cfg0.slots t 23)) (win0_8.stage (cfg0.slots t 8)) (win0_38.stage (cfg0.slots t 38)) (win0_53.stage (cfg0.slots t 53)) (win0_84.stage (cfg0.slots t 84)) (win0_85.stage (cfg0.slots t 85)) (win0_86.stage (cfg0.slots t 86)))
      (fun _ => leaving m c t [23, 8, 38, 53, 84, 85, 86]) :=
  step_held z2 c (held m c 23 rfl (fun _ => rfl) (fun _ _ _ => rfl) (fun _ => rfl) (fun _ _ => rfl) t)
    (held m c 8 rfl (fun _ => rfl) (fun _ _ _ => rfl) (fun _ => rfl) (fun _ _ => rfl) t)
    (held m c 38 rfl (fun _ => rfl) (fun _ _ _ => rfl) (fun _ => rfl) (fun _ _ => rfl) t)
    (held m c 53 rfl (fun _ => rfl) (fun _ _ _ => rfl) (fun _ => rfl) (fun _ _ => rfl) t)

set_option maxHeartbeats 4000000 in
theorem weight9 (c : Dev nD) (t : Fin cfg0.N) : entering m c t [24, 9, 39, 54, 87, 88, 89]
    ⊢ wp frame (wpE (defs₀ (F := F)) Variants.none c none) Set.univ
      (step ![0, 0] inb_S2x1024_S2x1024_0_0 h_S2x1024 (win0_24.stage (cfg0.slots t 24)) (win0_9.stage (cfg0.slots t 9)) (win0_39.stage (cfg0.slots t 39)) (win0_54.stage (cfg0.slots t 54)) (win0_87.stage (cfg0.slots t 87)) (win0_88.stage (cfg0.slots t 88)) (win0_89.stage (cfg0.slots t 89)))
      (fun _ => leaving m c t [24, 9, 39, 54, 87, 88, 89]) :=
  step_held z2 c (held m c 24 rfl (fun _ => rfl) (fun _ _ _ => rfl) (fun _ => rfl) (fun _ _ => rfl) t)
    (held m c 9 rfl (fun _ => rfl) (fun _ _ _ => rfl) (fun _ => rfl) (fun _ _ => rfl) t)
    (held m c 39 rfl (fun _ => rfl) (fun _ _ _ => rfl) (fun _ => rfl) (fun _ _ => rfl) t)
    (held m c 54 rfl (fun _ => rfl) (fun _ _ _ => rfl) (fun _ => rfl) (fun _ _ => rfl) t)

set_option maxHeartbeats 4000000 in
theorem weight10 (c : Dev nD) (t : Fin cfg0.N) : entering m c t [25, 10, 40, 55, 90, 91, 92]
    ⊢ wp frame (wpE (defs₀ (F := F)) Variants.none c none) Set.univ
      (step ![0, 0] inb_S2x1024_S2x1024_0_0 h_S2x1024 (win0_25.stage (cfg0.slots t 25)) (win0_10.stage (cfg0.slots t 10)) (win0_40.stage (cfg0.slots t 40)) (win0_55.stage (cfg0.slots t 55)) (win0_90.stage (cfg0.slots t 90)) (win0_91.stage (cfg0.slots t 91)) (win0_92.stage (cfg0.slots t 92)))
      (fun _ => leaving m c t [25, 10, 40, 55, 90, 91, 92]) :=
  step_held z2 c (held m c 25 rfl (fun _ => rfl) (fun _ _ _ => rfl) (fun _ => rfl) (fun _ _ => rfl) t)
    (held m c 10 rfl (fun _ => rfl) (fun _ _ _ => rfl) (fun _ => rfl) (fun _ _ => rfl) t)
    (held m c 40 rfl (fun _ => rfl) (fun _ _ _ => rfl) (fun _ => rfl) (fun _ _ => rfl) t)
    (held m c 55 rfl (fun _ => rfl) (fun _ _ _ => rfl) (fun _ => rfl) (fun _ _ => rfl) t)

set_option maxHeartbeats 4000000 in
theorem weight11 (c : Dev nD) (t : Fin cfg0.N) : entering m c t [26, 11, 41, 56, 93, 94, 95]
    ⊢ wp frame (wpE (defs₀ (F := F)) Variants.none c none) Set.univ
      (step ![0, 0] inb_S2x1024_S2x1024_0_0 h_S2x1024 (win0_26.stage (cfg0.slots t 26)) (win0_11.stage (cfg0.slots t 11)) (win0_41.stage (cfg0.slots t 41)) (win0_56.stage (cfg0.slots t 56)) (win0_93.stage (cfg0.slots t 93)) (win0_94.stage (cfg0.slots t 94)) (win0_95.stage (cfg0.slots t 95)))
      (fun _ => leaving m c t [26, 11, 41, 56, 93, 94, 95]) :=
  step_held z2 c (held m c 26 rfl (fun _ => rfl) (fun _ _ _ => rfl) (fun _ => rfl) (fun _ _ => rfl) t)
    (held m c 11 rfl (fun _ => rfl) (fun _ _ _ => rfl) (fun _ => rfl) (fun _ _ => rfl) t)
    (held m c 41 rfl (fun _ => rfl) (fun _ _ _ => rfl) (fun _ => rfl) (fun _ _ => rfl) t)
    (held m c 56 rfl (fun _ => rfl) (fun _ _ _ => rfl) (fun _ => rfl) (fun _ _ => rfl) t)

end Cert.SmallLast

end
-- ==== Proof.SmallLastBody3.lean ====
module

public import proofs.«01_k».proof.Proof.SmallLastData

@[expose] public section

set_option maxRecDepth 65536

noncomputable section

/-! For the call stated at its last seven weights. The steps of weights 12 to 14 on their windows. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem weight12 (c : Dev nD) (t : Fin cfg0.N) : entering m c t [27, 12, 42, 57, 96, 97, 98]
    ⊢ wp frame (wpE (defs₀ (F := F)) Variants.none c none) Set.univ
      (step ![0, 0] inb_S1x1024_S1x1024_0_0 h_S1x1024 (win0_27.stage (cfg0.slots t 27)) (win0_12.stage (cfg0.slots t 12)) (win0_42.stage (cfg0.slots t 42)) (win0_57.stage (cfg0.slots t 57)) (win0_96.stage (cfg0.slots t 96)) (win0_97.stage (cfg0.slots t 97)) (win0_98.stage (cfg0.slots t 98)))
      (fun _ => leaving m c t [27, 12, 42, 57, 96, 97, 98]) :=
  step_held z2 c (held m c 27 rfl (fun _ => rfl) (fun _ _ _ => rfl) (fun _ => rfl) (fun _ _ => rfl) t)
    (held m c 12 rfl (fun _ => rfl) (fun _ _ _ => rfl) (fun _ => rfl) (fun _ _ => rfl) t)
    (held m c 42 rfl (fun _ => rfl) (fun _ _ _ => rfl) (fun _ => rfl) (fun _ _ => rfl) t)
    (held m c 57 rfl (fun _ => rfl) (fun _ _ _ => rfl) (fun _ => rfl) (fun _ _ => rfl) t)

set_option maxHeartbeats 4000000 in
theorem weight13 (c : Dev nD) (t : Fin cfg0.N) : entering m c t [28, 13, 43, 58, 99, 100, 101]
    ⊢ wp frame (wpE (defs₀ (F := F)) Variants.none c none) Set.univ
      (step ![0, 0, 0] inb_S2x3x32_S2x3x32_0_0_0 h_S2x3x32 (win0_28.stage (cfg0.slots t 28)) (win0_13.stage (cfg0.slots t 13)) (win0_43.stage (cfg0.slots t 43)) (win0_58.stage (cfg0.slots t 58)) (win0_99.stage (cfg0.slots t 99)) (win0_100.stage (cfg0.slots t 100)) (win0_101.stage (cfg0.slots t 101)))
      (fun _ => leaving m c t [28, 13, 43, 58, 99, 100, 101]) :=
  step_held z3 c (held m c 28 rfl (fun _ => rfl) (fun _ _ _ => rfl) (fun _ => rfl) (fun _ _ => rfl) t)
    (held m c 13 rfl (fun _ => rfl) (fun _ _ _ => rfl) (fun _ => rfl) (fun _ _ => rfl) t)
    (held m c 43 rfl (fun _ => rfl) (fun _ _ _ => rfl) (fun _ => rfl) (fun _ _ => rfl) t)
    (held m c 58 rfl (fun _ => rfl) (fun _ _ _ => rfl) (fun _ => rfl) (fun _ _ => rfl) t)

set_option maxHeartbeats 4000000 in
theorem weight14 (c : Dev nD) (t : Fin cfg0.N) : entering m c t [29, 14, 44, 59, 102, 103, 104]
    ⊢ wp frame (wpE (defs₀ (F := F)) Variants.none c none) Set.univ
      (step ![0, 0, 0] inb_S2x31x32_S2x31x32_0_0_0 h_S2x31x32 (win0_29.stage (cfg0.slots t 29)) (win0_14.stage (cfg0.slots t 14)) (win0_44.stage (cfg0.slots t 44)) (win0_59.stage (cfg0.slots t 59)) (win0_102.stage (cfg0.slots t 102)) (win0_103.stage (cfg0.slots t 103)) (win0_104.stage (cfg0.slots t 104)))
      (fun _ => leaving m c t [29, 14, 44, 59, 102, 103, 104]) :=
  step_held z3 c (held m c 29 rfl (fun _ => rfl) (fun _ _ _ => rfl) (fun _ => rfl) (fun _ _ => rfl) t)
    (held m c 14 rfl (fun _ => rfl) (fun _ _ _ => rfl) (fun _ => rfl) (fun _ _ => rfl) t)
    (held m c 44 rfl (fun _ => rfl) (fun _ _ _ => rfl) (fun _ => rfl) (fun _ _ => rfl) t)
    (held m c 59 rfl (fun _ => rfl) (fun _ _ _ => rfl) (fun _ => rfl) (fun _ _ => rfl) t)

end Cert.SmallLast

end
-- ==== Proof.SmallLastRun.lean ====
module

public import proofs.«01_k».proof.Proof.SmallLastBody0
public import proofs.«01_k».proof.Proof.SmallLastBody1
public import proofs.«01_k».proof.Proof.SmallLastBody2
public import proofs.«01_k».proof.Proof.SmallLastBody3
public import Idealize.ShloMosaic.Lib.Pipeline.BigSepL

@[expose] public section

set_option maxRecDepth 65536

noncomputable section

/-! For the call stated at its last seven weights. The run of the small weights' optimiser. -/

namespace Cert.SmallLast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AdamwLastIdeal Cert.AdamwLastIdeal.Gen
open Cert.Small (lit newM newV delta)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A program on some windows before a program `k` on others. -/
theorem parts (c : Dev nD) (t : Fin cfg0.N) {l l' : List (Fin 105)} {p k : Prog (TpuEff nD τ sig (Elt F) Λ₀ .tc) PUnit}
    (hp : entering m c t l ⊢ wp frame (wpE (defs₀ (F := F)) Variants.none c none) Set.univ p (fun _ => leaving m c t l))
    (hk : entering m c t l' ⊢ wp frame (wpE (defs₀ (F := F)) Variants.none c none) Set.univ k (fun _ => leaving m c t l')) :
    entering m c t (l ++ l') ⊢ wp frame (wpE (defs₀ (F := F)) Variants.none c none) Set.univ (p >>= fun _ => k)
      (fun _ => leaving m c t (l ++ l')) := by
  unfold entering leaving at *
  rw [bigSepL_append, bigSepL_append, wp_bind]
  refine (BI.sep_mono hp hk).trans ((wp_frame_r _ _ _).trans (wp_mono _ _ _ fun _ => ?_))
  exact wp_frame_l _ _ _

theorem order_eq : order = [15, 0, 30, 45, 60, 61, 62] ++ ([16, 1, 31, 46, 63, 64, 65] ++ ([17, 2, 32, 47, 66, 67, 68] ++ ([18, 3, 33, 48, 69, 70, 71] ++ ([19, 4, 34, 49, 72, 73, 74] ++ ([20, 5, 35, 50, 75, 76, 77] ++ ([21, 6, 36, 51, 78, 79, 80] ++ ([22, 7, 37, 52, 81, 82, 83] ++ ([23, 8, 38, 53, 84, 85, 86] ++ ([24, 9, 39, 54, 87, 88, 89] ++ ([25, 10, 40, 55, 90, 91, 92] ++ ([26, 11, 41, 56, 93, 94, 95] ++ ([27, 12, 42, 57, 96, 97, 98] ++ ([28, 13, 43, 58, 99, 100, 101] ++ ([29, 14, 44, 59, 102, 103, 104])))))))))))))) := rfl

set_option maxHeartbeats 4000000 in
/-- The body at a point: each weight's step on its seven windows. -/
theorem body_sound (c : Dev nD) (t : Fin cfg0.N) :
    entering m c t order ⊢ wp frame (wpE (defs₀ (F := F)) Variants.none c none) Set.univ (bodyAt0 t) (fun _ => leaving m c t order) := by
  rw [body_eq, order_eq]
  exact parts m c t (weight0 m c t) <| parts m c t (weight1 m c t) <| parts m c t (weight2 m c t) <| parts m c t (weight3 m c t) <| parts m c t (weight4 m c t) <| parts m c t (weight5 m c t) <| parts m c t (weight6 m c t) <| parts m c t (weight7 m c t) <| parts m c t (weight8 m c t) <| parts m c t (weight9 m c t) <| parts m c t (weight10 m c t) <| parts m c t (weight11 m c t) <| parts m c t (weight12 m c t) <| parts m c t (weight13 m c t) <| step_last c (weight14 m c t)

/-- The body's obligation at every point. -/
theorem body_obligation (c : Dev nD) : Pipeline.BodyObligation (dats (F := F) m 0 c) (defs₀ (F := F)) Variants.none () Set.univ := fun t => by
  rw [bigSep_order, bigSep_order, defs₀_row]
  exact triple_restated (beside c (body_sound m c t)) rfl .rfl fun _ => .rfl

theorem A_eq (c : Dev nD) (w : Fin cfg0.W) : (dats m 0 c).A w = V m c (Pipeline.arrRef spec0 w) := by dsimp only [dats]

set_option backward.isDefEq.respectTransparency.types false in
set_option maxHeartbeats 800000 in
/-- The program ends, each array holding what its window's last store left, and no semaphore raised. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.SmallLast

end
-- ==== Proof.SmallLastFrame.lean ====
module

public import proofs.«01_k».proof.Proof.SmallLastRun
public import Idealize.ShloMosaic.Lib.Pipeline.ValueKit.Geometry

@[expose] public section

set_option maxRecDepth 65536
set_option maxHeartbeats 4000000

noncomputable section

/-! For the call stated at its last seven weights. The frame of the small weights' optimiser. -/

namespace Cert.SmallLast

open Idealize.ShloMosaic Idealize.ShloMosaic.TcCoe Idealize.ShloMosaic.Tactic
open Idealize.SL.Sem
open Cert.AdamwLastIdeal Cert.AdamwLastIdeal.Gen
open Cert.Small (lit newM newV delta)

variable {F : FTy → Type} [FloatOps F]
variable (m : (ℓ : Loc nD τ sig) → Buf (Elt F) ℓ) (ρ : Dev nD → PrngReg)

variable {m}

/-- An array that is only read holds after the run what it held before. -/
theorem kept {r : PUnit × MemSt nD τ sig (Elt F)} (h : Pipeline.FramePost cfgs (dats m) 0 (V m) r) (c : Dev nD) (w : Fin cfg0.W) (hw : (cfg0.win w).isOut = false) :
    r.2.mem ((cfg0.spec w).arr.view.loc (c.tc : Thread nD τ)) = V m c (Pipeline.arrRef spec0 w) :=
  ((h c).1 w).trans (((dats m 0 c).arrAt_in w hw _).trans (A_eq m c w))

/-- An argument is unchanged. -/
abbrev Same (m : (ℓ : Loc nD τ sig) → Buf (Elt F) ℓ) (r : PUnit × MemSt nD τ sig (Elt F)) (c : Dev nD) (b : Ref sig .tc) : Prop :=
  r.2.mem ((c.tc : Thread nD τ).loc b) = m ((c.tc : Thread nD τ).loc b)

/-- All arguments are unchanged. -/
theorem args {r : PUnit × MemSt nD τ sig (Elt F)} (h : Pipeline.FramePost cfgs (dats m) 0 (V m) r) (c : Dev nD) :
    Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9 ∧ Same m r c main_arg10 ∧ Same m r c main_arg11 ∧ Same m r c main_arg12 ∧ Same m r c main_arg13 ∧ Same m r c main_arg14 ∧ Same m r c main_arg15 ∧ Same m r c main_arg16 ∧ Same m r c main_arg17 ∧ Same m r c main_arg18 ∧ Same m r c main_arg19 ∧ Same m r c main_arg20 ∧ Same m r c main_arg21 ∧ Same m r c main_arg22 ∧ Same m r c main_arg23 ∧ Same m r c main_arg24 ∧ Same m r c main_arg25 ∧ Same m r c main_arg26 ∧ Same m r c main_arg27 ∧ Same m r c main_arg28 ∧ Same m r c main_arg29 ∧ Same m r c main_arg30 ∧ Same m r c main_arg31 ∧ Same m r c main_arg32 ∧ Same m r c main_arg33 ∧ Same m r c main_arg34 ∧ Same m r c main_arg35 ∧ Same m r c main_arg36 ∧ Same m r c main_arg37 ∧ Same m r c main_arg38 ∧ Same m r c main_arg39 ∧ Same m r c main_arg40 ∧ Same m r c main_arg41 ∧ Same m r c main_arg42 ∧ Same m r c main_arg43 ∧ Same m r c main_arg44 ∧ Same m r c main_arg45 ∧ Same m r c main_arg46 ∧ Same m r c main_arg47 ∧ Same m r c main_arg48 ∧ Same m r c main_arg49 ∧ Same m r c main_arg50 ∧ Same m r c main_arg51 ∧ Same m r c main_arg52 ∧ Same m r c main_arg53 ∧ Same m r c main_arg54 ∧ Same m r c main_arg55 ∧ Same m r c main_arg56 ∧ Same m r c main_arg57 ∧ Same m r c main_arg58 ∧ Same m r c main_arg59 :=
  ⟨kept h c 0 rfl, kept h c 1 rfl, kept h c 2 rfl, kept h c 3 rfl, kept h c 4 rfl, kept h c 5 rfl, kept h c 6 rfl, kept h c 7 rfl, kept h c 8 rfl, kept h c 9 rfl, kept h c 10 rfl, kept h c 11 rfl, kept h c 12 rfl, kept h c 13 rfl, kept h c 14 rfl, kept h c 15 rfl, kept h c 16 rfl, kept h c 17 rfl, kept h c 18 rfl, kept h c 19 rfl, kept h c 20 rfl, kept h c 21 rfl, kept h c 22 rfl, kept h c 23 rfl, kept h c 24 rfl, kept h c 25 rfl, kept h c 26 rfl, kept h c 27 rfl, kept h c 28 rfl, kept h c 29 rfl, kept h c 30 rfl, kept h c 31 rfl, kept h c 32 rfl, kept h c 33 rfl, kept h c 34 rfl, kept h c 35 rfl, kept h c 36 rfl, kept h c 37 rfl, kept h c 38 rfl, kept h c 39 rfl, kept h c 40 rfl, kept h c 41 rfl, kept h c 42 rfl, kept h c 43 rfl, kept h c 44 rfl, kept h c 45 rfl, kept h c 46 rfl, kept h c 47 rfl, kept h c 48 rfl, kept h c 49 rfl, kept h c 50 rfl, kept h c 51 rfl, kept h c 52 rfl, kept h c 53 rfl, kept h c 54 rfl, kept h c 55 rfl, kept h c 56 rfl, kept h c 57 rfl, kept h c 58 rfl, kept h c 59 rfl⟩

variable (m)

/-- The frame: the program ends, its arguments unchanged and no semaphore raised. -/
theorem frame : θ_run defs (onTc (τ := τ) (main (F := F))) ⟨m, fun _ => 0, ρ⟩ (fun r => (∀ c : Dev nD,
    Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9 ∧ Same m r c main_arg10 ∧ Same m r c main_arg11 ∧ Same m r c main_arg12 ∧ Same m r c main_arg13 ∧ Same m r c main_arg14 ∧ Same m r c main_arg15 ∧ Same m r c main_arg16 ∧ Same m r c main_arg17 ∧ Same m r c main_arg18 ∧ Same m r c main_arg19 ∧ Same m r c main_arg20 ∧ Same m r c main_arg21 ∧ Same m r c main_arg22 ∧ Same m r c main_arg23 ∧ Same m r c main_arg24 ∧ Same m r c main_arg25 ∧ Same m r c main_arg26 ∧ Same m r c main_arg27 ∧ Same m r c main_arg28 ∧ Same m r c main_arg29 ∧ Same m r c main_arg30 ∧ Same m r c main_arg31 ∧ Same m r c main_arg32 ∧ Same m r c main_arg33 ∧ Same m r c main_arg34 ∧ Same m r c main_arg35 ∧ Same m r c main_arg36 ∧ Same m r c main_arg37 ∧ Same m r c main_arg38 ∧ Same m r c main_arg39 ∧ Same m r c main_arg40 ∧ Same m r c main_arg41 ∧ Same m r c main_arg42 ∧ Same m r c main_arg43 ∧ Same m r c main_arg44 ∧ Same m r c main_arg45 ∧ Same m r c main_arg46 ∧ Same m r c main_arg47 ∧ Same m r c main_arg48 ∧ Same m r c main_arg49 ∧ Same m r c main_arg50 ∧ Same m r c main_arg51 ∧ Same m r c main_arg52 ∧ Same m r c main_arg53 ∧ Same m r c main_arg54 ∧ Same m r c main_arg55 ∧ Same m r c main_arg56 ∧ Same m r c main_arg57 ∧ Same m r c main_arg58 ∧ Same m r c main_arg59) ∧ r.2.sem = fun _ => 0) :=
  (θ_run defs _ _).mono (fun _ h => ⟨fun c => args h.1 c, h.2⟩) (run_main m ρ)

end Cert.SmallLast

end
-- ==== Proof.SmallLastVal.lean ====
module

public import proofs.«01_k».proof.Proof.SmallLastData
public import Idealize.ShloMosaic.Lib.Pipeline.ValueKit.Geometry

@[expose] public section

set_option maxRecDepth 65536
set_option maxHeartbeats 4000000

noncomputable section

/-! For the call stated at its last seven weights. What the small weights' optimiser leaves in each result: the AdamW step of the arguments. -/

namespace Cert.SmallLast

open Idealize.ShloMosaic Idealize.ShloMosaic.TcCoe Idealize.ShloMosaic.Tactic
open Idealize.SL.Sem
open Cert.AdamwLastIdeal Cert.AdamwLastIdeal.Gen
open Cert.Small (lit newM newV delta)

variable {F : FTy → Type} [FloatOps F]
variable (m : (ℓ : Loc nD τ sig) → Buf (Elt F) ℓ) (ρ : Dev nD → PrngReg)

/-- An argument's contents, as launched. -/
abbrev arg (c : Dev nD) (b : Ref sig .tc) : Buf (Elt F) ((c.tc : Thread nD τ).loc b) := m ((c.tc : Thread nD τ).loc b)

/-- The only point of the grid. -/
abbrev p0 : Fin cfg0.N := ⟨0, by decide⟩

theorem delta_congr {S : Shape} {w g p q w' g' p' q' : Vec F S .f32} (hw : w = w') (hg : g = g') (hp : p = p') (hq : q = q') :
    delta w g p q = delta w' g' p' q' := by subst hw hg hp hq; rfl

theorem newM_congr {S : Shape} {g p g' p' : Vec F S .f32} (hg : g = g') (hp : p = p') : newM g p = newM g' p' := by subst hg hp; rfl

theorem newV_congr {S : Shape} {g q g' q' : Vec F S .f32} (hg : g = g') (hq : q = q') : newV g q = newV g' q' := by subst hg hq; rfl

/-- A window that stands at block zero reads each element at its own index. -/
theorem at_zero (w : Pipeline.Window sig grid0) (t : Fin grid0.N) (hz : ∀ a, w.index t a = 0) (y : (w.xblock (grid0.coords t)).Idx) (a : Fin w.shape.rank) :
    ((w.rect t).emb y a : Nat) = y a :=
  Pipeline.Window.rect_emb_val_of_index_zero w t a (hz a) y

section Whole

/-! Each argument's block is the whole argument. -/

variable (c : Dev nD)

theorem whole0 : blk m c 0 p0 = arg m c main_arg0 := funext fun y => congrArg (arg m c main_arg0) (funext fun a => Fin.ext (at_zero win0_0 p0 (fun _ => rfl) y a))
theorem whole1 : blk m c 1 p0 = arg m c main_arg1 := funext fun y => congrArg (arg m c main_arg1) (funext fun a => Fin.ext (at_zero win0_1 p0 (fun _ => rfl) y a))
theorem whole2 : blk m c 2 p0 = arg m c main_arg2 := funext fun y => congrArg (arg m c main_arg2) (funext fun a => Fin.ext (at_zero win0_2 p0 (fun _ => rfl) y a))
theorem whole3 : blk m c 3 p0 = arg m c main_arg3 := funext fun y => congrArg (arg m c main_arg3) (funext fun a => Fin.ext (at_zero win0_3 p0 (fun _ => rfl) y a))
theorem whole4 : blk m c 4 p0 = arg m c main_arg4 := funext fun y => congrArg (arg m c main_arg4) (funext fun a => Fin.ext (at_zero win0_4 p0 (fun _ => rfl) y a))
theorem whole5 : blk m c 5 p0 = arg m c main_arg5 := funext fun y => congrArg (arg m c main_arg5) (funext fun a => Fin.ext (at_zero win0_5 p0 (fun _ => rfl) y a))
theorem whole6 : blk m c 6 p0 = arg m c main_arg6 := funext fun y => congrArg (arg m c main_arg6) (funext fun a => Fin.ext (at_zero win0_6 p0 (fun _ => rfl) y a))
theorem whole7 : blk m c 7 p0 = arg m c main_arg7 := funext fun y => congrArg (arg m c main_arg7) (funext fun a => Fin.ext (at_zero win0_7 p0 (fun _ => rfl) y a))
theorem whole8 : blk m c 8 p0 = arg m c main_arg8 := funext fun y => congrArg (arg m c main_arg8) (funext fun a => Fin.ext (at_zero win0_8 p0 (fun _ => rfl) y a))
theorem whole9 : blk m c 9 p0 = arg m c main_arg9 := funext fun y => congrArg (arg m c main_arg9) (funext fun a => Fin.ext (at_zero win0_9 p0 (fun _ => rfl) y a))
theorem whole10 : blk m c 10 p0 = arg m c main_arg10 := funext fun y => congrArg (arg m c main_arg10) (funext fun a => Fin.ext (at_zero win0_10 p0 (fun _ => rfl) y a))
theorem whole11 : blk m c 11 p0 = arg m c main_arg11 := funext fun y => congrArg (arg m c main_arg11) (funext fun a => Fin.ext (at_zero win0_11 p0 (fun _ => rfl) y a))
theorem whole12 : blk m c 12 p0 = arg m c main_arg12 := funext fun y => congrArg (arg m c main_arg12) (funext fun a => Fin.ext (at_zero win0_12 p0 (fun _ => rfl) y a))
theorem whole13 : blk m c 13 p0 = arg m c main_arg13 := funext fun y => congrArg (arg m c main_arg13) (funext fun a => Fin.ext (at_zero win0_13 p0 (fun _ => rfl) y a))
theorem whole14 : blk m c 14 p0 = arg m c main_arg14 := funext fun y => congrArg (arg m c main_arg14) (funext fun a => Fin.ext (at_zero win0_14 p0 (fun _ => rfl) y a))
theorem whole15 : blk m c 15 p0 = arg m c main_arg15 := funext fun y => congrArg (arg m c main_arg15) (funext fun a => Fin.ext (at_zero win0_15 p0 (fun _ => rfl) y a))
theorem whole16 : blk m c 16 p0 = arg m c main_arg16 := funext fun y => congrArg (arg m c main_arg16) (funext fun a => Fin.ext (at_zero win0_16 p0 (fun _ => rfl) y a))
theorem whole17 : blk m c 17 p0 = arg m c main_arg17 := funext fun y => congrArg (arg m c main_arg17) (funext fun a => Fin.ext (at_zero win0_17 p0 (fun _ => rfl) y a))
theorem whole18 : blk m c 18 p0 = arg m c main_arg18 := funext fun y => congrArg (arg m c main_arg18) (funext fun a => Fin.ext (at_zero win0_18 p0 (fun _ => rfl) y a))
theorem whole19 : blk m c 19 p0 = arg m c main_arg19 := funext fun y => congrArg (arg m c main_arg19) (funext fun a => Fin.ext (at_zero win0_19 p0 (fun _ => rfl) y a))
theorem whole20 : blk m c 20 p0 = arg m c main_arg20 := funext fun y => congrArg (arg m c main_arg20) (funext fun a => Fin.ext (at_zero win0_20 p0 (fun _ => rfl) y a))
theorem whole21 : blk m c 21 p0 = arg m c main_arg21 := funext fun y => congrArg (arg m c main_arg21) (funext fun a => Fin.ext (at_zero win0_21 p0 (fun _ => rfl) y a))
theorem whole22 : blk m c 22 p0 = arg m c main_arg22 := funext fun y => congrArg (arg m c main_arg22) (funext fun a => Fin.ext (at_zero win0_22 p0 (fun _ => rfl) y a))
theorem whole23 : blk m c 23 p0 = arg m c main_arg23 := funext fun y => congrArg (arg m c main_arg23) (funext fun a => Fin.ext (at_zero win0_23 p0 (fun _ => rfl) y a))
theorem whole24 : blk m c 24 p0 = arg m c main_arg24 := funext fun y => congrArg (arg m c main_arg24) (funext fun a => Fin.ext (at_zero win0_24 p0 (fun _ => rfl) y a))
theorem whole25 : blk m c 25 p0 = arg m c main_arg25 := funext fun y => congrArg (arg m c main_arg25) (funext fun a => Fin.ext (at_zero win0_25 p0 (fun _ => rfl) y a))
theorem whole26 : blk m c 26 p0 = arg m c main_arg26 := funext fun y => congrArg (arg m c main_arg26) (funext fun a => Fin.ext (at_zero win0_26 p0 (fun _ => rfl) y a))
theorem whole27 : blk m c 27 p0 = arg m c main_arg27 := funext fun y => congrArg (arg m c main_arg27) (funext fun a => Fin.ext (at_zero win0_27 p0 (fun _ => rfl) y a))
theorem whole28 : blk m c 28 p0 = arg m c main_arg28 := funext fun y => congrArg (arg m c main_arg28) (funext fun a => Fin.ext (at_zero win0_28 p0 (fun _ => rfl) y a))
theorem whole29 : blk m c 29 p0 = arg m c main_arg29 := funext fun y => congrArg (arg m c main_arg29) (funext fun a => Fin.ext (at_zero win0_29 p0 (fun _ => rfl) y a))
theorem whole30 : blk m c 30 p0 = arg m c main_arg30 := funext fun y => congrArg (arg m c main_arg30) (funext fun a => Fin.ext (at_zero win0_30 p0 (fun _ => rfl) y a))
theorem whole31 : blk m c 31 p0 = arg m c main_arg31 := funext fun y => congrArg (arg m c main_arg31) (funext fun a => Fin.ext (at_zero win0_31 p0 (fun _ => rfl) y a))
theorem whole32 : blk m c 32 p0 = arg m c main_arg32 := funext fun y => congrArg (arg m c main_arg32) (funext fun a => Fin.ext (at_zero win0_32 p0 (fun _ => rfl) y a))
theorem whole33 : blk m c 33 p0 = arg m c main_arg33 := funext fun y => congrArg (arg m c main_arg33) (funext fun a => Fin.ext (at_zero win0_33 p0 (fun _ => rfl) y a))
theorem whole34 : blk m c 34 p0 = arg m c main_arg34 := funext fun y => congrArg (arg m c main_arg34) (funext fun a => Fin.ext (at_zero win0_34 p0 (fun _ => rfl) y a))
theorem whole35 : blk m c 35 p0 = arg m c main_arg35 := funext fun y => congrArg (arg m c main_arg35) (funext fun a => Fin.ext (at_zero win0_35 p0 (fun _ => rfl) y a))
theorem whole36 : blk m c 36 p0 = arg m c main_arg36 := funext fun y => congrArg (arg m c main_arg36) (funext fun a => Fin.ext (at_zero win0_36 p0 (fun _ => rfl) y a))
theorem whole37 : blk m c 37 p0 = arg m c main_arg37 := funext fun y => congrArg (arg m c main_arg37) (funext fun a => Fin.ext (at_zero win0_37 p0 (fun _ => rfl) y a))
theorem whole38 : blk m c 38 p0 = arg m c main_arg38 := funext fun y => congrArg (arg m c main_arg38) (funext fun a => Fin.ext (at_zero win0_38 p0 (fun _ => rfl) y a))
theorem whole39 : blk m c 39 p0 = arg m c main_arg39 := funext fun y => congrArg (arg m c main_arg39) (funext fun a => Fin.ext (at_zero win0_39 p0 (fun _ => rfl) y a))
theorem whole40 : blk m c 40 p0 = arg m c main_arg40 := funext fun y => congrArg (arg m c main_arg40) (funext fun a => Fin.ext (at_zero win0_40 p0 (fun _ => rfl) y a))
theorem whole41 : blk m c 41 p0 = arg m c main_arg41 := funext fun y => congrArg (arg m c main_arg41) (funext fun a => Fin.ext (at_zero win0_41 p0 (fun _ => rfl) y a))
theorem whole42 : blk m c 42 p0 = arg m c main_arg42 := funext fun y => congrArg (arg m c main_arg42) (funext fun a => Fin.ext (at_zero win0_42 p0 (fun _ => rfl) y a))
theorem whole43 : blk m c 43 p0 = arg m c main_arg43 := funext fun y => congrArg (arg m c main_arg43) (funext fun a => Fin.ext (at_zero win0_43 p0 (fun _ => rfl) y a))
theorem whole44 : blk m c 44 p0 = arg m c main_arg44 := funext fun y => congrArg (arg m c main_arg44) (funext fun a => Fin.ext (at_zero win0_44 p0 (fun _ => rfl) y a))
theorem whole45 : blk m c 45 p0 = arg m c main_arg45 := funext fun y => congrArg (arg m c main_arg45) (funext fun a => Fin.ext (at_zero win0_45 p0 (fun _ => rfl) y a))
theorem whole46 : blk m c 46 p0 = arg m c main_arg46 := funext fun y => congrArg (arg m c main_arg46) (funext fun a => Fin.ext (at_zero win0_46 p0 (fun _ => rfl) y a))
theorem whole47 : blk m c 47 p0 = arg m c main_arg47 := funext fun y => congrArg (arg m c main_arg47) (funext fun a => Fin.ext (at_zero win0_47 p0 (fun _ => rfl) y a))
theorem whole48 : blk m c 48 p0 = arg m c main_arg48 := funext fun y => congrArg (arg m c main_arg48) (funext fun a => Fin.ext (at_zero win0_48 p0 (fun _ => rfl) y a))
theorem whole49 : blk m c 49 p0 = arg m c main_arg49 := funext fun y => congrArg (arg m c main_arg49) (funext fun a => Fin.ext (at_zero win0_49 p0 (fun _ => rfl) y a))
theorem whole50 : blk m c 50 p0 = arg m c main_arg50 := funext fun y => congrArg (arg m c main_arg50) (funext fun a => Fin.ext (at_zero win0_50 p0 (fun _ => rfl) y a))
theorem whole51 : blk m c 51 p0 = arg m c main_arg51 := funext fun y => congrArg (arg m c main_arg51) (funext fun a => Fin.ext (at_zero win0_51 p0 (fun _ => rfl) y a))
theorem whole52 : blk m c 52 p0 = arg m c main_arg52 := funext fun y => congrArg (arg m c main_arg52) (funext fun a => Fin.ext (at_zero win0_52 p0 (fun _ => rfl) y a))
theorem whole53 : blk m c 53 p0 = arg m c main_arg53 := funext fun y => congrArg (arg m c main_arg53) (funext fun a => Fin.ext (at_zero win0_53 p0 (fun _ => rfl) y a))
theorem whole54 : blk m c 54 p0 = arg m c main_arg54 := funext fun y => congrArg (arg m c main_arg54) (funext fun a => Fin.ext (at_zero win0_54 p0 (fun _ => rfl) y a))
theorem whole55 : blk m c 55 p0 = arg m c main_arg55 := funext fun y => congrArg (arg m c main_arg55) (funext fun a => Fin.ext (at_zero win0_55 p0 (fun _ => rfl) y a))
theorem whole56 : blk m c 56 p0 = arg m c main_arg56 := funext fun y => congrArg (arg m c main_arg56) (funext fun a => Fin.ext (at_zero win0_56 p0 (fun _ => rfl) y a))
theorem whole57 : blk m c 57 p0 = arg m c main_arg57 := funext fun y => congrArg (arg m c main_arg57) (funext fun a => Fin.ext (at_zero win0_57 p0 (fun _ => rfl) y a))
theorem whole58 : blk m c 58 p0 = arg m c main_arg58 := funext fun y => congrArg (arg m c main_arg58) (funext fun a => Fin.ext (at_zero win0_58 p0 (fun _ => rfl) y a))
theorem whole59 : blk m c 59 p0 = arg m c main_arg59 := funext fun y => congrArg (arg m c main_arg59) (funext fun a => Fin.ext (at_zero win0_59 p0 (fun _ => rfl) y a))

end Whole

section Final

/-! Each result array after the run. -/

variable (c : Dev nD)

theorem final60 : (dats m 0 c).arrAt 60 cfg0.N = delta (S := S2x1024) (arg m c main_arg15) (arg m c main_arg0) (arg m c main_arg30) (arg m c main_arg45) :=
  ((dats m 0 c).arrAt_eq_of_after_last 60 p0 (by decide +kernel) _ fun _ => rfl).trans (delta_congr (whole15 m c) (whole0 m c) (whole30 m c) (whole45 m c))
theorem final61 : (dats m 0 c).arrAt 61 cfg0.N = newM (S := S2x1024) (arg m c main_arg0) (arg m c main_arg30) :=
  ((dats m 0 c).arrAt_eq_of_after_last 61 p0 (by decide +kernel) _ fun _ => rfl).trans (newM_congr (whole0 m c) (whole30 m c))
theorem final62 : (dats m 0 c).arrAt 62 cfg0.N = newV (S := S2x1024) (arg m c main_arg0) (arg m c main_arg45) :=
  ((dats m 0 c).arrAt_eq_of_after_last 62 p0 (by decide +kernel) _ fun _ => rfl).trans (newV_congr (whole0 m c) (whole45 m c))
theorem final63 : (dats m 0 c).arrAt 63 cfg0.N = delta (S := S2x1024) (arg m c main_arg16) (arg m c main_arg1) (arg m c main_arg31) (arg m c main_arg46) :=
  ((dats m 0 c).arrAt_eq_of_after_last 63 p0 (by decide +kernel) _ fun _ => rfl).trans (delta_congr (whole16 m c) (whole1 m c) (whole31 m c) (whole46 m c))
theorem final64 : (dats m 0 c).arrAt 64 cfg0.N = newM (S := S2x1024) (arg m c main_arg1) (arg m c main_arg31) :=
  ((dats m 0 c).arrAt_eq_of_after_last 64 p0 (by decide +kernel) _ fun _ => rfl).trans (newM_congr (whole1 m c) (whole31 m c))
theorem final65 : (dats m 0 c).arrAt 65 cfg0.N = newV (S := S2x1024) (arg m c main_arg1) (arg m c main_arg46) :=
  ((dats m 0 c).arrAt_eq_of_after_last 65 p0 (by decide +kernel) _ fun _ => rfl).trans (newV_congr (whole1 m c) (whole46 m c))
theorem final66 : (dats m 0 c).arrAt 66 cfg0.N = delta (S := S2x256) (arg m c main_arg17) (arg m c main_arg2) (arg m c main_arg32) (arg m c main_arg47) :=
  ((dats m 0 c).arrAt_eq_of_after_last 66 p0 (by decide +kernel) _ fun _ => rfl).trans (delta_congr (whole17 m c) (whole2 m c) (whole32 m c) (whole47 m c))
theorem final67 : (dats m 0 c).arrAt 67 cfg0.N = newM (S := S2x256) (arg m c main_arg2) (arg m c main_arg32) :=
  ((dats m 0 c).arrAt_eq_of_after_last 67 p0 (by decide +kernel) _ fun _ => rfl).trans (newM_congr (whole2 m c) (whole32 m c))
theorem final68 : (dats m 0 c).arrAt 68 cfg0.N = newV (S := S2x256) (arg m c main_arg2) (arg m c main_arg47) :=
  ((dats m 0 c).arrAt_eq_of_after_last 68 p0 (by decide +kernel) _ fun _ => rfl).trans (newV_congr (whole2 m c) (whole47 m c))
theorem final69 : (dats m 0 c).arrAt 69 cfg0.N = delta (S := S2x4x128x128) (arg m c main_arg18) (arg m c main_arg3) (arg m c main_arg33) (arg m c main_arg48) :=
  ((dats m 0 c).arrAt_eq_of_after_last 69 p0 (by decide +kernel) _ fun _ => rfl).trans (delta_congr (whole18 m c) (whole3 m c) (whole33 m c) (whole48 m c))
theorem final70 : (dats m 0 c).arrAt 70 cfg0.N = newM (S := S2x4x128x128) (arg m c main_arg3) (arg m c main_arg33) :=
  ((dats m 0 c).arrAt_eq_of_after_last 70 p0 (by decide +kernel) _ fun _ => rfl).trans (newM_congr (whole3 m c) (whole33 m c))
theorem final71 : (dats m 0 c).arrAt 71 cfg0.N = newV (S := S2x4x128x128) (arg m c main_arg3) (arg m c main_arg48) :=
  ((dats m 0 c).arrAt_eq_of_after_last 71 p0 (by decide +kernel) _ fun _ => rfl).trans (newV_congr (whole3 m c) (whole48 m c))
theorem final72 : (dats m 0 c).arrAt 72 cfg0.N = delta (S := S2x4x128) (arg m c main_arg19) (arg m c main_arg4) (arg m c main_arg34) (arg m c main_arg49) :=
  ((dats m 0 c).arrAt_eq_of_after_last 72 p0 (by decide +kernel) _ fun _ => rfl).trans (delta_congr (whole19 m c) (whole4 m c) (whole34 m c) (whole49 m c))
theorem final73 : (dats m 0 c).arrAt 73 cfg0.N = newM (S := S2x4x128) (arg m c main_arg4) (arg m c main_arg34) :=
  ((dats m 0 c).arrAt_eq_of_after_last 73 p0 (by decide +kernel) _ fun _ => rfl).trans (newM_congr (whole4 m c) (whole34 m c))
theorem final74 : (dats m 0 c).arrAt 74 cfg0.N = newV (S := S2x4x128) (arg m c main_arg4) (arg m c main_arg49) :=
  ((dats m 0 c).arrAt_eq_of_after_last 74 p0 (by decide +kernel) _ fun _ => rfl).trans (newV_congr (whole4 m c) (whole49 m c))
theorem final75 : (dats m 0 c).arrAt 75 cfg0.N = delta (S := S2x256) (arg m c main_arg20) (arg m c main_arg5) (arg m c main_arg35) (arg m c main_arg50) :=
  ((dats m 0 c).arrAt_eq_of_after_last 75 p0 (by decide +kernel) _ fun _ => rfl).trans (delta_congr (whole20 m c) (whole5 m c) (whole35 m c) (whole50 m c))
theorem final76 : (dats m 0 c).arrAt 76 cfg0.N = newM (S := S2x256) (arg m c main_arg5) (arg m c main_arg35) :=
  ((dats m 0 c).arrAt_eq_of_after_last 76 p0 (by decide +kernel) _ fun _ => rfl).trans (newM_congr (whole5 m c) (whole35 m c))
theorem final77 : (dats m 0 c).arrAt 77 cfg0.N = newV (S := S2x256) (arg m c main_arg5) (arg m c main_arg50) :=
  ((dats m 0 c).arrAt_eq_of_after_last 77 p0 (by decide +kernel) _ fun _ => rfl).trans (newV_congr (whole5 m c) (whole50 m c))
theorem final78 : (dats m 0 c).arrAt 78 cfg0.N = delta (S := S2x256) (arg m c main_arg21) (arg m c main_arg6) (arg m c main_arg36) (arg m c main_arg51) :=
  ((dats m 0 c).arrAt_eq_of_after_last 78 p0 (by decide +kernel) _ fun _ => rfl).trans (delta_congr (whole21 m c) (whole6 m c) (whole36 m c) (whole51 m c))
theorem final79 : (dats m 0 c).arrAt 79 cfg0.N = newM (S := S2x256) (arg m c main_arg6) (arg m c main_arg36) :=
  ((dats m 0 c).arrAt_eq_of_after_last 79 p0 (by decide +kernel) _ fun _ => rfl).trans (newM_congr (whole6 m c) (whole36 m c))
theorem final80 : (dats m 0 c).arrAt 80 cfg0.N = newV (S := S2x256) (arg m c main_arg6) (arg m c main_arg51) :=
  ((dats m 0 c).arrAt_eq_of_after_last 80 p0 (by decide +kernel) _ fun _ => rfl).trans (newV_congr (whole6 m c) (whole51 m c))
theorem final81 : (dats m 0 c).arrAt 81 cfg0.N = delta (S := S2x4x64x64) (arg m c main_arg22) (arg m c main_arg7) (arg m c main_arg37) (arg m c main_arg52) :=
  ((dats m 0 c).arrAt_eq_of_after_last 81 p0 (by decide +kernel) _ fun _ => rfl).trans (delta_congr (whole22 m c) (whole7 m c) (whole37 m c) (whole52 m c))
theorem final82 : (dats m 0 c).arrAt 82 cfg0.N = newM (S := S2x4x64x64) (arg m c main_arg7) (arg m c main_arg37) :=
  ((dats m 0 c).arrAt_eq_of_after_last 82 p0 (by decide +kernel) _ fun _ => rfl).trans (newM_congr (whole7 m c) (whole37 m c))
theorem final83 : (dats m 0 c).arrAt 83 cfg0.N = newV (S := S2x4x64x64) (arg m c main_arg7) (arg m c main_arg52) :=
  ((dats m 0 c).arrAt_eq_of_after_last 83 p0 (by decide +kernel) _ fun _ => rfl).trans (newV_congr (whole7 m c) (whole52 m c))
theorem final84 : (dats m 0 c).arrAt 84 cfg0.N = delta (S := S2x256) (arg m c main_arg23) (arg m c main_arg8) (arg m c main_arg38) (arg m c main_arg53) :=
  ((dats m 0 c).arrAt_eq_of_after_last 84 p0 (by decide +kernel) _ fun _ => rfl).trans (delta_congr (whole23 m c) (whole8 m c) (whole38 m c) (whole53 m c))
theorem final85 : (dats m 0 c).arrAt 85 cfg0.N = newM (S := S2x256) (arg m c main_arg8) (arg m c main_arg38) :=
  ((dats m 0 c).arrAt_eq_of_after_last 85 p0 (by decide +kernel) _ fun _ => rfl).trans (newM_congr (whole8 m c) (whole38 m c))
theorem final86 : (dats m 0 c).arrAt 86 cfg0.N = newV (S := S2x256) (arg m c main_arg8) (arg m c main_arg53) :=
  ((dats m 0 c).arrAt_eq_of_after_last 86 p0 (by decide +kernel) _ fun _ => rfl).trans (newV_congr (whole8 m c) (whole53 m c))
theorem final87 : (dats m 0 c).arrAt 87 cfg0.N = delta (S := S2x1024) (arg m c main_arg24) (arg m c main_arg9) (arg m c main_arg39) (arg m c main_arg54) :=
  ((dats m 0 c).arrAt_eq_of_after_last 87 p0 (by decide +kernel) _ fun _ => rfl).trans (delta_congr (whole24 m c) (whole9 m c) (whole39 m c) (whole54 m c))
theorem final88 : (dats m 0 c).arrAt 88 cfg0.N = newM (S := S2x1024) (arg m c main_arg9) (arg m c main_arg39) :=
  ((dats m 0 c).arrAt_eq_of_after_last 88 p0 (by decide +kernel) _ fun _ => rfl).trans (newM_congr (whole9 m c) (whole39 m c))
theorem final89 : (dats m 0 c).arrAt 89 cfg0.N = newV (S := S2x1024) (arg m c main_arg9) (arg m c main_arg54) :=
  ((dats m 0 c).arrAt_eq_of_after_last 89 p0 (by decide +kernel) _ fun _ => rfl).trans (newV_congr (whole9 m c) (whole54 m c))
theorem final90 : (dats m 0 c).arrAt 90 cfg0.N = delta (S := S2x1024) (arg m c main_arg25) (arg m c main_arg10) (arg m c main_arg40) (arg m c main_arg55) :=
  ((dats m 0 c).arrAt_eq_of_after_last 90 p0 (by decide +kernel) _ fun _ => rfl).trans (delta_congr (whole25 m c) (whole10 m c) (whole40 m c) (whole55 m c))
theorem final91 : (dats m 0 c).arrAt 91 cfg0.N = newM (S := S2x1024) (arg m c main_arg10) (arg m c main_arg40) :=
  ((dats m 0 c).arrAt_eq_of_after_last 91 p0 (by decide +kernel) _ fun _ => rfl).trans (newM_congr (whole10 m c) (whole40 m c))
theorem final92 : (dats m 0 c).arrAt 92 cfg0.N = newV (S := S2x1024) (arg m c main_arg10) (arg m c main_arg55) :=
  ((dats m 0 c).arrAt_eq_of_after_last 92 p0 (by decide +kernel) _ fun _ => rfl).trans (newV_congr (whole10 m c) (whole55 m c))
theorem final93 : (dats m 0 c).arrAt 93 cfg0.N = delta (S := S2x1024) (arg m c main_arg26) (arg m c main_arg11) (arg m c main_arg41) (arg m c main_arg56) :=
  ((dats m 0 c).arrAt_eq_of_after_last 93 p0 (by decide +kernel) _ fun _ => rfl).trans (delta_congr (whole26 m c) (whole11 m c) (whole41 m c) (whole56 m c))
theorem final94 : (dats m 0 c).arrAt 94 cfg0.N = newM (S := S2x1024) (arg m c main_arg11) (arg m c main_arg41) :=
  ((dats m 0 c).arrAt_eq_of_after_last 94 p0 (by decide +kernel) _ fun _ => rfl).trans (newM_congr (whole11 m c) (whole41 m c))
theorem final95 : (dats m 0 c).arrAt 95 cfg0.N = newV (S := S2x1024) (arg m c main_arg11) (arg m c main_arg56) :=
  ((dats m 0 c).arrAt_eq_of_after_last 95 p0 (by decide +kernel) _ fun _ => rfl).trans (newV_congr (whole11 m c) (whole56 m c))
theorem final96 : (dats m 0 c).arrAt 96 cfg0.N = delta (S := S1x1024) (arg m c main_arg27) (arg m c main_arg12) (arg m c main_arg42) (arg m c main_arg57) :=
  ((dats m 0 c).arrAt_eq_of_after_last 96 p0 (by decide +kernel) _ fun _ => rfl).trans (delta_congr (whole27 m c) (whole12 m c) (whole42 m c) (whole57 m c))
theorem final97 : (dats m 0 c).arrAt 97 cfg0.N = newM (S := S1x1024) (arg m c main_arg12) (arg m c main_arg42) :=
  ((dats m 0 c).arrAt_eq_of_after_last 97 p0 (by decide +kernel) _ fun _ => rfl).trans (newM_congr (whole12 m c) (whole42 m c))
theorem final98 : (dats m 0 c).arrAt 98 cfg0.N = newV (S := S1x1024) (arg m c main_arg12) (arg m c main_arg57) :=
  ((dats m 0 c).arrAt_eq_of_after_last 98 p0 (by decide +kernel) _ fun _ => rfl).trans (newV_congr (whole12 m c) (whole57 m c))
theorem final99 : (dats m 0 c).arrAt 99 cfg0.N = delta (S := S2x3x32) (arg m c main_arg28) (arg m c main_arg13) (arg m c main_arg43) (arg m c main_arg58) :=
  ((dats m 0 c).arrAt_eq_of_after_last 99 p0 (by decide +kernel) _ fun _ => rfl).trans (delta_congr (whole28 m c) (whole13 m c) (whole43 m c) (whole58 m c))
theorem final100 : (dats m 0 c).arrAt 100 cfg0.N = newM (S := S2x3x32) (arg m c main_arg13) (arg m c main_arg43) :=
  ((dats m 0 c).arrAt_eq_of_after_last 100 p0 (by decide +kernel) _ fun _ => rfl).trans (newM_congr (whole13 m c) (whole43 m c))
theorem final101 : (dats m 0 c).arrAt 101 cfg0.N = newV (S := S2x3x32) (arg m c main_arg13) (arg m c main_arg58) :=
  ((dats m 0 c).arrAt_eq_of_after_last 101 p0 (by decide +kernel) _ fun _ => rfl).trans (newV_congr (whole13 m c) (whole58 m c))
theorem final102 : (dats m 0 c).arrAt 102 cfg0.N = delta (S := S2x31x32) (arg m c main_arg29) (arg m c main_arg14) (arg m c main_arg44) (arg m c main_arg59) :=
  ((dats m 0 c).arrAt_eq_of_after_last 102 p0 (by decide +kernel) _ fun _ => rfl).trans (delta_congr (whole29 m c) (whole14 m c) (whole44 m c) (whole59 m c))
theorem final103 : (dats m 0 c).arrAt 103 cfg0.N = newM (S := S2x31x32) (arg m c main_arg14) (arg m c main_arg44) :=
  ((dats m 0 c).arrAt_eq_of_after_last 103 p0 (by decide +kernel) _ fun _ => rfl).trans (newM_congr (whole14 m c) (whole44 m c))
theorem final104 : (dats m 0 c).arrAt 104 cfg0.N = newV (S := S2x31x32) (arg m c main_arg14) (arg m c main_arg59) :=
  ((dats m 0 c).arrAt_eq_of_after_last 104 p0 (by decide +kernel) _ fun _ => rfl).trans (newV_congr (whole14 m c) (whole59 m c))

end Final

end Cert.SmallLast

end
-- ==== Proof.SmallLastRuns.lean ====
module

public import proofs.«01_k».proof.Proof.SmallLastFrame
public import proofs.«01_k».proof.Proof.SmallLastVal
public import Idealize.ShloMosaic.Lib.Pipeline.ValueKit.Geometry

@[expose] public section

set_option maxRecDepth 65536
set_option maxHeartbeats 4000000

noncomputable section

/-! For the call stated at its last seven weights. The runs of the small weights' optimiser with the results' values. -/

namespace Cert.SmallLast

open Idealize.ShloMosaic Idealize.ShloMosaic.TcCoe Idealize.ShloMosaic.Tactic
open Idealize.SL.Sem
open Cert.AdamwLastIdeal Cert.AdamwLastIdeal.Gen
open Cert.Small (lit newM newV delta)

variable {F : FTy → Type} [FloatOps F]
variable (m : (ℓ : Loc nD τ sig) → Buf (Elt F) ℓ) (ρ : Dev nD → PrngReg)

/-- The last seven weights' results, and the arguments unchanged. -/
theorem lastRun : θ_run defs (onTc (τ := τ) (main (F := F))) ⟨m, fun _ => 0, ρ⟩ (fun r => ∀ c : Dev nD,
    r.2.mem ((c.tc : Thread nD τ).loc main_v0_24) = delta (S := S2x256) (arg m c main_arg23) (arg m c main_arg8) (arg m c main_arg38) (arg m c main_arg53) ∧
    r.2.mem ((c.tc : Thread nD τ).loc main_v0_25) = newM (S := S2x256) (arg m c main_arg8) (arg m c main_arg38) ∧
    r.2.mem ((c.tc : Thread nD τ).loc main_v0_26) = newV (S := S2x256) (arg m c main_arg8) (arg m c main_arg53) ∧
    r.2.mem ((c.tc : Thread nD τ).loc main_v0_27) = delta (S := S2x1024) (arg m c main_arg24) (arg m c main_arg9) (arg m c main_arg39) (arg m c main_arg54) ∧
    r.2.mem ((c.tc : Thread nD τ).loc main_v0_28) = newM (S := S2x1024) (arg m c main_arg9) (arg m c main_arg39) ∧
    r.2.mem ((c.tc : Thread nD τ).loc main_v0_29) = newV (S := S2x1024) (arg m c main_arg9) (arg m c main_arg54) ∧
    r.2.mem ((c.tc : Thread nD τ).loc main_v0_30) = delta (S := S2x1024) (arg m c main_arg25) (arg m c main_arg10) (arg m c main_arg40) (arg m c main_arg55) ∧
    r.2.mem ((c.tc : Thread nD τ).loc main_v0_31) = newM (S := S2x1024) (arg m c main_arg10) (arg m c main_arg40) ∧
    r.2.mem ((c.tc : Thread nD τ).loc main_v0_32) = newV (S := S2x1024) (arg m c main_arg10) (arg m c main_arg55) ∧
    r.2.mem ((c.tc : Thread nD τ).loc main_v0_33) = delta (S := S2x1024) (arg m c main_arg26) (arg m c main_arg11) (arg m c main_arg41) (arg m c main_arg56) ∧
    r.2.mem ((c.tc : Thread nD τ).loc main_v0_34) = newM (S := S2x1024) (arg m c main_arg11) (arg m c main_arg41) ∧
    r.2.mem ((c.tc : Thread nD τ).loc main_v0_35) = newV (S := S2x1024) (arg m c main_arg11) (arg m c main_arg56) ∧
    r.2.mem ((c.tc : Thread nD τ).loc main_v0_36) = delta (S := S1x1024) (arg m c main_arg27) (arg m c main_arg12) (arg m c main_arg42) (arg m c main_arg57) ∧
    r.2.mem ((c.tc : Thread nD τ).loc main_v0_37) = newM (S := S1x1024) (arg m c main_arg12) (arg m c main_arg42) ∧
    r.2.mem ((c.tc : Thread nD τ).loc main_v0_38) = newV (S := S1x1024) (arg m c main_arg12) (arg m c main_arg57) ∧
    r.2.mem ((c.tc : Thread nD τ).loc main_v0_39) = delta (S := S2x3x32) (arg m c main_arg28) (arg m c main_arg13) (arg m c main_arg43) (arg m c main_arg58) ∧
    r.2.mem ((c.tc : Thread nD τ).loc main_v0_40) = newM (S := S2x3x32) (arg m c main_arg13) (arg m c main_arg43) ∧
    r.2.mem ((c.tc : Thread nD τ).loc main_v0_41) = newV (S := S2x3x32) (arg m c main_arg13) (arg m c main_arg58) ∧
    r.2.mem ((c.tc : Thread nD τ).loc main_v0_42) = delta (S := S2x31x32) (arg m c main_arg29) (arg m c main_arg14) (arg m c main_arg44) (arg m c main_arg59) ∧
    r.2.mem ((c.tc : Thread nD τ).loc main_v0_43) = newM (S := S2x31x32) (arg m c main_arg14) (arg m c main_arg44) ∧
    r.2.mem ((c.tc : Thread nD τ).loc main_v0_44) = newV (S := S2x31x32) (arg m c main_arg14) (arg m c main_arg59) ∧
    Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9 ∧ Same m r c main_arg10 ∧ Same m r c main_arg11 ∧ Same m r c main_arg12 ∧ Same m r c main_arg13 ∧ Same m r c main_arg14 ∧ Same m r c main_arg15 ∧ Same m r c main_arg16 ∧ Same m r c main_arg17 ∧ Same m r c main_arg18 ∧ Same m r c main_arg19 ∧ Same m r c main_arg20 ∧ Same m r c main_arg21 ∧ Same m r c main_arg22 ∧ Same m r c main_arg23 ∧ Same m r c main_arg24 ∧ Same m r c main_arg25 ∧ Same m r c main_arg26 ∧ Same m r c main_arg27 ∧ Same m r c main_arg28 ∧ Same m r c main_arg29 ∧ Same m r c main_arg30 ∧ Same m r c main_arg31 ∧ Same m r c main_arg32 ∧ Same m r c main_arg33 ∧ Same m r c main_arg34 ∧ Same m r c main_arg35 ∧ Same m r c main_arg36 ∧ Same m r c main_arg37 ∧ Same m r c main_arg38 ∧ Same m r c main_arg39 ∧ Same m r c main_arg40 ∧ Same m r c main_arg41 ∧ Same m r c main_arg42 ∧ Same m r c main_arg43 ∧ Same m r c main_arg44 ∧ Same m r c main_arg45 ∧ Same m r c main_arg46 ∧ Same m r c main_arg47 ∧ Same m r c main_arg48 ∧ Same m r c main_arg49 ∧ Same m r c main_arg50 ∧ Same m r c main_arg51 ∧ Same m r c main_arg52 ∧ Same m r c main_arg53 ∧ Same m r c main_arg54 ∧ Same m r c main_arg55 ∧ Same m r c main_arg56 ∧ Same m r c main_arg57 ∧ Same m r c main_arg58 ∧ Same m r c main_arg59) :=
  (θ_run defs _ _).mono (fun _ h c => ⟨((h.1 c).1 84).trans (final84 m c), ((h.1 c).1 85).trans (final85 m c), ((h.1 c).1 86).trans (final86 m c), ((h.1 c).1 87).trans (final87 m c), ((h.1 c).1 88).trans (final88 m c), ((h.1 c).1 89).trans (final89 m c), ((h.1 c).1 90).trans (final90 m c), ((h.1 c).1 91).trans (final91 m c), ((h.1 c).1 92).trans (final92 m c), ((h.1 c).1 93).trans (final93 m c), ((h.1 c).1 94).trans (final94 m c), ((h.1 c).1 95).trans (final95 m c), ((h.1 c).1 96).trans (final96 m c), ((h.1 c).1 97).trans (final97 m c), ((h.1 c).1 98).trans (final98 m c), ((h.1 c).1 99).trans (final99 m c), ((h.1 c).1 100).trans (final100 m c), ((h.1 c).1 101).trans (final101 m c), ((h.1 c).1 102).trans (final102 m c), ((h.1 c).1 103).trans (final103 m c), ((h.1 c).1 104).trans (final104 m c), args h.1 c⟩) (run_main m ρ)

end Cert.SmallLast

end
-- ==== Proof.ClaimsSmall.lean ====
/- The frames and the value claims of the small weights' optimiser. The call writes forty-five arrays: one program states the first
   eight weights' results, the other the last seven weights'. -/
module

public import proofs.«01_k».proof.Defs
public import proofs.«01_k».proof.Proof.SmallRuns
public import proofs.«01_k».proof.Proof.SmallLastRuns
public import proofs.«01_k».proof.Proof.Gen.AdamwIdeal
public import proofs.«01_k».proof.Proof.Gen.AdamwLastIdeal
public import proofs.«01_k».proof.Proof.Gen.AdamwRefIdeal.Run
public import proofs.«01_k».proof.Proof.Gen.AdamwLastRefIdeal.Run
public import Idealize.ShloMosaic.Lib.Quiescent

@[expose] public section

set_option maxRecDepth 65536
set_option maxHeartbeats 4000000

noncomputable section

open Idealize.ShloMosaic Idealize.ShloMosaic.TcCoe Idealize.SL.Sem Idealize.ShloMosaic.StableHlo

namespace Cert.ClaimsSmall

open Cert.Small

section Reference

variable {S S' : Shape} {δ : Fin S'.rank → Fin S.rank} {b : _}

/-- The reference's new first moment. -/
theorem ref_newM {g p g' p' : FVec Ideal S .f32} (hg : g' = g) (hp : p' = p) :
    addf (mulf (broadcastInDim S δ b (constant (F := Ideal) S' .f32 0x3F666666#32)) p') (mulf (broadcastInDim S δ b (constant (F := Ideal) S' .f32 0x3DCCCCCD#32)) g')
      = newM (F := Ideal) g p := by subst hg hp; rfl

/-- The reference's new second moment. -/
theorem ref_newV {g q g' q' : FVec Ideal S .f32} (hg : g' = g) (hq : q' = q) :
    addf (mulf (broadcastInDim S δ b (constant (F := Ideal) S' .f32 0x3F7FBE77#32)) q') (mulf (broadcastInDim S δ b (constant (F := Ideal) S' .f32 0x3A83126F#32)) (mulf g' g'))
      = newV (F := Ideal) g q := by subst hg hq; rfl

/-- The reference's change of the weight. -/
theorem ref_delta {w g p q w' g' p' q' : FVec Ideal S .f32} (hw : w' = w) (hg : g' = g) (hp : p' = p) (hq : q' = q) :
    mulf (broadcastInDim S δ b (constant (F := Ideal) S' .f32 0xBA83126F#32)) (addf (Host.divf (Host.divf
        (addf (mulf (broadcastInDim S δ b (constant (F := Ideal) S' .f32 0x3F666666#32)) p') (mulf (broadcastInDim S δ b (constant (F := Ideal) S' .f32 0x3DCCCCCD#32)) g'))
        (broadcastInDim S δ b (constant (F := Ideal) S' .f32 0x3F26BD02#32)))
      (addf (Host.sqrt (Host.divf
        (addf (mulf (broadcastInDim S δ b (constant (F := Ideal) S' .f32 0x3F7FBE77#32)) q') (mulf (broadcastInDim S δ b (constant (F := Ideal) S' .f32 0x3A83126F#32)) (mulf g' g')))
        (broadcastInDim S δ b (constant (F := Ideal) S' .f32 0x3C231ACC#32)))) (broadcastInDim S δ b (constant (F := Ideal) S' .f32 0x322BCC77#32))))
      (mulf (broadcastInDim S δ b (constant (F := Ideal) S' .f32 0x3C23D70A#32)) w'))
      = delta (F := Ideal) w g p q := by subst hw hg hp hq; rfl

end Reference

section First

/-- The idealized program's frame. -/
theorem firstFrameIdeal : Cert.quiescent_AdamwIdeal (hAdamwIdeal := Cert.AdamwIdeal.Gen.facts) := fun m ρ _ => Cert.Small.frame m ρ

/-- The reference's frame. -/
theorem firstFrameRef : Cert.quiescent_AdamwRefIdeal (hAdamwRefIdeal := Cert.AdamwRefIdeal.Gen.facts) := fun m g _ =>
  (θ_run Cert.AdamwRefIdeal.defs _ _).mono (fun r h => ⟨fun c => (h c).2.2.2.2.2.2.2.2.2.2.2.2.2.2.2.2.2.2.2.2.2.2.2.2, sem_eq_zero_of_no_sems (by decide) r.2⟩)
    (Cert.AdamwRefIdeal.Value.run (F := Ideal) m g)

/-- The call computes the reference's changes and moments of the first eight weights. -/
theorem firstValue : Cert.algebraic_AdamwIdeal_AdamwRefIdeal (hAdamwIdeal := Cert.AdamwIdeal.Gen.facts) (hAdamwRefIdeal := Cert.AdamwRefIdeal.Gen.facts) := fun m g m' g' _ hagree =>
  ⟨fun c => delta (F := Ideal) (S := Cert.AdamwIdeal.S2x1024) (m ((c.tc : Thread Cert.AdamwIdeal.nD Cert.AdamwIdeal.τ).loc Cert.AdamwIdeal.main_arg15)) (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg30)) (m ((c.tc : Thread Cert.AdamwIdeal.nD Cert.AdamwIdeal.τ).loc Cert.AdamwIdeal.main_arg45)),
    fun c => newM (F := Ideal) (S := Cert.AdamwIdeal.S2x1024) (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg30)),
    fun c => newV (F := Ideal) (S := Cert.AdamwIdeal.S2x1024) (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg45)),
    fun c => delta (F := Ideal) (S := Cert.AdamwIdeal.S2x1024) (m ((c.tc : Thread Cert.AdamwIdeal.nD Cert.AdamwIdeal.τ).loc Cert.AdamwIdeal.main_arg16)) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg31)) (m ((c.tc : Thread Cert.AdamwIdeal.nD Cert.AdamwIdeal.τ).loc Cert.AdamwIdeal.main_arg46)),
    fun c => newM (F := Ideal) (S := Cert.AdamwIdeal.S2x1024) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg31)),
    fun c => newV (F := Ideal) (S := Cert.AdamwIdeal.S2x1024) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg46)),
    fun c => delta (F := Ideal) (S := Cert.AdamwIdeal.S2x256) (m ((c.tc : Thread Cert.AdamwIdeal.nD Cert.AdamwIdeal.τ).loc Cert.AdamwIdeal.main_arg17)) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg32)) (m ((c.tc : Thread Cert.AdamwIdeal.nD Cert.AdamwIdeal.τ).loc Cert.AdamwIdeal.main_arg47)),
    fun c => newM (F := Ideal) (S := Cert.AdamwIdeal.S2x256) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg32)),
    fun c => newV (F := Ideal) (S := Cert.AdamwIdeal.S2x256) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg47)),
    fun c => delta (F := Ideal) (S := Cert.AdamwIdeal.S2x4x128x128) (m ((c.tc : Thread Cert.AdamwIdeal.nD Cert.AdamwIdeal.τ).loc Cert.AdamwIdeal.main_arg18)) (m ((c.tc : Thread Cert.AdamwIdeal.nD Cert.AdamwIdeal.τ).loc Cert.AdamwIdeal.main_arg3)) (m ((c.tc : Thread Cert.AdamwIdeal.nD Cert.AdamwIdeal.τ).loc Cert.AdamwIdeal.main_arg33)) (m ((c.tc : Thread Cert.AdamwIdeal.nD Cert.AdamwIdeal.τ).loc Cert.AdamwIdeal.main_arg48)),
    fun c => newM (F := Ideal) (S := Cert.AdamwIdeal.S2x4x128x128) (m ((c.tc : Thread Cert.AdamwIdeal.nD Cert.AdamwIdeal.τ).loc Cert.AdamwIdeal.main_arg3)) (m ((c.tc : Thread Cert.AdamwIdeal.nD Cert.AdamwIdeal.τ).loc Cert.AdamwIdeal.main_arg33)),
    fun c => newV (F := Ideal) (S := Cert.AdamwIdeal.S2x4x128x128) (m ((c.tc : Thread Cert.AdamwIdeal.nD Cert.AdamwIdeal.τ).loc Cert.AdamwIdeal.main_arg3)) (m ((c.tc : Thread Cert.AdamwIdeal.nD Cert.AdamwIdeal.τ).loc Cert.AdamwIdeal.main_arg48)),
    fun c => delta (F := Ideal) (S := Cert.AdamwIdeal.S2x4x128) (m ((c.tc : Thread Cert.AdamwIdeal.nD Cert.AdamwIdeal.τ).loc Cert.AdamwIdeal.main_arg19)) (m ((c.tc : Thread Cert.AdamwIdeal.nD Cert.AdamwIdeal.τ).loc Cert.AdamwIdeal.main_arg4)) (m ((c.tc : Thread Cert.AdamwIdeal.nD Cert.AdamwIdeal.τ).loc Cert.AdamwIdeal.main_arg34)) (m ((c.tc : Thread Cert.AdamwIdeal.nD Cert.AdamwIdeal.τ).loc Cert.AdamwIdeal.main_arg49)),
    fun c => newM (F := Ideal) (S := Cert.AdamwIdeal.S2x4x128) (m ((c.tc : Thread Cert.AdamwIdeal.nD Cert.AdamwIdeal.τ).loc Cert.AdamwIdeal.main_arg4)) (m ((c.tc : Thread Cert.AdamwIdeal.nD Cert.AdamwIdeal.τ).loc Cert.AdamwIdeal.main_arg34)),
    fun c => newV (F := Ideal) (S := Cert.AdamwIdeal.S2x4x128) (m ((c.tc : Thread Cert.AdamwIdeal.nD Cert.AdamwIdeal.τ).loc Cert.AdamwIdeal.main_arg4)) (m ((c.tc : Thread Cert.AdamwIdeal.nD Cert.AdamwIdeal.τ).loc Cert.AdamwIdeal.main_arg49)),
    fun c => delta (F := Ideal) (S := Cert.AdamwIdeal.S2x256) (m ((c.tc : Thread Cert.AdamwIdeal.nD Cert.AdamwIdeal.τ).loc Cert.AdamwIdeal.main_arg20)) (m ((c.tc : Thread Cert.AdamwIdeal.nD Cert.AdamwIdeal.τ).loc Cert.AdamwIdeal.main_arg5)) (m ((c.tc : Thread Cert.AdamwIdeal.nD Cert.AdamwIdeal.τ).loc Cert.AdamwIdeal.main_arg35)) (m ((c.tc : Thread Cert.AdamwIdeal.nD Cert.AdamwIdeal.τ).loc Cert.AdamwIdeal.main_arg50)),
    fun c => newM (F := Ideal) (S := Cert.AdamwIdeal.S2x256) (m ((c.tc : Thread Cert.AdamwIdeal.nD Cert.AdamwIdeal.τ).loc Cert.AdamwIdeal.main_arg5)) (m ((c.tc : Thread Cert.AdamwIdeal.nD Cert.AdamwIdeal.τ).loc Cert.AdamwIdeal.main_arg35)),
    fun c => newV (F := Ideal) (S := Cert.AdamwIdeal.S2x256) (m ((c.tc : Thread Cert.AdamwIdeal.nD Cert.AdamwIdeal.τ).loc Cert.AdamwIdeal.main_arg5)) (m ((c.tc : Thread Cert.AdamwIdeal.nD Cert.AdamwIdeal.τ).loc Cert.AdamwIdeal.main_arg50)),
    fun c => delta (F := Ideal) (S := Cert.AdamwIdeal.S2x256) (m ((c.tc : Thread Cert.AdamwIdeal.nD Cert.AdamwIdeal.τ).loc Cert.AdamwIdeal.main_arg21)) (m ((c.tc : Thread Cert.AdamwIdeal.nD Cert.AdamwIdeal.τ).loc Cert.AdamwIdeal.main_arg6)) (m ((c.tc : Thread Cert.AdamwIdeal.nD Cert.AdamwIdeal.τ).loc Cert.AdamwIdeal.main_arg36)) (m ((c.tc : Thread Cert.AdamwIdeal.nD Cert.AdamwIdeal.τ).loc Cert.AdamwIdeal.main_arg51)),
    fun c => newM (F := Ideal) (S := Cert.AdamwIdeal.S2x256) (m ((c.tc : Thread Cert.AdamwIdeal.nD Cert.AdamwIdeal.τ).loc Cert.AdamwIdeal.main_arg6)) (m ((c.tc : Thread Cert.AdamwIdeal.nD Cert.AdamwIdeal.τ).loc Cert.AdamwIdeal.main_arg36)),
    fun c => newV (F := Ideal) (S := Cert.AdamwIdeal.S2x256) (m ((c.tc : Thread Cert.AdamwIdeal.nD Cert.AdamwIdeal.τ).loc Cert.AdamwIdeal.main_arg6)) (m ((c.tc : Thread Cert.AdamwIdeal.nD Cert.AdamwIdeal.τ).loc Cert.AdamwIdeal.main_arg51)),
    fun c => delta (F := Ideal) (S := Cert.AdamwIdeal.S2x4x64x64) (m ((c.tc : Thread Cert.AdamwIdeal.nD Cert.AdamwIdeal.τ).loc Cert.AdamwIdeal.main_arg22)) (m ((c.tc : Thread Cert.AdamwIdeal.nD Cert.AdamwIdeal.τ).loc Cert.AdamwIdeal.main_arg7)) (m ((c.tc : Thread Cert.AdamwIdeal.nD Cert.AdamwIdeal.τ).loc Cert.AdamwIdeal.main_arg37)) (m ((c.tc : Thread Cert.AdamwIdeal.nD Cert.AdamwIdeal.τ).loc Cert.AdamwIdeal.main_arg52)),
    fun c => newM (F := Ideal) (S := Cert.AdamwIdeal.S2x4x64x64) (m ((c.tc : Thread Cert.AdamwIdeal.nD Cert.AdamwIdeal.τ).loc Cert.AdamwIdeal.main_arg7)) (m ((c.tc : Thread Cert.AdamwIdeal.nD Cert.AdamwIdeal.τ).loc Cert.AdamwIdeal.main_arg37)),
    fun c => newV (F := Ideal) (S := Cert.AdamwIdeal.S2x4x64x64) (m ((c.tc : Thread Cert.AdamwIdeal.nD Cert.AdamwIdeal.τ).loc Cert.AdamwIdeal.main_arg7)) (m ((c.tc : Thread Cert.AdamwIdeal.nD Cert.AdamwIdeal.τ).loc Cert.AdamwIdeal.main_arg52)),
    Cert.Small.firstRun m g,
    (θ_run _ _ _).mono (fun r h c => by
      obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59⟩ := hagree c
      obtain ⟨h0, h1, h2, h3, h4, h5, h6, h7, h8, h9, h10, h11, h12, h13, h14, h15, h16, h17, h18, h19, h20, h21, h22, h23, hs⟩ := h c
      exact ⟨h0.trans (ref_delta a15 a0 a30 a45), h1.trans (ref_newM a0 a30), h2.trans (ref_newV a0 a45), h3.trans (ref_delta a16 a1 a31 a46), h4.trans (ref_newM a1 a31), h5.trans (ref_newV a1 a46), h6.trans (ref_delta a17 a2 a32 a47), h7.trans (ref_newM a2 a32), h8.trans (ref_newV a2 a47), h9.trans (ref_delta a18 a3 a33 a48), h10.trans (ref_newM a3 a33), h11.trans (ref_newV a3 a48), h12.trans (ref_delta a19 a4 a34 a49), h13.trans (ref_newM a4 a34), h14.trans (ref_newV a4 a49), h15.trans (ref_delta a20 a5 a35 a50), h16.trans (ref_newM a5 a35), h17.trans (ref_newV a5 a50), h18.trans (ref_delta a21 a6 a36 a51), h19.trans (ref_newM a6 a36), h20.trans (ref_newV a6 a51), h21.trans (ref_delta a22 a7 a37 a52), h22.trans (ref_newM a7 a37), h23.trans (ref_newV a7 a52), hs⟩) (Cert.AdamwRefIdeal.Value.run m' g')⟩

end First

section Last

/-- The idealized program's frame. -/
theorem lastFrameIdeal : Cert.quiescent_AdamwLastIdeal (hAdamwLastIdeal := Cert.AdamwLastIdeal.Gen.facts) := fun m ρ _ => Cert.SmallLast.frame m ρ

/-- The reference's frame. -/
theorem lastFrameRef : Cert.quiescent_AdamwLastRefIdeal (hAdamwLastRefIdeal := Cert.AdamwLastRefIdeal.Gen.facts) := fun m g _ =>
  (θ_run Cert.AdamwLastRefIdeal.defs _ _).mono (fun r h => ⟨fun c => (h c).2.2.2.2.2.2.2.2.2.2.2.2.2.2.2.2.2.2.2.2.2, sem_eq_zero_of_no_sems (by decide) r.2⟩)
    (Cert.AdamwLastRefIdeal.Value.run (F := Ideal) m g)

/-- The call computes the reference's changes and moments of the last seven weights. -/
theorem lastValue : Cert.algebraic_AdamwLastIdeal_AdamwLastRefIdeal (hAdamwLastIdeal := Cert.AdamwLastIdeal.Gen.facts) (hAdamwLastRefIdeal := Cert.AdamwLastRefIdeal.Gen.facts) := fun m g m' g' _ hagree =>
  ⟨fun c => delta (F := Ideal) (S := Cert.AdamwLastIdeal.S2x256) (m ((c.tc : Thread Cert.AdamwLastIdeal.nD Cert.AdamwLastIdeal.τ).loc Cert.AdamwLastIdeal.main_arg23)) (m ((c.tc : Thread Cert.AdamwLastIdeal.nD Cert.AdamwLastIdeal.τ).loc Cert.AdamwLastIdeal.main_arg8)) (m ((c.tc : Thread Cert.AdamwLastIdeal.nD Cert.AdamwLastIdeal.τ).loc Cert.AdamwLastIdeal.main_arg38)) (m ((c.tc : Thread Cert.AdamwLastIdeal.nD Cert.AdamwLastIdeal.τ).loc Cert.AdamwLastIdeal.main_arg53)),
    fun c => newM (F := Ideal) (S := Cert.AdamwLastIdeal.S2x256) (m ((c.tc : Thread Cert.AdamwLastIdeal.nD Cert.AdamwLastIdeal.τ).loc Cert.AdamwLastIdeal.main_arg8)) (m ((c.tc : Thread Cert.AdamwLastIdeal.nD Cert.AdamwLastIdeal.τ).loc Cert.AdamwLastIdeal.main_arg38)),
    fun c => newV (F := Ideal) (S := Cert.AdamwLastIdeal.S2x256) (m ((c.tc : Thread Cert.AdamwLastIdeal.nD Cert.AdamwLastIdeal.τ).loc Cert.AdamwLastIdeal.main_arg8)) (m ((c.tc : Thread Cert.AdamwLastIdeal.nD Cert.AdamwLastIdeal.τ).loc Cert.AdamwLastIdeal.main_arg53)),
    fun c => delta (F := Ideal) (S := Cert.AdamwLastIdeal.S2x1024) (m ((c.tc : Thread Cert.AdamwLastIdeal.nD Cert.AdamwLastIdeal.τ).loc Cert.AdamwLastIdeal.main_arg24)) (m ((c.tc : Thread Cert.AdamwLastIdeal.nD Cert.AdamwLastIdeal.τ).loc Cert.AdamwLastIdeal.main_arg9)) (m ((c.tc : Thread Cert.AdamwLastIdeal.nD Cert.AdamwLastIdeal.τ).loc Cert.AdamwLastIdeal.main_arg39)) (m ((c.tc : Thread Cert.AdamwLastIdeal.nD Cert.AdamwLastIdeal.τ).loc Cert.AdamwLastIdeal.main_arg54)),
    fun c => newM (F := Ideal) (S := Cert.AdamwLastIdeal.S2x1024) (m ((c.tc : Thread Cert.AdamwLastIdeal.nD Cert.AdamwLastIdeal.τ).loc Cert.AdamwLastIdeal.main_arg9)) (m ((c.tc : Thread Cert.AdamwLastIdeal.nD Cert.AdamwLastIdeal.τ).loc Cert.AdamwLastIdeal.main_arg39)),
    fun c => newV (F := Ideal) (S := Cert.AdamwLastIdeal.S2x1024) (m ((c.tc : Thread Cert.AdamwLastIdeal.nD Cert.AdamwLastIdeal.τ).loc Cert.AdamwLastIdeal.main_arg9)) (m ((c.tc : Thread Cert.AdamwLastIdeal.nD Cert.AdamwLastIdeal.τ).loc Cert.AdamwLastIdeal.main_arg54)),
    fun c => delta (F := Ideal) (S := Cert.AdamwLastIdeal.S2x1024) (m ((c.tc : Thread Cert.AdamwLastIdeal.nD Cert.AdamwLastIdeal.τ).loc Cert.AdamwLastIdeal.main_arg25)) (m ((c.tc : Thread Cert.AdamwLastIdeal.nD Cert.AdamwLastIdeal.τ).loc Cert.AdamwLastIdeal.main_arg10)) (m ((c.tc : Thread Cert.AdamwLastIdeal.nD Cert.AdamwLastIdeal.τ).loc Cert.AdamwLastIdeal.main_arg40)) (m ((c.tc : Thread Cert.AdamwLastIdeal.nD Cert.AdamwLastIdeal.τ).loc Cert.AdamwLastIdeal.main_arg55)),
    fun c => newM (F := Ideal) (S := Cert.AdamwLastIdeal.S2x1024) (m ((c.tc : Thread Cert.AdamwLastIdeal.nD Cert.AdamwLastIdeal.τ).loc Cert.AdamwLastIdeal.main_arg10)) (m ((c.tc : Thread Cert.AdamwLastIdeal.nD Cert.AdamwLastIdeal.τ).loc Cert.AdamwLastIdeal.main_arg40)),
    fun c => newV (F := Ideal) (S := Cert.AdamwLastIdeal.S2x1024) (m ((c.tc : Thread Cert.AdamwLastIdeal.nD Cert.AdamwLastIdeal.τ).loc Cert.AdamwLastIdeal.main_arg10)) (m ((c.tc : Thread Cert.AdamwLastIdeal.nD Cert.AdamwLastIdeal.τ).loc Cert.AdamwLastIdeal.main_arg55)),
    fun c => delta (F := Ideal) (S := Cert.AdamwLastIdeal.S2x1024) (m ((c.tc : Thread Cert.AdamwLastIdeal.nD Cert.AdamwLastIdeal.τ).loc Cert.AdamwLastIdeal.main_arg26)) (m ((c.tc : Thread Cert.AdamwLastIdeal.nD Cert.AdamwLastIdeal.τ).loc Cert.AdamwLastIdeal.main_arg11)) (m ((c.tc : Thread Cert.AdamwLastIdeal.nD Cert.AdamwLastIdeal.τ).loc Cert.AdamwLastIdeal.main_arg41)) (m ((c.tc : Thread Cert.AdamwLastIdeal.nD Cert.AdamwLastIdeal.τ).loc Cert.AdamwLastIdeal.main_arg56)),
    fun c => newM (F := Ideal) (S := Cert.AdamwLastIdeal.S2x1024) (m ((c.tc : Thread Cert.AdamwLastIdeal.nD Cert.AdamwLastIdeal.τ).loc Cert.AdamwLastIdeal.main_arg11)) (m ((c.tc : Thread Cert.AdamwLastIdeal.nD Cert.AdamwLastIdeal.τ).loc Cert.AdamwLastIdeal.main_arg41)),
    fun c => newV (F := Ideal) (S := Cert.AdamwLastIdeal.S2x1024) (m ((c.tc : Thread Cert.AdamwLastIdeal.nD Cert.AdamwLastIdeal.τ).loc Cert.AdamwLastIdeal.main_arg11)) (m ((c.tc : Thread Cert.AdamwLastIdeal.nD Cert.AdamwLastIdeal.τ).loc Cert.AdamwLastIdeal.main_arg56)),
    fun c => delta (F := Ideal) (S := Cert.AdamwLastIdeal.S1x1024) (m ((c.tc : Thread Cert.AdamwLastIdeal.nD Cert.AdamwLastIdeal.τ).loc Cert.AdamwLastIdeal.main_arg27)) (m ((c.tc : Thread Cert.AdamwLastIdeal.nD Cert.AdamwLastIdeal.τ).loc Cert.AdamwLastIdeal.main_arg12)) (m ((c.tc : Thread Cert.AdamwLastIdeal.nD Cert.AdamwLastIdeal.τ).loc Cert.AdamwLastIdeal.main_arg42)) (m ((c.tc : Thread Cert.AdamwLastIdeal.nD Cert.AdamwLastIdeal.τ).loc Cert.AdamwLastIdeal.main_arg57)),
    fun c => newM (F := Ideal) (S := Cert.AdamwLastIdeal.S1x1024) (m ((c.tc : Thread Cert.AdamwLastIdeal.nD Cert.AdamwLastIdeal.τ).loc Cert.AdamwLastIdeal.main_arg12)) (m ((c.tc : Thread Cert.AdamwLastIdeal.nD Cert.AdamwLastIdeal.τ).loc Cert.AdamwLastIdeal.main_arg42)),
    fun c => newV (F := Ideal) (S := Cert.AdamwLastIdeal.S1x1024) (m ((c.tc : Thread Cert.AdamwLastIdeal.nD Cert.AdamwLastIdeal.τ).loc Cert.AdamwLastIdeal.main_arg12)) (m ((c.tc : Thread Cert.AdamwLastIdeal.nD Cert.AdamwLastIdeal.τ).loc Cert.AdamwLastIdeal.main_arg57)),
    fun c => delta (F := Ideal) (S := Cert.AdamwLastIdeal.S2x3x32) (m ((c.tc : Thread Cert.AdamwLastIdeal.nD Cert.AdamwLastIdeal.τ).loc Cert.AdamwLastIdeal.main_arg28)) (m ((c.tc : Thread Cert.AdamwLastIdeal.nD Cert.AdamwLastIdeal.τ).loc Cert.AdamwLastIdeal.main_arg13)) (m ((c.tc : Thread Cert.AdamwLastIdeal.nD Cert.AdamwLastIdeal.τ).loc Cert.AdamwLastIdeal.main_arg43)) (m ((c.tc : Thread Cert.AdamwLastIdeal.nD Cert.AdamwLastIdeal.τ).loc Cert.AdamwLastIdeal.main_arg58)),
    fun c => newM (F := Ideal) (S := Cert.AdamwLastIdeal.S2x3x32) (m ((c.tc : Thread Cert.AdamwLastIdeal.nD Cert.AdamwLastIdeal.τ).loc Cert.AdamwLastIdeal.main_arg13)) (m ((c.tc : Thread Cert.AdamwLastIdeal.nD Cert.AdamwLastIdeal.τ).loc Cert.AdamwLastIdeal.main_arg43)),
    fun c => newV (F := Ideal) (S := Cert.AdamwLastIdeal.S2x3x32) (m ((c.tc : Thread Cert.AdamwLastIdeal.nD Cert.AdamwLastIdeal.τ).loc Cert.AdamwLastIdeal.main_arg13)) (m ((c.tc : Thread Cert.AdamwLastIdeal.nD Cert.AdamwLastIdeal.τ).loc Cert.AdamwLastIdeal.main_arg58)),
    fun c => delta (F := Ideal) (S := Cert.AdamwLastIdeal.S2x31x32) (m ((c.tc : Thread Cert.AdamwLastIdeal.nD Cert.AdamwLastIdeal.τ).loc Cert.AdamwLastIdeal.main_arg29)) (m ((c.tc : Thread Cert.AdamwLastIdeal.nD Cert.AdamwLastIdeal.τ).loc Cert.AdamwLastIdeal.main_arg14)) (m ((c.tc : Thread Cert.AdamwLastIdeal.nD Cert.AdamwLastIdeal.τ).loc Cert.AdamwLastIdeal.main_arg44)) (m ((c.tc : Thread Cert.AdamwLastIdeal.nD Cert.AdamwLastIdeal.τ).loc Cert.AdamwLastIdeal.main_arg59)),
    fun c => newM (F := Ideal) (S := Cert.AdamwLastIdeal.S2x31x32) (m ((c.tc : Thread Cert.AdamwLastIdeal.nD Cert.AdamwLastIdeal.τ).loc Cert.AdamwLastIdeal.main_arg14)) (m ((c.tc : Thread Cert.AdamwLastIdeal.nD Cert.AdamwLastIdeal.τ).loc Cert.AdamwLastIdeal.main_arg44)),
    fun c => newV (F := Ideal) (S := Cert.AdamwLastIdeal.S2x31x32) (m ((c.tc : Thread Cert.AdamwLastIdeal.nD Cert.AdamwLastIdeal.τ).loc Cert.AdamwLastIdeal.main_arg14)) (m ((c.tc : Thread Cert.AdamwLastIdeal.nD Cert.AdamwLastIdeal.τ).loc Cert.AdamwLastIdeal.main_arg59)),
    Cert.SmallLast.lastRun m g,
    (θ_run _ _ _).mono (fun r h c => by
      obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59⟩ := hagree c
      obtain ⟨h0, h1, h2, h3, h4, h5, h6, h7, h8, h9, h10, h11, h12, h13, h14, h15, h16, h17, h18, h19, h20, hs⟩ := h c
      exact ⟨h0.trans (ref_delta a23 a8 a38 a53), h1.trans (ref_newM a8 a38), h2.trans (ref_newV a8 a53), h3.trans (ref_delta a24 a9 a39 a54), h4.trans (ref_newM a9 a39), h5.trans (ref_newV a9 a54), h6.trans (ref_delta a25 a10 a40 a55), h7.trans (ref_newM a10 a40), h8.trans (ref_newV a10 a55), h9.trans (ref_delta a26 a11 a41 a56), h10.trans (ref_newM a11 a41), h11.trans (ref_newV a11 a56), h12.trans (ref_delta a27 a12 a42 a57), h13.trans (ref_newM a12 a42), h14.trans (ref_newV a12 a57), h15.trans (ref_delta a28 a13 a43 a58), h16.trans (ref_newM a13 a43), h17.trans (ref_newV a13 a58), h18.trans (ref_delta a29 a14 a44 a59), h19.trans (ref_newM a14 a44), h20.trans (ref_newV a14 a59), hs⟩) (Cert.AdamwLastRefIdeal.Value.run m' g')⟩

end Last

end Cert.ClaimsSmall

end
-- ==== Proof.RowsBits.lean ====
/- The frame of `ffn_bwd_rows` over the machine's floats. Its program and the idealized one have the same
   text, so the run of the one is the run of the other. -/
module

public import proofs.«01_k».proof.Defs
public import proofs.«01_k».proof.Proof.Gen.Kernel
public import proofs.«01_k».proof.Proof.RowsFrame

@[expose] public section

set_option maxHeartbeats 4000000

noncomputable section

open Idealize.ShloMosaic

namespace Cert.RowsBits

/-- The two programs have the same body. -/
theorem body_eq : @Cert.Kernel.cc0_ffn_bwd_rows Bits _ _ = @Cert.KernelIdeal.cc0_ffn_bwd_rows Bits _ _ := rfl

/-- The two programs have the same table of bodies. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_ffn_bwd_rows _ _ _ _ _ _ _ _ _ _ _ _ _ _ _ _ _ _ _ _ _ _ _ _ _ _ _ _ _ _ _ = Cert.KernelIdeal.cc0_ffn_bwd_rows _ _ _ _ _ _ _ _ _ _ _ _ _ _ _ _ _ _ _ _ _ _ _ _ _ _ _ _ _ _ _
    rw [body_eq]; rfl

/-- The two programs have the same definitions. -/
theorem defs_eq : Cert.Kernel.defs (F := Bits) = Cert.KernelIdeal.defs (F := Bits) := by
  unfold Cert.Kernel.defs Cert.KernelIdeal.defs
  rw [defs₀_eq]; rfl

/-- The two programs have the same host code. -/
theorem main_eq : Cert.Kernel.main (F := Bits) = Cert.KernelIdeal.main (F := Bits) := rfl

/-- The frame of the idealized program. -/
theorem frameIdeal : Cert.quiescent_KernelIdeal := fun m ρ _ => Cert.KernelIdeal.Rows.frame m ρ

/-- The frame of the program. -/
theorem frame : Cert.quiescent_Kernel := fun m ρ _ => by
  rw [defs_eq, main_eq]; exact Cert.KernelIdeal.Rows.frame (F := Bits) m ρ

end Cert.RowsBits

end
-- ==== Proof.lean ====
/- The certificate: every claim of the statement, from the runs of the programs and the value modules. -/
module

public import proofs.«01_k».proof.Defs
public import proofs.«01_k».proof.Proof.Claims
public import proofs.«01_k».proof.Proof.RefFrames
public import proofs.«01_k».proof.Proof.ClaimsUp
public import proofs.«01_k».proof.Proof.ClaimsSmall
public import proofs.«01_k».proof.Proof.RowsBits
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.GradWin
public import proofs.«01_k».proof.Proof.Gen.GradWin.Frame
public import proofs.«01_k».proof.Proof.Gen.GradWinIdeal
public import proofs.«01_k».proof.Proof.Gen.GradWinIdeal.Frame
public import proofs.«01_k».proof.Proof.Gen.GradWinRefIdeal
public import proofs.«01_k».proof.Proof.Gen.GradWinRefIdeal.Run
public import proofs.«01_k».proof.Proof.Gen.GradWinRefIdeal.Read
public import proofs.«01_k».proof.Proof.Gen.GradWout
public import proofs.«01_k».proof.Proof.Gen.GradWout.Frame
public import proofs.«01_k».proof.Proof.Gen.GradWoutIdeal
public import proofs.«01_k».proof.Proof.Gen.GradWoutIdeal.Frame
public import proofs.«01_k».proof.Proof.Gen.GradWoutRefIdeal
public import proofs.«01_k».proof.Proof.Gen.GradWoutRefIdeal.Run
public import proofs.«01_k».proof.Proof.Gen.GradWoutRefIdeal.Read
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.UpIn
public import proofs.«01_k».proof.Proof.Gen.UpIn.Frame
public import proofs.«01_k».proof.Proof.Gen.UpInIdeal
public import proofs.«01_k».proof.Proof.Gen.UpInIdeal.Frame
public import proofs.«01_k».proof.Proof.Gen.UpInRefIdeal
public import proofs.«01_k».proof.Proof.Gen.UpInRefIdeal.Run
public import proofs.«01_k».proof.Proof.Gen.UpInRefIdeal.Read
public import proofs.«01_k».proof.Proof.Gen.UpOut
public import proofs.«01_k».proof.Proof.Gen.UpOut.Frame
public import proofs.«01_k».proof.Proof.Gen.UpOutIdeal
public import proofs.«01_k».proof.Proof.Gen.UpOutIdeal.Frame
public import proofs.«01_k».proof.Proof.Gen.UpOutRefIdeal
public import proofs.«01_k».proof.Proof.Gen.UpOutRefIdeal.Run
public import proofs.«01_k».proof.Proof.Gen.UpOutRefIdeal.Read
public import proofs.«01_k».proof.Proof.Gen.UpSquare
public import proofs.«01_k».proof.Proof.Gen.UpSquare.Frame
public import proofs.«01_k».proof.Proof.Gen.UpSquareIdeal
public import proofs.«01_k».proof.Proof.Gen.UpSquareIdeal.Frame
public import proofs.«01_k».proof.Proof.Gen.UpSquareRefIdeal
public import proofs.«01_k».proof.Proof.Gen.UpSquareRefIdeal.Run
public import proofs.«01_k».proof.Proof.Gen.UpSquareRefIdeal.Read
public import proofs.«01_k».proof.Proof.Gen.UpCol
public import proofs.«01_k».proof.Proof.Gen.UpCol.Frame
public import proofs.«01_k».proof.Proof.Gen.UpColIdeal
public import proofs.«01_k».proof.Proof.Gen.UpColIdeal.Frame
public import proofs.«01_k».proof.Proof.Gen.UpColRefIdeal
public import proofs.«01_k».proof.Proof.Gen.UpColRefIdeal.Run
public import proofs.«01_k».proof.Proof.Gen.UpColRefIdeal.Read
public import proofs.«01_k».proof.Proof.Gen.AdamwIdeal
public import proofs.«01_k».proof.Proof.Gen.AdamwRefIdeal
public import proofs.«01_k».proof.Proof.Gen.AdamwRefIdeal.Run
public import proofs.«01_k».proof.Proof.Gen.AdamwLastIdeal
public import proofs.«01_k».proof.Proof.Gen.AdamwLastRefIdeal
public import proofs.«01_k».proof.Proof.Gen.AdamwLastRefIdeal.Run
public import proofs.«01_k».proof.Proof.Gen.Pre_finite
public import proofs.«01_k».proof.Proof.Gen.Pre_on_mesh_in
public import proofs.«01_k».proof.Proof.Gen.Pre_on_mesh_out
public import proofs.«01_k».proof.Proof.Gen.Pre_on_mesh_square
public import proofs.«01_k».proof.Proof.Gen.Pre_on_mesh_col
public import Idealize.ShloMosaic.Adequacy
public import Idealize.ShloMosaic.Init

@[expose] public section

noncomputable section

namespace Cert.Proof

open Idealize.ShloMosaic Idealize.SL.Sem

/-- Everything the statement claims. -/
theorem claim : Cert.Claim := ⟨Cert.Kernel.Gen.facts, Cert.KernelIdeal.Gen.facts, Cert.ReferenceIdeal.Gen.facts, Cert.Fwd.Gen.facts, Cert.FwdIdeal.Gen.facts, Cert.FwdRefIdeal.Gen.facts, Cert.GradWin.Gen.facts, Cert.GradWinIdeal.Gen.facts, Cert.GradWinRefIdeal.Gen.facts, Cert.GradWout.Gen.facts, Cert.GradWoutIdeal.Gen.facts, Cert.GradWoutRefIdeal.Gen.facts, Cert.Mixer.Gen.facts, Cert.MixerIdeal.Gen.facts, Cert.MixIn.Gen.facts, Cert.MixInIdeal.Gen.facts, Cert.MixInRefIdeal.Gen.facts, Cert.UpIn.Gen.facts, Cert.UpInIdeal.Gen.facts, Cert.UpInRefIdeal.Gen.facts, Cert.UpOut.Gen.facts, Cert.UpOutIdeal.Gen.facts, Cert.UpOutRefIdeal.Gen.facts, Cert.UpSquare.Gen.facts, Cert.UpSquareIdeal.Gen.facts, Cert.UpSquareRefIdeal.Gen.facts, Cert.UpCol.Gen.facts, Cert.UpColIdeal.Gen.facts, Cert.UpColRefIdeal.Gen.facts, Cert.AdamwIdeal.Gen.facts, Cert.AdamwRefIdeal.Gen.facts, Cert.AdamwLastIdeal.Gen.facts, Cert.AdamwLastRefIdeal.Gen.facts, Cert.Pre_finite.Gen.facts, Cert.Pre_on_mesh_in.Gen.facts, Cert.Pre_on_mesh_out.Gen.facts, Cert.Pre_on_mesh_square.Gen.facts, Cert.Pre_on_mesh_col.Gen.facts,
  Cert.RowsBits.frame,
  Cert.RowsBits.frameIdeal,
  fun m ρ _ => Cert.KernelIdeal.Rows.frame m ρ,
  Cert.RefFrames.rows,
  fun m g _ => Cert.RefFrames.rows m g trivial,
  fun m ρ _ => Cert.Fwd.Gen.frame m ρ,
  fun m ρ _ => Cert.FwdIdeal.Gen.frame m ρ,
  Cert.RefFrames.fwd,
  fun m ρ _ => Cert.GradWin.Gen.frame m ρ,
  fun m ρ _ => Cert.GradWinIdeal.Gen.frame m ρ,
  Cert.RefFrames.gradWin,
  fun m ρ _ => Cert.GradWout.Gen.frame m ρ,
  fun m ρ _ => Cert.GradWoutIdeal.Gen.frame m ρ,
  Cert.RefFrames.gradWout,
  fun m ρ _ => Cert.Mixer.Gen.frame m ρ,
  fun m ρ _ => Cert.MixerIdeal.Gen.frame m ρ,
  fun m ρ _ => Cert.MixIn.Gen.frame m ρ,
  fun m ρ _ => Cert.MixInIdeal.Gen.frame m ρ,
  Cert.RefFrames.mixIn,
  Cert.ClaimsUp.inFrame,
  Cert.ClaimsUp.inFrameIdeal,
  Cert.ClaimsUp.inFrameRef,
  Cert.ClaimsUp.inFrameRefPre,
  Cert.ClaimsUp.outFrame,
  Cert.ClaimsUp.outFrameIdeal,
  Cert.ClaimsUp.outFrameRef,
  Cert.ClaimsUp.outFrameRefPre,
  Cert.ClaimsUp.squareFrame,
  Cert.ClaimsUp.squareFrameIdeal,
  Cert.ClaimsUp.squareFrameRef,
  Cert.ClaimsUp.squareFrameRefPre,
  Cert.ClaimsUp.colFrame,
  Cert.ClaimsUp.colFrameIdeal,
  Cert.ClaimsUp.colFrameRef,
  Cert.ClaimsUp.colFrameRefPre,
  Cert.ClaimsSmall.firstFrameIdeal,
  Cert.ClaimsSmall.firstFrameRef,
  Cert.ClaimsSmall.lastFrameIdeal,
  Cert.ClaimsSmall.lastFrameRef,
  trivial,
  Cert.Claims.rows,
  trivial,
  Cert.Claims.fwd,
  trivial,
  Cert.Claims.gradWin,
  trivial,
  Cert.Claims.gradWout,
  trivial,
  trivial,
  Cert.Claims.mixIn,
  trivial,
  Cert.ClaimsUp.inValue,
  trivial,
  Cert.ClaimsUp.outValue,
  trivial,
  Cert.ClaimsUp.squareValue,
  trivial,
  Cert.ClaimsUp.colValue,
  Cert.ClaimsSmall.firstValue,
  Cert.ClaimsSmall.lastValue⟩

end Cert.Proof

end
